-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InputGradient (m : (ℓ : Loc Cert.InputGradient.nD Cert.InputGradient.τ Cert.InputGradient.sig) → Buf (Elt Bits) ℓ) : Prop :=
  True

def Pre_InputGradientIdeal (m : (ℓ : Loc Cert.InputGradientIdeal.nD Cert.InputGradientIdeal.τ Cert.InputGradientIdeal.sig) → Buf (Elt Ideal) ℓ) : Prop :=
  True

def Pre_PlainInputGradientIdeal (m : (ℓ : Loc Cert.PlainInputGradientIdeal.nD Cert.PlainInputGradientIdeal.τ Cert.PlainInputGradientIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_PlainLossIdeal (m : (ℓ : Loc Cert.PlainLossIdeal.nD Cert.PlainLossIdeal.τ Cert.PlainLossIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_PlainMlpUpIdeal (m : (ℓ : Loc Cert.PlainMlpUpIdeal.nD Cert.PlainMlpUpIdeal.τ Cert.PlainMlpUpIdeal.sig) → Buf (Elt Ideal) ℓ) : Prop :=
  True

def Pre_HiddenGradient (m : (ℓ : Loc Cert.HiddenGradient.nD Cert.HiddenGradient.τ Cert.HiddenGradient.sig) → Buf (Elt Bits) ℓ) : Prop :=
  True

def Pre_HiddenGradientIdeal (m : (ℓ : Loc Cert.HiddenGradientIdeal.nD Cert.HiddenGradientIdeal.τ Cert.HiddenGradientIdeal.sig) → Buf (Elt Ideal) ℓ) : Prop :=
  True

def Pre_PlainHiddenGradientIdeal (m : (ℓ : Loc Cert.PlainHiddenGradientIdeal.nD Cert.PlainHiddenGradientIdeal.τ Cert.PlainHiddenGradientIdeal.sig) → Buf (Elt Ideal) ℓ) : Prop :=
  True

def Pre_MlpInputGradient (m : (ℓ : Loc Cert.MlpInputGradient.nD Cert.MlpInputGradient.τ Cert.MlpInputGradient.sig) → Buf (Elt Bits) ℓ) : Prop :=
  True

def Pre_MlpInputGradientIdeal (m : (ℓ : Loc Cert.MlpInputGradientIdeal.nD Cert.MlpInputGradientIdeal.τ Cert.MlpInputGradientIdeal.sig) → Buf (Elt Ideal) ℓ) : Prop :=
  True

def Pre_PlainMlpInputGradientIdeal (m : (ℓ : Loc Cert.PlainMlpInputGradientIdeal.nD Cert.PlainMlpInputGradientIdeal.τ Cert.PlainMlpInputGradientIdeal.sig) → Buf (Elt Ideal) ℓ) : Prop :=
  True

def Pre_DownGradient (m : (ℓ : Loc Cert.DownGradient.nD Cert.DownGradient.τ Cert.DownGradient.sig) → Buf (Elt Bits) ℓ) : Prop :=
  True

def Pre_DownGradientIdeal (m : (ℓ : Loc Cert.DownGradientIdeal.nD Cert.DownGradientIdeal.τ Cert.DownGradientIdeal.sig) → Buf (Elt Ideal) ℓ) : Prop :=
  True

def Pre_PlainDownGradientIdeal (m : (ℓ : Loc Cert.PlainDownGradientIdeal.nD Cert.PlainDownGradientIdeal.τ Cert.PlainDownGradientIdeal.sig) → Buf (Elt Ideal) ℓ) : Prop :=
  True

def Pre_InGradient (m : (ℓ : Loc Cert.InGradient.nD Cert.InGradient.τ Cert.InGradient.sig) → Buf (Elt Bits) ℓ) : Prop :=
  True

def Pre_InGradientIdeal (m : (ℓ : Loc Cert.InGradientIdeal.nD Cert.InGradientIdeal.τ Cert.InGradientIdeal.sig) → Buf (Elt Ideal) ℓ) : Prop :=
  True

def Pre_PlainInGradientIdeal (m : (ℓ : Loc Cert.PlainInGradientIdeal.nD Cert.PlainInGradientIdeal.τ Cert.PlainInGradientIdeal.sig) → Buf (Elt Ideal) ℓ) : Prop :=
  True

def Pre_OutGradient (m : (ℓ : Loc Cert.OutGradient.nD Cert.OutGradient.τ Cert.OutGradient.sig) → Buf (Elt Bits) ℓ) : Prop :=
  True

def Pre_OutGradientIdeal (m : (ℓ : Loc Cert.OutGradientIdeal.nD Cert.OutGradientIdeal.τ Cert.OutGradientIdeal.sig) → Buf (Elt Ideal) ℓ) : Prop :=
  True

def Pre_PlainOutGradientIdeal (m : (ℓ : Loc Cert.PlainOutGradientIdeal.nD Cert.PlainOutGradientIdeal.τ Cert.PlainOutGradientIdeal.sig) → Buf (Elt Ideal) ℓ) : Prop :=
  True

def Pre_GluGradient (m : (ℓ : Loc Cert.GluGradient.nD Cert.GluGradient.τ Cert.GluGradient.sig) → Buf (Elt Bits) ℓ) : Prop :=
  True

def Pre_GluGradientIdeal (m : (ℓ : Loc Cert.GluGradientIdeal.nD Cert.GluGradientIdeal.τ Cert.GluGradientIdeal.sig) → Buf (Elt Ideal) ℓ) : Prop :=
  True

def Pre_PlainGluGradientIdeal (m : (ℓ : Loc Cert.PlainGluGradientIdeal.nD Cert.PlainGluGradientIdeal.τ Cert.PlainGluGradientIdeal.sig) → Buf (Elt Ideal) ℓ) : Prop :=
  True

def Pre_UpGradient (m : (ℓ : Loc Cert.UpGradient.nD Cert.UpGradient.τ Cert.UpGradient.sig) → Buf (Elt Bits) ℓ) : Prop :=
  True

def Pre_UpGradientIdeal (m : (ℓ : Loc Cert.UpGradientIdeal.nD Cert.UpGradientIdeal.τ Cert.UpGradientIdeal.sig) → Buf (Elt Ideal) ℓ) : Prop :=
  True

def Pre_PlainUpGradientIdeal (m : (ℓ : Loc Cert.PlainUpGradientIdeal.nD Cert.PlainUpGradientIdeal.τ Cert.PlainUpGradientIdeal.sig) → Buf (Elt Ideal) ℓ) : Prop :=
  True

def Pre_OutputGradient (m : (ℓ : Loc Cert.OutputGradient.nD Cert.OutputGradient.τ Cert.OutputGradient.sig) → Buf (Elt Bits) ℓ) : Prop :=
  True

def Pre_OutputGradientIdeal (m : (ℓ : Loc Cert.OutputGradientIdeal.nD Cert.OutputGradientIdeal.τ Cert.OutputGradientIdeal.sig) → Buf (Elt Ideal) ℓ) : Prop :=
  True

def Pre_PlainOutputGradientIdeal (m : (ℓ : Loc Cert.PlainOutputGradientIdeal.nD Cert.PlainOutputGradientIdeal.τ Cert.PlainOutputGradientIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_PlainMixIdeal (m : (ℓ : Loc Cert.PlainMixIdeal.nD Cert.PlainMixIdeal.τ Cert.PlainMixIdeal.sig) → Buf (Elt Ideal) ℓ) : Prop :=
  True

def Pre_MixGradient (m : (ℓ : Loc Cert.MixGradient.nD Cert.MixGradient.τ Cert.MixGradient.sig) → Buf (Elt Bits) ℓ) : Prop :=
  True

def Pre_MixGradientIdeal (m : (ℓ : Loc Cert.MixGradientIdeal.nD Cert.MixGradientIdeal.τ Cert.MixGradientIdeal.sig) → Buf (Elt Ideal) ℓ) : Prop :=
  True

def Pre_PlainMixGradientIdeal (m : (ℓ : Loc Cert.PlainMixGradientIdeal.nD Cert.PlainMixGradientIdeal.τ Cert.PlainMixGradientIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_InputGradient [hInputGradient : Cert.InputGradient.Facts] : Prop :=
  ∀ (m : (ℓ : Loc Cert.InputGradient.nD Cert.InputGradient.τ Cert.InputGradient.sig) → Buf (Elt Bits) ℓ) (g : Dev Cert.InputGradient.nD → PrngReg), Pre_InputGradient m →
    θ_run (Cert.InputGradient.defs (F := Bits)) (onTc (τ := Cert.InputGradient.τ) (Cert.InputGradient.main (F := Bits))) ⟨m, fun _ => 0, g⟩ (fun r => (∀ c : Dev Cert.InputGradient.nD,
      r.2.mem ((c.tc : Thread Cert.InputGradient.nD Cert.InputGradient.τ).loc Cert.InputGradient.main_arg0) = m ((c.tc : Thread Cert.InputGradient.nD Cert.InputGradient.τ).loc Cert.InputGradient.main_arg0)
      ∧ r.2.mem ((c.tc : Thread Cert.InputGradient.nD Cert.InputGradient.τ).loc Cert.InputGradient.main_arg1) = m ((c.tc : Thread Cert.InputGradient.nD Cert.InputGradient.τ).loc Cert.InputGradient.main_arg1)
      ∧ r.2.mem ((c.tc : Thread Cert.InputGradient.nD Cert.InputGradient.τ).loc Cert.InputGradient.main_arg2) = m ((c.tc : Thread Cert.InputGradient.nD Cert.InputGradient.τ).loc Cert.InputGradient.main_arg2)
      ∧ r.2.mem ((c.tc : Thread Cert.InputGradient.nD Cert.InputGradient.τ).loc Cert.InputGradient.main_arg3) = m ((c.tc : Thread Cert.InputGradient.nD Cert.InputGradient.τ).loc Cert.InputGradient.main_arg3)
      ∧ r.2.mem ((c.tc : Thread Cert.InputGradient.nD Cert.InputGradient.τ).loc Cert.InputGradient.main_arg4) = m ((c.tc : Thread Cert.InputGradient.nD Cert.InputGradient.τ).loc Cert.InputGradient.main_arg4))
      ∧ r.2.sem = fun _ => 0)

def quiescent_InputGradientIdeal [hInputGradientIdeal : Cert.InputGradientIdeal.Facts] : Prop :=
  ∀ (m : (ℓ : Loc Cert.InputGradientIdeal.nD Cert.InputGradientIdeal.τ Cert.InputGradientIdeal.sig) → Buf (Elt Ideal) ℓ) (g : Dev Cert.InputGradientIdeal.nD → PrngReg), Pre_InputGradientIdeal m →
    θ_run (Cert.InputGradientIdeal.defs (F := Ideal)) (onTc (τ := Cert.InputGradientIdeal.τ) (Cert.InputGradientIdeal.main (F := Ideal))) ⟨m, fun _ => 0, g⟩ (fun r => (∀ c : Dev Cert.InputGradientIdeal.nD,
      r.2.mem ((c.tc : Thread Cert.InputGradientIdeal.nD Cert.InputGradientIdeal.τ).loc Cert.InputGradientIdeal.main_arg0) = m ((c.tc : Thread Cert.InputGradientIdeal.nD Cert.InputGradientIdeal.τ).loc Cert.InputGradientIdeal.main_arg0)
      ∧ r.2.mem ((c.tc : Thread Cert.InputGradientIdeal.nD Cert.InputGradientIdeal.τ).loc Cert.InputGradientIdeal.main_arg1) = m ((c.tc : Thread Cert.InputGradientIdeal.nD Cert.InputGradientIdeal.τ).loc Cert.InputGradientIdeal.main_arg1)
      ∧ r.2.mem ((c.tc : Thread Cert.InputGradientIdeal.nD Cert.InputGradientIdeal.τ).loc Cert.InputGradientIdeal.main_arg2) = m ((c.tc : Thread Cert.InputGradientIdeal.nD Cert.InputGradientIdeal.τ).loc Cert.InputGradientIdeal.main_arg2)
      ∧ r.2.mem ((c.tc : Thread Cert.InputGradientIdeal.nD Cert.InputGradientIdeal.τ).loc Cert.InputGradientIdeal.main_arg3) = m ((c.tc : Thread Cert.InputGradientIdeal.nD Cert.InputGradientIdeal.τ).loc Cert.InputGradientIdeal.main_arg3)
      ∧ r.2.mem ((c.tc : Thread Cert.InputGradientIdeal.nD Cert.InputGradientIdeal.τ).loc Cert.InputGradientIdeal.main_arg4) = m ((c.tc : Thread Cert.InputGradientIdeal.nD Cert.InputGradientIdeal.τ).loc Cert.InputGradientIdeal.main_arg4))
      ∧ r.2.sem = fun _ => 0)

def quiescent_PlainInputGradientIdeal [hPlainInputGradientIdeal : Cert.PlainInputGradientIdeal.Facts] : Prop :=
  ∀ (m : (ℓ : Loc Cert.PlainInputGradientIdeal.nD Cert.PlainInputGradientIdeal.τ Cert.PlainInputGradientIdeal.sig) → Buf (Elt Ideal) ℓ) (g : Dev Cert.PlainInputGradientIdeal.nD → PrngReg), Pre_PlainInputGradientIdeal m →
    θ_run (Cert.PlainInputGradientIdeal.defs (F := Ideal)) (onTc (τ := Cert.PlainInputGradientIdeal.τ) (Cert.PlainInputGradientIdeal.main (F := Ideal))) ⟨m, fun _ => 0, g⟩ (fun r => (∀ c : Dev Cert.PlainInputGradientIdeal.nD,
      r.2.mem ((c.tc : Thread Cert.PlainInputGradientIdeal.nD Cert.PlainInputGradientIdeal.τ).loc Cert.PlainInputGradientIdeal.main_arg0) = m ((c.tc : Thread Cert.PlainInputGradientIdeal.nD Cert.PlainInputGradientIdeal.τ).loc Cert.PlainInputGradientIdeal.main_arg0)
      ∧ r.2.mem ((c.tc : Thread Cert.PlainInputGradientIdeal.nD Cert.PlainInputGradientIdeal.τ).loc Cert.PlainInputGradientIdeal.main_arg1) = m ((c.tc : Thread Cert.PlainInputGradientIdeal.nD Cert.PlainInputGradientIdeal.τ).loc Cert.PlainInputGradientIdeal.main_arg1)
      ∧ r.2.mem ((c.tc : Thread Cert.PlainInputGradientIdeal.nD Cert.PlainInputGradientIdeal.τ).loc Cert.PlainInputGradientIdeal.main_arg2) = m ((c.tc : Thread Cert.PlainInputGradientIdeal.nD Cert.PlainInputGradientIdeal.τ).loc Cert.PlainInputGradientIdeal.main_arg2)
      ∧ r.2.mem ((c.tc : Thread Cert.PlainInputGradientIdeal.nD Cert.PlainInputGradientIdeal.τ).loc Cert.PlainInputGradientIdeal.main_arg3) = m ((c.tc : Thread Cert.PlainInputGradientIdeal.nD Cert.PlainInputGradientIdeal.τ).loc Cert.PlainInputGradientIdeal.main_arg3)
      ∧ r.2.mem ((c.tc : Thread Cert.PlainInputGradientIdeal.nD Cert.PlainInputGradientIdeal.τ).loc Cert.PlainInputGradientIdeal.main_arg4) = m ((c.tc : Thread Cert.PlainInputGradientIdeal.nD Cert.PlainInputGradientIdeal.τ).loc Cert.PlainInputGradientIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_PlainLossIdeal [hPlainLossIdeal : Cert.PlainLossIdeal.Facts] : Prop :=
  ∀ (m : (ℓ : Loc Cert.PlainLossIdeal.nD Cert.PlainLossIdeal.τ Cert.PlainLossIdeal.sig) → Buf (Elt Ideal) ℓ) (g : Dev Cert.PlainLossIdeal.nD → PrngReg), Pre_PlainLossIdeal m →
    θ_run (Cert.PlainLossIdeal.defs (F := Ideal)) (onTc (τ := Cert.PlainLossIdeal.τ) (Cert.PlainLossIdeal.main (F := Ideal))) ⟨m, fun _ => 0, g⟩ (fun r => (∀ c : Dev Cert.PlainLossIdeal.nD,
      r.2.mem ((c.tc : Thread Cert.PlainLossIdeal.nD Cert.PlainLossIdeal.τ).loc Cert.PlainLossIdeal.main_arg0) = m ((c.tc : Thread Cert.PlainLossIdeal.nD Cert.PlainLossIdeal.τ).loc Cert.PlainLossIdeal.main_arg0)
      ∧ r.2.mem ((c.tc : Thread Cert.PlainLossIdeal.nD Cert.PlainLossIdeal.τ).loc Cert.PlainLossIdeal.main_arg1) = m ((c.tc : Thread Cert.PlainLossIdeal.nD Cert.PlainLossIdeal.τ).loc Cert.PlainLossIdeal.main_arg1)
      ∧ r.2.mem ((c.tc : Thread Cert.PlainLossIdeal.nD Cert.PlainLossIdeal.τ).loc Cert.PlainLossIdeal.main_arg2) = m ((c.tc : Thread Cert.PlainLossIdeal.nD Cert.PlainLossIdeal.τ).loc Cert.PlainLossIdeal.main_arg2)
      ∧ r.2.mem ((c.tc : Thread Cert.PlainLossIdeal.nD Cert.PlainLossIdeal.τ).loc Cert.PlainLossIdeal.main_arg3) = m ((c.tc : Thread Cert.PlainLossIdeal.nD Cert.PlainLossIdeal.τ).loc Cert.PlainLossIdeal.main_arg3))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_PlainMlpUpIdeal [hPlainMlpUpIdeal : Cert.PlainMlpUpIdeal.Facts] : Prop :=
  ∀ (m : (ℓ : Loc Cert.PlainMlpUpIdeal.nD Cert.PlainMlpUpIdeal.τ Cert.PlainMlpUpIdeal.sig) → Buf (Elt Ideal) ℓ) (g : Dev Cert.PlainMlpUpIdeal.nD → PrngReg), Pre_PlainMlpUpIdeal m →
    θ_run (Cert.PlainMlpUpIdeal.defs (F := Ideal)) (onTc (τ := Cert.PlainMlpUpIdeal.τ) (Cert.PlainMlpUpIdeal.main (F := Ideal))) ⟨m, fun _ => 0, g⟩ (fun r => (∀ c : Dev Cert.PlainMlpUpIdeal.nD,
      r.2.mem ((c.tc : Thread Cert.PlainMlpUpIdeal.nD Cert.PlainMlpUpIdeal.τ).loc Cert.PlainMlpUpIdeal.main_arg0) = m ((c.tc : Thread Cert.PlainMlpUpIdeal.nD Cert.PlainMlpUpIdeal.τ).loc Cert.PlainMlpUpIdeal.main_arg0)
      ∧ r.2.mem ((c.tc : Thread Cert.PlainMlpUpIdeal.nD Cert.PlainMlpUpIdeal.τ).loc Cert.PlainMlpUpIdeal.main_arg1) = m ((c.tc : Thread Cert.PlainMlpUpIdeal.nD Cert.PlainMlpUpIdeal.τ).loc Cert.PlainMlpUpIdeal.main_arg1))
      ∧ r.2.sem = fun _ => 0)

def quiescent_HiddenGradient [hHiddenGradient : Cert.HiddenGradient.Facts] : Prop :=
  ∀ (m : (ℓ : Loc Cert.HiddenGradient.nD Cert.HiddenGradient.τ Cert.HiddenGradient.sig) → Buf (Elt Bits) ℓ) (g : Dev Cert.HiddenGradient.nD → PrngReg), Pre_HiddenGradient m →
    θ_run (Cert.HiddenGradient.defs (F := Bits)) (onTc (τ := Cert.HiddenGradient.τ) (Cert.HiddenGradient.main (F := Bits))) ⟨m, fun _ => 0, g⟩ (fun r => (∀ c : Dev Cert.HiddenGradient.nD,
      r.2.mem ((c.tc : Thread Cert.HiddenGradient.nD Cert.HiddenGradient.τ).loc Cert.HiddenGradient.main_arg0) = m ((c.tc : Thread Cert.HiddenGradient.nD Cert.HiddenGradient.τ).loc Cert.HiddenGradient.main_arg0)
      ∧ r.2.mem ((c.tc : Thread Cert.HiddenGradient.nD Cert.HiddenGradient.τ).loc Cert.HiddenGradient.main_arg1) = m ((c.tc : Thread Cert.HiddenGradient.nD Cert.HiddenGradient.τ).loc Cert.HiddenGradient.main_arg1)
      ∧ r.2.mem ((c.tc : Thread Cert.HiddenGradient.nD Cert.HiddenGradient.τ).loc Cert.HiddenGradient.main_arg2) = m ((c.tc : Thread Cert.HiddenGradient.nD Cert.HiddenGradient.τ).loc Cert.HiddenGradient.main_arg2))
      ∧ r.2.sem = fun _ => 0)

def quiescent_HiddenGradientIdeal [hHiddenGradientIdeal : Cert.HiddenGradientIdeal.Facts] : Prop :=
  ∀ (m : (ℓ : Loc Cert.HiddenGradientIdeal.nD Cert.HiddenGradientIdeal.τ Cert.HiddenGradientIdeal.sig) → Buf (Elt Ideal) ℓ) (g : Dev Cert.HiddenGradientIdeal.nD → PrngReg), Pre_HiddenGradientIdeal m →
    θ_run (Cert.HiddenGradientIdeal.defs (F := Ideal)) (onTc (τ := Cert.HiddenGradientIdeal.τ) (Cert.HiddenGradientIdeal.main (F := Ideal))) ⟨m, fun _ => 0, g⟩ (fun r => (∀ c : Dev Cert.HiddenGradientIdeal.nD,
      r.2.mem ((c.tc : Thread Cert.HiddenGradientIdeal.nD Cert.HiddenGradientIdeal.τ).loc Cert.HiddenGradientIdeal.main_arg0) = m ((c.tc : Thread Cert.HiddenGradientIdeal.nD Cert.HiddenGradientIdeal.τ).loc Cert.HiddenGradientIdeal.main_arg0)
      ∧ r.2.mem ((c.tc : Thread Cert.HiddenGradientIdeal.nD Cert.HiddenGradientIdeal.τ).loc Cert.HiddenGradientIdeal.main_arg1) = m ((c.tc : Thread Cert.HiddenGradientIdeal.nD Cert.HiddenGradientIdeal.τ).loc Cert.HiddenGradientIdeal.main_arg1)
      ∧ r.2.mem ((c.tc : Thread Cert.HiddenGradientIdeal.nD Cert.HiddenGradientIdeal.τ).loc Cert.HiddenGradientIdeal.main_arg2) = m ((c.tc : Thread Cert.HiddenGradientIdeal.nD Cert.HiddenGradientIdeal.τ).loc Cert.HiddenGradientIdeal.main_arg2))
      ∧ r.2.sem = fun _ => 0)

def quiescent_PlainHiddenGradientIdeal [hPlainHiddenGradientIdeal : Cert.PlainHiddenGradientIdeal.Facts] : Prop :=
  ∀ (m : (ℓ : Loc Cert.PlainHiddenGradientIdeal.nD Cert.PlainHiddenGradientIdeal.τ Cert.PlainHiddenGradientIdeal.sig) → Buf (Elt Ideal) ℓ) (g : Dev Cert.PlainHiddenGradientIdeal.nD → PrngReg), Pre_PlainHiddenGradientIdeal m →
    θ_run (Cert.PlainHiddenGradientIdeal.defs (F := Ideal)) (onTc (τ := Cert.PlainHiddenGradientIdeal.τ) (Cert.PlainHiddenGradientIdeal.main (F := Ideal))) ⟨m, fun _ => 0, g⟩ (fun r => (∀ c : Dev Cert.PlainHiddenGradientIdeal.nD,
      r.2.mem ((c.tc : Thread Cert.PlainHiddenGradientIdeal.nD Cert.PlainHiddenGradientIdeal.τ).loc Cert.PlainHiddenGradientIdeal.main_arg0) = m ((c.tc : Thread Cert.PlainHiddenGradientIdeal.nD Cert.PlainHiddenGradientIdeal.τ).loc Cert.PlainHiddenGradientIdeal.main_arg0)
      ∧ r.2.mem ((c.tc : Thread Cert.PlainHiddenGradientIdeal.nD Cert.PlainHiddenGradientIdeal.τ).loc Cert.PlainHiddenGradientIdeal.main_arg1) = m ((c.tc : Thread Cert.PlainHiddenGradientIdeal.nD Cert.PlainHiddenGradientIdeal.τ).loc Cert.PlainHiddenGradientIdeal.main_arg1)
      ∧ r.2.mem ((c.tc : Thread Cert.PlainHiddenGradientIdeal.nD Cert.PlainHiddenGradientIdeal.τ).loc Cert.PlainHiddenGradientIdeal.main_arg2) = m ((c.tc : Thread Cert.PlainHiddenGradientIdeal.nD Cert.PlainHiddenGradientIdeal.τ).loc Cert.PlainHiddenGradientIdeal.main_arg2))
      ∧ r.2.sem = fun _ => 0)

def quiescent_MlpInputGradient [hMlpInputGradient : Cert.MlpInputGradient.Facts] : Prop :=
  ∀ (m : (ℓ : Loc Cert.MlpInputGradient.nD Cert.MlpInputGradient.τ Cert.MlpInputGradient.sig) → Buf (Elt Bits) ℓ) (g : Dev Cert.MlpInputGradient.nD → PrngReg), Pre_MlpInputGradient m →
    θ_run (Cert.MlpInputGradient.defs (F := Bits)) (onTc (τ := Cert.MlpInputGradient.τ) (Cert.MlpInputGradient.main (F := Bits))) ⟨m, fun _ => 0, g⟩ (fun r => (∀ c : Dev Cert.MlpInputGradient.nD,
      r.2.mem ((c.tc : Thread Cert.MlpInputGradient.nD Cert.MlpInputGradient.τ).loc Cert.MlpInputGradient.main_arg0) = m ((c.tc : Thread Cert.MlpInputGradient.nD Cert.MlpInputGradient.τ).loc Cert.MlpInputGradient.main_arg0)
      ∧ r.2.mem ((c.tc : Thread Cert.MlpInputGradient.nD Cert.MlpInputGradient.τ).loc Cert.MlpInputGradient.main_arg1) = m ((c.tc : Thread Cert.MlpInputGradient.nD Cert.MlpInputGradient.τ).loc Cert.MlpInputGradient.main_arg1)
      ∧ r.2.mem ((c.tc : Thread Cert.MlpInputGradient.nD Cert.MlpInputGradient.τ).loc Cert.MlpInputGradient.main_arg2) = m ((c.tc : Thread Cert.MlpInputGradient.nD Cert.MlpInputGradient.τ).loc Cert.MlpInputGradient.main_arg2)
      ∧ r.2.mem ((c.tc : Thread Cert.MlpInputGradient.nD Cert.MlpInputGradient.τ).loc Cert.MlpInputGradient.main_arg3) = m ((c.tc : Thread Cert.MlpInputGradient.nD Cert.MlpInputGradient.τ).loc Cert.MlpInputGradient.main_arg3)
      ∧ r.2.mem ((c.tc : Thread Cert.MlpInputGradient.nD Cert.MlpInputGradient.τ).loc Cert.MlpInputGradient.main_arg4) = m ((c.tc : Thread Cert.MlpInputGradient.nD Cert.MlpInputGradient.τ).loc Cert.MlpInputGradient.main_arg4))
      ∧ r.2.sem = fun _ => 0)

def quiescent_MlpInputGradientIdeal [hMlpInputGradientIdeal : Cert.MlpInputGradientIdeal.Facts] : Prop :=
  ∀ (m : (ℓ : Loc Cert.MlpInputGradientIdeal.nD Cert.MlpInputGradientIdeal.τ Cert.MlpInputGradientIdeal.sig) → Buf (Elt Ideal) ℓ) (g : Dev Cert.MlpInputGradientIdeal.nD → PrngReg), Pre_MlpInputGradientIdeal m →
    θ_run (Cert.MlpInputGradientIdeal.defs (F := Ideal)) (onTc (τ := Cert.MlpInputGradientIdeal.τ) (Cert.MlpInputGradientIdeal.main (F := Ideal))) ⟨m, fun _ => 0, g⟩ (fun r => (∀ c : Dev Cert.MlpInputGradientIdeal.nD,
      r.2.mem ((c.tc : Thread Cert.MlpInputGradientIdeal.nD Cert.MlpInputGradientIdeal.τ).loc Cert.MlpInputGradientIdeal.main_arg0) = m ((c.tc : Thread Cert.MlpInputGradientIdeal.nD Cert.MlpInputGradientIdeal.τ).loc Cert.MlpInputGradientIdeal.main_arg0)
      ∧ r.2.mem ((c.tc : Thread Cert.MlpInputGradientIdeal.nD Cert.MlpInputGradientIdeal.τ).loc Cert.MlpInputGradientIdeal.main_arg1) = m ((c.tc : Thread Cert.MlpInputGradientIdeal.nD Cert.MlpInputGradientIdeal.τ).loc Cert.MlpInputGradientIdeal.main_arg1)
      ∧ r.2.mem ((c.tc : Thread Cert.MlpInputGradientIdeal.nD Cert.MlpInputGradientIdeal.τ).loc Cert.MlpInputGradientIdeal.main_arg2) = m ((c.tc : Thread Cert.MlpInputGradientIdeal.nD Cert.MlpInputGradientIdeal.τ).loc Cert.MlpInputGradientIdeal.main_arg2)
      ∧ r.2.mem ((c.tc : Thread Cert.MlpInputGradientIdeal.nD Cert.MlpInputGradientIdeal.τ).loc Cert.MlpInputGradientIdeal.main_arg3) = m ((c.tc : Thread Cert.MlpInputGradientIdeal.nD Cert.MlpInputGradientIdeal.τ).loc Cert.MlpInputGradientIdeal.main_arg3)
      ∧ r.2.mem ((c.tc : Thread Cert.MlpInputGradientIdeal.nD Cert.MlpInputGradientIdeal.τ).loc Cert.MlpInputGradientIdeal.main_arg4) = m ((c.tc : Thread Cert.MlpInputGradientIdeal.nD Cert.MlpInputGradientIdeal.τ).loc Cert.MlpInputGradientIdeal.main_arg4))
      ∧ r.2.sem = fun _ => 0)

def quiescent_PlainMlpInputGradientIdeal [hPlainMlpInputGradientIdeal : Cert.PlainMlpInputGradientIdeal.Facts] : Prop :=
  ∀ (m : (ℓ : Loc Cert.PlainMlpInputGradientIdeal.nD Cert.PlainMlpInputGradientIdeal.τ Cert.PlainMlpInputGradientIdeal.sig) → Buf (Elt Ideal) ℓ) (g : Dev Cert.PlainMlpInputGradientIdeal.nD → PrngReg), Pre_PlainMlpInputGradientIdeal m →
    θ_run (Cert.PlainMlpInputGradientIdeal.defs (F := Ideal)) (onTc (τ := Cert.PlainMlpInputGradientIdeal.τ) (Cert.PlainMlpInputGradientIdeal.main (F := Ideal))) ⟨m, fun _ => 0, g⟩ (fun r => (∀ c : Dev Cert.PlainMlpInputGradientIdeal.nD,
      r.2.mem ((c.tc : Thread Cert.PlainMlpInputGradientIdeal.nD Cert.PlainMlpInputGradientIdeal.τ).loc Cert.PlainMlpInputGradientIdeal.main_arg0) = m ((c.tc : Thread Cert.PlainMlpInputGradientIdeal.nD Cert.PlainMlpInputGradientIdeal.τ).loc Cert.PlainMlpInputGradientIdeal.main_arg0)
      ∧ r.2.mem ((c.tc : Thread Cert.PlainMlpInputGradientIdeal.nD Cert.PlainMlpInputGradientIdeal.τ).loc Cert.PlainMlpInputGradientIdeal.main_arg1) = m ((c.tc : Thread Cert.PlainMlpInputGradientIdeal.nD Cert.PlainMlpInputGradientIdeal.τ).loc Cert.PlainMlpInputGradientIdeal.main_arg1)
      ∧ r.2.mem ((c.tc : Thread Cert.PlainMlpInputGradientIdeal.nD Cert.PlainMlpInputGradientIdeal.τ).loc Cert.PlainMlpInputGradientIdeal.main_arg2) = m ((c.tc : Thread Cert.PlainMlpInputGradientIdeal.nD Cert.PlainMlpInputGradientIdeal.τ).loc Cert.PlainMlpInputGradientIdeal.main_arg2)
      ∧ r.2.mem ((c.tc : Thread Cert.PlainMlpInputGradientIdeal.nD Cert.PlainMlpInputGradientIdeal.τ).loc Cert.PlainMlpInputGradientIdeal.main_arg3) = m ((c.tc : Thread Cert.PlainMlpInputGradientIdeal.nD Cert.PlainMlpInputGradientIdeal.τ).loc Cert.PlainMlpInputGradientIdeal.main_arg3)
      ∧ r.2.mem ((c.tc : Thread Cert.PlainMlpInputGradientIdeal.nD Cert.PlainMlpInputGradientIdeal.τ).loc Cert.PlainMlpInputGradientIdeal.main_arg4) = m ((c.tc : Thread Cert.PlainMlpInputGradientIdeal.nD Cert.PlainMlpInputGradientIdeal.τ).loc Cert.PlainMlpInputGradientIdeal.main_arg4))
      ∧ r.2.sem = fun _ => 0)

def quiescent_DownGradient [hDownGradient : Cert.DownGradient.Facts] : Prop :=
  ∀ (m : (ℓ : Loc Cert.DownGradient.nD Cert.DownGradient.τ Cert.DownGradient.sig) → Buf (Elt Bits) ℓ) (g : Dev Cert.DownGradient.nD → PrngReg), Pre_DownGradient m →
    θ_run (Cert.DownGradient.defs (F := Bits)) (onTc (τ := Cert.DownGradient.τ) (Cert.DownGradient.main (F := Bits))) ⟨m, fun _ => 0, g⟩ (fun r => (∀ c : Dev Cert.DownGradient.nD,
      r.2.mem ((c.tc : Thread Cert.DownGradient.nD Cert.DownGradient.τ).loc Cert.DownGradient.main_arg0) = m ((c.tc : Thread Cert.DownGradient.nD Cert.DownGradient.τ).loc Cert.DownGradient.main_arg0)
      ∧ r.2.mem ((c.tc : Thread Cert.DownGradient.nD Cert.DownGradient.τ).loc Cert.DownGradient.main_arg1) = m ((c.tc : Thread Cert.DownGradient.nD Cert.DownGradient.τ).loc Cert.DownGradient.main_arg1))
      ∧ r.2.sem = fun _ => 0)

def quiescent_DownGradientIdeal [hDownGradientIdeal : Cert.DownGradientIdeal.Facts] : Prop :=
  ∀ (m : (ℓ : Loc Cert.DownGradientIdeal.nD Cert.DownGradientIdeal.τ Cert.DownGradientIdeal.sig) → Buf (Elt Ideal) ℓ) (g : Dev Cert.DownGradientIdeal.nD → PrngReg), Pre_DownGradientIdeal m →
    θ_run (Cert.DownGradientIdeal.defs (F := Ideal)) (onTc (τ := Cert.DownGradientIdeal.τ) (Cert.DownGradientIdeal.main (F := Ideal))) ⟨m, fun _ => 0, g⟩ (fun r => (∀ c : Dev Cert.DownGradientIdeal.nD,
      r.2.mem ((c.tc : Thread Cert.DownGradientIdeal.nD Cert.DownGradientIdeal.τ).loc Cert.DownGradientIdeal.main_arg0) = m ((c.tc : Thread Cert.DownGradientIdeal.nD Cert.DownGradientIdeal.τ).loc Cert.DownGradientIdeal.main_arg0)
      ∧ r.2.mem ((c.tc : Thread Cert.DownGradientIdeal.nD Cert.DownGradientIdeal.τ).loc Cert.DownGradientIdeal.main_arg1) = m ((c.tc : Thread Cert.DownGradientIdeal.nD Cert.DownGradientIdeal.τ).loc Cert.DownGradientIdeal.main_arg1))
      ∧ r.2.sem = fun _ => 0)

def quiescent_PlainDownGradientIdeal [hPlainDownGradientIdeal : Cert.PlainDownGradientIdeal.Facts] : Prop :=
  ∀ (m : (ℓ : Loc Cert.PlainDownGradientIdeal.nD Cert.PlainDownGradientIdeal.τ Cert.PlainDownGradientIdeal.sig) → Buf (Elt Ideal) ℓ) (g : Dev Cert.PlainDownGradientIdeal.nD → PrngReg), Pre_PlainDownGradientIdeal m →
    θ_run (Cert.PlainDownGradientIdeal.defs (F := Ideal)) (onTc (τ := Cert.PlainDownGradientIdeal.τ) (Cert.PlainDownGradientIdeal.main (F := Ideal))) ⟨m, fun _ => 0, g⟩ (fun r => (∀ c : Dev Cert.PlainDownGradientIdeal.nD,
      r.2.mem ((c.tc : Thread Cert.PlainDownGradientIdeal.nD Cert.PlainDownGradientIdeal.τ).loc Cert.PlainDownGradientIdeal.main_arg0) = m ((c.tc : Thread Cert.PlainDownGradientIdeal.nD Cert.PlainDownGradientIdeal.τ).loc Cert.PlainDownGradientIdeal.main_arg0)
      ∧ r.2.mem ((c.tc : Thread Cert.PlainDownGradientIdeal.nD Cert.PlainDownGradientIdeal.τ).loc Cert.PlainDownGradientIdeal.main_arg1) = m ((c.tc : Thread Cert.PlainDownGradientIdeal.nD Cert.PlainDownGradientIdeal.τ).loc Cert.PlainDownGradientIdeal.main_arg1))
      ∧ r.2.sem = fun _ => 0)

def quiescent_InGradient [hInGradient : Cert.InGradient.Facts] : Prop :=
  ∀ (m : (ℓ : Loc Cert.InGradient.nD Cert.InGradient.τ Cert.InGradient.sig) → Buf (Elt Bits) ℓ) (g : Dev Cert.InGradient.nD → PrngReg), Pre_InGradient m →
    θ_run (Cert.InGradient.defs (F := Bits)) (onTc (τ := Cert.InGradient.τ) (Cert.InGradient.main (F := Bits))) ⟨m, fun _ => 0, g⟩ (fun r => (∀ c : Dev Cert.InGradient.nD,
      r.2.mem ((c.tc : Thread Cert.InGradient.nD Cert.InGradient.τ).loc Cert.InGradient.main_arg0) = m ((c.tc : Thread Cert.InGradient.nD Cert.InGradient.τ).loc Cert.InGradient.main_arg0)
      ∧ r.2.mem ((c.tc : Thread Cert.InGradient.nD Cert.InGradient.τ).loc Cert.InGradient.main_arg1) = m ((c.tc : Thread Cert.InGradient.nD Cert.InGradient.τ).loc Cert.InGradient.main_arg1))
      ∧ r.2.sem = fun _ => 0)

def quiescent_InGradientIdeal [hInGradientIdeal : Cert.InGradientIdeal.Facts] : Prop :=
  ∀ (m : (ℓ : Loc Cert.InGradientIdeal.nD Cert.InGradientIdeal.τ Cert.InGradientIdeal.sig) → Buf (Elt Ideal) ℓ) (g : Dev Cert.InGradientIdeal.nD → PrngReg), Pre_InGradientIdeal m →
    θ_run (Cert.InGradientIdeal.defs (F := Ideal)) (onTc (τ := Cert.InGradientIdeal.τ) (Cert.InGradientIdeal.main (F := Ideal))) ⟨m, fun _ => 0, g⟩ (fun r => (∀ c : Dev Cert.InGradientIdeal.nD,
      r.2.mem ((c.tc : Thread Cert.InGradientIdeal.nD Cert.InGradientIdeal.τ).loc Cert.InGradientIdeal.main_arg0) = m ((c.tc : Thread Cert.InGradientIdeal.nD Cert.InGradientIdeal.τ).loc Cert.InGradientIdeal.main_arg0)
      ∧ r.2.mem ((c.tc : Thread Cert.InGradientIdeal.nD Cert.InGradientIdeal.τ).loc Cert.InGradientIdeal.main_arg1) = m ((c.tc : Thread Cert.InGradientIdeal.nD Cert.InGradientIdeal.τ).loc Cert.InGradientIdeal.main_arg1))
      ∧ r.2.sem = fun _ => 0)

def quiescent_PlainInGradientIdeal [hPlainInGradientIdeal : Cert.PlainInGradientIdeal.Facts] : Prop :=
  ∀ (m : (ℓ : Loc Cert.PlainInGradientIdeal.nD Cert.PlainInGradientIdeal.τ Cert.PlainInGradientIdeal.sig) → Buf (Elt Ideal) ℓ) (g : Dev Cert.PlainInGradientIdeal.nD → PrngReg), Pre_PlainInGradientIdeal m →
    θ_run (Cert.PlainInGradientIdeal.defs (F := Ideal)) (onTc (τ := Cert.PlainInGradientIdeal.τ) (Cert.PlainInGradientIdeal.main (F := Ideal))) ⟨m, fun _ => 0, g⟩ (fun r => (∀ c : Dev Cert.PlainInGradientIdeal.nD,
      r.2.mem ((c.tc : Thread Cert.PlainInGradientIdeal.nD Cert.PlainInGradientIdeal.τ).loc Cert.PlainInGradientIdeal.main_arg0) = m ((c.tc : Thread Cert.PlainInGradientIdeal.nD Cert.PlainInGradientIdeal.τ).loc Cert.PlainInGradientIdeal.main_arg0)
      ∧ r.2.mem ((c.tc : Thread Cert.PlainInGradientIdeal.nD Cert.PlainInGradientIdeal.τ).loc Cert.PlainInGradientIdeal.main_arg1) = m ((c.tc : Thread Cert.PlainInGradientIdeal.nD Cert.PlainInGradientIdeal.τ).loc Cert.PlainInGradientIdeal.main_arg1))
      ∧ r.2.sem = fun _ => 0)

def quiescent_OutGradient [hOutGradient : Cert.OutGradient.Facts] : Prop :=
  ∀ (m : (ℓ : Loc Cert.OutGradient.nD Cert.OutGradient.τ Cert.OutGradient.sig) → Buf (Elt Bits) ℓ) (g : Dev Cert.OutGradient.nD → PrngReg), Pre_OutGradient m →
    θ_run (Cert.OutGradient.defs (F := Bits)) (onTc (τ := Cert.OutGradient.τ) (Cert.OutGradient.main (F := Bits))) ⟨m, fun _ => 0, g⟩ (fun r => (∀ c : Dev Cert.OutGradient.nD,
      r.2.mem ((c.tc : Thread Cert.OutGradient.nD Cert.OutGradient.τ).loc Cert.OutGradient.main_arg0) = m ((c.tc : Thread Cert.OutGradient.nD Cert.OutGradient.τ).loc Cert.OutGradient.main_arg0)
      ∧ r.2.mem ((c.tc : Thread Cert.OutGradient.nD Cert.OutGradient.τ).loc Cert.OutGradient.main_arg1) = m ((c.tc : Thread Cert.OutGradient.nD Cert.OutGradient.τ).loc Cert.OutGradient.main_arg1))
      ∧ r.2.sem = fun _ => 0)

def quiescent_OutGradientIdeal [hOutGradientIdeal : Cert.OutGradientIdeal.Facts] : Prop :=
  ∀ (m : (ℓ : Loc Cert.OutGradientIdeal.nD Cert.OutGradientIdeal.τ Cert.OutGradientIdeal.sig) → Buf (Elt Ideal) ℓ) (g : Dev Cert.OutGradientIdeal.nD → PrngReg), Pre_OutGradientIdeal m →
    θ_run (Cert.OutGradientIdeal.defs (F := Ideal)) (onTc (τ := Cert.OutGradientIdeal.τ) (Cert.OutGradientIdeal.main (F := Ideal))) ⟨m, fun _ => 0, g⟩ (fun r => (∀ c : Dev Cert.OutGradientIdeal.nD,
      r.2.mem ((c.tc : Thread Cert.OutGradientIdeal.nD Cert.OutGradientIdeal.τ).loc Cert.OutGradientIdeal.main_arg0) = m ((c.tc : Thread Cert.OutGradientIdeal.nD Cert.OutGradientIdeal.τ).loc Cert.OutGradientIdeal.main_arg0)
      ∧ r.2.mem ((c.tc : Thread Cert.OutGradientIdeal.nD Cert.OutGradientIdeal.τ).loc Cert.OutGradientIdeal.main_arg1) = m ((c.tc : Thread Cert.OutGradientIdeal.nD Cert.OutGradientIdeal.τ).loc Cert.OutGradientIdeal.main_arg1))
      ∧ r.2.sem = fun _ => 0)

def quiescent_PlainOutGradientIdeal [hPlainOutGradientIdeal : Cert.PlainOutGradientIdeal.Facts] : Prop :=
  ∀ (m : (ℓ : Loc Cert.PlainOutGradientIdeal.nD Cert.PlainOutGradientIdeal.τ Cert.PlainOutGradientIdeal.sig) → Buf (Elt Ideal) ℓ) (g : Dev Cert.PlainOutGradientIdeal.nD → PrngReg), Pre_PlainOutGradientIdeal m →
    θ_run (Cert.PlainOutGradientIdeal.defs (F := Ideal)) (onTc (τ := Cert.PlainOutGradientIdeal.τ) (Cert.PlainOutGradientIdeal.main (F := Ideal))) ⟨m, fun _ => 0, g⟩ (fun r => (∀ c : Dev Cert.PlainOutGradientIdeal.nD,
      r.2.mem ((c.tc : Thread Cert.PlainOutGradientIdeal.nD Cert.PlainOutGradientIdeal.τ).loc Cert.PlainOutGradientIdeal.main_arg0) = m ((c.tc : Thread Cert.PlainOutGradientIdeal.nD Cert.PlainOutGradientIdeal.τ).loc Cert.PlainOutGradientIdeal.main_arg0)
      ∧ r.2.mem ((c.tc : Thread Cert.PlainOutGradientIdeal.nD Cert.PlainOutGradientIdeal.τ).loc Cert.PlainOutGradientIdeal.main_arg1) = m ((c.tc : Thread Cert.PlainOutGradientIdeal.nD Cert.PlainOutGradientIdeal.τ).loc Cert.PlainOutGradientIdeal.main_arg1))
      ∧ r.2.sem = fun _ => 0)

def quiescent_GluGradient [hGluGradient : Cert.GluGradient.Facts] : Prop :=
  ∀ (m : (ℓ : Loc Cert.GluGradient.nD Cert.GluGradient.τ Cert.GluGradient.sig) → Buf (Elt Bits) ℓ) (g : Dev Cert.GluGradient.nD → PrngReg), Pre_GluGradient m →
    θ_run (Cert.GluGradient.defs (F := Bits)) (onTc (τ := Cert.GluGradient.τ) (Cert.GluGradient.main (F := Bits))) ⟨m, fun _ => 0, g⟩ (fun r => (∀ c : Dev Cert.GluGradient.nD,
      r.2.mem ((c.tc : Thread Cert.GluGradient.nD Cert.GluGradient.τ).loc Cert.GluGradient.main_arg0) = m ((c.tc : Thread Cert.GluGradient.nD Cert.GluGradient.τ).loc Cert.GluGradient.main_arg0)
      ∧ r.2.mem ((c.tc : Thread Cert.GluGradient.nD Cert.GluGradient.τ).loc Cert.GluGradient.main_arg1) = m ((c.tc : Thread Cert.GluGradient.nD Cert.GluGradient.τ).loc Cert.GluGradient.main_arg1))
      ∧ r.2.sem = fun _ => 0)

def quiescent_GluGradientIdeal [hGluGradientIdeal : Cert.GluGradientIdeal.Facts] : Prop :=
  ∀ (m : (ℓ : Loc Cert.GluGradientIdeal.nD Cert.GluGradientIdeal.τ Cert.GluGradientIdeal.sig) → Buf (Elt Ideal) ℓ) (g : Dev Cert.GluGradientIdeal.nD → PrngReg), Pre_GluGradientIdeal m →
    θ_run (Cert.GluGradientIdeal.defs (F := Ideal)) (onTc (τ := Cert.GluGradientIdeal.τ) (Cert.GluGradientIdeal.main (F := Ideal))) ⟨m, fun _ => 0, g⟩ (fun r => (∀ c : Dev Cert.GluGradientIdeal.nD,
      r.2.mem ((c.tc : Thread Cert.GluGradientIdeal.nD Cert.GluGradientIdeal.τ).loc Cert.GluGradientIdeal.main_arg0) = m ((c.tc : Thread Cert.GluGradientIdeal.nD Cert.GluGradientIdeal.τ).loc Cert.GluGradientIdeal.main_arg0)
      ∧ r.2.mem ((c.tc : Thread Cert.GluGradientIdeal.nD Cert.GluGradientIdeal.τ).loc Cert.GluGradientIdeal.main_arg1) = m ((c.tc : Thread Cert.GluGradientIdeal.nD Cert.GluGradientIdeal.τ).loc Cert.GluGradientIdeal.main_arg1))
      ∧ r.2.sem = fun _ => 0)

def quiescent_PlainGluGradientIdeal [hPlainGluGradientIdeal : Cert.PlainGluGradientIdeal.Facts] : Prop :=
  ∀ (m : (ℓ : Loc Cert.PlainGluGradientIdeal.nD Cert.PlainGluGradientIdeal.τ Cert.PlainGluGradientIdeal.sig) → Buf (Elt Ideal) ℓ) (g : Dev Cert.PlainGluGradientIdeal.nD → PrngReg), Pre_PlainGluGradientIdeal m →
    θ_run (Cert.PlainGluGradientIdeal.defs (F := Ideal)) (onTc (τ := Cert.PlainGluGradientIdeal.τ) (Cert.PlainGluGradientIdeal.main (F := Ideal))) ⟨m, fun _ => 0, g⟩ (fun r => (∀ c : Dev Cert.PlainGluGradientIdeal.nD,
      r.2.mem ((c.tc : Thread Cert.PlainGluGradientIdeal.nD Cert.PlainGluGradientIdeal.τ).loc Cert.PlainGluGradientIdeal.main_arg0) = m ((c.tc : Thread Cert.PlainGluGradientIdeal.nD Cert.PlainGluGradientIdeal.τ).loc Cert.PlainGluGradientIdeal.main_arg0)
      ∧ r.2.mem ((c.tc : Thread Cert.PlainGluGradientIdeal.nD Cert.PlainGluGradientIdeal.τ).loc Cert.PlainGluGradientIdeal.main_arg1) = m ((c.tc : Thread Cert.PlainGluGradientIdeal.nD Cert.PlainGluGradientIdeal.τ).loc Cert.PlainGluGradientIdeal.main_arg1))
      ∧ r.2.sem = fun _ => 0)

def quiescent_UpGradient [hUpGradient : Cert.UpGradient.Facts] : Prop :=
  ∀ (m : (ℓ : Loc Cert.UpGradient.nD Cert.UpGradient.τ Cert.UpGradient.sig) → Buf (Elt Bits) ℓ) (g : Dev Cert.UpGradient.nD → PrngReg), Pre_UpGradient m →
    θ_run (Cert.UpGradient.defs (F := Bits)) (onTc (τ := Cert.UpGradient.τ) (Cert.UpGradient.main (F := Bits))) ⟨m, fun _ => 0, g⟩ (fun r => (∀ c : Dev Cert.UpGradient.nD,
      r.2.mem ((c.tc : Thread Cert.UpGradient.nD Cert.UpGradient.τ).loc Cert.UpGradient.main_arg0) = m ((c.tc : Thread Cert.UpGradient.nD Cert.UpGradient.τ).loc Cert.UpGradient.main_arg0)
      ∧ r.2.mem ((c.tc : Thread Cert.UpGradient.nD Cert.UpGradient.τ).loc Cert.UpGradient.main_arg1) = m ((c.tc : Thread Cert.UpGradient.nD Cert.UpGradient.τ).loc Cert.UpGradient.main_arg1))
      ∧ r.2.sem = fun _ => 0)

def quiescent_UpGradientIdeal [hUpGradientIdeal : Cert.UpGradientIdeal.Facts] : Prop :=
  ∀ (m : (ℓ : Loc Cert.UpGradientIdeal.nD Cert.UpGradientIdeal.τ Cert.UpGradientIdeal.sig) → Buf (Elt Ideal) ℓ) (g : Dev Cert.UpGradientIdeal.nD → PrngReg), Pre_UpGradientIdeal m →
    θ_run (Cert.UpGradientIdeal.defs (F := Ideal)) (onTc (τ := Cert.UpGradientIdeal.τ) (Cert.UpGradientIdeal.main (F := Ideal))) ⟨m, fun _ => 0, g⟩ (fun r => (∀ c : Dev Cert.UpGradientIdeal.nD,
      r.2.mem ((c.tc : Thread Cert.UpGradientIdeal.nD Cert.UpGradientIdeal.τ).loc Cert.UpGradientIdeal.main_arg0) = m ((c.tc : Thread Cert.UpGradientIdeal.nD Cert.UpGradientIdeal.τ).loc Cert.UpGradientIdeal.main_arg0)
      ∧ r.2.mem ((c.tc : Thread Cert.UpGradientIdeal.nD Cert.UpGradientIdeal.τ).loc Cert.UpGradientIdeal.main_arg1) = m ((c.tc : Thread Cert.UpGradientIdeal.nD Cert.UpGradientIdeal.τ).loc Cert.UpGradientIdeal.main_arg1))
      ∧ r.2.sem = fun _ => 0)

def quiescent_PlainUpGradientIdeal [hPlainUpGradientIdeal : Cert.PlainUpGradientIdeal.Facts] : Prop :=
  ∀ (m : (ℓ : Loc Cert.PlainUpGradientIdeal.nD Cert.PlainUpGradientIdeal.τ Cert.PlainUpGradientIdeal.sig) → Buf (Elt Ideal) ℓ) (g : Dev Cert.PlainUpGradientIdeal.nD → PrngReg), Pre_PlainUpGradientIdeal m →
    θ_run (Cert.PlainUpGradientIdeal.defs (F := Ideal)) (onTc (τ := Cert.PlainUpGradientIdeal.τ) (Cert.PlainUpGradientIdeal.main (F := Ideal))) ⟨m, fun _ => 0, g⟩ (fun r => (∀ c : Dev Cert.PlainUpGradientIdeal.nD,
      r.2.mem ((c.tc : Thread Cert.PlainUpGradientIdeal.nD Cert.PlainUpGradientIdeal.τ).loc Cert.PlainUpGradientIdeal.main_arg0) = m ((c.tc : Thread Cert.PlainUpGradientIdeal.nD Cert.PlainUpGradientIdeal.τ).loc Cert.PlainUpGradientIdeal.main_arg0)
      ∧ r.2.mem ((c.tc : Thread Cert.PlainUpGradientIdeal.nD Cert.PlainUpGradientIdeal.τ).loc Cert.PlainUpGradientIdeal.main_arg1) = m ((c.tc : Thread Cert.PlainUpGradientIdeal.nD Cert.PlainUpGradientIdeal.τ).loc Cert.PlainUpGradientIdeal.main_arg1))
      ∧ r.2.sem = fun _ => 0)

def quiescent_OutputGradient [hOutputGradient : Cert.OutputGradient.Facts] : Prop :=
  ∀ (m : (ℓ : Loc Cert.OutputGradient.nD Cert.OutputGradient.τ Cert.OutputGradient.sig) → Buf (Elt Bits) ℓ) (g : Dev Cert.OutputGradient.nD → PrngReg), Pre_OutputGradient m →
    θ_run (Cert.OutputGradient.defs (F := Bits)) (onTc (τ := Cert.OutputGradient.τ) (Cert.OutputGradient.main (F := Bits))) ⟨m, fun _ => 0, g⟩ (fun r => (∀ c : Dev Cert.OutputGradient.nD,
      r.2.mem ((c.tc : Thread Cert.OutputGradient.nD Cert.OutputGradient.τ).loc Cert.OutputGradient.main_arg0) = m ((c.tc : Thread Cert.OutputGradient.nD Cert.OutputGradient.τ).loc Cert.OutputGradient.main_arg0)
      ∧ r.2.mem ((c.tc : Thread Cert.OutputGradient.nD Cert.OutputGradient.τ).loc Cert.OutputGradient.main_arg1) = m ((c.tc : Thread Cert.OutputGradient.nD Cert.OutputGradient.τ).loc Cert.OutputGradient.main_arg1)
      ∧ r.2.mem ((c.tc : Thread Cert.OutputGradient.nD Cert.OutputGradient.τ).loc Cert.OutputGradient.main_arg2) = m ((c.tc : Thread Cert.OutputGradient.nD Cert.OutputGradient.τ).loc Cert.OutputGradient.main_arg2)
      ∧ r.2.mem ((c.tc : Thread Cert.OutputGradient.nD Cert.OutputGradient.τ).loc Cert.OutputGradient.main_arg3) = m ((c.tc : Thread Cert.OutputGradient.nD Cert.OutputGradient.τ).loc Cert.OutputGradient.main_arg3))
      ∧ r.2.sem = fun _ => 0)

def quiescent_OutputGradientIdeal [hOutputGradientIdeal : Cert.OutputGradientIdeal.Facts] : Prop :=
  ∀ (m : (ℓ : Loc Cert.OutputGradientIdeal.nD Cert.OutputGradientIdeal.τ Cert.OutputGradientIdeal.sig) → Buf (Elt Ideal) ℓ) (g : Dev Cert.OutputGradientIdeal.nD → PrngReg), Pre_OutputGradientIdeal m →
    θ_run (Cert.OutputGradientIdeal.defs (F := Ideal)) (onTc (τ := Cert.OutputGradientIdeal.τ) (Cert.OutputGradientIdeal.main (F := Ideal))) ⟨m, fun _ => 0, g⟩ (fun r => (∀ c : Dev Cert.OutputGradientIdeal.nD,
      r.2.mem ((c.tc : Thread Cert.OutputGradientIdeal.nD Cert.OutputGradientIdeal.τ).loc Cert.OutputGradientIdeal.main_arg0) = m ((c.tc : Thread Cert.OutputGradientIdeal.nD Cert.OutputGradientIdeal.τ).loc Cert.OutputGradientIdeal.main_arg0)
      ∧ r.2.mem ((c.tc : Thread Cert.OutputGradientIdeal.nD Cert.OutputGradientIdeal.τ).loc Cert.OutputGradientIdeal.main_arg1) = m ((c.tc : Thread Cert.OutputGradientIdeal.nD Cert.OutputGradientIdeal.τ).loc Cert.OutputGradientIdeal.main_arg1)
      ∧ r.2.mem ((c.tc : Thread Cert.OutputGradientIdeal.nD Cert.OutputGradientIdeal.τ).loc Cert.OutputGradientIdeal.main_arg2) = m ((c.tc : Thread Cert.OutputGradientIdeal.nD Cert.OutputGradientIdeal.τ).loc Cert.OutputGradientIdeal.main_arg2)
      ∧ r.2.mem ((c.tc : Thread Cert.OutputGradientIdeal.nD Cert.OutputGradientIdeal.τ).loc Cert.OutputGradientIdeal.main_arg3) = m ((c.tc : Thread Cert.OutputGradientIdeal.nD Cert.OutputGradientIdeal.τ).loc Cert.OutputGradientIdeal.main_arg3))
      ∧ r.2.sem = fun _ => 0)

def quiescent_PlainOutputGradientIdeal [hPlainOutputGradientIdeal : Cert.PlainOutputGradientIdeal.Facts] : Prop :=
  ∀ (m : (ℓ : Loc Cert.PlainOutputGradientIdeal.nD Cert.PlainOutputGradientIdeal.τ Cert.PlainOutputGradientIdeal.sig) → Buf (Elt Ideal) ℓ) (g : Dev Cert.PlainOutputGradientIdeal.nD → PrngReg), Pre_PlainOutputGradientIdeal m →
    θ_run (Cert.PlainOutputGradientIdeal.defs (F := Ideal)) (onTc (τ := Cert.PlainOutputGradientIdeal.τ) (Cert.PlainOutputGradientIdeal.main (F := Ideal))) ⟨m, fun _ => 0, g⟩ (fun r => (∀ c : Dev Cert.PlainOutputGradientIdeal.nD,
      r.2.mem ((c.tc : Thread Cert.PlainOutputGradientIdeal.nD Cert.PlainOutputGradientIdeal.τ).loc Cert.PlainOutputGradientIdeal.main_arg0) = m ((c.tc : Thread Cert.PlainOutputGradientIdeal.nD Cert.PlainOutputGradientIdeal.τ).loc Cert.PlainOutputGradientIdeal.main_arg0)
      ∧ r.2.mem ((c.tc : Thread Cert.PlainOutputGradientIdeal.nD Cert.PlainOutputGradientIdeal.τ).loc Cert.PlainOutputGradientIdeal.main_arg1) = m ((c.tc : Thread Cert.PlainOutputGradientIdeal.nD Cert.PlainOutputGradientIdeal.τ).loc Cert.PlainOutputGradientIdeal.main_arg1)
      ∧ r.2.mem ((c.tc : Thread Cert.PlainOutputGradientIdeal.nD Cert.PlainOutputGradientIdeal.τ).loc Cert.PlainOutputGradientIdeal.main_arg2) = m ((c.tc : Thread Cert.PlainOutputGradientIdeal.nD Cert.PlainOutputGradientIdeal.τ).loc Cert.PlainOutputGradientIdeal.main_arg2)
      ∧ r.2.mem ((c.tc : Thread Cert.PlainOutputGradientIdeal.nD Cert.PlainOutputGradientIdeal.τ).loc Cert.PlainOutputGradientIdeal.main_arg3) = m ((c.tc : Thread Cert.PlainOutputGradientIdeal.nD Cert.PlainOutputGradientIdeal.τ).loc Cert.PlainOutputGradientIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_PlainMixIdeal [hPlainMixIdeal : Cert.PlainMixIdeal.Facts] : Prop :=
  ∀ (m : (ℓ : Loc Cert.PlainMixIdeal.nD Cert.PlainMixIdeal.τ Cert.PlainMixIdeal.sig) → Buf (Elt Ideal) ℓ) (g : Dev Cert.PlainMixIdeal.nD → PrngReg), Pre_PlainMixIdeal m →
    θ_run (Cert.PlainMixIdeal.defs (F := Ideal)) (onTc (τ := Cert.PlainMixIdeal.τ) (Cert.PlainMixIdeal.main (F := Ideal))) ⟨m, fun _ => 0, g⟩ (fun r => (∀ c : Dev Cert.PlainMixIdeal.nD,
      r.2.mem ((c.tc : Thread Cert.PlainMixIdeal.nD Cert.PlainMixIdeal.τ).loc Cert.PlainMixIdeal.main_arg0) = m ((c.tc : Thread Cert.PlainMixIdeal.nD Cert.PlainMixIdeal.τ).loc Cert.PlainMixIdeal.main_arg0)
      ∧ r.2.mem ((c.tc : Thread Cert.PlainMixIdeal.nD Cert.PlainMixIdeal.τ).loc Cert.PlainMixIdeal.main_arg1) = m ((c.tc : Thread Cert.PlainMixIdeal.nD Cert.PlainMixIdeal.τ).loc Cert.PlainMixIdeal.main_arg1)
      ∧ r.2.mem ((c.tc : Thread Cert.PlainMixIdeal.nD Cert.PlainMixIdeal.τ).loc Cert.PlainMixIdeal.main_arg2) = m ((c.tc : Thread Cert.PlainMixIdeal.nD Cert.PlainMixIdeal.τ).loc Cert.PlainMixIdeal.main_arg2)
      ∧ r.2.mem ((c.tc : Thread Cert.PlainMixIdeal.nD Cert.PlainMixIdeal.τ).loc Cert.PlainMixIdeal.main_arg3) = m ((c.tc : Thread Cert.PlainMixIdeal.nD Cert.PlainMixIdeal.τ).loc Cert.PlainMixIdeal.main_arg3)
      ∧ r.2.mem ((c.tc : Thread Cert.PlainMixIdeal.nD Cert.PlainMixIdeal.τ).loc Cert.PlainMixIdeal.main_arg4) = m ((c.tc : Thread Cert.PlainMixIdeal.nD Cert.PlainMixIdeal.τ).loc Cert.PlainMixIdeal.main_arg4)
      ∧ r.2.mem ((c.tc : Thread Cert.PlainMixIdeal.nD Cert.PlainMixIdeal.τ).loc Cert.PlainMixIdeal.main_arg5) = m ((c.tc : Thread Cert.PlainMixIdeal.nD Cert.PlainMixIdeal.τ).loc Cert.PlainMixIdeal.main_arg5)
      ∧ r.2.mem ((c.tc : Thread Cert.PlainMixIdeal.nD Cert.PlainMixIdeal.τ).loc Cert.PlainMixIdeal.main_arg6) = m ((c.tc : Thread Cert.PlainMixIdeal.nD Cert.PlainMixIdeal.τ).loc Cert.PlainMixIdeal.main_arg6)
      ∧ r.2.mem ((c.tc : Thread Cert.PlainMixIdeal.nD Cert.PlainMixIdeal.τ).loc Cert.PlainMixIdeal.main_arg7) = m ((c.tc : Thread Cert.PlainMixIdeal.nD Cert.PlainMixIdeal.τ).loc Cert.PlainMixIdeal.main_arg7)
      ∧ r.2.mem ((c.tc : Thread Cert.PlainMixIdeal.nD Cert.PlainMixIdeal.τ).loc Cert.PlainMixIdeal.main_arg8) = m ((c.tc : Thread Cert.PlainMixIdeal.nD Cert.PlainMixIdeal.τ).loc Cert.PlainMixIdeal.main_arg8))
      ∧ r.2.sem = fun _ => 0)

def quiescent_MixGradient [hMixGradient : Cert.MixGradient.Facts] : Prop :=
  ∀ (m : (ℓ : Loc Cert.MixGradient.nD Cert.MixGradient.τ Cert.MixGradient.sig) → Buf (Elt Bits) ℓ) (g : Dev Cert.MixGradient.nD → PrngReg), Pre_MixGradient m →
    θ_run (Cert.MixGradient.defs (F := Bits)) (onTc (τ := Cert.MixGradient.τ) (Cert.MixGradient.main (F := Bits))) ⟨m, fun _ => 0, g⟩ (fun r => (∀ c : Dev Cert.MixGradient.nD,
      r.2.mem ((c.tc : Thread Cert.MixGradient.nD Cert.MixGradient.τ).loc Cert.MixGradient.main_arg0) = m ((c.tc : Thread Cert.MixGradient.nD Cert.MixGradient.τ).loc Cert.MixGradient.main_arg0)
      ∧ r.2.mem ((c.tc : Thread Cert.MixGradient.nD Cert.MixGradient.τ).loc Cert.MixGradient.main_arg1) = m ((c.tc : Thread Cert.MixGradient.nD Cert.MixGradient.τ).loc Cert.MixGradient.main_arg1)
      ∧ r.2.mem ((c.tc : Thread Cert.MixGradient.nD Cert.MixGradient.τ).loc Cert.MixGradient.main_arg2) = m ((c.tc : Thread Cert.MixGradient.nD Cert.MixGradient.τ).loc Cert.MixGradient.main_arg2)
      ∧ r.2.mem ((c.tc : Thread Cert.MixGradient.nD Cert.MixGradient.τ).loc Cert.MixGradient.main_arg3) = m ((c.tc : Thread Cert.MixGradient.nD Cert.MixGradient.τ).loc Cert.MixGradient.main_arg3)
      ∧ r.2.mem ((c.tc : Thread Cert.MixGradient.nD Cert.MixGradient.τ).loc Cert.MixGradient.main_arg4) = m ((c.tc : Thread Cert.MixGradient.nD Cert.MixGradient.τ).loc Cert.MixGradient.main_arg4)
      ∧ r.2.mem ((c.tc : Thread Cert.MixGradient.nD Cert.MixGradient.τ).loc Cert.MixGradient.main_arg5) = m ((c.tc : Thread Cert.MixGradient.nD Cert.MixGradient.τ).loc Cert.MixGradient.main_arg5)
      ∧ r.2.mem ((c.tc : Thread Cert.MixGradient.nD Cert.MixGradient.τ).loc Cert.MixGradient.main_arg6) = m ((c.tc : Thread Cert.MixGradient.nD Cert.MixGradient.τ).loc Cert.MixGradient.main_arg6)
      ∧ r.2.mem ((c.tc : Thread Cert.MixGradient.nD Cert.MixGradient.τ).loc Cert.MixGradient.main_arg7) = m ((c.tc : Thread Cert.MixGradient.nD Cert.MixGradient.τ).loc Cert.MixGradient.main_arg7)
      ∧ r.2.mem ((c.tc : Thread Cert.MixGradient.nD Cert.MixGradient.τ).loc Cert.MixGradient.main_arg8) = m ((c.tc : Thread Cert.MixGradient.nD Cert.MixGradient.τ).loc Cert.MixGradient.main_arg8))
      ∧ r.2.sem = fun _ => 0)

def quiescent_MixGradientIdeal [hMixGradientIdeal : Cert.MixGradientIdeal.Facts] : Prop :=
  ∀ (m : (ℓ : Loc Cert.MixGradientIdeal.nD Cert.MixGradientIdeal.τ Cert.MixGradientIdeal.sig) → Buf (Elt Ideal) ℓ) (g : Dev Cert.MixGradientIdeal.nD → PrngReg), Pre_MixGradientIdeal m →
    θ_run (Cert.MixGradientIdeal.defs (F := Ideal)) (onTc (τ := Cert.MixGradientIdeal.τ) (Cert.MixGradientIdeal.main (F := Ideal))) ⟨m, fun _ => 0, g⟩ (fun r => (∀ c : Dev Cert.MixGradientIdeal.nD,
      r.2.mem ((c.tc : Thread Cert.MixGradientIdeal.nD Cert.MixGradientIdeal.τ).loc Cert.MixGradientIdeal.main_arg0) = m ((c.tc : Thread Cert.MixGradientIdeal.nD Cert.MixGradientIdeal.τ).loc Cert.MixGradientIdeal.main_arg0)
      ∧ r.2.mem ((c.tc : Thread Cert.MixGradientIdeal.nD Cert.MixGradientIdeal.τ).loc Cert.MixGradientIdeal.main_arg1) = m ((c.tc : Thread Cert.MixGradientIdeal.nD Cert.MixGradientIdeal.τ).loc Cert.MixGradientIdeal.main_arg1)
      ∧ r.2.mem ((c.tc : Thread Cert.MixGradientIdeal.nD Cert.MixGradientIdeal.τ).loc Cert.MixGradientIdeal.main_arg2) = m ((c.tc : Thread Cert.MixGradientIdeal.nD Cert.MixGradientIdeal.τ).loc Cert.MixGradientIdeal.main_arg2)
      ∧ r.2.mem ((c.tc : Thread Cert.MixGradientIdeal.nD Cert.MixGradientIdeal.τ).loc Cert.MixGradientIdeal.main_arg3) = m ((c.tc : Thread Cert.MixGradientIdeal.nD Cert.MixGradientIdeal.τ).loc Cert.MixGradientIdeal.main_arg3)
      ∧ r.2.mem ((c.tc : Thread Cert.MixGradientIdeal.nD Cert.MixGradientIdeal.τ).loc Cert.MixGradientIdeal.main_arg4) = m ((c.tc : Thread Cert.MixGradientIdeal.nD Cert.MixGradientIdeal.τ).loc Cert.MixGradientIdeal.main_arg4)
      ∧ r.2.mem ((c.tc : Thread Cert.MixGradientIdeal.nD Cert.MixGradientIdeal.τ).loc Cert.MixGradientIdeal.main_arg5) = m ((c.tc : Thread Cert.MixGradientIdeal.nD Cert.MixGradientIdeal.τ).loc Cert.MixGradientIdeal.main_arg5)
      ∧ r.2.mem ((c.tc : Thread Cert.MixGradientIdeal.nD Cert.MixGradientIdeal.τ).loc Cert.MixGradientIdeal.main_arg6) = m ((c.tc : Thread Cert.MixGradientIdeal.nD Cert.MixGradientIdeal.τ).loc Cert.MixGradientIdeal.main_arg6)
      ∧ r.2.mem ((c.tc : Thread Cert.MixGradientIdeal.nD Cert.MixGradientIdeal.τ).loc Cert.MixGradientIdeal.main_arg7) = m ((c.tc : Thread Cert.MixGradientIdeal.nD Cert.MixGradientIdeal.τ).loc Cert.MixGradientIdeal.main_arg7)
      ∧ r.2.mem ((c.tc : Thread Cert.MixGradientIdeal.nD Cert.MixGradientIdeal.τ).loc Cert.MixGradientIdeal.main_arg8) = m ((c.tc : Thread Cert.MixGradientIdeal.nD Cert.MixGradientIdeal.τ).loc Cert.MixGradientIdeal.main_arg8))
      ∧ r.2.sem = fun _ => 0)

def quiescent_PlainMixGradientIdeal [hPlainMixGradientIdeal : Cert.PlainMixGradientIdeal.Facts] : Prop :=
  ∀ (m : (ℓ : Loc Cert.PlainMixGradientIdeal.nD Cert.PlainMixGradientIdeal.τ Cert.PlainMixGradientIdeal.sig) → Buf (Elt Ideal) ℓ) (g : Dev Cert.PlainMixGradientIdeal.nD → PrngReg), Pre_PlainMixGradientIdeal m →
    θ_run (Cert.PlainMixGradientIdeal.defs (F := Ideal)) (onTc (τ := Cert.PlainMixGradientIdeal.τ) (Cert.PlainMixGradientIdeal.main (F := Ideal))) ⟨m, fun _ => 0, g⟩ (fun r => (∀ c : Dev Cert.PlainMixGradientIdeal.nD,
      r.2.mem ((c.tc : Thread Cert.PlainMixGradientIdeal.nD Cert.PlainMixGradientIdeal.τ).loc Cert.PlainMixGradientIdeal.main_arg0) = m ((c.tc : Thread Cert.PlainMixGradientIdeal.nD Cert.PlainMixGradientIdeal.τ).loc Cert.PlainMixGradientIdeal.main_arg0)
      ∧ r.2.mem ((c.tc : Thread Cert.PlainMixGradientIdeal.nD Cert.PlainMixGradientIdeal.τ).loc Cert.PlainMixGradientIdeal.main_arg1) = m ((c.tc : Thread Cert.PlainMixGradientIdeal.nD Cert.PlainMixGradientIdeal.τ).loc Cert.PlainMixGradientIdeal.main_arg1)
      ∧ r.2.mem ((c.tc : Thread Cert.PlainMixGradientIdeal.nD Cert.PlainMixGradientIdeal.τ).loc Cert.PlainMixGradientIdeal.main_arg2) = m ((c.tc : Thread Cert.PlainMixGradientIdeal.nD Cert.PlainMixGradientIdeal.τ).loc Cert.PlainMixGradientIdeal.main_arg2)
      ∧ r.2.mem ((c.tc : Thread Cert.PlainMixGradientIdeal.nD Cert.PlainMixGradientIdeal.τ).loc Cert.PlainMixGradientIdeal.main_arg3) = m ((c.tc : Thread Cert.PlainMixGradientIdeal.nD Cert.PlainMixGradientIdeal.τ).loc Cert.PlainMixGradientIdeal.main_arg3)
      ∧ r.2.mem ((c.tc : Thread Cert.PlainMixGradientIdeal.nD Cert.PlainMixGradientIdeal.τ).loc Cert.PlainMixGradientIdeal.main_arg4) = m ((c.tc : Thread Cert.PlainMixGradientIdeal.nD Cert.PlainMixGradientIdeal.τ).loc Cert.PlainMixGradientIdeal.main_arg4)
      ∧ r.2.mem ((c.tc : Thread Cert.PlainMixGradientIdeal.nD Cert.PlainMixGradientIdeal.τ).loc Cert.PlainMixGradientIdeal.main_arg5) = m ((c.tc : Thread Cert.PlainMixGradientIdeal.nD Cert.PlainMixGradientIdeal.τ).loc Cert.PlainMixGradientIdeal.main_arg5)
      ∧ r.2.mem ((c.tc : Thread Cert.PlainMixGradientIdeal.nD Cert.PlainMixGradientIdeal.τ).loc Cert.PlainMixGradientIdeal.main_arg6) = m ((c.tc : Thread Cert.PlainMixGradientIdeal.nD Cert.PlainMixGradientIdeal.τ).loc Cert.PlainMixGradientIdeal.main_arg6)
      ∧ r.2.mem ((c.tc : Thread Cert.PlainMixGradientIdeal.nD Cert.PlainMixGradientIdeal.τ).loc Cert.PlainMixGradientIdeal.main_arg7) = m ((c.tc : Thread Cert.PlainMixGradientIdeal.nD Cert.PlainMixGradientIdeal.τ).loc Cert.PlainMixGradientIdeal.main_arg7)
      ∧ r.2.mem ((c.tc : Thread Cert.PlainMixGradientIdeal.nD Cert.PlainMixGradientIdeal.τ).loc Cert.PlainMixGradientIdeal.main_arg8) = m ((c.tc : Thread Cert.PlainMixGradientIdeal.nD Cert.PlainMixGradientIdeal.τ).loc Cert.PlainMixGradientIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1128, 128]⟩ ⟨2, ![9024, 128]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 256]⟩ ⟨2, ![1024, 2048]⟩ 1 8 c (m' (((0 : Dev Cert.ReferenceIdeal.nD).tc : Thread Cert.ReferenceIdeal.nD Cert.ReferenceIdeal.τ).loc Cert.ReferenceIdeal.main_arg6))
      ∧ m ((c.tc : Thread Cert.KernelIdeal.nD Cert.KernelIdeal.τ).loc Cert.KernelIdeal.main_arg7) = Layout.block ⟨2, ![64, 512]⟩ ⟨2, ![512, 512]⟩ 0 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg8))
      ∧ m ((c.tc : Thread Cert.KernelIdeal.nD Cert.KernelIdeal.τ).loc Cert.KernelIdeal.main_arg9) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg9))
      ∧ m ((c.tc : Thread Cert.KernelIdeal.nD Cert.KernelIdeal.τ).loc Cert.KernelIdeal.main_arg10) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg10))
      ∧ m ((c.tc : Thread Cert.KernelIdeal.nD Cert.KernelIdeal.τ).loc Cert.KernelIdeal.main_arg11) = m' (((0 : Dev Cert.ReferenceIdeal.nD).tc : Thread Cert.ReferenceIdeal.nD Cert.ReferenceIdeal.τ).loc Cert.ReferenceIdeal.main_arg11)
      ∧ m ((c.tc : Thread Cert.KernelIdeal.nD Cert.KernelIdeal.τ).loc Cert.KernelIdeal.main_arg12) = Layout.block ⟨2, ![1024, 256]⟩ ⟨2, ![1024, 2048]⟩ 1 8 c (m' (((0 : Dev Cert.ReferenceIdeal.nD).tc : Thread Cert.ReferenceIdeal.nD Cert.ReferenceIdeal.τ).loc Cert.ReferenceIdeal.main_arg12))
      ∧ m ((c.tc : Thread Cert.KernelIdeal.nD Cert.KernelIdeal.τ).loc Cert.KernelIdeal.main_arg13) = Layout.block ⟨2, ![64, 512]⟩ ⟨2, ![512, 512]⟩ 0 8 c (m' (((0 : Dev Cert.ReferenceIdeal.nD).tc : Thread Cert.ReferenceIdeal.nD Cert.ReferenceIdeal.τ).loc Cert.ReferenceIdeal.main_arg13))
      ∧ m ((c.tc : Thread Cert.KernelIdeal.nD Cert.KernelIdeal.τ).loc Cert.KernelIdeal.main_arg14) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg14))
      ∧ m ((c.tc : Thread Cert.KernelIdeal.nD Cert.KernelIdeal.τ).loc Cert.KernelIdeal.main_arg15) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg15))
      ∧ m ((c.tc : Thread Cert.KernelIdeal.nD Cert.KernelIdeal.τ).loc Cert.KernelIdeal.main_arg16) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg16))
      ∧ m ((c.tc : Thread Cert.KernelIdeal.nD Cert.KernelIdeal.τ).loc Cert.KernelIdeal.main_arg17) = m' (((0 : Dev Cert.ReferenceIdeal.nD).tc : Thread Cert.ReferenceIdeal.nD Cert.ReferenceIdeal.τ).loc Cert.ReferenceIdeal.main_arg17)
      ∧ m ((c.tc : Thread Cert.KernelIdeal.nD Cert.KernelIdeal.τ).loc Cert.KernelIdeal.main_arg18) = Layout.block ⟨2, ![1024, 256]⟩ ⟨2, ![1024, 2048]⟩ 1 8 c (m' (((0 : Dev Cert.ReferenceIdeal.nD).tc : Thread Cert.ReferenceIdeal.nD Cert.ReferenceIdeal.τ).loc Cert.ReferenceIdeal.main_arg18))
      ∧ m ((c.tc : Thread Cert.KernelIdeal.nD Cert.KernelIdeal.τ).loc Cert.KernelIdeal.main_arg19) = Layout.block ⟨2, ![64, 512]⟩ ⟨2, ![512, 512]⟩ 0 8 c (m' (((0 : Dev Cert.ReferenceIdeal.nD).tc : Thread Cert.ReferenceIdeal.nD Cert.ReferenceIdeal.τ).loc Cert.ReferenceIdeal.main_arg19))
      ∧ m ((c.tc : Thread Cert.KernelIdeal.nD Cert.KernelIdeal.τ).loc Cert.KernelIdeal.main_arg20) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg20))
      ∧ m ((c.tc : Thread Cert.KernelIdeal.nD Cert.KernelIdeal.τ).loc Cert.KernelIdeal.main_arg21) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg21))
      ∧ m ((c.tc : Thread Cert.KernelIdeal.nD Cert.KernelIdeal.τ).loc Cert.KernelIdeal.main_arg22) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg22))
      ∧ m ((c.tc : Thread Cert.KernelIdeal.nD Cert.KernelIdeal.τ).loc Cert.KernelIdeal.main_arg23) = m' (((0 : Dev Cert.ReferenceIdeal.nD).tc : Thread Cert.ReferenceIdeal.nD Cert.ReferenceIdeal.τ).loc Cert.ReferenceIdeal.main_arg23)) →
    ∃ (v0 : Buf (Elt Ideal) (((0 : Dev Cert.ReferenceIdeal.nD).tc : Thread Cert.ReferenceIdeal.nD Cert.ReferenceIdeal.τ).loc Cert.ReferenceIdeal.main_v17)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v18)) (v4 : Buf (Elt Ideal) (((0 : Dev Cert.ReferenceIdeal.nD).tc : Thread Cert.ReferenceIdeal.nD Cert.ReferenceIdeal.τ).loc Cert.ReferenceIdeal.main_v14)) (v5 : Buf (Elt Ideal) (((0 : Dev Cert.ReferenceIdeal.nD).tc : Thread Cert.ReferenceIdeal.nD Cert.ReferenceIdeal.τ).loc Cert.ReferenceIdeal.main_v16)) (v6 : Buf (Elt Ideal) (((0 : Dev Cert.ReferenceIdeal.nD).tc : Thread Cert.ReferenceIdeal.nD Cert.ReferenceIdeal.τ).loc Cert.ReferenceIdeal.main_v42)) (v7 : Buf (Elt Ideal) (((0 : Dev Cert.ReferenceIdeal.nD).tc : Thread Cert.ReferenceIdeal.nD Cert.ReferenceIdeal.τ).loc Cert.ReferenceIdeal.main_v66)) (v8 : Buf (Elt Ideal) (((0 : Dev Cert.ReferenceIdeal.nD).tc : Thread Cert.ReferenceIdeal.nD Cert.ReferenceIdeal.τ).loc Cert.ReferenceIdeal.main_v90)) (v9 : Buf (Elt Ideal) (((0 : Dev Cert.ReferenceIdeal.nD).tc : Thread Cert.ReferenceIdeal.nD Cert.ReferenceIdeal.τ).loc Cert.ReferenceIdeal.main_v114)) (v10 : Buf (Elt Ideal) (((0 : Dev Cert.ReferenceIdeal.nD).tc : Thread Cert.ReferenceIdeal.nD Cert.ReferenceIdeal.τ).loc Cert.ReferenceIdeal.main_v138)) (v11 : Buf (Elt Ideal) (((0 : Dev Cert.ReferenceIdeal.nD).tc : Thread Cert.ReferenceIdeal.nD Cert.ReferenceIdeal.τ).loc Cert.ReferenceIdeal.main_v162)) (v12 : Buf (Elt Ideal) (((0 : Dev Cert.ReferenceIdeal.nD).tc : Thread Cert.ReferenceIdeal.nD Cert.ReferenceIdeal.τ).loc Cert.ReferenceIdeal.main_v23)) (v13 : Buf (Elt Ideal) (((0 : Dev Cert.ReferenceIdeal.nD).tc : Thread Cert.ReferenceIdeal.nD Cert.ReferenceIdeal.τ).loc Cert.ReferenceIdeal.main_v47)) (v14 : Buf (Elt Ideal) (((0 : Dev Cert.ReferenceIdeal.nD).tc : Thread Cert.ReferenceIdeal.nD Cert.ReferenceIdeal.τ).loc Cert.ReferenceIdeal.main_v71)) (v15 : Buf (Elt Ideal) (((0 : Dev Cert.ReferenceIdeal.nD).tc : Thread Cert.ReferenceIdeal.nD Cert.ReferenceIdeal.τ).loc Cert.ReferenceIdeal.main_v95)) (v16 : Buf (Elt Ideal) (((0 : Dev Cert.ReferenceIdeal.nD).tc : Thread Cert.ReferenceIdeal.nD Cert.ReferenceIdeal.τ).loc Cert.ReferenceIdeal.main_v119)) (v17 : Buf (Elt Ideal) (((0 : Dev Cert.ReferenceIdeal.nD).tc : Thread Cert.ReferenceIdeal.nD Cert.ReferenceIdeal.τ).loc Cert.ReferenceIdeal.main_v143)) (v18 : Buf (Elt Ideal) (((0 : Dev Cert.ReferenceIdeal.nD).tc : Thread Cert.ReferenceIdeal.nD Cert.ReferenceIdeal.τ).loc Cert.ReferenceIdeal.main_v29)) (v19 : Buf (Elt Ideal) (((0 : Dev Cert.ReferenceIdeal.nD).tc : Thread Cert.ReferenceIdeal.nD Cert.ReferenceIdeal.τ).loc Cert.ReferenceIdeal.main_v53)) (v20 : Buf (Elt Ideal) (((0 : Dev Cert.ReferenceIdeal.nD).tc : Thread Cert.ReferenceIdeal.nD Cert.ReferenceIdeal.τ).loc Cert.ReferenceIdeal.main_v77)) (v21 : Buf (Elt Ideal) (((0 : Dev Cert.ReferenceIdeal.nD).tc : Thread Cert.ReferenceIdeal.nD Cert.ReferenceIdeal.τ).loc Cert.ReferenceIdeal.main_v101)) (v22 : Buf (Elt Ideal) (((0 : Dev Cert.ReferenceIdeal.nD).tc : Thread Cert.ReferenceIdeal.nD Cert.ReferenceIdeal.τ).loc Cert.ReferenceIdeal.main_v125)) (v23 : Buf (Elt Ideal) (((0 : Dev Cert.ReferenceIdeal.nD).tc : Thread Cert.ReferenceIdeal.nD Cert.ReferenceIdeal.τ).loc Cert.ReferenceIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![1024, 256]⟩ ⟨2, ![1024, 2048]⟩ 1 8 c v0
          ∧ r.2.mem ((c.tc : Thread Cert.KernelIdeal.nD Cert.KernelIdeal.τ).loc Cert.KernelIdeal.main_v10_0) = Layout.block ⟨2, ![64, 512]⟩ ⟨2, ![512, 512]⟩ 0 8 c v1
          ∧ r.2.mem ((c.tc : Thread Cert.KernelIdeal.nD Cert.KernelIdeal.τ).loc Cert.KernelIdeal.main_v11_0) = Layout.block ⟨2, ![128, 1024]⟩ ⟨2, ![1024, 1024]⟩ 0 8 c v2
          ∧ r.2.mem ((c.tc : Thread Cert.KernelIdeal.nD Cert.KernelIdeal.τ).loc Cert.KernelIdeal.main_v16) = Layout.block ⟨2, ![1024, 512]⟩ ⟨2, ![1024, 4096]⟩ 1 8 c v3
          ∧ r.2.mem ((c.tc : Thread Cert.KernelIdeal.nD Cert.KernelIdeal.τ).loc Cert.KernelIdeal.main_v20_0) = Layout.block ⟨2, ![512, 1024]⟩ ⟨2, ![4096, 1024]⟩ 0 8 c v4
          ∧ r.2.mem ((c.tc : Thread Cert.KernelIdeal.nD Cert.KernelIdeal.τ).loc Cert.KernelIdeal.main_v21_0) = v5
          ∧ r.2.mem ((c.tc : Thread Cert.KernelIdeal.nD Cert.KernelIdeal.τ).loc Cert.KernelIdeal.main_v7) = Layout.block ⟨2, ![1024, 256]⟩ ⟨2, ![1024, 2048]⟩ 1 8 c v6
          ∧ r.2.mem ((c.tc : Thread Cert.KernelIdeal.nD Cert.KernelIdeal.τ).loc Cert.KernelIdeal.main_v10_1) = Layout.block ⟨2, ![64, 512]⟩ ⟨2, ![512, 512]⟩ 0 8 c v7
          ∧ r.2.mem ((c.tc : Thread Cert.KernelIdeal.nD Cert.KernelIdeal.τ).loc Cert.KernelIdeal.main_v11_1) = Layout.block ⟨2, ![128, 1024]⟩ ⟨2, ![1024, 1024]⟩ 0 8 c v8
          ∧ r.2.mem ((c.tc : Thread Cert.KernelIdeal.nD Cert.KernelIdeal.τ).loc Cert.KernelIdeal.main_v17) = Layout.block ⟨2, ![1024, 512]⟩ ⟨2, ![1024, 4096]⟩ 1 8 c v9
          ∧ r.2.mem ((c.tc : Thread Cert.KernelIdeal.nD Cert.KernelIdeal.τ).loc Cert.KernelIdeal.main_v20_1) = Layout.block ⟨2, ![512, 1024]⟩ ⟨2, ![4096, 1024]⟩ 0 8 c v10
          ∧ r.2.mem ((c.tc : Thread Cert.KernelIdeal.nD Cert.KernelIdeal.τ).loc Cert.KernelIdeal.main_v21_1) = v11
          ∧ r.2.mem ((c.tc : Thread Cert.KernelIdeal.nD Cert.KernelIdeal.τ).loc Cert.KernelIdeal.main_v8) = Layout.block ⟨2, ![1024, 256]⟩ ⟨2, ![1024, 2048]⟩ 1 8 c v12
          ∧ r.2.mem ((c.tc : Thread Cert.KernelIdeal.nD Cert.KernelIdeal.τ).loc Cert.KernelIdeal.main_v10_2) = Layout.block ⟨2, ![64, 512]⟩ ⟨2, ![512, 512]⟩ 0 8 c v13
          ∧ r.2.mem ((c.tc : Thread Cert.KernelIdeal.nD Cert.KernelIdeal.τ).loc Cert.KernelIdeal.main_v11_2) = Layout.block ⟨2, ![128, 1024]⟩ ⟨2, ![1024, 1024]⟩ 0 8 c v14
          ∧ r.2.mem ((c.tc : Thread Cert.KernelIdeal.nD Cert.KernelIdeal.τ).loc Cert.KernelIdeal.main_v18) = Layout.block ⟨2, ![1024, 512]⟩ ⟨2, ![1024, 4096]⟩ 1 8 c v15
          ∧ r.2.mem ((c.tc : Thread Cert.KernelIdeal.nD Cert.KernelIdeal.τ).loc Cert.KernelIdeal.main_v20_2) = Layout.block ⟨2, ![512, 1024]⟩ ⟨2, ![4096, 1024]⟩ 0 8 c v16
          ∧ r.2.mem ((c.tc : Thread Cert.KernelIdeal.nD Cert.KernelIdeal.τ).loc Cert.KernelIdeal.main_v21_2) = v17
          ∧ r.2.mem ((c.tc : Thread Cert.KernelIdeal.nD Cert.KernelIdeal.τ).loc Cert.KernelIdeal.main_v9) = Layout.block ⟨2, ![1024, 256]⟩ ⟨2, ![1024, 2048]⟩ 1 8 c v18
          ∧ r.2.mem ((c.tc : Thread Cert.KernelIdeal.nD Cert.KernelIdeal.τ).loc Cert.KernelIdeal.main_v10_3) = Layout.block ⟨2, ![64, 512]⟩ ⟨2, ![512, 512]⟩ 0 8 c v19
          ∧ r.2.mem ((c.tc : Thread Cert.KernelIdeal.nD Cert.KernelIdeal.τ).loc Cert.KernelIdeal.main_v11_3) = Layout.block ⟨2, ![128, 1024]⟩ ⟨2, ![1024, 1024]⟩ 0 8 c v20
          ∧ r.2.mem ((c.tc : Thread Cert.KernelIdeal.nD Cert.KernelIdeal.τ).loc Cert.KernelIdeal.main_v19) = Layout.block ⟨2, ![1024, 512]⟩ ⟨2, ![1024, 4096]⟩ 1 8 c v21
          ∧ r.2.mem ((c.tc : Thread Cert.KernelIdeal.nD Cert.KernelIdeal.τ).loc Cert.KernelIdeal.main_v20_3) = Layout.block ⟨2, ![512, 1024]⟩ ⟨2, ![4096, 1024]⟩ 0 8 c v22
          ∧ r.2.mem ((c.tc : Thread Cert.KernelIdeal.nD Cert.KernelIdeal.τ).loc Cert.KernelIdeal.main_v21_3) = v23
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v18) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_v16) = v5
          ∧ r.2.mem (((0 : Dev Cert.ReferenceIdeal.nD).tc : Thread Cert.ReferenceIdeal.nD Cert.ReferenceIdeal.τ).loc Cert.ReferenceIdeal.main_v42) = v6
          ∧ r.2.mem (((0 : Dev Cert.ReferenceIdeal.nD).tc : Thread Cert.ReferenceIdeal.nD Cert.ReferenceIdeal.τ).loc Cert.ReferenceIdeal.main_v66) = v7
          ∧ r.2.mem (((0 : Dev Cert.ReferenceIdeal.nD).tc : Thread Cert.ReferenceIdeal.nD Cert.ReferenceIdeal.τ).loc Cert.ReferenceIdeal.main_v90) = v8
          ∧ r.2.mem (((0 : Dev Cert.ReferenceIdeal.nD).tc : Thread Cert.ReferenceIdeal.nD Cert.ReferenceIdeal.τ).loc Cert.ReferenceIdeal.main_v114) = v9
          ∧ r.2.mem (((0 : Dev Cert.ReferenceIdeal.nD).tc : Thread Cert.ReferenceIdeal.nD Cert.ReferenceIdeal.τ).loc Cert.ReferenceIdeal.main_v138) = v10
          ∧ r.2.mem (((0 : Dev Cert.ReferenceIdeal.nD).tc : Thread Cert.ReferenceIdeal.nD Cert.ReferenceIdeal.τ).loc Cert.ReferenceIdeal.main_v162) = v11
          ∧ r.2.mem (((0 : Dev Cert.ReferenceIdeal.nD).tc : Thread Cert.ReferenceIdeal.nD Cert.ReferenceIdeal.τ).loc Cert.ReferenceIdeal.main_v23) = v12
          ∧ r.2.mem (((0 : Dev Cert.ReferenceIdeal.nD).tc : Thread Cert.ReferenceIdeal.nD Cert.ReferenceIdeal.τ).loc Cert.ReferenceIdeal.main_v47) = v13
          ∧ r.2.mem (((0 : Dev Cert.ReferenceIdeal.nD).tc : Thread Cert.ReferenceIdeal.nD Cert.ReferenceIdeal.τ).loc Cert.ReferenceIdeal.main_v71) = v14
          ∧ r.2.mem (((0 : Dev Cert.ReferenceIdeal.nD).tc : Thread Cert.ReferenceIdeal.nD Cert.ReferenceIdeal.τ).loc Cert.ReferenceIdeal.main_v95) = v15
          ∧ r.2.mem (((0 : Dev Cert.ReferenceIdeal.nD).tc : Thread Cert.ReferenceIdeal.nD Cert.ReferenceIdeal.τ).loc Cert.ReferenceIdeal.main_v119) = v16
          ∧ r.2.mem (((0 : Dev Cert.ReferenceIdeal.nD).tc : Thread Cert.ReferenceIdeal.nD Cert.ReferenceIdeal.τ).loc Cert.ReferenceIdeal.main_v143) = v17
          ∧ r.2.mem (((0 : Dev Cert.ReferenceIdeal.nD).tc : Thread Cert.ReferenceIdeal.nD Cert.ReferenceIdeal.τ).loc Cert.ReferenceIdeal.main_v29) = v18
          ∧ r.2.mem (((0 : Dev Cert.ReferenceIdeal.nD).tc : Thread Cert.ReferenceIdeal.nD Cert.ReferenceIdeal.τ).loc Cert.ReferenceIdeal.main_v53) = v19
          ∧ r.2.mem (((0 : Dev Cert.ReferenceIdeal.nD).tc : Thread Cert.ReferenceIdeal.nD Cert.ReferenceIdeal.τ).loc Cert.ReferenceIdeal.main_v77) = v20
          ∧ r.2.mem (((0 : Dev Cert.ReferenceIdeal.nD).tc : Thread Cert.ReferenceIdeal.nD Cert.ReferenceIdeal.τ).loc Cert.ReferenceIdeal.main_v101) = v21
          ∧ r.2.mem (((0 : Dev Cert.ReferenceIdeal.nD).tc : Thread Cert.ReferenceIdeal.nD Cert.ReferenceIdeal.τ).loc Cert.ReferenceIdeal.main_v125) = v22
          ∧ r.2.mem (((0 : Dev Cert.ReferenceIdeal.nD).tc : Thread Cert.ReferenceIdeal.nD Cert.ReferenceIdeal.τ).loc Cert.ReferenceIdeal.main_v149) = v23
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8)
          ∧ r.2.mem (((0 : Dev Cert.ReferenceIdeal.nD).tc : Thread Cert.ReferenceIdeal.nD Cert.ReferenceIdeal.τ).loc Cert.ReferenceIdeal.main_arg9) = m' (((0 : Dev Cert.ReferenceIdeal.nD).tc : Thread Cert.ReferenceIdeal.nD Cert.ReferenceIdeal.τ).loc Cert.ReferenceIdeal.main_arg9)
          ∧ r.2.mem (((0 : Dev Cert.ReferenceIdeal.nD).tc : Thread Cert.ReferenceIdeal.nD Cert.ReferenceIdeal.τ).loc Cert.ReferenceIdeal.main_arg10) = m' (((0 : Dev Cert.ReferenceIdeal.nD).tc : Thread Cert.ReferenceIdeal.nD Cert.ReferenceIdeal.τ).loc Cert.ReferenceIdeal.main_arg10)
          ∧ r.2.mem (((0 : Dev Cert.ReferenceIdeal.nD).tc : Thread Cert.ReferenceIdeal.nD Cert.ReferenceIdeal.τ).loc Cert.ReferenceIdeal.main_arg11) = m' (((0 : Dev Cert.ReferenceIdeal.nD).tc : Thread Cert.ReferenceIdeal.nD Cert.ReferenceIdeal.τ).loc Cert.ReferenceIdeal.main_arg11)
          ∧ r.2.mem (((0 : Dev Cert.ReferenceIdeal.nD).tc : Thread Cert.ReferenceIdeal.nD Cert.ReferenceIdeal.τ).loc Cert.ReferenceIdeal.main_arg12) = m' (((0 : Dev Cert.ReferenceIdeal.nD).tc : Thread Cert.ReferenceIdeal.nD Cert.ReferenceIdeal.τ).loc Cert.ReferenceIdeal.main_arg12)
          ∧ r.2.mem (((0 : Dev Cert.ReferenceIdeal.nD).tc : Thread Cert.ReferenceIdeal.nD Cert.ReferenceIdeal.τ).loc Cert.ReferenceIdeal.main_arg13) = m' (((0 : Dev Cert.ReferenceIdeal.nD).tc : Thread Cert.ReferenceIdeal.nD Cert.ReferenceIdeal.τ).loc Cert.ReferenceIdeal.main_arg13)
          ∧ r.2.mem (((0 : Dev Cert.ReferenceIdeal.nD).tc : Thread Cert.ReferenceIdeal.nD Cert.ReferenceIdeal.τ).loc Cert.ReferenceIdeal.main_arg14) = m' (((0 : Dev Cert.ReferenceIdeal.nD).tc : Thread Cert.ReferenceIdeal.nD Cert.ReferenceIdeal.τ).loc Cert.ReferenceIdeal.main_arg14)
          ∧ r.2.mem (((0 : Dev Cert.ReferenceIdeal.nD).tc : Thread Cert.ReferenceIdeal.nD Cert.ReferenceIdeal.τ).loc Cert.ReferenceIdeal.main_arg15) = m' (((0 : Dev Cert.ReferenceIdeal.nD).tc : Thread Cert.ReferenceIdeal.nD Cert.ReferenceIdeal.τ).loc Cert.ReferenceIdeal.main_arg15)
          ∧ r.2.mem (((0 : Dev Cert.ReferenceIdeal.nD).tc : Thread Cert.ReferenceIdeal.nD Cert.ReferenceIdeal.τ).loc Cert.ReferenceIdeal.main_arg16) = m' (((0 : Dev Cert.ReferenceIdeal.nD).tc : Thread Cert.ReferenceIdeal.nD Cert.ReferenceIdeal.τ).loc Cert.ReferenceIdeal.main_arg16)
          ∧ r.2.mem (((0 : Dev Cert.ReferenceIdeal.nD).tc : Thread Cert.ReferenceIdeal.nD Cert.ReferenceIdeal.τ).loc Cert.ReferenceIdeal.main_arg17) = m' (((0 : Dev Cert.ReferenceIdeal.nD).tc : Thread Cert.ReferenceIdeal.nD Cert.ReferenceIdeal.τ).loc Cert.ReferenceIdeal.main_arg17)
          ∧ r.2.mem (((0 : Dev Cert.ReferenceIdeal.nD).tc : Thread Cert.ReferenceIdeal.nD Cert.ReferenceIdeal.τ).loc Cert.ReferenceIdeal.main_arg18) = m' (((0 : Dev Cert.ReferenceIdeal.nD).tc : Thread Cert.ReferenceIdeal.nD Cert.ReferenceIdeal.τ).loc Cert.ReferenceIdeal.main_arg18)
          ∧ r.2.mem (((0 : Dev Cert.ReferenceIdeal.nD).tc : Thread Cert.ReferenceIdeal.nD Cert.ReferenceIdeal.τ).loc Cert.ReferenceIdeal.main_arg19) = m' (((0 : Dev Cert.ReferenceIdeal.nD).tc : Thread Cert.ReferenceIdeal.nD Cert.ReferenceIdeal.τ).loc Cert.ReferenceIdeal.main_arg19)
          ∧ r.2.mem (((0 : Dev Cert.ReferenceIdeal.nD).tc : Thread Cert.ReferenceIdeal.nD Cert.ReferenceIdeal.τ).loc Cert.ReferenceIdeal.main_arg20) = m' (((0 : Dev Cert.ReferenceIdeal.nD).tc : Thread Cert.ReferenceIdeal.nD Cert.ReferenceIdeal.τ).loc Cert.ReferenceIdeal.main_arg20)
          ∧ r.2.mem (((0 : Dev Cert.ReferenceIdeal.nD).tc : Thread Cert.ReferenceIdeal.nD Cert.ReferenceIdeal.τ).loc Cert.ReferenceIdeal.main_arg21) = m' (((0 : Dev Cert.ReferenceIdeal.nD).tc : Thread Cert.ReferenceIdeal.nD Cert.ReferenceIdeal.τ).loc Cert.ReferenceIdeal.main_arg21)
          ∧ r.2.mem (((0 : Dev Cert.ReferenceIdeal.nD).tc : Thread Cert.ReferenceIdeal.nD Cert.ReferenceIdeal.τ).loc Cert.ReferenceIdeal.main_arg22) = m' (((0 : Dev Cert.ReferenceIdeal.nD).tc : Thread Cert.ReferenceIdeal.nD Cert.ReferenceIdeal.τ).loc Cert.ReferenceIdeal.main_arg22)
          ∧ r.2.mem (((0 : Dev Cert.ReferenceIdeal.nD).tc : Thread Cert.ReferenceIdeal.nD Cert.ReferenceIdeal.τ).loc Cert.ReferenceIdeal.main_arg23) = m' (((0 : Dev Cert.ReferenceIdeal.nD).tc : Thread Cert.ReferenceIdeal.nD Cert.ReferenceIdeal.τ).loc Cert.ReferenceIdeal.main_arg23))

def preserves_InputGradient_InputGradientIdeal : Prop :=
  True

def algebraic_InputGradientIdeal_PlainInputGradientIdeal [hInputGradientIdeal : Cert.InputGradientIdeal.Facts] [hPlainInputGradientIdeal : Cert.PlainInputGradientIdeal.Facts] : Prop :=
  ∀ (m : (ℓ : Loc Cert.InputGradientIdeal.nD Cert.InputGradientIdeal.τ Cert.InputGradientIdeal.sig) → Buf (Elt Ideal) ℓ) (g : Dev Cert.InputGradientIdeal.nD → PrngReg)
    (m' : (ℓ : Loc Cert.PlainInputGradientIdeal.nD Cert.PlainInputGradientIdeal.τ Cert.PlainInputGradientIdeal.sig) → Buf (Elt Ideal) ℓ) (g' : Dev Cert.PlainInputGradientIdeal.nD → PrngReg), Pre_InputGradientIdeal m →
    (∀ c : Dev Cert.InputGradientIdeal.nD,
      m' ((c.tc : Thread Cert.PlainInputGradientIdeal.nD Cert.PlainInputGradientIdeal.τ).loc Cert.PlainInputGradientIdeal.main_arg0) = m ((c.tc : Thread Cert.InputGradientIdeal.nD Cert.InputGradientIdeal.τ).loc Cert.InputGradientIdeal.main_arg0)
      ∧ m' ((c.tc : Thread Cert.PlainInputGradientIdeal.nD Cert.PlainInputGradientIdeal.τ).loc Cert.PlainInputGradientIdeal.main_arg1) = m ((c.tc : Thread Cert.InputGradientIdeal.nD Cert.InputGradientIdeal.τ).loc Cert.InputGradientIdeal.main_arg1)
      ∧ m' ((c.tc : Thread Cert.PlainInputGradientIdeal.nD Cert.PlainInputGradientIdeal.τ).loc Cert.PlainInputGradientIdeal.main_arg2) = m ((c.tc : Thread Cert.InputGradientIdeal.nD Cert.InputGradientIdeal.τ).loc Cert.InputGradientIdeal.main_arg2)
      ∧ m' ((c.tc : Thread Cert.PlainInputGradientIdeal.nD Cert.PlainInputGradientIdeal.τ).loc Cert.PlainInputGradientIdeal.main_arg3) = m ((c.tc : Thread Cert.InputGradientIdeal.nD Cert.InputGradientIdeal.τ).loc Cert.InputGradientIdeal.main_arg3)
      ∧ m' ((c.tc : Thread Cert.PlainInputGradientIdeal.nD Cert.PlainInputGradientIdeal.τ).loc Cert.PlainInputGradientIdeal.main_arg4) = m ((c.tc : Thread Cert.InputGradientIdeal.nD Cert.InputGradientIdeal.τ).loc Cert.InputGradientIdeal.main_arg4)) →
    ∃ (v0 : (c : Dev Cert.InputGradientIdeal.nD) → Buf (Elt Ideal) ((c.tc : Thread Cert.InputGradientIdeal.nD Cert.InputGradientIdeal.τ).loc Cert.InputGradientIdeal.main_v0_0)) (v1 : (c : Dev Cert.InputGradientIdeal.nD) → Buf (Elt Ideal) ((c.tc : Thread Cert.InputGradientIdeal.nD Cert.InputGradientIdeal.τ).loc Cert.InputGradientIdeal.main_v0_1)),
      θ_run (Cert.InputGradientIdeal.defs (F := Ideal)) (onTc (τ := Cert.InputGradientIdeal.τ) (Cert.InputGradientIdeal.main (F := Ideal))) ⟨m, fun _ => 0, g⟩ (fun r => ∀ c : Dev Cert.InputGradientIdeal.nD,
          r.2.mem ((c.tc : Thread Cert.InputGradientIdeal.nD Cert.InputGradientIdeal.τ).loc Cert.InputGradientIdeal.main_v0_0) = v0 c
          ∧ r.2.mem ((c.tc : Thread Cert.InputGradientIdeal.nD Cert.InputGradientIdeal.τ).loc Cert.InputGradientIdeal.main_v0_1) = v1 c
          ∧ r.2.mem ((c.tc : Thread Cert.InputGradientIdeal.nD Cert.InputGradientIdeal.τ).loc Cert.InputGradientIdeal.main_arg0) = m ((c.tc : Thread Cert.InputGradientIdeal.nD Cert.InputGradientIdeal.τ).loc Cert.InputGradientIdeal.main_arg0)
          ∧ r.2.mem ((c.tc : Thread Cert.InputGradientIdeal.nD Cert.InputGradientIdeal.τ).loc Cert.InputGradientIdeal.main_arg1) = m ((c.tc : Thread Cert.InputGradientIdeal.nD Cert.InputGradientIdeal.τ).loc Cert.InputGradientIdeal.main_arg1)
          ∧ r.2.mem ((c.tc : Thread Cert.InputGradientIdeal.nD Cert.InputGradientIdeal.τ).loc Cert.InputGradientIdeal.main_arg2) = m ((c.tc : Thread Cert.InputGradientIdeal.nD Cert.InputGradientIdeal.τ).loc Cert.InputGradientIdeal.main_arg2)
          ∧ r.2.mem ((c.tc : Thread Cert.InputGradientIdeal.nD Cert.InputGradientIdeal.τ).loc Cert.InputGradientIdeal.main_arg3) = m ((c.tc : Thread Cert.InputGradientIdeal.nD Cert.InputGradientIdeal.τ).loc Cert.InputGradientIdeal.main_arg3)
          ∧ r.2.mem ((c.tc : Thread Cert.InputGradientIdeal.nD Cert.InputGradientIdeal.τ).loc Cert.InputGradientIdeal.main_arg4) = m ((c.tc : Thread Cert.InputGradientIdeal.nD Cert.InputGradientIdeal.τ).loc Cert.InputGradientIdeal.main_arg4))
      ∧ θ_run (Cert.PlainInputGradientIdeal.defs (F := Ideal)) (onTc (τ := Cert.PlainInputGradientIdeal.τ) (Cert.PlainInputGradientIdeal.main (F := Ideal))) ⟨m', fun _ => 0, g'⟩ (fun r => ∀ c : Dev Cert.PlainInputGradientIdeal.nD,
          r.2.mem ((c.tc : Thread Cert.PlainInputGradientIdeal.nD Cert.PlainInputGradientIdeal.τ).loc Cert.PlainInputGradientIdeal.main_v27) = v0 c
          ∧ r.2.mem ((c.tc : Thread Cert.PlainInputGradientIdeal.nD Cert.PlainInputGradientIdeal.τ).loc Cert.PlainInputGradientIdeal.main_v32) = v1 c
          ∧ r.2.mem ((c.tc : Thread Cert.PlainInputGradientIdeal.nD Cert.PlainInputGradientIdeal.τ).loc Cert.PlainInputGradientIdeal.main_arg0) = m' ((c.tc : Thread Cert.PlainInputGradientIdeal.nD Cert.PlainInputGradientIdeal.τ).loc Cert.PlainInputGradientIdeal.main_arg0)
          ∧ r.2.mem ((c.tc : Thread Cert.PlainInputGradientIdeal.nD Cert.PlainInputGradientIdeal.τ).loc Cert.PlainInputGradientIdeal.main_arg1) = m' ((c.tc : Thread Cert.PlainInputGradientIdeal.nD Cert.PlainInputGradientIdeal.τ).loc Cert.PlainInputGradientIdeal.main_arg1)
          ∧ r.2.mem ((c.tc : Thread Cert.PlainInputGradientIdeal.nD Cert.PlainInputGradientIdeal.τ).loc Cert.PlainInputGradientIdeal.main_arg2) = m' ((c.tc : Thread Cert.PlainInputGradientIdeal.nD Cert.PlainInputGradientIdeal.τ).loc Cert.PlainInputGradientIdeal.main_arg2)
          ∧ r.2.mem ((c.tc : Thread Cert.PlainInputGradientIdeal.nD Cert.PlainInputGradientIdeal.τ).loc Cert.PlainInputGradientIdeal.main_arg3) = m' ((c.tc : Thread Cert.PlainInputGradientIdeal.nD Cert.PlainInputGradientIdeal.τ).loc Cert.PlainInputGradientIdeal.main_arg3)
          ∧ r.2.mem ((c.tc : Thread Cert.PlainInputGradientIdeal.nD Cert.PlainInputGradientIdeal.τ).loc Cert.PlainInputGradientIdeal.main_arg4) = m' ((c.tc : Thread Cert.PlainInputGradientIdeal.nD Cert.PlainInputGradientIdeal.τ).loc Cert.PlainInputGradientIdeal.main_arg4))

def preserves_Loss_LossIdeal : Prop :=
  True

def algebraic_LossIdeal_PlainLossIdeal [hLossIdeal : Cert.LossIdeal.Facts] [hPlainLossIdeal : Cert.PlainLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.PlainLossIdeal.nD Cert.PlainLossIdeal.τ Cert.PlainLossIdeal.sig) → Buf (Elt Ideal) ℓ) (g' : Dev Cert.PlainLossIdeal.nD → PrngReg), Pre_LossIdeal m →
    (∀ c : Dev Cert.LossIdeal.nD,
      m ((c.tc : Thread Cert.LossIdeal.nD Cert.LossIdeal.τ).loc Cert.LossIdeal.main_arg0) = Layout.block ⟨2, ![16384, 4096]⟩ ⟨2, ![131072, 4096]⟩ 0 8 c (m' (((0 : Dev Cert.PlainLossIdeal.nD).tc : Thread Cert.PlainLossIdeal.nD Cert.PlainLossIdeal.τ).loc Cert.PlainLossIdeal.main_arg0))
      ∧ m ((c.tc : Thread Cert.LossIdeal.nD Cert.LossIdeal.τ).loc Cert.LossIdeal.main_arg1) = m' (((0 : Dev Cert.PlainLossIdeal.nD).tc : Thread Cert.PlainLossIdeal.nD Cert.PlainLossIdeal.τ).loc Cert.PlainLossIdeal.main_arg1)
      ∧ m ((c.tc : Thread Cert.LossIdeal.nD Cert.LossIdeal.τ).loc Cert.LossIdeal.main_arg2) = Layout.block ⟨2, ![16384, 1024]⟩ ⟨2, ![131072, 1024]⟩ 0 8 c (m' (((0 : Dev Cert.PlainLossIdeal.nD).tc : Thread Cert.PlainLossIdeal.nD Cert.PlainLossIdeal.τ).loc Cert.PlainLossIdeal.main_arg2))
      ∧ m ((c.tc : Thread Cert.LossIdeal.nD Cert.LossIdeal.τ).loc Cert.LossIdeal.main_arg3) = Layout.block ⟨2, ![16384, 1024]⟩ ⟨2, ![131072, 1024]⟩ 0 8 c (m' (((0 : Dev Cert.PlainLossIdeal.nD).tc : Thread Cert.PlainLossIdeal.nD Cert.PlainLossIdeal.τ).loc Cert.PlainLossIdeal.main_arg3))) →
    ∃ (v0 : Buf (Elt Ideal) (((0 : Dev Cert.PlainLossIdeal.nD).tc : Thread Cert.PlainLossIdeal.nD Cert.PlainLossIdeal.τ).loc Cert.PlainLossIdeal.main_v10)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5) = v0
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.PlainLossIdeal.defs (F := Ideal)) (onTc (τ := Cert.PlainLossIdeal.τ) (Cert.PlainLossIdeal.main (F := Ideal))) ⟨m', fun _ => 0, g'⟩ (fun r =>
          r.2.mem (((0 : Dev Cert.PlainLossIdeal.nD).tc : Thread Cert.PlainLossIdeal.nD Cert.PlainLossIdeal.τ).loc Cert.PlainLossIdeal.main_v10) = v0
          ∧ r.2.mem (((0 : Dev Cert.PlainLossIdeal.nD).tc : Thread Cert.PlainLossIdeal.nD Cert.PlainLossIdeal.τ).loc Cert.PlainLossIdeal.main_arg0) = m' (((0 : Dev Cert.PlainLossIdeal.nD).tc : Thread Cert.PlainLossIdeal.nD Cert.PlainLossIdeal.τ).loc Cert.PlainLossIdeal.main_arg0)
          ∧ r.2.mem (((0 : Dev Cert.PlainLossIdeal.nD).tc : Thread Cert.PlainLossIdeal.nD Cert.PlainLossIdeal.τ).loc Cert.PlainLossIdeal.main_arg1) = m' (((0 : Dev Cert.PlainLossIdeal.nD).tc : Thread Cert.PlainLossIdeal.nD Cert.PlainLossIdeal.τ).loc Cert.PlainLossIdeal.main_arg1)
          ∧ r.2.mem (((0 : Dev Cert.PlainLossIdeal.nD).tc : Thread Cert.PlainLossIdeal.nD Cert.PlainLossIdeal.τ).loc Cert.PlainLossIdeal.main_arg2) = m' (((0 : Dev Cert.PlainLossIdeal.nD).tc : Thread Cert.PlainLossIdeal.nD Cert.PlainLossIdeal.τ).loc Cert.PlainLossIdeal.main_arg2)
          ∧ r.2.mem (((0 : Dev Cert.PlainLossIdeal.nD).tc : Thread Cert.PlainLossIdeal.nD Cert.PlainLossIdeal.τ).loc Cert.PlainLossIdeal.main_arg3) = m' (((0 : Dev Cert.PlainLossIdeal.nD).tc : Thread Cert.PlainLossIdeal.nD Cert.PlainLossIdeal.τ).loc Cert.PlainLossIdeal.main_arg3))

def preserves_MlpUp_MlpUpIdeal : Prop :=
  True

def algebraic_MlpUpIdeal_PlainMlpUpIdeal [hMlpUpIdeal : Cert.MlpUpIdeal.Facts] [hPlainMlpUpIdeal : Cert.PlainMlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.PlainMlpUpIdeal.nD Cert.PlainMlpUpIdeal.τ Cert.PlainMlpUpIdeal.sig) → Buf (Elt Ideal) ℓ) (g' : Dev Cert.PlainMlpUpIdeal.nD → PrngReg), Pre_MlpUpIdeal m →
    (∀ c : Dev Cert.MlpUpIdeal.nD,
      m' ((c.tc : Thread Cert.PlainMlpUpIdeal.nD Cert.PlainMlpUpIdeal.τ).loc Cert.PlainMlpUpIdeal.main_arg0) = m ((c.tc : Thread Cert.MlpUpIdeal.nD Cert.MlpUpIdeal.τ).loc Cert.MlpUpIdeal.main_arg0)
      ∧ m' ((c.tc : Thread Cert.PlainMlpUpIdeal.nD Cert.PlainMlpUpIdeal.τ).loc Cert.PlainMlpUpIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.PlainMlpUpIdeal.defs (F := Ideal)) (onTc (τ := Cert.PlainMlpUpIdeal.τ) (Cert.PlainMlpUpIdeal.main (F := Ideal))) ⟨m', fun _ => 0, g'⟩ (fun r => ∀ c : Dev Cert.PlainMlpUpIdeal.nD,
          r.2.mem ((c.tc : Thread Cert.PlainMlpUpIdeal.nD Cert.PlainMlpUpIdeal.τ).loc Cert.PlainMlpUpIdeal.main_v4) = v0 c
          ∧ r.2.mem ((c.tc : Thread Cert.PlainMlpUpIdeal.nD Cert.PlainMlpUpIdeal.τ).loc Cert.PlainMlpUpIdeal.main_v6) = v1 c
          ∧ r.2.mem ((c.tc : Thread Cert.PlainMlpUpIdeal.nD Cert.PlainMlpUpIdeal.τ).loc Cert.PlainMlpUpIdeal.main_arg0) = m' ((c.tc : Thread Cert.PlainMlpUpIdeal.nD Cert.PlainMlpUpIdeal.τ).loc Cert.PlainMlpUpIdeal.main_arg0)
          ∧ r.2.mem ((c.tc : Thread Cert.PlainMlpUpIdeal.nD Cert.PlainMlpUpIdeal.τ).loc Cert.PlainMlpUpIdeal.main_arg1) = m' ((c.tc : Thread Cert.PlainMlpUpIdeal.nD Cert.PlainMlpUpIdeal.τ).loc Cert.PlainMlpUpIdeal.main_arg1))

def preserves_HiddenGradient_HiddenGradientIdeal : Prop :=
  True

def algebraic_HiddenGradientIdeal_PlainHiddenGradientIdeal [hHiddenGradientIdeal : Cert.HiddenGradientIdeal.Facts] [hPlainHiddenGradientIdeal : Cert.PlainHiddenGradientIdeal.Facts] : Prop :=
  ∀ (m : (ℓ : Loc Cert.HiddenGradientIdeal.nD Cert.HiddenGradientIdeal.τ Cert.HiddenGradientIdeal.sig) → Buf (Elt Ideal) ℓ) (g : Dev Cert.HiddenGradientIdeal.nD → PrngReg)
    (m' : (ℓ : Loc Cert.PlainHiddenGradientIdeal.nD Cert.PlainHiddenGradientIdeal.τ Cert.PlainHiddenGradientIdeal.sig) → Buf (Elt Ideal) ℓ) (g' : Dev Cert.PlainHiddenGradientIdeal.nD → PrngReg), Pre_HiddenGradientIdeal m →
    (∀ c : Dev Cert.HiddenGradientIdeal.nD,
      m' ((c.tc : Thread Cert.PlainHiddenGradientIdeal.nD Cert.PlainHiddenGradientIdeal.τ).loc Cert.PlainHiddenGradientIdeal.main_arg0) = m ((c.tc : Thread Cert.HiddenGradientIdeal.nD Cert.HiddenGradientIdeal.τ).loc Cert.HiddenGradientIdeal.main_arg0)
      ∧ m' ((c.tc : Thread Cert.PlainHiddenGradientIdeal.nD Cert.PlainHiddenGradientIdeal.τ).loc Cert.PlainHiddenGradientIdeal.main_arg1) = m ((c.tc : Thread Cert.HiddenGradientIdeal.nD Cert.HiddenGradientIdeal.τ).loc Cert.HiddenGradientIdeal.main_arg1)
      ∧ m' ((c.tc : Thread Cert.PlainHiddenGradientIdeal.nD Cert.PlainHiddenGradientIdeal.τ).loc Cert.PlainHiddenGradientIdeal.main_arg2) = m ((c.tc : Thread Cert.HiddenGradientIdeal.nD Cert.HiddenGradientIdeal.τ).loc Cert.HiddenGradientIdeal.main_arg2)) →
    ∃ (v0 : (c : Dev Cert.HiddenGradientIdeal.nD) → Buf (Elt Ideal) ((c.tc : Thread Cert.HiddenGradientIdeal.nD Cert.HiddenGradientIdeal.τ).loc Cert.HiddenGradientIdeal.main_v0)),
      θ_run (Cert.HiddenGradientIdeal.defs (F := Ideal)) (onTc (τ := Cert.HiddenGradientIdeal.τ) (Cert.HiddenGradientIdeal.main (F := Ideal))) ⟨m, fun _ => 0, g⟩ (fun r => ∀ c : Dev Cert.HiddenGradientIdeal.nD,
          r.2.mem ((c.tc : Thread Cert.HiddenGradientIdeal.nD Cert.HiddenGradientIdeal.τ).loc Cert.HiddenGradientIdeal.main_v0) = v0 c
          ∧ r.2.mem ((c.tc : Thread Cert.HiddenGradientIdeal.nD Cert.HiddenGradientIdeal.τ).loc Cert.HiddenGradientIdeal.main_arg0) = m ((c.tc : Thread Cert.HiddenGradientIdeal.nD Cert.HiddenGradientIdeal.τ).loc Cert.HiddenGradientIdeal.main_arg0)
          ∧ r.2.mem ((c.tc : Thread Cert.HiddenGradientIdeal.nD Cert.HiddenGradientIdeal.τ).loc Cert.HiddenGradientIdeal.main_arg1) = m ((c.tc : Thread Cert.HiddenGradientIdeal.nD Cert.HiddenGradientIdeal.τ).loc Cert.HiddenGradientIdeal.main_arg1)
          ∧ r.2.mem ((c.tc : Thread Cert.HiddenGradientIdeal.nD Cert.HiddenGradientIdeal.τ).loc Cert.HiddenGradientIdeal.main_arg2) = m ((c.tc : Thread Cert.HiddenGradientIdeal.nD Cert.HiddenGradientIdeal.τ).loc Cert.HiddenGradientIdeal.main_arg2))
      ∧ θ_run (Cert.PlainHiddenGradientIdeal.defs (F := Ideal)) (onTc (τ := Cert.PlainHiddenGradientIdeal.τ) (Cert.PlainHiddenGradientIdeal.main (F := Ideal))) ⟨m', fun _ => 0, g'⟩ (fun r => ∀ c : Dev Cert.PlainHiddenGradientIdeal.nD,
          r.2.mem ((c.tc : Thread Cert.PlainHiddenGradientIdeal.nD Cert.PlainHiddenGradientIdeal.τ).loc Cert.PlainHiddenGradientIdeal.main_v7) = v0 c
          ∧ r.2.mem ((c.tc : Thread Cert.PlainHiddenGradientIdeal.nD Cert.PlainHiddenGradientIdeal.τ).loc Cert.PlainHiddenGradientIdeal.main_arg0) = m' ((c.tc : Thread Cert.PlainHiddenGradientIdeal.nD Cert.PlainHiddenGradientIdeal.τ).loc Cert.PlainHiddenGradientIdeal.main_arg0)
          ∧ r.2.mem ((c.tc : Thread Cert.PlainHiddenGradientIdeal.nD Cert.PlainHiddenGradientIdeal.τ).loc Cert.PlainHiddenGradientIdeal.main_arg1) = m' ((c.tc : Thread Cert.PlainHiddenGradientIdeal.nD Cert.PlainHiddenGradientIdeal.τ).loc Cert.PlainHiddenGradientIdeal.main_arg1)
          ∧ r.2.mem ((c.tc : Thread Cert.PlainHiddenGradientIdeal.nD Cert.PlainHiddenGradientIdeal.τ).loc Cert.PlainHiddenGradientIdeal.main_arg2) = m' ((c.tc : Thread Cert.PlainHiddenGradientIdeal.nD Cert.PlainHiddenGradientIdeal.τ).loc Cert.PlainHiddenGradientIdeal.main_arg2))

def preserves_MlpInputGradient_MlpInputGradientIdeal : Prop :=
  True

def algebraic_MlpInputGradientIdeal_PlainMlpInputGradientIdeal [hMlpInputGradientIdeal : Cert.MlpInputGradientIdeal.Facts] [hPlainMlpInputGradientIdeal : Cert.PlainMlpInputGradientIdeal.Facts] : Prop :=
  ∀ (m : (ℓ : Loc Cert.MlpInputGradientIdeal.nD Cert.MlpInputGradientIdeal.τ Cert.MlpInputGradientIdeal.sig) → Buf (Elt Ideal) ℓ) (g : Dev Cert.MlpInputGradientIdeal.nD → PrngReg)
    (m' : (ℓ : Loc Cert.PlainMlpInputGradientIdeal.nD Cert.PlainMlpInputGradientIdeal.τ Cert.PlainMlpInputGradientIdeal.sig) → Buf (Elt Ideal) ℓ) (g' : Dev Cert.PlainMlpInputGradientIdeal.nD → PrngReg), Pre_MlpInputGradientIdeal m →
    (∀ c : Dev Cert.MlpInputGradientIdeal.nD,
      m' ((c.tc : Thread Cert.PlainMlpInputGradientIdeal.nD Cert.PlainMlpInputGradientIdeal.τ).loc Cert.PlainMlpInputGradientIdeal.main_arg0) = m ((c.tc : Thread Cert.MlpInputGradientIdeal.nD Cert.MlpInputGradientIdeal.τ).loc Cert.MlpInputGradientIdeal.main_arg0)
      ∧ m' ((c.tc : Thread Cert.PlainMlpInputGradientIdeal.nD Cert.PlainMlpInputGradientIdeal.τ).loc Cert.PlainMlpInputGradientIdeal.main_arg1) = m ((c.tc : Thread Cert.MlpInputGradientIdeal.nD Cert.MlpInputGradientIdeal.τ).loc Cert.MlpInputGradientIdeal.main_arg1)
      ∧ m' ((c.tc : Thread Cert.PlainMlpInputGradientIdeal.nD Cert.PlainMlpInputGradientIdeal.τ).loc Cert.PlainMlpInputGradientIdeal.main_arg2) = m ((c.tc : Thread Cert.MlpInputGradientIdeal.nD Cert.MlpInputGradientIdeal.τ).loc Cert.MlpInputGradientIdeal.main_arg2)
      ∧ m' ((c.tc : Thread Cert.PlainMlpInputGradientIdeal.nD Cert.PlainMlpInputGradientIdeal.τ).loc Cert.PlainMlpInputGradientIdeal.main_arg3) = m ((c.tc : Thread Cert.MlpInputGradientIdeal.nD Cert.MlpInputGradientIdeal.τ).loc Cert.MlpInputGradientIdeal.main_arg3)
      ∧ m' ((c.tc : Thread Cert.PlainMlpInputGradientIdeal.nD Cert.PlainMlpInputGradientIdeal.τ).loc Cert.PlainMlpInputGradientIdeal.main_arg4) = m ((c.tc : Thread Cert.MlpInputGradientIdeal.nD Cert.MlpInputGradientIdeal.τ).loc Cert.MlpInputGradientIdeal.main_arg4)) →
    ∃ (v0 : (c : Dev Cert.MlpInputGradientIdeal.nD) → Buf (Elt Ideal) ((c.tc : Thread Cert.MlpInputGradientIdeal.nD Cert.MlpInputGradientIdeal.τ).loc Cert.MlpInputGradientIdeal.main_v0_0)) (v1 : (c : Dev Cert.MlpInputGradientIdeal.nD) → Buf (Elt Ideal) ((c.tc : Thread Cert.MlpInputGradientIdeal.nD Cert.MlpInputGradientIdeal.τ).loc Cert.MlpInputGradientIdeal.main_v0_1)) (v2 : (c : Dev Cert.MlpInputGradientIdeal.nD) → Buf (Elt Ideal) ((c.tc : Thread Cert.MlpInputGradientIdeal.nD Cert.MlpInputGradientIdeal.τ).loc Cert.MlpInputGradientIdeal.main_v0_2)),
      θ_run (Cert.MlpInputGradientIdeal.defs (F := Ideal)) (onTc (τ := Cert.MlpInputGradientIdeal.τ) (Cert.MlpInputGradientIdeal.main (F := Ideal))) ⟨m, fun _ => 0, g⟩ (fun r => ∀ c : Dev Cert.MlpInputGradientIdeal.nD,
          r.2.mem ((c.tc : Thread Cert.MlpInputGradientIdeal.nD Cert.MlpInputGradientIdeal.τ).loc Cert.MlpInputGradientIdeal.main_v0_0) = v0 c
          ∧ r.2.mem ((c.tc : Thread Cert.MlpInputGradientIdeal.nD Cert.MlpInputGradientIdeal.τ).loc Cert.MlpInputGradientIdeal.main_v0_1) = v1 c
          ∧ r.2.mem ((c.tc : Thread Cert.MlpInputGradientIdeal.nD Cert.MlpInputGradientIdeal.τ).loc Cert.MlpInputGradientIdeal.main_v0_2) = v2 c
          ∧ r.2.mem ((c.tc : Thread Cert.MlpInputGradientIdeal.nD Cert.MlpInputGradientIdeal.τ).loc Cert.MlpInputGradientIdeal.main_arg0) = m ((c.tc : Thread Cert.MlpInputGradientIdeal.nD Cert.MlpInputGradientIdeal.τ).loc Cert.MlpInputGradientIdeal.main_arg0)
          ∧ r.2.mem ((c.tc : Thread Cert.MlpInputGradientIdeal.nD Cert.MlpInputGradientIdeal.τ).loc Cert.MlpInputGradientIdeal.main_arg1) = m ((c.tc : Thread Cert.MlpInputGradientIdeal.nD Cert.MlpInputGradientIdeal.τ).loc Cert.MlpInputGradientIdeal.main_arg1)
          ∧ r.2.mem ((c.tc : Thread Cert.MlpInputGradientIdeal.nD Cert.MlpInputGradientIdeal.τ).loc Cert.MlpInputGradientIdeal.main_arg2) = m ((c.tc : Thread Cert.MlpInputGradientIdeal.nD Cert.MlpInputGradientIdeal.τ).loc Cert.MlpInputGradientIdeal.main_arg2)
          ∧ r.2.mem ((c.tc : Thread Cert.MlpInputGradientIdeal.nD Cert.MlpInputGradientIdeal.τ).loc Cert.MlpInputGradientIdeal.main_arg3) = m ((c.tc : Thread Cert.MlpInputGradientIdeal.nD Cert.MlpInputGradientIdeal.τ).loc Cert.MlpInputGradientIdeal.main_arg3)
          ∧ r.2.mem ((c.tc : Thread Cert.MlpInputGradientIdeal.nD Cert.MlpInputGradientIdeal.τ).loc Cert.MlpInputGradientIdeal.main_arg4) = m ((c.tc : Thread Cert.MlpInputGradientIdeal.nD Cert.MlpInputGradientIdeal.τ).loc Cert.MlpInputGradientIdeal.main_arg4))
      ∧ θ_run (Cert.PlainMlpInputGradientIdeal.defs (F := Ideal)) (onTc (τ := Cert.PlainMlpInputGradientIdeal.τ) (Cert.PlainMlpInputGradientIdeal.main (F := Ideal))) ⟨m', fun _ => 0, g'⟩ (fun r => ∀ c : Dev Cert.PlainMlpInputGradientIdeal.nD,
          r.2.mem ((c.tc : Thread Cert.PlainMlpInputGradientIdeal.nD Cert.PlainMlpInputGradientIdeal.τ).loc Cert.PlainMlpInputGradientIdeal.main_v27) = v0 c
          ∧ r.2.mem ((c.tc : Thread Cert.PlainMlpInputGradientIdeal.nD Cert.PlainMlpInputGradientIdeal.τ).loc Cert.PlainMlpInputGradientIdeal.main_v28) = v1 c
          ∧ r.2.mem ((c.tc : Thread Cert.PlainMlpInputGradientIdeal.nD Cert.PlainMlpInputGradientIdeal.τ).loc Cert.PlainMlpInputGradientIdeal.main_v33) = v2 c
          ∧ r.2.mem ((c.tc : Thread Cert.PlainMlpInputGradientIdeal.nD Cert.PlainMlpInputGradientIdeal.τ).loc Cert.PlainMlpInputGradientIdeal.main_arg0) = m' ((c.tc : Thread Cert.PlainMlpInputGradientIdeal.nD Cert.PlainMlpInputGradientIdeal.τ).loc Cert.PlainMlpInputGradientIdeal.main_arg0)
          ∧ r.2.mem ((c.tc : Thread Cert.PlainMlpInputGradientIdeal.nD Cert.PlainMlpInputGradientIdeal.τ).loc Cert.PlainMlpInputGradientIdeal.main_arg1) = m' ((c.tc : Thread Cert.PlainMlpInputGradientIdeal.nD Cert.PlainMlpInputGradientIdeal.τ).loc Cert.PlainMlpInputGradientIdeal.main_arg1)
          ∧ r.2.mem ((c.tc : Thread Cert.PlainMlpInputGradientIdeal.nD Cert.PlainMlpInputGradientIdeal.τ).loc Cert.PlainMlpInputGradientIdeal.main_arg2) = m' ((c.tc : Thread Cert.PlainMlpInputGradientIdeal.nD Cert.PlainMlpInputGradientIdeal.τ).loc Cert.PlainMlpInputGradientIdeal.main_arg2)
          ∧ r.2.mem ((c.tc : Thread Cert.PlainMlpInputGradientIdeal.nD Cert.PlainMlpInputGradientIdeal.τ).loc Cert.PlainMlpInputGradientIdeal.main_arg3) = m' ((c.tc : Thread Cert.PlainMlpInputGradientIdeal.nD Cert.PlainMlpInputGradientIdeal.τ).loc Cert.PlainMlpInputGradientIdeal.main_arg3)
          ∧ r.2.mem ((c.tc : Thread Cert.PlainMlpInputGradientIdeal.nD Cert.PlainMlpInputGradientIdeal.τ).loc Cert.PlainMlpInputGradientIdeal.main_arg4) = m' ((c.tc : Thread Cert.PlainMlpInputGradientIdeal.nD Cert.PlainMlpInputGradientIdeal.τ).loc Cert.PlainMlpInputGradientIdeal.main_arg4))

def preserves_DownGradient_DownGradientIdeal : Prop :=
  True

def algebraic_DownGradientIdeal_PlainDownGradientIdeal [hDownGradientIdeal : Cert.DownGradientIdeal.Facts] [hPlainDownGradientIdeal : Cert.PlainDownGradientIdeal.Facts] : Prop :=
  ∀ (m : (ℓ : Loc Cert.DownGradientIdeal.nD Cert.DownGradientIdeal.τ Cert.DownGradientIdeal.sig) → Buf (Elt Ideal) ℓ) (g : Dev Cert.DownGradientIdeal.nD → PrngReg)
    (m' : (ℓ : Loc Cert.PlainDownGradientIdeal.nD Cert.PlainDownGradientIdeal.τ Cert.PlainDownGradientIdeal.sig) → Buf (Elt Ideal) ℓ) (g' : Dev Cert.PlainDownGradientIdeal.nD → PrngReg), Pre_DownGradientIdeal m →
    (∀ c : Dev Cert.DownGradientIdeal.nD,
      m' ((c.tc : Thread Cert.PlainDownGradientIdeal.nD Cert.PlainDownGradientIdeal.τ).loc Cert.PlainDownGradientIdeal.main_arg0) = m ((c.tc : Thread Cert.DownGradientIdeal.nD Cert.DownGradientIdeal.τ).loc Cert.DownGradientIdeal.main_arg0)
      ∧ m' ((c.tc : Thread Cert.PlainDownGradientIdeal.nD Cert.PlainDownGradientIdeal.τ).loc Cert.PlainDownGradientIdeal.main_arg1) = m ((c.tc : Thread Cert.DownGradientIdeal.nD Cert.DownGradientIdeal.τ).loc Cert.DownGradientIdeal.main_arg1)) →
    ∃ (v0 : (c : Dev Cert.DownGradientIdeal.nD) → Buf (Elt Ideal) ((c.tc : Thread Cert.DownGradientIdeal.nD Cert.DownGradientIdeal.τ).loc Cert.DownGradientIdeal.main_v0)),
      θ_run (Cert.DownGradientIdeal.defs (F := Ideal)) (onTc (τ := Cert.DownGradientIdeal.τ) (Cert.DownGradientIdeal.main (F := Ideal))) ⟨m, fun _ => 0, g⟩ (fun r => ∀ c : Dev Cert.DownGradientIdeal.nD,
          r.2.mem ((c.tc : Thread Cert.DownGradientIdeal.nD Cert.DownGradientIdeal.τ).loc Cert.DownGradientIdeal.main_v0) = v0 c
          ∧ r.2.mem ((c.tc : Thread Cert.DownGradientIdeal.nD Cert.DownGradientIdeal.τ).loc Cert.DownGradientIdeal.main_arg0) = m ((c.tc : Thread Cert.DownGradientIdeal.nD Cert.DownGradientIdeal.τ).loc Cert.DownGradientIdeal.main_arg0)
          ∧ r.2.mem ((c.tc : Thread Cert.DownGradientIdeal.nD Cert.DownGradientIdeal.τ).loc Cert.DownGradientIdeal.main_arg1) = m ((c.tc : Thread Cert.DownGradientIdeal.nD Cert.DownGradientIdeal.τ).loc Cert.DownGradientIdeal.main_arg1))
      ∧ θ_run (Cert.PlainDownGradientIdeal.defs (F := Ideal)) (onTc (τ := Cert.PlainDownGradientIdeal.τ) (Cert.PlainDownGradientIdeal.main (F := Ideal))) ⟨m', fun _ => 0, g'⟩ (fun r => ∀ c : Dev Cert.PlainDownGradientIdeal.nD,
          r.2.mem ((c.tc : Thread Cert.PlainDownGradientIdeal.nD Cert.PlainDownGradientIdeal.τ).loc Cert.PlainDownGradientIdeal.main_v3) = v0 c
          ∧ r.2.mem ((c.tc : Thread Cert.PlainDownGradientIdeal.nD Cert.PlainDownGradientIdeal.τ).loc Cert.PlainDownGradientIdeal.main_arg0) = m' ((c.tc : Thread Cert.PlainDownGradientIdeal.nD Cert.PlainDownGradientIdeal.τ).loc Cert.PlainDownGradientIdeal.main_arg0)
          ∧ r.2.mem ((c.tc : Thread Cert.PlainDownGradientIdeal.nD Cert.PlainDownGradientIdeal.τ).loc Cert.PlainDownGradientIdeal.main_arg1) = m' ((c.tc : Thread Cert.PlainDownGradientIdeal.nD Cert.PlainDownGradientIdeal.τ).loc Cert.PlainDownGradientIdeal.main_arg1))

def preserves_InGradient_InGradientIdeal : Prop :=
  True

def algebraic_InGradientIdeal_PlainInGradientIdeal [hInGradientIdeal : Cert.InGradientIdeal.Facts] [hPlainInGradientIdeal : Cert.PlainInGradientIdeal.Facts] : Prop :=
  ∀ (m : (ℓ : Loc Cert.InGradientIdeal.nD Cert.InGradientIdeal.τ Cert.InGradientIdeal.sig) → Buf (Elt Ideal) ℓ) (g : Dev Cert.InGradientIdeal.nD → PrngReg)
    (m' : (ℓ : Loc Cert.PlainInGradientIdeal.nD Cert.PlainInGradientIdeal.τ Cert.PlainInGradientIdeal.sig) → Buf (Elt Ideal) ℓ) (g' : Dev Cert.PlainInGradientIdeal.nD → PrngReg), Pre_InGradientIdeal m →
    (∀ c : Dev Cert.InGradientIdeal.nD,
      m' ((c.tc : Thread Cert.PlainInGradientIdeal.nD Cert.PlainInGradientIdeal.τ).loc Cert.PlainInGradientIdeal.main_arg0) = m ((c.tc : Thread Cert.InGradientIdeal.nD Cert.InGradientIdeal.τ).loc Cert.InGradientIdeal.main_arg0)
      ∧ m' ((c.tc : Thread Cert.PlainInGradientIdeal.nD Cert.PlainInGradientIdeal.τ).loc Cert.PlainInGradientIdeal.main_arg1) = m ((c.tc : Thread Cert.InGradientIdeal.nD Cert.InGradientIdeal.τ).loc Cert.InGradientIdeal.main_arg1)) →
    ∃ (v0 : (c : Dev Cert.InGradientIdeal.nD) → Buf (Elt Ideal) ((c.tc : Thread Cert.InGradientIdeal.nD Cert.InGradientIdeal.τ).loc Cert.InGradientIdeal.main_v0)),
      θ_run (Cert.InGradientIdeal.defs (F := Ideal)) (onTc (τ := Cert.InGradientIdeal.τ) (Cert.InGradientIdeal.main (F := Ideal))) ⟨m, fun _ => 0, g⟩ (fun r => ∀ c : Dev Cert.InGradientIdeal.nD,
          r.2.mem ((c.tc : Thread Cert.InGradientIdeal.nD Cert.InGradientIdeal.τ).loc Cert.InGradientIdeal.main_v0) = v0 c
          ∧ r.2.mem ((c.tc : Thread Cert.InGradientIdeal.nD Cert.InGradientIdeal.τ).loc Cert.InGradientIdeal.main_arg0) = m ((c.tc : Thread Cert.InGradientIdeal.nD Cert.InGradientIdeal.τ).loc Cert.InGradientIdeal.main_arg0)
          ∧ r.2.mem ((c.tc : Thread Cert.InGradientIdeal.nD Cert.InGradientIdeal.τ).loc Cert.InGradientIdeal.main_arg1) = m ((c.tc : Thread Cert.InGradientIdeal.nD Cert.InGradientIdeal.τ).loc Cert.InGradientIdeal.main_arg1))
      ∧ θ_run (Cert.PlainInGradientIdeal.defs (F := Ideal)) (onTc (τ := Cert.PlainInGradientIdeal.τ) (Cert.PlainInGradientIdeal.main (F := Ideal))) ⟨m', fun _ => 0, g'⟩ (fun r => ∀ c : Dev Cert.PlainInGradientIdeal.nD,
          r.2.mem ((c.tc : Thread Cert.PlainInGradientIdeal.nD Cert.PlainInGradientIdeal.τ).loc Cert.PlainInGradientIdeal.main_v3) = v0 c
          ∧ r.2.mem ((c.tc : Thread Cert.PlainInGradientIdeal.nD Cert.PlainInGradientIdeal.τ).loc Cert.PlainInGradientIdeal.main_arg0) = m' ((c.tc : Thread Cert.PlainInGradientIdeal.nD Cert.PlainInGradientIdeal.τ).loc Cert.PlainInGradientIdeal.main_arg0)
          ∧ r.2.mem ((c.tc : Thread Cert.PlainInGradientIdeal.nD Cert.PlainInGradientIdeal.τ).loc Cert.PlainInGradientIdeal.main_arg1) = m' ((c.tc : Thread Cert.PlainInGradientIdeal.nD Cert.PlainInGradientIdeal.τ).loc Cert.PlainInGradientIdeal.main_arg1))

def preserves_OutGradient_OutGradientIdeal : Prop :=
  True

def algebraic_OutGradientIdeal_PlainOutGradientIdeal [hOutGradientIdeal : Cert.OutGradientIdeal.Facts] [hPlainOutGradientIdeal : Cert.PlainOutGradientIdeal.Facts] : Prop :=
  ∀ (m : (ℓ : Loc Cert.OutGradientIdeal.nD Cert.OutGradientIdeal.τ Cert.OutGradientIdeal.sig) → Buf (Elt Ideal) ℓ) (g : Dev Cert.OutGradientIdeal.nD → PrngReg)
    (m' : (ℓ : Loc Cert.PlainOutGradientIdeal.nD Cert.PlainOutGradientIdeal.τ Cert.PlainOutGradientIdeal.sig) → Buf (Elt Ideal) ℓ) (g' : Dev Cert.PlainOutGradientIdeal.nD → PrngReg), Pre_OutGradientIdeal m →
    (∀ c : Dev Cert.OutGradientIdeal.nD,
      m' ((c.tc : Thread Cert.PlainOutGradientIdeal.nD Cert.PlainOutGradientIdeal.τ).loc Cert.PlainOutGradientIdeal.main_arg0) = m ((c.tc : Thread Cert.OutGradientIdeal.nD Cert.OutGradientIdeal.τ).loc Cert.OutGradientIdeal.main_arg0)
      ∧ m' ((c.tc : Thread Cert.PlainOutGradientIdeal.nD Cert.PlainOutGradientIdeal.τ).loc Cert.PlainOutGradientIdeal.main_arg1) = m ((c.tc : Thread Cert.OutGradientIdeal.nD Cert.OutGradientIdeal.τ).loc Cert.OutGradientIdeal.main_arg1)) →
    ∃ (v0 : (c : Dev Cert.OutGradientIdeal.nD) → Buf (Elt Ideal) ((c.tc : Thread Cert.OutGradientIdeal.nD Cert.OutGradientIdeal.τ).loc Cert.OutGradientIdeal.main_v0)),
      θ_run (Cert.OutGradientIdeal.defs (F := Ideal)) (onTc (τ := Cert.OutGradientIdeal.τ) (Cert.OutGradientIdeal.main (F := Ideal))) ⟨m, fun _ => 0, g⟩ (fun r => ∀ c : Dev Cert.OutGradientIdeal.nD,
          r.2.mem ((c.tc : Thread Cert.OutGradientIdeal.nD Cert.OutGradientIdeal.τ).loc Cert.OutGradientIdeal.main_v0) = v0 c
          ∧ r.2.mem ((c.tc : Thread Cert.OutGradientIdeal.nD Cert.OutGradientIdeal.τ).loc Cert.OutGradientIdeal.main_arg0) = m ((c.tc : Thread Cert.OutGradientIdeal.nD Cert.OutGradientIdeal.τ).loc Cert.OutGradientIdeal.main_arg0)
          ∧ r.2.mem ((c.tc : Thread Cert.OutGradientIdeal.nD Cert.OutGradientIdeal.τ).loc Cert.OutGradientIdeal.main_arg1) = m ((c.tc : Thread Cert.OutGradientIdeal.nD Cert.OutGradientIdeal.τ).loc Cert.OutGradientIdeal.main_arg1))
      ∧ θ_run (Cert.PlainOutGradientIdeal.defs (F := Ideal)) (onTc (τ := Cert.PlainOutGradientIdeal.τ) (Cert.PlainOutGradientIdeal.main (F := Ideal))) ⟨m', fun _ => 0, g'⟩ (fun r => ∀ c : Dev Cert.PlainOutGradientIdeal.nD,
          r.2.mem ((c.tc : Thread Cert.PlainOutGradientIdeal.nD Cert.PlainOutGradientIdeal.τ).loc Cert.PlainOutGradientIdeal.main_v3) = v0 c
          ∧ r.2.mem ((c.tc : Thread Cert.PlainOutGradientIdeal.nD Cert.PlainOutGradientIdeal.τ).loc Cert.PlainOutGradientIdeal.main_arg0) = m' ((c.tc : Thread Cert.PlainOutGradientIdeal.nD Cert.PlainOutGradientIdeal.τ).loc Cert.PlainOutGradientIdeal.main_arg0)
          ∧ r.2.mem ((c.tc : Thread Cert.PlainOutGradientIdeal.nD Cert.PlainOutGradientIdeal.τ).loc Cert.PlainOutGradientIdeal.main_arg1) = m' ((c.tc : Thread Cert.PlainOutGradientIdeal.nD Cert.PlainOutGradientIdeal.τ).loc Cert.PlainOutGradientIdeal.main_arg1))

def preserves_GluGradient_GluGradientIdeal : Prop :=
  True

def algebraic_GluGradientIdeal_PlainGluGradientIdeal [hGluGradientIdeal : Cert.GluGradientIdeal.Facts] [hPlainGluGradientIdeal : Cert.PlainGluGradientIdeal.Facts] : Prop :=
  ∀ (m : (ℓ : Loc Cert.GluGradientIdeal.nD Cert.GluGradientIdeal.τ Cert.GluGradientIdeal.sig) → Buf (Elt Ideal) ℓ) (g : Dev Cert.GluGradientIdeal.nD → PrngReg)
    (m' : (ℓ : Loc Cert.PlainGluGradientIdeal.nD Cert.PlainGluGradientIdeal.τ Cert.PlainGluGradientIdeal.sig) → Buf (Elt Ideal) ℓ) (g' : Dev Cert.PlainGluGradientIdeal.nD → PrngReg), Pre_GluGradientIdeal m →
    (∀ c : Dev Cert.GluGradientIdeal.nD,
      m' ((c.tc : Thread Cert.PlainGluGradientIdeal.nD Cert.PlainGluGradientIdeal.τ).loc Cert.PlainGluGradientIdeal.main_arg0) = m ((c.tc : Thread Cert.GluGradientIdeal.nD Cert.GluGradientIdeal.τ).loc Cert.GluGradientIdeal.main_arg0)
      ∧ m' ((c.tc : Thread Cert.PlainGluGradientIdeal.nD Cert.PlainGluGradientIdeal.τ).loc Cert.PlainGluGradientIdeal.main_arg1) = m ((c.tc : Thread Cert.GluGradientIdeal.nD Cert.GluGradientIdeal.τ).loc Cert.GluGradientIdeal.main_arg1)) →
    ∃ (v0 : (c : Dev Cert.GluGradientIdeal.nD) → Buf (Elt Ideal) ((c.tc : Thread Cert.GluGradientIdeal.nD Cert.GluGradientIdeal.τ).loc Cert.GluGradientIdeal.main_v0)),
      θ_run (Cert.GluGradientIdeal.defs (F := Ideal)) (onTc (τ := Cert.GluGradientIdeal.τ) (Cert.GluGradientIdeal.main (F := Ideal))) ⟨m, fun _ => 0, g⟩ (fun r => ∀ c : Dev Cert.GluGradientIdeal.nD,
          r.2.mem ((c.tc : Thread Cert.GluGradientIdeal.nD Cert.GluGradientIdeal.τ).loc Cert.GluGradientIdeal.main_v0) = v0 c
          ∧ r.2.mem ((c.tc : Thread Cert.GluGradientIdeal.nD Cert.GluGradientIdeal.τ).loc Cert.GluGradientIdeal.main_arg0) = m ((c.tc : Thread Cert.GluGradientIdeal.nD Cert.GluGradientIdeal.τ).loc Cert.GluGradientIdeal.main_arg0)
          ∧ r.2.mem ((c.tc : Thread Cert.GluGradientIdeal.nD Cert.GluGradientIdeal.τ).loc Cert.GluGradientIdeal.main_arg1) = m ((c.tc : Thread Cert.GluGradientIdeal.nD Cert.GluGradientIdeal.τ).loc Cert.GluGradientIdeal.main_arg1))
      ∧ θ_run (Cert.PlainGluGradientIdeal.defs (F := Ideal)) (onTc (τ := Cert.PlainGluGradientIdeal.τ) (Cert.PlainGluGradientIdeal.main (F := Ideal))) ⟨m', fun _ => 0, g'⟩ (fun r => ∀ c : Dev Cert.PlainGluGradientIdeal.nD,
          r.2.mem ((c.tc : Thread Cert.PlainGluGradientIdeal.nD Cert.PlainGluGradientIdeal.τ).loc Cert.PlainGluGradientIdeal.main_v3) = v0 c
          ∧ r.2.mem ((c.tc : Thread Cert.PlainGluGradientIdeal.nD Cert.PlainGluGradientIdeal.τ).loc Cert.PlainGluGradientIdeal.main_arg0) = m' ((c.tc : Thread Cert.PlainGluGradientIdeal.nD Cert.PlainGluGradientIdeal.τ).loc Cert.PlainGluGradientIdeal.main_arg0)
          ∧ r.2.mem ((c.tc : Thread Cert.PlainGluGradientIdeal.nD Cert.PlainGluGradientIdeal.τ).loc Cert.PlainGluGradientIdeal.main_arg1) = m' ((c.tc : Thread Cert.PlainGluGradientIdeal.nD Cert.PlainGluGradientIdeal.τ).loc Cert.PlainGluGradientIdeal.main_arg1))

def preserves_UpGradient_UpGradientIdeal : Prop :=
  True

def algebraic_UpGradientIdeal_PlainUpGradientIdeal [hUpGradientIdeal : Cert.UpGradientIdeal.Facts] [hPlainUpGradientIdeal : Cert.PlainUpGradientIdeal.Facts] : Prop :=
  ∀ (m : (ℓ : Loc Cert.UpGradientIdeal.nD Cert.UpGradientIdeal.τ Cert.UpGradientIdeal.sig) → Buf (Elt Ideal) ℓ) (g : Dev Cert.UpGradientIdeal.nD → PrngReg)
    (m' : (ℓ : Loc Cert.PlainUpGradientIdeal.nD Cert.PlainUpGradientIdeal.τ Cert.PlainUpGradientIdeal.sig) → Buf (Elt Ideal) ℓ) (g' : Dev Cert.PlainUpGradientIdeal.nD → PrngReg), Pre_UpGradientIdeal m →
    (∀ c : Dev Cert.UpGradientIdeal.nD,
      m' ((c.tc : Thread Cert.PlainUpGradientIdeal.nD Cert.PlainUpGradientIdeal.τ).loc Cert.PlainUpGradientIdeal.main_arg0) = m ((c.tc : Thread Cert.UpGradientIdeal.nD Cert.UpGradientIdeal.τ).loc Cert.UpGradientIdeal.main_arg0)
      ∧ m' ((c.tc : Thread Cert.PlainUpGradientIdeal.nD Cert.PlainUpGradientIdeal.τ).loc Cert.PlainUpGradientIdeal.main_arg1) = m ((c.tc : Thread Cert.UpGradientIdeal.nD Cert.UpGradientIdeal.τ).loc Cert.UpGradientIdeal.main_arg1)) →
    ∃ (v0 : (c : Dev Cert.UpGradientIdeal.nD) → Buf (Elt Ideal) ((c.tc : Thread Cert.UpGradientIdeal.nD Cert.UpGradientIdeal.τ).loc Cert.UpGradientIdeal.main_v0)),
      θ_run (Cert.UpGradientIdeal.defs (F := Ideal)) (onTc (τ := Cert.UpGradientIdeal.τ) (Cert.UpGradientIdeal.main (F := Ideal))) ⟨m, fun _ => 0, g⟩ (fun r => ∀ c : Dev Cert.UpGradientIdeal.nD,
          r.2.mem ((c.tc : Thread Cert.UpGradientIdeal.nD Cert.UpGradientIdeal.τ).loc Cert.UpGradientIdeal.main_v0) = v0 c
          ∧ r.2.mem ((c.tc : Thread Cert.UpGradientIdeal.nD Cert.UpGradientIdeal.τ).loc Cert.UpGradientIdeal.main_arg0) = m ((c.tc : Thread Cert.UpGradientIdeal.nD Cert.UpGradientIdeal.τ).loc Cert.UpGradientIdeal.main_arg0)
          ∧ r.2.mem ((c.tc : Thread Cert.UpGradientIdeal.nD Cert.UpGradientIdeal.τ).loc Cert.UpGradientIdeal.main_arg1) = m ((c.tc : Thread Cert.UpGradientIdeal.nD Cert.UpGradientIdeal.τ).loc Cert.UpGradientIdeal.main_arg1))
      ∧ θ_run (Cert.PlainUpGradientIdeal.defs (F := Ideal)) (onTc (τ := Cert.PlainUpGradientIdeal.τ) (Cert.PlainUpGradientIdeal.main (F := Ideal))) ⟨m', fun _ => 0, g'⟩ (fun r => ∀ c : Dev Cert.PlainUpGradientIdeal.nD,
          r.2.mem ((c.tc : Thread Cert.PlainUpGradientIdeal.nD Cert.PlainUpGradientIdeal.τ).loc Cert.PlainUpGradientIdeal.main_v3) = v0 c
          ∧ r.2.mem ((c.tc : Thread Cert.PlainUpGradientIdeal.nD Cert.PlainUpGradientIdeal.τ).loc Cert.PlainUpGradientIdeal.main_arg0) = m' ((c.tc : Thread Cert.PlainUpGradientIdeal.nD Cert.PlainUpGradientIdeal.τ).loc Cert.PlainUpGradientIdeal.main_arg0)
          ∧ r.2.mem ((c.tc : Thread Cert.PlainUpGradientIdeal.nD Cert.PlainUpGradientIdeal.τ).loc Cert.PlainUpGradientIdeal.main_arg1) = m' ((c.tc : Thread Cert.PlainUpGradientIdeal.nD Cert.PlainUpGradientIdeal.τ).loc Cert.PlainUpGradientIdeal.main_arg1))

def preserves_OutputGradient_OutputGradientIdeal : Prop :=
  True

def algebraic_OutputGradientIdeal_PlainOutputGradientIdeal [hOutputGradientIdeal : Cert.OutputGradientIdeal.Facts] [hPlainOutputGradientIdeal : Cert.PlainOutputGradientIdeal.Facts] : Prop :=
  ∀ (m : (ℓ : Loc Cert.OutputGradientIdeal.nD Cert.OutputGradientIdeal.τ Cert.OutputGradientIdeal.sig) → Buf (Elt Ideal) ℓ) (g : Dev Cert.OutputGradientIdeal.nD → PrngReg)
    (m' : (ℓ : Loc Cert.PlainOutputGradientIdeal.nD Cert.PlainOutputGradientIdeal.τ Cert.PlainOutputGradientIdeal.sig) → Buf (Elt Ideal) ℓ) (g' : Dev Cert.PlainOutputGradientIdeal.nD → PrngReg), Pre_OutputGradientIdeal m →
    (∀ c : Dev Cert.OutputGradientIdeal.nD,
      m' ((c.tc : Thread Cert.PlainOutputGradientIdeal.nD Cert.PlainOutputGradientIdeal.τ).loc Cert.PlainOutputGradientIdeal.main_arg0) = m ((c.tc : Thread Cert.OutputGradientIdeal.nD Cert.OutputGradientIdeal.τ).loc Cert.OutputGradientIdeal.main_arg0)
      ∧ m' ((c.tc : Thread Cert.PlainOutputGradientIdeal.nD Cert.PlainOutputGradientIdeal.τ).loc Cert.PlainOutputGradientIdeal.main_arg1) = m ((c.tc : Thread Cert.OutputGradientIdeal.nD Cert.OutputGradientIdeal.τ).loc Cert.OutputGradientIdeal.main_arg1)
      ∧ m' ((c.tc : Thread Cert.PlainOutputGradientIdeal.nD Cert.PlainOutputGradientIdeal.τ).loc Cert.PlainOutputGradientIdeal.main_arg2) = m ((c.tc : Thread Cert.OutputGradientIdeal.nD Cert.OutputGradientIdeal.τ).loc Cert.OutputGradientIdeal.main_arg2)
      ∧ m' ((c.tc : Thread Cert.PlainOutputGradientIdeal.nD Cert.PlainOutputGradientIdeal.τ).loc Cert.PlainOutputGradientIdeal.main_arg3) = m ((c.tc : Thread Cert.OutputGradientIdeal.nD Cert.OutputGradientIdeal.τ).loc Cert.OutputGradientIdeal.main_arg3)) →
    ∃ (v0 : (c : Dev Cert.OutputGradientIdeal.nD) → Buf (Elt Ideal) ((c.tc : Thread Cert.OutputGradientIdeal.nD Cert.OutputGradientIdeal.τ).loc Cert.OutputGradientIdeal.main_v0_0)) (v1 : (c : Dev Cert.OutputGradientIdeal.nD) → Buf (Elt Ideal) ((c.tc : Thread Cert.OutputGradientIdeal.nD Cert.OutputGradientIdeal.τ).loc Cert.OutputGradientIdeal.main_v0_1)) (v2 : (c : Dev Cert.OutputGradientIdeal.nD) → Buf (Elt Ideal) ((c.tc : Thread Cert.OutputGradientIdeal.nD Cert.OutputGradientIdeal.τ).loc Cert.OutputGradientIdeal.main_v0_2)),
      θ_run (Cert.OutputGradientIdeal.defs (F := Ideal)) (onTc (τ := Cert.OutputGradientIdeal.τ) (Cert.OutputGradientIdeal.main (F := Ideal))) ⟨m, fun _ => 0, g⟩ (fun r => ∀ c : Dev Cert.OutputGradientIdeal.nD,
          r.2.mem ((c.tc : Thread Cert.OutputGradientIdeal.nD Cert.OutputGradientIdeal.τ).loc Cert.OutputGradientIdeal.main_v0_0) = v0 c
          ∧ r.2.mem ((c.tc : Thread Cert.OutputGradientIdeal.nD Cert.OutputGradientIdeal.τ).loc Cert.OutputGradientIdeal.main_v0_1) = v1 c
          ∧ r.2.mem ((c.tc : Thread Cert.OutputGradientIdeal.nD Cert.OutputGradientIdeal.τ).loc Cert.OutputGradientIdeal.main_v0_2) = v2 c
          ∧ r.2.mem ((c.tc : Thread Cert.OutputGradientIdeal.nD Cert.OutputGradientIdeal.τ).loc Cert.OutputGradientIdeal.main_arg0) = m ((c.tc : Thread Cert.OutputGradientIdeal.nD Cert.OutputGradientIdeal.τ).loc Cert.OutputGradientIdeal.main_arg0)
          ∧ r.2.mem ((c.tc : Thread Cert.OutputGradientIdeal.nD Cert.OutputGradientIdeal.τ).loc Cert.OutputGradientIdeal.main_arg1) = m ((c.tc : Thread Cert.OutputGradientIdeal.nD Cert.OutputGradientIdeal.τ).loc Cert.OutputGradientIdeal.main_arg1)
          ∧ r.2.mem ((c.tc : Thread Cert.OutputGradientIdeal.nD Cert.OutputGradientIdeal.τ).loc Cert.OutputGradientIdeal.main_arg2) = m ((c.tc : Thread Cert.OutputGradientIdeal.nD Cert.OutputGradientIdeal.τ).loc Cert.OutputGradientIdeal.main_arg2)
          ∧ r.2.mem ((c.tc : Thread Cert.OutputGradientIdeal.nD Cert.OutputGradientIdeal.τ).loc Cert.OutputGradientIdeal.main_arg3) = m ((c.tc : Thread Cert.OutputGradientIdeal.nD Cert.OutputGradientIdeal.τ).loc Cert.OutputGradientIdeal.main_arg3))
      ∧ θ_run (Cert.PlainOutputGradientIdeal.defs (F := Ideal)) (onTc (τ := Cert.PlainOutputGradientIdeal.τ) (Cert.PlainOutputGradientIdeal.main (F := Ideal))) ⟨m', fun _ => 0, g'⟩ (fun r => ∀ c : Dev Cert.PlainOutputGradientIdeal.nD,
          r.2.mem ((c.tc : Thread Cert.PlainOutputGradientIdeal.nD Cert.PlainOutputGradientIdeal.τ).loc Cert.PlainOutputGradientIdeal.main_v6) = v0 c
          ∧ r.2.mem ((c.tc : Thread Cert.PlainOutputGradientIdeal.nD Cert.PlainOutputGradientIdeal.τ).loc Cert.PlainOutputGradientIdeal.main_v7) = v1 c
          ∧ r.2.mem ((c.tc : Thread Cert.PlainOutputGradientIdeal.nD Cert.PlainOutputGradientIdeal.τ).loc Cert.PlainOutputGradientIdeal.main_v10) = v2 c
          ∧ r.2.mem ((c.tc : Thread Cert.PlainOutputGradientIdeal.nD Cert.PlainOutputGradientIdeal.τ).loc Cert.PlainOutputGradientIdeal.main_arg0) = m' ((c.tc : Thread Cert.PlainOutputGradientIdeal.nD Cert.PlainOutputGradientIdeal.τ).loc Cert.PlainOutputGradientIdeal.main_arg0)
          ∧ r.2.mem ((c.tc : Thread Cert.PlainOutputGradientIdeal.nD Cert.PlainOutputGradientIdeal.τ).loc Cert.PlainOutputGradientIdeal.main_arg1) = m' ((c.tc : Thread Cert.PlainOutputGradientIdeal.nD Cert.PlainOutputGradientIdeal.τ).loc Cert.PlainOutputGradientIdeal.main_arg1)
          ∧ r.2.mem ((c.tc : Thread Cert.PlainOutputGradientIdeal.nD Cert.PlainOutputGradientIdeal.τ).loc Cert.PlainOutputGradientIdeal.main_arg2) = m' ((c.tc : Thread Cert.PlainOutputGradientIdeal.nD Cert.PlainOutputGradientIdeal.τ).loc Cert.PlainOutputGradientIdeal.main_arg2)
          ∧ r.2.mem ((c.tc : Thread Cert.PlainOutputGradientIdeal.nD Cert.PlainOutputGradientIdeal.τ).loc Cert.PlainOutputGradientIdeal.main_arg3) = m' ((c.tc : Thread Cert.PlainOutputGradientIdeal.nD Cert.PlainOutputGradientIdeal.τ).loc Cert.PlainOutputGradientIdeal.main_arg3))

def preserves_Mix_MixIdeal : Prop :=
  True

def algebraic_MixIdeal_PlainMixIdeal [hMixIdeal : Cert.MixIdeal.Facts] [hPlainMixIdeal : Cert.PlainMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.PlainMixIdeal.nD Cert.PlainMixIdeal.τ Cert.PlainMixIdeal.sig) → Buf (Elt Ideal) ℓ) (g' : Dev Cert.PlainMixIdeal.nD → PrngReg), Pre_MixIdeal m →
    (∀ c : Dev Cert.MixIdeal.nD,
      m' ((c.tc : Thread Cert.PlainMixIdeal.nD Cert.PlainMixIdeal.τ).loc Cert.PlainMixIdeal.main_arg0) = m ((c.tc : Thread Cert.MixIdeal.nD Cert.MixIdeal.τ).loc Cert.MixIdeal.main_arg0)
      ∧ m' ((c.tc : Thread Cert.PlainMixIdeal.nD Cert.PlainMixIdeal.τ).loc Cert.PlainMixIdeal.main_arg1) = m ((c.tc : Thread Cert.MixIdeal.nD Cert.MixIdeal.τ).loc Cert.MixIdeal.main_arg1)
      ∧ m' ((c.tc : Thread Cert.PlainMixIdeal.nD Cert.PlainMixIdeal.τ).loc Cert.PlainMixIdeal.main_arg2) = m ((c.tc : Thread Cert.MixIdeal.nD Cert.MixIdeal.τ).loc Cert.MixIdeal.main_arg2)
      ∧ m' ((c.tc : Thread Cert.PlainMixIdeal.nD Cert.PlainMixIdeal.τ).loc Cert.PlainMixIdeal.main_arg3) = m ((c.tc : Thread Cert.MixIdeal.nD Cert.MixIdeal.τ).loc Cert.MixIdeal.main_arg3)
      ∧ m' ((c.tc : Thread Cert.PlainMixIdeal.nD Cert.PlainMixIdeal.τ).loc Cert.PlainMixIdeal.main_arg4) = m ((c.tc : Thread Cert.MixIdeal.nD Cert.MixIdeal.τ).loc Cert.MixIdeal.main_arg4)
      ∧ m' ((c.tc : Thread Cert.PlainMixIdeal.nD Cert.PlainMixIdeal.τ).loc Cert.PlainMixIdeal.main_arg5) = m ((c.tc : Thread Cert.MixIdeal.nD Cert.MixIdeal.τ).loc Cert.MixIdeal.main_arg5)
      ∧ m' ((c.tc : Thread Cert.PlainMixIdeal.nD Cert.PlainMixIdeal.τ).loc Cert.PlainMixIdeal.main_arg6) = m ((c.tc : Thread Cert.MixIdeal.nD Cert.MixIdeal.τ).loc Cert.MixIdeal.main_arg6)
      ∧ m' ((c.tc : Thread Cert.PlainMixIdeal.nD Cert.PlainMixIdeal.τ).loc Cert.PlainMixIdeal.main_arg7) = m ((c.tc : Thread Cert.MixIdeal.nD Cert.MixIdeal.τ).loc Cert.MixIdeal.main_arg7)
      ∧ m' ((c.tc : Thread Cert.PlainMixIdeal.nD Cert.PlainMixIdeal.τ).loc Cert.PlainMixIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.PlainMixIdeal.defs (F := Ideal)) (onTc (τ := Cert.PlainMixIdeal.τ) (Cert.PlainMixIdeal.main (F := Ideal))) ⟨m', fun _ => 0, g'⟩ (fun r => ∀ c : Dev Cert.PlainMixIdeal.nD,
          r.2.mem ((c.tc : Thread Cert.PlainMixIdeal.nD Cert.PlainMixIdeal.τ).loc Cert.PlainMixIdeal.main_v51) = v0 c
          ∧ r.2.mem ((c.tc : Thread Cert.PlainMixIdeal.nD Cert.PlainMixIdeal.τ).loc Cert.PlainMixIdeal.main_v55) = v1 c
          ∧ r.2.mem ((c.tc : Thread Cert.PlainMixIdeal.nD Cert.PlainMixIdeal.τ).loc Cert.PlainMixIdeal.main_v68) = v2 c
          ∧ r.2.mem ((c.tc : Thread Cert.PlainMixIdeal.nD Cert.PlainMixIdeal.τ).loc Cert.PlainMixIdeal.main_arg0) = m' ((c.tc : Thread Cert.PlainMixIdeal.nD Cert.PlainMixIdeal.τ).loc Cert.PlainMixIdeal.main_arg0)
          ∧ r.2.mem ((c.tc : Thread Cert.PlainMixIdeal.nD Cert.PlainMixIdeal.τ).loc Cert.PlainMixIdeal.main_arg1) = m' ((c.tc : Thread Cert.PlainMixIdeal.nD Cert.PlainMixIdeal.τ).loc Cert.PlainMixIdeal.main_arg1)
          ∧ r.2.mem ((c.tc : Thread Cert.PlainMixIdeal.nD Cert.PlainMixIdeal.τ).loc Cert.PlainMixIdeal.main_arg2) = m' ((c.tc : Thread Cert.PlainMixIdeal.nD Cert.PlainMixIdeal.τ).loc Cert.PlainMixIdeal.main_arg2)
          ∧ r.2.mem ((c.tc : Thread Cert.PlainMixIdeal.nD Cert.PlainMixIdeal.τ).loc Cert.PlainMixIdeal.main_arg3) = m' ((c.tc : Thread Cert.PlainMixIdeal.nD Cert.PlainMixIdeal.τ).loc Cert.PlainMixIdeal.main_arg3)
          ∧ r.2.mem ((c.tc : Thread Cert.PlainMixIdeal.nD Cert.PlainMixIdeal.τ).loc Cert.PlainMixIdeal.main_arg4) = m' ((c.tc : Thread Cert.PlainMixIdeal.nD Cert.PlainMixIdeal.τ).loc Cert.PlainMixIdeal.main_arg4)
          ∧ r.2.mem ((c.tc : Thread Cert.PlainMixIdeal.nD Cert.PlainMixIdeal.τ).loc Cert.PlainMixIdeal.main_arg5) = m' ((c.tc : Thread Cert.PlainMixIdeal.nD Cert.PlainMixIdeal.τ).loc Cert.PlainMixIdeal.main_arg5)
          ∧ r.2.mem ((c.tc : Thread Cert.PlainMixIdeal.nD Cert.PlainMixIdeal.τ).loc Cert.PlainMixIdeal.main_arg6) = m' ((c.tc : Thread Cert.PlainMixIdeal.nD Cert.PlainMixIdeal.τ).loc Cert.PlainMixIdeal.main_arg6)
          ∧ r.2.mem ((c.tc : Thread Cert.PlainMixIdeal.nD Cert.PlainMixIdeal.τ).loc Cert.PlainMixIdeal.main_arg7) = m' ((c.tc : Thread Cert.PlainMixIdeal.nD Cert.PlainMixIdeal.τ).loc Cert.PlainMixIdeal.main_arg7)
          ∧ r.2.mem ((c.tc : Thread Cert.PlainMixIdeal.nD Cert.PlainMixIdeal.τ).loc Cert.PlainMixIdeal.main_arg8) = m' ((c.tc : Thread Cert.PlainMixIdeal.nD Cert.PlainMixIdeal.τ).loc Cert.PlainMixIdeal.main_arg8))

def preserves_MixGradient_MixGradientIdeal : Prop :=
  True

def algebraic_MixGradientIdeal_PlainMixGradientIdeal [hMixGradientIdeal : Cert.MixGradientIdeal.Facts] [hPlainMixGradientIdeal : Cert.PlainMixGradientIdeal.Facts] : Prop :=
  ∀ (m : (ℓ : Loc Cert.MixGradientIdeal.nD Cert.MixGradientIdeal.τ Cert.MixGradientIdeal.sig) → Buf (Elt Ideal) ℓ) (g : Dev Cert.MixGradientIdeal.nD → PrngReg)
    (m' : (ℓ : Loc Cert.PlainMixGradientIdeal.nD Cert.PlainMixGradientIdeal.τ Cert.PlainMixGradientIdeal.sig) → Buf (Elt Ideal) ℓ) (g' : Dev Cert.PlainMixGradientIdeal.nD → PrngReg), Pre_MixGradientIdeal m →
    (∀ c : Dev Cert.MixGradientIdeal.nD,
      m' ((c.tc : Thread Cert.PlainMixGradientIdeal.nD Cert.PlainMixGradientIdeal.τ).loc Cert.PlainMixGradientIdeal.main_arg0) = m ((c.tc : Thread Cert.MixGradientIdeal.nD Cert.MixGradientIdeal.τ).loc Cert.MixGradientIdeal.main_arg0)
      ∧ m' ((c.tc : Thread Cert.PlainMixGradientIdeal.nD Cert.PlainMixGradientIdeal.τ).loc Cert.PlainMixGradientIdeal.main_arg1) = m ((c.tc : Thread Cert.MixGradientIdeal.nD Cert.MixGradientIdeal.τ).loc Cert.MixGradientIdeal.main_arg1)
      ∧ m' ((c.tc : Thread Cert.PlainMixGradientIdeal.nD Cert.PlainMixGradientIdeal.τ).loc Cert.PlainMixGradientIdeal.main_arg2) = m ((c.tc : Thread Cert.MixGradientIdeal.nD Cert.MixGradientIdeal.τ).loc Cert.MixGradientIdeal.main_arg2)
      ∧ m' ((c.tc : Thread Cert.PlainMixGradientIdeal.nD Cert.PlainMixGradientIdeal.τ).loc Cert.PlainMixGradientIdeal.main_arg3) = m ((c.tc : Thread Cert.MixGradientIdeal.nD Cert.MixGradientIdeal.τ).loc Cert.MixGradientIdeal.main_arg3)
      ∧ m' ((c.tc : Thread Cert.PlainMixGradientIdeal.nD Cert.PlainMixGradientIdeal.τ).loc Cert.PlainMixGradientIdeal.main_arg4) = m ((c.tc : Thread Cert.MixGradientIdeal.nD Cert.MixGradientIdeal.τ).loc Cert.MixGradientIdeal.main_arg4)
      ∧ m' ((c.tc : Thread Cert.PlainMixGradientIdeal.nD Cert.PlainMixGradientIdeal.τ).loc Cert.PlainMixGradientIdeal.main_arg5) = m ((c.tc : Thread Cert.MixGradientIdeal.nD Cert.MixGradientIdeal.τ).loc Cert.MixGradientIdeal.main_arg5)
      ∧ m' ((c.tc : Thread Cert.PlainMixGradientIdeal.nD Cert.PlainMixGradientIdeal.τ).loc Cert.PlainMixGradientIdeal.main_arg6) = m ((c.tc : Thread Cert.MixGradientIdeal.nD Cert.MixGradientIdeal.τ).loc Cert.MixGradientIdeal.main_arg6)
      ∧ m' ((c.tc : Thread Cert.PlainMixGradientIdeal.nD Cert.PlainMixGradientIdeal.τ).loc Cert.PlainMixGradientIdeal.main_arg7) = m ((c.tc : Thread Cert.MixGradientIdeal.nD Cert.MixGradientIdeal.τ).loc Cert.MixGradientIdeal.main_arg7)
      ∧ m' ((c.tc : Thread Cert.PlainMixGradientIdeal.nD Cert.PlainMixGradientIdeal.τ).loc Cert.PlainMixGradientIdeal.main_arg8) = m ((c.tc : Thread Cert.MixGradientIdeal.nD Cert.MixGradientIdeal.τ).loc Cert.MixGradientIdeal.main_arg8)) →
    ∃ (v0 : (c : Dev Cert.MixGradientIdeal.nD) → Buf (Elt Ideal) ((c.tc : Thread Cert.MixGradientIdeal.nD Cert.MixGradientIdeal.τ).loc Cert.MixGradientIdeal.main_v0_0)) (v1 : (c : Dev Cert.MixGradientIdeal.nD) → Buf (Elt Ideal) ((c.tc : Thread Cert.MixGradientIdeal.nD Cert.MixGradientIdeal.τ).loc Cert.MixGradientIdeal.main_v0_1)) (v2 : (c : Dev Cert.MixGradientIdeal.nD) → Buf (Elt Ideal) ((c.tc : Thread Cert.MixGradientIdeal.nD Cert.MixGradientIdeal.τ).loc Cert.MixGradientIdeal.main_v0_2)) (v3 : (c : Dev Cert.MixGradientIdeal.nD) → Buf (Elt Ideal) ((c.tc : Thread Cert.MixGradientIdeal.nD Cert.MixGradientIdeal.τ).loc Cert.MixGradientIdeal.main_v0_3)) (v4 : (c : Dev Cert.MixGradientIdeal.nD) → Buf (Elt Ideal) ((c.tc : Thread Cert.MixGradientIdeal.nD Cert.MixGradientIdeal.τ).loc Cert.MixGradientIdeal.main_v0_4)) (v5 : (c : Dev Cert.MixGradientIdeal.nD) → Buf (Elt Ideal) ((c.tc : Thread Cert.MixGradientIdeal.nD Cert.MixGradientIdeal.τ).loc Cert.MixGradientIdeal.main_v0_5)) (v6 : (c : Dev Cert.MixGradientIdeal.nD) → Buf (Elt Ideal) ((c.tc : Thread Cert.MixGradientIdeal.nD Cert.MixGradientIdeal.τ).loc Cert.MixGradientIdeal.main_v0_6)),
      θ_run (Cert.MixGradientIdeal.defs (F := Ideal)) (onTc (τ := Cert.MixGradientIdeal.τ) (Cert.MixGradientIdeal.main (F := Ideal))) ⟨m, fun _ => 0, g⟩ (fun r => ∀ c : Dev Cert.MixGradientIdeal.nD,
          r.2.mem ((c.tc : Thread Cert.MixGradientIdeal.nD Cert.MixGradientIdeal.τ).loc Cert.MixGradientIdeal.main_v0_0) = v0 c
          ∧ r.2.mem ((c.tc : Thread Cert.MixGradientIdeal.nD Cert.MixGradientIdeal.τ).loc Cert.MixGradientIdeal.main_v0_1) = v1 c
          ∧ r.2.mem ((c.tc : Thread Cert.MixGradientIdeal.nD Cert.MixGradientIdeal.τ).loc Cert.MixGradientIdeal.main_v0_2) = v2 c
          ∧ r.2.mem ((c.tc : Thread Cert.MixGradientIdeal.nD Cert.MixGradientIdeal.τ).loc Cert.MixGradientIdeal.main_v0_3) = v3 c
          ∧ r.2.mem ((c.tc : Thread Cert.MixGradientIdeal.nD Cert.MixGradientIdeal.τ).loc Cert.MixGradientIdeal.main_v0_4) = v4 c
          ∧ r.2.mem ((c.tc : Thread Cert.MixGradientIdeal.nD Cert.MixGradientIdeal.τ).loc Cert.MixGradientIdeal.main_v0_5) = v5 c
          ∧ r.2.mem ((c.tc : Thread Cert.MixGradientIdeal.nD Cert.MixGradientIdeal.τ).loc Cert.MixGradientIdeal.main_v0_6) = v6 c
          ∧ r.2.mem ((c.tc : Thread Cert.MixGradientIdeal.nD Cert.MixGradientIdeal.τ).loc Cert.MixGradientIdeal.main_arg0) = m ((c.tc : Thread Cert.MixGradientIdeal.nD Cert.MixGradientIdeal.τ).loc Cert.MixGradientIdeal.main_arg0)
          ∧ r.2.mem ((c.tc : Thread Cert.MixGradientIdeal.nD Cert.MixGradientIdeal.τ).loc Cert.MixGradientIdeal.main_arg1) = m ((c.tc : Thread Cert.MixGradientIdeal.nD Cert.MixGradientIdeal.τ).loc Cert.MixGradientIdeal.main_arg1)
          ∧ r.2.mem ((c.tc : Thread Cert.MixGradientIdeal.nD Cert.MixGradientIdeal.τ).loc Cert.MixGradientIdeal.main_arg2) = m ((c.tc : Thread Cert.MixGradientIdeal.nD Cert.MixGradientIdeal.τ).loc Cert.MixGradientIdeal.main_arg2)
          ∧ r.2.mem ((c.tc : Thread Cert.MixGradientIdeal.nD Cert.MixGradientIdeal.τ).loc Cert.MixGradientIdeal.main_arg3) = m ((c.tc : Thread Cert.MixGradientIdeal.nD Cert.MixGradientIdeal.τ).loc Cert.MixGradientIdeal.main_arg3)
          ∧ r.2.mem ((c.tc : Thread Cert.MixGradientIdeal.nD Cert.MixGradientIdeal.τ).loc Cert.MixGradientIdeal.main_arg4) = m ((c.tc : Thread Cert.MixGradientIdeal.nD Cert.MixGradientIdeal.τ).loc Cert.MixGradientIdeal.main_arg4)
          ∧ r.2.mem ((c.tc : Thread Cert.MixGradientIdeal.nD Cert.MixGradientIdeal.τ).loc Cert.MixGradientIdeal.main_arg5) = m ((c.tc : Thread Cert.MixGradientIdeal.nD Cert.MixGradientIdeal.τ).loc Cert.MixGradientIdeal.main_arg5)
          ∧ r.2.mem ((c.tc : Thread Cert.MixGradientIdeal.nD Cert.MixGradientIdeal.τ).loc Cert.MixGradientIdeal.main_arg6) = m ((c.tc : Thread Cert.MixGradientIdeal.nD Cert.MixGradientIdeal.τ).loc Cert.MixGradientIdeal.main_arg6)
          ∧ r.2.mem ((c.tc : Thread Cert.MixGradientIdeal.nD Cert.MixGradientIdeal.τ).loc Cert.MixGradientIdeal.main_arg7) = m ((c.tc : Thread Cert.MixGradientIdeal.nD Cert.MixGradientIdeal.τ).loc Cert.MixGradientIdeal.main_arg7)
          ∧ r.2.mem ((c.tc : Thread Cert.MixGradientIdeal.nD Cert.MixGradientIdeal.τ).loc Cert.MixGradientIdeal.main_arg8) = m ((c.tc : Thread Cert.MixGradientIdeal.nD Cert.MixGradientIdeal.τ).loc Cert.MixGradientIdeal.main_arg8))
      ∧ θ_run (Cert.PlainMixGradientIdeal.defs (F := Ideal)) (onTc (τ := Cert.PlainMixGradientIdeal.τ) (Cert.PlainMixGradientIdeal.main (F := Ideal))) ⟨m', fun _ => 0, g'⟩ (fun r => ∀ c : Dev Cert.PlainMixGradientIdeal.nD,
          r.2.mem ((c.tc : Thread Cert.PlainMixGradientIdeal.nD Cert.PlainMixGradientIdeal.τ).loc Cert.PlainMixGradientIdeal.main_v27) = v0 c
          ∧ r.2.mem ((c.tc : Thread Cert.PlainMixGradientIdeal.nD Cert.PlainMixGradientIdeal.τ).loc Cert.PlainMixGradientIdeal.main_v127) = v1 c
          ∧ r.2.mem ((c.tc : Thread Cert.PlainMixGradientIdeal.nD Cert.PlainMixGradientIdeal.τ).loc Cert.PlainMixGradientIdeal.main_v128) = v2 c
          ∧ r.2.mem ((c.tc : Thread Cert.PlainMixGradientIdeal.nD Cert.PlainMixGradientIdeal.τ).loc Cert.PlainMixGradientIdeal.main_v129) = v3 c
          ∧ r.2.mem ((c.tc : Thread Cert.PlainMixGradientIdeal.nD Cert.PlainMixGradientIdeal.τ).loc Cert.PlainMixGradientIdeal.main_v32) = v4 c
          ∧ r.2.mem ((c.tc : Thread Cert.PlainMixGradientIdeal.nD Cert.PlainMixGradientIdeal.τ).loc Cert.PlainMixGradientIdeal.main_v88) = v5 c
          ∧ r.2.mem ((c.tc : Thread Cert.PlainMixGradientIdeal.nD Cert.PlainMixGradientIdeal.τ).loc Cert.PlainMixGradientIdeal.main_v131) = v6 c
          ∧ r.2.mem ((c.tc : Thread Cert.PlainMixGradientIdeal.nD Cert.PlainMixGradientIdeal.τ).loc Cert.PlainMixGradientIdeal.main_arg0) = m' ((c.tc : Thread Cert.PlainMixGradientIdeal.nD Cert.PlainMixGradientIdeal.τ).loc Cert.PlainMixGradientIdeal.main_arg0)
          ∧ r.2.mem ((c.tc : Thread Cert.PlainMixGradientIdeal.nD Cert.PlainMixGradientIdeal.τ).loc Cert.PlainMixGradientIdeal.main_arg1) = m' ((c.tc : Thread Cert.PlainMixGradientIdeal.nD Cert.PlainMixGradientIdeal.τ).loc Cert.PlainMixGradientIdeal.main_arg1)
          ∧ r.2.mem ((c.tc : Thread Cert.PlainMixGradientIdeal.nD Cert.PlainMixGradientIdeal.τ).loc Cert.PlainMixGradientIdeal.main_arg2) = m' ((c.tc : Thread Cert.PlainMixGradientIdeal.nD Cert.PlainMixGradientIdeal.τ).loc Cert.PlainMixGradientIdeal.main_arg2)
          ∧ r.2.mem ((c.tc : Thread Cert.PlainMixGradientIdeal.nD Cert.PlainMixGradientIdeal.τ).loc Cert.PlainMixGradientIdeal.main_arg3) = m' ((c.tc : Thread Cert.PlainMixGradientIdeal.nD Cert.PlainMixGradientIdeal.τ).loc Cert.PlainMixGradientIdeal.main_arg3)
          ∧ r.2.mem ((c.tc : Thread Cert.PlainMixGradientIdeal.nD Cert.PlainMixGradientIdeal.τ).loc Cert.PlainMixGradientIdeal.main_arg4) = m' ((c.tc : Thread Cert.PlainMixGradientIdeal.nD Cert.PlainMixGradientIdeal.τ).loc Cert.PlainMixGradientIdeal.main_arg4)
          ∧ r.2.mem ((c.tc : Thread Cert.PlainMixGradientIdeal.nD Cert.PlainMixGradientIdeal.τ).loc Cert.PlainMixGradientIdeal.main_arg5) = m' ((c.tc : Thread Cert.PlainMixGradientIdeal.nD Cert.PlainMixGradientIdeal.τ).loc Cert.PlainMixGradientIdeal.main_arg5)
          ∧ r.2.mem ((c.tc : Thread Cert.PlainMixGradientIdeal.nD Cert.PlainMixGradientIdeal.τ).loc Cert.PlainMixGradientIdeal.main_arg6) = m' ((c.tc : Thread Cert.PlainMixGradientIdeal.nD Cert.PlainMixGradientIdeal.τ).loc Cert.PlainMixGradientIdeal.main_arg6)
          ∧ r.2.mem ((c.tc : Thread Cert.PlainMixGradientIdeal.nD Cert.PlainMixGradientIdeal.τ).loc Cert.PlainMixGradientIdeal.main_arg7) = m' ((c.tc : Thread Cert.PlainMixGradientIdeal.nD Cert.PlainMixGradientIdeal.τ).loc Cert.PlainMixGradientIdeal.main_arg7)
          ∧ r.2.mem ((c.tc : Thread Cert.PlainMixGradientIdeal.nD Cert.PlainMixGradientIdeal.τ).loc Cert.PlainMixGradientIdeal.main_arg8) = m' ((c.tc : Thread Cert.PlainMixGradientIdeal.nD Cert.PlainMixGradientIdeal.τ).loc Cert.PlainMixGradientIdeal.main_arg8))

def Claim : Prop :=
  ∃ (hKernel : Cert.Kernel.Facts) (hKernelIdeal : Cert.KernelIdeal.Facts) (hReferenceIdeal : Cert.ReferenceIdeal.Facts) (hInputGradient : Cert.InputGradient.Facts) (hInputGradientIdeal : Cert.InputGradientIdeal.Facts) (hPlainInputGradientIdeal : Cert.PlainInputGradientIdeal.Facts) (hLoss : Cert.Loss.Facts) (hLossIdeal : Cert.LossIdeal.Facts) (hPlainLossIdeal : Cert.PlainLossIdeal.Facts) (hMlpUp : Cert.MlpUp.Facts) (hMlpUpIdeal : Cert.MlpUpIdeal.Facts) (hPlainMlpUpIdeal : Cert.PlainMlpUpIdeal.Facts) (hHiddenGradient : Cert.HiddenGradient.Facts) (hHiddenGradientIdeal : Cert.HiddenGradientIdeal.Facts) (hPlainHiddenGradientIdeal : Cert.PlainHiddenGradientIdeal.Facts) (hMlpInputGradient : Cert.MlpInputGradient.Facts) (hMlpInputGradientIdeal : Cert.MlpInputGradientIdeal.Facts) (hPlainMlpInputGradientIdeal : Cert.PlainMlpInputGradientIdeal.Facts) (hDownGradient : Cert.DownGradient.Facts) (hDownGradientIdeal : Cert.DownGradientIdeal.Facts) (hPlainDownGradientIdeal : Cert.PlainDownGradientIdeal.Facts) (hInGradient : Cert.InGradient.Facts) (hInGradientIdeal : Cert.InGradientIdeal.Facts) (hPlainInGradientIdeal : Cert.PlainInGradientIdeal.Facts) (hOutGradient : Cert.OutGradient.Facts) (hOutGradientIdeal : Cert.OutGradientIdeal.Facts) (hPlainOutGradientIdeal : Cert.PlainOutGradientIdeal.Facts) (hGluGradient : Cert.GluGradient.Facts) (hGluGradientIdeal : Cert.GluGradientIdeal.Facts) (hPlainGluGradientIdeal : Cert.PlainGluGradientIdeal.Facts) (hUpGradient : Cert.UpGradient.Facts) (hUpGradientIdeal : Cert.UpGradientIdeal.Facts) (hPlainUpGradientIdeal : Cert.PlainUpGradientIdeal.Facts) (hOutputGradient : Cert.OutputGradient.Facts) (hOutputGradientIdeal : Cert.OutputGradientIdeal.Facts) (hPlainOutputGradientIdeal : Cert.PlainOutputGradientIdeal.Facts) (hMix : Cert.Mix.Facts) (hMixIdeal : Cert.MixIdeal.Facts) (hPlainMixIdeal : Cert.PlainMixIdeal.Facts) (hMixGradient : Cert.MixGradient.Facts) (hMixGradientIdeal : Cert.MixGradientIdeal.Facts) (hPlainMixGradientIdeal : Cert.PlainMixGradientIdeal.Facts),
    quiescent_Kernel (hKernel := hKernel)
    ∧ quiescent_KernelIdeal (hKernelIdeal := hKernelIdeal)
    ∧ quiescent_ReferenceIdeal (hReferenceIdeal := hReferenceIdeal)
    ∧ quiescent_InputGradient (hInputGradient := hInputGradient)
    ∧ quiescent_InputGradientIdeal (hInputGradientIdeal := hInputGradientIdeal)
    ∧ quiescent_PlainInputGradientIdeal (hPlainInputGradientIdeal := hPlainInputGradientIdeal)
    ∧ quiescent_Loss (hLoss := hLoss)
    ∧ quiescent_LossIdeal (hLossIdeal := hLossIdeal)
    ∧ quiescent_PlainLossIdeal (hPlainLossIdeal := hPlainLossIdeal)
    ∧ quiescent_MlpUp (hMlpUp := hMlpUp)
    ∧ quiescent_MlpUpIdeal (hMlpUpIdeal := hMlpUpIdeal)
    ∧ quiescent_PlainMlpUpIdeal (hPlainMlpUpIdeal := hPlainMlpUpIdeal)
    ∧ quiescent_HiddenGradient (hHiddenGradient := hHiddenGradient)
    ∧ quiescent_HiddenGradientIdeal (hHiddenGradientIdeal := hHiddenGradientIdeal)
    ∧ quiescent_PlainHiddenGradientIdeal (hPlainHiddenGradientIdeal := hPlainHiddenGradientIdeal)
    ∧ quiescent_MlpInputGradient (hMlpInputGradient := hMlpInputGradient)
    ∧ quiescent_MlpInputGradientIdeal (hMlpInputGradientIdeal := hMlpInputGradientIdeal)
    ∧ quiescent_PlainMlpInputGradientIdeal (hPlainMlpInputGradientIdeal := hPlainMlpInputGradientIdeal)
    ∧ quiescent_DownGradient (hDownGradient := hDownGradient)
    ∧ quiescent_DownGradientIdeal (hDownGradientIdeal := hDownGradientIdeal)
    ∧ quiescent_PlainDownGradientIdeal (hPlainDownGradientIdeal := hPlainDownGradientIdeal)
    ∧ quiescent_InGradient (hInGradient := hInGradient)
    ∧ quiescent_InGradientIdeal (hInGradientIdeal := hInGradientIdeal)
    ∧ quiescent_PlainInGradientIdeal (hPlainInGradientIdeal := hPlainInGradientIdeal)
    ∧ quiescent_OutGradient (hOutGradient := hOutGradient)
    ∧ quiescent_OutGradientIdeal (hOutGradientIdeal := hOutGradientIdeal)
    ∧ quiescent_PlainOutGradientIdeal (hPlainOutGradientIdeal := hPlainOutGradientIdeal)
    ∧ quiescent_GluGradient (hGluGradient := hGluGradient)
    ∧ quiescent_GluGradientIdeal (hGluGradientIdeal := hGluGradientIdeal)
    ∧ quiescent_PlainGluGradientIdeal (hPlainGluGradientIdeal := hPlainGluGradientIdeal)
    ∧ quiescent_UpGradient (hUpGradient := hUpGradient)
    ∧ quiescent_UpGradientIdeal (hUpGradientIdeal := hUpGradientIdeal)
    ∧ quiescent_PlainUpGradientIdeal (hPlainUpGradientIdeal := hPlainUpGradientIdeal)
    ∧ quiescent_OutputGradient (hOutputGradient := hOutputGradient)
    ∧ quiescent_OutputGradientIdeal (hOutputGradientIdeal := hOutputGradientIdeal)
    ∧ quiescent_PlainOutputGradientIdeal (hPlainOutputGradientIdeal := hPlainOutputGradientIdeal)
    ∧ quiescent_Mix (hMix := hMix)
    ∧ quiescent_MixIdeal (hMixIdeal := hMixIdeal)
    ∧ quiescent_PlainMixIdeal (hPlainMixIdeal := hPlainMixIdeal)
    ∧ quiescent_MixGradient (hMixGradient := hMixGradient)
    ∧ quiescent_MixGradientIdeal (hMixGradientIdeal := hMixGradientIdeal)
    ∧ quiescent_PlainMixGradientIdeal (hPlainMixGradientIdeal := hPlainMixGradientIdeal)
    ∧ preserves_Kernel_KernelIdeal
    ∧ algebraic_KernelIdeal_ReferenceIdeal (hKernelIdeal := hKernelIdeal) (hReferenceIdeal := hReferenceIdeal)
    ∧ preserves_InputGradient_InputGradientIdeal
    ∧ algebraic_InputGradientIdeal_PlainInputGradientIdeal (hInputGradientIdeal := hInputGradientIdeal) (hPlainInputGradientIdeal := hPlainInputGradientIdeal)
    ∧ preserves_Loss_LossIdeal
    ∧ algebraic_LossIdeal_PlainLossIdeal (hLossIdeal := hLossIdeal) (hPlainLossIdeal := hPlainLossIdeal)
    ∧ preserves_MlpUp_MlpUpIdeal
    ∧ algebraic_MlpUpIdeal_PlainMlpUpIdeal (hMlpUpIdeal := hMlpUpIdeal) (hPlainMlpUpIdeal := hPlainMlpUpIdeal)
    ∧ preserves_HiddenGradient_HiddenGradientIdeal
    ∧ algebraic_HiddenGradientIdeal_PlainHiddenGradientIdeal (hHiddenGradientIdeal := hHiddenGradientIdeal) (hPlainHiddenGradientIdeal := hPlainHiddenGradientIdeal)
    ∧ preserves_MlpInputGradient_MlpInputGradientIdeal
    ∧ algebraic_MlpInputGradientIdeal_PlainMlpInputGradientIdeal (hMlpInputGradientIdeal := hMlpInputGradientIdeal) (hPlainMlpInputGradientIdeal := hPlainMlpInputGradientIdeal)
    ∧ preserves_DownGradient_DownGradientIdeal
    ∧ algebraic_DownGradientIdeal_PlainDownGradientIdeal (hDownGradientIdeal := hDownGradientIdeal) (hPlainDownGradientIdeal := hPlainDownGradientIdeal)
    ∧ preserves_InGradient_InGradientIdeal
    ∧ algebraic_InGradientIdeal_PlainInGradientIdeal (hInGradientIdeal := hInGradientIdeal) (hPlainInGradientIdeal := hPlainInGradientIdeal)
    ∧ preserves_OutGradient_OutGradientIdeal
    ∧ algebraic_OutGradientIdeal_PlainOutGradientIdeal (hOutGradientIdeal := hOutGradientIdeal) (hPlainOutGradientIdeal := hPlainOutGradientIdeal)
    ∧ preserves_GluGradient_GluGradientIdeal
    ∧ algebraic_GluGradientIdeal_PlainGluGradientIdeal (hGluGradientIdeal := hGluGradientIdeal) (hPlainGluGradientIdeal := hPlainGluGradientIdeal)
    ∧ preserves_UpGradient_UpGradientIdeal
    ∧ algebraic_UpGradientIdeal_PlainUpGradientIdeal (hUpGradientIdeal := hUpGradientIdeal) (hPlainUpGradientIdeal := hPlainUpGradientIdeal)
    ∧ preserves_OutputGradient_OutputGradientIdeal
    ∧ algebraic_OutputGradientIdeal_PlainOutputGradientIdeal (hOutputGradientIdeal := hOutputGradientIdeal) (hPlainOutputGradientIdeal := hPlainOutputGradientIdeal)
    ∧ preserves_Mix_MixIdeal
    ∧ algebraic_MixIdeal_PlainMixIdeal (hMixIdeal := hMixIdeal) (hPlainMixIdeal := hPlainMixIdeal)
    ∧ preserves_MixGradient_MixGradientIdeal
    ∧ algebraic_MixGradientIdeal_PlainMixGradientIdeal (hMixGradientIdeal := hMixGradientIdeal) (hPlainMixGradientIdeal := hPlainMixGradientIdeal)
-- ==== Kernel.lean ====
abbrev S2048x1024 : Shape := ⟨2, ![2048, 1024]⟩
abbrev S512x512 : Shape := ⟨2, ![512, 512]⟩
abbrev S1024x1024 : Shape := ⟨2, ![1024, 1024]⟩
abbrev S4096x1024 : Shape := ⟨2, ![4096, 1024]⟩
abbrev S1128x128 : Shape := ⟨2, ![1128, 128]⟩
abbrev S1024x256 : Shape := ⟨2, ![1024, 256]⟩
abbrev S64x512 : Shape := ⟨2, ![64, 512]⟩
abbrev S128x1024 : Shape := ⟨2, ![128, 1024]⟩
abbrev S1024x512 : Shape := ⟨2, ![1024, 512]⟩
abbrev S512x1024 : Shape := ⟨2, ![512, 1024]⟩
abbrev S8x256x1024 : Shape := ⟨3, ![8, 256, 1024]⟩
abbrev S8x64x512 : Shape := ⟨3, ![8, 64, 512]⟩
abbrev S8x128x1024 : Shape := ⟨3, ![8, 128, 1024]⟩
abbrev S8x512x1024 : Shape := ⟨3, ![8, 512, 1024]⟩
abbrev S8x1128x128 : Shape := ⟨3, ![8, 1128, 128]⟩
abbrev S42 : Shape := ⟨1, ![42]⟩
abbrev S6 : Shape := ⟨1, ![6]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x64x512 : Shape := ⟨3, ![1, 64, 512]⟩
abbrev S1x128x1024 : Shape := ⟨3, ![1, 128, 1024]⟩
abbrev S1x512x1024 : Shape := ⟨3, ![1, 512, 1024]⟩
abbrev S1x1128x128 : Shape := ⟨3, ![1, 1128, 128]⟩

abbrev nBuf : Space → Nat
  | .hbm => 68
  | .vmem => 64
  | .smem => 0
  | _ => 0

abbrev bufTy : (tb : Table) → Fin (tcTables nBuf tb) → BufTy
  | .hbm, ⟨0, _⟩ => ⟨S2048x1024, .bf16⟩
  | .hbm, ⟨1, _⟩ => ⟨S512x512, .bf16⟩
  | .hbm, ⟨2, _⟩ => ⟨S1024x1024, .bf16⟩
  | .hbm, ⟨3, _⟩ => ⟨S4096x1024, .bf16⟩
  | .hbm, ⟨4, _⟩ => ⟨S4096x1024, .bf16⟩
  | .hbm, ⟨5, _⟩ => ⟨S1128x128, .f32⟩
  | .hbm, ⟨6, _⟩ => ⟨S1024x256, .f32⟩
  | .hbm, ⟨7, _⟩ => ⟨S64x512, .f32⟩
  | .hbm, ⟨8, _⟩ => ⟨S128x1024, .f32⟩
  | .hbm, ⟨9, _⟩ => ⟨S1024x512, .f32⟩
  | .hbm, ⟨10, _⟩ => ⟨S512x1024, .f32⟩
  | .hbm, ⟨11, _⟩ => ⟨S1128x128, .f32⟩
  | .hbm, ⟨12, _⟩ => ⟨S1024x256, .f32⟩
  | .hbm, ⟨13, _⟩ => ⟨S64x512, .f32⟩
  | .hbm, ⟨14, _⟩ => ⟨S128x1024, .f32⟩
  | .hbm, ⟨15, _⟩ => ⟨S1024x512, .f32⟩
  | .hbm, ⟨16, _⟩ => ⟨S512x1024, .f32⟩
  | .hbm, ⟨17, _⟩ => ⟨S1128x128, .f32⟩
  | .hbm, ⟨18, _⟩ => ⟨S1024x256, .f32⟩
  | .hbm, ⟨19, _⟩ => ⟨S64x512, .f32⟩
  | .hbm, ⟨20, _⟩ => ⟨S128x1024, .f32⟩
  | .hbm, ⟨21, _⟩ => ⟨S1024x512, .f32⟩
  | .hbm, ⟨22, _⟩ => ⟨S512x1024, .f32⟩
  | .hbm, ⟨23, _⟩ => ⟨S1128x128, .f32⟩
  | .hbm, ⟨24, _⟩ => ⟨S8x256x1024, .bf16⟩
  | .hbm, ⟨25, _⟩ => ⟨S8x64x512, .bf16⟩
  | .hbm, ⟨26, _⟩ => ⟨S8x128x1024, .bf16⟩
  | .hbm, ⟨27, _⟩ => ⟨S8x512x1024, .bf16⟩
  | .hbm, ⟨28, _⟩ => ⟨S8x512x1024, .bf16⟩
  | .hbm, ⟨29, _⟩ => ⟨S8x1128x128, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S1024x256, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S64x512, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S512x1024, .f32⟩
  | .hbm, ⟨50, _⟩ => ⟨S512x1024, .f32⟩
  | .hbm, ⟨51, _⟩ => ⟨S512x1024, .f32⟩
  | .hbm, ⟨52, _⟩ => ⟨S512x1024, .f32⟩
  | .hbm, ⟨53, _⟩ => ⟨S512x1024, .f32⟩
  | .hbm, ⟨54, _⟩ => ⟨S512x1024, .f32⟩
  | .hbm, ⟨55, _⟩ => ⟨S512x1024, .f32⟩
  | .hbm, ⟨56, _⟩ => ⟨S1024x512, .f32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S512x1024, .f32⟩
  | .hbm, ⟨61, _⟩ => ⟨S512x1024, .f32⟩
  | .hbm, ⟨62, _⟩ => ⟨S512x1024, .f32⟩
  | .hbm, ⟨63, _⟩ => ⟨S512x1024, .f32⟩
  | .hbm, ⟨64, _⟩ => ⟨S1128x128, .f32⟩
  | .hbm, ⟨65, _⟩ => ⟨S1128x128, .f32⟩
  | .hbm, ⟨66, _⟩ => ⟨S1128x128, .f32⟩
  | .hbm, ⟨67, _⟩ => ⟨S1128x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S8x64x512, .bf16⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S8x128x1024, .bf16⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S8x128x1024, .bf16⟩
  | .local _ .vmem, ⟨31, _⟩ => ⟨S8x128x1024, .bf16⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S8x128x1024, .bf16⟩
  | .local _ .vmem, ⟨47, _⟩ => ⟨S8x128x1024, .bf16⟩
  | .local _ .vmem, ⟨48, _⟩ => ⟨S128x1024, .f32⟩
  | .local _ .vmem, ⟨49, _⟩ => ⟨S128x1024, .f32⟩
  | .local _ .vmem, ⟨50, _⟩ => ⟨S128x1024, .f32⟩
  | .local _ .vmem, ⟨51, _⟩ => ⟨S128x1024, .f32⟩
  | .local _ .vmem, ⟨52, _⟩ => ⟨S128x1024, .f32⟩
  | .local _ .vmem, ⟨53, _⟩ => ⟨S128x1024, .f32⟩
  | .local _ .vmem, ⟨54, _⟩ => ⟨S128x1024, .f32⟩
  | .local _ .vmem, ⟨55, _⟩ => ⟨S128x1024, .f32⟩
  | .local _ .vmem, ⟨56, _⟩ => ⟨S1128x128, .f32⟩
  | .local _ .vmem, ⟨57, _⟩ => ⟨S1128x128, .f32⟩
  | .local _ .vmem, ⟨58, _⟩ => ⟨S1128x128, .f32⟩
  | .local _ .vmem, ⟨59, _⟩ => ⟨S8x1128x128, .f32⟩
  | .local _ .vmem, ⟨60, _⟩ => ⟨S1128x128, .f32⟩
  | .local _ .vmem, ⟨61, _⟩ => ⟨S1128x128, .f32⟩
  | .local _ .vmem, ⟨62, _⟩ => ⟨S1128x128, .f32⟩
  | .local _ .vmem, ⟨63, _⟩ => ⟨S1128x128, .f32⟩
  | _, _ => ⟨S2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 154 → Bool
  | ⟨i, _⟩ => dmaSemScopedAt i

abbrev sig : RefSig :=
  ofTc nBuf bufTy 0 154 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v1_0 : Ref sig .tc := ⟨.hbm, 24, rfl⟩
abbrev main_v1_1 : Ref sig .tc := ⟨.hbm, 25, rfl⟩
abbrev main_v1_2 : Ref sig .tc := ⟨.hbm, 26, rfl⟩
abbrev main_v1_3 : Ref sig .tc := ⟨.hbm, 27, rfl⟩
abbrev main_v1_4 : Ref sig .tc := ⟨.hbm, 28, rfl⟩
abbrev main_v1_5 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5_0 : Ref sig .tc := ⟨.hbm, 33, rfl⟩
abbrev main_v5_1 : Ref sig .tc := ⟨.hbm, 34, rfl⟩
abbrev main_v5_2 : Ref sig .tc := ⟨.hbm, 35, rfl⟩
abbrev main_v5_3 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10_0 : Ref sig .tc := ⟨.hbm, 41, rfl⟩
abbrev main_v10_1 : Ref sig .tc := ⟨.hbm, 42, rfl⟩
abbrev main_v10_2 : Ref sig .tc := ⟨.hbm, 43, rfl⟩
abbrev main_v10_3 : Ref sig .tc := ⟨.hbm, 44, rfl⟩
abbrev main_v11_0 : Ref sig .tc := ⟨.hbm, 45, rfl⟩
abbrev main_v11_1 : Ref sig .tc := ⟨.hbm, 46, rfl⟩
abbrev main_v11_2 : Ref sig .tc := ⟨.hbm, 47, rfl⟩
abbrev main_v11_3 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15_0 : Ref sig .tc := ⟨.hbm, 52, rfl⟩
abbrev main_v15_1 : Ref sig .tc := ⟨.hbm, 53, rfl⟩
abbrev main_v15_2 : Ref sig .tc := ⟨.hbm, 54, rfl⟩
abbrev main_v15_3 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20_0 : Ref sig .tc := ⟨.hbm, 60, rfl⟩
abbrev main_v20_1 : Ref sig .tc := ⟨.hbm, 61, rfl⟩
abbrev main_v20_2 : Ref sig .tc := ⟨.hbm, 62, rfl⟩
abbrev main_v20_3 : Ref sig .tc := ⟨.hbm, 63, rfl⟩
abbrev main_v21_0 : Ref sig .tc := ⟨.hbm, 64, rfl⟩
abbrev main_v21_1 : Ref sig .tc := ⟨.hbm, 65, rfl⟩
abbrev main_v21_2 : Ref sig .tc := ⟨.hbm, 66, rfl⟩
abbrev main_v21_3 : Ref sig .tc := ⟨.hbm, 67, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc4_stg6_0 : Ref sig .tc := ⟨.vmem, 36, rfl⟩
abbrev cc4_stg6_1 : Ref sig .tc := ⟨.vmem, 37, rfl⟩
abbrev cc4_stg7_0 : Ref sig .tc := ⟨.vmem, 38, rfl⟩
abbrev cc4_stg7_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc5_stg4_0 : Ref sig .tc := ⟨.vmem, 48, rfl⟩
abbrev cc5_stg4_1 : Ref sig .tc := ⟨.vmem, 49, rfl⟩
abbrev cc5_stg5_0 : Ref sig .tc := ⟨.vmem, 50, rfl⟩
abbrev cc5_stg5_1 : Ref sig .tc := ⟨.vmem, 51, rfl⟩
abbrev cc5_stg6_0 : Ref sig .tc := ⟨.vmem, 52, rfl⟩
abbrev cc5_stg6_1 : Ref sig .tc := ⟨.vmem, 53, rfl⟩
abbrev cc5_stg7_0 : Ref sig .tc := ⟨.vmem, 54, rfl⟩
abbrev cc5_stg7_1 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc1_sem0_0 : DmaSem sig := 90
abbrev cc1_sem1_0 : DmaSem sig := 91
abbrev cc1_sem2_0 : DmaSem sig := 92
abbrev cc1_sem3_0 : DmaSem sig := 93
abbrev cc1_sem4_0 : DmaSem sig := 94
abbrev cc1_sem5_0 : DmaSem sig := 95
abbrev cc1_sem6_0 : DmaSem sig := 96
abbrev cc1_sem7_0 : DmaSem sig := 97
abbrev cc2_sem0_0 : DmaSem sig := 98
abbrev cc2_sem1_0 : DmaSem sig := 99
abbrev cc2_sem2_0 : DmaSem sig := 100
abbrev cc2_sem3_0 : DmaSem sig := 101
abbrev cc2_sem4_0 : DmaSem sig := 102
abbrev cc2_sem5_0 : DmaSem sig := 103
abbrev cc2_sem6_0 : DmaSem sig := 104
abbrev cc2_sem7_0 : DmaSem sig := 105
abbrev cc3_sem0_0 : DmaSem sig := 106
abbrev cc3_sem1_0 : DmaSem sig := 107
abbrev cc3_sem2_0 : DmaSem sig := 108
abbrev cc3_sem3_0 : DmaSem sig := 109
abbrev cc3_sem4_0 : DmaSem sig := 110
abbrev cc3_sem5_0 : DmaSem sig := 111
abbrev cc3_sem6_0 : DmaSem sig := 112
abbrev cc3_sem7_0 : DmaSem sig := 113
abbrev cc4_sem0_0 : DmaSem sig := 114
abbrev cc4_sem0_1 : DmaSem sig := 115
abbrev cc4_sem1_0 : DmaSem sig := 116
abbrev cc4_sem1_1 : DmaSem sig := 117
abbrev cc4_sem2_0 : DmaSem sig := 118
abbrev cc4_sem2_1 : DmaSem sig := 119
abbrev cc4_sem3_0 : DmaSem sig := 120
abbrev cc4_sem3_1 : DmaSem sig := 121
abbrev cc4_sem4_0 : DmaSem sig := 122
abbrev cc4_sem4_1 : DmaSem sig := 123
abbrev cc4_sem5_0 : DmaSem sig := 124
abbrev cc4_sem5_1 : DmaSem sig := 125
abbrev cc4_sem6_0 : DmaSem sig := 126
abbrev cc4_sem6_1 : DmaSem sig := 127
abbrev cc4_sem7_0 : DmaSem sig := 128
abbrev cc4_sem7_1 : DmaSem sig := 129
abbrev cc5_sem0_0 : DmaSem sig := 130
abbrev cc5_sem0_1 : DmaSem sig := 131
abbrev cc5_sem1_0 : DmaSem sig := 132
abbrev cc5_sem1_1 : DmaSem sig := 133
abbrev cc5_sem2_0 : DmaSem sig := 134
abbrev cc5_sem2_1 : DmaSem sig := 135
abbrev cc5_sem3_0 : DmaSem sig := 136
abbrev cc5_sem3_1 : DmaSem sig := 137
abbrev cc5_sem4_0 : DmaSem sig := 138
abbrev cc5_sem4_1 : DmaSem sig := 139
abbrev cc5_sem5_0 : DmaSem sig := 140
abbrev cc5_sem5_1 : DmaSem sig := 141
abbrev cc5_sem6_0 : DmaSem sig := 142
abbrev cc5_sem6_1 : DmaSem sig := 143
abbrev cc5_sem7_0 : DmaSem sig := 144
abbrev cc5_sem7_1 : DmaSem sig := 145
abbrev cc6_sem0_0 : DmaSem sig := 146
abbrev cc6_sem1_0 : DmaSem sig := 147
abbrev cc6_sem2_0 : DmaSem sig := 148
abbrev cc6_sem3_0 : DmaSem sig := 149
abbrev cc6_sem4_0 : DmaSem sig := 150
abbrev cc6_sem5_0 : DmaSem sig := 151
abbrev cc6_sem6_0 : DmaSem sig := 152
abbrev cc6_sem7_0 : DmaSem sig := 153

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_13 : BitVec 32 := 0#32
  let c0_i32_14 : BitVec 32 := 0#32
  ![v12.toNat, 0, 0]
def k0_off2 (d0 : Dev nD) : Fin 2 → Nat :=
  let c4_i32_11 : BitVec 32 := 4#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v22 : BitVec 32 := Scalar.muli c4_i32_11 v15
  let c2_i32_12 : BitVec 32 := 2#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v23 : BitVec 32 := Scalar.muli c2_i32_12 v18
  let v24 : BitVec 32 := Scalar.addi v22 v23
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v25 : BitVec 32 := Scalar.addi v24 v21
  let c256_i32 : BitVec 32 := 256#32
  let v26 : BitVec 32 := Scalar.muli v25 c256_i32
  let c0_i32_15 : BitVec 32 := 0#32
  ![v26.toNat, 0]
def k0_off3 (d0 : Dev nD) : Fin 2 → Nat :=
  let c4_i32_23 : BitVec 32 := 4#32
  let v32 : BitVec 32 := Dev.word d0
  let c4_i32_17 : BitVec 32 := 4#32
  let v33 : BitVec 32 := Scalar.divsi v32 c4_i32_17
  let c2_i32_16 : BitVec 32 := 2#32
  let v34 : BitVec 32 := Scalar.remsi v33 c2_i32_16
  let v42 : BitVec 32 := Scalar.muli c4_i32_23 v34
  let c2_i32_24 : BitVec 32 := 2#32
  let v35 : BitVec 32 := Dev.word d0
  let c2_i32_19 : BitVec 32 := 2#32
  let v36 : BitVec 32 := Scalar.divsi v35 c2_i32_19
  let c2_i32_18 : BitVec 32 := 2#32
  let v37 : BitVec 32 := Scalar.remsi v36 c2_i32_18
  let v43 : BitVec 32 := Scalar.muli c2_i32_24 v37
  let v44 : BitVec 32 := Scalar.addi v42 v43
  let c1_i32_22 : BitVec 32 := 1#32
  let v38 : BitVec 32 := Dev.word d0
  let c1_i32_21 : BitVec 32 := 1#32
  let v39 : BitVec 32 := Scalar.divsi v38 c1_i32_21
  let c2_i32_20 : BitVec 32 := 2#32
  let v40 : BitVec 32 := Scalar.remsi v39 c2_i32_20
  let v41 : BitVec 32 := Scalar.subi c1_i32_22 v40
  let v45 : BitVec 32 := Scalar.addi v44 v41
  let c256_i32_25 : BitVec 32 := 256#32
  let v46 : BitVec 32 := Scalar.muli v45 c256_i32_25
  let c0_i32_34 : BitVec 32 := 0#32
  ![v46.toNat, 0]
def k0_dev1 (d0 : Dev nD) : Nat :=
  let c0_i32_29 : BitVec 32 := 0#32
  let v32 : BitVec 32 := Dev.word d0
  let c4_i32_17 : BitVec 32 := 4#32
  let v33 : BitVec 32 := Scalar.divsi v32 c4_i32_17
  let c2_i32_16 : BitVec 32 := 2#32
  let v34 : BitVec 32 := Scalar.remsi v33 c2_i32_16
  let c4_i32_28 : BitVec 32 := 4#32
  let v47 : BitVec 32 := Scalar.muli v34 c4_i32_28
  let v48 : BitVec 32 := Scalar.addi c0_i32_29 v47
  let v35 : BitVec 32 := Dev.word d0
  let c2_i32_19 : BitVec 32 := 2#32
  let v36 : BitVec 32 := Scalar.divsi v35 c2_i32_19
  let c2_i32_18 : BitVec 32 := 2#32
  let v37 : BitVec 32 := Scalar.remsi v36 c2_i32_18
  let c2_i32_30 : BitVec 32 := 2#32
  let v49 : BitVec 32 := Scalar.muli v37 c2_i32_30
  let v50 : BitVec 32 := Scalar.addi v48 v49
  let c1_i32_22 : BitVec 32 := 1#32
  let v38 : BitVec 32 := Dev.word d0
  let c1_i32_21 : BitVec 32 := 1#32
  let v39 : BitVec 32 := Scalar.divsi v38 c1_i32_21
  let c2_i32_20 : BitVec 32 := 2#32
  let v40 : BitVec 32 := Scalar.remsi v39 c2_i32_20
  let v41 : BitVec 32 := Scalar.subi c1_i32_22 v40
  let c1_i32_31 : BitVec 32 := 1#32
  let v51 : BitVec 32 := Scalar.muli v41 c1_i32_31
  let v52 : BitVec 32 := Scalar.addi v50 v51
  v52.toNat
def k0_off4 (d0 : Dev nD) : Fin 2 → Nat :=
  let c4_i32_42 : BitVec 32 := 4#32
  let v60 : BitVec 32 := Dev.word d0
  let c4_i32_36 : BitVec 32 := 4#32
  let v61 : BitVec 32 := Scalar.divsi v60 c4_i32_36
  let c2_i32_35 : BitVec 32 := 2#32
  let v62 : BitVec 32 := Scalar.remsi v61 c2_i32_35
  let v70 : BitVec 32 := Scalar.muli c4_i32_42 v62
  let c2_i32_43 : BitVec 32 := 2#32
  let c1_i32_41 : BitVec 32 := 1#32
  let v63 : BitVec 32 := Dev.word d0
  let c2_i32_38 : BitVec 32 := 2#32
  let v64 : BitVec 32 := Scalar.divsi v63 c2_i32_38
  let c2_i32_37 : BitVec 32 := 2#32
  let v65 : BitVec 32 := Scalar.remsi v64 c2_i32_37
  let v69 : BitVec 32 := Scalar.subi c1_i32_41 v65
  let v71 : BitVec 32 := Scalar.muli c2_i32_43 v69
  let v72 : BitVec 32 := Scalar.addi v70 v71
  let v66 : BitVec 32 := Dev.word d0
  let c1_i32_40 : BitVec 32 := 1#32
  let v67 : BitVec 32 := Scalar.divsi v66 c1_i32_40
  let c2_i32_39 : BitVec 32 := 2#32
  let v68 : BitVec 32 := Scalar.remsi v67 c2_i32_39
  let v73 : BitVec 32 := Scalar.addi v72 v68
  let c256_i32_44 : BitVec 32 := 256#32
  let v74 : BitVec 32 := Scalar.muli v73 c256_i32_44
  let c0_i32_53 : BitVec 32 := 0#32
  ![v74.toNat, 0]
def k0_dev2 (d0 : Dev nD) : Nat :=
  let c0_i32_48 : BitVec 32 := 0#32
  let v60 : BitVec 32 := Dev.word d0
  let c4_i32_36 : BitVec 32 := 4#32
  let v61 : BitVec 32 := Scalar.divsi v60 c4_i32_36
  let c2_i32_35 : BitVec 32 := 2#32
  let v62 : BitVec 32 := Scalar.remsi v61 c2_i32_35
  let c4_i32_47 : BitVec 32 := 4#32
  let v75 : BitVec 32 := Scalar.muli v62 c4_i32_47
  let v76 : BitVec 32 := Scalar.addi c0_i32_48 v75
  let c1_i32_41 : BitVec 32 := 1#32
  let v63 : BitVec 32 := Dev.word d0
  let c2_i32_38 : BitVec 32 := 2#32
  let v64 : BitVec 32 := Scalar.divsi v63 c2_i32_38
  let c2_i32_37 : BitVec 32 := 2#32
  let v65 : BitVec 32 := Scalar.remsi v64 c2_i32_37
  let v69 : BitVec 32 := Scalar.subi c1_i32_41 v65
  let c2_i32_49 : BitVec 32 := 2#32
  let v77 : BitVec 32 := Scalar.muli v69 c2_i32_49
  let v78 : BitVec 32 := Scalar.addi v76 v77
  let v66 : BitVec 32 := Dev.word d0
  let c1_i32_40 : BitVec 32 := 1#32
  let v67 : BitVec 32 := Scalar.divsi v66 c1_i32_40
  let c2_i32_39 : BitVec 32 := 2#32
  let v68 : BitVec 32 := Scalar.remsi v67 c2_i32_39
  let c1_i32_50 : BitVec 32 := 1#32
  let v79 : BitVec 32 := Scalar.muli v68 c1_i32_50
  let v80 : BitVec 32 := Scalar.addi v78 v79
  v80.toNat
def k0_off5 (d0 : Dev nD) : Fin 2 → Nat :=
  let c4_i32_62 : BitVec 32 := 4#32
  let v88 : BitVec 32 := Dev.word d0
  let c4_i32_55 : BitVec 32 := 4#32
  let v89 : BitVec 32 := Scalar.divsi v88 c4_i32_55
  let c2_i32_54 : BitVec 32 := 2#32
  let v90 : BitVec 32 := Scalar.remsi v89 c2_i32_54
  let v99 : BitVec 32 := Scalar.muli c4_i32_62 v90
  let c2_i32_63 : BitVec 32 := 2#32
  let c1_i32_60 : BitVec 32 := 1#32
  let v91 : BitVec 32 := Dev.word d0
  let c2_i32_57 : BitVec 32 := 2#32
  let v92 : BitVec 32 := Scalar.divsi v91 c2_i32_57
  let c2_i32_56 : BitVec 32 := 2#32
  let v93 : BitVec 32 := Scalar.remsi v92 c2_i32_56
  let v97 : BitVec 32 := Scalar.subi c1_i32_60 v93
  let v100 : BitVec 32 := Scalar.muli c2_i32_63 v97
  let v101 : BitVec 32 := Scalar.addi v99 v100
  let c1_i32_61 : BitVec 32 := 1#32
  let v94 : BitVec 32 := Dev.word d0
  let c1_i32_59 : BitVec 32 := 1#32
  let v95 : BitVec 32 := Scalar.divsi v94 c1_i32_59
  let c2_i32_58 : BitVec 32 := 2#32
  let v96 : BitVec 32 := Scalar.remsi v95 c2_i32_58
  let v98 : BitVec 32 := Scalar.subi c1_i32_61 v96
  let v102 : BitVec 32 := Scalar.addi v101 v98
  let c256_i32_64 : BitVec 32 := 256#32
  let v103 : BitVec 32 := Scalar.muli v102 c256_i32_64
  let c0_i32_73 : BitVec 32 := 0#32
  ![v103.toNat, 0]
def k0_dev3 (d0 : Dev nD) : Nat :=
  let c0_i32_68 : BitVec 32 := 0#32
  let v88 : BitVec 32 := Dev.word d0
  let c4_i32_55 : BitVec 32 := 4#32
  let v89 : BitVec 32 := Scalar.divsi v88 c4_i32_55
  let c2_i32_54 : BitVec 32 := 2#32
  let v90 : BitVec 32 := Scalar.remsi v89 c2_i32_54
  let c4_i32_67 : BitVec 32 := 4#32
  let v104 : BitVec 32 := Scalar.muli v90 c4_i32_67
  let v105 : BitVec 32 := Scalar.addi c0_i32_68 v104
  let c1_i32_60 : BitVec 32 := 1#32
  let v91 : BitVec 32 := Dev.word d0
  let c2_i32_57 : BitVec 32 := 2#32
  let v92 : BitVec 32 := Scalar.divsi v91 c2_i32_57
  let c2_i32_56 : BitVec 32 := 2#32
  let v93 : BitVec 32 := Scalar.remsi v92 c2_i32_56
  let v97 : BitVec 32 := Scalar.subi c1_i32_60 v93
  let c2_i32_69 : BitVec 32 := 2#32
  let v106 : BitVec 32 := Scalar.muli v97 c2_i32_69
  let v107 : BitVec 32 := Scalar.addi v105 v106
  let c1_i32_61 : BitVec 32 := 1#32
  let v94 : BitVec 32 := Dev.word d0
  let c1_i32_59 : BitVec 32 := 1#32
  let v95 : BitVec 32 := Scalar.divsi v94 c1_i32_59
  let c2_i32_58 : BitVec 32 := 2#32
  let v96 : BitVec 32 := Scalar.remsi v95 c2_i32_58
  let v98 : BitVec 32 := Scalar.subi c1_i32_61 v96
  let c1_i32_70 : BitVec 32 := 1#32
  let v108 : BitVec 32 := Scalar.muli v98 c1_i32_70
  let v109 : BitVec 32 := Scalar.addi v107 v108
  v109.toNat
def k0_off6 (d0 : Dev nD) : Fin 2 → Nat :=
  let c4_i32_81 : BitVec 32 := 4#32
  let c1_i32_80 : BitVec 32 := 1#32
  let v117 : BitVec 32 := Dev.word d0
  let c4_i32_75 : BitVec 32 := 4#32
  let v118 : BitVec 32 := Scalar.divsi v117 c4_i32_75
  let c2_i32_74 : BitVec 32 := 2#32
  let v119 : BitVec 32 := Scalar.remsi v118 c2_i32_74
  let v126 : BitVec 32 := Scalar.subi c1_i32_80 v119
  let v127 : BitVec 32 := Scalar.muli c4_i32_81 v126
  let c2_i32_82 : BitVec 32 := 2#32
  let v120 : BitVec 32 := Dev.word d0
  let c2_i32_77 : BitVec 32 := 2#32
  let v121 : BitVec 32 := Scalar.divsi v120 c2_i32_77
  let c2_i32_76 : BitVec 32 := 2#32
  let v122 : BitVec 32 := Scalar.remsi v121 c2_i32_76
  let v128 : BitVec 32 := Scalar.muli c2_i32_82 v122
  let v129 : BitVec 32 := Scalar.addi v127 v128
  let v123 : BitVec 32 := Dev.word d0
  let c1_i32_79 : BitVec 32 := 1#32
  let v124 : BitVec 32 := Scalar.divsi v123 c1_i32_79
  let c2_i32_78 : BitVec 32 := 2#32
  let v125 : BitVec 32 := Scalar.remsi v124 c2_i32_78
  let v130 : BitVec 32 := Scalar.addi v129 v125
  let c256_i32_83 : BitVec 32 := 256#32
  let v131 : BitVec 32 := Scalar.muli v130 c256_i32_83
  let c0_i32_91 : BitVec 32 := 0#32
  ![v131.toNat, 0]
def k0_dev4 (d0 : Dev nD) : Nat :=
  let c0_i32_86 : BitVec 32 := 0#32
  let c1_i32_80 : BitVec 32 := 1#32
  let v117 : BitVec 32 := Dev.word d0
  let c4_i32_75 : BitVec 32 := 4#32
  let v118 : BitVec 32 := Scalar.divsi v117 c4_i32_75
  let c2_i32_74 : BitVec 32 := 2#32
  let v119 : BitVec 32 := Scalar.remsi v118 c2_i32_74
  let v126 : BitVec 32 := Scalar.subi c1_i32_80 v119
  let c4_i32_85 : BitVec 32 := 4#32
  let v132 : BitVec 32 := Scalar.muli v126 c4_i32_85
  let v133 : BitVec 32 := Scalar.addi c0_i32_86 v132
  let v120 : BitVec 32 := Dev.word d0
  let c2_i32_77 : BitVec 32 := 2#32
  let v121 : BitVec 32 := Scalar.divsi v120 c2_i32_77
  let c2_i32_76 : BitVec 32 := 2#32
  let v122 : BitVec 32 := Scalar.remsi v121 c2_i32_76
  let c2_i32_87 : BitVec 32 := 2#32
  let v134 : BitVec 32 := Scalar.muli v122 c2_i32_87
  let v135 : BitVec 32 := Scalar.addi v133 v134
  let v123 : BitVec 32 := Dev.word d0
  let c1_i32_79 : BitVec 32 := 1#32
  let v124 : BitVec 32 := Scalar.divsi v123 c1_i32_79
  let c2_i32_78 : BitVec 32 := 2#32
  let v125 : BitVec 32 := Scalar.remsi v124 c2_i32_78
  let c1_i32_88 : BitVec 32 := 1#32
  let v136 : BitVec 32 := Scalar.muli v125 c1_i32_88
  let v137 : BitVec 32 := Scalar.addi v135 v136
  v137.toNat
def k0_off7 (d0 : Dev nD) : Fin 2 → Nat :=
  let c4_i32_100 : BitVec 32 := 4#32
  let c1_i32_98 : BitVec 32 := 1#32
  let v145 : BitVec 32 := Dev.word d0
  let c4_i32_93 : BitVec 32 := 4#32
  let v146 : BitVec 32 := Scalar.divsi v145 c4_i32_93
  let c2_i32_92 : BitVec 32 := 2#32
  let v147 : BitVec 32 := Scalar.remsi v146 c2_i32_92
  let v154 : BitVec 32 := Scalar.subi c1_i32_98 v147
  let v156 : BitVec 32 := Scalar.muli c4_i32_100 v154
  let c2_i32_101 : BitVec 32 := 2#32
  let v148 : BitVec 32 := Dev.word d0
  let c2_i32_95 : BitVec 32 := 2#32
  let v149 : BitVec 32 := Scalar.divsi v148 c2_i32_95
  let c2_i32_94 : BitVec 32 := 2#32
  let v150 : BitVec 32 := Scalar.remsi v149 c2_i32_94
  let v157 : BitVec 32 := Scalar.muli c2_i32_101 v150
  let v158 : BitVec 32 := Scalar.addi v156 v157
  let c1_i32_99 : BitVec 32 := 1#32
  let v151 : BitVec 32 := Dev.word d0
  let c1_i32_97 : BitVec 32 := 1#32
  let v152 : BitVec 32 := Scalar.divsi v151 c1_i32_97
  let c2_i32_96 : BitVec 32 := 2#32
  let v153 : BitVec 32 := Scalar.remsi v152 c2_i32_96
  let v155 : BitVec 32 := Scalar.subi c1_i32_99 v153
  let v159 : BitVec 32 := Scalar.addi v158 v155
  let c256_i32_102 : BitVec 32 := 256#32
  let v160 : BitVec 32 := Scalar.muli v159 c256_i32_102
  let c0_i32_111 : BitVec 32 := 0#32
  ![v160.toNat, 0]
def k0_dev5 (d0 : Dev nD) : Nat :=
  let c0_i32_106 : BitVec 32 := 0#32
  let c1_i32_98 : BitVec 32 := 1#32
  let v145 : BitVec 32 := Dev.word d0
  let c4_i32_93 : BitVec 32 := 4#32
  let v146 : BitVec 32 := Scalar.divsi v145 c4_i32_93
  let c2_i32_92 : BitVec 32 := 2#32
  let v147 : BitVec 32 := Scalar.remsi v146 c2_i32_92
  let v154 : BitVec 32 := Scalar.subi c1_i32_98 v147
  let c4_i32_105 : BitVec 32 := 4#32
  let v161 : BitVec 32 := Scalar.muli v154 c4_i32_105
  let v162 : BitVec 32 := Scalar.addi c0_i32_106 v161
  let v148 : BitVec 32 := Dev.word d0
  let c2_i32_95 : BitVec 32 := 2#32
  let v149 : BitVec 32 := Scalar.divsi v148 c2_i32_95
  let c2_i32_94 : BitVec 32 := 2#32
  let v150 : BitVec 32 := Scalar.remsi v149 c2_i32_94
  let c2_i32_107 : BitVec 32 := 2#32
  let v163 : BitVec 32 := Scalar.muli v150 c2_i32_107
  let v164 : BitVec 32 := Scalar.addi v162 v163
  let c1_i32_99 : BitVec 32 := 1#32
  let v151 : BitVec 32 := Dev.word d0
  let c1_i32_97 : BitVec 32 := 1#32
  let v152 : BitVec 32 := Scalar.divsi v151 c1_i32_97
  let c2_i32_96 : BitVec 32 := 2#32
  let v153 : BitVec 32 := Scalar.remsi v152 c2_i32_96
  let v155 : BitVec 32 := Scalar.subi c1_i32_99 v153
  let c1_i32_108 : BitVec 32 := 1#32
  let v165 : BitVec 32 := Scalar.muli v155 c1_i32_108
  let v166 : BitVec 32 := Scalar.addi v164 v165
  v166.toNat
def k0_off8 (d0 : Dev nD) : Fin 2 → Nat :=
  let c4_i32_120 : BitVec 32 := 4#32
  let c1_i32_118 : BitVec 32 := 1#32
  let v174 : BitVec 32 := Dev.word d0
  let c4_i32_113 : BitVec 32 := 4#32
  let v175 : BitVec 32 := Scalar.divsi v174 c4_i32_113
  let c2_i32_112 : BitVec 32 := 2#32
  let v176 : BitVec 32 := Scalar.remsi v175 c2_i32_112
  let v183 : BitVec 32 := Scalar.subi c1_i32_118 v176
  let v185 : BitVec 32 := Scalar.muli c4_i32_120 v183
  let c2_i32_121 : BitVec 32 := 2#32
  let c1_i32_119 : BitVec 32 := 1#32
  let v177 : BitVec 32 := Dev.word d0
  let c2_i32_115 : BitVec 32 := 2#32
  let v178 : BitVec 32 := Scalar.divsi v177 c2_i32_115
  let c2_i32_114 : BitVec 32 := 2#32
  let v179 : BitVec 32 := Scalar.remsi v178 c2_i32_114
  let v184 : BitVec 32 := Scalar.subi c1_i32_119 v179
  let v186 : BitVec 32 := Scalar.muli c2_i32_121 v184
  let v187 : BitVec 32 := Scalar.addi v185 v186
  let v180 : BitVec 32 := Dev.word d0
  let c1_i32_117 : BitVec 32 := 1#32
  let v181 : BitVec 32 := Scalar.divsi v180 c1_i32_117
  let c2_i32_116 : BitVec 32 := 2#32
  let v182 : BitVec 32 := Scalar.remsi v181 c2_i32_116
  let v188 : BitVec 32 := Scalar.addi v187 v182
  let c256_i32_122 : BitVec 32 := 256#32
  let v189 : BitVec 32 := Scalar.muli v188 c256_i32_122
  let c0_i32_130 : BitVec 32 := 0#32
  ![v189.toNat, 0]
def k0_dev6 (d0 : Dev nD) : Nat :=
  let c0_i32_125 : BitVec 32 := 0#32
  let c1_i32_118 : BitVec 32 := 1#32
  let v174 : BitVec 32 := Dev.word d0
  let c4_i32_113 : BitVec 32 := 4#32
  let v175 : BitVec 32 := Scalar.divsi v174 c4_i32_113
  let c2_i32_112 : BitVec 32 := 2#32
  let v176 : BitVec 32 := Scalar.remsi v175 c2_i32_112
  let v183 : BitVec 32 := Scalar.subi c1_i32_118 v176
  let c4_i32_124 : BitVec 32 := 4#32
  let v190 : BitVec 32 := Scalar.muli v183 c4_i32_124
  let v191 : BitVec 32 := Scalar.addi c0_i32_125 v190
  let c1_i32_119 : BitVec 32 := 1#32
  let v177 : BitVec 32 := Dev.word d0
  let c2_i32_115 : BitVec 32 := 2#32
  let v178 : BitVec 32 := Scalar.divsi v177 c2_i32_115
  let c2_i32_114 : BitVec 32 := 2#32
  let v179 : BitVec 32 := Scalar.remsi v178 c2_i32_114
  let v184 : BitVec 32 := Scalar.subi c1_i32_119 v179
  let c2_i32_126 : BitVec 32 := 2#32
  let v192 : BitVec 32 := Scalar.muli v184 c2_i32_126
  let v193 : BitVec 32 := Scalar.addi v191 v192
  let v180 : BitVec 32 := Dev.word d0
  let c1_i32_117 : BitVec 32 := 1#32
  let v181 : BitVec 32 := Scalar.divsi v180 c1_i32_117
  let c2_i32_116 : BitVec 32 := 2#32
  let v182 : BitVec 32 := Scalar.remsi v181 c2_i32_116
  let c1_i32_127 : BitVec 32 := 1#32
  let v194 : BitVec 32 := Scalar.muli v182 c1_i32_127
  let v195 : BitVec 32 := Scalar.addi v193 v194
  v195.toNat
def k0_off9 (d0 : Dev nD) : Fin 2 → Nat :=
  let c4_i32_140 : BitVec 32 := 4#32
  let c1_i32_137 : BitVec 32 := 1#32
  let v203 : BitVec 32 := Dev.word d0
  let c4_i32_132 : BitVec 32 := 4#32
  let v204 : BitVec 32 := Scalar.divsi v203 c4_i32_132
  let c2_i32_131 : BitVec 32 := 2#32
  let v205 : BitVec 32 := Scalar.remsi v204 c2_i32_131
  let v212 : BitVec 32 := Scalar.subi c1_i32_137 v205
  let v215 : BitVec 32 := Scalar.muli c4_i32_140 v212
  let c2_i32_141 : BitVec 32 := 2#32
  let c1_i32_138 : BitVec 32 := 1#32
  let v206 : BitVec 32 := Dev.word d0
  let c2_i32_134 : BitVec 32 := 2#32
  let v207 : BitVec 32 := Scalar.divsi v206 c2_i32_134
  let c2_i32_133 : BitVec 32 := 2#32
  let v208 : BitVec 32 := Scalar.remsi v207 c2_i32_133
  let v213 : BitVec 32 := Scalar.subi c1_i32_138 v208
  let v216 : BitVec 32 := Scalar.muli c2_i32_141 v213
  let v217 : BitVec 32 := Scalar.addi v215 v216
  let c1_i32_139 : BitVec 32 := 1#32
  let v209 : BitVec 32 := Dev.word d0
  let c1_i32_136 : BitVec 32 := 1#32
  let v210 : BitVec 32 := Scalar.divsi v209 c1_i32_136
  let c2_i32_135 : BitVec 32 := 2#32
  let v211 : BitVec 32 := Scalar.remsi v210 c2_i32_135
  let v214 : BitVec 32 := Scalar.subi c1_i32_139 v211
  let v218 : BitVec 32 := Scalar.addi v217 v214
  let c256_i32_142 : BitVec 32 := 256#32
  let v219 : BitVec 32 := Scalar.muli v218 c256_i32_142
  let c0_i32_150 : BitVec 32 := 0#32
  ![v219.toNat, 0]
def k0_dev7 (d0 : Dev nD) : Nat :=
  let c0_i32_145 : BitVec 32 := 0#32
  let c1_i32_137 : BitVec 32 := 1#32
  let v203 : BitVec 32 := Dev.word d0
  let c4_i32_132 : BitVec 32 := 4#32
  let v204 : BitVec 32 := Scalar.divsi v203 c4_i32_132
  let c2_i32_131 : BitVec 32 := 2#32
  let v205 : BitVec 32 := Scalar.remsi v204 c2_i32_131
  let v212 : BitVec 32 := Scalar.subi c1_i32_137 v205
  let c4_i32_144 : BitVec 32 := 4#32
  let v220 : BitVec 32 := Scalar.muli v212 c4_i32_144
  let v221 : BitVec 32 := Scalar.addi c0_i32_145 v220
  let c1_i32_138 : BitVec 32 := 1#32
  let v206 : BitVec 32 := Dev.word d0
  let c2_i32_134 : BitVec 32 := 2#32
  let v207 : BitVec 32 := Scalar.divsi v206 c2_i32_134
  let c2_i32_133 : BitVec 32 := 2#32
  let v208 : BitVec 32 := Scalar.remsi v207 c2_i32_133
  let v213 : BitVec 32 := Scalar.subi c1_i32_138 v208
  let c2_i32_146 : BitVec 32 := 2#32
  let v222 : BitVec 32 := Scalar.muli v213 c2_i32_146
  let v223 : BitVec 32 := Scalar.addi v221 v222
  let c1_i32_139 : BitVec 32 := 1#32
  let v209 : BitVec 32 := Dev.word d0
  let c1_i32_136 : BitVec 32 := 1#32
  let v210 : BitVec 32 := Scalar.divsi v209 c1_i32_136
  let c2_i32_135 : BitVec 32 := 2#32
  let v211 : BitVec 32 := Scalar.remsi v210 c2_i32_135
  let v214 : BitVec 32 := Scalar.subi c1_i32_139 v211
  let c1_i32_147 : BitVec 32 := 1#32
  let v224 : BitVec 32 := Scalar.muli v214 c1_i32_147
  let v225 : BitVec 32 := Scalar.addi v223 v224
  v225.toNat
def k0_off10 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_160 : BitVec 32 := 0#32
  let c0_i32_161 : BitVec 32 := 0#32
  ![v12.toNat, 0, 0]
def k0_off11 (d0 : Dev nD) : Fin 2 → Nat :=
  let c4_i32_157 : BitVec 32 := 4#32
  let v233 : BitVec 32 := Dev.word d0
  let c4_i32_152 : BitVec 32 := 4#32
  let v234 : BitVec 32 := Scalar.divsi v233 c4_i32_152
  let c2_i32_151 : BitVec 32 := 2#32
  let v235 : BitVec 32 := Scalar.remsi v234 c2_i32_151
  let v242 : BitVec 32 := Scalar.muli c4_i32_157 v235
  let c2_i32_158 : BitVec 32 := 2#32
  let v236 : BitVec 32 := Dev.word d0
  let c2_i32_154 : BitVec 32 := 2#32
  let v237 : BitVec 32 := Scalar.divsi v236 c2_i32_154
  let c2_i32_153 : BitVec 32 := 2#32
  let v238 : BitVec 32 := Scalar.remsi v237 c2_i32_153
  let v243 : BitVec 32 := Scalar.muli c2_i32_158 v238
  let v244 : BitVec 32 := Scalar.addi v242 v243
  let v239 : BitVec 32 := Dev.word d0
  let c1_i32_156 : BitVec 32 := 1#32
  let v240 : BitVec 32 := Scalar.divsi v239 c1_i32_156
  let c2_i32_155 : BitVec 32 := 2#32
  let v241 : BitVec 32 := Scalar.remsi v240 c2_i32_155
  let v245 : BitVec 32 := Scalar.addi v244 v241
  let c64_i32 : BitVec 32 := 64#32
  let v246 : BitVec 32 := Scalar.muli v245 c64_i32
  let c0_i32_162 : BitVec 32 := 0#32
  ![v246.toNat, 0]
def k0_off12 (d0 : Dev nD) : Fin 2 → Nat :=
  let c4_i32_170 : BitVec 32 := 4#32
  let v252 : BitVec 32 := Dev.word d0
  let c4_i32_164 : BitVec 32 := 4#32
  let v253 : BitVec 32 := Scalar.divsi v252 c4_i32_164
  let c2_i32_163 : BitVec 32 := 2#32
  let v254 : BitVec 32 := Scalar.remsi v253 c2_i32_163
  let v262 : BitVec 32 := Scalar.muli c4_i32_170 v254
  let c2_i32_171 : BitVec 32 := 2#32
  let v255 : BitVec 32 := Dev.word d0
  let c2_i32_166 : BitVec 32 := 2#32
  let v256 : BitVec 32 := Scalar.divsi v255 c2_i32_166
  let c2_i32_165 : BitVec 32 := 2#32
  let v257 : BitVec 32 := Scalar.remsi v256 c2_i32_165
  let v263 : BitVec 32 := Scalar.muli c2_i32_171 v257
  let v264 : BitVec 32 := Scalar.addi v262 v263
  let c1_i32_169 : BitVec 32 := 1#32
  let v258 : BitVec 32 := Dev.word d0
  let c1_i32_168 : BitVec 32 := 1#32
  let v259 : BitVec 32 := Scalar.divsi v258 c1_i32_168
  let c2_i32_167 : BitVec 32 := 2#32
  let v260 : BitVec 32 := Scalar.remsi v259 c2_i32_167
  let v261 : BitVec 32 := Scalar.subi c1_i32_169 v260
  let v265 : BitVec 32 := Scalar.addi v264 v261
  let c64_i32_172 : BitVec 32 := 64#32
  let v266 : BitVec 32 := Scalar.muli v265 c64_i32_172
  let c0_i32_180 : BitVec 32 := 0#32
  ![v266.toNat, 0]
def k0_dev8 (d0 : Dev nD) : Nat :=
  let c0_i32_175 : BitVec 32 := 0#32
  let v252 : BitVec 32 := Dev.word d0
  let c4_i32_164 : BitVec 32 := 4#32
  let v253 : BitVec 32 := Scalar.divsi v252 c4_i32_164
  let c2_i32_163 : BitVec 32 := 2#32
  let v254 : BitVec 32 := Scalar.remsi v253 c2_i32_163
  let c4_i32_174 : BitVec 32 := 4#32
  let v267 : BitVec 32 := Scalar.muli v254 c4_i32_174
  let v268 : BitVec 32 := Scalar.addi c0_i32_175 v267
  let v255 : BitVec 32 := Dev.word d0
  let c2_i32_166 : BitVec 32 := 2#32
  let v256 : BitVec 32 := Scalar.divsi v255 c2_i32_166
  let c2_i32_165 : BitVec 32 := 2#32
  let v257 : BitVec 32 := Scalar.remsi v256 c2_i32_165
  let c2_i32_176 : BitVec 32 := 2#32
  let v269 : BitVec 32 := Scalar.muli v257 c2_i32_176
  let v270 : BitVec 32 := Scalar.addi v268 v269
  let c1_i32_169 : BitVec 32 := 1#32
  let v258 : BitVec 32 := Dev.word d0
  let c1_i32_168 : BitVec 32 := 1#32
  let v259 : BitVec 32 := Scalar.divsi v258 c1_i32_168
  let c2_i32_167 : BitVec 32 := 2#32
  let v260 : BitVec 32 := Scalar.remsi v259 c2_i32_167
  let v261 : BitVec 32 := Scalar.subi c1_i32_169 v260
  let c1_i32_177 : BitVec 32 := 1#32
  let v271 : BitVec 32 := Scalar.muli v261 c1_i32_177
  let v272 : BitVec 32 := Scalar.addi v270 v271
  v272.toNat
def k0_off13 (d0 : Dev nD) : Fin 2 → Nat :=
  let c4_i32_188 : BitVec 32 := 4#32
  let v280 : BitVec 32 := Dev.word d0
  let c4_i32_182 : BitVec 32 := 4#32
  let v281 : BitVec 32 := Scalar.divsi v280 c4_i32_182
  let c2_i32_181 : BitVec 32 := 2#32
  let v282 : BitVec 32 := Scalar.remsi v281 c2_i32_181
  let v290 : BitVec 32 := Scalar.muli c4_i32_188 v282
  let c2_i32_189 : BitVec 32 := 2#32
  let c1_i32_187 : BitVec 32 := 1#32
  let v283 : BitVec 32 := Dev.word d0
  let c2_i32_184 : BitVec 32 := 2#32
  let v284 : BitVec 32 := Scalar.divsi v283 c2_i32_184
  let c2_i32_183 : BitVec 32 := 2#32
  let v285 : BitVec 32 := Scalar.remsi v284 c2_i32_183
  let v289 : BitVec 32 := Scalar.subi c1_i32_187 v285
  let v291 : BitVec 32 := Scalar.muli c2_i32_189 v289
  let v292 : BitVec 32 := Scalar.addi v290 v291
  let v286 : BitVec 32 := Dev.word d0
  let c1_i32_186 : BitVec 32 := 1#32
  let v287 : BitVec 32 := Scalar.divsi v286 c1_i32_186
  let c2_i32_185 : BitVec 32 := 2#32
  let v288 : BitVec 32 := Scalar.remsi v287 c2_i32_185
  let v293 : BitVec 32 := Scalar.addi v292 v288
  let c64_i32_190 : BitVec 32 := 64#32
  let v294 : BitVec 32 := Scalar.muli v293 c64_i32_190
  let c0_i32_198 : BitVec 32 := 0#32
  ![v294.toNat, 0]
def k0_dev9 (d0 : Dev nD) : Nat :=
  let c0_i32_193 : BitVec 32 := 0#32
  let v280 : BitVec 32 := Dev.word d0
  let c4_i32_182 : BitVec 32 := 4#32
  let v281 : BitVec 32 := Scalar.divsi v280 c4_i32_182
  let c2_i32_181 : BitVec 32 := 2#32
  let v282 : BitVec 32 := Scalar.remsi v281 c2_i32_181
  let c4_i32_192 : BitVec 32 := 4#32
  let v295 : BitVec 32 := Scalar.muli v282 c4_i32_192
  let v296 : BitVec 32 := Scalar.addi c0_i32_193 v295
  let c1_i32_187 : BitVec 32 := 1#32
  let v283 : BitVec 32 := Dev.word d0
  let c2_i32_184 : BitVec 32 := 2#32
  let v284 : BitVec 32 := Scalar.divsi v283 c2_i32_184
  let c2_i32_183 : BitVec 32 := 2#32
  let v285 : BitVec 32 := Scalar.remsi v284 c2_i32_183
  let v289 : BitVec 32 := Scalar.subi c1_i32_187 v285
  let c2_i32_194 : BitVec 32 := 2#32
  let v297 : BitVec 32 := Scalar.muli v289 c2_i32_194
  let v298 : BitVec 32 := Scalar.addi v296 v297
  let v286 : BitVec 32 := Dev.word d0
  let c1_i32_186 : BitVec 32 := 1#32
  let v287 : BitVec 32 := Scalar.divsi v286 c1_i32_186
  let c2_i32_185 : BitVec 32 := 2#32
  let v288 : BitVec 32 := Scalar.remsi v287 c2_i32_185
  let c1_i32_195 : BitVec 32 := 1#32
  let v299 : BitVec 32 := Scalar.muli v288 c1_i32_195
  let v300 : BitVec 32 := Scalar.addi v298 v299
  v300.toNat
def k0_off14 (d0 : Dev nD) : Fin 2 → Nat :=
  let c4_i32_207 : BitVec 32 := 4#32
  let v308 : BitVec 32 := Dev.word d0
  let c4_i32_200 : BitVec 32 := 4#32
  let v309 : BitVec 32 := Scalar.divsi v308 c4_i32_200
  let c2_i32_199 : BitVec 32 := 2#32
  let v310 : BitVec 32 := Scalar.remsi v309 c2_i32_199
  let v319 : BitVec 32 := Scalar.muli c4_i32_207 v310
  let c2_i32_208 : BitVec 32 := 2#32
  let c1_i32_205 : BitVec 32 := 1#32
  let v311 : BitVec 32 := Dev.word d0
  let c2_i32_202 : BitVec 32 := 2#32
  let v312 : BitVec 32 := Scalar.divsi v311 c2_i32_202
  let c2_i32_201 : BitVec 32 := 2#32
  let v313 : BitVec 32 := Scalar.remsi v312 c2_i32_201
  let v317 : BitVec 32 := Scalar.subi c1_i32_205 v313
  let v320 : BitVec 32 := Scalar.muli c2_i32_208 v317
  let v321 : BitVec 32 := Scalar.addi v319 v320
  let c1_i32_206 : BitVec 32 := 1#32
  let v314 : BitVec 32 := Dev.word d0
  let c1_i32_204 : BitVec 32 := 1#32
  let v315 : BitVec 32 := Scalar.divsi v314 c1_i32_204
  let c2_i32_203 : BitVec 32 := 2#32
  let v316 : BitVec 32 := Scalar.remsi v315 c2_i32_203
  let v318 : BitVec 32 := Scalar.subi c1_i32_206 v316
  let v322 : BitVec 32 := Scalar.addi v321 v318
  let c64_i32_209 : BitVec 32 := 64#32
  let v323 : BitVec 32 := Scalar.muli v322 c64_i32_209
  let c0_i32_217 : BitVec 32 := 0#32
  ![v323.toNat, 0]
def k0_dev10 (d0 : Dev nD) : Nat :=
  let c0_i32_212 : BitVec 32 := 0#32
  let v308 : BitVec 32 := Dev.word d0
  let c4_i32_200 : BitVec 32 := 4#32
  let v309 : BitVec 32 := Scalar.divsi v308 c4_i32_200
  let c2_i32_199 : BitVec 32 := 2#32
  let v310 : BitVec 32 := Scalar.remsi v309 c2_i32_199
  let c4_i32_211 : BitVec 32 := 4#32
  let v324 : BitVec 32 := Scalar.muli v310 c4_i32_211
  let v325 : BitVec 32 := Scalar.addi c0_i32_212 v324
  let c1_i32_205 : BitVec 32 := 1#32
  let v311 : BitVec 32 := Dev.word d0
  let c2_i32_202 : BitVec 32 := 2#32
  let v312 : BitVec 32 := Scalar.divsi v311 c2_i32_202
  let c2_i32_201 : BitVec 32 := 2#32
  let v313 : BitVec 32 := Scalar.remsi v312 c2_i32_201
  let v317 : BitVec 32 := Scalar.subi c1_i32_205 v313
  let c2_i32_213 : BitVec 32 := 2#32
  let v326 : BitVec 32 := Scalar.muli v317 c2_i32_213
  let v327 : BitVec 32 := Scalar.addi v325 v326
  let c1_i32_206 : BitVec 32 := 1#32
  let v314 : BitVec 32 := Dev.word d0
  let c1_i32_204 : BitVec 32 := 1#32
  let v315 : BitVec 32 := Scalar.divsi v314 c1_i32_204
  let c2_i32_203 : BitVec 32 := 2#32
  let v316 : BitVec 32 := Scalar.remsi v315 c2_i32_203
  let v318 : BitVec 32 := Scalar.subi c1_i32_206 v316
  let c1_i32_214 : BitVec 32 := 1#32
  let v328 : BitVec 32 := Scalar.muli v318 c1_i32_214
  let v329 : BitVec 32 := Scalar.addi v327 v328
  v329.toNat
def k0_off15 (d0 : Dev nD) : Fin 2 → Nat :=
  let c4_i32_225 : BitVec 32 := 4#32
  let c1_i32_224 : BitVec 32 := 1#32
  let v337 : BitVec 32 := Dev.word d0
  let c4_i32_219 : BitVec 32 := 4#32
  let v338 : BitVec 32 := Scalar.divsi v337 c4_i32_219
  let c2_i32_218 : BitVec 32 := 2#32
  let v339 : BitVec 32 := Scalar.remsi v338 c2_i32_218
  let v346 : BitVec 32 := Scalar.subi c1_i32_224 v339
  let v347 : BitVec 32 := Scalar.muli c4_i32_225 v346
  let c2_i32_226 : BitVec 32 := 2#32
  let v340 : BitVec 32 := Dev.word d0
  let c2_i32_221 : BitVec 32 := 2#32
  let v341 : BitVec 32 := Scalar.divsi v340 c2_i32_221
  let c2_i32_220 : BitVec 32 := 2#32
  let v342 : BitVec 32 := Scalar.remsi v341 c2_i32_220
  let v348 : BitVec 32 := Scalar.muli c2_i32_226 v342
  let v349 : BitVec 32 := Scalar.addi v347 v348
  let v343 : BitVec 32 := Dev.word d0
  let c1_i32_223 : BitVec 32 := 1#32
  let v344 : BitVec 32 := Scalar.divsi v343 c1_i32_223
  let c2_i32_222 : BitVec 32 := 2#32
  let v345 : BitVec 32 := Scalar.remsi v344 c2_i32_222
  let v350 : BitVec 32 := Scalar.addi v349 v345
  let c64_i32_227 : BitVec 32 := 64#32
  let v351 : BitVec 32 := Scalar.muli v350 c64_i32_227
  let c0_i32_235 : BitVec 32 := 0#32
  ![v351.toNat, 0]
def k0_dev11 (d0 : Dev nD) : Nat :=
  let c0_i32_230 : BitVec 32 := 0#32
  let c1_i32_224 : BitVec 32 := 1#32
  let v337 : BitVec 32 := Dev.word d0
  let c4_i32_219 : BitVec 32 := 4#32
  let v338 : BitVec 32 := Scalar.divsi v337 c4_i32_219
  let c2_i32_218 : BitVec 32 := 2#32
  let v339 : BitVec 32 := Scalar.remsi v338 c2_i32_218
  let v346 : BitVec 32 := Scalar.subi c1_i32_224 v339
  let c4_i32_229 : BitVec 32 := 4#32
  let v352 : BitVec 32 := Scalar.muli v346 c4_i32_229
  let v353 : BitVec 32 := Scalar.addi c0_i32_230 v352
  let v340 : BitVec 32 := Dev.word d0
  let c2_i32_221 : BitVec 32 := 2#32
  let v341 : BitVec 32 := Scalar.divsi v340 c2_i32_221
  let c2_i32_220 : BitVec 32 := 2#32
  let v342 : BitVec 32 := Scalar.remsi v341 c2_i32_220
  let c2_i32_231 : BitVec 32 := 2#32
  let v354 : BitVec 32 := Scalar.muli v342 c2_i32_231
  let v355 : BitVec 32 := Scalar.addi v353 v354
  let v343 : BitVec 32 := Dev.word d0
  let c1_i32_223 : BitVec 32 := 1#32
  let v344 : BitVec 32 := Scalar.divsi v343 c1_i32_223
  let c2_i32_222 : BitVec 32 := 2#32
  let v345 : BitVec 32 := Scalar.remsi v344 c2_i32_222
  let c1_i32_232 : BitVec 32 := 1#32
  let v356 : BitVec 32 := Scalar.muli v345 c1_i32_232
  let v357 : BitVec 32 := Scalar.addi v355 v356
  v357.toNat
def k0_off16 (d0 : Dev nD) : Fin 2 → Nat :=
  let c4_i32_244 : BitVec 32 := 4#32
  let c1_i32_242 : BitVec 32 := 1#32
  let v365 : BitVec 32 := Dev.word d0
  let c4_i32_237 : BitVec 32 := 4#32
  let v366 : BitVec 32 := Scalar.divsi v365 c4_i32_237
  let c2_i32_236 : BitVec 32 := 2#32
  let v367 : BitVec 32 := Scalar.remsi v366 c2_i32_236
  let v374 : BitVec 32 := Scalar.subi c1_i32_242 v367
  let v376 : BitVec 32 := Scalar.muli c4_i32_244 v374
  let c2_i32_245 : BitVec 32 := 2#32
  let v368 : BitVec 32 := Dev.word d0
  let c2_i32_239 : BitVec 32 := 2#32
  let v369 : BitVec 32 := Scalar.divsi v368 c2_i32_239
  let c2_i32_238 : BitVec 32 := 2#32
  let v370 : BitVec 32 := Scalar.remsi v369 c2_i32_238
  let v377 : BitVec 32 := Scalar.muli c2_i32_245 v370
  let v378 : BitVec 32 := Scalar.addi v376 v377
  let c1_i32_243 : BitVec 32 := 1#32
  let v371 : BitVec 32 := Dev.word d0
  let c1_i32_241 : BitVec 32 := 1#32
  let v372 : BitVec 32 := Scalar.divsi v371 c1_i32_241
  let c2_i32_240 : BitVec 32 := 2#32
  let v373 : BitVec 32 := Scalar.remsi v372 c2_i32_240
  let v375 : BitVec 32 := Scalar.subi c1_i32_243 v373
  let v379 : BitVec 32 := Scalar.addi v378 v375
  let c64_i32_246 : BitVec 32 := 64#32
  let v380 : BitVec 32 := Scalar.muli v379 c64_i32_246
  let c0_i32_254 : BitVec 32 := 0#32
  ![v380.toNat, 0]
def k0_dev12 (d0 : Dev nD) : Nat :=
  let c0_i32_249 : BitVec 32 := 0#32
  let c1_i32_242 : BitVec 32 := 1#32
  let v365 : BitVec 32 := Dev.word d0
  let c4_i32_237 : BitVec 32 := 4#32
  let v366 : BitVec 32 := Scalar.divsi v365 c4_i32_237
  let c2_i32_236 : BitVec 32 := 2#32
  let v367 : BitVec 32 := Scalar.remsi v366 c2_i32_236
  let v374 : BitVec 32 := Scalar.subi c1_i32_242 v367
  let c4_i32_248 : BitVec 32 := 4#32
  let v381 : BitVec 32 := Scalar.muli v374 c4_i32_248
  let v382 : BitVec 32 := Scalar.addi c0_i32_249 v381
  let v368 : BitVec 32 := Dev.word d0
  let c2_i32_239 : BitVec 32 := 2#32
  let v369 : BitVec 32 := Scalar.divsi v368 c2_i32_239
  let c2_i32_238 : BitVec 32 := 2#32
  let v370 : BitVec 32 := Scalar.remsi v369 c2_i32_238
  let c2_i32_250 : BitVec 32 := 2#32
  let v383 : BitVec 32 := Scalar.muli v370 c2_i32_250
  let v384 : BitVec 32 := Scalar.addi v382 v383
  let c1_i32_243 : BitVec 32 := 1#32
  let v371 : BitVec 32 := Dev.word d0
  let c1_i32_241 : BitVec 32 := 1#32
  let v372 : BitVec 32 := Scalar.divsi v371 c1_i32_241
  let c2_i32_240 : BitVec 32 := 2#32
  let v373 : BitVec 32 := Scalar.remsi v372 c2_i32_240
  let v375 : BitVec 32 := Scalar.subi c1_i32_243 v373
  let c1_i32_251 : BitVec 32 := 1#32
  let v385 : BitVec 32 := Scalar.muli v375 c1_i32_251
  let v386 : BitVec 32 := Scalar.addi v384 v385
  v386.toNat
def k0_off17 (d0 : Dev nD) : Fin 2 → Nat :=
  let c4_i32_263 : BitVec 32 := 4#32
  let c1_i32_261 : BitVec 32 := 1#32
  let v394 : BitVec 32 := Dev.word d0
  let c4_i32_256 : BitVec 32 := 4#32
  let v395 : BitVec 32 := Scalar.divsi v394 c4_i32_256
  let c2_i32_255 : BitVec 32 := 2#32
  let v396 : BitVec 32 := Scalar.remsi v395 c2_i32_255
  let v403 : BitVec 32 := Scalar.subi c1_i32_261 v396
  let v405 : BitVec 32 := Scalar.muli c4_i32_263 v403
  let c2_i32_264 : BitVec 32 := 2#32
  let c1_i32_262 : BitVec 32 := 1#32
  let v397 : BitVec 32 := Dev.word d0
  let c2_i32_258 : BitVec 32 := 2#32
  let v398 : BitVec 32 := Scalar.divsi v397 c2_i32_258
  let c2_i32_257 : BitVec 32 := 2#32
  let v399 : BitVec 32 := Scalar.remsi v398 c2_i32_257
  let v404 : BitVec 32 := Scalar.subi c1_i32_262 v399
  let v406 : BitVec 32 := Scalar.muli c2_i32_264 v404
  let v407 : BitVec 32 := Scalar.addi v405 v406
  let v400 : BitVec 32 := Dev.word d0
  let c1_i32_260 : BitVec 32 := 1#32
  let v401 : BitVec 32 := Scalar.divsi v400 c1_i32_260
  let c2_i32_259 : BitVec 32 := 2#32
  let v402 : BitVec 32 := Scalar.remsi v401 c2_i32_259
  let v408 : BitVec 32 := Scalar.addi v407 v402
  let c64_i32_265 : BitVec 32 := 64#32
  let v409 : BitVec 32 := Scalar.muli v408 c64_i32_265
  let c0_i32_273 : BitVec 32 := 0#32
  ![v409.toNat, 0]
def k0_dev13 (d0 : Dev nD) : Nat :=
  let c0_i32_268 : BitVec 32 := 0#32
  let c1_i32_261 : BitVec 32 := 1#32
  let v394 : BitVec 32 := Dev.word d0
  let c4_i32_256 : BitVec 32 := 4#32
  let v395 : BitVec 32 := Scalar.divsi v394 c4_i32_256
  let c2_i32_255 : BitVec 32 := 2#32
  let v396 : BitVec 32 := Scalar.remsi v395 c2_i32_255
  let v403 : BitVec 32 := Scalar.subi c1_i32_261 v396
  let c4_i32_267 : BitVec 32 := 4#32
  let v410 : BitVec 32 := Scalar.muli v403 c4_i32_267
  let v411 : BitVec 32 := Scalar.addi c0_i32_268 v410
  let c1_i32_262 : BitVec 32 := 1#32
  let v397 : BitVec 32 := Dev.word d0
  let c2_i32_258 : BitVec 32 := 2#32
  let v398 : BitVec 32 := Scalar.divsi v397 c2_i32_258
  let c2_i32_257 : BitVec 32 := 2#32
  let v399 : BitVec 32 := Scalar.remsi v398 c2_i32_257
  let v404 : BitVec 32 := Scalar.subi c1_i32_262 v399
  let c2_i32_269 : BitVec 32 := 2#32
  let v412 : BitVec 32 := Scalar.muli v404 c2_i32_269
  let v413 : BitVec 32 := Scalar.addi v411 v412
  let v400 : BitVec 32 := Dev.word d0
  let c1_i32_260 : BitVec 32 := 1#32
  let v401 : BitVec 32 := Scalar.divsi v400 c1_i32_260
  let c2_i32_259 : BitVec 32 := 2#32
  let v402 : BitVec 32 := Scalar.remsi v401 c2_i32_259
  let c1_i32_270 : BitVec 32 := 1#32
  let v414 : BitVec 32 := Scalar.muli v402 c1_i32_270
  let v415 : BitVec 32 := Scalar.addi v413 v414
  v415.toNat
def k0_off18 (d0 : Dev nD) : Fin 2 → Nat :=
  let c4_i32_283 : BitVec 32 := 4#32
  let c1_i32_280 : BitVec 32 := 1#32
  let v423 : BitVec 32 := Dev.word d0
  let c4_i32_275 : BitVec 32 := 4#32
  let v424 : BitVec 32 := Scalar.divsi v423 c4_i32_275
  let c2_i32_274 : BitVec 32 := 2#32
  let v425 : BitVec 32 := Scalar.remsi v424 c2_i32_274
  let v432 : BitVec 32 := Scalar.subi c1_i32_280 v425
  let v435 : BitVec 32 := Scalar.muli c4_i32_283 v432
  let c2_i32_284 : BitVec 32 := 2#32
  let c1_i32_281 : BitVec 32 := 1#32
  let v426 : BitVec 32 := Dev.word d0
  let c2_i32_277 : BitVec 32 := 2#32
  let v427 : BitVec 32 := Scalar.divsi v426 c2_i32_277
  let c2_i32_276 : BitVec 32 := 2#32
  let v428 : BitVec 32 := Scalar.remsi v427 c2_i32_276
  let v433 : BitVec 32 := Scalar.subi c1_i32_281 v428
  let v436 : BitVec 32 := Scalar.muli c2_i32_284 v433
  let v437 : BitVec 32 := Scalar.addi v435 v436
  let c1_i32_282 : BitVec 32 := 1#32
  let v429 : BitVec 32 := Dev.word d0
  let c1_i32_279 : BitVec 32 := 1#32
  let v430 : BitVec 32 := Scalar.divsi v429 c1_i32_279
  let c2_i32_278 : BitVec 32 := 2#32
  let v431 : BitVec 32 := Scalar.remsi v430 c2_i32_278
  let v434 : BitVec 32 := Scalar.subi c1_i32_282 v431
  let v438 : BitVec 32 := Scalar.addi v437 v434
  let c64_i32_285 : BitVec 32 := 64#32
  let v439 : BitVec 32 := Scalar.muli v438 c64_i32_285
  let c0_i32_293 : BitVec 32 := 0#32
  ![v439.toNat, 0]
def k0_dev14 (d0 : Dev nD) : Nat :=
  let c0_i32_288 : BitVec 32 := 0#32
  let c1_i32_280 : BitVec 32 := 1#32
  let v423 : BitVec 32 := Dev.word d0
  let c4_i32_275 : BitVec 32 := 4#32
  let v424 : BitVec 32 := Scalar.divsi v423 c4_i32_275
  let c2_i32_274 : BitVec 32 := 2#32
  let v425 : BitVec 32 := Scalar.remsi v424 c2_i32_274
  let v432 : BitVec 32 := Scalar.subi c1_i32_280 v425
  let c4_i32_287 : BitVec 32 := 4#32
  let v440 : BitVec 32 := Scalar.muli v432 c4_i32_287
  let v441 : BitVec 32 := Scalar.addi c0_i32_288 v440
  let c1_i32_281 : BitVec 32 := 1#32
  let v426 : BitVec 32 := Dev.word d0
  let c2_i32_277 : BitVec 32 := 2#32
  let v427 : BitVec 32 := Scalar.divsi v426 c2_i32_277
  let c2_i32_276 : BitVec 32 := 2#32
  let v428 : BitVec 32 := Scalar.remsi v427 c2_i32_276
  let v433 : BitVec 32 := Scalar.subi c1_i32_281 v428
  let c2_i32_289 : BitVec 32 := 2#32
  let v442 : BitVec 32 := Scalar.muli v433 c2_i32_289
  let v443 : BitVec 32 := Scalar.addi v441 v442
  let c1_i32_282 : BitVec 32 := 1#32
  let v429 : BitVec 32 := Dev.word d0
  let c1_i32_279 : BitVec 32 := 1#32
  let v430 : BitVec 32 := Scalar.divsi v429 c1_i32_279
  let c2_i32_278 : BitVec 32 := 2#32
  let v431 : BitVec 32 := Scalar.remsi v430 c2_i32_278
  let v434 : BitVec 32 := Scalar.subi c1_i32_282 v431
  let c1_i32_290 : BitVec 32 := 1#32
  let v444 : BitVec 32 := Scalar.muli v434 c1_i32_290
  let v445 : BitVec 32 := Scalar.addi v443 v444
  v445.toNat
def k0_off19 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_303 : BitVec 32 := 0#32
  let c0_i32_304 : BitVec 32 := 0#32
  ![v12.toNat, 0, 0]
def k0_off20 (d0 : Dev nD) : Fin 2 → Nat :=
  let c4_i32_300 : BitVec 32 := 4#32
  let v453 : BitVec 32 := Dev.word d0
  let c4_i32_295 : BitVec 32 := 4#32
  let v454 : BitVec 32 := Scalar.divsi v453 c4_i32_295
  let c2_i32_294 : BitVec 32 := 2#32
  let v455 : BitVec 32 := Scalar.remsi v454 c2_i32_294
  let v462 : BitVec 32 := Scalar.muli c4_i32_300 v455
  let c2_i32_301 : BitVec 32 := 2#32
  let v456 : BitVec 32 := Dev.word d0
  let c2_i32_297 : BitVec 32 := 2#32
  let v457 : BitVec 32 := Scalar.divsi v456 c2_i32_297
  let c2_i32_296 : BitVec 32 := 2#32
  let v458 : BitVec 32 := Scalar.remsi v457 c2_i32_296
  let v463 : BitVec 32 := Scalar.muli c2_i32_301 v458
  let v464 : BitVec 32 := Scalar.addi v462 v463
  let v459 : BitVec 32 := Dev.word d0
  let c1_i32_299 : BitVec 32 := 1#32
  let v460 : BitVec 32 := Scalar.divsi v459 c1_i32_299
  let c2_i32_298 : BitVec 32 := 2#32
  let v461 : BitVec 32 := Scalar.remsi v460 c2_i32_298
  let v465 : BitVec 32 := Scalar.addi v464 v461
  let c128_i32 : BitVec 32 := 128#32
  let v466 : BitVec 32 := Scalar.muli v465 c128_i32
  let c0_i32_305 : BitVec 32 := 0#32
  ![v466.toNat, 0]
def k0_off21 (d0 : Dev nD) : Fin 2 → Nat :=
  let c4_i32_313 : BitVec 32 := 4#32
  let v472 : BitVec 32 := Dev.word d0
  let c4_i32_307 : BitVec 32 := 4#32
  let v473 : BitVec 32 := Scalar.divsi v472 c4_i32_307
  let c2_i32_306 : BitVec 32 := 2#32
  let v474 : BitVec 32 := Scalar.remsi v473 c2_i32_306
  let v482 : BitVec 32 := Scalar.muli c4_i32_313 v474
  let c2_i32_314 : BitVec 32 := 2#32
  let v475 : BitVec 32 := Dev.word d0
  let c2_i32_309 : BitVec 32 := 2#32
  let v476 : BitVec 32 := Scalar.divsi v475 c2_i32_309
  let c2_i32_308 : BitVec 32 := 2#32
  let v477 : BitVec 32 := Scalar.remsi v476 c2_i32_308
  let v483 : BitVec 32 := Scalar.muli c2_i32_314 v477
  let v484 : BitVec 32 := Scalar.addi v482 v483
  let c1_i32_312 : BitVec 32 := 1#32
  let v478 : BitVec 32 := Dev.word d0
  let c1_i32_311 : BitVec 32 := 1#32
  let v479 : BitVec 32 := Scalar.divsi v478 c1_i32_311
  let c2_i32_310 : BitVec 32 := 2#32
  let v480 : BitVec 32 := Scalar.remsi v479 c2_i32_310
  let v481 : BitVec 32 := Scalar.subi c1_i32_312 v480
  let v485 : BitVec 32 := Scalar.addi v484 v481
  let c128_i32_315 : BitVec 32 := 128#32
  let v486 : BitVec 32 := Scalar.muli v485 c128_i32_315
  let c0_i32_323 : BitVec 32 := 0#32
  ![v486.toNat, 0]
def k0_dev15 (d0 : Dev nD) : Nat :=
  let c0_i32_318 : BitVec 32 := 0#32
  let v472 : BitVec 32 := Dev.word d0
  let c4_i32_307 : BitVec 32 := 4#32
  let v473 : BitVec 32 := Scalar.divsi v472 c4_i32_307
  let c2_i32_306 : BitVec 32 := 2#32
  let v474 : BitVec 32 := Scalar.remsi v473 c2_i32_306
  let c4_i32_317 : BitVec 32 := 4#32
  let v487 : BitVec 32 := Scalar.muli v474 c4_i32_317
  let v488 : BitVec 32 := Scalar.addi c0_i32_318 v487
  let v475 : BitVec 32 := Dev.word d0
  let c2_i32_309 : BitVec 32 := 2#32
  let v476 : BitVec 32 := Scalar.divsi v475 c2_i32_309
  let c2_i32_308 : BitVec 32 := 2#32
  let v477 : BitVec 32 := Scalar.remsi v476 c2_i32_308
  let c2_i32_319 : BitVec 32 := 2#32
  let v489 : BitVec 32 := Scalar.muli v477 c2_i32_319
  let v490 : BitVec 32 := Scalar.addi v488 v489
  let c1_i32_312 : BitVec 32 := 1#32
  let v478 : BitVec 32 := Dev.word d0
  let c1_i32_311 : BitVec 32 := 1#32
  let v479 : BitVec 32 := Scalar.divsi v478 c1_i32_311
  let c2_i32_310 : BitVec 32 := 2#32
  let v480 : BitVec 32 := Scalar.remsi v479 c2_i32_310
  let v481 : BitVec 32 := Scalar.subi c1_i32_312 v480
  let c1_i32_320 : BitVec 32 := 1#32
  let v491 : BitVec 32 := Scalar.muli v481 c1_i32_320
  let v492 : BitVec 32 := Scalar.addi v490 v491
  v492.toNat
def k0_off22 (d0 : Dev nD) : Fin 2 → Nat :=
  let c4_i32_331 : BitVec 32 := 4#32
  let v500 : BitVec 32 := Dev.word d0
  let c4_i32_325 : BitVec 32 := 4#32
  let v501 : BitVec 32 := Scalar.divsi v500 c4_i32_325
  let c2_i32_324 : BitVec 32 := 2#32
  let v502 : BitVec 32 := Scalar.remsi v501 c2_i32_324
  let v510 : BitVec 32 := Scalar.muli c4_i32_331 v502
  let c2_i32_332 : BitVec 32 := 2#32
  let c1_i32_330 : BitVec 32 := 1#32
  let v503 : BitVec 32 := Dev.word d0
  let c2_i32_327 : BitVec 32 := 2#32
  let v504 : BitVec 32 := Scalar.divsi v503 c2_i32_327
  let c2_i32_326 : BitVec 32 := 2#32
  let v505 : BitVec 32 := Scalar.remsi v504 c2_i32_326
  let v509 : BitVec 32 := Scalar.subi c1_i32_330 v505
  let v511 : BitVec 32 := Scalar.muli c2_i32_332 v509
  let v512 : BitVec 32 := Scalar.addi v510 v511
  let v506 : BitVec 32 := Dev.word d0
  let c1_i32_329 : BitVec 32 := 1#32
  let v507 : BitVec 32 := Scalar.divsi v506 c1_i32_329
  let c2_i32_328 : BitVec 32 := 2#32
  let v508 : BitVec 32 := Scalar.remsi v507 c2_i32_328
  let v513 : BitVec 32 := Scalar.addi v512 v508
  let c128_i32_333 : BitVec 32 := 128#32
  let v514 : BitVec 32 := Scalar.muli v513 c128_i32_333
  let c0_i32_341 : BitVec 32 := 0#32
  ![v514.toNat, 0]
def k0_dev16 (d0 : Dev nD) : Nat :=
  let c0_i32_336 : BitVec 32 := 0#32
  let v500 : BitVec 32 := Dev.word d0
  let c4_i32_325 : BitVec 32 := 4#32
  let v501 : BitVec 32 := Scalar.divsi v500 c4_i32_325
  let c2_i32_324 : BitVec 32 := 2#32
  let v502 : BitVec 32 := Scalar.remsi v501 c2_i32_324
  let c4_i32_335 : BitVec 32 := 4#32
  let v515 : BitVec 32 := Scalar.muli v502 c4_i32_335
  let v516 : BitVec 32 := Scalar.addi c0_i32_336 v515
  let c1_i32_330 : BitVec 32 := 1#32
  let v503 : BitVec 32 := Dev.word d0
  let c2_i32_327 : BitVec 32 := 2#32
  let v504 : BitVec 32 := Scalar.divsi v503 c2_i32_327
  let c2_i32_326 : BitVec 32 := 2#32
  let v505 : BitVec 32 := Scalar.remsi v504 c2_i32_326
  let v509 : BitVec 32 := Scalar.subi c1_i32_330 v505
  let c2_i32_337 : BitVec 32 := 2#32
  let v517 : BitVec 32 := Scalar.muli v509 c2_i32_337
  let v518 : BitVec 32 := Scalar.addi v516 v517
  let v506 : BitVec 32 := Dev.word d0
  let c1_i32_329 : BitVec 32 := 1#32
  let v507 : BitVec 32 := Scalar.divsi v506 c1_i32_329
  let c2_i32_328 : BitVec 32 := 2#32
  let v508 : BitVec 32 := Scalar.remsi v507 c2_i32_328
  let c1_i32_338 : BitVec 32 := 1#32
  let v519 : BitVec 32 := Scalar.muli v508 c1_i32_338
  let v520 : BitVec 32 := Scalar.addi v518 v519
  v520.toNat
def k0_off23 (d0 : Dev nD) : Fin 2 → Nat :=
  let c4_i32_350 : BitVec 32 := 4#32
  let v528 : BitVec 32 := Dev.word d0
  let c4_i32_343 : BitVec 32 := 4#32
  let v529 : BitVec 32 := Scalar.divsi v528 c4_i32_343
  let c2_i32_342 : BitVec 32 := 2#32
  let v530 : BitVec 32 := Scalar.remsi v529 c2_i32_342
  let v539 : BitVec 32 := Scalar.muli c4_i32_350 v530
  let c2_i32_351 : BitVec 32 := 2#32
  let c1_i32_348 : BitVec 32 := 1#32
  let v531 : BitVec 32 := Dev.word d0
  let c2_i32_345 : BitVec 32 := 2#32
  let v532 : BitVec 32 := Scalar.divsi v531 c2_i32_345
  let c2_i32_344 : BitVec 32 := 2#32
  let v533 : BitVec 32 := Scalar.remsi v532 c2_i32_344
  let v537 : BitVec 32 := Scalar.subi c1_i32_348 v533
  let v540 : BitVec 32 := Scalar.muli c2_i32_351 v537
  let v541 : BitVec 32 := Scalar.addi v539 v540
  let c1_i32_349 : BitVec 32 := 1#32
  let v534 : BitVec 32 := Dev.word d0
  let c1_i32_347 : BitVec 32 := 1#32
  let v535 : BitVec 32 := Scalar.divsi v534 c1_i32_347
  let c2_i32_346 : BitVec 32 := 2#32
  let v536 : BitVec 32 := Scalar.remsi v535 c2_i32_346
  let v538 : BitVec 32 := Scalar.subi c1_i32_349 v536
  let v542 : BitVec 32 := Scalar.addi v541 v538
  let c128_i32_352 : BitVec 32 := 128#32
  let v543 : BitVec 32 := Scalar.muli v542 c128_i32_352
  let c0_i32_360 : BitVec 32 := 0#32
  ![v543.toNat, 0]
def k0_dev17 (d0 : Dev nD) : Nat :=
  let c0_i32_355 : BitVec 32 := 0#32
  let v528 : BitVec 32 := Dev.word d0
  let c4_i32_343 : BitVec 32 := 4#32
  let v529 : BitVec 32 := Scalar.divsi v528 c4_i32_343
  let c2_i32_342 : BitVec 32 := 2#32
  let v530 : BitVec 32 := Scalar.remsi v529 c2_i32_342
  let c4_i32_354 : BitVec 32 := 4#32
  let v544 : BitVec 32 := Scalar.muli v530 c4_i32_354
  let v545 : BitVec 32 := Scalar.addi c0_i32_355 v544
  let c1_i32_348 : BitVec 32 := 1#32
  let v531 : BitVec 32 := Dev.word d0
  let c2_i32_345 : BitVec 32 := 2#32
  let v532 : BitVec 32 := Scalar.divsi v531 c2_i32_345
  let c2_i32_344 : BitVec 32 := 2#32
  let v533 : BitVec 32 := Scalar.remsi v532 c2_i32_344
  let v537 : BitVec 32 := Scalar.subi c1_i32_348 v533
  let c2_i32_356 : BitVec 32 := 2#32
  let v546 : BitVec 32 := Scalar.muli v537 c2_i32_356
  let v547 : BitVec 32 := Scalar.addi v545 v546
  let c1_i32_349 : BitVec 32 := 1#32
  let v534 : BitVec 32 := Dev.word d0
  let c1_i32_347 : BitVec 32 := 1#32
  let v535 : BitVec 32 := Scalar.divsi v534 c1_i32_347
  let c2_i32_346 : BitVec 32 := 2#32
  let v536 : BitVec 32 := Scalar.remsi v535 c2_i32_346
  let v538 : BitVec 32 := Scalar.subi c1_i32_349 v536
  let c1_i32_357 : BitVec 32 := 1#32
  let v548 : BitVec 32 := Scalar.muli v538 c1_i32_357
  let v549 : BitVec 32 := Scalar.addi v547 v548
  v549.toNat
def k0_off24 (d0 : Dev nD) : Fin 2 → Nat :=
  let c4_i32_368 : BitVec 32 := 4#32
  let c1_i32_367 : BitVec 32 := 1#32
  let v557 : BitVec 32 := Dev.word d0
  let c4_i32_362 : BitVec 32 := 4#32
  let v558 : BitVec 32 := Scalar.divsi v557 c4_i32_362
  let c2_i32_361 : BitVec 32 := 2#32
  let v559 : BitVec 32 := Scalar.remsi v558 c2_i32_361
  let v566 : BitVec 32 := Scalar.subi c1_i32_367 v559
  let v567 : BitVec 32 := Scalar.muli c4_i32_368 v566
  let c2_i32_369 : BitVec 32 := 2#32
  let v560 : BitVec 32 := Dev.word d0
  let c2_i32_364 : BitVec 32 := 2#32
  let v561 : BitVec 32 := Scalar.divsi v560 c2_i32_364
  let c2_i32_363 : BitVec 32 := 2#32
  let v562 : BitVec 32 := Scalar.remsi v561 c2_i32_363
  let v568 : BitVec 32 := Scalar.muli c2_i32_369 v562
  let v569 : BitVec 32 := Scalar.addi v567 v568
  let v563 : BitVec 32 := Dev.word d0
  let c1_i32_366 : BitVec 32 := 1#32
  let v564 : BitVec 32 := Scalar.divsi v563 c1_i32_366
  let c2_i32_365 : BitVec 32 := 2#32
  let v565 : BitVec 32 := Scalar.remsi v564 c2_i32_365
  let v570 : BitVec 32 := Scalar.addi v569 v565
  let c128_i32_370 : BitVec 32 := 128#32
  let v571 : BitVec 32 := Scalar.muli v570 c128_i32_370
  let c0_i32_378 : BitVec 32 := 0#32
  ![v571.toNat, 0]
def k0_dev18 (d0 : Dev nD) : Nat :=
  let c0_i32_373 : BitVec 32 := 0#32
  let c1_i32_367 : BitVec 32 := 1#32
  let v557 : BitVec 32 := Dev.word d0
  let c4_i32_362 : BitVec 32 := 4#32
  let v558 : BitVec 32 := Scalar.divsi v557 c4_i32_362
  let c2_i32_361 : BitVec 32 := 2#32
  let v559 : BitVec 32 := Scalar.remsi v558 c2_i32_361
  let v566 : BitVec 32 := Scalar.subi c1_i32_367 v559
  let c4_i32_372 : BitVec 32 := 4#32
  let v572 : BitVec 32 := Scalar.muli v566 c4_i32_372
  let v573 : BitVec 32 := Scalar.addi c0_i32_373 v572
  let v560 : BitVec 32 := Dev.word d0
  let c2_i32_364 : BitVec 32 := 2#32
  let v561 : BitVec 32 := Scalar.divsi v560 c2_i32_364
  let c2_i32_363 : BitVec 32 := 2#32
  let v562 : BitVec 32 := Scalar.remsi v561 c2_i32_363
  let c2_i32_374 : BitVec 32 := 2#32
  let v574 : BitVec 32 := Scalar.muli v562 c2_i32_374
  let v575 : BitVec 32 := Scalar.addi v573 v574
  let v563 : BitVec 32 := Dev.word d0
  let c1_i32_366 : BitVec 32 := 1#32
  let v564 : BitVec 32 := Scalar.divsi v563 c1_i32_366
  let c2_i32_365 : BitVec 32 := 2#32
  let v565 : BitVec 32 := Scalar.remsi v564 c2_i32_365
  let c1_i32_375 : BitVec 32 := 1#32
  let v576 : BitVec 32 := Scalar.muli v565 c1_i32_375
  let v577 : BitVec 32 := Scalar.addi v575 v576
  v577.toNat
def k0_off25 (d0 : Dev nD) : Fin 2 → Nat :=
  let c4_i32_387 : BitVec 32 := 4#32
  let c1_i32_385 : BitVec 32 := 1#32
  let v585 : BitVec 32 := Dev.word d0
  let c4_i32_380 : BitVec 32 := 4#32
  let v586 : BitVec 32 := Scalar.divsi v585 c4_i32_380
  let c2_i32_379 : BitVec 32 := 2#32
  let v587 : BitVec 32 := Scalar.remsi v586 c2_i32_379
  let v594 : BitVec 32 := Scalar.subi c1_i32_385 v587
  let v596 : BitVec 32 := Scalar.muli c4_i32_387 v594
  let c2_i32_388 : BitVec 32 := 2#32
  let v588 : BitVec 32 := Dev.word d0
  let c2_i32_382 : BitVec 32 := 2#32
  let v589 : BitVec 32 := Scalar.divsi v588 c2_i32_382
  let c2_i32_381 : BitVec 32 := 2#32
  let v590 : BitVec 32 := Scalar.remsi v589 c2_i32_381
  let v597 : BitVec 32 := Scalar.muli c2_i32_388 v590
  let v598 : BitVec 32 := Scalar.addi v596 v597
  let c1_i32_386 : BitVec 32 := 1#32
  let v591 : BitVec 32 := Dev.word d0
  let c1_i32_384 : BitVec 32 := 1#32
  let v592 : BitVec 32 := Scalar.divsi v591 c1_i32_384
  let c2_i32_383 : BitVec 32 := 2#32
  let v593 : BitVec 32 := Scalar.remsi v592 c2_i32_383
  let v595 : BitVec 32 := Scalar.subi c1_i32_386 v593
  let v599 : BitVec 32 := Scalar.addi v598 v595
  let c128_i32_389 : BitVec 32 := 128#32
  let v600 : BitVec 32 := Scalar.muli v599 c128_i32_389
  let c0_i32_397 : BitVec 32 := 0#32
  ![v600.toNat, 0]
def k0_dev19 (d0 : Dev nD) : Nat :=
  let c0_i32_392 : BitVec 32 := 0#32
  let c1_i32_385 : BitVec 32 := 1#32
  let v585 : BitVec 32 := Dev.word d0
  let c4_i32_380 : BitVec 32 := 4#32
  let v586 : BitVec 32 := Scalar.divsi v585 c4_i32_380
  let c2_i32_379 : BitVec 32 := 2#32
  let v587 : BitVec 32 := Scalar.remsi v586 c2_i32_379
  let v594 : BitVec 32 := Scalar.subi c1_i32_385 v587
  let c4_i32_391 : BitVec 32 := 4#32
  let v601 : BitVec 32 := Scalar.muli v594 c4_i32_391
  let v602 : BitVec 32 := Scalar.addi c0_i32_392 v601
  let v588 : BitVec 32 := Dev.word d0
  let c2_i32_382 : BitVec 32 := 2#32
  let v589 : BitVec 32 := Scalar.divsi v588 c2_i32_382
  let c2_i32_381 : BitVec 32 := 2#32
  let v590 : BitVec 32 := Scalar.remsi v589 c2_i32_381
  let c2_i32_393 : BitVec 32 := 2#32
  let v603 : BitVec 32 := Scalar.muli v590 c2_i32_393
  let v604 : BitVec 32 := Scalar.addi v602 v603
  let c1_i32_386 : BitVec 32 := 1#32
  let v591 : BitVec 32 := Dev.word d0
  let c1_i32_384 : BitVec 32 := 1#32
  let v592 : BitVec 32 := Scalar.divsi v591 c1_i32_384
  let c2_i32_383 : BitVec 32 := 2#32
  let v593 : BitVec 32 := Scalar.remsi v592 c2_i32_383
  let v595 : BitVec 32 := Scalar.subi c1_i32_386 v593
  let c1_i32_394 : BitVec 32 := 1#32
  let v605 : BitVec 32 := Scalar.muli v595 c1_i32_394
  let v606 : BitVec 32 := Scalar.addi v604 v605
  v606.toNat
def k0_off26 (d0 : Dev nD) : Fin 2 → Nat :=
  let c4_i32_406 : BitVec 32 := 4#32
  let c1_i32_404 : BitVec 32 := 1#32
  let v614 : BitVec 32 := Dev.word d0
  let c4_i32_399 : BitVec 32 := 4#32
  let v615 : BitVec 32 := Scalar.divsi v614 c4_i32_399
  let c2_i32_398 : BitVec 32 := 2#32
  let v616 : BitVec 32 := Scalar.remsi v615 c2_i32_398
  let v623 : BitVec 32 := Scalar.subi c1_i32_404 v616
  let v625 : BitVec 32 := Scalar.muli c4_i32_406 v623
  let c2_i32_407 : BitVec 32 := 2#32
  let c1_i32_405 : BitVec 32 := 1#32
  let v617 : BitVec 32 := Dev.word d0
  let c2_i32_401 : BitVec 32 := 2#32
  let v618 : BitVec 32 := Scalar.divsi v617 c2_i32_401
  let c2_i32_400 : BitVec 32 := 2#32
  let v619 : BitVec 32 := Scalar.remsi v618 c2_i32_400
  let v624 : BitVec 32 := Scalar.subi c1_i32_405 v619
  let v626 : BitVec 32 := Scalar.muli c2_i32_407 v624
  let v627 : BitVec 32 := Scalar.addi v625 v626
  let v620 : BitVec 32 := Dev.word d0
  let c1_i32_403 : BitVec 32 := 1#32
  let v621 : BitVec 32 := Scalar.divsi v620 c1_i32_403
  let c2_i32_402 : BitVec 32 := 2#32
  let v622 : BitVec 32 := Scalar.remsi v621 c2_i32_402
  let v628 : BitVec 32 := Scalar.addi v627 v622
  let c128_i32_408 : BitVec 32 := 128#32
  let v629 : BitVec 32 := Scalar.muli v628 c128_i32_408
  let c0_i32_416 : BitVec 32 := 0#32
  ![v629.toNat, 0]
def k0_dev20 (d0 : Dev nD) : Nat :=
  let c0_i32_411 : BitVec 32 := 0#32
  let c1_i32_404 : BitVec 32 := 1#32
  let v614 : BitVec 32 := Dev.word d0
  let c4_i32_399 : BitVec 32 := 4#32
  let v615 : BitVec 32 := Scalar.divsi v614 c4_i32_399
  let c2_i32_398 : BitVec 32 := 2#32
  let v616 : BitVec 32 := Scalar.remsi v615 c2_i32_398
  let v623 : BitVec 32 := Scalar.subi c1_i32_404 v616
  let c4_i32_410 : BitVec 32 := 4#32
  let v630 : BitVec 32 := Scalar.muli v623 c4_i32_410
  let v631 : BitVec 32 := Scalar.addi c0_i32_411 v630
  let c1_i32_405 : BitVec 32 := 1#32
  let v617 : BitVec 32 := Dev.word d0
  let c2_i32_401 : BitVec 32 := 2#32
  let v618 : BitVec 32 := Scalar.divsi v617 c2_i32_401
  let c2_i32_400 : BitVec 32 := 2#32
  let v619 : BitVec 32 := Scalar.remsi v618 c2_i32_400
  let v624 : BitVec 32 := Scalar.subi c1_i32_405 v619
  let c2_i32_412 : BitVec 32 := 2#32
  let v632 : BitVec 32 := Scalar.muli v624 c2_i32_412
  let v633 : BitVec 32 := Scalar.addi v631 v632
  let v620 : BitVec 32 := Dev.word d0
  let c1_i32_403 : BitVec 32 := 1#32
  let v621 : BitVec 32 := Scalar.divsi v620 c1_i32_403
  let c2_i32_402 : BitVec 32 := 2#32
  let v622 : BitVec 32 := Scalar.remsi v621 c2_i32_402
  let c1_i32_413 : BitVec 32 := 1#32
  let v634 : BitVec 32 := Scalar.muli v622 c1_i32_413
  let v635 : BitVec 32 := Scalar.addi v633 v634
  v635.toNat
def k0_off27 (d0 : Dev nD) : Fin 2 → Nat :=
  let c4_i32_426 : BitVec 32 := 4#32
  let c1_i32_423 : BitVec 32 := 1#32
  let v643 : BitVec 32 := Dev.word d0
  let c4_i32_418 : BitVec 32 := 4#32
  let v644 : BitVec 32 := Scalar.divsi v643 c4_i32_418
  let c2_i32_417 : BitVec 32 := 2#32
  let v645 : BitVec 32 := Scalar.remsi v644 c2_i32_417
  let v652 : BitVec 32 := Scalar.subi c1_i32_423 v645
  let v655 : BitVec 32 := Scalar.muli c4_i32_426 v652
  let c2_i32_427 : BitVec 32 := 2#32
  let c1_i32_424 : BitVec 32 := 1#32
  let v646 : BitVec 32 := Dev.word d0
  let c2_i32_420 : BitVec 32 := 2#32
  let v647 : BitVec 32 := Scalar.divsi v646 c2_i32_420
  let c2_i32_419 : BitVec 32 := 2#32
  let v648 : BitVec 32 := Scalar.remsi v647 c2_i32_419
  let v653 : BitVec 32 := Scalar.subi c1_i32_424 v648
  let v656 : BitVec 32 := Scalar.muli c2_i32_427 v653
  let v657 : BitVec 32 := Scalar.addi v655 v656
  let c1_i32_425 : BitVec 32 := 1#32
  let v649 : BitVec 32 := Dev.word d0
  let c1_i32_422 : BitVec 32 := 1#32
  let v650 : BitVec 32 := Scalar.divsi v649 c1_i32_422
  let c2_i32_421 : BitVec 32 := 2#32
  let v651 : BitVec 32 := Scalar.remsi v650 c2_i32_421
  let v654 : BitVec 32 := Scalar.subi c1_i32_425 v651
  let v658 : BitVec 32 := Scalar.addi v657 v654
  let c128_i32_428 : BitVec 32 := 128#32
  let v659 : BitVec 32 := Scalar.muli v658 c128_i32_428
  let c0_i32_436 : BitVec 32 := 0#32
  ![v659.toNat, 0]
def k0_dev21 (d0 : Dev nD) : Nat :=
  let c0_i32_431 : BitVec 32 := 0#32
  let c1_i32_423 : BitVec 32 := 1#32
  let v643 : BitVec 32 := Dev.word d0
  let c4_i32_418 : BitVec 32 := 4#32
  let v644 : BitVec 32 := Scalar.divsi v643 c4_i32_418
  let c2_i32_417 : BitVec 32 := 2#32
  let v645 : BitVec 32 := Scalar.remsi v644 c2_i32_417
  let v652 : BitVec 32 := Scalar.subi c1_i32_423 v645
  let c4_i32_430 : BitVec 32 := 4#32
  let v660 : BitVec 32 := Scalar.muli v652 c4_i32_430
  let v661 : BitVec 32 := Scalar.addi c0_i32_431 v660
  let c1_i32_424 : BitVec 32 := 1#32
  let v646 : BitVec 32 := Dev.word d0
  let c2_i32_420 : BitVec 32 := 2#32
  let v647 : BitVec 32 := Scalar.divsi v646 c2_i32_420
  let c2_i32_419 : BitVec 32 := 2#32
  let v648 : BitVec 32 := Scalar.remsi v647 c2_i32_419
  let v653 : BitVec 32 := Scalar.subi c1_i32_424 v648
  let c2_i32_432 : BitVec 32 := 2#32
  let v662 : BitVec 32 := Scalar.muli v653 c2_i32_432
  let v663 : BitVec 32 := Scalar.addi v661 v662
  let c1_i32_425 : BitVec 32 := 1#32
  let v649 : BitVec 32 := Dev.word d0
  let c1_i32_422 : BitVec 32 := 1#32
  let v650 : BitVec 32 := Scalar.divsi v649 c1_i32_422
  let c2_i32_421 : BitVec 32 := 2#32
  let v651 : BitVec 32 := Scalar.remsi v650 c2_i32_421
  let v654 : BitVec 32 := Scalar.subi c1_i32_425 v651
  let c1_i32_433 : BitVec 32 := 1#32
  let v664 : BitVec 32 := Scalar.muli v654 c1_i32_433
  let v665 : BitVec 32 := Scalar.addi v663 v664
  v665.toNat
def k0_off28 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_446 : BitVec 32 := 0#32
  let c0_i32_447 : BitVec 32 := 0#32
  ![v12.toNat, 0, 0]
def k0_off29 (d0 : Dev nD) : Fin 2 → Nat :=
  let c4_i32_443 : BitVec 32 := 4#32
  let v673 : BitVec 32 := Dev.word d0
  let c4_i32_438 : BitVec 32 := 4#32
  let v674 : BitVec 32 := Scalar.divsi v673 c4_i32_438
  let c2_i32_437 : BitVec 32 := 2#32
  let v675 : BitVec 32 := Scalar.remsi v674 c2_i32_437
  let v682 : BitVec 32 := Scalar.muli c4_i32_443 v675
  let c2_i32_444 : BitVec 32 := 2#32
  let v676 : BitVec 32 := Dev.word d0
  let c2_i32_440 : BitVec 32 := 2#32
  let v677 : BitVec 32 := Scalar.divsi v676 c2_i32_440
  let c2_i32_439 : BitVec 32 := 2#32
  let v678 : BitVec 32 := Scalar.remsi v677 c2_i32_439
  let v683 : BitVec 32 := Scalar.muli c2_i32_444 v678
  let v684 : BitVec 32 := Scalar.addi v682 v683
  let v679 : BitVec 32 := Dev.word d0
  let c1_i32_442 : BitVec 32 := 1#32
  let v680 : BitVec 32 := Scalar.divsi v679 c1_i32_442
  let c2_i32_441 : BitVec 32 := 2#32
  let v681 : BitVec 32 := Scalar.remsi v680 c2_i32_441
  let v685 : BitVec 32 := Scalar.addi v684 v681
  let c512_i32 : BitVec 32 := 512#32
  let v686 : BitVec 32 := Scalar.muli v685 c512_i32
  let c0_i32_448 : BitVec 32 := 0#32
  ![v686.toNat, 0]
def k0_off30 (d0 : Dev nD) : Fin 2 → Nat :=
  let c4_i32_456 : BitVec 32 := 4#32
  let v692 : BitVec 32 := Dev.word d0
  let c4_i32_450 : BitVec 32 := 4#32
  let v693 : BitVec 32 := Scalar.divsi v692 c4_i32_450
  let c2_i32_449 : BitVec 32 := 2#32
  let v694 : BitVec 32 := Scalar.remsi v693 c2_i32_449
  let v702 : BitVec 32 := Scalar.muli c4_i32_456 v694
  let c2_i32_457 : BitVec 32 := 2#32
  let v695 : BitVec 32 := Dev.word d0
  let c2_i32_452 : BitVec 32 := 2#32
  let v696 : BitVec 32 := Scalar.divsi v695 c2_i32_452
  let c2_i32_451 : BitVec 32 := 2#32
  let v697 : BitVec 32 := Scalar.remsi v696 c2_i32_451
  let v703 : BitVec 32 := Scalar.muli c2_i32_457 v697
  let v704 : BitVec 32 := Scalar.addi v702 v703
  let c1_i32_455 : BitVec 32 := 1#32
  let v698 : BitVec 32 := Dev.word d0
  let c1_i32_454 : BitVec 32 := 1#32
  let v699 : BitVec 32 := Scalar.divsi v698 c1_i32_454
  let c2_i32_453 : BitVec 32 := 2#32
  let v700 : BitVec 32 := Scalar.remsi v699 c2_i32_453
  let v701 : BitVec 32 := Scalar.subi c1_i32_455 v700
  let v705 : BitVec 32 := Scalar.addi v704 v701
  let c512_i32_458 : BitVec 32 := 512#32
  let v706 : BitVec 32 := Scalar.muli v705 c512_i32_458
  let c0_i32_466 : BitVec 32 := 0#32
  ![v706.toNat, 0]
def k0_dev22 (d0 : Dev nD) : Nat :=
  let c0_i32_461 : BitVec 32 := 0#32
  let v692 : BitVec 32 := Dev.word d0
  let c4_i32_450 : BitVec 32 := 4#32
  let v693 : BitVec 32 := Scalar.divsi v692 c4_i32_450
  let c2_i32_449 : BitVec 32 := 2#32
  let v694 : BitVec 32 := Scalar.remsi v693 c2_i32_449
  let c4_i32_460 : BitVec 32 := 4#32
  let v707 : BitVec 32 := Scalar.muli v694 c4_i32_460
  let v708 : BitVec 32 := Scalar.addi c0_i32_461 v707
  let v695 : BitVec 32 := Dev.word d0
  let c2_i32_452 : BitVec 32 := 2#32
  let v696 : BitVec 32 := Scalar.divsi v695 c2_i32_452
  let c2_i32_451 : BitVec 32 := 2#32
  let v697 : BitVec 32 := Scalar.remsi v696 c2_i32_451
  let c2_i32_462 : BitVec 32 := 2#32
  let v709 : BitVec 32 := Scalar.muli v697 c2_i32_462
  let v710 : BitVec 32 := Scalar.addi v708 v709
  let c1_i32_455 : BitVec 32 := 1#32
  let v698 : BitVec 32 := Dev.word d0
  let c1_i32_454 : BitVec 32 := 1#32
  let v699 : BitVec 32 := Scalar.divsi v698 c1_i32_454
  let c2_i32_453 : BitVec 32 := 2#32
  let v700 : BitVec 32 := Scalar.remsi v699 c2_i32_453
  let v701 : BitVec 32 := Scalar.subi c1_i32_455 v700
  let c1_i32_463 : BitVec 32 := 1#32
  let v711 : BitVec 32 := Scalar.muli v701 c1_i32_463
  let v712 : BitVec 32 := Scalar.addi v710 v711
  v712.toNat
def k0_off31 (d0 : Dev nD) : Fin 2 → Nat :=
  let c4_i32_474 : BitVec 32 := 4#32
  let v720 : BitVec 32 := Dev.word d0
  let c4_i32_468 : BitVec 32 := 4#32
  let v721 : BitVec 32 := Scalar.divsi v720 c4_i32_468
  let c2_i32_467 : BitVec 32 := 2#32
  let v722 : BitVec 32 := Scalar.remsi v721 c2_i32_467
  let v730 : BitVec 32 := Scalar.muli c4_i32_474 v722
  let c2_i32_475 : BitVec 32 := 2#32
  let c1_i32_473 : BitVec 32 := 1#32
  let v723 : BitVec 32 := Dev.word d0
  let c2_i32_470 : BitVec 32 := 2#32
  let v724 : BitVec 32 := Scalar.divsi v723 c2_i32_470
  let c2_i32_469 : BitVec 32 := 2#32
  let v725 : BitVec 32 := Scalar.remsi v724 c2_i32_469
  let v729 : BitVec 32 := Scalar.subi c1_i32_473 v725
  let v731 : BitVec 32 := Scalar.muli c2_i32_475 v729
  let v732 : BitVec 32 := Scalar.addi v730 v731
  let v726 : BitVec 32 := Dev.word d0
  let c1_i32_472 : BitVec 32 := 1#32
  let v727 : BitVec 32 := Scalar.divsi v726 c1_i32_472
  let c2_i32_471 : BitVec 32 := 2#32
  let v728 : BitVec 32 := Scalar.remsi v727 c2_i32_471
  let v733 : BitVec 32 := Scalar.addi v732 v728
  let c512_i32_476 : BitVec 32 := 512#32
  let v734 : BitVec 32 := Scalar.muli v733 c512_i32_476
  let c0_i32_484 : BitVec 32 := 0#32
  ![v734.toNat, 0]
def k0_dev23 (d0 : Dev nD) : Nat :=
  let c0_i32_479 : BitVec 32 := 0#32
  let v720 : BitVec 32 := Dev.word d0
  let c4_i32_468 : BitVec 32 := 4#32
  let v721 : BitVec 32 := Scalar.divsi v720 c4_i32_468
  let c2_i32_467 : BitVec 32 := 2#32
  let v722 : BitVec 32 := Scalar.remsi v721 c2_i32_467
  let c4_i32_478 : BitVec 32 := 4#32
  let v735 : BitVec 32 := Scalar.muli v722 c4_i32_478
  let v736 : BitVec 32 := Scalar.addi c0_i32_479 v735
  let c1_i32_473 : BitVec 32 := 1#32
  let v723 : BitVec 32 := Dev.word d0
  let c2_i32_470 : BitVec 32 := 2#32
  let v724 : BitVec 32 := Scalar.divsi v723 c2_i32_470
  let c2_i32_469 : BitVec 32 := 2#32
  let v725 : BitVec 32 := Scalar.remsi v724 c2_i32_469
  let v729 : BitVec 32 := Scalar.subi c1_i32_473 v725
  let c2_i32_480 : BitVec 32 := 2#32
  let v737 : BitVec 32 := Scalar.muli v729 c2_i32_480
  let v738 : BitVec 32 := Scalar.addi v736 v737
  let v726 : BitVec 32 := Dev.word d0
  let c1_i32_472 : BitVec 32 := 1#32
  let v727 : BitVec 32 := Scalar.divsi v726 c1_i32_472
  let c2_i32_471 : BitVec 32 := 2#32
  let v728 : BitVec 32 := Scalar.remsi v727 c2_i32_471
  let c1_i32_481 : BitVec 32 := 1#32
  let v739 : BitVec 32 := Scalar.muli v728 c1_i32_481
  let v740 : BitVec 32 := Scalar.addi v738 v739
  v740.toNat
def k0_off32 (d0 : Dev nD) : Fin 2 → Nat :=
  let c4_i32_493 : BitVec 32 := 4#32
  let v748 : BitVec 32 := Dev.word d0
  let c4_i32_486 : BitVec 32 := 4#32
  let v749 : BitVec 32 := Scalar.divsi v748 c4_i32_486
  let c2_i32_485 : BitVec 32 := 2#32
  let v750 : BitVec 32 := Scalar.remsi v749 c2_i32_485
  let v759 : BitVec 32 := Scalar.muli c4_i32_493 v750
  let c2_i32_494 : BitVec 32 := 2#32
  let c1_i32_491 : BitVec 32 := 1#32
  let v751 : BitVec 32 := Dev.word d0
  let c2_i32_488 : BitVec 32 := 2#32
  let v752 : BitVec 32 := Scalar.divsi v751 c2_i32_488
  let c2_i32_487 : BitVec 32 := 2#32
  let v753 : BitVec 32 := Scalar.remsi v752 c2_i32_487
  let v757 : BitVec 32 := Scalar.subi c1_i32_491 v753
  let v760 : BitVec 32 := Scalar.muli c2_i32_494 v757
  let v761 : BitVec 32 := Scalar.addi v759 v760
  let c1_i32_492 : BitVec 32 := 1#32
  let v754 : BitVec 32 := Dev.word d0
  let c1_i32_490 : BitVec 32 := 1#32
  let v755 : BitVec 32 := Scalar.divsi v754 c1_i32_490
  let c2_i32_489 : BitVec 32 := 2#32
  let v756 : BitVec 32 := Scalar.remsi v755 c2_i32_489
  let v758 : BitVec 32 := Scalar.subi c1_i32_492 v756
  let v762 : BitVec 32 := Scalar.addi v761 v758
  let c512_i32_495 : BitVec 32 := 512#32
  let v763 : BitVec 32 := Scalar.muli v762 c512_i32_495
  let c0_i32_503 : BitVec 32 := 0#32
  ![v763.toNat, 0]
def k0_dev24 (d0 : Dev nD) : Nat :=
  let c0_i32_498 : BitVec 32 := 0#32
  let v748 : BitVec 32 := Dev.word d0
  let c4_i32_486 : BitVec 32 := 4#32
  let v749 : BitVec 32 := Scalar.divsi v748 c4_i32_486
  let c2_i32_485 : BitVec 32 := 2#32
  let v750 : BitVec 32 := Scalar.remsi v749 c2_i32_485
  let c4_i32_497 : BitVec 32 := 4#32
  let v764 : BitVec 32 := Scalar.muli v750 c4_i32_497
  let v765 : BitVec 32 := Scalar.addi c0_i32_498 v764
  let c1_i32_491 : BitVec 32 := 1#32
  let v751 : BitVec 32 := Dev.word d0
  let c2_i32_488 : BitVec 32 := 2#32
  let v752 : BitVec 32 := Scalar.divsi v751 c2_i32_488
  let c2_i32_487 : BitVec 32 := 2#32
  let v753 : BitVec 32 := Scalar.remsi v752 c2_i32_487
  let v757 : BitVec 32 := Scalar.subi c1_i32_491 v753
  let c2_i32_499 : BitVec 32 := 2#32
  let v766 : BitVec 32 := Scalar.muli v757 c2_i32_499
  let v767 : BitVec 32 := Scalar.addi v765 v766
  let c1_i32_492 : BitVec 32 := 1#32
  let v754 : BitVec 32 := Dev.word d0
  let c1_i32_490 : BitVec 32 := 1#32
  let v755 : BitVec 32 := Scalar.divsi v754 c1_i32_490
  let c2_i32_489 : BitVec 32 := 2#32
  let v756 : BitVec 32 := Scalar.remsi v755 c2_i32_489
  let v758 : BitVec 32 := Scalar.subi c1_i32_492 v756
  let c1_i32_500 : BitVec 32 := 1#32
  let v768 : BitVec 32 := Scalar.muli v758 c1_i32_500
  let v769 : BitVec 32 := Scalar.addi v767 v768
  v769.toNat
def k0_off33 (d0 : Dev nD) : Fin 2 → Nat :=
  let c4_i32_511 : BitVec 32 := 4#32
  let c1_i32_510 : BitVec 32 := 1#32
  let v777 : BitVec 32 := Dev.word d0
  let c4_i32_505 : BitVec 32 := 4#32
  let v778 : BitVec 32 := Scalar.divsi v777 c4_i32_505
  let c2_i32_504 : BitVec 32 := 2#32
  let v779 : BitVec 32 := Scalar.remsi v778 c2_i32_504
  let v786 : BitVec 32 := Scalar.subi c1_i32_510 v779
  let v787 : BitVec 32 := Scalar.muli c4_i32_511 v786
  let c2_i32_512 : BitVec 32 := 2#32
  let v780 : BitVec 32 := Dev.word d0
  let c2_i32_507 : BitVec 32 := 2#32
  let v781 : BitVec 32 := Scalar.divsi v780 c2_i32_507
  let c2_i32_506 : BitVec 32 := 2#32
  let v782 : BitVec 32 := Scalar.remsi v781 c2_i32_506
  let v788 : BitVec 32 := Scalar.muli c2_i32_512 v782
  let v789 : BitVec 32 := Scalar.addi v787 v788
  let v783 : BitVec 32 := Dev.word d0
  let c1_i32_509 : BitVec 32 := 1#32
  let v784 : BitVec 32 := Scalar.divsi v783 c1_i32_509
  let c2_i32_508 : BitVec 32 := 2#32
  let v785 : BitVec 32 := Scalar.remsi v784 c2_i32_508
  let v790 : BitVec 32 := Scalar.addi v789 v785
  let c512_i32_513 : BitVec 32 := 512#32
  let v791 : BitVec 32 := Scalar.muli v790 c512_i32_513
  let c0_i32_521 : BitVec 32 := 0#32
  ![v791.toNat, 0]
def k0_dev25 (d0 : Dev nD) : Nat :=
  let c0_i32_516 : BitVec 32 := 0#32
  let c1_i32_510 : BitVec 32 := 1#32
  let v777 : BitVec 32 := Dev.word d0
  let c4_i32_505 : BitVec 32 := 4#32
  let v778 : BitVec 32 := Scalar.divsi v777 c4_i32_505
  let c2_i32_504 : BitVec 32 := 2#32
  let v779 : BitVec 32 := Scalar.remsi v778 c2_i32_504
  let v786 : BitVec 32 := Scalar.subi c1_i32_510 v779
  let c4_i32_515 : BitVec 32 := 4#32
  let v792 : BitVec 32 := Scalar.muli v786 c4_i32_515
  let v793 : BitVec 32 := Scalar.addi c0_i32_516 v792
  let v780 : BitVec 32 := Dev.word d0
  let c2_i32_507 : BitVec 32 := 2#32
  let v781 : BitVec 32 := Scalar.divsi v780 c2_i32_507
  let c2_i32_506 : BitVec 32 := 2#32
  let v782 : BitVec 32 := Scalar.remsi v781 c2_i32_506
  let c2_i32_517 : BitVec 32 := 2#32
  let v794 : BitVec 32 := Scalar.muli v782 c2_i32_517
  let v795 : BitVec 32 := Scalar.addi v793 v794
  let v783 : BitVec 32 := Dev.word d0
  let c1_i32_509 : BitVec 32 := 1#32
  let v784 : BitVec 32 := Scalar.divsi v783 c1_i32_509
  let c2_i32_508 : BitVec 32 := 2#32
  let v785 : BitVec 32 := Scalar.remsi v784 c2_i32_508
  let c1_i32_518 : BitVec 32 := 1#32
  let v796 : BitVec 32 := Scalar.muli v785 c1_i32_518
  let v797 : BitVec 32 := Scalar.addi v795 v796
  v797.toNat
def k0_off34 (d0 : Dev nD) : Fin 2 → Nat :=
  let c4_i32_530 : BitVec 32 := 4#32
  let c1_i32_528 : BitVec 32 := 1#32
  let v805 : BitVec 32 := Dev.word d0
  let c4_i32_523 : BitVec 32 := 4#32
  let v806 : BitVec 32 := Scalar.divsi v805 c4_i32_523
  let c2_i32_522 : BitVec 32 := 2#32
  let v807 : BitVec 32 := Scalar.remsi v806 c2_i32_522
  let v814 : BitVec 32 := Scalar.subi c1_i32_528 v807
  let v816 : BitVec 32 := Scalar.muli c4_i32_530 v814
  let c2_i32_531 : BitVec 32 := 2#32
  let v808 : BitVec 32 := Dev.word d0
  let c2_i32_525 : BitVec 32 := 2#32
  let v809 : BitVec 32 := Scalar.divsi v808 c2_i32_525
  let c2_i32_524 : BitVec 32 := 2#32
  let v810 : BitVec 32 := Scalar.remsi v809 c2_i32_524
  let v817 : BitVec 32 := Scalar.muli c2_i32_531 v810
  let v818 : BitVec 32 := Scalar.addi v816 v817
  let c1_i32_529 : BitVec 32 := 1#32
  let v811 : BitVec 32 := Dev.word d0
  let c1_i32_527 : BitVec 32 := 1#32
  let v812 : BitVec 32 := Scalar.divsi v811 c1_i32_527
  let c2_i32_526 : BitVec 32 := 2#32
  let v813 : BitVec 32 := Scalar.remsi v812 c2_i32_526
  let v815 : BitVec 32 := Scalar.subi c1_i32_529 v813
  let v819 : BitVec 32 := Scalar.addi v818 v815
  let c512_i32_532 : BitVec 32 := 512#32
  let v820 : BitVec 32 := Scalar.muli v819 c512_i32_532
  let c0_i32_540 : BitVec 32 := 0#32
  ![v820.toNat, 0]
def k0_dev26 (d0 : Dev nD) : Nat :=
  let c0_i32_535 : BitVec 32 := 0#32
  let c1_i32_528 : BitVec 32 := 1#32
  let v805 : BitVec 32 := Dev.word d0
  let c4_i32_523 : BitVec 32 := 4#32
  let v806 : BitVec 32 := Scalar.divsi v805 c4_i32_523
  let c2_i32_522 : BitVec 32 := 2#32
  let v807 : BitVec 32 := Scalar.remsi v806 c2_i32_522
  let v814 : BitVec 32 := Scalar.subi c1_i32_528 v807
  let c4_i32_534 : BitVec 32 := 4#32
  let v821 : BitVec 32 := Scalar.muli v814 c4_i32_534
  let v822 : BitVec 32 := Scalar.addi c0_i32_535 v821
  let v808 : BitVec 32 := Dev.word d0
  let c2_i32_525 : BitVec 32 := 2#32
  let v809 : BitVec 32 := Scalar.divsi v808 c2_i32_525
  let c2_i32_524 : BitVec 32 := 2#32
  let v810 : BitVec 32 := Scalar.remsi v809 c2_i32_524
  let c2_i32_536 : BitVec 32 := 2#32
  let v823 : BitVec 32 := Scalar.muli v810 c2_i32_536
  let v824 : BitVec 32 := Scalar.addi v822 v823
  let c1_i32_529 : BitVec 32 := 1#32
  let v811 : BitVec 32 := Dev.word d0
  let c1_i32_527 : BitVec 32 := 1#32
  let v812 : BitVec 32 := Scalar.divsi v811 c1_i32_527
  let c2_i32_526 : BitVec 32 := 2#32
  let v813 : BitVec 32 := Scalar.remsi v812 c2_i32_526
  let v815 : BitVec 32 := Scalar.subi c1_i32_529 v813
  let c1_i32_537 : BitVec 32 := 1#32
  let v825 : BitVec 32 := Scalar.muli v815 c1_i32_537
  let v826 : BitVec 32 := Scalar.addi v824 v825
  v826.toNat
def k0_off35 (d0 : Dev nD) : Fin 2 → Nat :=
  let c4_i32_549 : BitVec 32 := 4#32
  let c1_i32_547 : BitVec 32 := 1#32
  let v834 : BitVec 32 := Dev.word d0
  let c4_i32_542 : BitVec 32 := 4#32
  let v835 : BitVec 32 := Scalar.divsi v834 c4_i32_542
  let c2_i32_541 : BitVec 32 := 2#32
  let v836 : BitVec 32 := Scalar.remsi v835 c2_i32_541
  let v843 : BitVec 32 := Scalar.subi c1_i32_547 v836
  let v845 : BitVec 32 := Scalar.muli c4_i32_549 v843
  let c2_i32_550 : BitVec 32 := 2#32
  let c1_i32_548 : BitVec 32 := 1#32
  let v837 : BitVec 32 := Dev.word d0
  let c2_i32_544 : BitVec 32 := 2#32
  let v838 : BitVec 32 := Scalar.divsi v837 c2_i32_544
  let c2_i32_543 : BitVec 32 := 2#32
  let v839 : BitVec 32 := Scalar.remsi v838 c2_i32_543
  let v844 : BitVec 32 := Scalar.subi c1_i32_548 v839
  let v846 : BitVec 32 := Scalar.muli c2_i32_550 v844
  let v847 : BitVec 32 := Scalar.addi v845 v846
  let v840 : BitVec 32 := Dev.word d0
  let c1_i32_546 : BitVec 32 := 1#32
  let v841 : BitVec 32 := Scalar.divsi v840 c1_i32_546
  let c2_i32_545 : BitVec 32 := 2#32
  let v842 : BitVec 32 := Scalar.remsi v841 c2_i32_545
  let v848 : BitVec 32 := Scalar.addi v847 v842
  let c512_i32_551 : BitVec 32 := 512#32
  let v849 : BitVec 32 := Scalar.muli v848 c512_i32_551
  let c0_i32_559 : BitVec 32 := 0#32
  ![v849.toNat, 0]
def k0_dev27 (d0 : Dev nD) : Nat :=
  let c0_i32_554 : BitVec 32 := 0#32
  let c1_i32_547 : BitVec 32 := 1#32
  let v834 : BitVec 32 := Dev.word d0
  let c4_i32_542 : BitVec 32 := 4#32
  let v835 : BitVec 32 := Scalar.divsi v834 c4_i32_542
  let c2_i32_541 : BitVec 32 := 2#32
  let v836 : BitVec 32 := Scalar.remsi v835 c2_i32_541
  let v843 : BitVec 32 := Scalar.subi c1_i32_547 v836
  let c4_i32_553 : BitVec 32 := 4#32
  let v850 : BitVec 32 := Scalar.muli v843 c4_i32_553
  let v851 : BitVec 32 := Scalar.addi c0_i32_554 v850
  let c1_i32_548 : BitVec 32 := 1#32
  let v837 : BitVec 32 := Dev.word d0
  let c2_i32_544 : BitVec 32 := 2#32
  let v838 : BitVec 32 := Scalar.divsi v837 c2_i32_544
  let c2_i32_543 : BitVec 32 := 2#32
  let v839 : BitVec 32 := Scalar.remsi v838 c2_i32_543
  let v844 : BitVec 32 := Scalar.subi c1_i32_548 v839
  let c2_i32_555 : BitVec 32 := 2#32
  let v852 : BitVec 32 := Scalar.muli v844 c2_i32_555
  let v853 : BitVec 32 := Scalar.addi v851 v852
  let v840 : BitVec 32 := Dev.word d0
  let c1_i32_546 : BitVec 32 := 1#32
  let v841 : BitVec 32 := Scalar.divsi v840 c1_i32_546
  let c2_i32_545 : BitVec 32 := 2#32
  let v842 : BitVec 32 := Scalar.remsi v841 c2_i32_545
  let c1_i32_556 : BitVec 32 := 1#32
  let v854 : BitVec 32 := Scalar.muli v842 c1_i32_556
  let v855 : BitVec 32 := Scalar.addi v853 v854
  v855.toNat
def k0_off36 (d0 : Dev nD) : Fin 2 → Nat :=
  let c4_i32_569 : BitVec 32 := 4#32
  let c1_i32_566 : BitVec 32 := 1#32
  let v863 : BitVec 32 := Dev.word d0
  let c4_i32_561 : BitVec 32 := 4#32
  let v864 : BitVec 32 := Scalar.divsi v863 c4_i32_561
  let c2_i32_560 : BitVec 32 := 2#32
  let v865 : BitVec 32 := Scalar.remsi v864 c2_i32_560
  let v872 : BitVec 32 := Scalar.subi c1_i32_566 v865
  let v875 : BitVec 32 := Scalar.muli c4_i32_569 v872
  let c2_i32_570 : BitVec 32 := 2#32
  let c1_i32_567 : BitVec 32 := 1#32
  let v866 : BitVec 32 := Dev.word d0
  let c2_i32_563 : BitVec 32 := 2#32
  let v867 : BitVec 32 := Scalar.divsi v866 c2_i32_563
  let c2_i32_562 : BitVec 32 := 2#32
  let v868 : BitVec 32 := Scalar.remsi v867 c2_i32_562
  let v873 : BitVec 32 := Scalar.subi c1_i32_567 v868
  let v876 : BitVec 32 := Scalar.muli c2_i32_570 v873
  let v877 : BitVec 32 := Scalar.addi v875 v876
  let c1_i32_568 : BitVec 32 := 1#32
  let v869 : BitVec 32 := Dev.word d0
  let c1_i32_565 : BitVec 32 := 1#32
  let v870 : BitVec 32 := Scalar.divsi v869 c1_i32_565
  let c2_i32_564 : BitVec 32 := 2#32
  let v871 : BitVec 32 := Scalar.remsi v870 c2_i32_564
  let v874 : BitVec 32 := Scalar.subi c1_i32_568 v871
  let v878 : BitVec 32 := Scalar.addi v877 v874
  let c512_i32_571 : BitVec 32 := 512#32
  let v879 : BitVec 32 := Scalar.muli v878 c512_i32_571
  let c0_i32_579 : BitVec 32 := 0#32
  ![v879.toNat, 0]
def k0_dev28 (d0 : Dev nD) : Nat :=
  let c0_i32_574 : BitVec 32 := 0#32
  let c1_i32_566 : BitVec 32 := 1#32
  let v863 : BitVec 32 := Dev.word d0
  let c4_i32_561 : BitVec 32 := 4#32
  let v864 : BitVec 32 := Scalar.divsi v863 c4_i32_561
  let c2_i32_560 : BitVec 32 := 2#32
  let v865 : BitVec 32 := Scalar.remsi v864 c2_i32_560
  let v872 : BitVec 32 := Scalar.subi c1_i32_566 v865
  let c4_i32_573 : BitVec 32 := 4#32
  let v880 : BitVec 32 := Scalar.muli v872 c4_i32_573
  let v881 : BitVec 32 := Scalar.addi c0_i32_574 v880
  let c1_i32_567 : BitVec 32 := 1#32
  let v866 : BitVec 32 := Dev.word d0
  let c2_i32_563 : BitVec 32 := 2#32
  let v867 : BitVec 32 := Scalar.divsi v866 c2_i32_563
  let c2_i32_562 : BitVec 32 := 2#32
  let v868 : BitVec 32 := Scalar.remsi v867 c2_i32_562
  let v873 : BitVec 32 := Scalar.subi c1_i32_567 v868
  let c2_i32_575 : BitVec 32 := 2#32
  let v882 : BitVec 32 := Scalar.muli v873 c2_i32_575
  let v883 : BitVec 32 := Scalar.addi v881 v882
  let c1_i32_568 : BitVec 32 := 1#32
  let v869 : BitVec 32 := Dev.word d0
  let c1_i32_565 : BitVec 32 := 1#32
  let v870 : BitVec 32 := Scalar.divsi v869 c1_i32_565
  let c2_i32_564 : BitVec 32 := 2#32
  let v871 : BitVec 32 := Scalar.remsi v870 c2_i32_564
  let v874 : BitVec 32 := Scalar.subi c1_i32_568 v871
  let c1_i32_576 : BitVec 32 := 1#32
  let v884 : BitVec 32 := Scalar.muli v874 c1_i32_576
  let v885 : BitVec 32 := Scalar.addi v883 v884
  v885.toNat
def k0_dev29 (d0 : Dev nD) : Nat :=
  let c0_i32_605 : BitVec 32 := 0#32
  let v912 : BitVec 32 := Dev.word d0
  let c4_i32_594 : BitVec 32 := 4#32
  let v913 : BitVec 32 := Scalar.divsi v912 c4_i32_594
  let c2_i32_593 : BitVec 32 := 2#32
  let v914 : BitVec 32 := Scalar.remsi v913 c2_i32_593
  let c4_i32_604 : BitVec 32 := 4#32
  let v927 : BitVec 32 := Scalar.muli v914 c4_i32_604
  let v928 : BitVec 32 := Scalar.addi c0_i32_605 v927
  let v915 : BitVec 32 := Dev.word d0
  let c2_i32_596 : BitVec 32 := 2#32
  let v916 : BitVec 32 := Scalar.divsi v915 c2_i32_596
  let c2_i32_595 : BitVec 32 := 2#32
  let v917 : BitVec 32 := Scalar.remsi v916 c2_i32_595
  let c2_i32_606 : BitVec 32 := 2#32
  let v929 : BitVec 32 := Scalar.muli v917 c2_i32_606
  let v930 : BitVec 32 := Scalar.addi v928 v929
  let c1_i32_599 : BitVec 32 := 1#32
  let v918 : BitVec 32 := Dev.word d0
  let c1_i32_598 : BitVec 32 := 1#32
  let v919 : BitVec 32 := Scalar.divsi v918 c1_i32_598
  let c2_i32_597 : BitVec 32 := 2#32
  let v920 : BitVec 32 := Scalar.remsi v919 c2_i32_597
  let v921 : BitVec 32 := Scalar.subi c1_i32_599 v920
  let c1_i32_607 : BitVec 32 := 1#32
  let v931 : BitVec 32 := Scalar.muli v921 c1_i32_607
  let v932 : BitVec 32 := Scalar.addi v930 v931
  v932.toNat
def k0_dev30 (d0 : Dev nD) : Nat :=
  let c0_i32_623 : BitVec 32 := 0#32
  let v940 : BitVec 32 := Dev.word d0
  let c4_i32_612 : BitVec 32 := 4#32
  let v941 : BitVec 32 := Scalar.divsi v940 c4_i32_612
  let c2_i32_611 : BitVec 32 := 2#32
  let v942 : BitVec 32 := Scalar.remsi v941 c2_i32_611
  let c4_i32_622 : BitVec 32 := 4#32
  let v955 : BitVec 32 := Scalar.muli v942 c4_i32_622
  let v956 : BitVec 32 := Scalar.addi c0_i32_623 v955
  let c1_i32_617 : BitVec 32 := 1#32
  let v943 : BitVec 32 := Dev.word d0
  let c2_i32_614 : BitVec 32 := 2#32
  let v944 : BitVec 32 := Scalar.divsi v943 c2_i32_614
  let c2_i32_613 : BitVec 32 := 2#32
  let v945 : BitVec 32 := Scalar.remsi v944 c2_i32_613
  let v949 : BitVec 32 := Scalar.subi c1_i32_617 v945
  let c2_i32_624 : BitVec 32 := 2#32
  let v957 : BitVec 32 := Scalar.muli v949 c2_i32_624
  let v958 : BitVec 32 := Scalar.addi v956 v957
  let v946 : BitVec 32 := Dev.word d0
  let c1_i32_616 : BitVec 32 := 1#32
  let v947 : BitVec 32 := Scalar.divsi v946 c1_i32_616
  let c2_i32_615 : BitVec 32 := 2#32
  let v948 : BitVec 32 := Scalar.remsi v947 c2_i32_615
  let c1_i32_625 : BitVec 32 := 1#32
  let v959 : BitVec 32 := Scalar.muli v948 c1_i32_625
  let v960 : BitVec 32 := Scalar.addi v958 v959
  v960.toNat
def k0_dev31 (d0 : Dev nD) : Nat :=
  let c0_i32_642 : BitVec 32 := 0#32
  let v968 : BitVec 32 := Dev.word d0
  let c4_i32_630 : BitVec 32 := 4#32
  let v969 : BitVec 32 := Scalar.divsi v968 c4_i32_630
  let c2_i32_629 : BitVec 32 := 2#32
  let v970 : BitVec 32 := Scalar.remsi v969 c2_i32_629
  let c4_i32_641 : BitVec 32 := 4#32
  let v984 : BitVec 32 := Scalar.muli v970 c4_i32_641
  let v985 : BitVec 32 := Scalar.addi c0_i32_642 v984
  let c1_i32_635 : BitVec 32 := 1#32
  let v971 : BitVec 32 := Dev.word d0
  let c2_i32_632 : BitVec 32 := 2#32
  let v972 : BitVec 32 := Scalar.divsi v971 c2_i32_632
  let c2_i32_631 : BitVec 32 := 2#32
  let v973 : BitVec 32 := Scalar.remsi v972 c2_i32_631
  let v977 : BitVec 32 := Scalar.subi c1_i32_635 v973
  let c2_i32_643 : BitVec 32 := 2#32
  let v986 : BitVec 32 := Scalar.muli v977 c2_i32_643
  let v987 : BitVec 32 := Scalar.addi v985 v986
  let c1_i32_636 : BitVec 32 := 1#32
  let v974 : BitVec 32 := Dev.word d0
  let c1_i32_634 : BitVec 32 := 1#32
  let v975 : BitVec 32 := Scalar.divsi v974 c1_i32_634
  let c2_i32_633 : BitVec 32 := 2#32
  let v976 : BitVec 32 := Scalar.remsi v975 c2_i32_633
  let v978 : BitVec 32 := Scalar.subi c1_i32_636 v976
  let c1_i32_644 : BitVec 32 := 1#32
  let v988 : BitVec 32 := Scalar.muli v978 c1_i32_644
  let v989 : BitVec 32 := Scalar.addi v987 v988
  v989.toNat
def k0_dev32 (d0 : Dev nD) : Nat :=
  let c0_i32_660 : BitVec 32 := 0#32
  let c1_i32_654 : BitVec 32 := 1#32
  let v997 : BitVec 32 := Dev.word d0
  let c4_i32_649 : BitVec 32 := 4#32
  let v998 : BitVec 32 := Scalar.divsi v997 c4_i32_649
  let c2_i32_648 : BitVec 32 := 2#32
  let v999 : BitVec 32 := Scalar.remsi v998 c2_i32_648
  let v1006 : BitVec 32 := Scalar.subi c1_i32_654 v999
  let c4_i32_659 : BitVec 32 := 4#32
  let v1012 : BitVec 32 := Scalar.muli v1006 c4_i32_659
  let v1013 : BitVec 32 := Scalar.addi c0_i32_660 v1012
  let v1000 : BitVec 32 := Dev.word d0
  let c2_i32_651 : BitVec 32 := 2#32
  let v1001 : BitVec 32 := Scalar.divsi v1000 c2_i32_651
  let c2_i32_650 : BitVec 32 := 2#32
  let v1002 : BitVec 32 := Scalar.remsi v1001 c2_i32_650
  let c2_i32_661 : BitVec 32 := 2#32
  let v1014 : BitVec 32 := Scalar.muli v1002 c2_i32_661
  let v1015 : BitVec 32 := Scalar.addi v1013 v1014
  let v1003 : BitVec 32 := Dev.word d0
  let c1_i32_653 : BitVec 32 := 1#32
  let v1004 : BitVec 32 := Scalar.divsi v1003 c1_i32_653
  let c2_i32_652 : BitVec 32 := 2#32
  let v1005 : BitVec 32 := Scalar.remsi v1004 c2_i32_652
  let c1_i32_662 : BitVec 32 := 1#32
  let v1016 : BitVec 32 := Scalar.muli v1005 c1_i32_662
  let v1017 : BitVec 32 := Scalar.addi v1015 v1016
  v1017.toNat
def k0_dev33 (d0 : Dev nD) : Nat :=
  let c0_i32_679 : BitVec 32 := 0#32
  let c1_i32_672 : BitVec 32 := 1#32
  let v1025 : BitVec 32 := Dev.word d0
  let c4_i32_667 : BitVec 32 := 4#32
  let v1026 : BitVec 32 := Scalar.divsi v1025 c4_i32_667
  let c2_i32_666 : BitVec 32 := 2#32
  let v1027 : BitVec 32 := Scalar.remsi v1026 c2_i32_666
  let v1034 : BitVec 32 := Scalar.subi c1_i32_672 v1027
  let c4_i32_678 : BitVec 32 := 4#32
  let v1041 : BitVec 32 := Scalar.muli v1034 c4_i32_678
  let v1042 : BitVec 32 := Scalar.addi c0_i32_679 v1041
  let v1028 : BitVec 32 := Dev.word d0
  let c2_i32_669 : BitVec 32 := 2#32
  let v1029 : BitVec 32 := Scalar.divsi v1028 c2_i32_669
  let c2_i32_668 : BitVec 32 := 2#32
  let v1030 : BitVec 32 := Scalar.remsi v1029 c2_i32_668
  let c2_i32_680 : BitVec 32 := 2#32
  let v1043 : BitVec 32 := Scalar.muli v1030 c2_i32_680
  let v1044 : BitVec 32 := Scalar.addi v1042 v1043
  let c1_i32_673 : BitVec 32 := 1#32
  let v1031 : BitVec 32 := Dev.word d0
  let c1_i32_671 : BitVec 32 := 1#32
  let v1032 : BitVec 32 := Scalar.divsi v1031 c1_i32_671
  let c2_i32_670 : BitVec 32 := 2#32
  let v1033 : BitVec 32 := Scalar.remsi v1032 c2_i32_670
  let v1035 : BitVec 32 := Scalar.subi c1_i32_673 v1033
  let c1_i32_681 : BitVec 32 := 1#32
  let v1045 : BitVec 32 := Scalar.muli v1035 c1_i32_681
  let v1046 : BitVec 32 := Scalar.addi v1044 v1045
  v1046.toNat
def k0_dev34 (d0 : Dev nD) : Nat :=
  let c0_i32_698 : BitVec 32 := 0#32
  let c1_i32_691 : BitVec 32 := 1#32
  let v1054 : BitVec 32 := Dev.word d0
  let c4_i32_686 : BitVec 32 := 4#32
  let v1055 : BitVec 32 := Scalar.divsi v1054 c4_i32_686
  let c2_i32_685 : BitVec 32 := 2#32
  let v1056 : BitVec 32 := Scalar.remsi v1055 c2_i32_685
  let v1063 : BitVec 32 := Scalar.subi c1_i32_691 v1056
  let c4_i32_697 : BitVec 32 := 4#32
  let v1070 : BitVec 32 := Scalar.muli v1063 c4_i32_697
  let v1071 : BitVec 32 := Scalar.addi c0_i32_698 v1070
  let c1_i32_692 : BitVec 32 := 1#32
  let v1057 : BitVec 32 := Dev.word d0
  let c2_i32_688 : BitVec 32 := 2#32
  let v1058 : BitVec 32 := Scalar.divsi v1057 c2_i32_688
  let c2_i32_687 : BitVec 32 := 2#32
  let v1059 : BitVec 32 := Scalar.remsi v1058 c2_i32_687
  let v1064 : BitVec 32 := Scalar.subi c1_i32_692 v1059
  let c2_i32_699 : BitVec 32 := 2#32
  let v1072 : BitVec 32 := Scalar.muli v1064 c2_i32_699
  let v1073 : BitVec 32 := Scalar.addi v1071 v1072
  let v1060 : BitVec 32 := Dev.word d0
  let c1_i32_690 : BitVec 32 := 1#32
  let v1061 : BitVec 32 := Scalar.divsi v1060 c1_i32_690
  let c2_i32_689 : BitVec 32 := 2#32
  let v1062 : BitVec 32 := Scalar.remsi v1061 c2_i32_689
  let c1_i32_700 : BitVec 32 := 1#32
  let v1074 : BitVec 32 := Scalar.muli v1062 c1_i32_700
  let v1075 : BitVec 32 := Scalar.addi v1073 v1074
  v1075.toNat
def k0_dev35 (d0 : Dev nD) : Nat :=
  let c0_i32_718 : BitVec 32 := 0#32
  let c1_i32_710 : BitVec 32 := 1#32
  let v1083 : BitVec 32 := Dev.word d0
  let c4_i32_705 : BitVec 32 := 4#32
  let v1084 : BitVec 32 := Scalar.divsi v1083 c4_i32_705
  let c2_i32_704 : BitVec 32 := 2#32
  let v1085 : BitVec 32 := Scalar.remsi v1084 c2_i32_704
  let v1092 : BitVec 32 := Scalar.subi c1_i32_710 v1085
  let c4_i32_717 : BitVec 32 := 4#32
  let v1100 : BitVec 32 := Scalar.muli v1092 c4_i32_717
  let v1101 : BitVec 32 := Scalar.addi c0_i32_718 v1100
  let c1_i32_711 : BitVec 32 := 1#32
  let v1086 : BitVec 32 := Dev.word d0
  let c2_i32_707 : BitVec 32 := 2#32
  let v1087 : BitVec 32 := Scalar.divsi v1086 c2_i32_707
  let c2_i32_706 : BitVec 32 := 2#32
  let v1088 : BitVec 32 := Scalar.remsi v1087 c2_i32_706
  let v1093 : BitVec 32 := Scalar.subi c1_i32_711 v1088
  let c2_i32_719 : BitVec 32 := 2#32
  let v1102 : BitVec 32 := Scalar.muli v1093 c2_i32_719
  let v1103 : BitVec 32 := Scalar.addi v1101 v1102
  let c1_i32_712 : BitVec 32 := 1#32
  let v1089 : BitVec 32 := Dev.word d0
  let c1_i32_709 : BitVec 32 := 1#32
  let v1090 : BitVec 32 := Scalar.divsi v1089 c1_i32_709
  let c2_i32_708 : BitVec 32 := 2#32
  let v1091 : BitVec 32 := Scalar.remsi v1090 c2_i32_708
  let v1094 : BitVec 32 := Scalar.subi c1_i32_712 v1091
  let c1_i32_720 : BitVec 32 := 1#32
  let v1104 : BitVec 32 := Scalar.muli v1094 c1_i32_720
  let v1105 : BitVec 32 := Scalar.addi v1103 v1104
  v1105.toNat
def k0_off37 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_725 : BitVec 32 := 0#32
  let c0_i32_726 : BitVec 32 := 0#32
  ![v12.toNat, 0, 0]
def k0_dev36 (d0 : Dev nD) : Nat :=
  let c0_i32_736 : BitVec 32 := 0#32
  let v1117 : BitVec 32 := Dev.word d0
  let c4_i32_728 : BitVec 32 := 4#32
  let v1118 : BitVec 32 := Scalar.divsi v1117 c4_i32_728
  let c2_i32_727 : BitVec 32 := 2#32
  let v1119 : BitVec 32 := Scalar.remsi v1118 c2_i32_727
  let c4_i32_735 : BitVec 32 := 4#32
  let v1127 : BitVec 32 := Scalar.muli v1119 c4_i32_735
  let v1128 : BitVec 32 := Scalar.addi c0_i32_736 v1127
  let v1120 : BitVec 32 := Dev.word d0
  let c2_i32_730 : BitVec 32 := 2#32
  let v1121 : BitVec 32 := Scalar.divsi v1120 c2_i32_730
  let c2_i32_729 : BitVec 32 := 2#32
  let v1122 : BitVec 32 := Scalar.remsi v1121 c2_i32_729
  let c2_i32_737 : BitVec 32 := 2#32
  let v1129 : BitVec 32 := Scalar.muli v1122 c2_i32_737
  let v1130 : BitVec 32 := Scalar.addi v1128 v1129
  let c1_i32_733 : BitVec 32 := 1#32
  let v1123 : BitVec 32 := Dev.word d0
  let c1_i32_732 : BitVec 32 := 1#32
  let v1124 : BitVec 32 := Scalar.divsi v1123 c1_i32_732
  let c2_i32_731 : BitVec 32 := 2#32
  let v1125 : BitVec 32 := Scalar.remsi v1124 c2_i32_731
  let v1126 : BitVec 32 := Scalar.subi c1_i32_733 v1125
  let c1_i32_738 : BitVec 32 := 1#32
  let v1131 : BitVec 32 := Scalar.muli v1126 c1_i32_738
  let v1132 : BitVec 32 := Scalar.addi v1130 v1131
  v1132.toNat
def k0_dev37 (d0 : Dev nD) : Nat :=
  let c0_i32_750 : BitVec 32 := 0#32
  let v1139 : BitVec 32 := Dev.word d0
  let c4_i32_742 : BitVec 32 := 4#32
  let v1140 : BitVec 32 := Scalar.divsi v1139 c4_i32_742
  let c2_i32_741 : BitVec 32 := 2#32
  let v1141 : BitVec 32 := Scalar.remsi v1140 c2_i32_741
  let c4_i32_749 : BitVec 32 := 4#32
  let v1149 : BitVec 32 := Scalar.muli v1141 c4_i32_749
  let v1150 : BitVec 32 := Scalar.addi c0_i32_750 v1149
  let c1_i32_747 : BitVec 32 := 1#32
  let v1142 : BitVec 32 := Dev.word d0
  let c2_i32_744 : BitVec 32 := 2#32
  let v1143 : BitVec 32 := Scalar.divsi v1142 c2_i32_744
  let c2_i32_743 : BitVec 32 := 2#32
  let v1144 : BitVec 32 := Scalar.remsi v1143 c2_i32_743
  let v1148 : BitVec 32 := Scalar.subi c1_i32_747 v1144
  let c2_i32_751 : BitVec 32 := 2#32
  let v1151 : BitVec 32 := Scalar.muli v1148 c2_i32_751
  let v1152 : BitVec 32 := Scalar.addi v1150 v1151
  let v1145 : BitVec 32 := Dev.word d0
  let c1_i32_746 : BitVec 32 := 1#32
  let v1146 : BitVec 32 := Scalar.divsi v1145 c1_i32_746
  let c2_i32_745 : BitVec 32 := 2#32
  let v1147 : BitVec 32 := Scalar.remsi v1146 c2_i32_745
  let c1_i32_752 : BitVec 32 := 1#32
  let v1153 : BitVec 32 := Scalar.muli v1147 c1_i32_752
  let v1154 : BitVec 32 := Scalar.addi v1152 v1153
  v1154.toNat
def k0_dev38 (d0 : Dev nD) : Nat :=
  let c0_i32_765 : BitVec 32 := 0#32
  let v1161 : BitVec 32 := Dev.word d0
  let c4_i32_756 : BitVec 32 := 4#32
  let v1162 : BitVec 32 := Scalar.divsi v1161 c4_i32_756
  let c2_i32_755 : BitVec 32 := 2#32
  let v1163 : BitVec 32 := Scalar.remsi v1162 c2_i32_755
  let c4_i32_764 : BitVec 32 := 4#32
  let v1172 : BitVec 32 := Scalar.muli v1163 c4_i32_764
  let v1173 : BitVec 32 := Scalar.addi c0_i32_765 v1172
  let c1_i32_761 : BitVec 32 := 1#32
  let v1164 : BitVec 32 := Dev.word d0
  let c2_i32_758 : BitVec 32 := 2#32
  let v1165 : BitVec 32 := Scalar.divsi v1164 c2_i32_758
  let c2_i32_757 : BitVec 32 := 2#32
  let v1166 : BitVec 32 := Scalar.remsi v1165 c2_i32_757
  let v1170 : BitVec 32 := Scalar.subi c1_i32_761 v1166
  let c2_i32_766 : BitVec 32 := 2#32
  let v1174 : BitVec 32 := Scalar.muli v1170 c2_i32_766
  let v1175 : BitVec 32 := Scalar.addi v1173 v1174
  let c1_i32_762 : BitVec 32 := 1#32
  let v1167 : BitVec 32 := Dev.word d0
  let c1_i32_760 : BitVec 32 := 1#32
  let v1168 : BitVec 32 := Scalar.divsi v1167 c1_i32_760
  let c2_i32_759 : BitVec 32 := 2#32
  let v1169 : BitVec 32 := Scalar.remsi v1168 c2_i32_759
  let v1171 : BitVec 32 := Scalar.subi c1_i32_762 v1169
  let c1_i32_767 : BitVec 32 := 1#32
  let v1176 : BitVec 32 := Scalar.muli v1171 c1_i32_767
  let v1177 : BitVec 32 := Scalar.addi v1175 v1176
  v1177.toNat
def k0_dev39 (d0 : Dev nD) : Nat :=
  let c0_i32_779 : BitVec 32 := 0#32
  let c1_i32_776 : BitVec 32 := 1#32
  let v1184 : BitVec 32 := Dev.word d0
  let c4_i32_771 : BitVec 32 := 4#32
  let v1185 : BitVec 32 := Scalar.divsi v1184 c4_i32_771
  let c2_i32_770 : BitVec 32 := 2#32
  let v1186 : BitVec 32 := Scalar.remsi v1185 c2_i32_770
  let v1193 : BitVec 32 := Scalar.subi c1_i32_776 v1186
  let c4_i32_778 : BitVec 32 := 4#32
  let v1194 : BitVec 32 := Scalar.muli v1193 c4_i32_778
  let v1195 : BitVec 32 := Scalar.addi c0_i32_779 v1194
  let v1187 : BitVec 32 := Dev.word d0
  let c2_i32_773 : BitVec 32 := 2#32
  let v1188 : BitVec 32 := Scalar.divsi v1187 c2_i32_773
  let c2_i32_772 : BitVec 32 := 2#32
  let v1189 : BitVec 32 := Scalar.remsi v1188 c2_i32_772
  let c2_i32_780 : BitVec 32 := 2#32
  let v1196 : BitVec 32 := Scalar.muli v1189 c2_i32_780
  let v1197 : BitVec 32 := Scalar.addi v1195 v1196
  let v1190 : BitVec 32 := Dev.word d0
  let c1_i32_775 : BitVec 32 := 1#32
  let v1191 : BitVec 32 := Scalar.divsi v1190 c1_i32_775
  let c2_i32_774 : BitVec 32 := 2#32
  let v1192 : BitVec 32 := Scalar.remsi v1191 c2_i32_774
  let c1_i32_781 : BitVec 32 := 1#32
  let v1198 : BitVec 32 := Scalar.muli v1192 c1_i32_781
  let v1199 : BitVec 32 := Scalar.addi v1197 v1198
  v1199.toNat
def k0_dev40 (d0 : Dev nD) : Nat :=
  let c0_i32_794 : BitVec 32 := 0#32
  let c1_i32_790 : BitVec 32 := 1#32
  let v1206 : BitVec 32 := Dev.word d0
  let c4_i32_785 : BitVec 32 := 4#32
  let v1207 : BitVec 32 := Scalar.divsi v1206 c4_i32_785
  let c2_i32_784 : BitVec 32 := 2#32
  let v1208 : BitVec 32 := Scalar.remsi v1207 c2_i32_784
  let v1215 : BitVec 32 := Scalar.subi c1_i32_790 v1208
  let c4_i32_793 : BitVec 32 := 4#32
  let v1217 : BitVec 32 := Scalar.muli v1215 c4_i32_793
  let v1218 : BitVec 32 := Scalar.addi c0_i32_794 v1217
  let v1209 : BitVec 32 := Dev.word d0
  let c2_i32_787 : BitVec 32 := 2#32
  let v1210 : BitVec 32 := Scalar.divsi v1209 c2_i32_787
  let c2_i32_786 : BitVec 32 := 2#32
  let v1211 : BitVec 32 := Scalar.remsi v1210 c2_i32_786
  let c2_i32_795 : BitVec 32 := 2#32
  let v1219 : BitVec 32 := Scalar.muli v1211 c2_i32_795
  let v1220 : BitVec 32 := Scalar.addi v1218 v1219
  let c1_i32_791 : BitVec 32 := 1#32
  let v1212 : BitVec 32 := Dev.word d0
  let c1_i32_789 : BitVec 32 := 1#32
  let v1213 : BitVec 32 := Scalar.divsi v1212 c1_i32_789
  let c2_i32_788 : BitVec 32 := 2#32
  let v1214 : BitVec 32 := Scalar.remsi v1213 c2_i32_788
  let v1216 : BitVec 32 := Scalar.subi c1_i32_791 v1214
  let c1_i32_796 : BitVec 32 := 1#32
  let v1221 : BitVec 32 := Scalar.muli v1216 c1_i32_796
  let v1222 : BitVec 32 := Scalar.addi v1220 v1221
  v1222.toNat
def k0_dev41 (d0 : Dev nD) : Nat :=
  let c0_i32_809 : BitVec 32 := 0#32
  let c1_i32_805 : BitVec 32 := 1#32
  let v1229 : BitVec 32 := Dev.word d0
  let c4_i32_800 : BitVec 32 := 4#32
  let v1230 : BitVec 32 := Scalar.divsi v1229 c4_i32_800
  let c2_i32_799 : BitVec 32 := 2#32
  let v1231 : BitVec 32 := Scalar.remsi v1230 c2_i32_799
  let v1238 : BitVec 32 := Scalar.subi c1_i32_805 v1231
  let c4_i32_808 : BitVec 32 := 4#32
  let v1240 : BitVec 32 := Scalar.muli v1238 c4_i32_808
  let v1241 : BitVec 32 := Scalar.addi c0_i32_809 v1240
  let c1_i32_806 : BitVec 32 := 1#32
  let v1232 : BitVec 32 := Dev.word d0
  let c2_i32_802 : BitVec 32 := 2#32
  let v1233 : BitVec 32 := Scalar.divsi v1232 c2_i32_802
  let c2_i32_801 : BitVec 32 := 2#32
  let v1234 : BitVec 32 := Scalar.remsi v1233 c2_i32_801
  let v1239 : BitVec 32 := Scalar.subi c1_i32_806 v1234
  let c2_i32_810 : BitVec 32 := 2#32
  let v1242 : BitVec 32 := Scalar.muli v1239 c2_i32_810
  let v1243 : BitVec 32 := Scalar.addi v1241 v1242
  let v1235 : BitVec 32 := Dev.word d0
  let c1_i32_804 : BitVec 32 := 1#32
  let v1236 : BitVec 32 := Scalar.divsi v1235 c1_i32_804
  let c2_i32_803 : BitVec 32 := 2#32
  let v1237 : BitVec 32 := Scalar.remsi v1236 c2_i32_803
  let c1_i32_811 : BitVec 32 := 1#32
  let v1244 : BitVec 32 := Scalar.muli v1237 c1_i32_811
  let v1245 : BitVec 32 := Scalar.addi v1243 v1244
  v1245.toNat
def k0_dev42 (d0 : Dev nD) : Nat :=
  let c0_i32_825 : BitVec 32 := 0#32
  let c1_i32_820 : BitVec 32 := 1#32
  let v1252 : BitVec 32 := Dev.word d0
  let c4_i32_815 : BitVec 32 := 4#32
  let v1253 : BitVec 32 := Scalar.divsi v1252 c4_i32_815
  let c2_i32_814 : BitVec 32 := 2#32
  let v1254 : BitVec 32 := Scalar.remsi v1253 c2_i32_814
  let v1261 : BitVec 32 := Scalar.subi c1_i32_820 v1254
  let c4_i32_824 : BitVec 32 := 4#32
  let v1264 : BitVec 32 := Scalar.muli v1261 c4_i32_824
  let v1265 : BitVec 32 := Scalar.addi c0_i32_825 v1264
  let c1_i32_821 : BitVec 32 := 1#32
  let v1255 : BitVec 32 := Dev.word d0
  let c2_i32_817 : BitVec 32 := 2#32
  let v1256 : BitVec 32 := Scalar.divsi v1255 c2_i32_817
  let c2_i32_816 : BitVec 32 := 2#32
  let v1257 : BitVec 32 := Scalar.remsi v1256 c2_i32_816
  let v1262 : BitVec 32 := Scalar.subi c1_i32_821 v1257
  let c2_i32_826 : BitVec 32 := 2#32
  let v1266 : BitVec 32 := Scalar.muli v1262 c2_i32_826
  let v1267 : BitVec 32 := Scalar.addi v1265 v1266
  let c1_i32_822 : BitVec 32 := 1#32
  let v1258 : BitVec 32 := Dev.word d0
  let c1_i32_819 : BitVec 32 := 1#32
  let v1259 : BitVec 32 := Scalar.divsi v1258 c1_i32_819
  let c2_i32_818 : BitVec 32 := 2#32
  let v1260 : BitVec 32 := Scalar.remsi v1259 c2_i32_818
  let v1263 : BitVec 32 := Scalar.subi c1_i32_822 v1260
  let c1_i32_827 : BitVec 32 := 1#32
  let v1268 : BitVec 32 := Scalar.muli v1263 c1_i32_827
  let v1269 : BitVec 32 := Scalar.addi v1267 v1268
  v1269.toNat
def k0_off38 (d0 : Dev nD) : Fin 3 → Nat :=
  let c4_i32_837 : BitVec 32 := 4#32
  let v1276 : BitVec 32 := Dev.word d0
  let c4_i32_831 : BitVec 32 := 4#32
  let v1277 : BitVec 32 := Scalar.divsi v1276 c4_i32_831
  let c2_i32_830 : BitVec 32 := 2#32
  let v1278 : BitVec 32 := Scalar.remsi v1277 c2_i32_830
  let v1286 : BitVec 32 := Scalar.muli c4_i32_837 v1278
  let c2_i32_838 : BitVec 32 := 2#32
  let v1279 : BitVec 32 := Dev.word d0
  let c2_i32_833 : BitVec 32 := 2#32
  let v1280 : BitVec 32 := Scalar.divsi v1279 c2_i32_833
  let c2_i32_832 : BitVec 32 := 2#32
  let v1281 : BitVec 32 := Scalar.remsi v1280 c2_i32_832
  let v1287 : BitVec 32 := Scalar.muli c2_i32_838 v1281
  let v1288 : BitVec 32 := Scalar.addi v1286 v1287
  let c1_i32_836 : BitVec 32 := 1#32
  let v1282 : BitVec 32 := Dev.word d0
  let c1_i32_835 : BitVec 32 := 1#32
  let v1283 : BitVec 32 := Scalar.divsi v1282 c1_i32_835
  let c2_i32_834 : BitVec 32 := 2#32
  let v1284 : BitVec 32 := Scalar.remsi v1283 c2_i32_834
  let v1285 : BitVec 32 := Scalar.subi c1_i32_836 v1284
  let v1289 : BitVec 32 := Scalar.addi v1288 v1285
  let c0_i32_845 : BitVec 32 := 0#32
  let c0_i32_846 : BitVec 32 := 0#32
  ![v1289.toNat, 0, 0]
def k0_off39 (d0 : Dev nD) : Fin 3 → Nat :=
  let c4_i32_856 : BitVec 32 := 4#32
  let v1301 : BitVec 32 := Dev.word d0
  let c4_i32_850 : BitVec 32 := 4#32
  let v1302 : BitVec 32 := Scalar.divsi v1301 c4_i32_850
  let c2_i32_849 : BitVec 32 := 2#32
  let v1303 : BitVec 32 := Scalar.remsi v1302 c2_i32_849
  let v1311 : BitVec 32 := Scalar.muli c4_i32_856 v1303
  let c2_i32_857 : BitVec 32 := 2#32
  let c1_i32_855 : BitVec 32 := 1#32
  let v1304 : BitVec 32 := Dev.word d0
  let c2_i32_852 : BitVec 32 := 2#32
  let v1305 : BitVec 32 := Scalar.divsi v1304 c2_i32_852
  let c2_i32_851 : BitVec 32 := 2#32
  let v1306 : BitVec 32 := Scalar.remsi v1305 c2_i32_851
  let v1310 : BitVec 32 := Scalar.subi c1_i32_855 v1306
  let v1312 : BitVec 32 := Scalar.muli c2_i32_857 v1310
  let v1313 : BitVec 32 := Scalar.addi v1311 v1312
  let v1307 : BitVec 32 := Dev.word d0
  let c1_i32_854 : BitVec 32 := 1#32
  let v1308 : BitVec 32 := Scalar.divsi v1307 c1_i32_854
  let c2_i32_853 : BitVec 32 := 2#32
  let v1309 : BitVec 32 := Scalar.remsi v1308 c2_i32_853
  let v1314 : BitVec 32 := Scalar.addi v1313 v1309
  let c0_i32_864 : BitVec 32 := 0#32
  let c0_i32_865 : BitVec 32 := 0#32
  ![v1314.toNat, 0, 0]
def k0_off40 (d0 : Dev nD) : Fin 3 → Nat :=
  let c4_i32_876 : BitVec 32 := 4#32
  let v1326 : BitVec 32 := Dev.word d0
  let c4_i32_869 : BitVec 32 := 4#32
  let v1327 : BitVec 32 := Scalar.divsi v1326 c4_i32_869
  let c2_i32_868 : BitVec 32 := 2#32
  let v1328 : BitVec 32 := Scalar.remsi v1327 c2_i32_868
  let v1337 : BitVec 32 := Scalar.muli c4_i32_876 v1328
  let c2_i32_877 : BitVec 32 := 2#32
  let c1_i32_874 : BitVec 32 := 1#32
  let v1329 : BitVec 32 := Dev.word d0
  let c2_i32_871 : BitVec 32 := 2#32
  let v1330 : BitVec 32 := Scalar.divsi v1329 c2_i32_871
  let c2_i32_870 : BitVec 32 := 2#32
  let v1331 : BitVec 32 := Scalar.remsi v1330 c2_i32_870
  let v1335 : BitVec 32 := Scalar.subi c1_i32_874 v1331
  let v1338 : BitVec 32 := Scalar.muli c2_i32_877 v1335
  let v1339 : BitVec 32 := Scalar.addi v1337 v1338
  let c1_i32_875 : BitVec 32 := 1#32
  let v1332 : BitVec 32 := Dev.word d0
  let c1_i32_873 : BitVec 32 := 1#32
  let v1333 : BitVec 32 := Scalar.divsi v1332 c1_i32_873
  let c2_i32_872 : BitVec 32 := 2#32
  let v1334 : BitVec 32 := Scalar.remsi v1333 c2_i32_872
  let v1336 : BitVec 32 := Scalar.subi c1_i32_875 v1334
  let v1340 : BitVec 32 := Scalar.addi v1339 v1336
  let c0_i32_884 : BitVec 32 := 0#32
  let c0_i32_885 : BitVec 32 := 0#32
  ![v1340.toNat, 0, 0]
def k0_off41 (d0 : Dev nD) : Fin 3 → Nat :=
  let c4_i32_895 : BitVec 32 := 4#32
  let c1_i32_894 : BitVec 32 := 1#32
  let v1352 : BitVec 32 := Dev.word d0
  let c4_i32_889 : BitVec 32 := 4#32
  let v1353 : BitVec 32 := Scalar.divsi v1352 c4_i32_889
  let c2_i32_888 : BitVec 32 := 2#32
  let v1354 : BitVec 32 := Scalar.remsi v1353 c2_i32_888
  let v1361 : BitVec 32 := Scalar.subi c1_i32_894 v1354
  let v1362 : BitVec 32 := Scalar.muli c4_i32_895 v1361
  let c2_i32_896 : BitVec 32 := 2#32
  let v1355 : BitVec 32 := Dev.word d0
  let c2_i32_891 : BitVec 32 := 2#32
  let v1356 : BitVec 32 := Scalar.divsi v1355 c2_i32_891
  let c2_i32_890 : BitVec 32 := 2#32
  let v1357 : BitVec 32 := Scalar.remsi v1356 c2_i32_890
  let v1363 : BitVec 32 := Scalar.muli c2_i32_896 v1357
  let v1364 : BitVec 32 := Scalar.addi v1362 v1363
  let v1358 : BitVec 32 := Dev.word d0
  let c1_i32_893 : BitVec 32 := 1#32
  let v1359 : BitVec 32 := Scalar.divsi v1358 c1_i32_893
  let c2_i32_892 : BitVec 32 := 2#32
  let v1360 : BitVec 32 := Scalar.remsi v1359 c2_i32_892
  let v1365 : BitVec 32 := Scalar.addi v1364 v1360
  let c0_i32_903 : BitVec 32 := 0#32
  let c0_i32_904 : BitVec 32 := 0#32
  ![v1365.toNat, 0, 0]
def k0_off42 (d0 : Dev nD) : Fin 3 → Nat :=
  let c4_i32_915 : BitVec 32 := 4#32
  let c1_i32_913 : BitVec 32 := 1#32
  let v1377 : BitVec 32 := Dev.word d0
  let c4_i32_908 : BitVec 32 := 4#32
  let v1378 : BitVec 32 := Scalar.divsi v1377 c4_i32_908
  let c2_i32_907 : BitVec 32 := 2#32
  let v1379 : BitVec 32 := Scalar.remsi v1378 c2_i32_907
  let v1386 : BitVec 32 := Scalar.subi c1_i32_913 v1379
  let v1388 : BitVec 32 := Scalar.muli c4_i32_915 v1386
  let c2_i32_916 : BitVec 32 := 2#32
  let v1380 : BitVec 32 := Dev.word d0
  let c2_i32_910 : BitVec 32 := 2#32
  let v1381 : BitVec 32 := Scalar.divsi v1380 c2_i32_910
  let c2_i32_909 : BitVec 32 := 2#32
  let v1382 : BitVec 32 := Scalar.remsi v1381 c2_i32_909
  let v1389 : BitVec 32 := Scalar.muli c2_i32_916 v1382
  let v1390 : BitVec 32 := Scalar.addi v1388 v1389
  let c1_i32_914 : BitVec 32 := 1#32
  let v1383 : BitVec 32 := Dev.word d0
  let c1_i32_912 : BitVec 32 := 1#32
  let v1384 : BitVec 32 := Scalar.divsi v1383 c1_i32_912
  let c2_i32_911 : BitVec 32 := 2#32
  let v1385 : BitVec 32 := Scalar.remsi v1384 c2_i32_911
  let v1387 : BitVec 32 := Scalar.subi c1_i32_914 v1385
  let v1391 : BitVec 32 := Scalar.addi v1390 v1387
  let c0_i32_923 : BitVec 32 := 0#32
  let c0_i32_924 : BitVec 32 := 0#32
  ![v1391.toNat, 0, 0]
def k0_off43 (d0 : Dev nD) : Fin 3 → Nat :=
  let c4_i32_935 : BitVec 32 := 4#32
  let c1_i32_933 : BitVec 32 := 1#32
  let v1403 : BitVec 32 := Dev.word d0
  let c4_i32_928 : BitVec 32 := 4#32
  let v1404 : BitVec 32 := Scalar.divsi v1403 c4_i32_928
  let c2_i32_927 : BitVec 32 := 2#32
  let v1405 : BitVec 32 := Scalar.remsi v1404 c2_i32_927
  let v1412 : BitVec 32 := Scalar.subi c1_i32_933 v1405
  let v1414 : BitVec 32 := Scalar.muli c4_i32_935 v1412
  let c2_i32_936 : BitVec 32 := 2#32
  let c1_i32_934 : BitVec 32 := 1#32
  let v1406 : BitVec 32 := Dev.word d0
  let c2_i32_930 : BitVec 32 := 2#32
  let v1407 : BitVec 32 := Scalar.divsi v1406 c2_i32_930
  let c2_i32_929 : BitVec 32 := 2#32
  let v1408 : BitVec 32 := Scalar.remsi v1407 c2_i32_929
  let v1413 : BitVec 32 := Scalar.subi c1_i32_934 v1408
  let v1415 : BitVec 32 := Scalar.muli c2_i32_936 v1413
  let v1416 : BitVec 32 := Scalar.addi v1414 v1415
  let v1409 : BitVec 32 := Dev.word d0
  let c1_i32_932 : BitVec 32 := 1#32
  let v1410 : BitVec 32 := Scalar.divsi v1409 c1_i32_932
  let c2_i32_931 : BitVec 32 := 2#32
  let v1411 : BitVec 32 := Scalar.remsi v1410 c2_i32_931
  let v1417 : BitVec 32 := Scalar.addi v1416 v1411
  let c0_i32_943 : BitVec 32 := 0#32
  let c0_i32_944 : BitVec 32 := 0#32
  ![v1417.toNat, 0, 0]
def k0_off44 (d0 : Dev nD) : Fin 3 → Nat :=
  let c4_i32_956 : BitVec 32 := 4#32
  let c1_i32_953 : BitVec 32 := 1#32
  let v1429 : BitVec 32 := Dev.word d0
  let c4_i32_948 : BitVec 32 := 4#32
  let v1430 : BitVec 32 := Scalar.divsi v1429 c4_i32_948
  let c2_i32_947 : BitVec 32 := 2#32
  let v1431 : BitVec 32 := Scalar.remsi v1430 c2_i32_947
  let v1438 : BitVec 32 := Scalar.subi c1_i32_953 v1431
  let v1441 : BitVec 32 := Scalar.muli c4_i32_956 v1438
  let c2_i32_957 : BitVec 32 := 2#32
  let c1_i32_954 : BitVec 32 := 1#32
  let v1432 : BitVec 32 := Dev.word d0
  let c2_i32_950 : BitVec 32 := 2#32
  let v1433 : BitVec 32 := Scalar.divsi v1432 c2_i32_950
  let c2_i32_949 : BitVec 32 := 2#32
  let v1434 : BitVec 32 := Scalar.remsi v1433 c2_i32_949
  let v1439 : BitVec 32 := Scalar.subi c1_i32_954 v1434
  let v1442 : BitVec 32 := Scalar.muli c2_i32_957 v1439
  let v1443 : BitVec 32 := Scalar.addi v1441 v1442
  let c1_i32_955 : BitVec 32 := 1#32
  let v1435 : BitVec 32 := Dev.word d0
  let c1_i32_952 : BitVec 32 := 1#32
  let v1436 : BitVec 32 := Scalar.divsi v1435 c1_i32_952
  let c2_i32_951 : BitVec 32 := 2#32
  let v1437 : BitVec 32 := Scalar.remsi v1436 c2_i32_951
  let v1440 : BitVec 32 := Scalar.subi c1_i32_955 v1437
  let v1444 : BitVec 32 := Scalar.addi v1443 v1440
  let c0_i32_964 : BitVec 32 := 0#32
  let c0_i32_965 : BitVec 32 := 0#32
  ![v1444.toNat, 0, 0]
def k0_off45 (d0 : Dev nD) : Fin 3 → Nat :=
  let c4_i32_975 : BitVec 32 := 4#32
  let v1456 : BitVec 32 := Dev.word d0
  let c4_i32_969 : BitVec 32 := 4#32
  let v1457 : BitVec 32 := Scalar.divsi v1456 c4_i32_969
  let c2_i32_968 : BitVec 32 := 2#32
  let v1458 : BitVec 32 := Scalar.remsi v1457 c2_i32_968
  let v1466 : BitVec 32 := Scalar.muli c4_i32_975 v1458
  let c2_i32_976 : BitVec 32 := 2#32
  let v1459 : BitVec 32 := Dev.word d0
  let c2_i32_971 : BitVec 32 := 2#32
  let v1460 : BitVec 32 := Scalar.divsi v1459 c2_i32_971
  let c2_i32_970 : BitVec 32 := 2#32
  let v1461 : BitVec 32 := Scalar.remsi v1460 c2_i32_970
  let v1467 : BitVec 32 := Scalar.muli c2_i32_976 v1461
  let v1468 : BitVec 32 := Scalar.addi v1466 v1467
  let c1_i32_974 : BitVec 32 := 1#32
  let v1462 : BitVec 32 := Dev.word d0
  let c1_i32_973 : BitVec 32 := 1#32
  let v1463 : BitVec 32 := Scalar.divsi v1462 c1_i32_973
  let c2_i32_972 : BitVec 32 := 2#32
  let v1464 : BitVec 32 := Scalar.remsi v1463 c2_i32_972
  let v1465 : BitVec 32 := Scalar.subi c1_i32_974 v1464
  let v1469 : BitVec 32 := Scalar.addi v1468 v1465
  let c0_i32_983 : BitVec 32 := 0#32
  let c0_i32_984 : BitVec 32 := 0#32
  ![v1469.toNat, 0, 0]
def k0_off46 (d0 : Dev nD) : Fin 3 → Nat :=
  let c4_i32_994 : BitVec 32 := 4#32
  let v1481 : BitVec 32 := Dev.word d0
  let c4_i32_988 : BitVec 32 := 4#32
  let v1482 : BitVec 32 := Scalar.divsi v1481 c4_i32_988
  let c2_i32_987 : BitVec 32 := 2#32
  let v1483 : BitVec 32 := Scalar.remsi v1482 c2_i32_987
  let v1491 : BitVec 32 := Scalar.muli c4_i32_994 v1483
  let c2_i32_995 : BitVec 32 := 2#32
  let c1_i32_993 : BitVec 32 := 1#32
  let v1484 : BitVec 32 := Dev.word d0
  let c2_i32_990 : BitVec 32 := 2#32
  let v1485 : BitVec 32 := Scalar.divsi v1484 c2_i32_990
  let c2_i32_989 : BitVec 32 := 2#32
  let v1486 : BitVec 32 := Scalar.remsi v1485 c2_i32_989
  let v1490 : BitVec 32 := Scalar.subi c1_i32_993 v1486
  let v1492 : BitVec 32 := Scalar.muli c2_i32_995 v1490
  let v1493 : BitVec 32 := Scalar.addi v1491 v1492
  let v1487 : BitVec 32 := Dev.word d0
  let c1_i32_992 : BitVec 32 := 1#32
  let v1488 : BitVec 32 := Scalar.divsi v1487 c1_i32_992
  let c2_i32_991 : BitVec 32 := 2#32
  let v1489 : BitVec 32 := Scalar.remsi v1488 c2_i32_991
  let v1494 : BitVec 32 := Scalar.addi v1493 v1489
  let c0_i32_1002 : BitVec 32 := 0#32
  let c0_i32_1003 : BitVec 32 := 0#32
  ![v1494.toNat, 0, 0]
def k0_off47 (d0 : Dev nD) : Fin 3 → Nat :=
  let c4_i32_1014 : BitVec 32 := 4#32
  let v1506 : BitVec 32 := Dev.word d0
  let c4_i32_1007 : BitVec 32 := 4#32
  let v1507 : BitVec 32 := Scalar.divsi v1506 c4_i32_1007
  let c2_i32_1006 : BitVec 32 := 2#32
  let v1508 : BitVec 32 := Scalar.remsi v1507 c2_i32_1006
  let v1517 : BitVec 32 := Scalar.muli c4_i32_1014 v1508
  let c2_i32_1015 : BitVec 32 := 2#32
  let c1_i32_1012 : BitVec 32 := 1#32
  let v1509 : BitVec 32 := Dev.word d0
  let c2_i32_1009 : BitVec 32 := 2#32
  let v1510 : BitVec 32 := Scalar.divsi v1509 c2_i32_1009
  let c2_i32_1008 : BitVec 32 := 2#32
  let v1511 : BitVec 32 := Scalar.remsi v1510 c2_i32_1008
  let v1515 : BitVec 32 := Scalar.subi c1_i32_1012 v1511
  let v1518 : BitVec 32 := Scalar.muli c2_i32_1015 v1515
  let v1519 : BitVec 32 := Scalar.addi v1517 v1518
  let c1_i32_1013 : BitVec 32 := 1#32
  let v1512 : BitVec 32 := Dev.word d0
  let c1_i32_1011 : BitVec 32 := 1#32
  let v1513 : BitVec 32 := Scalar.divsi v1512 c1_i32_1011
  let c2_i32_1010 : BitVec 32 := 2#32
  let v1514 : BitVec 32 := Scalar.remsi v1513 c2_i32_1010
  let v1516 : BitVec 32 := Scalar.subi c1_i32_1013 v1514
  let v1520 : BitVec 32 := Scalar.addi v1519 v1516
  let c0_i32_1022 : BitVec 32 := 0#32
  let c0_i32_1023 : BitVec 32 := 0#32
  ![v1520.toNat, 0, 0]
def k0_off48 (d0 : Dev nD) : Fin 3 → Nat :=
  let c4_i32_1033 : BitVec 32 := 4#32
  let c1_i32_1032 : BitVec 32 := 1#32
  let v1532 : BitVec 32 := Dev.word d0
  let c4_i32_1027 : BitVec 32 := 4#32
  let v1533 : BitVec 32 := Scalar.divsi v1532 c4_i32_1027
  let c2_i32_1026 : BitVec 32 := 2#32
  let v1534 : BitVec 32 := Scalar.remsi v1533 c2_i32_1026
  let v1541 : BitVec 32 := Scalar.subi c1_i32_1032 v1534
  let v1542 : BitVec 32 := Scalar.muli c4_i32_1033 v1541
  let c2_i32_1034 : BitVec 32 := 2#32
  let v1535 : BitVec 32 := Dev.word d0
  let c2_i32_1029 : BitVec 32 := 2#32
  let v1536 : BitVec 32 := Scalar.divsi v1535 c2_i32_1029
  let c2_i32_1028 : BitVec 32 := 2#32
  let v1537 : BitVec 32 := Scalar.remsi v1536 c2_i32_1028
  let v1543 : BitVec 32 := Scalar.muli c2_i32_1034 v1537
  let v1544 : BitVec 32 := Scalar.addi v1542 v1543
  let v1538 : BitVec 32 := Dev.word d0
  let c1_i32_1031 : BitVec 32 := 1#32
  let v1539 : BitVec 32 := Scalar.divsi v1538 c1_i32_1031
  let c2_i32_1030 : BitVec 32 := 2#32
  let v1540 : BitVec 32 := Scalar.remsi v1539 c2_i32_1030
  let v1545 : BitVec 32 := Scalar.addi v1544 v1540
  let c0_i32_1041 : BitVec 32 := 0#32
  let c0_i32_1042 : BitVec 32 := 0#32
  ![v1545.toNat, 0, 0]
def k0_off49 (d0 : Dev nD) : Fin 3 → Nat :=
  let c4_i32_1053 : BitVec 32 := 4#32
  let c1_i32_1051 : BitVec 32 := 1#32
  let v1557 : BitVec 32 := Dev.word d0
  let c4_i32_1046 : BitVec 32 := 4#32
  let v1558 : BitVec 32 := Scalar.divsi v1557 c4_i32_1046
  let c2_i32_1045 : BitVec 32 := 2#32
  let v1559 : BitVec 32 := Scalar.remsi v1558 c2_i32_1045
  let v1566 : BitVec 32 := Scalar.subi c1_i32_1051 v1559
  let v1568 : BitVec 32 := Scalar.muli c4_i32_1053 v1566
  let c2_i32_1054 : BitVec 32 := 2#32
  let v1560 : BitVec 32 := Dev.word d0
  let c2_i32_1048 : BitVec 32 := 2#32
  let v1561 : BitVec 32 := Scalar.divsi v1560 c2_i32_1048
  let c2_i32_1047 : BitVec 32 := 2#32
  let v1562 : BitVec 32 := Scalar.remsi v1561 c2_i32_1047
  let v1569 : BitVec 32 := Scalar.muli c2_i32_1054 v1562
  let v1570 : BitVec 32 := Scalar.addi v1568 v1569
  let c1_i32_1052 : BitVec 32 := 1#32
  let v1563 : BitVec 32 := Dev.word d0
  let c1_i32_1050 : BitVec 32 := 1#32
  let v1564 : BitVec 32 := Scalar.divsi v1563 c1_i32_1050
  let c2_i32_1049 : BitVec 32 := 2#32
  let v1565 : BitVec 32 := Scalar.remsi v1564 c2_i32_1049
  let v1567 : BitVec 32 := Scalar.subi c1_i32_1052 v1565
  let v1571 : BitVec 32 := Scalar.addi v1570 v1567
  let c0_i32_1061 : BitVec 32 := 0#32
  let c0_i32_1062 : BitVec 32 := 0#32
  ![v1571.toNat, 0, 0]
def k0_off50 (d0 : Dev nD) : Fin 3 → Nat :=
  let c4_i32_1073 : BitVec 32 := 4#32
  let c1_i32_1071 : BitVec 32 := 1#32
  let v1583 : BitVec 32 := Dev.word d0
  let c4_i32_1066 : BitVec 32 := 4#32
  let v1584 : BitVec 32 := Scalar.divsi v1583 c4_i32_1066
  let c2_i32_1065 : BitVec 32 := 2#32
  let v1585 : BitVec 32 := Scalar.remsi v1584 c2_i32_1065
  let v1592 : BitVec 32 := Scalar.subi c1_i32_1071 v1585
  let v1594 : BitVec 32 := Scalar.muli c4_i32_1073 v1592
  let c2_i32_1074 : BitVec 32 := 2#32
  let c1_i32_1072 : BitVec 32 := 1#32
  let v1586 : BitVec 32 := Dev.word d0
  let c2_i32_1068 : BitVec 32 := 2#32
  let v1587 : BitVec 32 := Scalar.divsi v1586 c2_i32_1068
  let c2_i32_1067 : BitVec 32 := 2#32
  let v1588 : BitVec 32 := Scalar.remsi v1587 c2_i32_1067
  let v1593 : BitVec 32 := Scalar.subi c1_i32_1072 v1588
  let v1595 : BitVec 32 := Scalar.muli c2_i32_1074 v1593
  let v1596 : BitVec 32 := Scalar.addi v1594 v1595
  let v1589 : BitVec 32 := Dev.word d0
  let c1_i32_1070 : BitVec 32 := 1#32
  let v1590 : BitVec 32 := Scalar.divsi v1589 c1_i32_1070
  let c2_i32_1069 : BitVec 32 := 2#32
  let v1591 : BitVec 32 := Scalar.remsi v1590 c2_i32_1069
  let v1597 : BitVec 32 := Scalar.addi v1596 v1591
  let c0_i32_1081 : BitVec 32 := 0#32
  let c0_i32_1082 : BitVec 32 := 0#32
  ![v1597.toNat, 0, 0]
def k0_off51 (d0 : Dev nD) : Fin 3 → Nat :=
  let c4_i32_1094 : BitVec 32 := 4#32
  let c1_i32_1091 : BitVec 32 := 1#32
  let v1609 : BitVec 32 := Dev.word d0
  let c4_i32_1086 : BitVec 32 := 4#32
  let v1610 : BitVec 32 := Scalar.divsi v1609 c4_i32_1086
  let c2_i32_1085 : BitVec 32 := 2#32
  let v1611 : BitVec 32 := Scalar.remsi v1610 c2_i32_1085
  let v1618 : BitVec 32 := Scalar.subi c1_i32_1091 v1611
  let v1621 : BitVec 32 := Scalar.muli c4_i32_1094 v1618
  let c2_i32_1095 : BitVec 32 := 2#32
  let c1_i32_1092 : BitVec 32 := 1#32
  let v1612 : BitVec 32 := Dev.word d0
  let c2_i32_1088 : BitVec 32 := 2#32
  let v1613 : BitVec 32 := Scalar.divsi v1612 c2_i32_1088
  let c2_i32_1087 : BitVec 32 := 2#32
  let v1614 : BitVec 32 := Scalar.remsi v1613 c2_i32_1087
  let v1619 : BitVec 32 := Scalar.subi c1_i32_1092 v1614
  let v1622 : BitVec 32 := Scalar.muli c2_i32_1095 v1619
  let v1623 : BitVec 32 := Scalar.addi v1621 v1622
  let c1_i32_1093 : BitVec 32 := 1#32
  let v1615 : BitVec 32 := Dev.word d0
  let c1_i32_1090 : BitVec 32 := 1#32
  let v1616 : BitVec 32 := Scalar.divsi v1615 c1_i32_1090
  let c2_i32_1089 : BitVec 32 := 2#32
  let v1617 : BitVec 32 := Scalar.remsi v1616 c2_i32_1089
  let v1620 : BitVec 32 := Scalar.subi c1_i32_1093 v1617
  let v1624 : BitVec 32 := Scalar.addi v1623 v1620
  let c0_i32_1102 : BitVec 32 := 0#32
  let c0_i32_1103 : BitVec 32 := 0#32
  ![v1624.toNat, 0, 0]
def k0_off52 (d0 : Dev nD) : Fin 3 → Nat :=
  let c4_i32_1113 : BitVec 32 := 4#32
  let v1636 : BitVec 32 := Dev.word d0
  let c4_i32_1107 : BitVec 32 := 4#32
  let v1637 : BitVec 32 := Scalar.divsi v1636 c4_i32_1107
  let c2_i32_1106 : BitVec 32 := 2#32
  let v1638 : BitVec 32 := Scalar.remsi v1637 c2_i32_1106
  let v1646 : BitVec 32 := Scalar.muli c4_i32_1113 v1638
  let c2_i32_1114 : BitVec 32 := 2#32
  let v1639 : BitVec 32 := Dev.word d0
  let c2_i32_1109 : BitVec 32 := 2#32
  let v1640 : BitVec 32 := Scalar.divsi v1639 c2_i32_1109
  let c2_i32_1108 : BitVec 32 := 2#32
  let v1641 : BitVec 32 := Scalar.remsi v1640 c2_i32_1108
  let v1647 : BitVec 32 := Scalar.muli c2_i32_1114 v1641
  let v1648 : BitVec 32 := Scalar.addi v1646 v1647
  let c1_i32_1112 : BitVec 32 := 1#32
  let v1642 : BitVec 32 := Dev.word d0
  let c1_i32_1111 : BitVec 32 := 1#32
  let v1643 : BitVec 32 := Scalar.divsi v1642 c1_i32_1111
  let c2_i32_1110 : BitVec 32 := 2#32
  let v1644 : BitVec 32 := Scalar.remsi v1643 c2_i32_1110
  let v1645 : BitVec 32 := Scalar.subi c1_i32_1112 v1644
  let v1649 : BitVec 32 := Scalar.addi v1648 v1645
  let c0_i32_1121 : BitVec 32 := 0#32
  let c0_i32_1122 : BitVec 32 := 0#32
  ![v1649.toNat, 0, 0]
def k0_off53 (d0 : Dev nD) : Fin 3 → Nat :=
  let c4_i32_1132 : BitVec 32 := 4#32
  let v1661 : BitVec 32 := Dev.word d0
  let c4_i32_1126 : BitVec 32 := 4#32
  let v1662 : BitVec 32 := Scalar.divsi v1661 c4_i32_1126
  let c2_i32_1125 : BitVec 32 := 2#32
  let v1663 : BitVec 32 := Scalar.remsi v1662 c2_i32_1125
  let v1671 : BitVec 32 := Scalar.muli c4_i32_1132 v1663
  let c2_i32_1133 : BitVec 32 := 2#32
  let c1_i32_1131 : BitVec 32 := 1#32
  let v1664 : BitVec 32 := Dev.word d0
  let c2_i32_1128 : BitVec 32 := 2#32
  let v1665 : BitVec 32 := Scalar.divsi v1664 c2_i32_1128
  let c2_i32_1127 : BitVec 32 := 2#32
  let v1666 : BitVec 32 := Scalar.remsi v1665 c2_i32_1127
  let v1670 : BitVec 32 := Scalar.subi c1_i32_1131 v1666
  let v1672 : BitVec 32 := Scalar.muli c2_i32_1133 v1670
  let v1673 : BitVec 32 := Scalar.addi v1671 v1672
  let v1667 : BitVec 32 := Dev.word d0
  let c1_i32_1130 : BitVec 32 := 1#32
  let v1668 : BitVec 32 := Scalar.divsi v1667 c1_i32_1130
  let c2_i32_1129 : BitVec 32 := 2#32
  let v1669 : BitVec 32 := Scalar.remsi v1668 c2_i32_1129
  let v1674 : BitVec 32 := Scalar.addi v1673 v1669
  let c0_i32_1140 : BitVec 32 := 0#32
  let c0_i32_1141 : BitVec 32 := 0#32
  ![v1674.toNat, 0, 0]
def k0_off54 (d0 : Dev nD) : Fin 3 → Nat :=
  let c4_i32_1152 : BitVec 32 := 4#32
  let v1686 : BitVec 32 := Dev.word d0
  let c4_i32_1145 : BitVec 32 := 4#32
  let v1687 : BitVec 32 := Scalar.divsi v1686 c4_i32_1145
  let c2_i32_1144 : BitVec 32 := 2#32
  let v1688 : BitVec 32 := Scalar.remsi v1687 c2_i32_1144
  let v1697 : BitVec 32 := Scalar.muli c4_i32_1152 v1688
  let c2_i32_1153 : BitVec 32 := 2#32
  let c1_i32_1150 : BitVec 32 := 1#32
  let v1689 : BitVec 32 := Dev.word d0
  let c2_i32_1147 : BitVec 32 := 2#32
  let v1690 : BitVec 32 := Scalar.divsi v1689 c2_i32_1147
  let c2_i32_1146 : BitVec 32 := 2#32
  let v1691 : BitVec 32 := Scalar.remsi v1690 c2_i32_1146
  let v1695 : BitVec 32 := Scalar.subi c1_i32_1150 v1691
  let v1698 : BitVec 32 := Scalar.muli c2_i32_1153 v1695
  let v1699 : BitVec 32 := Scalar.addi v1697 v1698
  let c1_i32_1151 : BitVec 32 := 1#32
  let v1692 : BitVec 32 := Dev.word d0
  let c1_i32_1149 : BitVec 32 := 1#32
  let v1693 : BitVec 32 := Scalar.divsi v1692 c1_i32_1149
  let c2_i32_1148 : BitVec 32 := 2#32
  let v1694 : BitVec 32 := Scalar.remsi v1693 c2_i32_1148
  let v1696 : BitVec 32 := Scalar.subi c1_i32_1151 v1694
  let v1700 : BitVec 32 := Scalar.addi v1699 v1696
  let c0_i32_1160 : BitVec 32 := 0#32
  let c0_i32_1161 : BitVec 32 := 0#32
  ![v1700.toNat, 0, 0]
def k0_off55 (d0 : Dev nD) : Fin 3 → Nat :=
  let c4_i32_1171 : BitVec 32 := 4#32
  let c1_i32_1170 : BitVec 32 := 1#32
  let v1712 : BitVec 32 := Dev.word d0
  let c4_i32_1165 : BitVec 32 := 4#32
  let v1713 : BitVec 32 := Scalar.divsi v1712 c4_i32_1165
  let c2_i32_1164 : BitVec 32 := 2#32
  let v1714 : BitVec 32 := Scalar.remsi v1713 c2_i32_1164
  let v1721 : BitVec 32 := Scalar.subi c1_i32_1170 v1714
  let v1722 : BitVec 32 := Scalar.muli c4_i32_1171 v1721
  let c2_i32_1172 : BitVec 32 := 2#32
  let v1715 : BitVec 32 := Dev.word d0
  let c2_i32_1167 : BitVec 32 := 2#32
  let v1716 : BitVec 32 := Scalar.divsi v1715 c2_i32_1167
  let c2_i32_1166 : BitVec 32 := 2#32
  let v1717 : BitVec 32 := Scalar.remsi v1716 c2_i32_1166
  let v1723 : BitVec 32 := Scalar.muli c2_i32_1172 v1717
  let v1724 : BitVec 32 := Scalar.addi v1722 v1723
  let v1718 : BitVec 32 := Dev.word d0
  let c1_i32_1169 : BitVec 32 := 1#32
  let v1719 : BitVec 32 := Scalar.divsi v1718 c1_i32_1169
  let c2_i32_1168 : BitVec 32 := 2#32
  let v1720 : BitVec 32 := Scalar.remsi v1719 c2_i32_1168
  let v1725 : BitVec 32 := Scalar.addi v1724 v1720
  let c0_i32_1179 : BitVec 32 := 0#32
  let c0_i32_1180 : BitVec 32 := 0#32
  ![v1725.toNat, 0, 0]
def k0_off56 (d0 : Dev nD) : Fin 3 → Nat :=
  let c4_i32_1191 : BitVec 32 := 4#32
  let c1_i32_1189 : BitVec 32 := 1#32
  let v1737 : BitVec 32 := Dev.word d0
  let c4_i32_1184 : BitVec 32 := 4#32
  let v1738 : BitVec 32 := Scalar.divsi v1737 c4_i32_1184
  let c2_i32_1183 : BitVec 32 := 2#32
  let v1739 : BitVec 32 := Scalar.remsi v1738 c2_i32_1183
  let v1746 : BitVec 32 := Scalar.subi c1_i32_1189 v1739
  let v1748 : BitVec 32 := Scalar.muli c4_i32_1191 v1746
  let c2_i32_1192 : BitVec 32 := 2#32
  let v1740 : BitVec 32 := Dev.word d0
  let c2_i32_1186 : BitVec 32 := 2#32
  let v1741 : BitVec 32 := Scalar.divsi v1740 c2_i32_1186
  let c2_i32_1185 : BitVec 32 := 2#32
  let v1742 : BitVec 32 := Scalar.remsi v1741 c2_i32_1185
  let v1749 : BitVec 32 := Scalar.muli c2_i32_1192 v1742
  let v1750 : BitVec 32 := Scalar.addi v1748 v1749
  let c1_i32_1190 : BitVec 32 := 1#32
  let v1743 : BitVec 32 := Dev.word d0
  let c1_i32_1188 : BitVec 32 := 1#32
  let v1744 : BitVec 32 := Scalar.divsi v1743 c1_i32_1188
  let c2_i32_1187 : BitVec 32 := 2#32
  let v1745 : BitVec 32 := Scalar.remsi v1744 c2_i32_1187
  let v1747 : BitVec 32 := Scalar.subi c1_i32_1190 v1745
  let v1751 : BitVec 32 := Scalar.addi v1750 v1747
  let c0_i32_1199 : BitVec 32 := 0#32
  let c0_i32_1200 : BitVec 32 := 0#32
  ![v1751.toNat, 0, 0]
def k0_off57 (d0 : Dev nD) : Fin 3 → Nat :=
  let c4_i32_1211 : BitVec 32 := 4#32
  let c1_i32_1209 : BitVec 32 := 1#32
  let v1763 : BitVec 32 := Dev.word d0
  let c4_i32_1204 : BitVec 32 := 4#32
  let v1764 : BitVec 32 := Scalar.divsi v1763 c4_i32_1204
  let c2_i32_1203 : BitVec 32 := 2#32
  let v1765 : BitVec 32 := Scalar.remsi v1764 c2_i32_1203
  let v1772 : BitVec 32 := Scalar.subi c1_i32_1209 v1765
  let v1774 : BitVec 32 := Scalar.muli c4_i32_1211 v1772
  let c2_i32_1212 : BitVec 32 := 2#32
  let c1_i32_1210 : BitVec 32 := 1#32
  let v1766 : BitVec 32 := Dev.word d0
  let c2_i32_1206 : BitVec 32 := 2#32
  let v1767 : BitVec 32 := Scalar.divsi v1766 c2_i32_1206
  let c2_i32_1205 : BitVec 32 := 2#32
  let v1768 : BitVec 32 := Scalar.remsi v1767 c2_i32_1205
  let v1773 : BitVec 32 := Scalar.subi c1_i32_1210 v1768
  let v1775 : BitVec 32 := Scalar.muli c2_i32_1212 v1773
  let v1776 : BitVec 32 := Scalar.addi v1774 v1775
  let v1769 : BitVec 32 := Dev.word d0
  let c1_i32_1208 : BitVec 32 := 1#32
  let v1770 : BitVec 32 := Scalar.divsi v1769 c1_i32_1208
  let c2_i32_1207 : BitVec 32 := 2#32
  let v1771 : BitVec 32 := Scalar.remsi v1770 c2_i32_1207
  let v1777 : BitVec 32 := Scalar.addi v1776 v1771
  let c0_i32_1219 : BitVec 32 := 0#32
  let c0_i32_1220 : BitVec 32 := 0#32
  ![v1777.toNat, 0, 0]
def k0_off58 (d0 : Dev nD) : Fin 3 → Nat :=
  let c4_i32_1232 : BitVec 32 := 4#32
  let c1_i32_1229 : BitVec 32 := 1#32
  let v1789 : BitVec 32 := Dev.word d0
  let c4_i32_1224 : BitVec 32 := 4#32
  let v1790 : BitVec 32 := Scalar.divsi v1789 c4_i32_1224
  let c2_i32_1223 : BitVec 32 := 2#32
  let v1791 : BitVec 32 := Scalar.remsi v1790 c2_i32_1223
  let v1798 : BitVec 32 := Scalar.subi c1_i32_1229 v1791
  let v1801 : BitVec 32 := Scalar.muli c4_i32_1232 v1798
  let c2_i32_1233 : BitVec 32 := 2#32
  let c1_i32_1230 : BitVec 32 := 1#32
  let v1792 : BitVec 32 := Dev.word d0
  let c2_i32_1226 : BitVec 32 := 2#32
  let v1793 : BitVec 32 := Scalar.divsi v1792 c2_i32_1226
  let c2_i32_1225 : BitVec 32 := 2#32
  let v1794 : BitVec 32 := Scalar.remsi v1793 c2_i32_1225
  let v1799 : BitVec 32 := Scalar.subi c1_i32_1230 v1794
  let v1802 : BitVec 32 := Scalar.muli c2_i32_1233 v1799
  let v1803 : BitVec 32 := Scalar.addi v1801 v1802
  let c1_i32_1231 : BitVec 32 := 1#32
  let v1795 : BitVec 32 := Dev.word d0
  let c1_i32_1228 : BitVec 32 := 1#32
  let v1796 : BitVec 32 := Scalar.divsi v1795 c1_i32_1228
  let c2_i32_1227 : BitVec 32 := 2#32
  let v1797 : BitVec 32 := Scalar.remsi v1796 c2_i32_1227
  let v1800 : BitVec 32 := Scalar.subi c1_i32_1231 v1797
  let v1804 : BitVec 32 := Scalar.addi v1803 v1800
  let c0_i32_1240 : BitVec 32 := 0#32
  let c0_i32_1241 : BitVec 32 := 0#32
  ![v1804.toNat, 0, 0]
def k0_off59 (d0 : Dev nD) : Fin 3 → Nat :=
  let c4_i32_1251 : BitVec 32 := 4#32
  let v1816 : BitVec 32 := Dev.word d0
  let c4_i32_1245 : BitVec 32 := 4#32
  let v1817 : BitVec 32 := Scalar.divsi v1816 c4_i32_1245
  let c2_i32_1244 : BitVec 32 := 2#32
  let v1818 : BitVec 32 := Scalar.remsi v1817 c2_i32_1244
  let v1826 : BitVec 32 := Scalar.muli c4_i32_1251 v1818
  let c2_i32_1252 : BitVec 32 := 2#32
  let v1819 : BitVec 32 := Dev.word d0
  let c2_i32_1247 : BitVec 32 := 2#32
  let v1820 : BitVec 32 := Scalar.divsi v1819 c2_i32_1247
  let c2_i32_1246 : BitVec 32 := 2#32
  let v1821 : BitVec 32 := Scalar.remsi v1820 c2_i32_1246
  let v1827 : BitVec 32 := Scalar.muli c2_i32_1252 v1821
  let v1828 : BitVec 32 := Scalar.addi v1826 v1827
  let c1_i32_1250 : BitVec 32 := 1#32
  let v1822 : BitVec 32 := Dev.word d0
  let c1_i32_1249 : BitVec 32 := 1#32
  let v1823 : BitVec 32 := Scalar.divsi v1822 c1_i32_1249
  let c2_i32_1248 : BitVec 32 := 2#32
  let v1824 : BitVec 32 := Scalar.remsi v1823 c2_i32_1248
  let v1825 : BitVec 32 := Scalar.subi c1_i32_1250 v1824
  let v1829 : BitVec 32 := Scalar.addi v1828 v1825
  let c0_i32_1259 : BitVec 32 := 0#32
  let c0_i32_1260 : BitVec 32 := 0#32
  ![v1829.toNat, 0, 0]
def k0_off60 (d0 : Dev nD) : Fin 3 → Nat :=
  let c4_i32_1270 : BitVec 32 := 4#32
  let v1841 : BitVec 32 := Dev.word d0
  let c4_i32_1264 : BitVec 32 := 4#32
  let v1842 : BitVec 32 := Scalar.divsi v1841 c4_i32_1264
  let c2_i32_1263 : BitVec 32 := 2#32
  let v1843 : BitVec 32 := Scalar.remsi v1842 c2_i32_1263
  let v1851 : BitVec 32 := Scalar.muli c4_i32_1270 v1843
  let c2_i32_1271 : BitVec 32 := 2#32
  let c1_i32_1269 : BitVec 32 := 1#32
  let v1844 : BitVec 32 := Dev.word d0
  let c2_i32_1266 : BitVec 32 := 2#32
  let v1845 : BitVec 32 := Scalar.divsi v1844 c2_i32_1266
  let c2_i32_1265 : BitVec 32 := 2#32
  let v1846 : BitVec 32 := Scalar.remsi v1845 c2_i32_1265
  let v1850 : BitVec 32 := Scalar.subi c1_i32_1269 v1846
  let v1852 : BitVec 32 := Scalar.muli c2_i32_1271 v1850
  let v1853 : BitVec 32 := Scalar.addi v1851 v1852
  let v1847 : BitVec 32 := Dev.word d0
  let c1_i32_1268 : BitVec 32 := 1#32
  let v1848 : BitVec 32 := Scalar.divsi v1847 c1_i32_1268
  let c2_i32_1267 : BitVec 32 := 2#32
  let v1849 : BitVec 32 := Scalar.remsi v1848 c2_i32_1267
  let v1854 : BitVec 32 := Scalar.addi v1853 v1849
  let c0_i32_1278 : BitVec 32 := 0#32
  let c0_i32_1279 : BitVec 32 := 0#32
  ![v1854.toNat, 0, 0]
def k0_off61 (d0 : Dev nD) : Fin 3 → Nat :=
  let c4_i32_1290 : BitVec 32 := 4#32
  let v1866 : BitVec 32 := Dev.word d0
  let c4_i32_1283 : BitVec 32 := 4#32
  let v1867 : BitVec 32 := Scalar.divsi v1866 c4_i32_1283
  let c2_i32_1282 : BitVec 32 := 2#32
  let v1868 : BitVec 32 := Scalar.remsi v1867 c2_i32_1282
  let v1877 : BitVec 32 := Scalar.muli c4_i32_1290 v1868
  let c2_i32_1291 : BitVec 32 := 2#32
  let c1_i32_1288 : BitVec 32 := 1#32
  let v1869 : BitVec 32 := Dev.word d0
  let c2_i32_1285 : BitVec 32 := 2#32
  let v1870 : BitVec 32 := Scalar.divsi v1869 c2_i32_1285
  let c2_i32_1284 : BitVec 32 := 2#32
  let v1871 : BitVec 32 := Scalar.remsi v1870 c2_i32_1284
  let v1875 : BitVec 32 := Scalar.subi c1_i32_1288 v1871
  let v1878 : BitVec 32 := Scalar.muli c2_i32_1291 v1875
  let v1879 : BitVec 32 := Scalar.addi v1877 v1878
  let c1_i32_1289 : BitVec 32 := 1#32
  let v1872 : BitVec 32 := Dev.word d0
  let c1_i32_1287 : BitVec 32 := 1#32
  let v1873 : BitVec 32 := Scalar.divsi v1872 c1_i32_1287
  let c2_i32_1286 : BitVec 32 := 2#32
  let v1874 : BitVec 32 := Scalar.remsi v1873 c2_i32_1286
  let v1876 : BitVec 32 := Scalar.subi c1_i32_1289 v1874
  let v1880 : BitVec 32 := Scalar.addi v1879 v1876
  let c0_i32_1298 : BitVec 32 := 0#32
  let c0_i32_1299 : BitVec 32 := 0#32
  ![v1880.toNat, 0, 0]
def k0_off62 (d0 : Dev nD) : Fin 3 → Nat :=
  let c4_i32_1309 : BitVec 32 := 4#32
  let c1_i32_1308 : BitVec 32 := 1#32
  let v1892 : BitVec 32 := Dev.word d0
  let c4_i32_1303 : BitVec 32 := 4#32
  let v1893 : BitVec 32 := Scalar.divsi v1892 c4_i32_1303
  let c2_i32_1302 : BitVec 32 := 2#32
  let v1894 : BitVec 32 := Scalar.remsi v1893 c2_i32_1302
  let v1901 : BitVec 32 := Scalar.subi c1_i32_1308 v1894
  let v1902 : BitVec 32 := Scalar.muli c4_i32_1309 v1901
  let c2_i32_1310 : BitVec 32 := 2#32
  let v1895 : BitVec 32 := Dev.word d0
  let c2_i32_1305 : BitVec 32 := 2#32
  let v1896 : BitVec 32 := Scalar.divsi v1895 c2_i32_1305
  let c2_i32_1304 : BitVec 32 := 2#32
  let v1897 : BitVec 32 := Scalar.remsi v1896 c2_i32_1304
  let v1903 : BitVec 32 := Scalar.muli c2_i32_1310 v1897
  let v1904 : BitVec 32 := Scalar.addi v1902 v1903
  let v1898 : BitVec 32 := Dev.word d0
  let c1_i32_1307 : BitVec 32 := 1#32
  let v1899 : BitVec 32 := Scalar.divsi v1898 c1_i32_1307
  let c2_i32_1306 : BitVec 32 := 2#32
  let v1900 : BitVec 32 := Scalar.remsi v1899 c2_i32_1306
  let v1905 : BitVec 32 := Scalar.addi v1904 v1900
  let c0_i32_1317 : BitVec 32 := 0#32
  let c0_i32_1318 : BitVec 32 := 0#32
  ![v1905.toNat, 0, 0]
def k0_off63 (d0 : Dev nD) : Fin 3 → Nat :=
  let c4_i32_1329 : BitVec 32 := 4#32
  let c1_i32_1327 : BitVec 32 := 1#32
  let v1917 : BitVec 32 := Dev.word d0
  let c4_i32_1322 : BitVec 32 := 4#32
  let v1918 : BitVec 32 := Scalar.divsi v1917 c4_i32_1322
  let c2_i32_1321 : BitVec 32 := 2#32
  let v1919 : BitVec 32 := Scalar.remsi v1918 c2_i32_1321
  let v1926 : BitVec 32 := Scalar.subi c1_i32_1327 v1919
  let v1928 : BitVec 32 := Scalar.muli c4_i32_1329 v1926
  let c2_i32_1330 : BitVec 32 := 2#32
  let v1920 : BitVec 32 := Dev.word d0
  let c2_i32_1324 : BitVec 32 := 2#32
  let v1921 : BitVec 32 := Scalar.divsi v1920 c2_i32_1324
  let c2_i32_1323 : BitVec 32 := 2#32
  let v1922 : BitVec 32 := Scalar.remsi v1921 c2_i32_1323
  let v1929 : BitVec 32 := Scalar.muli c2_i32_1330 v1922
  let v1930 : BitVec 32 := Scalar.addi v1928 v1929
  let c1_i32_1328 : BitVec 32 := 1#32
  let v1923 : BitVec 32 := Dev.word d0
  let c1_i32_1326 : BitVec 32 := 1#32
  let v1924 : BitVec 32 := Scalar.divsi v1923 c1_i32_1326
  let c2_i32_1325 : BitVec 32 := 2#32
  let v1925 : BitVec 32 := Scalar.remsi v1924 c2_i32_1325
  let v1927 : BitVec 32 := Scalar.subi c1_i32_1328 v1925
  let v1931 : BitVec 32 := Scalar.addi v1930 v1927
  let c0_i32_1337 : BitVec 32 := 0#32
  let c0_i32_1338 : BitVec 32 := 0#32
  ![v1931.toNat, 0, 0]
def k0_off64 (d0 : Dev nD) : Fin 3 → Nat :=
  let c4_i32_1349 : BitVec 32 := 4#32
  let c1_i32_1347 : BitVec 32 := 1#32
  let v1943 : BitVec 32 := Dev.word d0
  let c4_i32_1342 : BitVec 32 := 4#32
  let v1944 : BitVec 32 := Scalar.divsi v1943 c4_i32_1342
  let c2_i32_1341 : BitVec 32 := 2#32
  let v1945 : BitVec 32 := Scalar.remsi v1944 c2_i32_1341
  let v1952 : BitVec 32 := Scalar.subi c1_i32_1347 v1945
  let v1954 : BitVec 32 := Scalar.muli c4_i32_1349 v1952
  let c2_i32_1350 : BitVec 32 := 2#32
  let c1_i32_1348 : BitVec 32 := 1#32
  let v1946 : BitVec 32 := Dev.word d0
  let c2_i32_1344 : BitVec 32 := 2#32
  let v1947 : BitVec 32 := Scalar.divsi v1946 c2_i32_1344
  let c2_i32_1343 : BitVec 32 := 2#32
  let v1948 : BitVec 32 := Scalar.remsi v1947 c2_i32_1343
  let v1953 : BitVec 32 := Scalar.subi c1_i32_1348 v1948
  let v1955 : BitVec 32 := Scalar.muli c2_i32_1350 v1953
  let v1956 : BitVec 32 := Scalar.addi v1954 v1955
  let v1949 : BitVec 32 := Dev.word d0
  let c1_i32_1346 : BitVec 32 := 1#32
  let v1950 : BitVec 32 := Scalar.divsi v1949 c1_i32_1346
  let c2_i32_1345 : BitVec 32 := 2#32
  let v1951 : BitVec 32 := Scalar.remsi v1950 c2_i32_1345
  let v1957 : BitVec 32 := Scalar.addi v1956 v1951
  let c0_i32_1357 : BitVec 32 := 0#32
  let c0_i32_1358 : BitVec 32 := 0#32
  ![v1957.toNat, 0, 0]
def k0_off65 (d0 : Dev nD) : Fin 3 → Nat :=
  let c4_i32_1370 : BitVec 32 := 4#32
  let c1_i32_1367 : BitVec 32 := 1#32
  let v1969 : BitVec 32 := Dev.word d0
  let c4_i32_1362 : BitVec 32 := 4#32
  let v1970 : BitVec 32 := Scalar.divsi v1969 c4_i32_1362
  let c2_i32_1361 : BitVec 32 := 2#32
  let v1971 : BitVec 32 := Scalar.remsi v1970 c2_i32_1361
  let v1978 : BitVec 32 := Scalar.subi c1_i32_1367 v1971
  let v1981 : BitVec 32 := Scalar.muli c4_i32_1370 v1978
  let c2_i32_1371 : BitVec 32 := 2#32
  let c1_i32_1368 : BitVec 32 := 1#32
  let v1972 : BitVec 32 := Dev.word d0
  let c2_i32_1364 : BitVec 32 := 2#32
  let v1973 : BitVec 32 := Scalar.divsi v1972 c2_i32_1364
  let c2_i32_1363 : BitVec 32 := 2#32
  let v1974 : BitVec 32 := Scalar.remsi v1973 c2_i32_1363
  let v1979 : BitVec 32 := Scalar.subi c1_i32_1368 v1974
  let v1982 : BitVec 32 := Scalar.muli c2_i32_1371 v1979
  let v1983 : BitVec 32 := Scalar.addi v1981 v1982
  let c1_i32_1369 : BitVec 32 := 1#32
  let v1975 : BitVec 32 := Dev.word d0
  let c1_i32_1366 : BitVec 32 := 1#32
  let v1976 : BitVec 32 := Scalar.divsi v1975 c1_i32_1366
  let c2_i32_1365 : BitVec 32 := 2#32
  let v1977 : BitVec 32 := Scalar.remsi v1976 c2_i32_1365
  let v1980 : BitVec 32 := Scalar.subi c1_i32_1369 v1977
  let v1984 : BitVec 32 := Scalar.addi v1983 v1980
  let c0_i32_1378 : BitVec 32 := 0#32
  let c0_i32_1379 : BitVec 32 := 0#32
  ![v1984.toNat, 0, 0]
def k0_off66 (d0 : Dev nD) : Fin 3 → Nat :=
  let c4_i32_1527 : BitVec 32 := 4#32
  let v2176 : BitVec 32 := Dev.word d0
  let c4_i32_1521 : BitVec 32 := 4#32
  let v2177 : BitVec 32 := Scalar.divsi v2176 c4_i32_1521
  let c2_i32_1520 : BitVec 32 := 2#32
  let v2178 : BitVec 32 := Scalar.remsi v2177 c2_i32_1520
  let v2186 : BitVec 32 := Scalar.muli c4_i32_1527 v2178
  let c2_i32_1528 : BitVec 32 := 2#32
  let v2179 : BitVec 32 := Dev.word d0
  let c2_i32_1523 : BitVec 32 := 2#32
  let v2180 : BitVec 32 := Scalar.divsi v2179 c2_i32_1523
  let c2_i32_1522 : BitVec 32 := 2#32
  let v2181 : BitVec 32 := Scalar.remsi v2180 c2_i32_1522
  let v2187 : BitVec 32 := Scalar.muli c2_i32_1528 v2181
  let v2188 : BitVec 32 := Scalar.addi v2186 v2187
  let c1_i32_1526 : BitVec 32 := 1#32
  let v2182 : BitVec 32 := Dev.word d0
  let c1_i32_1525 : BitVec 32 := 1#32
  let v2183 : BitVec 32 := Scalar.divsi v2182 c1_i32_1525
  let c2_i32_1524 : BitVec 32 := 2#32
  let v2184 : BitVec 32 := Scalar.remsi v2183 c2_i32_1524
  let v2185 : BitVec 32 := Scalar.subi c1_i32_1526 v2184
  let v2189 : BitVec 32 := Scalar.addi v2188 v2185
  let c0_i32_1535 : BitVec 32 := 0#32
  let c0_i32_1536 : BitVec 32 := 0#32
  ![v2189.toNat, 0, 0]
def k0_off67 (d0 : Dev nD) : Fin 3 → Nat :=
  let c4_i32_1544 : BitVec 32 := 4#32
  let v2200 : BitVec 32 := Dev.word d0
  let c4_i32_1538 : BitVec 32 := 4#32
  let v2201 : BitVec 32 := Scalar.divsi v2200 c4_i32_1538
  let c2_i32_1537 : BitVec 32 := 2#32
  let v2202 : BitVec 32 := Scalar.remsi v2201 c2_i32_1537
  let v2210 : BitVec 32 := Scalar.muli c4_i32_1544 v2202
  let c2_i32_1545 : BitVec 32 := 2#32
  let c1_i32_1543 : BitVec 32 := 1#32
  let v2203 : BitVec 32 := Dev.word d0
  let c2_i32_1540 : BitVec 32 := 2#32
  let v2204 : BitVec 32 := Scalar.divsi v2203 c2_i32_1540
  let c2_i32_1539 : BitVec 32 := 2#32
  let v2205 : BitVec 32 := Scalar.remsi v2204 c2_i32_1539
  let v2209 : BitVec 32 := Scalar.subi c1_i32_1543 v2205
  let v2211 : BitVec 32 := Scalar.muli c2_i32_1545 v2209
  let v2212 : BitVec 32 := Scalar.addi v2210 v2211
  let v2206 : BitVec 32 := Dev.word d0
  let c1_i32_1542 : BitVec 32 := 1#32
  let v2207 : BitVec 32 := Scalar.divsi v2206 c1_i32_1542
  let c2_i32_1541 : BitVec 32 := 2#32
  let v2208 : BitVec 32 := Scalar.remsi v2207 c2_i32_1541
  let v2213 : BitVec 32 := Scalar.addi v2212 v2208
  let c0_i32_1552 : BitVec 32 := 0#32
  let c0_i32_1553 : BitVec 32 := 0#32
  ![v2213.toNat, 0, 0]
def k0_off68 (d0 : Dev nD) : Fin 3 → Nat :=
  let c4_i32_1562 : BitVec 32 := 4#32
  let v2224 : BitVec 32 := Dev.word d0
  let c4_i32_1555 : BitVec 32 := 4#32
  let v2225 : BitVec 32 := Scalar.divsi v2224 c4_i32_1555
  let c2_i32_1554 : BitVec 32 := 2#32
  let v2226 : BitVec 32 := Scalar.remsi v2225 c2_i32_1554
  let v2235 : BitVec 32 := Scalar.muli c4_i32_1562 v2226
  let c2_i32_1563 : BitVec 32 := 2#32
  let c1_i32_1560 : BitVec 32 := 1#32
  let v2227 : BitVec 32 := Dev.word d0
  let c2_i32_1557 : BitVec 32 := 2#32
  let v2228 : BitVec 32 := Scalar.divsi v2227 c2_i32_1557
  let c2_i32_1556 : BitVec 32 := 2#32
  let v2229 : BitVec 32 := Scalar.remsi v2228 c2_i32_1556
  let v2233 : BitVec 32 := Scalar.subi c1_i32_1560 v2229
  let v2236 : BitVec 32 := Scalar.muli c2_i32_1563 v2233
  let v2237 : BitVec 32 := Scalar.addi v2235 v2236
  let c1_i32_1561 : BitVec 32 := 1#32
  let v2230 : BitVec 32 := Dev.word d0
  let c1_i32_1559 : BitVec 32 := 1#32
  let v2231 : BitVec 32 := Scalar.divsi v2230 c1_i32_1559
  let c2_i32_1558 : BitVec 32 := 2#32
  let v2232 : BitVec 32 := Scalar.remsi v2231 c2_i32_1558
  let v2234 : BitVec 32 := Scalar.subi c1_i32_1561 v2232
  let v2238 : BitVec 32 := Scalar.addi v2237 v2234
  let c0_i32_1570 : BitVec 32 := 0#32
  let c0_i32_1571 : BitVec 32 := 0#32
  ![v2238.toNat, 0, 0]
def k0_off69 (d0 : Dev nD) : Fin 3 → Nat :=
  let c4_i32_1579 : BitVec 32 := 4#32
  let c1_i32_1578 : BitVec 32 := 1#32
  let v2249 : BitVec 32 := Dev.word d0
  let c4_i32_1573 : BitVec 32 := 4#32
  let v2250 : BitVec 32 := Scalar.divsi v2249 c4_i32_1573
  let c2_i32_1572 : BitVec 32 := 2#32
  let v2251 : BitVec 32 := Scalar.remsi v2250 c2_i32_1572
  let v2258 : BitVec 32 := Scalar.subi c1_i32_1578 v2251
  let v2259 : BitVec 32 := Scalar.muli c4_i32_1579 v2258
  let c2_i32_1580 : BitVec 32 := 2#32
  let v2252 : BitVec 32 := Dev.word d0
  let c2_i32_1575 : BitVec 32 := 2#32
  let v2253 : BitVec 32 := Scalar.divsi v2252 c2_i32_1575
  let c2_i32_1574 : BitVec 32 := 2#32
  let v2254 : BitVec 32 := Scalar.remsi v2253 c2_i32_1574
  let v2260 : BitVec 32 := Scalar.muli c2_i32_1580 v2254
  let v2261 : BitVec 32 := Scalar.addi v2259 v2260
  let v2255 : BitVec 32 := Dev.word d0
  let c1_i32_1577 : BitVec 32 := 1#32
  let v2256 : BitVec 32 := Scalar.divsi v2255 c1_i32_1577
  let c2_i32_1576 : BitVec 32 := 2#32
  let v2257 : BitVec 32 := Scalar.remsi v2256 c2_i32_1576
  let v2262 : BitVec 32 := Scalar.addi v2261 v2257
  let c0_i32_1587 : BitVec 32 := 0#32
  let c0_i32_1588 : BitVec 32 := 0#32
  ![v2262.toNat, 0, 0]
def k0_off70 (d0 : Dev nD) : Fin 3 → Nat :=
  let c4_i32_1597 : BitVec 32 := 4#32
  let c1_i32_1595 : BitVec 32 := 1#32
  let v2273 : BitVec 32 := Dev.word d0
  let c4_i32_1590 : BitVec 32 := 4#32
  let v2274 : BitVec 32 := Scalar.divsi v2273 c4_i32_1590
  let c2_i32_1589 : BitVec 32 := 2#32
  let v2275 : BitVec 32 := Scalar.remsi v2274 c2_i32_1589
  let v2282 : BitVec 32 := Scalar.subi c1_i32_1595 v2275
  let v2284 : BitVec 32 := Scalar.muli c4_i32_1597 v2282
  let c2_i32_1598 : BitVec 32 := 2#32
  let v2276 : BitVec 32 := Dev.word d0
  let c2_i32_1592 : BitVec 32 := 2#32
  let v2277 : BitVec 32 := Scalar.divsi v2276 c2_i32_1592
  let c2_i32_1591 : BitVec 32 := 2#32
  let v2278 : BitVec 32 := Scalar.remsi v2277 c2_i32_1591
  let v2285 : BitVec 32 := Scalar.muli c2_i32_1598 v2278
  let v2286 : BitVec 32 := Scalar.addi v2284 v2285
  let c1_i32_1596 : BitVec 32 := 1#32
  let v2279 : BitVec 32 := Dev.word d0
  let c1_i32_1594 : BitVec 32 := 1#32
  let v2280 : BitVec 32 := Scalar.divsi v2279 c1_i32_1594
  let c2_i32_1593 : BitVec 32 := 2#32
  let v2281 : BitVec 32 := Scalar.remsi v2280 c2_i32_1593
  let v2283 : BitVec 32 := Scalar.subi c1_i32_1596 v2281
  let v2287 : BitVec 32 := Scalar.addi v2286 v2283
  let c0_i32_1605 : BitVec 32 := 0#32
  let c0_i32_1606 : BitVec 32 := 0#32
  ![v2287.toNat, 0, 0]
def k0_off71 (d0 : Dev nD) : Fin 3 → Nat :=
  let c4_i32_1615 : BitVec 32 := 4#32
  let c1_i32_1613 : BitVec 32 := 1#32
  let v2298 : BitVec 32 := Dev.word d0
  let c4_i32_1608 : BitVec 32 := 4#32
  let v2299 : BitVec 32 := Scalar.divsi v2298 c4_i32_1608
  let c2_i32_1607 : BitVec 32 := 2#32
  let v2300 : BitVec 32 := Scalar.remsi v2299 c2_i32_1607
  let v2307 : BitVec 32 := Scalar.subi c1_i32_1613 v2300
  let v2309 : BitVec 32 := Scalar.muli c4_i32_1615 v2307
  let c2_i32_1616 : BitVec 32 := 2#32
  let c1_i32_1614 : BitVec 32 := 1#32
  let v2301 : BitVec 32 := Dev.word d0
  let c2_i32_1610 : BitVec 32 := 2#32
  let v2302 : BitVec 32 := Scalar.divsi v2301 c2_i32_1610
  let c2_i32_1609 : BitVec 32 := 2#32
  let v2303 : BitVec 32 := Scalar.remsi v2302 c2_i32_1609
  let v2308 : BitVec 32 := Scalar.subi c1_i32_1614 v2303
  let v2310 : BitVec 32 := Scalar.muli c2_i32_1616 v2308
  let v2311 : BitVec 32 := Scalar.addi v2309 v2310
  let v2304 : BitVec 32 := Dev.word d0
  let c1_i32_1612 : BitVec 32 := 1#32
  let v2305 : BitVec 32 := Scalar.divsi v2304 c1_i32_1612
  let c2_i32_1611 : BitVec 32 := 2#32
  let v2306 : BitVec 32 := Scalar.remsi v2305 c2_i32_1611
  let v2312 : BitVec 32 := Scalar.addi v2311 v2306
  let c0_i32_1623 : BitVec 32 := 0#32
  let c0_i32_1624 : BitVec 32 := 0#32
  ![v2312.toNat, 0, 0]
def k0_off72 (d0 : Dev nD) : Fin 3 → Nat :=
  let c4_i32_1634 : BitVec 32 := 4#32
  let c1_i32_1631 : BitVec 32 := 1#32
  let v2323 : BitVec 32 := Dev.word d0
  let c4_i32_1626 : BitVec 32 := 4#32
  let v2324 : BitVec 32 := Scalar.divsi v2323 c4_i32_1626
  let c2_i32_1625 : BitVec 32 := 2#32
  let v2325 : BitVec 32 := Scalar.remsi v2324 c2_i32_1625
  let v2332 : BitVec 32 := Scalar.subi c1_i32_1631 v2325
  let v2335 : BitVec 32 := Scalar.muli c4_i32_1634 v2332
  let c2_i32_1635 : BitVec 32 := 2#32
  let c1_i32_1632 : BitVec 32 := 1#32
  let v2326 : BitVec 32 := Dev.word d0
  let c2_i32_1628 : BitVec 32 := 2#32
  let v2327 : BitVec 32 := Scalar.divsi v2326 c2_i32_1628
  let c2_i32_1627 : BitVec 32 := 2#32
  let v2328 : BitVec 32 := Scalar.remsi v2327 c2_i32_1627
  let v2333 : BitVec 32 := Scalar.subi c1_i32_1632 v2328
  let v2336 : BitVec 32 := Scalar.muli c2_i32_1635 v2333
  let v2337 : BitVec 32 := Scalar.addi v2335 v2336
  let c1_i32_1633 : BitVec 32 := 1#32
  let v2329 : BitVec 32 := Dev.word d0
  let c1_i32_1630 : BitVec 32 := 1#32
  let v2330 : BitVec 32 := Scalar.divsi v2329 c1_i32_1630
  let c2_i32_1629 : BitVec 32 := 2#32
  let v2331 : BitVec 32 := Scalar.remsi v2330 c2_i32_1629
  let v2334 : BitVec 32 := Scalar.subi c1_i32_1633 v2331
  let v2338 : BitVec 32 := Scalar.addi v2337 v2334
  let c0_i32_1642 : BitVec 32 := 0#32
  let c0_i32_1643 : BitVec 32 := 0#32
  ![v2338.toNat, 0, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S8x256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S64x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S64x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S64x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S8x64x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S64x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S64x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S64x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S64x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S128x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S128x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S8x128x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S128x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S128x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S128x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S128x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S128x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8x128x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S128x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S128x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S128x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S128x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S128x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S128x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S8x128x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S128x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S128x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S128x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S128x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1128x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S1128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S8x1128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S1128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S1128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S1128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev stage6_7 : Fin 1 → Memref sig .tc .vmem S1128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![true]
-- ==== ReferenceIdeal.lean ====
abbrev S16384x1024 : Shape := ⟨2, ![16384, 1024]⟩
abbrev S4096x512 : Shape := ⟨2, ![4096, 512]⟩
abbrev S8192x1024 : Shape := ⟨2, ![8192, 1024]⟩
abbrev S32768x1024 : Shape := ⟨2, ![32768, 1024]⟩
abbrev S9024x128 : Shape := ⟨2, ![9024, 128]⟩
abbrev S1024x2048 : Shape := ⟨2, ![1024, 2048]⟩
abbrev S512x512 : Shape := ⟨2, ![512, 512]⟩
abbrev S1024x1024 : Shape := ⟨2, ![1024, 1024]⟩
abbrev S1024x4096 : Shape := ⟨2, ![1024, 4096]⟩
abbrev S4096x1024 : Shape := ⟨2, ![4096, 1024]⟩
abbrev S1128x128 : Shape := ⟨2, ![1128, 128]⟩
abbrev S8x2048x1024 : Shape := ⟨3, ![8, 2048, 1024]⟩
abbrev S_ : Shape := ⟨0, ![]⟩
abbrev S2048x1024 : Shape := ⟨2, ![2048, 1024]⟩
abbrev S8x512x512 : Shape := ⟨3, ![8, 512, 512]⟩
abbrev S8x1024x1024 : Shape := ⟨3, ![8, 1024, 1024]⟩
abbrev S8x4096x1024 : Shape := ⟨3, ![8, 4096, 1024]⟩
abbrev S8x1128x128 : Shape := ⟨3, ![8, 1128, 128]⟩

abbrev nBuf : Space → Nat
  | .hbm => 247
  | .vmem => 0
  | .smem => 0
  | _ => 0

abbrev hbmTy0_0 (i : Nat) : BufTy := match i % 128 with
  | 0 => ⟨S16384x1024, .bf16⟩
  | 1 => ⟨S4096x512, .bf16⟩
  | 2 => ⟨S8192x1024, .bf16⟩
  | 3 => ⟨S32768x1024, .bf16⟩
  | 4 => ⟨S32768x1024, .bf16⟩
  | 5 => ⟨S9024x128, .f32⟩
  | 6 => ⟨S1024x2048, .f32⟩
  | 7 => ⟨S512x512, .f32⟩
  | 8 => ⟨S1024x1024, .f32⟩
  | 9 => ⟨S1024x4096, .f32⟩
  | 10 => ⟨S4096x1024, .f32⟩
  | 11 => ⟨S1128x128, .f32⟩
  | 12 => ⟨S1024x2048, .f32⟩
  | 13 => ⟨S512x512, .f32⟩
  | 14 => ⟨S1024x1024, .f32⟩
  | 15 => ⟨S1024x4096, .f32⟩
  | 16 => ⟨S4096x1024, .f32⟩
  | 17 => ⟨S1128x128, .f32⟩
  | 18 => ⟨S1024x2048, .f32⟩
  | 19 => ⟨S512x512, .f32⟩
  | 20 => ⟨S1024x1024, .f32⟩
  | 21 => ⟨S1024x4096, .f32⟩
  | 22 => ⟨S4096x1024, .f32⟩
  | 23 => ⟨S1128x128, .f32⟩
  | 24 => ⟨S16384x1024, .f32⟩
  | 25 => ⟨S8x2048x1024, .f32⟩
  | 26 => ⟨S_, .f32⟩
  | 27 => ⟨S2048x1024, .f32⟩
  | 28 => ⟨S4096x512, .f32⟩
  | 29 => ⟨S8x512x512, .f32⟩
  | 30 => ⟨S_, .f32⟩
  | 31 => ⟨S512x512, .f32⟩
  | 32 => ⟨S8192x1024, .f32⟩
  | 33 => ⟨S8x1024x1024, .f32⟩
  | 34 => ⟨S_, .f32⟩
  | 35 => ⟨S1024x1024, .f32⟩
  | 36 => ⟨S32768x1024, .f32⟩
  | 37 => ⟨S8x4096x1024, .f32⟩
  | 38 => ⟨S_, .f32⟩
  | 39 => ⟨S4096x1024, .f32⟩
  | 40 => ⟨S32768x1024, .f32⟩
  | 41 => ⟨S8x4096x1024, .f32⟩
  | 42 => ⟨S_, .f32⟩
  | 43 => ⟨S4096x1024, .f32⟩
  | 44 => ⟨S8x1128x128, .f32⟩
  | 45 => ⟨S_, .f32⟩
  | 46 => ⟨S1128x128, .f32⟩
  | 47 => ⟨S1024x2048, .f32⟩
  | 48 => ⟨S1024x4096, .f32⟩
  | 49 => ⟨S_, .f32⟩
  | 50 => ⟨S1024x2048, .f32⟩
  | 51 => ⟨S1024x2048, .f32⟩
  | 52 => ⟨S_, .f32⟩
  | 53 => ⟨S1024x2048, .f32⟩
  | 54 => ⟨S1024x2048, .f32⟩
  | 55 => ⟨S1024x2048, .f32⟩
  | 56 => ⟨S_, .f32⟩
  | 57 => ⟨S1024x2048, .f32⟩
  | 58 => ⟨S1024x2048, .f32⟩
  | 59 => ⟨S1024x2048, .f32⟩
  | 60 => ⟨S_, .f32⟩
  | 61 => ⟨S1024x2048, .f32⟩
  | 62 => ⟨S1024x2048, .f32⟩
  | 63 => ⟨S1024x2048, .f32⟩
  | 64 => ⟨S_, .f32⟩
  | 65 => ⟨S1024x2048, .f32⟩
  | 66 => ⟨S1024x2048, .f32⟩
  | 67 => ⟨S_, .f32⟩
  | 68 => ⟨S1024x2048, .f32⟩
  | 69 => ⟨S1024x2048, .f32⟩
  | 70 => ⟨S1024x2048, .f32⟩
  | 71 => ⟨S_, .f32⟩
  | 72 => ⟨S1024x2048, .f32⟩
  | 73 => ⟨S1024x2048, .f32⟩
  | 74 => ⟨S1024x2048, .f32⟩
  | 75 => ⟨S_, .f32⟩
  | 76 => ⟨S1024x2048, .f32⟩
  | 77 => ⟨S1024x2048, .f32⟩
  | 78 => ⟨S1024x2048, .f32⟩
  | 79 => ⟨S_, .f32⟩
  | 80 => ⟨S1024x2048, .f32⟩
  | 81 => ⟨S1024x2048, .f32⟩
  | 82 => ⟨S_, .f32⟩
  | 83 => ⟨S512x512, .f32⟩
  | 84 => ⟨S512x512, .f32⟩
  | 85 => ⟨S_, .f32⟩
  | 86 => ⟨S512x512, .f32⟩
  | 87 => ⟨S512x512, .f32⟩
  | 88 => ⟨S512x512, .f32⟩
  | 89 => ⟨S_, .f32⟩
  | 90 => ⟨S512x512, .f32⟩
  | 91 => ⟨S512x512, .f32⟩
  | 92 => ⟨S512x512, .f32⟩
  | 93 => ⟨S_, .f32⟩
  | 94 => ⟨S512x512, .f32⟩
  | 95 => ⟨S512x512, .f32⟩
  | 96 => ⟨S512x512, .f32⟩
  | 97 => ⟨S_, .f32⟩
  | 98 => ⟨S512x512, .f32⟩
  | 99 => ⟨S512x512, .f32⟩
  | 100 => ⟨S_, .f32⟩
  | 101 => ⟨S512x512, .f32⟩
  | 102 => ⟨S512x512, .f32⟩
  | 103 => ⟨S512x512, .f32⟩
  | 104 => ⟨S_, .f32⟩
  | 105 => ⟨S512x512, .f32⟩
  | 106 => ⟨S512x512, .f32⟩
  | 107 => ⟨S512x512, .f32⟩
  | 108 => ⟨S_, .f32⟩
  | 109 => ⟨S512x512, .f32⟩
  | 110 => ⟨S512x512, .f32⟩
  | 111 => ⟨S512x512, .f32⟩
  | 112 => ⟨S_, .f32⟩
  | 113 => ⟨S512x512, .f32⟩
  | 114 => ⟨S512x512, .f32⟩
  | 115 => ⟨S_, .f32⟩
  | 116 => ⟨S1024x1024, .f32⟩
  | 117 => ⟨S1024x1024, .f32⟩
  | 118 => ⟨S_, .f32⟩
  | 119 => ⟨S1024x1024, .f32⟩
  | 120 => ⟨S1024x1024, .f32⟩
  | 121 => ⟨S1024x1024, .f32⟩
  | 122 => ⟨S_, .f32⟩
  | 123 => ⟨S1024x1024, .f32⟩
  | 124 => ⟨S1024x1024, .f32⟩
  | 125 => ⟨S1024x1024, .f32⟩
  | 126 => ⟨S_, .f32⟩
  | 127 => ⟨S1024x1024, .f32⟩
  | _ => ⟨S16384x1024, .bf16⟩

abbrev hbmTy0_1 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S_, .f32⟩
  | 6 => ⟨S1024x1024, .f32⟩
  | 7 => ⟨S1024x1024, .f32⟩
  | 8 => ⟨S1024x1024, .f32⟩
  | 9 => ⟨S_, .f32⟩
  | 10 => ⟨S1024x1024, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S_, .f32⟩
  | 21 => ⟨S1024x4096, .f32⟩
  | 22 => ⟨S1024x4096, .f32⟩
  | 23 => ⟨S_, .f32⟩
  | 24 => ⟨S1024x4096, .f32⟩
  | 25 => ⟨S1024x4096, .f32⟩
  | 26 => ⟨S1024x4096, .f32⟩
  | 27 => ⟨S_, .f32⟩
  | 28 => ⟨S1024x4096, .f32⟩
  | 29 => ⟨S1024x4096, .f32⟩
  | 30 => ⟨S1024x4096, .f32⟩
  | 31 => ⟨S_, .f32⟩
  | 32 => ⟨S1024x4096, .f32⟩
  | 33 => ⟨S1024x4096, .f32⟩
  | 34 => ⟨S1024x4096, .f32⟩
  | 35 => ⟨S_, .f32⟩
  | 36 => ⟨S1024x4096, .f32⟩
  | 37 => ⟨S1024x4096, .f32⟩
  | 38 => ⟨S_, .f32⟩
  | 39 => ⟨S1024x4096, .f32⟩
  | 40 => ⟨S1024x4096, .f32⟩
  | 41 => ⟨S1024x4096, .f32⟩
  | 42 => ⟨S_, .f32⟩
  | 43 => ⟨S1024x4096, .f32⟩
  | 44 => ⟨S1024x4096, .f32⟩
  | 45 => ⟨S1024x4096, .f32⟩
  | 46 => ⟨S_, .f32⟩
  | 47 => ⟨S1024x4096, .f32⟩
  | 48 => ⟨S1024x4096, .f32⟩
  | 49 => ⟨S1024x4096, .f32⟩
  | 50 => ⟨S_, .f32⟩
  | 51 => ⟨S1024x4096, .f32⟩
  | 52 => ⟨S1024x4096, .f32⟩
  | 53 => ⟨S_, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S1128x128, .f32⟩
  | 88 => ⟨S1128x128, .f32⟩
  | 89 => ⟨S_, .f32⟩
  | 90 => ⟨S1128x128, .f32⟩
  | 91 => ⟨S1128x128, .f32⟩
  | 92 => ⟨S1128x128, .f32⟩
  | 93 => ⟨S_, .f32⟩
  | 94 => ⟨S1128x128, .f32⟩
  | 95 => ⟨S1128x128, .f32⟩
  | 96 => ⟨S1128x128, .f32⟩
  | 97 => ⟨S_, .f32⟩
  | 98 => ⟨S1128x128, .f32⟩
  | 99 => ⟨S1128x128, .f32⟩
  | 100 => ⟨S1128x128, .f32⟩
  | 101 => ⟨S_, .f32⟩
  | 102 => ⟨S1128x128, .f32⟩
  | 103 => ⟨S1128x128, .f32⟩
  | 104 => ⟨S_, .f32⟩
  | 105 => ⟨S1128x128, .f32⟩
  | 106 => ⟨S1128x128, .f32⟩
  | 107 => ⟨S1128x128, .f32⟩
  | 108 => ⟨S_, .f32⟩
  | 109 => ⟨S1128x128, .f32⟩
  | 110 => ⟨S1128x128, .f32⟩
  | 111 => ⟨S1128x128, .f32⟩
  | 112 => ⟨S_, .f32⟩
  | 113 => ⟨S1128x128, .f32⟩
  | 114 => ⟨S1128x128, .f32⟩
  | 115 => ⟨S1128x128, .f32⟩
  | 116 => ⟨S_, .f32⟩
  | 117 => ⟨S1128x128, .f32⟩
  | 118 => ⟨S1128x128, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_3 : Ref sig .tc := ⟨.hbm, 42, rfl⟩
abbrev main_v14 : Ref sig .tc := ⟨.hbm, 43, rfl⟩
abbrev main_v15 : Ref sig .tc := ⟨.hbm, 44, rfl⟩
abbrev main_cst_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_v20 : Ref sig .tc := ⟨.hbm, 51, rfl⟩
abbrev main_cst_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_7 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_8 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_9 : Ref sig .tc := ⟨.hbm, 64, rfl⟩
abbrev main_v30 : Ref sig .tc := ⟨.hbm, 65, rfl⟩
abbrev main_v31 : Ref sig .tc := ⟨.hbm, 66, rfl⟩
abbrev main_cst_10 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_11 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_12 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_13 : Ref sig .tc := ⟨.hbm, 79, rfl⟩
abbrev main_v41 : Ref sig .tc := ⟨.hbm, 80, rfl⟩
abbrev main_v42 : Ref sig .tc := ⟨.hbm, 81, rfl⟩
abbrev main_cst_14 : Ref sig .tc := ⟨.hbm, 82, rfl⟩
abbrev main_v43 : Ref sig .tc := ⟨.hbm, 83, rfl⟩
abbrev main_v44 : Ref sig .tc := ⟨.hbm, 84, rfl⟩
abbrev main_cst_15 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_16 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_17 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_18 : Ref sig .tc := ⟨.hbm, 97, rfl⟩
abbrev main_v54 : Ref sig .tc := ⟨.hbm, 98, rfl⟩
abbrev main_v55 : Ref sig .tc := ⟨.hbm, 99, rfl⟩
abbrev main_cst_19 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_20 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_21 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_22 : Ref sig .tc := ⟨.hbm, 112, rfl⟩
abbrev main_v65 : Ref sig .tc := ⟨.hbm, 113, rfl⟩
abbrev main_v66 : Ref sig .tc := ⟨.hbm, 114, rfl⟩
abbrev main_cst_23 : Ref sig .tc := ⟨.hbm, 115, rfl⟩
abbrev main_v67 : Ref sig .tc := ⟨.hbm, 116, rfl⟩
abbrev main_v68 : Ref sig .tc := ⟨.hbm, 117, rfl⟩
abbrev main_cst_24 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_25 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_26 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_27 : Ref sig .tc := ⟨.hbm, 130, rfl⟩
abbrev main_v78 : Ref sig .tc := ⟨.hbm, 131, rfl⟩
abbrev main_v79 : Ref sig .tc := ⟨.hbm, 132, rfl⟩
abbrev main_cst_28 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_29 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_30 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_31 : Ref sig .tc := ⟨.hbm, 145, rfl⟩
abbrev main_v89 : Ref sig .tc := ⟨.hbm, 146, rfl⟩
abbrev main_v90 : Ref sig .tc := ⟨.hbm, 147, rfl⟩
abbrev main_cst_32 : Ref sig .tc := ⟨.hbm, 148, rfl⟩
abbrev main_v91 : Ref sig .tc := ⟨.hbm, 149, rfl⟩
abbrev main_v92 : Ref sig .tc := ⟨.hbm, 150, rfl⟩
abbrev main_cst_33 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_34 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_35 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_36 : Ref sig .tc := ⟨.hbm, 163, rfl⟩
abbrev main_v102 : Ref sig .tc := ⟨.hbm, 164, rfl⟩
abbrev main_v103 : Ref sig .tc := ⟨.hbm, 165, rfl⟩
abbrev main_cst_37 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_38 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_39 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_40 : Ref sig .tc := ⟨.hbm, 178, rfl⟩
abbrev main_v113 : Ref sig .tc := ⟨.hbm, 179, rfl⟩
abbrev main_v114 : Ref sig .tc := ⟨.hbm, 180, rfl⟩
abbrev main_cst_41 : Ref sig .tc := ⟨.hbm, 181, rfl⟩
abbrev main_v115 : Ref sig .tc := ⟨.hbm, 182, rfl⟩
abbrev main_v116 : Ref sig .tc := ⟨.hbm, 183, rfl⟩
abbrev main_cst_42 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_43 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_cst_44 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_cst_45 : Ref sig .tc := ⟨.hbm, 196, rfl⟩
abbrev main_v126 : Ref sig .tc := ⟨.hbm, 197, rfl⟩
abbrev main_v127 : Ref sig .tc := ⟨.hbm, 198, rfl⟩
abbrev main_cst_46 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_47 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_48 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_cst_49 : Ref sig .tc := ⟨.hbm, 211, rfl⟩
abbrev main_v137 : Ref sig .tc := ⟨.hbm, 212, rfl⟩
abbrev main_v138 : Ref sig .tc := ⟨.hbm, 213, rfl⟩
abbrev main_cst_50 : Ref sig .tc := ⟨.hbm, 214, rfl⟩
abbrev main_v139 : Ref sig .tc := ⟨.hbm, 215, rfl⟩
abbrev main_v140 : Ref sig .tc := ⟨.hbm, 216, rfl⟩
abbrev main_cst_51 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_cst_52 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_cst_53 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_cst_54 : Ref sig .tc := ⟨.hbm, 229, rfl⟩
abbrev main_v150 : Ref sig .tc := ⟨.hbm, 230, rfl⟩
abbrev main_v151 : Ref sig .tc := ⟨.hbm, 231, rfl⟩
abbrev main_cst_55 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_cst_56 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_cst_57 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_cst_58 : Ref sig .tc := ⟨.hbm, 244, rfl⟩
abbrev main_v161 : Ref sig .tc := ⟨.hbm, 245, rfl⟩
abbrev main_v162 : Ref sig .tc := ⟨.hbm, 246, rfl⟩

abbrev nD : Nat := 1
abbrev τ : Topo := Topo.v7x

variable {F : FTy → Type} [FloatOps F]
-- ==== InputGradient.lean ====
abbrev S16384x2048 : Shape := ⟨2, ![16384, 2048]⟩
abbrev S2048x1024 : Shape := ⟨2, ![2048, 1024]⟩
abbrev S16384x1024 : Shape := ⟨2, ![16384, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PlainInputGradientIdeal.lean ====
abbrev S16384x2048 : Shape := ⟨2, ![16384, 2048]⟩
abbrev S2048x1024 : Shape := ⟨2, ![2048, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x2048, .f32⟩
  | .hbm, ⟨6, _⟩ => ⟨S2048x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Loss.lean ====
abbrev S16384x4096 : Shape := ⟨2, ![16384, 4096]⟩
abbrev S4096x1024 : Shape := ⟨2, ![4096, 1024]⟩
abbrev S16384x1024 : Shape := ⟨2, ![16384, 1024]⟩
abbrev S1x1 : Shape := ⟨2, ![1, 1]⟩
abbrev S512x4096 : Shape := ⟨2, ![512, 4096]⟩
abbrev S512x1024 : Shape := ⟨2, ![512, 1024]⟩
abbrev S1024 : Shape := ⟨1, ![1024]⟩
abbrev S1x1024 : Shape := ⟨2, ![1, 1024]⟩
abbrev S1 : Shape := ⟨1, ![1]⟩
abbrev S_ : Shape := ⟨0, ![]⟩

abbrev nBuf : Space → Nat
  | .hbm => 21
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | _ => false

abbrev sig : RefSig :=
  ofTc nBuf bufTy 1 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v5_s0 : Ref sig .tc := ⟨.hbm, 13, rfl⟩
abbrev main_v5_s1 : Ref sig .tc := ⟨.hbm, 14, rfl⟩
abbrev main_v5_s2 : Ref sig .tc := ⟨.hbm, 15, rfl⟩
abbrev main_v5_s3 : Ref sig .tc := ⟨.hbm, 16, rfl⟩
abbrev main_v5_s4 : Ref sig .tc := ⟨.hbm, 17, rfl⟩
abbrev main_v5_s5 : Ref sig .tc := ⟨.hbm, 18, rfl⟩
abbrev main_v5_s6 : Ref sig .tc := ⟨.hbm, 19, rfl⟩
abbrev main_v5_s7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev ar0_recv : DmaSem sig := 12
abbrev ar0_send : DmaSem sig := 13
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v5_s0 | 1 => main_v5_s1 | 2 => main_v5_s2 | 3 => main_v5_s3 | 4 => main_v5_s4 | 5 => main_v5_s5 | 6 => main_v5_s6 | 7 => main_v5_s7 | ⟨_ + 8, h⟩ => absurd h (Nat.not_lt.2 (Nat.le_add_left _ _))

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PlainLossIdeal.lean ====
abbrev S131072x4096 : Shape := ⟨2, ![131072, 4096]⟩
abbrev S4096x1024 : Shape := ⟨2, ![4096, 1024]⟩
abbrev S131072x1024 : Shape := ⟨2, ![131072, 1024]⟩
abbrev S_ : Shape := ⟨0, ![]⟩
abbrev S131072 : Shape := ⟨1, ![131072]⟩

abbrev nBuf : Space → Nat
  | .hbm => 19
  | .vmem => 0
  | .smem => 0
  | _ => 0

abbrev bufTy : (tb : Table) → Fin (tcTables nBuf tb) → BufTy
  | .hbm, ⟨0, _⟩ => ⟨S131072x4096, .bf16⟩
  | .hbm, ⟨1, _⟩ => ⟨S4096x1024, .bf16⟩
  | .hbm, ⟨2, _⟩ => ⟨S131072x1024, .f32⟩
  | .hbm, ⟨3, _⟩ => ⟨S131072x1024, .f32⟩
  | .hbm, ⟨4, _⟩ => ⟨S131072x4096, .f32⟩
  | .hbm, ⟨5, _⟩ => ⟨S4096x1024, .f32⟩
  | .hbm, ⟨6, _⟩ => ⟨S131072x1024, .f32⟩
  | .hbm, ⟨7, _⟩ => ⟨S131072x1024, .f32⟩
  | .hbm, ⟨8, _⟩ => ⟨S131072x1024, .f32⟩
  | .hbm, ⟨9, _⟩ => ⟨S131072x1024, .f32⟩
  | .hbm, ⟨10, _⟩ => ⟨S_, .f32⟩
  | .hbm, ⟨11, _⟩ => ⟨S131072, .f32⟩
  | .hbm, ⟨12, _⟩ => ⟨S_, .f32⟩
  | .hbm, ⟨13, _⟩ => ⟨S131072, .f32⟩
  | .hbm, ⟨14, _⟩ => ⟨S131072, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S131072x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== MlpUp.lean ====
abbrev S16384x1024 : Shape := ⟨2, ![16384, 1024]⟩
abbrev S1024x4096 : Shape := ⟨2, ![1024, 4096]⟩
abbrev S16384x4096 : Shape := ⟨2, ![16384, 4096]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S16384x4096, .bf16⟩
  | .hbm, ⟨3, _⟩ => ⟨S16384x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PlainMlpUpIdeal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S16384x1024, .f32⟩
  | .hbm, ⟨3, _⟩ => ⟨S1024x4096, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .bf16⟩
  | .hbm, ⟨9, _⟩ => ⟨S16384x4096, .f32⟩
  | .hbm, ⟨10, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== HiddenGradient.lean ====
abbrev S16384x1024 : Shape := ⟨2, ![16384, 1024]⟩
abbrev S1024x4096 : Shape := ⟨2, ![1024, 4096]⟩
abbrev S16384x4096 : Shape := ⟨2, ![16384, 4096]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S16384x4096, .bf16⟩
  | .hbm, ⟨3, _⟩ => ⟨S16384x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PlainHiddenGradientIdeal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S16384x4096, .bf16⟩
  | .hbm, ⟨3, _⟩ => ⟨S16384x1024, .f32⟩
  | .hbm, ⟨4, _⟩ => ⟨S1024x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MlpInputGradient.lean ====
abbrev S16384x4096 : Shape := ⟨2, ![16384, 4096]⟩
abbrev S4096x1024 : Shape := ⟨2, ![4096, 1024]⟩
abbrev S16384x1024 : Shape := ⟨2, ![16384, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S16384x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PlainMlpInputGradientIdeal.lean ====
abbrev S16384x4096 : Shape := ⟨2, ![16384, 4096]⟩
abbrev S4096x1024 : Shape := ⟨2, ![4096, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x4096, .f32⟩
  | .hbm, ⟨6, _⟩ => ⟨S4096x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .bf16⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S1024, .f32⟩
  | .hbm, ⟨44, _⟩ => ⟨S1x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== DownGradient.lean ====
abbrev S16384x4096 : Shape := ⟨2, ![16384, 4096]⟩
abbrev S16384x1024 : Shape := ⟨2, ![16384, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDownGradientIdeal.lean ====
abbrev S16384x4096 : Shape := ⟨2, ![16384, 4096]⟩
abbrev S16384x1024 : Shape := ⟨2, ![16384, 1024]⟩
abbrev S4096x16384 : Shape := ⟨2, ![4096, 16384]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x4096, .f32⟩
  | .hbm, ⟨3, _⟩ => ⟨S4096x16384, .f32⟩
  | .hbm, ⟨4, _⟩ => ⟨S16384x1024, .f32⟩
  | .hbm, ⟨5, _⟩ => ⟨S4096x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InGradient.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainInGradientIdeal.lean ====
abbrev S16384x2048 : Shape := ⟨2, ![16384, 2048]⟩
abbrev S16384x1024 : Shape := ⟨2, ![16384, 1024]⟩
abbrev S2048x16384 : Shape := ⟨2, ![2048, 16384]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x2048, .f32⟩
  | .hbm, ⟨3, _⟩ => ⟨S2048x16384, .f32⟩
  | .hbm, ⟨4, _⟩ => ⟨S16384x1024, .f32⟩
  | .hbm, ⟨5, _⟩ => ⟨S2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutGradient.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PlainOutGradientIdeal.lean ====
abbrev S16384x1024 : Shape := ⟨2, ![16384, 1024]⟩
abbrev S1024x16384 : Shape := ⟨2, ![1024, 16384]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S1024x16384, .f32⟩
  | .hbm, ⟨4, _⟩ => ⟨S16384x1024, .f32⟩
  | .hbm, ⟨5, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GluGradient.lean ====
abbrev S16384x512 : Shape := ⟨2, ![16384, 512]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S512x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PlainGluGradientIdeal.lean ====
abbrev S16384x512 : Shape := ⟨2, ![16384, 512]⟩
abbrev S512x16384 : Shape := ⟨2, ![512, 16384]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .f32⟩
  | .hbm, ⟨3, _⟩ => ⟨S512x16384, .f32⟩
  | .hbm, ⟨4, _⟩ => ⟨S16384x512, .f32⟩
  | .hbm, ⟨5, _⟩ => ⟨S512x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpGradient.lean ====
abbrev S16384x4096 : Shape := ⟨2, ![16384, 4096]⟩
abbrev S16384x1024 : Shape := ⟨2, ![16384, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainUpGradientIdeal.lean ====
abbrev S16384x4096 : Shape := ⟨2, ![16384, 4096]⟩
abbrev S16384x1024 : Shape := ⟨2, ![16384, 1024]⟩
abbrev S4096x16384 : Shape := ⟨2, ![4096, 16384]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x4096, .f32⟩
  | .hbm, ⟨3, _⟩ => ⟨S4096x16384, .f32⟩
  | .hbm, ⟨4, _⟩ => ⟨S16384x1024, .f32⟩
  | .hbm, ⟨5, _⟩ => ⟨S4096x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutputGradient.lean ====
abbrev S16384x4096 : Shape := ⟨2, ![16384, 4096]⟩
abbrev S4096x1024 : Shape := ⟨2, ![4096, 1024]⟩
abbrev S16384x1024 : Shape := ⟨2, ![16384, 1024]⟩
abbrev S1x1 : Shape := ⟨2, ![1, 1]⟩
abbrev S512x4096 : Shape := ⟨2, ![512, 4096]⟩
abbrev S512x1024 : Shape := ⟨2, ![512, 1024]⟩
abbrev S1024 : Shape := ⟨1, ![1024]⟩
abbrev S1x1024 : Shape := ⟨2, ![1, 1024]⟩
abbrev S1 : Shape := ⟨1, ![1]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S1x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PlainOutputGradientIdeal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩
abbrev S1x1 : Shape := ⟨2, ![1, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .f32⟩
  | .hbm, ⟨3, _⟩ => ⟨S16384x1024, .f32⟩
  | .hbm, ⟨4, _⟩ => ⟨S16384x4096, .f32⟩
  | .hbm, ⟨5, _⟩ => ⟨S4096x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S_, .f32⟩
  | .hbm, ⟨15, _⟩ => ⟨S_, .f32⟩
  | .hbm, ⟨16, _⟩ => ⟨S1x1, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Mix.lean ====
abbrev S16384x512 : Shape := ⟨2, ![16384, 512]⟩
abbrev S16384x1024 : Shape := ⟨2, ![16384, 1024]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S512x512, .bf16⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .bf16⟩
  | .hbm, ⟨8, _⟩ => ⟨S1x1024, .f32⟩
  | .hbm, ⟨9, _⟩ => ⟨S16384x1024, .bf16⟩
  | .hbm, ⟨10, _⟩ => ⟨S16384x1024, .f32⟩
  | .hbm, ⟨11, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PlainMixIdeal.lean ====
abbrev S16384x512 : Shape := ⟨2, ![16384, 512]⟩
abbrev S16384x1024 : Shape := ⟨2, ![16384, 1024]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 93
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S512x512, .bf16⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .bf16⟩
  | .hbm, ⟨8, _⟩ => ⟨S1x1024, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .bf16⟩
  | .hbm, ⟨27, _⟩ => ⟨S16384x512, .f32⟩
  | .hbm, ⟨28, _⟩ => ⟨S512x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x1024, .f32⟩
  | .hbm, ⟨72, _⟩ => ⟨S16384x1024, .bf16⟩
  | .hbm, ⟨73, _⟩ => ⟨S16384x1024, .f32⟩
  | .hbm, ⟨74, _⟩ => ⟨S1024x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== MixGradient.lean ====
abbrev S16384x1024 : Shape := ⟨2, ![16384, 1024]⟩
abbrev S1024x1024 : Shape := ⟨2, ![1024, 1024]⟩
abbrev S16384x512 : Shape := ⟨2, ![16384, 512]⟩
abbrev S512x512 : Shape := ⟨2, ![512, 512]⟩
abbrev S1x512 : Shape := ⟨2, ![1, 512]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x512, .f32⟩
  | .hbm, ⟨3, _⟩ => ⟨S16384x512, .f32⟩
  | .hbm, ⟨4, _⟩ => ⟨S512x512, .bf16⟩
  | .hbm, ⟨5, _⟩ => ⟨S1x512, .f32⟩
  | .hbm, ⟨6, _⟩ => ⟨S512x512, .bf16⟩
  | .hbm, ⟨7, _⟩ => ⟨S1x512, .f32⟩
  | .hbm, ⟨8, _⟩ => ⟨S1x512, .f32⟩
  | .hbm, ⟨9, _⟩ => ⟨S16384x512, .f32⟩
  | .hbm, ⟨10, _⟩ => ⟨S16384x512, .f32⟩
  | .hbm, ⟨11, _⟩ => ⟨S16384x512, .bf16⟩
  | .hbm, ⟨12, _⟩ => ⟨S16384x512, .bf16⟩
  | .hbm, ⟨13, _⟩ => ⟨S1x512, .f32⟩
  | .hbm, ⟨14, _⟩ => ⟨S1x512, .f32⟩
  | .hbm, ⟨15, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1x512, .f32⟩
  | .local _ .vmem, ⟨21, _⟩ => ⟨S1x512, .f32⟩
  | .local _ .vmem, ⟨22, _⟩ => ⟨S1x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PlainMixGradientIdeal.lean ====
abbrev S16384x1024 : Shape := ⟨2, ![16384, 1024]⟩
abbrev S1024x1024 : Shape := ⟨2, ![1024, 1024]⟩
abbrev S16384x512 : Shape := ⟨2, ![16384, 512]⟩
abbrev S512x512 : Shape := ⟨2, ![512, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S512 : Shape := ⟨1, ![512]⟩

abbrev nBuf : Space → Nat
  | .hbm => 170
  | .vmem => 0
  | .smem => 0
  | _ => 0

abbrev hbmTy0_0 (i : Nat) : BufTy := match i % 128 with
  | 0 => ⟨S16384x1024, .bf16⟩
  | 1 => ⟨S1024x1024, .bf16⟩
  | 2 => ⟨S16384x512, .f32⟩
  | 3 => ⟨S16384x512, .f32⟩
  | 4 => ⟨S512x512, .bf16⟩
  | 5 => ⟨S1x512, .f32⟩
  | 6 => ⟨S512x512, .bf16⟩
  | 7 => ⟨S1x512, .f32⟩
  | 8 => ⟨S1x512, .f32⟩
  | 9 => ⟨S16384x1024, .f32⟩
  | 10 => ⟨S1024x1024, .f32⟩
  | 11 => ⟨S16384x1024, .f32⟩
  | 12 => ⟨S16384x512, .f32⟩
  | 13 => ⟨S16384x512, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x1, .f32⟩
  | 24 => ⟨S16384x512, .f32⟩
  | 25 => ⟨S16384x512, .f32⟩
  | 26 => ⟨S16384x512, .f32⟩
  | 27 => ⟨S16384x512, .f32⟩
  | 28 => ⟨S16384x1, .f32⟩
  | 29 => ⟨S16384x1, .f32⟩
  | 30 => ⟨S16384x512, .f32⟩
  | 31 => ⟨S16384x512, .f32⟩
  | 32 => ⟨S16384x512, .f32⟩
  | 33 => ⟨S_, .f32⟩
  | 34 => ⟨S16384, .f32⟩
  | 35 => ⟨S16384x1, .f32⟩
  | 36 => ⟨S_, .f32⟩
  | 37 => ⟨S16384x1, .f32⟩
  | 38 => ⟨S16384x1, .f32⟩
  | 39 => ⟨S16384x512, .f32⟩
  | 40 => ⟨S16384x512, .f32⟩
  | 41 => ⟨S16384x512, .f32⟩
  | 42 => ⟨S16384x512, .f32⟩
  | 43 => ⟨S16384x512, .f32⟩
  | 44 => ⟨S16384x512, .f32⟩
  | 45 => ⟨S_, .f32⟩
  | 46 => ⟨S512, .f32⟩
  | 47 => ⟨S1x512, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S16384x512, .f32⟩
  | 54 => ⟨S_, .f32⟩
  | 55 => ⟨S16384x512, .f32⟩
  | 56 => ⟨S16384x512, .f32⟩
  | 57 => ⟨S16384x512, .f32⟩
  | 58 => ⟨S_, .f32⟩
  | 59 => ⟨S16384x512, .f32⟩
  | 60 => ⟨S16384x512, .f32⟩
  | 61 => ⟨S_, .f32⟩
  | 62 => ⟨S16384x512, .f32⟩
  | 63 => ⟨S16384x512, .f32⟩
  | 64 => ⟨S16384x512, .f32⟩
  | 65 => ⟨S16384x512, .bf16⟩
  | 66 => ⟨S16384x512, .f32⟩
  | 67 => ⟨S512x512, .f32⟩
  | 68 => ⟨S16384x512, .f32⟩
  | 69 => ⟨S16384x512, .f32⟩
  | 70 => ⟨S16384x512, .f32⟩
  | 71 => ⟨S16384x512, .f32⟩
  | 72 => ⟨S16384x512, .f32⟩
  | 73 => ⟨S_, .f32⟩
  | 74 => ⟨S16384x512, .f32⟩
  | 75 => ⟨S16384x512, .f32⟩
  | 76 => ⟨S_, .f32⟩
  | 77 => ⟨S16384x512, .f32⟩
  | 78 => ⟨S16384x512, .f32⟩
  | 79 => ⟨S16384x512, .f32⟩
  | 80 => ⟨S16384x512, .f32⟩
  | 81 => ⟨S16384x512, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S_, .f32⟩
  | 89 => ⟨S16384x1, .f32⟩
  | 90 => ⟨S16384x1, .f32⟩
  | 91 => ⟨S16384x1, .f32⟩
  | 92 => ⟨S16384x512, .f32⟩
  | 93 => ⟨S16384x512, .f32⟩
  | 94 => ⟨S16384x512, .f32⟩
  | 95 => ⟨S16384x512, .f32⟩
  | 96 => ⟨S16384x1, .f32⟩
  | 97 => ⟨S16384x1, .f32⟩
  | 98 => ⟨S16384x512, .f32⟩
  | 99 => ⟨S16384x512, .f32⟩
  | 100 => ⟨S16384x512, .f32⟩
  | 101 => ⟨S_, .f32⟩
  | 102 => ⟨S16384, .f32⟩
  | 103 => ⟨S16384x1, .f32⟩
  | 104 => ⟨S_, .f32⟩
  | 105 => ⟨S16384x1, .f32⟩
  | 106 => ⟨S16384x1, .f32⟩
  | 107 => ⟨S16384x512, .f32⟩
  | 108 => ⟨S16384x512, .f32⟩
  | 109 => ⟨S16384x512, .f32⟩
  | 110 => ⟨S16384x512, .f32⟩
  | 111 => ⟨S16384x512, .f32⟩
  | 112 => ⟨S16384x512, .f32⟩
  | 113 => ⟨S_, .f32⟩
  | 114 => ⟨S512, .f32⟩
  | 115 => ⟨S1x512, .f32⟩
  | 116 => ⟨S16384x512, .f32⟩
  | 117 => ⟨S16384x512, .f32⟩
  | 118 => ⟨S_, .f32⟩
  | 119 => ⟨S16384x512, .f32⟩
  | 120 => ⟨S16384x512, .f32⟩
  | 121 => ⟨S16384x512, .f32⟩
  | 122 => ⟨S16384x512, .f32⟩
  | 123 => ⟨S16384x512, .bf16⟩
  | 124 => ⟨S16384x512, .f32⟩
  | 125 => ⟨S512x512, .f32⟩
  | 126 => ⟨S16384x512, .f32⟩
  | 127 => ⟨S16384x512, .f32⟩
  | _ => ⟨S16384x1024, .bf16⟩

abbrev hbmTy0_1 (i : Nat) : BufTy := match i % 128 with
  | 0 => ⟨S16384x512, .f32⟩
  | 1 => ⟨S16384x512, .f32⟩
  | 2 => ⟨S_, .f32⟩
  | 3 => ⟨S16384x512, .f32⟩
  | 4 => ⟨S16384x512, .f32⟩
  | 5 => ⟨S16384x512, .f32⟩
  | 6 => ⟨S_, .f32⟩
  | 7 => ⟨S16384x512, .f32⟩
  | 8 => ⟨S16384x512, .f32⟩
  | 9 => ⟨S16384x512, .f32⟩
  | 10 => ⟨S_, .f32⟩
  | 11 => ⟨S16384x512, .f32⟩
  | 12 => ⟨S16384x512, .f32⟩
  | 13 => ⟨S_, .f32⟩
  | 14 => ⟨S16384x512, .f32⟩
  | 15 => ⟨S16384x512, .f32⟩
  | 16 => ⟨S_, .f32⟩
  | 17 => ⟨S16384x512, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .f32⟩
  | 24 => ⟨S16384x512, .f32⟩
  | 25 => ⟨S_, .f32⟩
  | 26 => ⟨S16384x512, .f32⟩
  | 27 => ⟨S16384x512, .f32⟩
  | 28 => ⟨S_, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S16384x512, .f32⟩
  | 35 => ⟨S16384x512, .f32⟩
  | 36 => ⟨S16384x512, .f32⟩
  | 37 => ⟨S16384x512, .bf16⟩
  | 38 => ⟨S16384x512, .bf16⟩
  | 39 => ⟨S_, .f32⟩
  | 40 => ⟨S512, .f32⟩
  | 41 => ⟨S1x512, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_17 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_18 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_19 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_20 : Ref sig .tc := ⟨.hbm, 138, rfl⟩
abbrev main_v108 : Ref sig .tc := ⟨.hbm, 139, rfl⟩
abbrev main_v109 : Ref sig .tc := ⟨.hbm, 140, rfl⟩
abbrev main_cst_21 : Ref sig .tc := ⟨.hbm, 141, rfl⟩
abbrev main_v110 : Ref sig .tc := ⟨.hbm, 142, rfl⟩
abbrev main_v111 : Ref sig .tc := ⟨.hbm, 143, rfl⟩
abbrev main_cst_22 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_23 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_24 : Ref sig .tc := ⟨.hbm, 153, rfl⟩
abbrev main_v119 : Ref sig .tc := ⟨.hbm, 154, rfl⟩
abbrev main_v120 : Ref sig .tc := ⟨.hbm, 155, rfl⟩
abbrev main_cst_25 : Ref sig .tc := ⟨.hbm, 156, rfl⟩
abbrev main_v121 : Ref sig .tc := ⟨.hbm, 157, rfl⟩
abbrev main_v122 : Ref sig .tc := ⟨.hbm, 158, rfl⟩
abbrev main_cst_26 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_27 : Ref sig .tc := ⟨.hbm, 167, rfl⟩
abbrev main_v130 : Ref sig .tc := ⟨.hbm, 168, rfl⟩
abbrev main_v131 : Ref sig .tc := ⟨.hbm, 169, rfl⟩

abbrev nD : Nat := 1
abbrev τ : Topo := Topo.v7x

variable {F : FTy → Type} [FloatOps F]
-- ==== Proof.TalkRounds.lean ====
/-
The exchange protocol: every device sends some of its arrays' blocks to its peers with remote copies and copies others to itself, each transfer on
semaphores of its own, waits for all of them, and no semaphore is used twice.

Each device has one semaphore per arrival, per departure and per local copy (`Exchange.Cell`). A semaphore is one rounds cell with a single round of a
single duty: an arrival's duty is paid by the peer's remote copy, the others' by the device itself. The module states the schedule, deals the launch's
ghost state (`deal`), reads the launch credit (`creds`), and gives the steps of a body that starts the transfers one after the other and then waits
for them one after the other (`wp_remote`, `wp_local`, `turn`, `wp_await`, `settle`).
-/
module

public import Idealize.ShloMosaic.Lib.Pipeline.Regions
public import Idealize.ShloMosaic.Lib.Pipeline.Kit
public import Idealize.ShloMosaic.Lib.Tactic

@[expose] public section

noncomputable section

namespace Cert.Talk

open Idealize.ShloMosaic
open Idealize.SL
open Idealize.SL.BI (sProp bigSep bigSepL bigSep_sep' bigSep_mono bigSep_congr bigSep_univ_prod bigSep_fupd bigSep_map bigSep_elim bigSep_subset
  bigSep_univ_equiv bigSep_univ_sum bigSep_with_persistent bigSepL_cons bigSep_univ_eq_bigSepL)
open scoped Idealize.SL.BI
open Idealize.SL.BI.BIBase Idealize.SL.BI.Laws Idealize.SL.Sem Idealize.SL.ProofMode
open Idealize.SL.RA
open TcCoe
open Idealize.ShloMosaic.Rounds

set_option Elab.async false

/-- One exchange. `J` names the remote copies a device issues (equally: the arrivals it waits for), `T` its local copies. `give c j` is what transfer
    `j` of device `c` reads, `room c j` the place on `c` where its peer's transfer `j` lands, `copy c t` what local copy `t` reads and overwrites;
    `pay c i` is what the owner `c` of cell `i` gets for waiting on it. -/
structure Exchange (nD : Nat) (τ : Topo) (sig : RefSig) (Val : EltTy → Type) (U : Type) [URA U] where
  J : Type
  T : Type
  [fJ : Fintype J]
  [dJ : DecidableEq J]
  [fT : Fintype T]
  [dT : DecidableEq T]
  peer : J → Dev nD → Dev nD
  peer_peer : ∀ j c, peer j (peer j c) = c
  osem : J ⊕ J ⊕ T → SemLoc sig
  inj : Function.Injective osem
  amt : J ⊕ J ⊕ T → ℕ
  amt_pos : ∀ i, 0 < amt i
  pay : Dev nD → J ⊕ J ⊕ T → sProp (MT nD τ sig Unit Val ℕ U ℕ)
  pay_storable : ∀ c i, BI.Storable (upEmb : UEmb _ (MT nD τ sig Unit Val ℕ U ℕ)) (pay c i)
  give : Dev nD → J → sProp (MT nD τ sig Unit Val ℕ U ℕ)
  room : Dev nD → J → sProp (MT nD τ sig Unit Val ℕ U ℕ)
  copy : Dev nD → T → sProp (MT nD τ sig Unit Val ℕ U ℕ)

attribute [instance] Exchange.fJ Exchange.dJ Exchange.fT Exchange.dT Exchange.pay_storable

variable {nD : Nat} {τ : Topo} {sig : RefSig} {Val : EltTy → Type} {U : Type} [URA U]

local notation "𝕄" => MT nD τ sig Unit Val ℕ U ℕ

/-! ### Separating conjunctions over lists and sums, in the proof mode's connective -/

theorem list_cons {I : Type} (i : I) (l : List I) (Φ : I → sProp 𝕄) : bigSepL (i :: l) Φ = iprop(Φ i ∗ bigSepL l Φ) := bigSepL_cons i l Φ
theorem univ_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem elim_at {I : Type} [Fintype I] [DecidableEq I] (Φ : I → sProp 𝕄) (i : I) : (bigSep Finset.univ Φ : sProp 𝕄) ⊢ Φ i :=
  bigSep_elim (Finset.mem_univ i)

namespace Exchange

variable (X : Exchange nD τ sig Val U) (E : Emb (URounds (GSem nD τ sig) Unit) (MT nD τ sig Unit Val ℕ U ℕ))

/-- A device's cells: its arrivals, its departures, its local copies. -/
abbrev Cell : Type := X.J ⊕ X.J ⊕ X.T
/-- A device's transfers: the remote copies and the local ones. -/
abbrev Move : Type := X.J ⊕ X.T
/-- The arrival cell, the departure cell and the local cell of a transfer. -/
abbrev arr (j : X.J) : X.Cell := .inl j
abbrev dep (j : X.J) : X.Cell := .inr (.inl j)
abbrev loc (t : X.T) : X.Cell := .inr (.inr t)

/-- Cell `i` of device `c` on the machine. -/
def cell (ci : Dev nD × X.Cell) : GSem nD τ sig := ((ci.1 : Thread nD τ), X.osem ci.2)

theorem cell_inj : Function.Injective X.cell := fun a b h => by
  have h₁ : a.1 = b.1 := Fin.ext (congrArg (fun g : GSem nD τ sig => g.1.1.val) h)
  have h₂ : a.2 = b.2 := X.inj (congrArg Prod.snd h)
  exact Prod.ext h₁ h₂

open Classical in
/-- The schedule: one duty in round 0 of every cell of the exchange. -/
def sched : Schedule (GSem nD τ sig) Unit 𝕄 where
  duties g r := if r = 0 ∧ ∃ ci, X.cell ci = g then {()} else ∅
  amount g _ _ := if h : ∃ ci, X.cell ci = g then X.amt h.choose.2 else 1
  payload g _ _ := if h : ∃ ci, X.cell ci = g then X.pay h.choose.1 h.choose.2 else iprop(emp)
  amount_pos g r d _ := by
    split
    · exact X.amt_pos _
    · exact Nat.one_pos

theorem choose_cell (ci : Dev nD × X.Cell) (h : ∃ ci', X.cell ci' = X.cell ci) : h.choose = ci := X.cell_inj h.choose_spec

theorem duties_cell (ci : Dev nD × X.Cell) : X.sched.duties (X.cell ci) 0 = {()} := if_pos ⟨rfl, ci, rfl⟩
theorem duties_later (g : GSem nD τ sig) {r : ℕ} (h : r ≠ 0) : X.sched.duties g r = ∅ := if_neg fun h' => h h'.1
theorem amount_cell (ci : Dev nD × X.Cell) (r : ℕ) (d : Unit) : X.sched.amount (X.cell ci) r d = X.amt ci.2 := by
  unfold sched; dsimp only
  rw [dif_pos ⟨ci, rfl⟩, X.choose_cell ci]
theorem payload_cell (ci : Dev nD × X.Cell) (r : ℕ) (d : Unit) : X.sched.payload (X.cell ci) r d = X.pay ci.1 ci.2 := by
  unfold sched; dsimp only
  rw [dif_pos ⟨ci, rfl⟩, X.choose_cell ci]
theorem expect_cell (ci : Dev nD × X.Cell) : X.sched.expect (X.cell ci) 0 = X.amt ci.2 := by
  unfold Schedule.expect
  rw [X.duties_cell]
  exact (Finset.sum_singleton _ _).trans (X.amount_cell ci 0 ())

instance payload_storable (g : GSem nD τ sig) (r : ℕ) (d : Unit) : BI.Storable (upEmb : UEmb _ 𝕄) (X.sched.payload g r d) := by
  unfold sched; dsimp only
  split <;> infer_instance

/-! ### What a device owes -/

/-- What is owed for the transfers `l`: the arrival credit of every remote one. -/
def owing (c : Dev nD) : List X.Move → CellTallies nD τ sig Unit
  | [] => 0
  | .inl j :: l => owing c l + tallyAt (X.cell (X.peer j c, X.arr j)) () (X.amt (X.arr j))
  | .inr _ :: l => owing c l

open Classical in
theorem owing_apply (c : Dev nD) (l : List X.Move) (hl : l.Nodup) (g : GSem nD τ sig) (u : Unit) :
    X.owing c l g u = ∑ j : X.J, if (.inl j : X.Move) ∈ l ∧ X.cell (X.peer j c, X.arr j) = g then X.amt (X.arr j) else 0 := by
  induction l with
  | nil => simp [owing]
  | cons x l ih =>
    have hx := (List.nodup_cons.mp hl).1
    cases x with
    | inr t =>
      simp only [owing, ih (List.nodup_cons.mp hl).2]
      refine Finset.sum_congr rfl fun j _ => ?_
      simp
    | inl j =>
      have hsplit : ∀ k : X.J, (if (.inl k : X.Move) ∈ (.inl j :: l : List X.Move) ∧ X.cell (X.peer k c, X.arr k) = g then X.amt (X.arr k) else 0)
          = (if (.inl k : X.Move) ∈ l ∧ X.cell (X.peer k c, X.arr k) = g then X.amt (X.arr k) else 0)
            + (if k = j then (if X.cell (X.peer j c, X.arr j) = g then X.amt (X.arr j) else 0) else 0) := fun k => by
        by_cases hk : k = j
        · subst hk; simp [hx]
        · simp [hk]
      simp only [owing, Pi.add_apply, Finsupp.add_apply, ih (List.nodup_cons.mp hl).2]
      rw [Finset.sum_congr rfl fun k _ => hsplit k, Finset.sum_add_distrib, Finset.sum_ite_eq' Finset.univ j, if_pos (Finset.mem_univ _)]
      congr 1
      rw [tallyAt_apply]
      by_cases h : X.cell (X.peer j c, X.arr j) = g
      · subst h; cases u; simp
      · rw [if_neg h, if_neg fun h' => h (by first | exact h'.1 | exact h'.1.symm)]

/-- The levels: an arrival's cell above every other. -/
def L (g : GSem nD τ sig) : Finset Unit := if g.1.2 = .tc then {()} else ∅
open Classical in
def lv (g : GSem nD τ sig) (_ : Unit) : ℕ := if ∃ c j, X.cell (c, X.arr j) = g then 1 else 0

theorem L_of_ne (g : GSem nD τ sig) (h : g.1.2 ≠ .tc) : L g = ∅ := if_neg h

/-- Waiting on a cell that is no arrival is allowed whatever arrivals are owed. -/
theorem mayWait (c : Dev nD) (sm : SemLoc sig) (hs : ∀ j, X.osem (X.arr j) ≠ sm) (l : List X.Move) (hl : l.Nodup) :
    (levAts L X.lv : sProp 𝕄) ⊢ MayWait (c : Thread nD τ) sm () (X.owing c l) := by
  have hpos : ∀ (g : GSem nD τ sig) (u : Unit), 0 < X.owing c l g u → ∃ c' j, X.cell (c', X.arr j) = g := fun g u h => by
    rw [X.owing_apply c l hl] at h
    obtain ⟨j, -, hj⟩ := Finset.exists_ne_zero_of_sum_ne_zero h.ne'
    by_cases hc : (.inl j : X.Move) ∈ l ∧ X.cell (X.peer j c, X.arr j) = g
    · exact ⟨_, j, hc.2⟩
    · rw [if_neg hc] at hj; exact absurd rfl hj
  refine MayOwe.of_cut (L := L) (lev := X.lv) 0 (fun p hp => ?_) (fun g u h => ?_) (fun p hp => ?_) (fun g u h => ?_)
  · show _ ∈ (if _ then _ else _)
    rw [Finset.mem_singleton.mp hp, if_pos rfl]; exact Finset.mem_singleton_self _
  · obtain ⟨c', j, rfl⟩ := hpos g u h
    cases u
    exact Finset.mem_singleton_self _
  · rw [Finset.mem_singleton.mp hp]
    refine le_of_eq (if_neg ?_)
    rintro ⟨c', j, h⟩
    exact hs j (congrArg Prod.snd h)
  · obtain ⟨c', j, rfl⟩ := hpos g u h
    show 0 < (if _ then 1 else 0)
    rw [if_pos ⟨c', j, rfl⟩]; exact Nat.one_pos

/-- The launch's credit of a device holds the credit of each of its arrivals. -/
theorem creds (moves : List X.Move) (hn : moves.Nodup) (hm : ∀ j, (.inl j : X.Move) ∈ moves) (c : Dev nD) :
    (Pipeline.launchCred (fun c => X.owing c moves) c : sProp 𝕄)
      ⊢ bigSep Finset.univ fun j : X.J => cred (tallyAt (X.cell (c, X.arr j)) () (X.amt (X.arr j))) := by
  classical
  have hat (j : X.J) : tallyOn (X.cell (c, X.arr j)) (launchCredit (Pipeline.owing fun c => X.owing c moves) 0 (X.cell (c, X.arr j)))
      = (tallyAt (X.cell (c, X.arr j)) () (X.amt (X.arr j)) : CellTallies nD τ sig Unit) := by
    unfold tallyAt; refine congrArg _ (Finsupp.ext fun u => ?_); cases u
    have hd (d : Dev nD) : X.owing d moves (X.cell (c, X.arr j)) () = if d = X.peer j c then X.amt (X.arr j) else 0 := by
      rw [X.owing_apply d moves hn, Finset.sum_eq_single j]
      · by_cases h : d = X.peer j c
        · have h₁ : X.cell (X.peer j d, X.arr j) = X.cell (c, X.arr j) := by rw [h, X.peer_peer]
          rw [if_pos ⟨hm j, h₁⟩, if_pos h]
        · rw [if_neg h, if_neg]
          rintro ⟨-, h'⟩
          have h'' : X.peer j d = c := congrArg Prod.fst (X.cell_inj h')
          exact h (by rw [← h'', X.peer_peer])
      · intro k _ hk
        rw [if_neg]
        rintro ⟨-, h'⟩
        exact hk (Sum.inl.inj (congrArg Prod.snd (X.cell_inj h')))
      · exact fun h => absurd (Finset.mem_univ _) h
    rw [Pipeline.launchCredit_owing, Finsupp.single_eq_same, Finset.sum_congr rfl fun d _ => hd d, Finset.sum_ite_eq' Finset.univ (X.peer j c) fun _ => _,
      if_pos (Finset.mem_univ _)]
  let e : X.J ↪ SemLoc sig := ⟨fun j => X.osem (X.arr j), fun a b h => Sum.inl.inj (X.inj h)⟩
  unfold Pipeline.launchCred
  refine (bigSep_subset (Finset.subset_univ (Finset.univ.map e))).trans ?_
  rw [bigSep_map]
  exact bigSep_mono fun j _ => Entails.of_eq (congrArg (fun t => (cred t : sProp 𝕄)) (hat j))

/-! ### Dealing the ghost state -/

/-- What every device knows: each cell's invariant, and that its only round is reached. -/
def known (K : Dev nD × X.Cell → ℕ) : sProp 𝕄 :=
  iprop((bigSep Finset.univ fun ci => cellInv E X.sched (K ci) (X.cell ci)) ∗ bigSep Finset.univ fun ci => reached E (X.cell ci) 0)

instance known_persistent (K : Dev nD × X.Cell → ℕ) : BI.Persistent (X.known E K) := by unfold known; infer_instance

theorem known_inv (K : Dev nD × X.Cell → ℕ) (ci : Dev nD × X.Cell) : X.known E K ⊢ cellInv E X.sched (K ci) (X.cell ci) := by
  unfold known
  iintro ⟨HI, -⟩
  iapply (elim_at (fun ci => cellInv E X.sched (K ci) (X.cell ci)) ci); iexact HI
theorem known_reached (K : Dev nD × X.Cell → ℕ) (ci : Dev nD × X.Cell) : X.known E K ⊢ (reached E (X.cell ci) 0 : sProp 𝕄) := by
  unfold known
  iintro ⟨-, HR⟩
  iapply (elim_at (fun ci => (reached E (X.cell ci) 0 : sProp 𝕄)) ci); iexact HR

/-- The exchange's cells and duty tokens, as the launch funds them. -/
def cells : Finset (GSem nD τ sig) := Finset.univ.map ⟨X.cell, X.cell_inj⟩
def toks : Finset (GSem nD τ sig × ℕ × Unit) :=
  Finset.univ.map ⟨fun ci => (X.cell ci, 0, ()), fun _ _ h => X.cell_inj (congrArg (fun p => p.1) h)⟩

/-- What the launch funds of one device. -/
def funded (c : Dev nD) : sProp 𝕄 :=
  iprop((bigSep Finset.univ fun i => roundState E X.sched (X.cell (c, i)) 0)
    ∗ (bigSep Finset.univ fun i => atPos E (X.cell (c, i)) 0 ∅ 0)
    ∗ (bigSep Finset.univ fun i => reached E (X.cell (c, i)) 0)
    ∗ bigSep Finset.univ fun i => dutyTok E (X.cell (c, i)) 0 ())

theorem fund : BI.own (E (initOf X.cells X.toks)) ⊢ (|==> bigSep Finset.univ (X.funded E) : sProp 𝕄) := by
  have hX (Φ : GSem nD τ sig → sProp 𝕄) : bigSep X.cells Φ = bigSep Finset.univ fun c : Dev nD => bigSep Finset.univ fun i : X.Cell => Φ (X.cell (c, i)) := by
    unfold cells; rw [bigSep_map, bigSep_univ_prod]; rfl
  have hT : bigSep X.toks (fun x => (dutyTok E x.1 x.2.1 x.2.2 : sProp 𝕄))
      = bigSep Finset.univ fun c : Dev nD => bigSep Finset.univ fun i : X.Cell => dutyTok E (X.cell (c, i)) 0 () := by
    unfold toks; rw [bigSep_map, bigSep_univ_prod]; rfl
  iintro HX
  imod (Rounds.fund E X.sched X.cells X.toks) $$ HX with ⟨Hst, Hr, Hat, Htok⟩
  imodintro
  ihave Hst' := (Entails.of_eq (hX fun g => roundState E X.sched g 0)) $$ Hst
  ihave Hat' := (Entails.of_eq (hX fun g => atPos E g 0 ∅ 0)) $$ Hat
  ihave Hr' := (Entails.of_eq (hX fun g => reached E g 0)) $$ Hr
  ihave Htok' := (Entails.of_eq hT) $$ Htok
  unfold funded; simp only [bigSep_sep']
  isplitl [Hst']; · iexact Hst'
  isplitl [Hat']; · iexact Hat'
  isplitl [Hr']; · iexact Hr'
  iexact Htok'

/-- What a transfer needs to start. -/
def pend (c : Dev nD) : X.Move → sProp 𝕄
  | .inl j => iprop(dutyTok E (X.cell (X.peer j c, X.arr j)) 0 () ∗ dutyTok E (X.cell (c, X.dep j)) 0 () ∗ X.give c j ∗ X.room (X.peer j c) j)
  | .inr t => iprop(dutyTok E (X.cell (c, X.loc t)) 0 () ∗ X.copy c t)

/-- What a device starts with. -/
def start (c : Dev nD) : sProp 𝕄 :=
  iprop(∃ K, X.known E K ∗ (bigSep Finset.univ fun i => atPos E (X.cell (c, i)) 0 ∅ 0) ∗ bigSep Finset.univ (X.pend E c))

/-- The devices' view of a per-transfer resource held by the peer. -/
theorem around (Φ : Dev nD → X.J → sProp 𝕄) :
    (bigSep Finset.univ fun c : Dev nD => bigSep Finset.univ fun j => Φ c j)
      = bigSep Finset.univ fun c : Dev nD => bigSep Finset.univ fun j => Φ (X.peer j c) j := by
  rw [← bigSep_univ_prod (fun cj : Dev nD × X.J => Φ cj.1 cj.2), ← bigSep_univ_prod (fun cj : Dev nD × X.J => Φ (X.peer cj.2 cj.1) cj.2)]
  exact bigSep_univ_equiv ⟨fun cj => (X.peer cj.2 cj.1, cj.2), fun cj => (X.peer cj.2 cj.1, cj.2),
    fun cj => Prod.ext (X.peer_peer cj.2 cj.1) rfl, fun cj => Prod.ext (X.peer_peer cj.2 cj.1) rfl⟩ (fun cj : Dev nD × X.J => Φ cj.1 cj.2)

/-- Every device's semaphores at zero, its funded ghost state and its parts of the arrays, dealt out: each device gets what its transfers need. -/
theorem deal [E.LandsIn (upEmb : UEmb _ 𝕄)] :
    (bigSep Finset.univ fun c : Dev nD => iprop((bigSep Finset.univ fun i => semVal (X.cell (c, i)) 0) ∗ X.funded E c
        ∗ (bigSep Finset.univ fun j => iprop(X.give c j ∗ X.room c j)) ∗ bigSep Finset.univ fun t => X.copy c t) : sProp 𝕄)
      ⊢ |={Set.univ}=> bigSep Finset.univ (X.start E) := by
  have hinv (c : Dev nD) : iprop((bigSep Finset.univ fun i => semVal (X.cell (c, i)) 0) ∗ bigSep Finset.univ fun i => roundState E X.sched (X.cell (c, i)) 0)
      ⊢ (|={Set.univ}=> bigSep Finset.univ fun i => iprop(∃ κ : ℕ, cellInv E X.sched κ (X.cell (c, i))) : sProp 𝕄) := by
    rw [← bigSep_sep']
    exact (bigSep_mono fun i _ => (Rounds.body_intro E X.sched (X.cell (c, i))).trans inv_alloc).trans (bigSep_fupd _ _)
  have hinvs : iprop((bigSep Finset.univ fun c : Dev nD => bigSep Finset.univ fun i => semVal (X.cell (c, i)) 0)
        ∗ bigSep Finset.univ fun c : Dev nD => bigSep Finset.univ fun i => roundState E X.sched (X.cell (c, i)) 0)
      ⊢ (|={Set.univ}=> bigSep Finset.univ fun c : Dev nD => bigSep Finset.univ fun i => iprop(∃ κ : ℕ, cellInv E X.sched κ (X.cell (c, i))) : sProp 𝕄) := by
    rw [← bigSep_sep']
    exact (bigSep_mono (s := (Finset.univ : Finset (Dev nD))) fun c _ => hinv c).trans (bigSep_fupd _ _)
  unfold funded
  simp only [bigSep_sep']
  have htok : (bigSep Finset.univ fun c : Dev nD => bigSep Finset.univ fun i => (dutyTok E (X.cell (c, i)) 0 () : sProp 𝕄))
      = iprop((bigSep Finset.univ fun c : Dev nD => bigSep Finset.univ fun j => dutyTok E (X.cell (X.peer j c, X.arr j)) 0 ())
          ∗ (bigSep Finset.univ fun c : Dev nD => bigSep Finset.univ fun j => dutyTok E (X.cell (c, X.dep j)) 0 ())
          ∗ bigSep Finset.univ fun c : Dev nD => bigSep Finset.univ fun t => dutyTok E (X.cell (c, X.loc t)) 0 ()) := by
    rw [← X.around (fun c j => (dutyTok E (X.cell (c, X.arr j)) 0 () : sProp 𝕄)), ← bigSep_sep', ← bigSep_sep']
    exact bigSep_congr fun c _ => by rw [univ_sum, univ_sum]
  have hstart (K : Dev nD × X.Cell → ℕ) :
      iprop(X.known E K ∗ (bigSep Finset.univ fun c : Dev nD => bigSep Finset.univ fun i => atPos E (X.cell (c, i)) 0 ∅ 0)
        ∗ bigSep Finset.univ fun c : Dev nD => bigSep Finset.univ (X.pend E c)) ⊢ bigSep Finset.univ (X.start E) := by
    refine (sep_mono_right (Entails.of_eq (bigSep_sep' _ _ _).symm)).trans (bigSep_with_persistent fun c _ => ?_)
    unfold start
    iintro ⟨HK, Hat, Hp⟩
    iexists K
    isplitl [HK]; · iexact HK
    isplitl [Hat] <;> iassumption
  have hpend : (bigSep Finset.univ fun c : Dev nD => bigSep Finset.univ (X.pend E c))
      = (iprop(((bigSep Finset.univ fun c : Dev nD => bigSep Finset.univ fun j => dutyTok E (X.cell (X.peer j c, X.arr j)) 0 ())
          ∗ (bigSep Finset.univ fun c : Dev nD => bigSep Finset.univ fun j => dutyTok E (X.cell (c, X.dep j)) 0 ())
          ∗ (bigSep Finset.univ fun c : Dev nD => bigSep Finset.univ fun j => X.give c j)
          ∗ bigSep Finset.univ fun c : Dev nD => bigSep Finset.univ fun j => X.room c j)
        ∗ (bigSep Finset.univ fun c : Dev nD => bigSep Finset.univ fun t => dutyTok E (X.cell (c, X.loc t)) 0 ())
          ∗ bigSep Finset.univ fun c : Dev nD => bigSep Finset.univ fun t => X.copy c t) : sProp 𝕄) := by
    rw [X.around (fun c j => X.room c j)]
    simp only [← bigSep_sep']
    exact bigSep_congr fun c _ => by rw [univ_sum]; rfl
  rw [htok]
  iintro ⟨Hv, ⟨Hst, Hat, Hr, Hta, Htd, Htl⟩, ⟨Hg, Hrm⟩, Hc⟩
  imod hinvs $$ [Hv Hst] with Hinv
  · isplitl [Hv] <;> iassumption
  imodintro
  ihave Hinv' := (Entails.of_eq (bigSep_univ_prod (fun ci : Dev nD × X.Cell => iprop(∃ κ : ℕ, cellInv E X.sched κ (X.cell ci)))).symm) $$ Hinv
  ihave HK := (BI.bigSep_exists_pi Finset.univ (fun (ci : Dev nD × X.Cell) (κ : ℕ) => (cellInv E X.sched κ (X.cell ci) : sProp 𝕄))) $$ Hinv'
  icases HK with ⟨%K, HI⟩
  ihave Hr' := (Entails.of_eq (bigSep_univ_prod (fun ci : Dev nD × X.Cell => (reached E (X.cell ci) 0 : sProp 𝕄))).symm) $$ Hr
  iapply (hstart K)
  isplitl [HI Hr']
  · unfold known
    isplitl [HI]; · iexact HI
    iexact Hr'
  isplitl [Hat]; · iexact Hat
  rw [hpend]
  isplitl [Hta Htd Hg Hrm]
  · isplitl [Hta]; · iexact Hta
    isplitl [Htd]; · iexact Htd
    isplitl [Hg] <;> iassumption
  isplitl [Htl] <;> iassumption

/-! ### The body's steps -/

/-- What a started transfer leaves: the credit of the cell it will raise on this device. -/
def going (c : Dev nD) : X.Move → sProp 𝕄
  | .inl j => cred (tallyAt (X.cell (c, X.dep j)) () (X.amt (X.dep j)))
  | .inr t => cred (tallyAt (X.cell (c, X.loc t)) () (X.amt (X.loc t)))

/-- The body between two starts: the transfers `l` still to start, the transfers `l'` started. -/
def sending (K : Dev nD × X.Cell → ℕ) (c : Dev nD) (l l' : List X.Move) : sProp 𝕄 :=
  iprop(X.known E K ∗ bigSepL l (X.pend E c) ∗ bigSepL l' (X.going c) ∗ ∃ W, owes (c : Thread nD τ) (X.owing c l) W)

/-- What a wait needs, and what it leaves. -/
def due (c : Dev nD) (i : X.Cell) : sProp 𝕄 :=
  iprop(cred (tallyAt (X.cell (c, i)) () (X.amt i)) ∗ atPos E (X.cell (c, i)) 0 ∅ 0)
def settled (c : Dev nD) (i : X.Cell) : sProp 𝕄 := iprop(X.pay c i ∗ semVal (X.cell (c, i)) 0)

/-- The body between two waits: the cells `l` still to wait for, the cells `l'` waited for. -/
def waiting (K : Dev nD × X.Cell → ℕ) (c : Dev nD) (l l' : List X.Cell) : sProp 𝕄 :=
  iprop(X.known E K ∗ bigSepL l (X.due E c) ∗ bigSepL l' (X.settled c) ∗ ∃ W, owes (c : Thread nD τ) (0 : CellTallies nD τ sig Unit) W)

section Steps

variable {Λ : Idealize.SL.Sem.Labels} {defs : Defs nD τ sig Val Λ} (𝒱 : Variants)
variable {α : Type} {Q : α → sProp (MT nD τ sig Unit Val ℕ U ℕ)} {sp sp' : Space} {s : Shape} {e : EltTy} {Es : Set ℕ}

/-- A remote copy starts. -/
theorem wp_remote (K : Dev nD × X.Cell → ℕ) (c : Dev nD) (bd : Option 𝒱.V) {l l' : List X.Move} (j : X.J) {dev : Dev nD} (hdev : dev = X.peer j c)
    {src : Memref sig (c : Thread nD τ).2.kind sp s e} {dst : Memref sig ((dev : Thread nD τ)).2.kind sp' s e} {hsc : dst.view.ref.isScScratch = false}
    {sS sR : SemLoc sig} {hsrc : src.view.WordExact} {hdst : dst.view.WordExact} {hsem : DmaTarget.Typed sp sR (.remote (dev : Thread nD τ) dst sS hsc)}
    {k : PUnit → Prog (TpuEff nD τ sig Val Λ (c : Thread nD τ).2) α}
    (hS : sS = X.osem (X.dep j)) (hR : sR = X.osem (X.arr j)) (hNS : dst.view.amount sR = X.amt (X.dep j)) (hNR : dst.view.amount sR = X.amt (X.arr j))
    (q : PosShare TreeShare) (fs : Buf Val (src.view.loc (c : Thread nD τ)))
    (hg : X.give c j ⊢ (src.view.loc (c : Thread nD τ) ↦[src.view.set]{q} fs))
    (hr : X.room dev j ⊢ iprop(∃ fd, (dst.view.loc (dev : Thread nD τ) ↦[dst.view.set]{fullShare} fd)))
    (hp₁ : (src.view.loc (c : Thread nD τ) ↦[src.view.set]{q} fs) ⊢ X.pay c (X.dep j))
    (hp₂ : ∀ fd, (dst.view.loc (dev : Thread nD τ) ↦[dst.view.set]{fullShare} (dst.view.write Val fd (src.view.read Val fs) Finset.univ))
      ⊢ X.pay dev (X.arr j)) :
    X.sending E K c (.inl j :: l) l'
      ⊢ iprop((X.sending E K c l (.inl j :: l') -∗ wp frame (wpE defs 𝒱 (c : Thread nD τ) bd) Es (k ⟨⟩) Q)
        -∗ wp frame (wpE defs 𝒱 (c : Thread nD τ) bd) Es (.op (.enqueueDma src (.remote (dev : Thread nD τ) dst sS hsc) sR hsrc hdst hsem) k) Q) := by
  subst hdev hS hR
  unfold sending
  rw [list_cons, list_cons]
  iintro ⟨#HK, ⟨Hp, Hl⟩, Hl', ⟨%W, HO⟩⟩ Hk
  unfold pend going
  icases Hp with ⟨Ht₂, Ht₁, Hg, Hr⟩
  ihave Hg' := hg $$ Hg
  ihave Hr' := hr $$ Hr
  icases Hr' with ⟨%fd, Hr⟩
  iapply (Rounds.wp_send_pointsTo 𝒱 E X.sched (c : Thread nD τ) bd (r₁ := 0) (r₂ := 0) (d₁ := ()) (d₂ := ())
      (κ₁ := K (c, X.dep j)) (κ₂ := K (X.peer j c, X.arr j)) (fs := fs) (fd := fd)
      (by rw [show ((c : Thread nD τ), X.osem (X.dep j)) = X.cell (c, X.dep j) from rfl, X.duties_cell]; exact Finset.mem_singleton_self _)
      (by rw [show (((X.peer j c : Dev nD) : Thread nD τ), X.osem (X.arr j)) = X.cell (X.peer j c, X.arr j) from rfl, X.duties_cell]
          exact Finset.mem_singleton_self _) () () (X.amt (X.arr j)) hNR
      ((X.amount_cell (c, X.dep j) 0 ()).trans (hNS.symm.trans hNR)) (X.amount_cell (X.peer j c, X.arr j) 0 ())
      (X.owing c l) rfl
      (hp₁.trans (Entails.of_eq (X.payload_cell (c, X.dep j) 0 ()).symm))
      ((hp₂ fd).trans (Entails.of_eq (X.payload_cell (X.peer j c, X.arr j) 0 ()).symm)) (Es := Es)) $$ [Hg' Hr HO Ht₁ Ht₂]
  · isplitr; · iapply (X.known_inv E K (c, X.dep j)); iexact HK
    isplitr; · iapply (X.known_inv E K (X.peer j c, X.arr j)); iexact HK
    isplitl [Hg']; · iexact Hg'
    isplitl [Hr]; · iexact Hr
    isplitl [HO]; · iexact HO
    isplitl [Ht₁]; · iexact Ht₁
    isplitr; · iapply (X.known_reached E K (c, X.dep j)); iexact HK
    isplitl [Ht₂]; · iexact Ht₂
    iapply (X.known_reached E K (X.peer j c, X.arr j)); iexact HK
  iintro ⟨Hc, HO⟩
  iapply Hk
  isplitr; · iexact HK
  isplitl [Hl]; · iexact Hl
  isplitl [Hc Hl']
  · isplitl [Hc]
    · rw [← hNS.symm.trans hNR]; iexact Hc
    iexact Hl'
  iexists W
  iexact HO

/-- A local copy starts. -/
theorem wp_local (K : Dev nD × X.Cell → ℕ) (c : Dev nD) (bd : Option 𝒱.V) {l l' : List X.Move} (t : X.T)
    {src : Memref sig (c : Thread nD τ).2.kind sp s e} {dst : Memref sig (c : Thread nD τ).2.kind sp' s e}
    {sT : SemLoc sig} {hsrc : src.view.WordExact} {hdst : dst.view.WordExact} {hsem : DmaTarget.Typed (nD := nD) sp sT (.here dst)}
    {k : PUnit → Prog (TpuEff nD τ sig Val Λ (c : Thread nD τ).2) α}
    (hT : sT = X.osem (X.loc t)) (hN : dst.view.amount sT = X.amt (X.loc t))
    (q : PosShare TreeShare) (fs : Buf Val (src.view.loc (c : Thread nD τ)))
    (hc : X.copy c t ⊢ iprop((src.view.loc (c : Thread nD τ) ↦[src.view.set]{q} fs)
      ∗ ∃ fd, (dst.view.loc (c : Thread nD τ) ↦[dst.view.set]{fullShare} fd)))
    (hp : ∀ fd, iprop((dst.view.loc (c : Thread nD τ) ↦[dst.view.set]{fullShare} (dst.view.write Val fd (src.view.read Val fs) Finset.univ))
        ∗ (src.view.loc (c : Thread nD τ) ↦[src.view.set]{q} fs)) ⊢ X.pay c (X.loc t)) :
    X.sending E K c (.inr t :: l) l'
      ⊢ iprop((X.sending E K c l (.inr t :: l') -∗ wp frame (wpE defs 𝒱 (c : Thread nD τ) bd) Es (k ⟨⟩) Q)
        -∗ wp frame (wpE defs 𝒱 (c : Thread nD τ) bd) Es (.op (.enqueueDma src (.here dst) sT hsrc hdst hsem) k) Q) := by
  subst hT
  unfold sending
  rw [list_cons, list_cons]
  iintro ⟨#HK, ⟨Hp, Hl⟩, Hl', HO⟩ Hk
  unfold pend going
  icases Hp with ⟨Ht, Hc⟩
  ihave Hc' := hc $$ Hc
  icases Hc' with ⟨Hs, ⟨%fd, Hd⟩⟩
  iapply (Rounds.wp_copy_pointsTo 𝒱 E X.sched (c : Thread nD τ) bd (r := 0) (d := ()) (κ := K (c, X.loc t)) (fs := fs) (fd := fd) (q := q)
      (by rw [show ((c : Thread nD τ), X.osem (X.loc t)) = X.cell (c, X.loc t) from rfl, X.duties_cell]; exact Finset.mem_singleton_self _)
      () (X.amt (X.loc t)) hN (X.amount_cell (c, X.loc t) 0 ())
      ((hp fd).trans (Entails.of_eq (X.payload_cell (c, X.loc t) 0 ()).symm)) (Es := Es)) $$ [Hs Hd Ht]
  · isplitr; · iapply (X.known_inv E K (c, X.loc t)); iexact HK
    isplitl [Hs]; · iexact Hs
    isplitl [Hd]; · iexact Hd
    isplitl [Ht]; · iexact Ht
    iapply (X.known_reached E K (c, X.loc t)); iexact HK
  iintro Hc
  iapply Hk
  isplitr; · iexact HK
  isplitl [Hl]; · iexact Hl
  isplitl [Hc Hl']
  · isplitl [Hc]; · iexact Hc
    iexact Hl'
  iexact HO

/-- A wait on one of the device's cells for its whole amount. -/
theorem wp_await (K : Dev nD × X.Cell → ℕ) (c : Dev nD) (bd : Option 𝒱.V) {l l' : List X.Cell} (i : X.Cell)
    {s' : Shape} {e' : EltTy} {sem : DmaSem sig} {src : Memref sig (c : Thread nD τ).2.kind sp' s' e'} {κ' : Kind} {dst : Memref sig κ' sp s e}
    {hsrc : src.view.WordExact} {hdst : dst.view.WordExact}
    {k : PUnit → Prog (TpuEff nD τ sig Val Λ (c : Thread nD τ).2) α}
    (hs : SemLoc.dma sem = X.osem i) (hN : dst.view.dmaCredit = X.amt i) :
    X.waiting E K c (i :: l) l'
      ⊢ iprop((X.waiting E K c l (i :: l') -∗ wp frame (wpE defs 𝒱 (c : Thread nD τ) bd) Set.univ (k ⟨⟩) Q)
        -∗ wp frame (wpE defs 𝒱 (c : Thread nD τ) bd) Set.univ (.op (.waitDma2 sem src dst hsrc hdst) k) Q) := by
  unfold waiting
  rw [list_cons, list_cons]
  iintro ⟨#HK, ⟨Hd, Hl⟩, Hl', ⟨%W, HO⟩⟩ Hk
  unfold due settled
  icases Hd with ⟨Hc, Hat⟩
  iapply (Rounds.wp_wait_rest_token 𝒱 E X.sched (c : Thread nD τ) bd (w := .waitDma2 sem src dst hsrc hdst) (sm := X.osem i) (k' := X.amt i)
      (κ := K (c, i)) (R := 0) (m := 0) (T := ∅) (O := 0) (W := W)
      (fun K' => by rw [← hs, ← hN]; exact wpE_waitDma2_eq 𝒱 (c : Thread nD τ) bd Set.univ K') (Set.mem_univ _) ()
      (by rw [Nat.zero_add]; exact (X.expect_cell (c, i)).symm)) $$ [Hc Hat HO]
  · isplitr; · iapply (X.known_inv E K (c, i)); iexact HK
    isplitl [Hc]; · iexact Hc
    isplitl [HO]; · iexact HO
    isplitr; · rw [MayWait_zero]; iempintro
    iexact Hat
  iintro ⟨HO, Hat, -, Hpay⟩
  ihave Hp := (Entails.of_eq (by
    rw [show ((c : Thread nD τ), X.osem i) = X.cell (c, i) from rfl, X.duties_cell, Finset.sdiff_empty, BI.bigSep_singleton, X.payload_cell] :
    (bigSep (X.sched.duties ((c : Thread nD τ), X.osem i) 0 \ ∅) fun d => X.sched.payload ((c : Thread nD τ), X.osem i) 0 d : sProp 𝕄) = X.pay c i)) $$ Hpay
  iapply (Idealize.SL.Sem.fupd_wp frame (wpE defs 𝒱 (c : Thread nD τ) bd) Set.univ (k ⟨⟩) Q)
  imod (Rounds.cell_close E X.sched (g := ((c : Thread nD τ), X.osem i)) (κ := K (c, i)) (Set.mem_univ _) (fun h => h) (R := 1)
      (fun r hr => X.duties_later _ (by omega))) $$ [Hat] with Hv
  · isplitr; · iapply (X.known_inv E K (c, i)); iexact HK
    iexact Hat
  imodintro
  iapply Hk
  isplitr; · iexact HK
  isplitl [Hl]; · iexact Hl
  isplitl [Hp Hv Hl']
  · isplitl [Hp Hv]
    · isplitl [Hp]; · iexact Hp
      iexact Hv
    iexact Hl'
  iexists _
  iexact HO

end Steps

/-- The device's start, all transfers listed. -/
theorem begin' (c : Dev nD) (moves : List X.Move) (hu : Finset.univ = moves.toFinset) (hn : moves.Nodup) (W : Waits sig Unit) :
    iprop(X.start E c ∗ owes (c : Thread nD τ) (X.owing c moves) W)
      ⊢ iprop(∃ K, X.sending E K c moves [] ∗ bigSep Finset.univ fun i => atPos E (X.cell (c, i)) 0 ∅ 0) := by
  unfold start sending
  rw [bigSep_univ_eq_bigSepL moves hu hn]
  iintro ⟨⟨%K, HK, Hat, Hp⟩, HO⟩
  iexists K
  isplitr [Hat]
  · isplitl [HK]; · iexact HK
    isplitl [Hp]
    · iexact Hp
    isplitr; · iempintro
    iexists W; iexact HO
  iexact Hat

/-- All transfers started: the waits may begin. -/
theorem turn (K : Dev nD × X.Cell → ℕ) (c : Dev nD) (l' : List X.Move) (hu : Finset.univ = l'.toFinset) (hn : l'.Nodup)
    (waits : List X.Cell) (hu' : Finset.univ = waits.toFinset) (hn' : waits.Nodup) :
    iprop(X.sending E K c [] l' ∗ (bigSep Finset.univ fun i => atPos E (X.cell (c, i)) 0 ∅ 0)
        ∗ bigSep Finset.univ fun j : X.J => cred (tallyAt (X.cell (c, X.arr j)) () (X.amt (X.arr j))))
      ⊢ X.waiting E K c waits [] := by
  have hg : bigSepL l' (X.going c) = (iprop((bigSep Finset.univ fun j : X.J => cred (tallyAt (X.cell (c, X.dep j)) () (X.amt (X.dep j))))
      ∗ bigSep Finset.univ fun t : X.T => cred (tallyAt (X.cell (c, X.loc t)) () (X.amt (X.loc t)))) : sProp 𝕄) := by
    rw [← bigSep_univ_eq_bigSepL l' hu hn, univ_sum]; rfl
  unfold sending waiting
  rw [hg, ← bigSep_univ_eq_bigSepL waits hu' hn']
  unfold due
  rw [bigSep_sep', univ_sum (fun i : X.Cell => (cred (tallyAt (X.cell (c, i)) () (X.amt i)) : sProp 𝕄)),
    univ_sum (fun i : X.J ⊕ X.T => (cred (tallyAt (X.cell (c, .inr i)) () (X.amt (.inr i))) : sProp 𝕄))]
  iintro ⟨⟨HK, -, ⟨Hd, Hl⟩, HO⟩, Hat, Ha⟩
  isplitl [HK]; · iexact HK
  isplitl [Ha Hd Hl Hat]
  · isplitr [Hat]
    · isplitl [Ha]; · iexact Ha
      isplitl [Hd] <;> iassumption
    iexact Hat
  isplitr; · iempintro
  iexact HO

/-- All waits done: the payloads, and every semaphore at zero. -/
theorem settle (K : Dev nD × X.Cell → ℕ) (c : Dev nD) (l' : List X.Cell) (hu : Finset.univ = l'.toFinset) (hn : l'.Nodup) :
    X.waiting E K c [] l'
      ⊢ iprop((bigSep Finset.univ fun i => X.pay c i) ∗ (bigSep Finset.univ fun i => semVal (X.cell (c, i)) 0)
        ∗ ∃ W, owes (c : Thread nD τ) (0 : CellTallies nD τ sig Unit) W) := by
  unfold waiting
  rw [← bigSep_univ_eq_bigSepL l' hu hn]
  unfold settled
  rw [bigSep_sep']
  iintro ⟨-, -, ⟨Hp, Hv⟩, HO⟩
  isplitl [Hp]; · iexact Hp
  isplitl [Hv] <;> iassumption

/-! ### A whole body, one step at a time

The steps above in the form `rest ∗ state ⊢ wp …`, to be used backwards one operation after the other. -/

theorem step {R A B P P' : sProp 𝕄} (h : A ⊢ iprop((B -∗ P') -∗ P)) (hk : iprop(R ∗ B) ⊢ P') : iprop(R ∗ A) ⊢ P := by
  iintro ⟨HR, HA⟩
  iapply h $$ HA
  iintro HB
  iapply hk
  isplitl [HR] <;> iassumption

/-- What the waits will need. -/
def later (c : Dev nD) : sProp 𝕄 :=
  iprop((bigSep Finset.univ fun i => atPos E (X.cell (c, i)) 0 ∅ 0) ∗ bigSep Finset.univ fun j : X.J => cred (tallyAt (X.cell (c, X.arr j)) () (X.amt (X.arr j))))

theorem opening (c : Dev nD) (moves : List X.Move) (hu : Finset.univ = moves.toFinset) (hn : moves.Nodup) (W : Waits sig Unit) {P : sProp 𝕄}
    (h : ∀ K, iprop(X.later E c ∗ X.sending E K c moves []) ⊢ P) :
    iprop(X.start E c ∗ owes (c : Thread nD τ) (X.owing c moves) W ∗ bigSep Finset.univ fun j : X.J => cred (tallyAt (X.cell (c, X.arr j)) () (X.amt (X.arr j)))) ⊢ P := by
  iintro ⟨Hst, HO, Hcr⟩
  ihave Hb := (X.begin' E c moves hu hn W) $$ [Hst HO]
  · isplitl [Hst] <;> iassumption
  icases Hb with ⟨%K, Hs, Hat⟩
  iapply (h K)
  unfold later
  isplitr [Hs]
  · isplitl [Hat] <;> iassumption
  iexact Hs

theorem turned (K : Dev nD × X.Cell → ℕ) (c : Dev nD) (l' : List X.Move) (hu : Finset.univ = l'.toFinset) (hn : l'.Nodup)
    (waits : List X.Cell) (hu' : Finset.univ = waits.toFinset) (hn' : waits.Nodup) {P : sProp 𝕄} (h : iprop(emp ∗ X.waiting E K c waits []) ⊢ P) :
    iprop(X.later E c ∗ X.sending E K c [] l') ⊢ P := by
  unfold later
  iintro ⟨⟨Hat, Hcr⟩, Hs⟩
  iapply h
  isplitr; · iempintro
  iapply (X.turn E K c l' hu hn waits hu' hn')
  isplitl [Hs]; · iexact Hs
  isplitl [Hat] <;> iassumption

theorem ended (K : Dev nD × X.Cell → ℕ) (c : Dev nD) (l' : List X.Cell) (hu : Finset.univ = l'.toFinset) (hn : l'.Nodup) :
    iprop(emp ∗ X.waiting E K c [] l')
      ⊢ |={Set.univ}=> iprop((bigSep Finset.univ fun i => X.pay c i) ∗ (bigSep Finset.univ fun i => semVal (X.cell (c, i)) 0)
        ∗ ∃ W, owes (c : Thread nD τ) (0 : CellTallies nD τ sig Unit) W) := by
  iintro ⟨-, Hw⟩
  imodintro
  iapply (X.settle E K c l' hu hn) $$ Hw

end Exchange

end Cert.Talk

end
-- ==== Proof.TalkSlots.lean ====
/-
An all-to-all of arrays over eight devices: what each landing of the exchange protocol hands over.

An array of the exchange (`Slots`) has a source on every device and a destination of eight slots, slot `p` for what device `p` sends here. A device gives
each device (itself included) a part of its source at some share of it: the whole source at an eighth share, where every device gets the same, or a
block of it, where each gets its own. `Slots.G` is what the destination holds when every slot has landed. `exchange` is the protocol of several such
arrays, the peers of device `c` being `c xor 1`, …, `c xor 7`; `opened` takes the arrays apart into what the transfers need, `closed` puts the waits'
payloads together; `wp_put` and `wp_keep` start a transfer to a peer's slot and to the device's own.
-/
module

public import proofs.«01_k».proof.Proof.TalkRounds
public import Idealize.ShloMosaic.Lib.ValueLayout
public import Idealize.ShloMosaic.Lib.Pipeline.Frame

@[expose] public section

noncomputable section

namespace Cert.Talk

open Idealize.ShloMosaic
open Idealize.SL
open Idealize.SL.BI (sProp bigSep bigSepL bigSep_sep' bigSep_mono bigSep_congr bigSep_univ_prod bigSep_map bigSep_univ_comm
  bigSep_univ_equiv bigSep_univ_sum bigSep_univ_of_subsingleton bigSep_insert)
open scoped Idealize.SL.BI
open Idealize.SL.BI.BIBase Idealize.SL.BI.Laws Idealize.SL.Sem Idealize.SL.ProofMode
open Idealize.SL.RA
open TcCoe
open Idealize.ShloMosaic.Rounds
open Idealize.ShloMosaic.ValueIdx (ix2 ix3 eq_ix2 reshapeEquiv_ix2_1ab)

set_option Elab.async false

/-- The peer a device exchanges its `k`-th remote copy of an array with. -/
def mate (k : Fin 7) (c : Dev 8) : Dev 8 := ⟨(c.val ^^^ (k.val + 1)) % 8, Nat.mod_lt _ (by decide)⟩
theorem mate_mate : ∀ (k : Fin 7) (c : Dev 8), mate k (mate k c) = c := by decide

/-- The eight devices as one of them sees them: itself, its seven peers. -/
def seen (c : Dev 8) : Unit ⊕ Fin 7 → Dev 8
  | .inl _ => c
  | .inr k => mate k c
theorem seen_injective : ∀ c, Function.Injective (seen c) := by
  have h : ∀ (c : Dev 8) (k l : Fin 7), mate k c = mate l c → k = l := by decide
  have h' : ∀ (c : Dev 8) (k : Fin 7), mate k c ≠ c := by decide
  intro c a b hab
  rcases a with ⟨⟩ | a <;> rcases b with ⟨⟩ | b
  · rfl
  · exact absurd hab.symm (h' c b)
  · exact absurd hab (h' c a)
  · exact congrArg Sum.inr (h c a b hab)
def seenEquiv (c : Dev 8) : Unit ⊕ Fin 7 ≃ Dev 8 :=
  Equiv.ofBijective (seen c) ((Fintype.bijective_iff_injective_and_card _).mpr ⟨seen_injective c, by decide⟩)

variable {τ : Topo} {sig : RefSig} {Val : EltTy → Type} {U : Type} [URA U]

local notation "𝕄" => MT 8 τ sig Unit Val ℕ U ℕ

/-- One summand per device is a device's own and one per peer. -/
theorem around_me (c : Dev 8) (Φ : Dev 8 → sProp 𝕄) :
    bigSep Finset.univ Φ = iprop(Φ c ∗ bigSep Finset.univ fun k : Fin 7 => Φ (mate k c)) := by
  rw [bigSep_univ_equiv (seenEquiv c) Φ, univ_sum, bigSep_univ_of_subsingleton ()]
  rfl

/-! ### Geometry: one slot of a destination -/

section Geometry

variable {κ : Kind} {sp : Space} {A B : ℕ} {e : EltTy} (dst : Memref sig κ sp ⟨3, ![8, A, B]⟩ e)

/-- The elements of slot `p`. -/
def slot (p : Fin 8) : Finset dst.view.ty.Idx := dst.view.setOn (Finset.univ.filter fun i => (i 0).val = p.val)

variable {off : Fin 3 → ℕ} (p : Fin 8) (hoff : off = ![p.val, 0, 0]) {inb : ∀ a, off a + (![1, A, B] : Fin 3 → ℕ) a ≤ (![8, A, B] : Fin 3 → ℕ) a}
  {hs : ∀ a, (Rect.unit (s := ⟨3, ![8, A, B]⟩) off ![1, A, B] inb).stride a = 1}
  (hq : (⟨3, ![1, A, B]⟩ : Shape).Squeezes ⟨2, ![A, B]⟩)

include hoff

theorem slot_set : ((dst.slice (Rect.unit (s := ⟨3, ![8, A, B]⟩) off ![1, A, B] inb) hs).squeeze ⟨2, ![A, B]⟩ hq).view.set = slot dst p := by
  subst hoff
  refine (View.set_reshape _ _).trans ((View.set_slice _ _).trans ?_)
  refine congrArg (fun T : Finset (⟨3, ![8, A, B]⟩ : Shape).Idx => T.map dst.view.emb) ?_
  ext i
  rw [Rect.mem_set_unit, Finset.mem_filter]
  constructor
  · intro h
    refine ⟨Finset.mem_univ _, ?_⟩
    have h0 : p.val ≤ (i 0).val ∧ (i 0).val < p.val + 1 := h 0
    omega
  · rintro ⟨-, h⟩ a
    have hv : (i 0).val = p.val := h
    match a with
    | 0 => show p.val ≤ (i 0).val ∧ (i 0).val < p.val + 1; omega
    | 1 => exact ⟨Nat.zero_le _, by show (i 1).val < 0 + A; have : (i 1).val < A := (i 1).isLt; omega⟩
    | 2 => exact ⟨Nat.zero_le _, by show (i 2).val < 0 + B; have : (i 2).val < B := (i 2).isLt; omega⟩

theorem slot_read (hdst : dst.IsWhole) (X : (⟨3, ![8, A, B]⟩ : Shape).Idx → Val e) :
    ((dst.slice (Rect.unit (s := ⟨3, ![8, A, B]⟩) off ![1, A, B] inb) hs).squeeze ⟨2, ![A, B]⟩ hq).view.read Val (hdst.unread X)
      = fun x : (⟨2, ![A, B]⟩ : Shape).Idx => X (ix3 p (x 0) (x 1)) := by
  subst hoff
  funext x
  refine Eq.trans (?_ : _ = dst.view.read Val (hdst.unread X)
    ((Rect.unit (s := ⟨3, ![8, A, B]⟩) ![p.val, 0, 0] ![1, A, B] inb).emb (Shape.reshapeEquiv hq.numel_eq x))) ?_
  · rfl
  rw [hdst.read_unread]
  refine congrArg X ?_
  have hx : Shape.reshapeEquiv hq.numel_eq x = ix3 (⟨0, Nat.one_pos⟩ : Fin 1) (x 0) (x 1) := by
    conv_lhs => rw [eq_ix2 x]
    exact reshapeEquiv_ix2_1ab hq.numel_eq (x 0) (x 1)
  rw [hx]
  funext a
  refine Fin.ext ?_
  match a with
  | 0 => show p.val + 1 * 0 = p.val; omega
  | 1 => show 0 + 1 * (x 0).val = (x 0).val; omega
  | 2 => show 0 + 1 * (x 1).val = (x 1).val; omega

end Geometry

/-! ### One array of the exchange -/

/-- An array of the exchange. Device `c`'s source holds `S c`; element `x` of what it gives device `p` is the source's at `place p x`. -/
structure Slots (τ : Topo) (sig : RefSig) (Val : EltTy → Type) (U : Type) [URA U] where
  {sp sp' : Space}
  {sh : Shape}
  {A B : ℕ}
  {e : EltTy}
  src : Memref sig .tc sp sh e
  dst : Memref sig .tc sp' ⟨3, ![8, A, B]⟩ e
  hdst : dst.IsWhole
  place : Dev 8 → (⟨2, ![A, B]⟩ : Shape).Idx → sh.Idx
  part : Dev 8 → Finset src.view.ty.Idx
  share : Dev 8 → PosShare TreeShare
  S : (c : Dev 8) → Buf Val (src.view.loc (c : Thread 8 τ))
  amt : ℕ
  amt_pos : 0 < amt
  cut : ∀ c : Dev 8, (src.view.loc (c : Thread 8 τ) ↦[Finset.univ]{fullShare} S c : sProp (MT 8 τ sig Unit Val ℕ U ℕ))
    = bigSep (Finset.univ : Finset (Dev 8)) fun p => (src.view.loc (c : Thread 8 τ) ↦[part p]{share p} S c : sProp (MT 8 τ sig Unit Val ℕ U ℕ))

namespace Slots

variable (T : Slots τ sig Val U)

/-- What device `c`'s destination holds once every slot has landed. -/
def G (c : Dev 8) : Buf Val (T.dst.view.loc (c : Thread 8 τ)) :=
  T.hdst.unread fun i => T.src.view.read Val (T.S (i 0)) (T.place c (ix2 (i 1) (i 2)))

/-- The source's part for device `p`; a slot landed, and a slot at any contents; the whole source, the whole destination. -/
def given (c p : Dev 8) : sProp 𝕄 := T.src.view.loc (c : Thread 8 τ) ↦[T.part p]{T.share p} T.S c
def landed (c p : Dev 8) : sProp 𝕄 := T.dst.view.loc (c : Thread 8 τ) ↦[slot T.dst p]{fullShare} T.G c
def free (c p : Dev 8) : sProp 𝕄 := iprop(∃ f, T.dst.view.loc (c : Thread 8 τ) ↦[slot T.dst p]{fullShare} f)
def source (c : Dev 8) : sProp 𝕄 := T.src.view.loc (c : Thread 8 τ) ↦[Finset.univ]{fullShare} T.S c
def target (c : Dev 8) (f : Buf Val (T.dst.view.loc (c : Thread 8 τ))) : sProp 𝕄 := T.dst.view.loc (c : Thread 8 τ) ↦[Finset.univ]{fullShare} f

instance (c p : Dev 8) : BI.Storable (upEmb : UEmb _ 𝕄) (T.given c p) := by unfold given; infer_instance
instance (c p : Dev 8) : BI.Storable (upEmb : UEmb _ 𝕄) (T.landed c p) := by unfold landed; infer_instance

theorem source_eq (c : Dev 8) : T.source c = bigSep Finset.univ (T.given c) := T.cut c

theorem slots_cover : (Finset.univ : Finset (Dev 8)).biUnion (slot T.dst) = Finset.univ := by
  ext i
  refine ⟨fun _ => Finset.mem_univ _, fun _ => ?_⟩
  have h : i ∈ T.dst.view.set := T.hdst.set_eq_univ ▸ Finset.mem_univ i
  obtain ⟨x, -, rfl⟩ := Finset.mem_map.mp h
  exact Finset.mem_biUnion.mpr ⟨x 0, Finset.mem_univ _, (View.mem_setOn _).mpr (Finset.mem_filter.mpr ⟨Finset.mem_univ _, rfl⟩)⟩

theorem slots_disjoint (p q : Dev 8) (h : p ≠ q) : Disjoint (slot T.dst p) (slot T.dst q) := by
  refine Finset.disjoint_left.mpr fun i hi hj => ?_
  obtain ⟨x, hx, rfl⟩ := Finset.mem_map.mp hi
  have hy := (View.mem_setOn _).mp hj
  exact h (Fin.ext (Eq.trans (Eq.symm (Finset.mem_filter.mp hx).2) (Finset.mem_filter.mp hy).2))

theorem target_eq (c : Dev 8) (f : Buf Val (T.dst.view.loc (c : Thread 8 τ))) :
    T.target c f = bigSep Finset.univ fun p => T.dst.view.loc (c : Thread 8 τ) ↦[slot T.dst p]{fullShare} f := by
  unfold target
  rw [← T.slots_cover]
  exact pointsTo_biUnion _ _ fun p _ q _ h => T.slots_disjoint p q h

theorem target_free (c : Dev 8) (f : Buf Val (T.dst.view.loc (c : Thread 8 τ))) : T.target c f ⊢ bigSep Finset.univ (T.free c) := by
  rw [T.target_eq]
  refine bigSep_mono fun p _ => ?_
  unfold free
  refine (?_ : _ ⊢ (iprop(∃ f, T.dst.view.loc (c : Thread 8 τ) ↦[slot T.dst p]{fullShare} f) : sProp 𝕄))
  iintro H
  iexists f; iexact H

theorem target_landed (c : Dev 8) : T.target c (T.G c) = bigSep Finset.univ (T.landed c) := T.target_eq c _

/-- A transfer that read what device `d` gives `c` leaves slot `d` of `c`'s destination landed. -/
theorem written_landed (c d : Dev 8) {off : Fin 3 → ℕ} (hoff : off = ![d.val, 0, 0])
    {inb : ∀ a, off a + (![1, T.A, T.B] : Fin 3 → ℕ) a ≤ (![8, T.A, T.B] : Fin 3 → ℕ) a}
    {hs : ∀ a, (Rect.unit (s := ⟨3, ![8, T.A, T.B]⟩) off ![1, T.A, T.B] inb).stride a = 1}
    (hq : (⟨3, ![1, T.A, T.B]⟩ : Shape).Squeezes ⟨2, ![T.A, T.B]⟩)
    (fd : Buf Val (T.dst.view.loc (c : Thread 8 τ))) (w : (⟨2, ![T.A, T.B]⟩ : Shape).Idx → Val T.e)
    (hw : w = fun x => T.src.view.read Val (T.S d) (T.place c x)) :
    (((T.dst.slice (Rect.unit (s := ⟨3, ![8, T.A, T.B]⟩) off ![1, T.A, T.B] inb) hs).squeeze ⟨2, ![T.A, T.B]⟩ hq).view.loc (c : Thread 8 τ)
        ↦[((T.dst.slice (Rect.unit (s := ⟨3, ![8, T.A, T.B]⟩) off ![1, T.A, T.B] inb) hs).squeeze ⟨2, ![T.A, T.B]⟩ hq).view.set]{fullShare}
          ((T.dst.slice (Rect.unit (s := ⟨3, ![8, T.A, T.B]⟩) off ![1, T.A, T.B] inb) hs).squeeze ⟨2, ![T.A, T.B]⟩ hq).view.write Val fd w Finset.univ : sProp 𝕄)
      = T.landed c d := by
  have hG : ((T.dst.slice (Rect.unit (s := ⟨3, ![8, T.A, T.B]⟩) off ![1, T.A, T.B] inb) hs).squeeze ⟨2, ![T.A, T.B]⟩ hq).view.read Val (T.G c) = w := by
    rw [hw]
    refine (slot_read T.dst d hoff hq T.hdst _).trans ?_
    funext x
    show T.src.view.read Val (T.S d) (T.place c (ix2 (x 0) (x 1))) = T.src.view.read Val (T.S d) (T.place c x)
    exact congrArg (fun y => T.src.view.read Val (T.S d) (T.place c y)) (eq_ix2 x).symm
  rw [← hG, View.write_read_eq_piecewise, View.setOn_univ]
  refine (pointsTo_congr (g := T.G c) fun i hi => Finset.piecewise_eq_of_mem _ _ _ hi).trans ?_
  rw [slot_set T.dst d hoff hq]
  rfl

end Slots

/-! ### The whole source at eighth shares -/

/-- The eight shares the whole of an array is split in. -/
def eighth (p : Dev 8) : PosShare TreeShare :=
  match p with
  | 0 => fullShare.left.left.left | 1 => fullShare.left.left.right | 2 => fullShare.left.right.left | 3 => fullShare.left.right.right
  | 4 => fullShare.right.left.left | 5 => fullShare.right.left.right | 6 => fullShare.right.right.left | 7 => fullShare.right.right.right

theorem halves {ℓ : Loc 8 τ sig} {I : Finset (Idx ℓ)} {f : Buf Val ℓ} (q : PosShare TreeShare) :
    (ℓ ↦[I]{q} f : sProp 𝕄) = iprop((ℓ ↦[I]{q.left} f) ∗ ℓ ↦[I]{q.right} f) :=
  BI.equiv_iff.mp ⟨(pointsTo_share (PosShare.mem_left_op_right q)).1, (pointsTo_share (PosShare.mem_left_op_right q)).2⟩

theorem eighths {ℓ : Loc 8 τ sig} {I : Finset (Idx ℓ)} {f : Buf Val ℓ} :
    (ℓ ↦[I]{fullShare} f : sProp 𝕄) = bigSep Finset.univ fun p : Dev 8 => ℓ ↦[I]{eighth p} f := by
  rw [BI.bigSep_univ_eq_bigSepL [0, 1, 2, 3, 4, 5, 6, 7] (by decide) (by decide)]
  rw [halves fullShare, halves fullShare.left, halves fullShare.right, halves fullShare.left.left, halves fullShare.left.right,
    halves fullShare.right.left, halves fullShare.right.right]
  simp only [list_cons, eighth]
  refine BI.equiv_iff.mp ⟨(?_ : _ ⊢ (_ : sProp 𝕄)), (?_ : _ ⊢ (_ : sProp 𝕄))⟩
  · iintro ⟨⟨⟨H0, H1⟩, ⟨H2, H3⟩⟩, ⟨⟨H4, H5⟩, ⟨H6, H7⟩⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  · iintro ⟨H0, H1, H2, H3, H4, H5, H6, H7, -⟩
    isplitl [H0 H1 H2 H3]
    · isplitl [H0 H1]
      · isplitl [H0] <;> iassumption
      · isplitl [H2] <;> iassumption
    · isplitl [H4 H5]
      · isplitl [H4] <;> iassumption
      · isplitl [H6] <;> iassumption

/-- An array every device gets whole. -/
def Slots.whole {sp sp' : Space} {A B : ℕ} {e : EltTy} (src : Memref sig .tc sp ⟨2, ![A, B]⟩ e) (dst : Memref sig .tc sp' ⟨3, ![8, A, B]⟩ e)
    (hdst : dst.IsWhole) (S : (c : Dev 8) → Buf Val (src.view.loc (c : Thread 8 τ))) (amt : ℕ) (amt_pos : 0 < amt) : Slots τ sig Val U where
  src := src
  dst := dst
  hdst := hdst
  place _ x := x
  part _ := Finset.univ
  share := eighth
  S := S
  amt := amt
  amt_pos := amt_pos
  cut _ := eighths

/-- A whole array's share for a peer, over the source's own cells. -/
theorem Slots.whole_given {sp sp' : Space} {A B : ℕ} {e : EltTy} (src : Memref sig .tc sp ⟨2, ![A, B]⟩ e) (dst : Memref sig .tc sp' ⟨3, ![8, A, B]⟩ e)
    (hdst : dst.IsWhole) (S : (c : Dev 8) → Buf Val (src.view.loc (c : Thread 8 τ))) (amt : ℕ) (amt_pos : 0 < amt) (hsrc : src.IsWhole) (c p : Dev 8) :
    (src.view.loc (c : Thread 8 τ) ↦[src.view.set]{eighth p} S c : sProp (MT 8 τ sig Unit Val ℕ U ℕ))
      = (Slots.whole src dst hdst S amt amt_pos).given c p := by
  rw [hsrc.set_eq_univ]
  rfl

/-! ### Each device its own block of rows of the source -/

section Blocks

variable {κ : Kind} {sp : Space} {R A B : ℕ} {e : EltTy} (src : Memref sig κ sp ⟨2, ![R, B]⟩ e)

/-- The elements of row block `p` of `A` rows. -/
def rowBlock (A : ℕ) (p : Fin 8) : Finset src.view.ty.Idx := src.view.setOn (Finset.univ.filter fun i => (i 0).val / A = p.val)

/-- Row `x` of block `p`. -/
def inBlock (hR : R = 8 * A) (p : Fin 8) (x : (⟨2, ![A, B]⟩ : Shape).Idx) : (⟨2, ![R, B]⟩ : Shape).Idx :=
  ix2 (⟨p.val * A + (x 0).val, by
    have h : (x 0).val < A := (x 0).isLt
    have := Nat.mul_le_mul_right A (show p.val + 1 ≤ 8 by omega)
    rw [Nat.add_mul] at this
    omega⟩ : Fin R) (x 1)

variable {off : Fin 2 → ℕ} (p : Fin 8) (hoff : off = ![p.val * A, 0]) {inb : ∀ a, off a + (![A, B] : Fin 2 → ℕ) a ≤ (![R, B] : Fin 2 → ℕ) a}
  {hs : ∀ a, (Rect.unit (s := ⟨2, ![R, B]⟩) off ![A, B] inb).stride a = 1}

include hoff

theorem rowBlock_set (hA : 0 < A) : (src.slice (Rect.unit (s := ⟨2, ![R, B]⟩) off ![A, B] inb) hs).view.set = rowBlock src A p := by
  subst hoff
  refine (View.set_slice _ _).trans ?_
  refine congrArg (fun T : Finset (⟨2, ![R, B]⟩ : Shape).Idx => T.map src.view.emb) ?_
  ext i
  rw [Rect.mem_set_unit, Finset.mem_filter]
  have hdiv : (i 0).val / A = p.val ↔ p.val * A ≤ (i 0).val ∧ (i 0).val < p.val * A + A := by
    rw [Nat.div_eq_iff hA]
    constructor <;> rintro ⟨h1, h2⟩ <;> refine ⟨?_, ?_⟩ <;> omega
  constructor
  · intro h
    exact ⟨Finset.mem_univ _, hdiv.mpr (h 0)⟩
  · rintro ⟨-, h⟩ a
    match a with
    | 0 => exact hdiv.mp h
    | 1 => exact ⟨Nat.zero_le _, by show (i 1).val < 0 + B; have : (i 1).val < B := (i 1).isLt; omega⟩

theorem rowBlock_read (hR : R = 8 * A) (f : src.view.ty.Contents Val) :
    (src.slice (Rect.unit (s := ⟨2, ![R, B]⟩) off ![A, B] inb) hs).view.read Val f = fun x => src.view.read Val f (inBlock hR p x) := by
  subst hoff
  funext x
  refine Eq.trans (?_ : _ = src.view.read Val f ((Rect.unit (s := ⟨2, ![R, B]⟩) ![p.val * A, 0] ![A, B] inb).emb x)) ?_
  · rfl
  refine congrArg _ (funext fun a => Fin.ext ?_)
  match a with
  | 0 => show p.val * A + 1 * (x 0).val = p.val * A + (x 0).val; omega
  | 1 => show 0 + 1 * (x 1).val = (x 1).val; omega

omit hoff

end Blocks

theorem rowBlocks_cover {sp : Space} {R A B : ℕ} {e : EltTy} (src : Memref sig .tc sp ⟨2, ![R, B]⟩ e) (hR : R = 8 * A) (hA : 0 < A) (hsrc : src.IsWhole) :
    (Finset.univ : Finset (Dev 8)).biUnion (rowBlock src A) = Finset.univ := by
  ext i
  refine ⟨fun _ => Finset.mem_univ _, fun _ => ?_⟩
  have h : i ∈ src.view.set := hsrc.set_eq_univ ▸ Finset.mem_univ i
  obtain ⟨x, -, rfl⟩ := Finset.mem_map.mp h
  have hx : (x 0).val < R := (x 0).isLt
  exact Finset.mem_biUnion.mpr ⟨⟨(x 0).val / A, Nat.div_lt_of_lt_mul (by rw [Nat.mul_comm]; omega)⟩, Finset.mem_univ _,
    (View.mem_setOn _).mpr (Finset.mem_filter.mpr ⟨Finset.mem_univ _, rfl⟩)⟩

theorem rowBlocks_disjoint {sp : Space} {R B : ℕ} (A : ℕ) {e : EltTy} (src : Memref sig .tc sp ⟨2, ![R, B]⟩ e) (p q : Dev 8) (h : p ≠ q) :
    Disjoint (rowBlock src A p) (rowBlock src A q) := by
  refine Finset.disjoint_left.mpr fun i hi hj => ?_
  obtain ⟨x, hx, rfl⟩ := Finset.mem_map.mp hi
  have hy := (View.mem_setOn _).mp hj
  exact h (Fin.ext (Eq.trans (Eq.symm (Finset.mem_filter.mp hx).2) (Finset.mem_filter.mp hy).2))

/-- An array of which each device gets its own block of rows. -/
def Slots.rows {sp sp' : Space} {R A B : ℕ} {e : EltTy} (src : Memref sig .tc sp ⟨2, ![R, B]⟩ e) (dst : Memref sig .tc sp' ⟨3, ![8, A, B]⟩ e)
    (hdst : dst.IsWhole) (hR : R = 8 * A) (hA : 0 < A) (hsrc : src.IsWhole) (S : (c : Dev 8) → Buf Val (src.view.loc (c : Thread 8 τ))) (amt : ℕ) (amt_pos : 0 < amt) :
    Slots τ sig Val U where
  src := src
  dst := dst
  hdst := hdst
  place := inBlock hR
  part := rowBlock src A
  share _ := fullShare
  S := S
  amt := amt
  amt_pos := amt_pos
  cut c := by
    rw [← rowBlocks_cover src hR hA hsrc]
    exact pointsTo_biUnion _ _ fun p _ q _ h => rowBlocks_disjoint A src p q h

/-! ### The exchange of several arrays -/

/-- The semaphores of an exchange of `n` arrays: array by array, an arrival's and a departure's for each peer, and one for the device's own slot. -/
abbrev Cells (n : ℕ) : Type := (Fin n × Fin 7) ⊕ (Fin n × Fin 7) ⊕ Fin n

variable {n : ℕ} (T : Fin n → Slots τ sig Val U) (osem : Cells n → SemLoc sig) (inj : Function.Injective osem)

/-- What the waits of the exchange hand over. -/
def handed (c : Dev 8) : Cells n → sProp 𝕄
  | .inl j => (T j.1).landed c (mate j.2 c)
  | .inr (.inl j) => (T j.1).given c (mate j.2 c)
  | .inr (.inr w) => iprop((T w).landed c c ∗ (T w).given c c)

theorem handed_eq (c : Dev 8) : bigSep Finset.univ (handed T c)
    = iprop((bigSep Finset.univ fun j : Fin n × Fin 7 => (T j.1).landed c (mate j.2 c))
      ∗ (bigSep Finset.univ fun j : Fin n × Fin 7 => (T j.1).given c (mate j.2 c))
      ∗ bigSep Finset.univ fun w : Fin n => iprop((T w).landed c c ∗ (T w).given c c)) := by
  rw [univ_sum, univ_sum]
  rfl

/-- The exchange of the arrays `T`. -/
def exchange : Exchange 8 τ sig Val U where
  J := Fin n × Fin 7
  T := Fin n
  peer j := mate j.2
  peer_peer j := mate_mate j.2
  osem := osem
  inj := inj
  amt
    | .inl j => (T j.1).amt
    | .inr (.inl j) => (T j.1).amt
    | .inr (.inr w) => (T w).amt
  amt_pos i := match i with
    | .inl j => (T j.1).amt_pos
    | .inr (.inl j) => (T j.1).amt_pos
    | .inr (.inr w) => (T w).amt_pos
  pay := handed T
  pay_storable c i := match i with
    | .inl j => inferInstanceAs (BI.Storable _ ((T j.1).landed c (mate j.2 c)))
    | .inr (.inl j) => inferInstanceAs (BI.Storable _ ((T j.1).given c (mate j.2 c)))
    | .inr (.inr w) => inferInstanceAs (BI.Storable _ iprop((T w).landed c c ∗ (T w).given c c))
  give c j := (T j.1).given c (mate j.2 c)
  room c j := (T j.1).free c (mate j.2 c)
  copy c w := iprop((T w).given c c ∗ (T w).free c c)

/-- The arrays of a device, taken apart into what its transfers need. -/
theorem opened (c : Dev 8) :
    (bigSep Finset.univ fun w => iprop((T w).source c ∗ ∃ f, (T w).target c f))
      ⊢ iprop((bigSep Finset.univ fun j : Fin n × Fin 7 => iprop((exchange T osem inj).give c j ∗ (exchange T osem inj).room c j))
        ∗ bigSep Finset.univ fun w : Fin n => (exchange T osem inj).copy c w) := by
  have h1 (w : Fin n) : iprop((T w).source c ∗ ∃ f, (T w).target c f)
      ⊢ iprop((bigSep Finset.univ fun k : Fin 7 => iprop((T w).given c (mate k c) ∗ (T w).free c (mate k c))) ∗ ((T w).given c c ∗ (T w).free c c)) := by
    rw [(T w).source_eq, around_me c ((T w).given c), bigSep_sep']
    iintro ⟨⟨Hg, Hgs⟩, ⟨%f, Ht⟩⟩
    ihave Hf := ((T w).target_free c f).trans (Entails.of_eq (around_me c ((T w).free c))) $$ Ht
    icases Hf with ⟨Hf, Hfs⟩
    isplitl [Hgs Hfs]
    · isplitl [Hgs] <;> iassumption
    · isplitl [Hg] <;> iassumption
  refine BI.Entails.trans (bigSep_mono fun w _ => h1 w) (Entails.of_eq (?_ : _ = iprop(
    (bigSep Finset.univ fun j : Fin n × Fin 7 => iprop((T j.1).given c (mate j.2 c) ∗ (T j.1).free c (mate j.2 c)))
      ∗ bigSep Finset.univ fun w : Fin n => iprop((T w).given c c ∗ (T w).free c c))))
  rw [bigSep_sep', ← bigSep_univ_prod (fun j : Fin n × Fin 7 => iprop((T j.1).given c (mate j.2 c) ∗ (T j.1).free c (mate j.2 c)))]

/-- The waits' payloads of a device, put together: every source as it was, every destination landed. -/
theorem closed (c : Dev 8) :
    (bigSep Finset.univ fun i => (exchange T osem inj).pay c i)
      ⊢ bigSep Finset.univ fun w => iprop((T w).source c ∗ (T w).target c ((T w).G c)) := by
  refine (Entails.of_eq (handed_eq T c)).trans ?_
  rw [bigSep_univ_prod (fun j : Fin n × Fin 7 => (T j.1).landed c (mate j.2 c)), bigSep_univ_prod (fun j : Fin n × Fin 7 => (T j.1).given c (mate j.2 c)),
    ← bigSep_sep', ← bigSep_sep']
  refine bigSep_mono fun w _ => ?_
  rw [(T w).source_eq, (T w).target_landed, around_me c ((T w).given c), around_me c ((T w).landed c)]
  refine (?_ : _ ⊢ (_ : sProp 𝕄))
  iintro ⟨Hls, Hgs, Hl, Hg⟩
  isplitl [Hg Hgs]
  · isplitl [Hg] <;> iassumption
  · isplitl [Hl] <;> iassumption

section Steps

variable (E : Emb (URounds (GSem 8 τ sig) Unit) (MT 8 τ sig Unit Val ℕ U ℕ))
variable {Λ : Idealize.SL.Sem.Labels} {defs : Defs 8 τ sig Val Λ} (𝒱 : Variants)
variable {α : Type} {Q : α → sProp (MT 8 τ sig Unit Val ℕ U ℕ)} {Es : Set ℕ}

/-- A device starts its copy of array `w` into its slot of peer `k`'s destination. `sv` is the source as the copy reads it. -/
theorem wp_put (K : Dev 8 × Cells n → ℕ) (c : Dev 8) (bd : Option 𝒱.V) {l l' : List (Fin n × Fin 7 ⊕ Fin n)} (w : Fin n) {t : Slots τ sig Val U} (ht : T w = t) (k : Fin 7) {dev : Dev 8}
    (hdev : dev = mate k c) {spv : Space} {sv : Memref sig .tc spv ⟨2, ![t.A, t.B]⟩ t.e}
    {off : Fin 3 → ℕ} (hoff : off = ![c.val, 0, 0])
    {inb : ∀ a, off a + (![1, t.A, t.B] : Fin 3 → ℕ) a ≤ (![8, t.A, t.B] : Fin 3 → ℕ) a}
    {hs : ∀ a, (Rect.unit (s := ⟨3, ![8, t.A, t.B]⟩) off ![1, t.A, t.B] inb).stride a = 1}
    {hq : (⟨3, ![1, t.A, t.B]⟩ : Shape).Squeezes ⟨2, ![t.A, t.B]⟩}
    {hsc : ((t.dst.slice (Rect.unit (s := ⟨3, ![8, t.A, t.B]⟩) off ![1, t.A, t.B] inb) hs).squeeze ⟨2, ![t.A, t.B]⟩ hq).view.ref.isScScratch = false}
    {sS sR : SemLoc sig} {hsrc : sv.view.WordExact}
    {hdst : ((t.dst.slice (Rect.unit (s := ⟨3, ![8, t.A, t.B]⟩) off ![1, t.A, t.B] inb) hs).squeeze ⟨2, ![t.A, t.B]⟩ hq).view.WordExact}
    {hsem : DmaTarget.Typed spv sR (.remote (dev : Thread 8 τ)
      ((t.dst.slice (Rect.unit (s := ⟨3, ![8, t.A, t.B]⟩) off ![1, t.A, t.B] inb) hs).squeeze ⟨2, ![t.A, t.B]⟩ hq) sS hsc)}
    {kont : PUnit → Prog (TpuEff 8 τ sig Val Λ (c : Thread 8 τ).2) α}
    (hS : sS = osem (.inr (.inl (w, k)))) (hR : sR = osem (.inl (w, k)))
    (hN : ((t.dst.slice (Rect.unit (s := ⟨3, ![8, t.A, t.B]⟩) off ![1, t.A, t.B] inb) hs).squeeze ⟨2, ![t.A, t.B]⟩ hq).view.amount sR = t.amt)
    (q : PosShare TreeShare) (fs : Buf Val (sv.view.loc (c : Thread 8 τ)))
    (hg : (sv.view.loc (c : Thread 8 τ) ↦[sv.view.set]{q} fs : sProp 𝕄) = t.given c (mate k c))
    (hw : sv.view.read Val fs = fun x => t.src.view.read Val (t.S c) (t.place (mate k c) x)) :
    (exchange T osem inj).sending E K c (.inl (w, k) :: l) l'
      ⊢ iprop(((exchange T osem inj).sending E K c l (.inl (w, k) :: l') -∗ wp frame (wpE defs 𝒱 (c : Thread 8 τ) bd) Es (kont ⟨⟩) Q)
        -∗ wp frame (wpE defs 𝒱 (c : Thread 8 τ) bd) Es (.op (.enqueueDma sv (.remote (dev : Thread 8 τ)
          ((t.dst.slice (Rect.unit (s := ⟨3, ![8, t.A, t.B]⟩) off ![1, t.A, t.B] inb) hs).squeeze ⟨2, ![t.A, t.B]⟩ hq) sS hsc) sR hsrc hdst hsem) kont) Q) := by
  subst ht
  refine (exchange T osem inj).wp_remote E 𝒱 K c bd (w, k) hdev hS hR hN hN q fs (Entails.of_eq hg.symm) ?_ (Entails.of_eq hg) (fun fd => ?_)
  · subst hdev
    refine Entails.of_eq (?_ : (T w).free (mate k c) (mate k (mate k c)) = _)
    rw [mate_mate]
    unfold Slots.free
    rw [slot_set (T w).dst c hoff hq]
  · subst hdev
    refine Entails.of_eq (((T w).written_landed (mate k c) c hoff hq fd _ hw).trans (?_ : _ = (T w).landed (mate k c) (mate k (mate k c))))
    rw [mate_mate]

/-- A device starts its copy of array `w` into its own slot of its own destination. -/
theorem wp_keep (K : Dev 8 × Cells n → ℕ) (c : Dev 8) (bd : Option 𝒱.V) {l l' : List (Fin n × Fin 7 ⊕ Fin n)} (w : Fin n) {t : Slots τ sig Val U} (ht : T w = t)
    {spv : Space} {sv : Memref sig .tc spv ⟨2, ![t.A, t.B]⟩ t.e}
    {off : Fin 3 → ℕ} (hoff : off = ![c.val, 0, 0])
    {inb : ∀ a, off a + (![1, t.A, t.B] : Fin 3 → ℕ) a ≤ (![8, t.A, t.B] : Fin 3 → ℕ) a}
    {hs : ∀ a, (Rect.unit (s := ⟨3, ![8, t.A, t.B]⟩) off ![1, t.A, t.B] inb).stride a = 1}
    {hq : (⟨3, ![1, t.A, t.B]⟩ : Shape).Squeezes ⟨2, ![t.A, t.B]⟩}
    {sT : SemLoc sig} {hsrc : sv.view.WordExact}
    {hdst : ((t.dst.slice (Rect.unit (s := ⟨3, ![8, t.A, t.B]⟩) off ![1, t.A, t.B] inb) hs).squeeze ⟨2, ![t.A, t.B]⟩ hq).view.WordExact}
    {hsem : DmaTarget.Typed (nD := 8) (τ := τ) spv sT (DmaTarget.here (p := (c : Thread 8 τ).2)
      ((t.dst.slice (Rect.unit (s := ⟨3, ![8, t.A, t.B]⟩) off ![1, t.A, t.B] inb) hs).squeeze ⟨2, ![t.A, t.B]⟩ hq))}
    {kont : PUnit → Prog (TpuEff 8 τ sig Val Λ (c : Thread 8 τ).2) α}
    (hT : sT = osem (.inr (.inr w)))
    (hN : ((t.dst.slice (Rect.unit (s := ⟨3, ![8, t.A, t.B]⟩) off ![1, t.A, t.B] inb) hs).squeeze ⟨2, ![t.A, t.B]⟩ hq).view.amount sT = t.amt)
    (q : PosShare TreeShare) (fs : Buf Val (sv.view.loc (c : Thread 8 τ)))
    (hg : (sv.view.loc (c : Thread 8 τ) ↦[sv.view.set]{q} fs : sProp 𝕄) = t.given c c)
    (hw : sv.view.read Val fs = fun x => t.src.view.read Val (t.S c) (t.place c x)) :
    (exchange T osem inj).sending E K c (.inr w :: l) l'
      ⊢ iprop(((exchange T osem inj).sending E K c l (.inr w :: l') -∗ wp frame (wpE defs 𝒱 (c : Thread 8 τ) bd) Es (kont ⟨⟩) Q)
        -∗ wp frame (wpE defs 𝒱 (c : Thread 8 τ) bd) Es (.op (.enqueueDma sv (.here
          ((t.dst.slice (Rect.unit (s := ⟨3, ![8, t.A, t.B]⟩) off ![1, t.A, t.B] inb) hs).squeeze ⟨2, ![t.A, t.B]⟩ hq)) sT hsrc hdst hsem) kont) Q) := by
  subst ht
  refine (exchange T osem inj).wp_local E 𝒱 K c bd w hT hN q fs ?_ (fun fd => ?_)
  · refine Entails.of_eq (?_ : iprop((T w).given c c ∗ (T w).free c c) = _)
    rw [← hg]
    unfold Slots.free
    rw [slot_set (T w).dst c hoff hq]
  · rw [(T w).written_landed c c hoff hq fd _ hw, hg]
    exact Entails.rfl

/-! ### The same for arrays sent whole, named by their buffers -/

section Whole

variable {spA spB : Space} {A B : ℕ} {e : EltTy} {src : Memref sig .tc spA ⟨2, ![A, B]⟩ e} {dst : Memref sig .tc spB ⟨3, ![8, A, B]⟩ e} {hd : dst.IsWhole}
  {S : (c : Dev 8) → Buf Val (src.view.loc (c : Thread 8 τ))} {amt : ℕ} {pos : 0 < amt}

/-- A device starts its copy of the whole array `w` into its slot of peer `k`'s destination. -/
theorem wp_put_whole (K : Dev 8 × Cells n → ℕ) (c : Dev 8) (bd : Option 𝒱.V) {l l' : List (Fin n × Fin 7 ⊕ Fin n)} (w : Fin n)
    (hT : T w = Slots.whole src dst hd S amt pos) (hA : amt = sig.dmaCredit .tc (Kind.tc.table spB) dst.view.buf ⟨2, ![A, B]⟩ e) (hsw : src.IsWhole)
    (k : Fin 7) {dev : Dev 8} (hdev : dev = mate k c) {off : Fin 3 → ℕ} (hoff : off = ![c.val, 0, 0])
    {inb : ∀ a, off a + (![1, A, B] : Fin 3 → ℕ) a ≤ (![8, A, B] : Fin 3 → ℕ) a}
    {hs : ∀ a, (Rect.unit (s := ⟨3, ![8, A, B]⟩) off ![1, A, B] inb).stride a = 1}
    {hq : (⟨3, ![1, A, B]⟩ : Shape).Squeezes ⟨2, ![A, B]⟩}
    {hsc : ((dst.slice (Rect.unit (s := ⟨3, ![8, A, B]⟩) off ![1, A, B] inb) hs).squeeze ⟨2, ![A, B]⟩ hq).view.ref.isScScratch = false}
    {sS sR : DmaSem sig} {hsrc : src.view.WordExact}
    {hdst : ((dst.slice (Rect.unit (s := ⟨3, ![8, A, B]⟩) off ![1, A, B] inb) hs).squeeze ⟨2, ![A, B]⟩ hq).view.WordExact}
    {hsem : DmaTarget.Typed (nD := 8) (τ := τ) spA (.dma sR) (.remote (dev : Thread 8 τ)
      ((dst.slice (Rect.unit (s := ⟨3, ![8, A, B]⟩) off ![1, A, B] inb) hs).squeeze ⟨2, ![A, B]⟩ hq) (.dma sS) hsc)}
    {kont : PUnit → Prog (TpuEff 8 τ sig Val Λ (c : Thread 8 τ).2) α}
    (hS : .dma sS = osem (.inr (.inl (w, k)))) (hR : .dma sR = osem (.inl (w, k))) :
    (exchange T osem inj).sending E K c (.inl (w, k) :: l) l'
      ⊢ iprop(((exchange T osem inj).sending E K c l (.inl (w, k) :: l') -∗ wp frame (wpE defs 𝒱 (c : Thread 8 τ) bd) Es (kont ⟨⟩) Q)
        -∗ wp frame (wpE defs 𝒱 (c : Thread 8 τ) bd) Es (.op (.enqueueDma src (.remote (dev : Thread 8 τ)
          ((dst.slice (Rect.unit (s := ⟨3, ![8, A, B]⟩) off ![1, A, B] inb) hs).squeeze ⟨2, ![A, B]⟩ hq) (.dma sS) hsc) (.dma sR) hsrc hdst hsem) kont) Q) :=
  wp_put T osem inj E 𝒱 K c bd w hT k hdev hoff hS hR hA.symm (eighth (mate k c)) (S c)
    (Slots.whole_given src dst hd S amt pos hsw c _) rfl

/-- A device copies the whole array `w` into its own slot. -/
theorem wp_keep_whole (K : Dev 8 × Cells n → ℕ) (c : Dev 8) (bd : Option 𝒱.V) {l l' : List (Fin n × Fin 7 ⊕ Fin n)} (w : Fin n)
    (hT : T w = Slots.whole src dst hd S amt pos) (hA : amt = sig.dmaCredit .tc (Kind.tc.table spB) dst.view.buf ⟨2, ![A, B]⟩ e) (hsw : src.IsWhole)
    {off : Fin 3 → ℕ} (hoff : off = ![c.val, 0, 0])
    {inb : ∀ a, off a + (![1, A, B] : Fin 3 → ℕ) a ≤ (![8, A, B] : Fin 3 → ℕ) a}
    {hs : ∀ a, (Rect.unit (s := ⟨3, ![8, A, B]⟩) off ![1, A, B] inb).stride a = 1}
    {hq : (⟨3, ![1, A, B]⟩ : Shape).Squeezes ⟨2, ![A, B]⟩}
    {sR : DmaSem sig} {hsrc : src.view.WordExact}
    {hdst : ((dst.slice (Rect.unit (s := ⟨3, ![8, A, B]⟩) off ![1, A, B] inb) hs).squeeze ⟨2, ![A, B]⟩ hq).view.WordExact}
    {hsem : DmaTarget.Typed (nD := 8) (τ := τ) spA (.dma sR) (DmaTarget.here (p := (c : Thread 8 τ).2)
      ((dst.slice (Rect.unit (s := ⟨3, ![8, A, B]⟩) off ![1, A, B] inb) hs).squeeze ⟨2, ![A, B]⟩ hq))}
    {kont : PUnit → Prog (TpuEff 8 τ sig Val Λ (c : Thread 8 τ).2) α}
    (hR : .dma sR = osem (.inr (.inr w))) :
    (exchange T osem inj).sending E K c (.inr w :: l) l'
      ⊢ iprop(((exchange T osem inj).sending E K c l (.inr w :: l') -∗ wp frame (wpE defs 𝒱 (c : Thread 8 τ) bd) Es (kont ⟨⟩) Q)
        -∗ wp frame (wpE defs 𝒱 (c : Thread 8 τ) bd) Es (.op (.enqueueDma src (.here
          ((dst.slice (Rect.unit (s := ⟨3, ![8, A, B]⟩) off ![1, A, B] inb) hs).squeeze ⟨2, ![A, B]⟩ hq)) (.dma sR) hsrc hdst hsem) kont) Q) :=
  wp_keep T osem inj E 𝒱 K c bd w hT hoff hR hA.symm (eighth c) (S c)
    (Slots.whole_given src dst hd S amt pos hsw c _) rfl

end Whole

/-! ### The same for arrays sent block by block -/

section Blocks

variable {spA spB : Space} {R A B : ℕ} {e : EltTy} {src : Memref sig .tc spA ⟨2, ![R, B]⟩ e} {dst : Memref sig .tc spB ⟨3, ![8, A, B]⟩ e} {hd : dst.IsWhole}
  {hR : R = 8 * A} {hA : 0 < A} {hsw : src.IsWhole} {S : (c : Dev 8) → Buf Val (src.view.loc (c : Thread 8 τ))} {amt : ℕ} {pos : 0 < amt}

/-- A device starts its copy of peer `k`'s block of the array `w` into its slot of the peer's destination. -/
theorem wp_put_rows (K : Dev 8 × Cells n → ℕ) (c : Dev 8) (bd : Option 𝒱.V) {l l' : List (Fin n × Fin 7 ⊕ Fin n)} (w : Fin n)
    (hT : T w = Slots.rows src dst hd hR hA hsw S amt pos) (hc : amt = sig.dmaCredit .tc (Kind.tc.table spB) dst.view.buf ⟨2, ![A, B]⟩ e)
    (k : Fin 7) {dev : Dev 8} (hdev : dev = mate k c)
    {offS : Fin 2 → ℕ} (hoffS : offS = ![(mate k c).val * A, 0]) {inbS : ∀ a, offS a + (![A, B] : Fin 2 → ℕ) a ≤ (![R, B] : Fin 2 → ℕ) a}
    {hsS : ∀ a, (Rect.unit (s := ⟨2, ![R, B]⟩) offS ![A, B] inbS).stride a = 1}
    {off : Fin 3 → ℕ} (hoff : off = ![c.val, 0, 0])
    {inb : ∀ a, off a + (![1, A, B] : Fin 3 → ℕ) a ≤ (![8, A, B] : Fin 3 → ℕ) a}
    {hs : ∀ a, (Rect.unit (s := ⟨3, ![8, A, B]⟩) off ![1, A, B] inb).stride a = 1}
    {hq : (⟨3, ![1, A, B]⟩ : Shape).Squeezes ⟨2, ![A, B]⟩}
    {hsc : ((dst.slice (Rect.unit (s := ⟨3, ![8, A, B]⟩) off ![1, A, B] inb) hs).squeeze ⟨2, ![A, B]⟩ hq).view.ref.isScScratch = false}
    {sS sR : DmaSem sig} {hsrc : (src.slice (Rect.unit (s := ⟨2, ![R, B]⟩) offS ![A, B] inbS) hsS).view.WordExact}
    {hdst : ((dst.slice (Rect.unit (s := ⟨3, ![8, A, B]⟩) off ![1, A, B] inb) hs).squeeze ⟨2, ![A, B]⟩ hq).view.WordExact}
    {hsem : DmaTarget.Typed (nD := 8) (τ := τ) spA (.dma sR) (.remote (dev : Thread 8 τ)
      ((dst.slice (Rect.unit (s := ⟨3, ![8, A, B]⟩) off ![1, A, B] inb) hs).squeeze ⟨2, ![A, B]⟩ hq) (.dma sS) hsc)}
    {kont : PUnit → Prog (TpuEff 8 τ sig Val Λ (c : Thread 8 τ).2) α}
    (hS : .dma sS = osem (.inr (.inl (w, k)))) (hRr : .dma sR = osem (.inl (w, k))) :
    (exchange T osem inj).sending E K c (.inl (w, k) :: l) l'
      ⊢ iprop(((exchange T osem inj).sending E K c l (.inl (w, k) :: l') -∗ wp frame (wpE defs 𝒱 (c : Thread 8 τ) bd) Es (kont ⟨⟩) Q)
        -∗ wp frame (wpE defs 𝒱 (c : Thread 8 τ) bd) Es (.op (.enqueueDma (src.slice (Rect.unit (s := ⟨2, ![R, B]⟩) offS ![A, B] inbS) hsS) (.remote (dev : Thread 8 τ)
          ((dst.slice (Rect.unit (s := ⟨3, ![8, A, B]⟩) off ![1, A, B] inb) hs).squeeze ⟨2, ![A, B]⟩ hq) (.dma sS) hsc) (.dma sR) hsrc hdst hsem) kont) Q) :=
  wp_put T osem inj E 𝒱 K c bd w hT k hdev (sv := src.slice (Rect.unit (s := ⟨2, ![R, B]⟩) offS ![A, B] inbS) hsS) hoff hS hRr hc.symm fullShare (S c)
    (congrArg (fun X => (src.view.loc (c : Thread 8 τ) ↦[X]{fullShare} S c : sProp 𝕄)) (rowBlock_set src (mate k c) hoffS hA)) (rowBlock_read src (mate k c) hoffS hR (S c))

/-- A device copies its own block of the array `w` into its own slot. -/
theorem wp_keep_rows (K : Dev 8 × Cells n → ℕ) (c : Dev 8) (bd : Option 𝒱.V) {l l' : List (Fin n × Fin 7 ⊕ Fin n)} (w : Fin n)
    (hT : T w = Slots.rows src dst hd hR hA hsw S amt pos) (hc : amt = sig.dmaCredit .tc (Kind.tc.table spB) dst.view.buf ⟨2, ![A, B]⟩ e)
    {offS : Fin 2 → ℕ} (hoffS : offS = ![c.val * A, 0]) {inbS : ∀ a, offS a + (![A, B] : Fin 2 → ℕ) a ≤ (![R, B] : Fin 2 → ℕ) a}
    {hsS : ∀ a, (Rect.unit (s := ⟨2, ![R, B]⟩) offS ![A, B] inbS).stride a = 1}
    {off : Fin 3 → ℕ} (hoff : off = ![c.val, 0, 0])
    {inb : ∀ a, off a + (![1, A, B] : Fin 3 → ℕ) a ≤ (![8, A, B] : Fin 3 → ℕ) a}
    {hs : ∀ a, (Rect.unit (s := ⟨3, ![8, A, B]⟩) off ![1, A, B] inb).stride a = 1}
    {hq : (⟨3, ![1, A, B]⟩ : Shape).Squeezes ⟨2, ![A, B]⟩}
    {sR : DmaSem sig} {hsrc : (src.slice (Rect.unit (s := ⟨2, ![R, B]⟩) offS ![A, B] inbS) hsS).view.WordExact}
    {hdst : ((dst.slice (Rect.unit (s := ⟨3, ![8, A, B]⟩) off ![1, A, B] inb) hs).squeeze ⟨2, ![A, B]⟩ hq).view.WordExact}
    {hsem : DmaTarget.Typed (nD := 8) (τ := τ) spA (.dma sR) (DmaTarget.here (p := (c : Thread 8 τ).2)
      ((dst.slice (Rect.unit (s := ⟨3, ![8, A, B]⟩) off ![1, A, B] inb) hs).squeeze ⟨2, ![A, B]⟩ hq))}
    {kont : PUnit → Prog (TpuEff 8 τ sig Val Λ (c : Thread 8 τ).2) α}
    (hRr : .dma sR = osem (.inr (.inr w))) :
    (exchange T osem inj).sending E K c (.inr w :: l) l'
      ⊢ iprop(((exchange T osem inj).sending E K c l (.inr w :: l') -∗ wp frame (wpE defs 𝒱 (c : Thread 8 τ) bd) Es (kont ⟨⟩) Q)
        -∗ wp frame (wpE defs 𝒱 (c : Thread 8 τ) bd) Es (.op (.enqueueDma (src.slice (Rect.unit (s := ⟨2, ![R, B]⟩) offS ![A, B] inbS) hsS) (.here
          ((dst.slice (Rect.unit (s := ⟨3, ![8, A, B]⟩) off ![1, A, B] inb) hs).squeeze ⟨2, ![A, B]⟩ hq)) (.dma sR) hsrc hdst hsem) kont) Q) :=
  wp_keep T osem inj E 𝒱 K c bd w hT (sv := src.slice (Rect.unit (s := ⟨2, ![R, B]⟩) offS ![A, B] inbS) hsS) hoff hRr hc.symm fullShare (S c)
    (congrArg (fun X => (src.view.loc (c : Thread 8 τ) ↦[X]{fullShare} S c : sProp 𝕄)) (rowBlock_set src c hoffS hA)) (rowBlock_read src c hoffS hR (S c))

end Blocks

end Steps

end Cert.Talk

end
-- ==== Proof.TalkLaunch.lean ====
/-
The launch of a program whose FIRST region talks across devices without a barrier.

A device may receive a transfer before it has entered that region, so the invariants of the region's own (scoped) semaphores must be open from the
launch on, on every device at once: here every core's own semaphores of the first region are dealt globally (`hinit`), the rest of each core's region
boundary (`opened`) stays with the core, and after the region's exit the boundary is whole again and the remaining segments run as usual.
-/
module

public import Idealize.ShloMosaic.Lib.Pipeline.Regions

@[expose] public section

noncomputable section

namespace Cert.Talk

open Idealize.ShloMosaic
open Idealize.SL
open Idealize.SL.BI (sProp bigSep bigSep_sep' bigSep_mono bigSep_congr bigSep_univ_prod bigSep_fupd)
open scoped Idealize.SL.BI
open Idealize.SL.BI.BIBase Idealize.SL.BI.Laws Idealize.SL.Sem Idealize.SL.ProofMode
open Idealize.SL.RA
open TcCoe
open Idealize.ShloMosaic.Rounds
open Idealize.ShloMosaic.Pipeline
open Idealize.SL.RA.PCS

set_option Elab.async false

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]
variable (pcs : P → PCfg sig Λ₀ Val) (a : (p : P) → (pcs p).Adm)
  (rdats : (p : P) → (c : Dev nD) → RDat τ Val Ix Name U Lvl (pin pcs a p) c) (ι : Ix)
  (phinj : Function.Injective (cellOf (nD := nD) (pin pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

/-- The first region's record: as a region segment's, but its own semaphores are not found at zero at the entry (they have been in invariants since
    the launch); the region leaves them at zero. -/
structure First (p : P) where
  win : WinFacts₀ (pcs p).spec
  block_pos : ∀ w : Fin (pcs p).W, 0 < ((pcs p).spec w).block.numel
  stage_whole : ∀ (w : Fin (pcs p).W) (s : Fin ((pcs p).spec w).nbuf), (((pcs p).spec w).stage s).IsWhole
  K : Type
  [fK : Fintype K]
  osem : K → SemLoc sig
  ho : OwnSemFacts (pcs p).spec osem
  hbody : ∀ c, (rdats p c).BodyObligation defs₀ 𝒱₀ ι Set.univ
  hwaits : ∀ c, (levAts L lv : sProp 𝕄) ⊢ PerCore.RDat.cellsWaits (pinD pcs fun _ => a) rdats ι p c
  pre : Dev nD → sProp 𝕄
  post : Dev nD → sProp 𝕄
  X : Dev nD → sProp 𝕄
  Y : Dev nD → sProp 𝕄
  Z : Dev nD → sProp 𝕄
  hentry : ∀ c, iprop(pre c ∗ levAts L lv)
    ⊢ |={Set.univ}=> iprop((rdats p c).arrays (rdats p c).A ∗ prefHeld (pcs p).pre c (fun _ => fullShare) (a p).1
        ∗ (rdats p c).owesAt ι 0 ∗ X c ∗ Z c)
  hin : ∀ c, iprop(X c ∗ prefHeld (pcs p).pre c (fun _ => fullShare) (a p).1 ∗ scopedRest (pcs p).spec c) ⊢ (rdats p c).Φ 0
  hout : ∀ c, (rdats p c).Φ (Fin.last (pin pcs a p).N) ⊢ iprop(Y c ∗ ownSems0 osem c ∗ scopedRest (pcs p).spec c)
  hexit : ∀ c, iprop((rdats p c).arraysAt (pin pcs a p).N ∗ (rdats p c).owesAt ι (Fin.last (pin pcs a p).N) ∗ Y c ∗ Z c)
    ⊢ |={Set.univ}=> post c

attribute [instance] First.fK

variable {pcs a rdats ι defs₀ 𝒱₀ L lv}

/-- A core's region boundary with the first region's own semaphores taken out. -/
def First.opened {p : P} (R : First pcs a rdats ι defs₀ 𝒱₀ L lv p) (c : Dev nD) : sProp 𝕄 :=
  iprop(scopedBufs (c.tc : Thread nD τ) ∗ PerCore.cellsSems0 (pinD pcs fun _ => a) p c
    ∗ PerCore.idleSems0 (pinD pcs fun _ => a) phinj p (fun _ => R.ho) c ∗ opIdle (c.tc : Thread nD τ))

/-- The boundary is those parts. -/
theorem First.boundary_open {p : P} (R : First pcs a rdats ι defs₀ 𝒱₀ L lv p) (c : Dev nD) :
    (boundary (c.tc : Thread nD τ) : sProp 𝕄) ⊢ iprop(R.opened phinj c ∗ ownSems0 R.osem c) := by
  unfold boundary First.opened
  rw [PerCore.scopedSems0_split (pinD pcs fun _ => a) phinj p (fun _ => R.win) (fun _ => R.ho) (Ix := Ix) (Val := Val) (Name := Name) (U := U) (Lvl := Lvl) c]
  iintro ⟨Hs, ⟨⟨Hc, Ho⟩, Hi⟩, Hop⟩
  isplitr [Ho]
  · isplitl [Hs]; · iexact Hs
    isplitl [Hc]; · iexact Hc
    isplitl [Hi] <;> iassumption
  iexact Ho

include phinj in
/-- The first region's step: from the opened boundary to the whole one. -/
theorem First.wp [∀ e, Nonempty (Val e)] [Infinite Name] [EP.LandsIn (upEmb : UEmb _ 𝕄)]
    {p : P} (R : First pcs a rdats ι defs₀ 𝒱₀ L lv p) (c : Dev nD) {α : Type}
    (k : PUnit → Prog (TpuEff nD τ sig Val (Sig Λ₀ P fun p => (pcs p).Adm) .tc) α) (Q : α → sProp 𝕄) :
    iprop((iprop(boundary (c.tc : Thread nD τ) ∗ R.post c) -∗ wp frame (wpE 𝔻 𝕍 (c.tc : Thread nD τ) none) Set.univ (k ⟨⟩) Q)
        ∗ R.opened phinj c ∗ R.pre c ∗ levAts L lv
        ∗ PerCore.cellsGhost (pinD pcs fun _ => a) EP p c ∗ PerCore.toksInit (pinD pcs fun _ => a) EP p c)
      ⊢ wp frame (wpE 𝔻 𝕍 (c.tc : Thread nD τ) none) Set.univ (.op (.customCall (entry p) ()) k) Q := by
  classical
  have hbufs := PerCore.scopedBufs_split (pinD pcs fun _ => a) p c R.win.stage_scoped R.win.stage_inj R.stage_whole
    (nD := nD) (τ := τ) (Ix := Ix) (Val := Val) (Name := Name) (U := U) (Lvl := Lvl)
  have hleave : iprop((rdats p c).Φ (Fin.last (pinD pcs (fun _ => a) c p).N) ∗ PerCore.cellsSems0 (pinD pcs fun _ => a) p c
        ∗ Dat.staging (pinD pcs (fun _ => a) c p) c ∗ PerCore.idleSems0 (pinD pcs fun _ => a) phinj p (fun _ => R.ho) c)
      ⊢ iprop(R.Y c ∗ scopedSems0 (c.tc : Thread nD τ) ∗ scopedBufs (c.tc : Thread nD τ)) := by
    rw [PerCore.scopedSems0_split (pinD pcs fun _ => a) phinj p (fun _ => R.win) (fun _ => R.ho) (Ix := Ix) (Val := Val) (Name := Name) (U := U) (Lvl := Lvl) c, hbufs]
    refine (sep_mono_left (R.hout c)).trans ?_
    iintro ⟨⟨HY, Ho, Hr⟩, Hc, Hs, Hi⟩
    isplitl [HY]; · iexact HY
    isplitl [Hc Ho Hi]
    · isplitr [Hi]; · isplitl [Hc] <;> iassumption
      iexact Hi
    isplitl [Hs] <;> iassumption
  unfold First.opened
  iintro ⟨Hk, ⟨Hsb, Hcells, Hidle, Hop⟩, Hpre, #Hlev, Hg, Ht⟩
  iapply (fupd_wp frame (wpE 𝔻 𝕍 (c.tc : Thread nD τ) none) Set.univ _ _)
  imod (PerCore.RDat.cellsInit_alloc (pinD pcs fun _ => a) rdats EP phinj p c) $$ [Hcells Hg] with ⟨%κ, -, Hcells⟩
  · isplitl [Hcells] <;> iassumption
  imod (R.hentry c) $$ [Hpre] with ⟨Harr, Hpf, HO, HX, HZ⟩
  · isplitl [Hpre]; · iexact Hpre
    iexact Hlev
  ihave Hw := (R.hwaits c) $$ Hlev
  imodintro
  iapply (PerCore.RDat.wp_customCall_entry_frame pcs (fun _ => a) rdats ι EP κ phinj p defs₀ 𝒱₀ (fun _ => fullShare) c Set.univ (fun _ _ => Set.mem_univ _)
      (R.hbody c) R.block_pos none (fun u h => nomatch h) (X := R.X c) (Y := R.Y c) (R := scopedRest (pcs p).spec c)
      (I := PerCore.idleSems0 (pinD pcs fun _ => a) phinj p (fun _ => R.ho) c) (Entails.of_eq hbufs) (R.hin c) hleave (k := k) (Q := Q))
    $$ [Harr HO Hw Hcells Ht Hpf HX Hidle Hsb]
  · isplitl [Harr HO Hw Hcells Ht]
    · unfold PerCore.RDat.EntryPre
      isplitl [Harr]; · iexact Harr
      isplitl [HO]; · iexact HO
      isplitl [Hw]; · iexact Hw
      isplitl [Hcells] <;> iassumption
    isplitl [Hpf]; · iexact Hpf
    isplitl [HX]; · iexact HX
    isplitl [Hidle] <;> iassumption
  iintro ⟨Hpost, HY, Hss, Hsb⟩
  unfold PerCore.RDat.EntryPost
  icases Hpost with ⟨Harr, HO⟩
  iapply (fupd_wp frame (wpE 𝔻 𝕍 (c.tc : Thread nD τ) none) Set.univ _ _)
  imod (R.hexit c) $$ [Harr HO HY HZ] with Hpost
  · isplitl [Harr]; · iexact Harr
    isplitl [HO]; · iexact HO
    isplitl [HY] <;> iassumption
  imodintro
  iapply Hk
  isplitr [Hpost]
  · unfold boundary
    isplitl [Hsb]; · iexact Hsb
    isplitl [Hss] <;> iassumption
  iexact Hpost

/-- The levels of every core's cells, assigned at the launch. -/
theorem levels_assign (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have hother : (bigSep Finset.univ fun d : Dev nD => bigSep (Finset.univ.erase Proc.tc) fun p => (coreLevAts ((d, p) : Thread nD τ) L lv : sProp 𝕄)) = BI.emp := by
    have h0 (d : Dev nD) (p : Proc τ) (hp : p ∈ Finset.univ.erase Proc.tc) : (coreLevAts ((d, p) : Thread nD τ) L lv : sProp 𝕄) = BI.emp := by
      unfold coreLevAts
      rw [bigSep_congr (Ψ := fun _ : SemLoc sig => (BI.emp : sProp 𝕄)) fun sm _ => by rw [hL ((d, p), sm) (Finset.ne_of_mem_erase hp), BI.bigSep_empty],
        BI.bigSep_emp_const]
    rw [bigSep_congr (Ψ := fun _ : Dev nD => (BI.emp : sProp 𝕄)) fun d _ => (bigSep_congr (h0 d)).trans (BI.bigSep_emp_const _), BI.bigSep_emp_const]
  refine (bigSep_mono fun c _ => lev_assign_cells (c.tc : Thread nD τ) L lv).trans <| (BI.bigSep_bupd _ _).trans <| BI.bupd_mono ?_
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), hother, bigSep_sep']
  have hswap (A B : sProp 𝕄) : iprop(A ∗ B) ⊢ iprop(B ∗ emp) := by
    iintro ⟨-, H⟩
    isplitl [H]; · iexact H
    iempintro
  exact hswap _ _

include phinj in
/-- @main is the first region `p₀`, talking from the launch on, and then the segments `rest c`. -/
theorem θ_run_first [DecidableEq P] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    {p₀ : P} (R₀ : First pcs a rdats ι defs₀ 𝒱₀ L lv p₀)
    (rest : Dev nD → List (RDat.Seg pcs a rdats ι defs₀ 𝒱₀ L lv))
    (hmain : ∀ c, main c = .op (.customCall (entry p₀) ()) fun _ => RDat.Seg.run (rest c))
    (hnd : ∀ c, (RDat.Seg.pipes (rest c)).Nodup) (hp₀ : ∀ c, p₀ ∉ RDat.Seg.pipes (rest c))
    (O₀ : Dev nD → CellTallies nD τ sig Ix) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (Tₙ : Dev nD → sProp 𝕄)
    (hch : ∀ c, RDat.Seg.ChainsAt c R₀.post (rest c) fun c => iprop(Tₙ c ∗ ∃ W, owes (c.tc : Thread nD τ) (0 : CellTallies nD τ sig Ix) W))
    (hinit : iprop((bigSep Finset.univ fun c : Dev nD => iprop(ownSems0 R₀.osem c ∗ unscopedBufs c (fun b => m ((c.tc : Thread nD τ).loc b))
          ∗ owes (c.tc : Thread nD τ) (O₀ c) ∅ ∗ launchCred O₀ c ∗ G c)) ∗ levAts L lv)
      ⊢ |={Set.univ}=> bigSep Finset.univ R₀.pre)
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let start : Dev nD → sProp 𝕄 := fun c => iprop(R₀.opened phinj c ∗ R₀.pre c ∗ levAts L lv ∗ PerCore.ghostOn pcs (fun _ => a) EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => start) (fun _ => fin)
      (fun _ => iprop(emp)) Set.univ ?_ (fun _ c => ?_) fun _ => ?_))
  · have hdeal (c : Dev nD) : iprop(coreInit (Ix := Ix) (Name := Name) (U := U) (Lvl := Lvl) (owing O₀) 0 (⟨m, fun _ => 0, g⟩ : MemSt nD τ sig Val) (c.tc : Thread nD τ) ∗ G c)
        ⊢ iprop(R₀.opened phinj c ∗ iprop(ownSems0 R₀.osem c ∗ unscopedBufs c (fun b => m ((c.tc : Thread nD τ).loc b))
            ∗ owes (c.tc : Thread nD τ) (O₀ c) ∅ ∗ launchCred O₀ c ∗ G c) ∗ levels0 c) := by
      refine (sep_mono_left ((coreInit_boundary_owing O₀ m g c).trans (sep_mono_left (R₀.boundary_open phinj c)))).trans ?_
      iintro ⟨⟨⟨Hopen, Hown⟩, Hbufs, -, HO, Hlv, -, Hcr⟩, HG⟩
      isplitl [Hopen]; · iexact Hopen
      isplitr [Hlv]
      · isplitl [Hown]; · iexact Hown
        isplitl [Hbufs]; · iexact Hbufs
        isplitl [HO]; · iexact HO
        isplitl [Hcr] <;> iassumption
      iexact Hlv
    have hdealt := (Entails.of_eq (bigSep_sep' Finset.univ (fun c : Dev nD => coreInit (Ix := Ix) (Name := Name) (U := U) (Lvl := Lvl) (owing O₀) 0
        (⟨m, fun _ => 0, g⟩ : MemSt nD τ sig Val) (c.tc : Thread nD τ)) G).symm).trans
      (bigSep_mono (s := Finset.univ) fun c _ => hdeal c)
    rw [bigSep_sep', bigSep_sep'] at hdealt
    iintro ⟨Hcores, Hu⟩
    imod hu₀ $$ Hu with ⟨HP, HG⟩
    imod (PerCore.fund_ghost (pinD pcs fun _ => a) EP phinj) $$ HP with ⟨Hg, Ht⟩
    ihave Hd := hdealt $$ [Hcores HG]
    · isplitl [Hcores] <;> iassumption
    icases Hd with ⟨Hopen, Hown, Hlv⟩
    imod (levels_assign (L := L) (lv := lv) hL) $$ Hlv with #Hlev
    imod hinit $$ [Hown] with HT
    · isplitl [Hown]; · iexact Hown
      iexact Hlev
    imodintro
    iexists ()
    isplitr []
    · simp only [start, PerCore.ghostOn, bigSep_sep']
      isplitl [Hopen]; · iexact Hopen
      isplitl [HT]; · iexact HT
      isplitr; · iapply (BI.bigSep_intro_persistent (S := Finset.univ) fun (c : Dev nD) _ => (BI.Entails.refl (levAts L lv : sProp 𝕄))); iexact Hlev
      isplitl [Hg] <;> iassumption
    · iempintro
  · simp only [start]
    rw [hmain c, PerCore.ghostOn_erase pcs (fun _ => a) EP (Finset.mem_univ p₀)]
    have hrest := RDat.wp_segs pcs a rdats ι phinj EP defs₀ 𝒱₀ L lv c (Q := fun _ => post (liftTc fin BI.emp) (c.tc : Thread nD τ)) (rest c) (Finset.univ.erase p₀) R₀.post _ (hnd c)
      (fun p hp => Finset.mem_erase.mpr ⟨fun h => hp₀ c (h ▸ hp), Finset.mem_univ p⟩) (hch c)
    iintro ⟨Hopen, HT, #Hlev, ⟨Hg, Ht⟩, Hrest⟩
    iapply (R₀.wp phinj EP c)
    isplitr [Hopen HT Hg Ht]
    · iintro ⟨Hbd, Hpost⟩
      iapply hrest
      isplitr [Hbd Hpost Hrest]
      · iintro ⟨Hbd, HT, HW⟩
        unfold post; simp only [liftTc_tc, fin]
        isplitr [HW]
        · isplitl [HT] <;> iassumption
        iexact HW
      isplitl [Hbd]; · iexact Hbd
      isplitl [Hpost]; · iexact Hpost
      isplitr; · iexact Hlev
      iexact Hrest
    isplitl [Hopen]; · iexact Hopen
    isplitl [HT]; · iexact HT
    isplitr; · iexact Hlev
    isplitl [Hg] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Talk

end
-- ==== Proof.TalkRegion.lean ====
/-
A region without windows whose body is one exchange of several arrays, as the first region of @main.

`talkDat` is its proof data: before the body the device holds what its transfers need and owes the arrivals, after it the arrays landed and the semaphores
at zero. `first` is its record, `held_open` and `held_close` trade the buffers a device holds for the arrays of the exchange and back.
-/
module

public import proofs.«01_k».proof.Proof.TalkSlots
public import proofs.«01_k».proof.Proof.TalkLaunch
public import Idealize.ShloMosaic.Lib.Pipeline.RegionArraysS

@[expose] public section

noncomputable section

namespace Cert.Talk

open Idealize.ShloMosaic
open Idealize.SL
open Idealize.SL.BI (sProp bigSep bigSepL bigSep_sep' bigSep_mono bigSep_congr bigSep_map)
open scoped Idealize.SL.BI
open Idealize.SL.BI.BIBase Idealize.SL.BI.Laws Idealize.SL.Sem Idealize.SL.ProofMode
open Idealize.SL.RA
open Idealize.ShloMosaic.Pipeline
open Idealize.ShloMosaic.Rounds
open TcCoe

set_option Elab.async false

variable {τ : Topo} {sig : RefSig} {Val : EltTy → Type} [∀ e, Nonempty (Val e)] {U : Type} [URA U]

local notation "𝕄" => MT 8 τ sig Unit Val ℕ U ℕ

variable {n : ℕ} (T : Fin n → Slots τ sig Val U) (osem : Cells n → SemLoc sig) (inj : Function.Injective osem)
variable (E : Emb (URounds (GSem 8 τ sig) Unit) (MT 8 τ sig Unit Val ℕ U ℕ)) (moves : List (Fin n × Fin 7 ⊕ Fin n))

/-- What device `c` is credited: one arrival per array and peer. -/
def credits (c : Dev 8) : sProp 𝕄 :=
  bigSep Finset.univ fun j => cred (tallyAt ((exchange T osem inj).cell (c, (exchange T osem inj).arr j)) () ((exchange T osem inj).amt ((exchange T osem inj).arr j)))

/-- What the waits leave: the payloads and the semaphores at zero. -/
def settledAll (c : Dev 8) : sProp 𝕄 :=
  iprop((bigSep Finset.univ fun i => (exchange T osem inj).pay c i) ∗ bigSep Finset.univ fun i => semVal ((exchange T osem inj).cell (c, i)) 0)

variable {Λ₀ : Idealize.SL.Sem.Labels}

/-- The exchange's proof data. -/
def talkDat (cfg : Cfg sig Λ₀) (hW : IsEmpty (Fin cfg.W)) (c : Dev 8) : Dat τ Val Unit ℕ U ℕ cfg c where
  A w := hW.elim w
  after w := hW.elim w
  Φ t := if t.val = 0 then iprop((exchange T osem inj).start E c ∗ credits T osem inj c ∗ scopedRest cfg.spec c)
    else iprop(settledAll T osem inj c ∗ scopedRest cfg.spec c)
  q _ := fullShare
  owed t := if t.val = 0 then (exchange T osem inj).owing c moves else 0

section Data

variable {T osem inj E moves} {cfg : Cfg sig Λ₀} {hW : IsEmpty (Fin cfg.W)} {c : Dev 8}

theorem talk_pre {t : Fin (cfg.N + 1)} (h : t.val = 0) :
    (talkDat T osem inj E moves cfg hW c).Φ t = iprop((exchange T osem inj).start E c ∗ credits T osem inj c ∗ scopedRest cfg.spec c) := if_pos h
theorem talk_post {t : Fin (cfg.N + 1)} (h : t.val ≠ 0) :
    (talkDat T osem inj E moves cfg hW c).Φ t = iprop(settledAll T osem inj c ∗ scopedRest cfg.spec c) := if_neg h
theorem talk_owed {t : Fin (cfg.N + 1)} (h : t.val = 0) : (talkDat T osem inj E moves cfg hW c).owed t = (exchange T osem inj).owing c moves := if_pos h
theorem talk_free {t : Fin (cfg.N + 1)} (h : t.val ≠ 0) : (talkDat T osem inj E moves cfg hW c).owed t = 0 := if_neg h

theorem talk_obligation (hN : cfg.N = 1) {defs₀ : Defs 8 τ sig Val Λ₀} {𝒱₀ : Variants}
    (hbody : ∀ (t : Fin cfg.N) (W : Waits sig Unit), iprop((exchange T osem inj).start E c ∗ owes (c : Thread 8 τ) ((exchange T osem inj).owing c moves) W ∗ credits T osem inj c)
      ⊢ wp frame (wpE defs₀ 𝒱₀ (c : Thread 8 τ) none) Set.univ (defs₀ .tc cfg.body (cfg.bodyArgs t (cfg.slots t)))
        fun _ => iprop(settledAll T osem inj c ∗ ∃ W, owes (c : Thread 8 τ) (0 : CellTallies 8 τ sig Unit) W)) :
    BodyObligation (talkDat T osem inj E moves cfg hW c) defs₀ 𝒱₀ () Set.univ := by
  intro t
  dsimp only
  have ht : t.val = 0 := by have := t.isLt; omega
  have hs : t.succ.val ≠ 0 := Nat.succ_ne_zero _
  have h0 : t.castSucc.val = 0 := ht
  rw [talk_pre h0, talk_post hs, Finset.univ_eq_empty, BI.bigSep_empty, BI.bigSep_empty]
  unfold Dat.owesAt
  rw [talk_owed h0, talk_free hs]
  unfold owesWithin
  iintro ⟨⟨Hs, Hc, Hr⟩, ⟨%W, -, HO⟩, -⟩
  ihave Hw := (hbody t W) $$ [Hs HO Hc]
  · isplitl [Hs]; · iexact Hs
    isplitl [HO] <;> iassumption
  iapply (wp_wand frame (wpE defs₀ 𝒱₀ (c : Thread 8 τ) none)) $$ Hw
  iintro %u ⟨Hp, ⟨%W', HO⟩⟩
  isplitr [HO]
  · isplitl [Hp] <;> iassumption
  isplitl [HO]
  · iexists W'
    isplitr
    · ipureintro; exact fun _ _ => Or.inl trivial
    iexact HO
  iempintro

end Data

section Record

variable {P : Type} [Fintype P] (pcs : P → PCfg sig Λ₀ Val) (a : (p : P) → (pcs p).Adm)
  (rdats : (p : P) → (c : Dev 8) → RDat τ Val Unit ℕ U ℕ (pin pcs a p) c)
  (defs₀ : Defs 8 τ sig Val Λ₀) (𝒱₀ : Variants) (p : P)

/-- The region's record; `kept` is what the device holds beside the exchange's arrays. -/
def first (kit : PLaunchFacts (nD := 8) (τ := τ) pcs p) (hK : (pcs p).pre.K = 0) (hW : IsEmpty (Fin (pin pcs a p).W)) (hN : (pin pcs a p).N = 1)
    (hr : ∀ c, rdats p c = (talkDat T osem inj E moves (pin pcs a p) hW c).toR)
    (ho : OwnSemFacts (pcs p).spec osem)
    (hbody : ∀ (c : Dev 8) (t : Fin (pin pcs a p).N) (W : Waits sig Unit),
      iprop((exchange T osem inj).start E c ∗ owes (c : Thread 8 τ) ((exchange T osem inj).owing c moves) W ∗ credits T osem inj c)
      ⊢ wp frame (wpE defs₀ 𝒱₀ (c : Thread 8 τ) none) Set.univ (defs₀ .tc (pin pcs a p).body ((pin pcs a p).bodyArgs t ((pin pcs a p).slots t)))
        fun _ => iprop(settledAll T osem inj c ∗ ∃ W, owes (c : Thread 8 τ) (0 : CellTallies 8 τ sig Unit) W))
    (kept : Dev 8 → sProp 𝕄) :
    First pcs a rdats () defs₀ 𝒱₀ Exchange.L (exchange T osem inj).lv p where
  win := kit.win.to₀
  block_pos := kit.block_pos
  stage_whole := kit.stage_whole
  K := Cells n
  osem := osem
  ho := ho
  hbody c := by
    rw [hr c]
    exact (talk_obligation hN (hbody c)).toR
  hwaits c := by
    refine PerCore.RDat.cellsWaits_intro _ _ _ _ _ fun w => hW.elim w
  pre c := iprop((exchange T osem inj).start E c ∗ credits T osem inj c ∗ owes (c : Thread 8 τ) ((exchange T osem inj).owing c moves) ∅ ∗ kept c)
  post c := iprop((bigSep Finset.univ fun w => iprop((T w).source c ∗ (T w).target c ((T w).G c))) ∗ kept c ∗ ∃ W, owes (c : Thread 8 τ) (0 : CellTallies 8 τ sig Unit) W)
  X c := iprop((exchange T osem inj).start E c ∗ credits T osem inj c)
  Y c := bigSep Finset.univ fun w => iprop((T w).source c ∗ (T w).target c ((T w).G c))
  Z := kept
  hentry c := by
    rw [hr c, prefHeld_of_none _ hK]
    have harr : ((talkDat T osem inj E moves (pin pcs a p) hW c).toR.arrays (talkDat T osem inj E moves (pin pcs a p) hW c).toR.A : sProp 𝕄) = BI.emp := by
      unfold RDat.arrays; rw [Finset.univ_eq_empty, BI.bigSep_empty]
    rw [harr]
    have hO : (talkDat T osem inj E moves (pin pcs a p) hW c).toR.owed 0 = (exchange T osem inj).owing c moves := by
      show (talkDat T osem inj E moves (pin pcs a p) hW c).owed 0 = _
      exact talk_owed (t := 0) rfl
    unfold RDat.owesAt
    rw [hO]
    unfold owesWithin
    iintro ⟨⟨Hs, Hc, HO, Hk⟩, -⟩
    imodintro
    isplitr; · iempintro
    isplitr; · iempintro
    isplitl [HO]
    · iexists ∅
      isplitr
      · ipureintro; exact fun _ _ => Or.inl trivial
      iexact HO
    isplitl [Hs Hc]
    · isplitl [Hs] <;> iassumption
    iexact Hk
  hin c := by
    rw [hr c, prefHeld_of_none _ hK]
    refine BI.Entails.trans ?_ (Entails.of_eq (talk_pre (T := T) (osem := osem) (inj := inj) (E := E) (moves := moves) (hW := hW) (c := c) (t := 0) rfl).symm)
    refine (?_ : _ ⊢ (_ : sProp 𝕄))
    iintro ⟨⟨Hs, Hc⟩, -, Hr⟩
    isplitl [Hs]; · iexact Hs
    isplitl [Hc] <;> iassumption
  hout c := by
    have hN0 : (Fin.last (pin pcs a p).N).val ≠ 0 := by rw [Fin.val_last, hN]; exact one_ne_zero
    rw [hr c]
    refine (Entails.of_eq (talk_post (T := T) (osem := osem) (inj := inj) (E := E) (moves := moves) (hW := hW) (c := c) (t := Fin.last _) hN0)).trans ?_
    have e : (ownSems0 osem c : sProp 𝕄) = bigSep Finset.univ fun i => semVal ((exchange T osem inj).cell (c, i)) 0 := rfl
    rw [e]
    unfold settledAll
    iintro ⟨⟨Hp, Hs⟩, Hr⟩
    isplitl [Hp]
    · iapply (closed T osem inj c); iexact Hp
    isplitl [Hs]; · iexact Hs
    iexact Hr
  hexit c := by
    have hN0 : (Fin.last (pin pcs a p).N).val ≠ 0 := by rw [Fin.val_last, hN]; exact one_ne_zero
    rw [hr c]
    have hO : (talkDat T osem inj E moves (pin pcs a p) hW c).toR.owed (Fin.last _) = 0 := by
      show (talkDat T osem inj E moves (pin pcs a p) hW c).owed (Fin.last _) = 0
      exact talk_free (t := Fin.last _) hN0
    unfold RDat.owesAt
    rw [hO]
    unfold owesWithin
    iintro ⟨-, ⟨%W, -, HO⟩, HY, HZ⟩
    imodintro
    isplitl [HY]; · iexact HY
    isplitl [HZ]; · iexact HZ
    iexists W; iexact HO

end Record

/-! ### The buffers a device holds -/

section Held

variable {T} (refs : Fin n ⊕ Fin n → DevRef τ sig) (S : Finset (DevRef τ sig))

/-- The buffers of the exchange. -/
def mine : Finset (DevRef τ sig) := Finset.univ.image refs

theorem held_image (hrefs : Function.Injective refs) (c : Dev 8) (V : Valuation τ sig Val) :
    (StableHlo.held (c : Thread 8 τ) (mine refs) V : sProp 𝕄)
      = iprop((bigSep Finset.univ fun w => ((c, refs (.inl w)) ↦{fullShare} V (refs (.inl w)))) ∗ bigSep Finset.univ fun w => ((c, refs (.inr w)) ↦{fullShare} V (refs (.inr w)))) := by
  unfold StableHlo.held mine
  rw [show Finset.univ.image refs = Finset.univ.map ⟨refs, hrefs⟩ from (Finset.map_eq_image ⟨refs, hrefs⟩ _).symm, bigSep_map, univ_sum]
  rfl

variable (hrefs : Function.Injective refs) (hS : mine refs ⊆ S)

include hrefs hS in
/-- Held buffers give the sources at their contents, the targets at some contents, and the rest. -/
theorem held_open (c : Dev 8) (V : Valuation τ sig Val)
    (hsrc : ∀ w, (((c, refs (.inl w)) : Loc 8 τ sig) ↦{fullShare} V (refs (.inl w)) : sProp 𝕄) ⊢ (T w).source c)
    (hdst : ∀ w, (((c, refs (.inr w)) : Loc 8 τ sig) ↦{fullShare} V (refs (.inr w)) : sProp 𝕄) ⊢ iprop(∃ f, (T w).target c f)) :
    (StableHlo.held (c : Thread 8 τ) S V : sProp 𝕄)
      ⊢ iprop((bigSep Finset.univ fun w => iprop((T w).source c ∗ ∃ f, (T w).target c f)) ∗ StableHlo.held (c : Thread 8 τ) (S \ mine refs) V) := by
  rw [StableHlo.held_sub_split (c : Thread 8 τ) hS V, held_image refs hrefs, bigSep_sep']
  have h1 : _ ⊢ (_ : sProp 𝕄) := bigSep_mono (s := Finset.univ) fun w _ => hsrc w
  have h2 : _ ⊢ (_ : sProp 𝕄) := bigSep_mono (s := Finset.univ) fun w _ => hdst w
  iintro ⟨⟨Ha, Hb⟩, Hr⟩
  isplitr [Hr]
  · isplitl [Ha]
    · iapply h1; iexact Ha
    iapply h2; iexact Hb
  iexact Hr

include hrefs hS in
/-- And back, at the contents `V'` after the exchange. -/
theorem held_close (c : Dev 8) (V V' : Valuation τ sig Val)
    (hsrc : ∀ w, (T w).source c ⊢ (((c, refs (.inl w)) : Loc 8 τ sig) ↦{fullShare} V' (refs (.inl w)) : sProp 𝕄))
    (hdst : ∀ w, (T w).target c ((T w).G c) ⊢ (((c, refs (.inr w)) : Loc 8 τ sig) ↦{fullShare} V' (refs (.inr w)) : sProp 𝕄))
    (hrest : ∀ b ∈ S \ mine refs, V b = V' b) :
    iprop((bigSep Finset.univ fun w => iprop((T w).source c ∗ (T w).target c ((T w).G c))) ∗ StableHlo.held (c : Thread 8 τ) (S \ mine refs) V)
      ⊢ (StableHlo.held (c : Thread 8 τ) S V' : sProp 𝕄) := by
  rw [StableHlo.held_sub_split (c : Thread 8 τ) hS V', held_image refs hrefs, bigSep_sep', StableHlo.held_congr (c : Thread 8 τ) hrest]
  have h1 : _ ⊢ (_ : sProp 𝕄) := bigSep_mono (s := Finset.univ) fun w _ => hsrc w
  have h2 : _ ⊢ (_ : sProp 𝕄) := bigSep_mono (s := Finset.univ) fun w _ => hdst w
  iintro ⟨⟨Ha, Hb⟩, Hr⟩
  isplitr [Hr]
  · isplitl [Ha]
    · iapply h1; iexact Ha
    iapply h2; iexact Hb
  iexact Hr

end Held

end Cert.Talk
-- ==== Proof.TalkProgram.lean ====
/-
A whole program whose first region carries one exchange of several arrays.

`θ_run_exchange` puts together the launch (`θ_run_first`), the exchange's rounds and the buffers: the launch deals the arrays and semaphores to the
transfers, each device enters its first region with the exchange's `start` and everything else it holds, and at the end every held buffer is read.
-/
module

public import proofs.«01_k».proof.Proof.TalkRegion

@[expose] public section

noncomputable section

namespace Cert.Talk

open Idealize.ShloMosaic
open Idealize.SL
open Idealize.SL.BI (sProp bigSep bigSepL bigSep_sep' bigSep_mono bigSep_congr bigSep_map)
open scoped Idealize.SL.BI
open Idealize.SL.BI.BIBase Idealize.SL.BI.Laws Idealize.SL.Sem Idealize.SL.ProofMode
open Idealize.SL.RA
open Idealize.ShloMosaic.Pipeline
open Idealize.ShloMosaic.Rounds
open TcCoe

set_option Elab.async false

/-- The ghost state of such a program: the pipelines' rounds and the exchange's. -/
abbrev Two (τ : Topo) (sig : RefSig) : Type := URounds (GSem 8 τ sig) Unit × URounds (GSem 8 τ sig) Unit

variable {τ : Topo} {sig : RefSig} {Val : EltTy → Type} [∀ e, Nonempty (Val e)]

local notation "𝕄" => MT 8 τ sig Unit Val ℕ (Two τ sig) ℕ

/-- The pipelines' part and the exchange's. -/
abbrev EP : Emb (URounds (GSem 8 τ sig) Unit) (MT 8 τ sig Unit Val ℕ (Two τ sig) ℕ) := embL
abbrev EX : Emb (URounds (GSem 8 τ sig) Unit) (MT 8 τ sig Unit Val ℕ (Two τ sig) ℕ) := embR

variable {Λ₀ : Idealize.SL.Sem.Labels} {P : Type} [Fintype P] [DecidableEq P]
variable (pcs : P → PCfg sig Λ₀ Val) (a : (p : P) → (pcs p).Adm)
  (rdats : (p : P) → (c : Dev 8) → RDat τ Val Unit ℕ (Two τ sig) ℕ (pin pcs a p) c)
  (phinj : Function.Injective (cellOf (nD := 8) (pin pcs a)))
  (defs₀ : Defs 8 τ sig Val Λ₀) (𝒱₀ : Variants)
variable {n : ℕ} (T : Fin n → Slots τ sig Val (Two τ sig)) (osem : Cells n → SemLoc sig) (inj : Function.Injective osem)

include phinj in
theorem θ_run_exchange (moves : List (Fin n × Fin 7 ⊕ Fin n)) (hnodup : moves.Nodup) (hall : ∀ j, (.inl j : Fin n × Fin 7 ⊕ Fin n) ∈ moves)
    (m : (ℓ : Loc 8 τ sig) → Buf Val ℓ) (g : Dev 8 → PrngReg)
    (main : Dev 8 → Prog (TpuEff 8 τ sig Val (Sig Λ₀ P fun p => (pcs p).Adm) .tc) PUnit)
    {p₀ : P} (R₀ : First pcs a rdats () defs₀ 𝒱₀ Exchange.L (exchange T osem inj).lv p₀)
    (rest : Dev 8 → List (RDat.Seg pcs a rdats () defs₀ 𝒱₀ Exchange.L (exchange T osem inj).lv))
    (hmain : ∀ c, main c = .op (.customCall (entry p₀) ()) fun _ => RDat.Seg.run (rest c))
    (hnd : ∀ c, (RDat.Seg.pipes (rest c)).Nodup) (hp₀ : ∀ c, p₀ ∉ RDat.Seg.pipes (rest c))
    (refs : Fin n ⊕ Fin n → DevRef τ sig) (hrefs : Function.Injective refs) (hS : mine refs ⊆ ucRefs τ sig)
    (hsrc : ∀ c w, (((c, refs (.inl w)) : Loc 8 τ sig) ↦{fullShare} m (c, refs (.inl w)) : sProp 𝕄) ⊢ (T w).source c)
    (hdst : ∀ c w, (((c, refs (.inr w)) : Loc 8 τ sig) ↦{fullShare} m (c, refs (.inr w)) : sProp 𝕄) ⊢ iprop(∃ f, (T w).target c f))
    (hos : ∀ c, (ownSems0 R₀.osem c : sProp 𝕄) ⊢ bigSep Finset.univ fun i => semVal ((exchange T osem inj).cell (c, i)) 0)
    (hpre : ∀ c, iprop((exchange T osem inj).start EX c ∗ credits T osem inj c ∗ owes (c : Thread 8 τ) ((exchange T osem inj).owing c moves) ∅
      ∗ StableHlo.held (c : Thread 8 τ) (ucRefs τ sig \ mine refs) (fun b => m (c, b))) ⊢ R₀.pre c)
    (S : Finset (DevRef τ sig)) (V : Dev 8 → Valuation τ sig Val)
    (hch : ∀ c, RDat.Seg.ChainsAt c R₀.post (rest c) fun c => iprop(StableHlo.held (c : Thread 8 τ) S (V c) ∗ ∃ W, owes (c : Thread 8 τ) (0 : CellTallies 8 τ sig Unit) W))
    {Q : PUnit × MemSt 8 τ sig Val → Prop} (hQ : ∀ s : MemSt 8 τ sig Val, (∀ c : Dev 8, ∀ b ∈ S, s.mem (c, b) = V c b) →
      (∀ g' : GSem 8 τ sig, (g'.1.2 ≠ .tc ∨ g'.2.isScoped .tc = true) → s.sem g' = 0) → Q (⟨⟩, s)) :
    θ_run (Pipeline.defs pcs defs₀) (onTc main) ⟨m, fun _ => 0, g⟩ Q := by
  refine θ_run_first phinj EP m g main R₀ rest hmain hnd hp₀
    (fun c => (exchange T osem inj).owing c moves) Exchange.L_of_ne ((exchange T osem inj).funded EX)
    (initOf (cells (pin pcs a) phinj) (launchToks (pin pcs a) phinj), initOf (exchange T osem inj).cells (exchange T osem inj).toks) ?_
    (fun c => StableHlo.held (c : Thread 8 τ) S (V c)) hch ?_ (fun c s => ∀ b ∈ S, s.mem (c, b) = V c b) ?_ hQ
  · have hfund := (exchange T osem inj).fund (EX (τ := τ) (sig := sig) (Val := Val))
    iintro Hu
    ihave H := (ownU_pair _ _) $$ Hu
    icases H with ⟨HP, HX⟩
    imod hfund $$ HX with HG
    imodintro
    isplitl [HP] <;> iassumption
  · -- the launch: each device's arrays and semaphores go to the transfers, the rest stays with it
    have hopen (c : Dev 8) : iprop(ownSems0 R₀.osem c ∗ unscopedBufs c (fun b => m ((c.tc : Thread 8 τ).loc b))
          ∗ owes (c.tc : Thread 8 τ) ((exchange T osem inj).owing c moves) ∅ ∗ launchCred (fun c => (exchange T osem inj).owing c moves) c
          ∗ (exchange T osem inj).funded EX c)
        ⊢ (iprop(((bigSep Finset.univ fun i => semVal ((exchange T osem inj).cell (c, i)) 0) ∗ (exchange T osem inj).funded EX c
            ∗ (bigSep Finset.univ fun j => iprop((exchange T osem inj).give c j ∗ (exchange T osem inj).room c j))
            ∗ bigSep Finset.univ fun t => (exchange T osem inj).copy c t)
          ∗ (credits T osem inj c ∗ owes (c : Thread 8 τ) ((exchange T osem inj).owing c moves) ∅
            ∗ StableHlo.held (c : Thread 8 τ) (ucRefs τ sig \ mine refs) (fun b => m (c, b)))) : sProp 𝕄) := by
      have hbufs := (Entails.of_eq (Pipeline.unscopedBufs_held (Ix := Unit) (Name := ℕ) (U := Two τ sig) (Lvl := ℕ) c fun b => m (c, b))).trans
        ((held_open (T := T) refs (ucRefs τ sig) hrefs hS c (fun b => m (c, b)) (hsrc c) (hdst c)).trans
          (sep_mono (opened T osem inj c) (BI.Entails.refl _)))
      have hcr := (exchange T osem inj).creds moves hnodup hall c
      have ho := hos c
      unfold credits
      iintro ⟨Ho, Hb, HO, Hc, HG⟩
      ihave Hb' := hbufs $$ Hb
      icases Hb' with ⟨⟨Hg, Hcp⟩, Hr⟩
      isplitl [Ho HG Hg Hcp]
      · isplitl [Ho]; · iapply ho; iexact Ho
        isplitl [HG]; · iexact HG
        isplitl [Hg]; · iexact Hg
        iexact Hcp
      isplitl [Hc]; · iapply hcr; iexact Hc
      isplitl [HO] <;> iassumption
    have hall' := bigSep_mono (s := Finset.univ) fun c _ => hopen c
    have hre : _ ⊢ (_ : sProp 𝕄) := bigSep_mono (s := Finset.univ) fun c _ => hpre c
    have hall'' : _ ⊢ (_ : sProp 𝕄) := BI.Entails.trans hall' (Entails.of_eq (bigSep_sep' _ _ _))
    rw [bigSep_sep'] at hre
    have hdeal := (exchange T osem inj).deal (EX (τ := τ) (sig := sig) (Val := Val))
    iintro ⟨H, -⟩
    ihave H' := hall'' $$ H
    icases H' with ⟨Hd, Hk⟩
    imod hdeal $$ Hd with Hs
    imodintro
    iapply hre
    isplitl [Hs] <;> iassumption
  · -- the end: every held buffer read off
    intro c s'
    unfold StableHlo.held
    iintro ⟨Hh, HSI⟩
    ihave Hr := (pointsTo_read_all S (fun b => ((c : Thread 8 τ).1, b)) (V c) s') $$ [Hh HSI]
    · isplitl [Hh] <;> iassumption
    icases Hr with ⟨%h, HSI⟩
    imodintro
    isplitr
    · ipureintro; exact h
    iexact HSI

end Cert.Talk
-- ==== Proof.GradBody.lean ====
/-
The exchange of the gradients on one device.

Each device owns its gradient of five matrices, as eight blocks of rows, and of the packed small weights. It sends to each of its seven peers the peer's block
of rows of every matrix and all of the small pack, and copies its own block to itself, into the slot of the destination that bears its own number. The module
fixes the exchange's arrays and semaphores and runs the kernel body once, at a symbolic device: forty-eight transfers started, then ninety waits.
-/
module

public import proofs.«01_k».proof.Proof.TalkSlots
public import proofs.«01_k».proof.Proof.Gen.KernelIdeal.Points
public import proofs.«01_k».proof.Proof.Gen.KernelIdeal.Skeleton

@[expose] public section

noncomputable section

namespace Cert.Grads

open Cert.KernelIdeal Cert.KernelIdeal.Gen Cert.Talk
open Idealize.ShloMosaic
open Idealize.SL
open Idealize.SL.BI (sProp bigSep bigSepL)
open scoped Idealize.SL.BI
open Idealize.SL.BI.BIBase Idealize.SL.BI.Laws Idealize.SL.Sem Idealize.SL.ProofMode
open Idealize.SL.RA
open TcCoe
open Idealize.ShloMosaic.Rounds

set_option Elab.async false

variable {F : FTy → Type} [FloatOps F] {U : Type} [URA U]
variable (m : (ℓ : Loc nD τ sig) → Buf (Elt F) ℓ)

/-! ### The arrays -/

def wIn : Slots τ sig (Elt F) U :=
  Slots.rows (A := 256) (Memref.whole main_arg0) (Memref.whole main_v1_0) (Memref.isWhole_whole _) rfl (by decide) (Memref.isWhole_whole _) (fun c => m ((c : Thread nD τ).loc main_arg0))
    (sig.dmaCredit .tc (Kind.tc.table .hbm) (Memref.whole main_v1_0).view.buf S256x1024 .bf16) (sig.dmaCredit_pos _ _ _ _ _ (by decide))
def glu : Slots τ sig (Elt F) U :=
  Slots.rows (A := 64) (Memref.whole main_arg1) (Memref.whole main_v1_1) (Memref.isWhole_whole _) rfl (by decide) (Memref.isWhole_whole _) (fun c => m ((c : Thread nD τ).loc main_arg1))
    (sig.dmaCredit .tc (Kind.tc.table .hbm) (Memref.whole main_v1_1).view.buf S64x512 .bf16) (sig.dmaCredit_pos _ _ _ _ _ (by decide))
def wOut : Slots τ sig (Elt F) U :=
  Slots.rows (A := 128) (Memref.whole main_arg2) (Memref.whole main_v1_2) (Memref.isWhole_whole _) rfl (by decide) (Memref.isWhole_whole _) (fun c => m ((c : Thread nD τ).loc main_arg2))
    (sig.dmaCredit .tc (Kind.tc.table .hbm) (Memref.whole main_v1_2).view.buf S128x1024 .bf16) (sig.dmaCredit_pos _ _ _ _ _ (by decide))
def up : Slots τ sig (Elt F) U :=
  Slots.rows (A := 512) (Memref.whole main_arg3) (Memref.whole main_v1_3) (Memref.isWhole_whole _) rfl (by decide) (Memref.isWhole_whole _) (fun c => m ((c : Thread nD τ).loc main_arg3))
    (sig.dmaCredit .tc (Kind.tc.table .hbm) (Memref.whole main_v1_3).view.buf S512x1024 .bf16) (sig.dmaCredit_pos _ _ _ _ _ (by decide))
def down : Slots τ sig (Elt F) U :=
  Slots.rows (A := 512) (Memref.whole main_arg4) (Memref.whole main_v1_4) (Memref.isWhole_whole _) rfl (by decide) (Memref.isWhole_whole _) (fun c => m ((c : Thread nD τ).loc main_arg4))
    (sig.dmaCredit .tc (Kind.tc.table .hbm) (Memref.whole main_v1_4).view.buf S512x1024 .bf16) (sig.dmaCredit_pos _ _ _ _ _ (by decide))
def small : Slots τ sig (Elt F) U :=
  Slots.whole (Memref.whole main_arg5) (Memref.whole main_v1_5) (Memref.isWhole_whole _) (fun c => m ((c : Thread nD τ).loc main_arg5))
    (sig.dmaCredit .tc (Kind.tc.table .hbm) (Memref.whole main_v1_5).view.buf S1128x128 .f32) (sig.dmaCredit_pos _ _ _ _ _ (by decide))
/-- The six arrays. -/
def arrays : Fin 6 → Slots τ sig (Elt F) U
  | 0 => wIn m
  | 1 => glu m
  | 2 => wOut m
  | 3 => up m
  | 4 => down m
  | 5 => small m

/-- Each as it was made. -/
theorem arrays_0 : arrays (U := U) m 0 =
    Slots.rows (A := 256) (Memref.whole main_arg0) (Memref.whole main_v1_0) (Memref.isWhole_whole _) rfl (by decide) (Memref.isWhole_whole _) (fun c => m ((c : Thread nD τ).loc main_arg0))
    (sig.dmaCredit .tc (Kind.tc.table .hbm) (Memref.whole main_v1_0).view.buf S256x1024 .bf16) (sig.dmaCredit_pos _ _ _ _ _ (by decide)) := rfl
theorem arrays_1 : arrays (U := U) m 1 =
    Slots.rows (A := 64) (Memref.whole main_arg1) (Memref.whole main_v1_1) (Memref.isWhole_whole _) rfl (by decide) (Memref.isWhole_whole _) (fun c => m ((c : Thread nD τ).loc main_arg1))
    (sig.dmaCredit .tc (Kind.tc.table .hbm) (Memref.whole main_v1_1).view.buf S64x512 .bf16) (sig.dmaCredit_pos _ _ _ _ _ (by decide)) := rfl
theorem arrays_2 : arrays (U := U) m 2 =
    Slots.rows (A := 128) (Memref.whole main_arg2) (Memref.whole main_v1_2) (Memref.isWhole_whole _) rfl (by decide) (Memref.isWhole_whole _) (fun c => m ((c : Thread nD τ).loc main_arg2))
    (sig.dmaCredit .tc (Kind.tc.table .hbm) (Memref.whole main_v1_2).view.buf S128x1024 .bf16) (sig.dmaCredit_pos _ _ _ _ _ (by decide)) := rfl
theorem arrays_3 : arrays (U := U) m 3 =
    Slots.rows (A := 512) (Memref.whole main_arg3) (Memref.whole main_v1_3) (Memref.isWhole_whole _) rfl (by decide) (Memref.isWhole_whole _) (fun c => m ((c : Thread nD τ).loc main_arg3))
    (sig.dmaCredit .tc (Kind.tc.table .hbm) (Memref.whole main_v1_3).view.buf S512x1024 .bf16) (sig.dmaCredit_pos _ _ _ _ _ (by decide)) := rfl
theorem arrays_4 : arrays (U := U) m 4 =
    Slots.rows (A := 512) (Memref.whole main_arg4) (Memref.whole main_v1_4) (Memref.isWhole_whole _) rfl (by decide) (Memref.isWhole_whole _) (fun c => m ((c : Thread nD τ).loc main_arg4))
    (sig.dmaCredit .tc (Kind.tc.table .hbm) (Memref.whole main_v1_4).view.buf S512x1024 .bf16) (sig.dmaCredit_pos _ _ _ _ _ (by decide)) := rfl
theorem arrays_5 : arrays (U := U) m 5 =
  Slots.whole (Memref.whole main_arg5) (Memref.whole main_v1_5) (Memref.isWhole_whole _) (fun c => m ((c : Thread nD τ).loc main_arg5))
    (sig.dmaCredit .tc (Kind.tc.table .hbm) (Memref.whole main_v1_5).view.buf S1128x128 .f32) (sig.dmaCredit_pos _ _ _ _ _ (by decide)) := rfl

/-! ### The semaphores -/

/-- The number of a transfer's semaphore: departures first, then arrivals, then the local copies. -/
def number : Cells 6 → ℕ
  | .inl (w, k) => 42 + (7 * w.val + k.val)
  | .inr (.inl (w, k)) => 7 * w.val + k.val
  | .inr (.inr w) => 84 + w.val
theorem number_lt (i : Cells 6) : number i < 154 := by
  rcases i with ⟨w, k⟩ | ⟨w, k⟩ | w <;> simp only [number] <;> omega
def osem (i : Cells 6) : SemLoc sig := .dma ⟨number i, number_lt i⟩
theorem number_inj : Function.Injective number := by
  rintro (⟨w, k⟩ | ⟨w, k⟩ | w) (⟨w', k'⟩ | ⟨w', k'⟩ | w') h <;> simp only [number] at h <;>
    first
      | omega
      | (obtain ⟨h1, h2⟩ : w = w' ∧ k = k' := by constructor <;> ext <;> omega
         rw [h1, h2])
      | (obtain rfl : w = w' := by ext; omega
         rfl)
theorem osem_inj : Function.Injective osem := fun i j h => number_inj (by
  have := SemLoc.dma.inj h
  exact congrArg Fin.val this)

/-- The exchange. -/
abbrev talk : Exchange 8 τ sig (Elt F) U := exchange (arrays m) osem osem_inj

/-! ### The order of the transfers and of the waits -/

/-- The transfers in the order they start: array by array, the local copy and then the seven remote ones. -/
abbrev moves : List (Fin 6 × Fin 7 ⊕ Fin 6) :=
  [.inr 0, .inl (0, 0), .inl (0, 1), .inl (0, 2), .inl (0, 3), .inl (0, 4), .inl (0, 5), .inl (0, 6),
   .inr 1, .inl (1, 0), .inl (1, 1), .inl (1, 2), .inl (1, 3), .inl (1, 4), .inl (1, 5), .inl (1, 6),
   .inr 2, .inl (2, 0), .inl (2, 1), .inl (2, 2), .inl (2, 3), .inl (2, 4), .inl (2, 5), .inl (2, 6),
   .inr 3, .inl (3, 0), .inl (3, 1), .inl (3, 2), .inl (3, 3), .inl (3, 4), .inl (3, 5), .inl (3, 6),
   .inr 4, .inl (4, 0), .inl (4, 1), .inl (4, 2), .inl (4, 3), .inl (4, 4), .inl (4, 5), .inl (4, 6),
   .inr 5, .inl (5, 0), .inl (5, 1), .inl (5, 2), .inl (5, 3), .inl (5, 4), .inl (5, 5), .inl (5, 6)]
/-- The cells in the order they are waited for: all arrivals, then the local copies and departures. -/
abbrev waits : List (Cells 6) :=
  [.inl (0, 0), .inl (0, 1), .inl (0, 2), .inl (0, 3), .inl (0, 4), .inl (0, 5), .inl (0, 6),
   .inl (1, 0), .inl (1, 1), .inl (1, 2), .inl (1, 3), .inl (1, 4), .inl (1, 5), .inl (1, 6),
   .inl (2, 0), .inl (2, 1), .inl (2, 2), .inl (2, 3), .inl (2, 4), .inl (2, 5), .inl (2, 6),
   .inl (3, 0), .inl (3, 1), .inl (3, 2), .inl (3, 3), .inl (3, 4), .inl (3, 5), .inl (3, 6),
   .inl (4, 0), .inl (4, 1), .inl (4, 2), .inl (4, 3), .inl (4, 4), .inl (4, 5), .inl (4, 6),
   .inl (5, 0), .inl (5, 1), .inl (5, 2), .inl (5, 3), .inl (5, 4), .inl (5, 5), .inl (5, 6),
   .inr (.inr 0), .inr (.inl (0, 0)), .inr (.inl (0, 1)), .inr (.inl (0, 2)), .inr (.inl (0, 3)), .inr (.inl (0, 4)), .inr (.inl (0, 5)), .inr (.inl (0, 6)),
   .inr (.inr 1), .inr (.inl (1, 0)), .inr (.inl (1, 1)), .inr (.inl (1, 2)), .inr (.inl (1, 3)), .inr (.inl (1, 4)), .inr (.inl (1, 5)), .inr (.inl (1, 6)),
   .inr (.inr 2), .inr (.inl (2, 0)), .inr (.inl (2, 1)), .inr (.inl (2, 2)), .inr (.inl (2, 3)), .inr (.inl (2, 4)), .inr (.inl (2, 5)), .inr (.inl (2, 6)),
   .inr (.inr 3), .inr (.inl (3, 0)), .inr (.inl (3, 1)), .inr (.inl (3, 2)), .inr (.inl (3, 3)), .inr (.inl (3, 4)), .inr (.inl (3, 5)), .inr (.inl (3, 6)),
   .inr (.inr 4), .inr (.inl (4, 0)), .inr (.inl (4, 1)), .inr (.inl (4, 2)), .inr (.inl (4, 3)), .inr (.inl (4, 4)), .inr (.inl (4, 5)), .inr (.inl (4, 6)),
   .inr (.inr 5), .inr (.inl (5, 0)), .inr (.inl (5, 1)), .inr (.inl (5, 2)), .inr (.inl (5, 3)), .inr (.inl (5, 4)), .inr (.inl (5, 5)), .inr (.inl (5, 6))]
set_option maxRecDepth 65536
theorem moves_all : Finset.univ = moves.toFinset := by decide +kernel
theorem moves_nodup : moves.Nodup := by decide +kernel
theorem moves_back : Finset.univ = moves.reverse.toFinset := by decide +kernel
theorem moves_back_nodup : moves.reverse.Nodup := by decide +kernel
theorem waits_all : Finset.univ = waits.toFinset := by decide +kernel
theorem waits_nodup : waits.Nodup := by decide +kernel
theorem waits_back : Finset.univ = waits.reverse.toFinset := by decide +kernel
theorem waits_back_nodup : waits.reverse.Nodup := by decide +kernel

/-! ### Where the copies start and land -/

/-- A device's own slot in each destination. -/
theorem mine_off : ∀ c : Dev 8, k0_off1 c = ![c.val, 0, 0] ∧ k0_off10 c = ![c.val, 0, 0] ∧ k0_off19 c = ![c.val, 0, 0] ∧ k0_off28 c = ![c.val, 0, 0] ∧ k0_off37 c = ![c.val, 0, 0] := by
  decide +kernel
/-- The blocks of rows of 256 rows: the device's own and those of its peers. -/
theorem rows256 : ∀ c : Dev 8, k0_off2 c = ![c.val * 256, 0] ∧ k0_off3 c = ![(mate 0 c).val * 256, 0] ∧ k0_off4 c = ![(mate 1 c).val * 256, 0] ∧ k0_off5 c = ![(mate 2 c).val * 256, 0] ∧ k0_off6 c = ![(mate 3 c).val * 256, 0] ∧ k0_off7 c = ![(mate 4 c).val * 256, 0] ∧ k0_off8 c = ![(mate 5 c).val * 256, 0] ∧ k0_off9 c = ![(mate 6 c).val * 256, 0] := by
  decide +kernel
/-- The blocks of rows of 64 rows: the device's own and those of its peers. -/
theorem rows64 : ∀ c : Dev 8, k0_off11 c = ![c.val * 64, 0] ∧ k0_off12 c = ![(mate 0 c).val * 64, 0] ∧ k0_off13 c = ![(mate 1 c).val * 64, 0] ∧ k0_off14 c = ![(mate 2 c).val * 64, 0] ∧ k0_off15 c = ![(mate 3 c).val * 64, 0] ∧ k0_off16 c = ![(mate 4 c).val * 64, 0] ∧ k0_off17 c = ![(mate 5 c).val * 64, 0] ∧ k0_off18 c = ![(mate 6 c).val * 64, 0] := by
  decide +kernel
/-- The blocks of rows of 128 rows: the device's own and those of its peers. -/
theorem rows128 : ∀ c : Dev 8, k0_off20 c = ![c.val * 128, 0] ∧ k0_off21 c = ![(mate 0 c).val * 128, 0] ∧ k0_off22 c = ![(mate 1 c).val * 128, 0] ∧ k0_off23 c = ![(mate 2 c).val * 128, 0] ∧ k0_off24 c = ![(mate 3 c).val * 128, 0] ∧ k0_off25 c = ![(mate 4 c).val * 128, 0] ∧ k0_off26 c = ![(mate 5 c).val * 128, 0] ∧ k0_off27 c = ![(mate 6 c).val * 128, 0] := by
  decide +kernel
/-- The blocks of rows of 512 rows: the device's own and those of its peers. -/
theorem rows512 : ∀ c : Dev 8, k0_off29 c = ![c.val * 512, 0] ∧ k0_off30 c = ![(mate 0 c).val * 512, 0] ∧ k0_off31 c = ![(mate 1 c).val * 512, 0] ∧ k0_off32 c = ![(mate 2 c).val * 512, 0] ∧ k0_off33 c = ![(mate 3 c).val * 512, 0] ∧ k0_off34 c = ![(mate 4 c).val * 512, 0] ∧ k0_off35 c = ![(mate 5 c).val * 512, 0] ∧ k0_off36 c = ![(mate 6 c).val * 512, 0] := by
  decide +kernel
theorem peers0 : ∀ c : Dev 8, (⟨k0_dev1 c, k0_dev1_lt c⟩ : Dev 8) = mate 0 c ∧ (⟨k0_dev2 c, k0_dev2_lt c⟩ : Dev 8) = mate 1 c ∧ (⟨k0_dev3 c, k0_dev3_lt c⟩ : Dev 8) = mate 2 c ∧ (⟨k0_dev4 c, k0_dev4_lt c⟩ : Dev 8) = mate 3 c ∧ (⟨k0_dev5 c, k0_dev5_lt c⟩ : Dev 8) = mate 4 c ∧ (⟨k0_dev6 c, k0_dev6_lt c⟩ : Dev 8) = mate 5 c ∧ (⟨k0_dev7 c, k0_dev7_lt c⟩ : Dev 8) = mate 6 c := by
  decide +kernel
theorem peers1 : ∀ c : Dev 8, (⟨k0_dev8 c, k0_dev8_lt c⟩ : Dev 8) = mate 0 c ∧ (⟨k0_dev9 c, k0_dev9_lt c⟩ : Dev 8) = mate 1 c ∧ (⟨k0_dev10 c, k0_dev10_lt c⟩ : Dev 8) = mate 2 c ∧ (⟨k0_dev11 c, k0_dev11_lt c⟩ : Dev 8) = mate 3 c ∧ (⟨k0_dev12 c, k0_dev12_lt c⟩ : Dev 8) = mate 4 c ∧ (⟨k0_dev13 c, k0_dev13_lt c⟩ : Dev 8) = mate 5 c ∧ (⟨k0_dev14 c, k0_dev14_lt c⟩ : Dev 8) = mate 6 c := by
  decide +kernel
theorem peers2 : ∀ c : Dev 8, (⟨k0_dev15 c, k0_dev15_lt c⟩ : Dev 8) = mate 0 c ∧ (⟨k0_dev16 c, k0_dev16_lt c⟩ : Dev 8) = mate 1 c ∧ (⟨k0_dev17 c, k0_dev17_lt c⟩ : Dev 8) = mate 2 c ∧ (⟨k0_dev18 c, k0_dev18_lt c⟩ : Dev 8) = mate 3 c ∧ (⟨k0_dev19 c, k0_dev19_lt c⟩ : Dev 8) = mate 4 c ∧ (⟨k0_dev20 c, k0_dev20_lt c⟩ : Dev 8) = mate 5 c ∧ (⟨k0_dev21 c, k0_dev21_lt c⟩ : Dev 8) = mate 6 c := by
  decide +kernel
theorem peers3 : ∀ c : Dev 8, (⟨k0_dev22 c, k0_dev22_lt c⟩ : Dev 8) = mate 0 c ∧ (⟨k0_dev23 c, k0_dev23_lt c⟩ : Dev 8) = mate 1 c ∧ (⟨k0_dev24 c, k0_dev24_lt c⟩ : Dev 8) = mate 2 c ∧ (⟨k0_dev25 c, k0_dev25_lt c⟩ : Dev 8) = mate 3 c ∧ (⟨k0_dev26 c, k0_dev26_lt c⟩ : Dev 8) = mate 4 c ∧ (⟨k0_dev27 c, k0_dev27_lt c⟩ : Dev 8) = mate 5 c ∧ (⟨k0_dev28 c, k0_dev28_lt c⟩ : Dev 8) = mate 6 c := by
  decide +kernel
theorem peers4 : ∀ c : Dev 8, (⟨k0_dev29 c, k0_dev29_lt c⟩ : Dev 8) = mate 0 c ∧ (⟨k0_dev30 c, k0_dev30_lt c⟩ : Dev 8) = mate 1 c ∧ (⟨k0_dev31 c, k0_dev31_lt c⟩ : Dev 8) = mate 2 c ∧ (⟨k0_dev32 c, k0_dev32_lt c⟩ : Dev 8) = mate 3 c ∧ (⟨k0_dev33 c, k0_dev33_lt c⟩ : Dev 8) = mate 4 c ∧ (⟨k0_dev34 c, k0_dev34_lt c⟩ : Dev 8) = mate 5 c ∧ (⟨k0_dev35 c, k0_dev35_lt c⟩ : Dev 8) = mate 6 c := by
  decide +kernel
theorem peers5 : ∀ c : Dev 8, (⟨k0_dev36 c, k0_dev36_lt c⟩ : Dev 8) = mate 0 c ∧ (⟨k0_dev37 c, k0_dev37_lt c⟩ : Dev 8) = mate 1 c ∧ (⟨k0_dev38 c, k0_dev38_lt c⟩ : Dev 8) = mate 2 c ∧ (⟨k0_dev39 c, k0_dev39_lt c⟩ : Dev 8) = mate 3 c ∧ (⟨k0_dev40 c, k0_dev40_lt c⟩ : Dev 8) = mate 4 c ∧ (⟨k0_dev41 c, k0_dev41_lt c⟩ : Dev 8) = mate 5 c ∧ (⟨k0_dev42 c, k0_dev42_lt c⟩ : Dev 8) = mate 6 c := by
  decide +kernel

section Run

variable (E : Emb (URounds (GSem 8 τ sig) Unit) (MT 8 τ sig Unit (Elt F) ℕ U ℕ))

set_option maxHeartbeats 8000000 in
/-- The body: from the dealt exchange, the launch's dues and credits, to every payload, with every semaphore back at zero and nothing owed. -/
theorem body (𝒱 : Variants) (c : Dev 8) (bd : Option 𝒱.V) (t : Fin cfg0.N) (W : Waits sig Unit) :
    iprop((talk (U := U) m).start E c ∗ owes (c : Thread nD τ) ((talk (U := U) m).owing c moves) W
        ∗ bigSep Finset.univ fun j => cred (tallyAt ((talk (U := U) m).cell (c, (talk (U := U) m).arr j)) () ((talk (U := U) m).amt ((talk (U := U) m).arr j))))
      ⊢ wp frame (wpE (defs₀ (F := F)) 𝒱 (c : Thread nD τ) bd) Set.univ (bodyAt0 (F := F) t)
        fun _ => iprop((bigSep Finset.univ fun i => (talk (U := U) m).pay c i) ∗ (bigSep Finset.univ fun i => semVal ((talk (U := U) m).cell (c, i)) 0)
          ∗ ∃ W, owes (c : Thread nD τ) (0 : CellTallies nD τ sig Unit) W) := by
  refine (talk (U := U) m).opening E c moves moves_all moves_nodup W fun K => ?_
  unfold bodyAt0
  simp only [cc0_grad_exchange_eq_skeleton]
  unfold cc0_grad_exchange_skel
  simp only [k0_part78_eq_skeleton, k0_part79_eq_skeleton]
  unfold k0_part78_skel k0_part79_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel
  simp only [Prog.lift, Prog.bind_op, Prog.bind_ret, Prog.pure_eq_ret, wp_deviceId]
  dsimp only [moves, talk]
  obtain ⟨m0, m1, m2, m3, m5⟩ := mine_off c
  obtain ⟨o256, r256_0, r256_1, r256_2, r256_3, r256_4, r256_5, r256_6⟩ := rows256 c
  obtain ⟨o64, r64_0, r64_1, r64_2, r64_3, r64_4, r64_5, r64_6⟩ := rows64 c
  obtain ⟨o128, r128_0, r128_1, r128_2, r128_3, r128_4, r128_5, r128_6⟩ := rows128 c
  obtain ⟨o512, r512_0, r512_1, r512_2, r512_3, r512_4, r512_5, r512_6⟩ := rows512 c
  obtain ⟨p0_0, p0_1, p0_2, p0_3, p0_4, p0_5, p0_6⟩ := peers0 c
  obtain ⟨p1_0, p1_1, p1_2, p1_3, p1_4, p1_5, p1_6⟩ := peers1 c
  obtain ⟨p2_0, p2_1, p2_2, p2_3, p2_4, p2_5, p2_6⟩ := peers2 c
  obtain ⟨p3_0, p3_1, p3_2, p3_3, p3_4, p3_5, p3_6⟩ := peers3 c
  obtain ⟨p4_0, p4_1, p4_2, p4_3, p4_4, p4_5, p4_6⟩ := peers4 c
  obtain ⟨p5_0, p5_1, p5_2, p5_3, p5_4, p5_5, p5_6⟩ := peers5 c
  refine Exchange.step (wp_keep_rows (A := 256) (arrays m) osem osem_inj E 𝒱 K c bd 0 (arrays_0 m) rfl o256 m0 rfl) ?_
  refine Exchange.step (wp_put_rows (A := 256) (arrays m) osem osem_inj E 𝒱 K c bd 0 (arrays_0 m) rfl 0 p0_0 r256_0 m0 rfl rfl) ?_
  refine Exchange.step (wp_put_rows (A := 256) (arrays m) osem osem_inj E 𝒱 K c bd 0 (arrays_0 m) rfl 1 p0_1 r256_1 m0 rfl rfl) ?_
  refine Exchange.step (wp_put_rows (A := 256) (arrays m) osem osem_inj E 𝒱 K c bd 0 (arrays_0 m) rfl 2 p0_2 r256_2 m0 rfl rfl) ?_
  refine Exchange.step (wp_put_rows (A := 256) (arrays m) osem osem_inj E 𝒱 K c bd 0 (arrays_0 m) rfl 3 p0_3 r256_3 m0 rfl rfl) ?_
  refine Exchange.step (wp_put_rows (A := 256) (arrays m) osem osem_inj E 𝒱 K c bd 0 (arrays_0 m) rfl 4 p0_4 r256_4 m0 rfl rfl) ?_
  refine Exchange.step (wp_put_rows (A := 256) (arrays m) osem osem_inj E 𝒱 K c bd 0 (arrays_0 m) rfl 5 p0_5 r256_5 m0 rfl rfl) ?_
  refine Exchange.step (wp_put_rows (A := 256) (arrays m) osem osem_inj E 𝒱 K c bd 0 (arrays_0 m) rfl 6 p0_6 r256_6 m0 rfl rfl) ?_
  refine Exchange.step (wp_keep_rows (A := 64) (arrays m) osem osem_inj E 𝒱 K c bd 1 (arrays_1 m) rfl o64 m1 rfl) ?_
  refine Exchange.step (wp_put_rows (A := 64) (arrays m) osem osem_inj E 𝒱 K c bd 1 (arrays_1 m) rfl 0 p1_0 r64_0 m1 rfl rfl) ?_
  refine Exchange.step (wp_put_rows (A := 64) (arrays m) osem osem_inj E 𝒱 K c bd 1 (arrays_1 m) rfl 1 p1_1 r64_1 m1 rfl rfl) ?_
  refine Exchange.step (wp_put_rows (A := 64) (arrays m) osem osem_inj E 𝒱 K c bd 1 (arrays_1 m) rfl 2 p1_2 r64_2 m1 rfl rfl) ?_
  refine Exchange.step (wp_put_rows (A := 64) (arrays m) osem osem_inj E 𝒱 K c bd 1 (arrays_1 m) rfl 3 p1_3 r64_3 m1 rfl rfl) ?_
  refine Exchange.step (wp_put_rows (A := 64) (arrays m) osem osem_inj E 𝒱 K c bd 1 (arrays_1 m) rfl 4 p1_4 r64_4 m1 rfl rfl) ?_
  refine Exchange.step (wp_put_rows (A := 64) (arrays m) osem osem_inj E 𝒱 K c bd 1 (arrays_1 m) rfl 5 p1_5 r64_5 m1 rfl rfl) ?_
  refine Exchange.step (wp_put_rows (A := 64) (arrays m) osem osem_inj E 𝒱 K c bd 1 (arrays_1 m) rfl 6 p1_6 r64_6 m1 rfl rfl) ?_
  refine Exchange.step (wp_keep_rows (A := 128) (arrays m) osem osem_inj E 𝒱 K c bd 2 (arrays_2 m) rfl o128 m2 rfl) ?_
  refine Exchange.step (wp_put_rows (A := 128) (arrays m) osem osem_inj E 𝒱 K c bd 2 (arrays_2 m) rfl 0 p2_0 r128_0 m2 rfl rfl) ?_
  refine Exchange.step (wp_put_rows (A := 128) (arrays m) osem osem_inj E 𝒱 K c bd 2 (arrays_2 m) rfl 1 p2_1 r128_1 m2 rfl rfl) ?_
  refine Exchange.step (wp_put_rows (A := 128) (arrays m) osem osem_inj E 𝒱 K c bd 2 (arrays_2 m) rfl 2 p2_2 r128_2 m2 rfl rfl) ?_
  refine Exchange.step (wp_put_rows (A := 128) (arrays m) osem osem_inj E 𝒱 K c bd 2 (arrays_2 m) rfl 3 p2_3 r128_3 m2 rfl rfl) ?_
  refine Exchange.step (wp_put_rows (A := 128) (arrays m) osem osem_inj E 𝒱 K c bd 2 (arrays_2 m) rfl 4 p2_4 r128_4 m2 rfl rfl) ?_
  refine Exchange.step (wp_put_rows (A := 128) (arrays m) osem osem_inj E 𝒱 K c bd 2 (arrays_2 m) rfl 5 p2_5 r128_5 m2 rfl rfl) ?_
  refine Exchange.step (wp_put_rows (A := 128) (arrays m) osem osem_inj E 𝒱 K c bd 2 (arrays_2 m) rfl 6 p2_6 r128_6 m2 rfl rfl) ?_
  refine Exchange.step (wp_keep_rows (A := 512) (arrays m) osem osem_inj E 𝒱 K c bd 3 (arrays_3 m) rfl o512 m3 rfl) ?_
  refine Exchange.step (wp_put_rows (A := 512) (arrays m) osem osem_inj E 𝒱 K c bd 3 (arrays_3 m) rfl 0 p3_0 r512_0 m3 rfl rfl) ?_
  refine Exchange.step (wp_put_rows (A := 512) (arrays m) osem osem_inj E 𝒱 K c bd 3 (arrays_3 m) rfl 1 p3_1 r512_1 m3 rfl rfl) ?_
  refine Exchange.step (wp_put_rows (A := 512) (arrays m) osem osem_inj E 𝒱 K c bd 3 (arrays_3 m) rfl 2 p3_2 r512_2 m3 rfl rfl) ?_
  refine Exchange.step (wp_put_rows (A := 512) (arrays m) osem osem_inj E 𝒱 K c bd 3 (arrays_3 m) rfl 3 p3_3 r512_3 m3 rfl rfl) ?_
  refine Exchange.step (wp_put_rows (A := 512) (arrays m) osem osem_inj E 𝒱 K c bd 3 (arrays_3 m) rfl 4 p3_4 r512_4 m3 rfl rfl) ?_
  refine Exchange.step (wp_put_rows (A := 512) (arrays m) osem osem_inj E 𝒱 K c bd 3 (arrays_3 m) rfl 5 p3_5 r512_5 m3 rfl rfl) ?_
  refine Exchange.step (wp_put_rows (A := 512) (arrays m) osem osem_inj E 𝒱 K c bd 3 (arrays_3 m) rfl 6 p3_6 r512_6 m3 rfl rfl) ?_
  refine Exchange.step (wp_keep_rows (A := 512) (arrays m) osem osem_inj E 𝒱 K c bd 4 (arrays_4 m) rfl o512 m3 rfl) ?_
  refine Exchange.step (wp_put_rows (A := 512) (arrays m) osem osem_inj E 𝒱 K c bd 4 (arrays_4 m) rfl 0 p4_0 r512_0 m3 rfl rfl) ?_
  refine Exchange.step (wp_put_rows (A := 512) (arrays m) osem osem_inj E 𝒱 K c bd 4 (arrays_4 m) rfl 1 p4_1 r512_1 m3 rfl rfl) ?_
  refine Exchange.step (wp_put_rows (A := 512) (arrays m) osem osem_inj E 𝒱 K c bd 4 (arrays_4 m) rfl 2 p4_2 r512_2 m3 rfl rfl) ?_
  refine Exchange.step (wp_put_rows (A := 512) (arrays m) osem osem_inj E 𝒱 K c bd 4 (arrays_4 m) rfl 3 p4_3 r512_3 m3 rfl rfl) ?_
  refine Exchange.step (wp_put_rows (A := 512) (arrays m) osem osem_inj E 𝒱 K c bd 4 (arrays_4 m) rfl 4 p4_4 r512_4 m3 rfl rfl) ?_
  refine Exchange.step (wp_put_rows (A := 512) (arrays m) osem osem_inj E 𝒱 K c bd 4 (arrays_4 m) rfl 5 p4_5 r512_5 m3 rfl rfl) ?_
  refine Exchange.step (wp_put_rows (A := 512) (arrays m) osem osem_inj E 𝒱 K c bd 4 (arrays_4 m) rfl 6 p4_6 r512_6 m3 rfl rfl) ?_
  refine Exchange.step (wp_keep_whole (arrays m) osem osem_inj E 𝒱 K c bd 5 (arrays_5 m) rfl (Memref.isWhole_whole _) m5 rfl) ?_
  refine Exchange.step (wp_put_whole (arrays m) osem osem_inj E 𝒱 K c bd 5 (arrays_5 m) rfl (Memref.isWhole_whole _) 0 p5_0 m5 rfl rfl) ?_
  refine Exchange.step (wp_put_whole (arrays m) osem osem_inj E 𝒱 K c bd 5 (arrays_5 m) rfl (Memref.isWhole_whole _) 1 p5_1 m5 rfl rfl) ?_
  refine Exchange.step (wp_put_whole (arrays m) osem osem_inj E 𝒱 K c bd 5 (arrays_5 m) rfl (Memref.isWhole_whole _) 2 p5_2 m5 rfl rfl) ?_
  refine Exchange.step (wp_put_whole (arrays m) osem osem_inj E 𝒱 K c bd 5 (arrays_5 m) rfl (Memref.isWhole_whole _) 3 p5_3 m5 rfl rfl) ?_
  refine Exchange.step (wp_put_whole (arrays m) osem osem_inj E 𝒱 K c bd 5 (arrays_5 m) rfl (Memref.isWhole_whole _) 4 p5_4 m5 rfl rfl) ?_
  refine Exchange.step (wp_put_whole (arrays m) osem osem_inj E 𝒱 K c bd 5 (arrays_5 m) rfl (Memref.isWhole_whole _) 5 p5_5 m5 rfl rfl) ?_
  refine Exchange.step (wp_put_whole (arrays m) osem osem_inj E 𝒱 K c bd 5 (arrays_5 m) rfl (Memref.isWhole_whole _) 6 p5_6 m5 rfl rfl) ?_
  refine (talk (U := U) m).turned E K c _ moves_back moves_back_nodup waits waits_all waits_nodup ?_
  iterate 90 refine Exchange.step ((talk (U := U) m).wp_await E 𝒱 K c bd _ rfl rfl) ?_
  rw [wp_ret]
  exact (talk (U := U) m).ended E K c _ waits_back waits_back_nodup

end Run

end Cert.Grads

end
-- ==== Proof.Windowed.lean ====
/-
A region whose body reads its input blocks and overwrites its output blocks, whatever the number of windows.

The staging buffers of a grid point are held as one family `staged X`, `X w` what window `w`'s buffer holds; a load reads `X w` (`Windowed.load`), a store of
a whole block changes the family at one window (`Windowed.store`). A body that turns every family `X` into `outs t X` gives the proof data `dat` and
the body obligation (`obligation`); the region's record over all the buffers held is `seg`.
-/
module

public import Idealize.ShloMosaic.Lib.Pipeline.FrameBody
public import Idealize.ShloMosaic.Lib.Pipeline.RegionArraysS
public import Idealize.ShloMosaic.Lib.Pipeline.ValueKit.Geometry
public import Idealize.ShloMosaic.Lib.Writes
public import Idealize.ShloMosaic.Lib.Ring
public import Idealize.ShloMosaic.Lib.Tactic

@[expose] public section

noncomputable section

namespace Cert.Windowed

open Idealize.ShloMosaic
open Idealize.SL
open Idealize.SL.BI (sProp bigSep bigSep_mono bigSep_congr bigSep_exists_pi bigSep_univ_turn)
open scoped Idealize.SL.BI
open Idealize.SL.BI.BIBase Idealize.SL.BI.Laws Idealize.SL.Sem Idealize.SL.ProofMode
open Idealize.SL.RA
open Idealize.ShloMosaic.Pipeline
open TcCoe

set_option Elab.async false

/-! ### Whole blocks -/

section Whole

variable {Val : EltTy → Type} {s : Shape} {e : EltTy}

/-- Reading all of a block gives the block. -/
theorem ld_whole (X : s.Idx → Val e) (off : Fin s.rank → ℕ) (h : ∀ a, off a + s.size a ≤ s.size a) (h0 : ∀ a, off a = 0) :
    View.ld X (Rect.unit off s.size h) = X := by
  funext y
  refine congrArg X (funext fun a => Fin.ext ?_)
  show off a + 1 * (y a).val = (y a).val
  rw [h0 a]; omega

/-- All of a block embeds in it as it is. -/
theorem whole_emb (off : Fin s.rank → ℕ) (h : ∀ a, off a + s.size a ≤ s.size a) (h0 : ∀ a, off a = 0) (y : s.Idx) :
    (Rect.unit off s.size h).emb y = y := by
  refine funext fun a => Fin.ext ?_
  rw [Rect.emb_apply]
  show off a + 1 * (y a).val = (y a).val
  rw [h0 a]; omega

/-- All of a block overwritten holds what was written. -/
theorem canon_whole [∀ e, Nonempty (Val e)] (off : Fin s.rank → ℕ) (h : ∀ a, off a + s.size a ≤ s.size a) (h0 : ∀ a, off a = 0)
    (v : s.Idx → Val e) : View.canon [(⟨Rect.unit off s.size h, v⟩ : View.Piece Val s e)] = v := by
  funext y
  rw [View.canon_cons]
  conv_lhs => rw [← whole_emb off h h0 y]
  exact Rect.overlay_emb _ _ _ _

end Whole

variable {nD : Nat} {τ : Topo} {sig : RefSig} {Val : EltTy → Type} [∀ e, Nonempty (Val e)]
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {cfg : Cfg sig Λ₀}

/-- What the staging buffers of a grid point hold. -/
abbrev Blocks (Val : EltTy → Type) (cfg : Cfg sig Λ₀) : Type := (w : Fin cfg.W) → (cfg.win w).block.Idx → Val (cfg.win w).elt

/-- The staging buffers of point `t` at the contents `X`. -/
def staged (c : Dev nD) (t : Fin cfg.N) (X : Blocks Val cfg) : sProp 𝕄 :=
  bigSep Finset.univ fun w : Fin cfg.W => owns (c : Thread nD τ) ((cfg.win w).stage (cfg.slots t w)) fullShare (X w)

section Steps

variable {defs₀ : Defs nD τ sig Val Λ₀} {𝒱₀ : Variants} {c : Dev nD} {bd : Option 𝒱₀.V} {E : Set Name} {α : Type} {t : Fin cfg.N} {X : Blocks Val cfg}

/-- A load from window `w`. -/
theorem load {Q : α → sProp 𝕄} (w : Fin cfg.W) {r : Rect (cfg.win w).block} {hl : ((cfg.win w).stage (cfg.slots t w)).view.LoadsAt r.toLoadRect}
    {k : (r.shape.Idx → Val (cfg.win w).elt) → Prog (TpuEff nD τ sig Val Λ₀ .tc) α}
    (h : (staged c t X : sProp 𝕄) ⊢ wp frame (wpE defs₀ 𝒱₀ c bd) E (k (View.ld (X w) r)) Q) :
    (staged c t X : sProp 𝕄) ⊢ wp frame (wpE defs₀ 𝒱₀ c bd) E (.op (.load ((cfg.win w).stage (cfg.slots t w)) r.toLoadRect hl) k) Q := by
  have hk : iprop(staged c t X) ⊢ (iprop(owns (c : Thread nD τ) ((cfg.win w).stage (cfg.slots t w)) fullShare (X w)
      ∗ (owns (c : Thread nD τ) ((cfg.win w).stage (cfg.slots t w)) fullShare (X w) -∗ staged c t X)) : sProp 𝕄) := by
    refine (bigSep_univ_turn (fun w Y => owns (c : Thread nD τ) ((cfg.win w).stage (cfg.slots t w)) fullShare Y) X w).trans ?_
    iintro ⟨H, Hb⟩
    isplitl [H]; · iexact H
    iintro H
    ihave Hs := Hb $$ %(X w) H
    unfold staged
    rw [Function.update_eq_self]
    iexact Hs
  refine hk.trans ?_
  unfold owns
  iintro ⟨⟨%f, %hf, H⟩, Hb⟩
  iapply (wp_load (hl := hl) (k := k) 𝒱₀ (c : Thread nD τ) bd E (m := (cfg.win w).stage (cfg.slots t w)) (r := r.toLoadRect) (f := f) (View.setOn_subset_set _ _)) $$ H
  iintro H
  rw [View.readAt_eq_ld, hf]
  iapply h
  iapply Hb
  iexists f
  isplitr
  · ipureintro; exact hf
  iexact H

/-- A store of all of window `w`'s block. -/
theorem store {Q : α → sProp 𝕄} (w : Fin cfg.W) {r : Rect (cfg.win w).block} {v : r.shape.Idx → Val (cfg.win w).elt}
    {hx : (((cfg.win w).stage (cfg.slots t w)).access r).Stores Finset.univ} {hm : Finset.univ = Finset.univ ∨ ∀ a, r.stride a = 1}
    {k : PUnit → Prog (TpuEff nD τ sig Val Λ₀ .tc) α} (hr : ∀ y, y ∈ r.set)
    (h : (staged c t (Function.update X w (View.canon [⟨r, v⟩])) : sProp 𝕄) ⊢ wp frame (wpE defs₀ 𝒱₀ c bd) E (k ⟨⟩) Q) :
    (staged c t X : sProp 𝕄) ⊢ wp frame (wpE defs₀ 𝒱₀ c bd) E (.op (.store ((cfg.win w).stage (cfg.slots t w)) r v Finset.univ hx hm) k) Q := by
  have hk : iprop(staged c t X) ⊢ (iprop(owns (c : Thread nD τ) ((cfg.win w).stage (cfg.slots t w)) fullShare (X w)
      ∗ (owns (c : Thread nD τ) ((cfg.win w).stage (cfg.slots t w)) fullShare (View.canon [⟨r, v⟩]) -∗ staged c t (Function.update X w (View.canon [⟨r, v⟩])))) : sProp 𝕄) := by
    refine (bigSep_univ_turn (fun w Y => owns (c : Thread nD τ) ((cfg.win w).stage (cfg.slots t w)) fullShare Y) X w).trans ?_
    iintro ⟨H, Hb⟩
    isplitl [H]; · iexact H
    iintro H
    ihave Hs := Hb $$ %(View.canon [⟨r, v⟩]) H
    unfold staged
    iexact Hs
  refine hk.trans ?_
  unfold owns
  iintro ⟨H, Hb⟩
  icases H with ⟨%f, -, H⟩
  iapply (wp_store_writes₀ (hx := hx) (hm := hm) (k := k) 𝒱₀ (c : Thread nD τ) bd E (m := (cfg.win w).stage (cfg.slots t w)) (r := r) (w := v) (f := f)
    (View.set_slice_subset _ _)) $$ H
  iintro H
  iapply h
  iapply Hb
  iexists ((cfg.win w).stage (cfg.slots t w)).view.writes Val f [⟨r, v⟩]
  isplitr
  · ipureintro
    exact View.read_writes_eq_canon _ _ _ fun y => ⟨_, List.mem_singleton_self _, hr y⟩
  iexact H

/-- A load of all of window `w`'s block. -/
theorem load_whole {Q : α → sProp 𝕄} (w : Fin cfg.W) {off : Fin (cfg.win w).block.rank → ℕ} {hr : ∀ a, off a + (cfg.win w).block.size a ≤ (cfg.win w).block.size a}
    {hl : ((cfg.win w).stage (cfg.slots t w)).view.LoadsAt (Rect.unit off (cfg.win w).block.size hr).toLoadRect}
    {k : ((cfg.win w).block.Idx → Val (cfg.win w).elt) → Prog (TpuEff nD τ sig Val Λ₀ .tc) α} (h0 : ∀ a, off a = 0)
    (h : (staged c t X : sProp 𝕄) ⊢ wp frame (wpE defs₀ 𝒱₀ c bd) E (k (X w)) Q) :
    (staged c t X : sProp 𝕄) ⊢ wp frame (wpE defs₀ 𝒱₀ c bd) E
      (.op (.load ((cfg.win w).stage (cfg.slots t w)) (Rect.unit off (cfg.win w).block.size hr).toLoadRect hl) k) Q :=
  load (Lvl := Lvl) w (by rw [ld_whole (X w) off hr h0]; exact h)

/-- A store of all of window `w`'s block, which then holds what was stored. -/
theorem store_whole {Q : α → sProp 𝕄} (w : Fin cfg.W) {off : Fin (cfg.win w).block.rank → ℕ} {hr : ∀ a, off a + (cfg.win w).block.size a ≤ (cfg.win w).block.size a}
    {v : (cfg.win w).block.Idx → Val (cfg.win w).elt}
    {hx : (((cfg.win w).stage (cfg.slots t w)).access (Rect.unit off (cfg.win w).block.size hr)).Stores Finset.univ}
    {hm : Finset.univ = Finset.univ ∨ ∀ a, (Rect.unit off (cfg.win w).block.size hr).stride a = 1}
    {k : PUnit → Prog (TpuEff nD τ sig Val Λ₀ .tc) α} (h0 : ∀ a, off a = 0)
    (h : (staged c t (Function.update X w v) : sProp 𝕄) ⊢ wp frame (wpE defs₀ 𝒱₀ c bd) E (k ⟨⟩) Q) :
    (staged c t X : sProp 𝕄) ⊢ wp frame (wpE defs₀ 𝒱₀ c bd) E
      (.op (.store ((cfg.win w).stage (cfg.slots t w)) (Rect.unit off (cfg.win w).block.size hr) v Finset.univ hx hm) k) Q :=
  store (Lvl := Lvl) w (fun y => (LoadRect.mem_set _).mpr fun a => ⟨(y a).val, (y a).isLt, by show (y a).val = off a + 1 * (y a).val; rw [h0 a]; omega⟩) (by rw [canon_whole off hr h0 v]; exact h)

/-- The body's end. -/
theorem done {Q : α → sProp 𝕄} {x : α} (h : (staged c t X : sProp 𝕄) ⊢ Q x) :
    (staged c t X : sProp 𝕄) ⊢ wp frame (wpE defs₀ 𝒱₀ c bd) E (.ret x) Q := by
  refine h.trans (?_ : _ ⊢ (_ : sProp 𝕄))
  rw [wp_ret]
  iintro H
  imodintro
  iexact H

end Steps

/-! ### The proof data and the body obligation -/

/-- Window `w`'s block at point `t`, the array at `V w`. -/
def block {c : Dev nD} (V : (w : Fin cfg.W) → Buf Val ((cfg.win w).arr.view.loc (c : Thread nD τ))) (t : Fin cfg.N) : Blocks Val cfg := fun w =>
  (cfg.win w).fill (cfg.grid.coords t) (fun _ => Classical.arbitrary _) (((cfg.win w).blk t).view.read Val (V w))

/-- An entry of an uncut block is the array's entry the block places it at. -/
theorem block_apply {c : Dev nD} (V : (w : Fin cfg.W) → Buf Val ((cfg.win w).arr.view.loc (c : Thread nD τ))) (t : Fin cfg.N) (w : Fin cfg.W)
    (hx : ∀ a, (cfg.win w).xsize (cfg.grid.coords t) a = (cfg.win w).size a) (j : (cfg.win w).block.Idx) :
    block V t w j = ((cfg.win w).blk t).view.read Val (V w) fun a => ⟨j a, lt_of_lt_of_eq (j a).isLt (hx a).symm⟩ := by
  unfold block Window.fill
  rw [dif_pos (((cfg.win w).moved_iff _ j).mpr fun a => lt_of_lt_of_eq (j a).isLt (hx a).symm)]

/-- The block that is the whole array. -/
theorem block_whole {c : Dev nD} (V : (w : Fin cfg.W) → Buf Val ((cfg.win w).arr.view.loc (c : Thread nD τ))) (t : Fin cfg.N) (w : Fin cfg.W)
    (hw : ∀ a, (cfg.win w).index t a = 0 ∧ (cfg.win w).xsize (cfg.grid.coords t) a = (cfg.win w).size a ∧ (cfg.win w).size a = (cfg.win w).shape.size a)
    (j : (cfg.win w).block.Idx) :
    block V t w j = (cfg.win w).arr.view.read Val (V w) fun a => ⟨j a, lt_of_lt_of_eq (j a).isLt (hw a).2.2⟩ := by
  rw [block_apply V t w (fun a => (hw a).2.1) j]
  show (cfg.win w).arr.view.read Val (V w) _ = _
  congr 1
  funext a
  apply Fin.ext
  exact Window.rect_emb_val_of_index_zero _ _ _ (hw a).1 _

/-- An entry of an uncut block, by the coordinates of the array's entry. -/
theorem block_at {c : Dev nD} (V : (w : Fin cfg.W) → Buf Val ((cfg.win w).arr.view.loc (c : Thread nD τ))) (t : Fin cfg.N) (w : Fin cfg.W)
    (hx : ∀ a, (cfg.win w).xsize (cfg.grid.coords t) a = (cfg.win w).size a) (hk : (cfg.win w).kind = .blocked) (j : (cfg.win w).block.Idx) (i : (cfg.win w).shape.Idx)
    (h : ∀ a, (i a).val = (cfg.win w).index t a * (cfg.win w).size a + (j a).val) :
    block V t w j = (cfg.win w).arr.view.read Val (V w) i := by
  rw [block_apply V t w hx j]
  show (cfg.win w).arr.view.read Val (V w) _ = _
  congr 1
  funext a
  apply Fin.ext
  exact (Window.rect_emb_val _ _ _ a hk).trans (h a).symm

/-- The proof data: the body leaves `outs t` of the point's blocks. -/
def dat (V : (c : Dev nD) → (w : Fin cfg.W) → Buf Val ((cfg.win w).arr.view.loc (c : Thread nD τ)))
    (outs : Fin cfg.N → Blocks Val cfg → Blocks Val cfg) (c : Dev nD) : Dat τ Val Ix Name U Lvl cfg c where
  A := V c
  after w t := outs t (block (V c) t) w
  Φ _ := scopedRest cfg.spec c
  q _ := fullShare
  owed _ := 0

variable {V : (c : Dev nD) → (w : Fin cfg.W) → Buf Val ((cfg.win w).arr.view.loc (c : Thread nD τ))}
  {outs : Fin cfg.N → Blocks Val cfg → Blocks Val cfg}

/-- What is asked of the windows and of what the body leaves: no block is cut, every window is live at every point, the inputs are left as found, and the outputs
    depend on the inputs only. -/
structure Keeps (cfg : Cfg sig Λ₀) (outs : Fin cfg.N → Blocks Val cfg → Blocks Val cfg) : Prop where
  uncut : ∀ (w : Fin cfg.W) i a, (cfg.win w).clip i a = none
  live : ∀ (w : Fin cfg.W) i, cfg.idle w i = false
  ins : ∀ t X (w : Fin cfg.W), (cfg.win w).isOut = false → outs t X w = X w
  dep : ∀ t (X Y : Blocks Val cfg), (∀ w : Fin cfg.W, (cfg.win w).isOut = false → X w = Y w) → ∀ w : Fin cfg.W, (cfg.win w).isOut = true → outs t X w = outs t Y w

variable {c : Dev nD}

theorem fill_uncut (h : Keeps cfg outs) (w : Fin cfg.W) (i : cfg.grid.Coords) (d d' : (cfg.win w).block.Idx → Val (cfg.win w).elt)
    (g : ((cfg.win w).xblock i).Idx → Val (cfg.win w).elt) : (cfg.win w).fill i d g = (cfg.win w).fill i d' g := by
  funext j
  have hj : (cfg.win w).moved i j = true := ((cfg.win w).moved_iff i j).mpr fun a => by
    show (j a).val < ((cfg.win w).clip i a).extent ((cfg.win w).size a)
    rw [h.uncut w i a]; exact (j a).isLt
  unfold Window.fill
  rw [dif_pos hj, dif_pos hj]

/-- An input's staging buffer holds its block at every point. -/
theorem before_in (h : Keeps cfg outs) (w : Fin cfg.W) (hw : (cfg.win w).isOut = false) (t : Fin cfg.N) (d) :
    (dat (Ix := Ix) (Name := Name) (U := U) (Lvl := Lvl) V outs c).before w t d = block (V c) t w := by
  refine (Dat.before_in_eq_fetched _ w hw (h.live w) (fun t t' _ => ?_) (fun t => ?_) t d).trans (fill_uncut h w _ _ _ _)
  · funext a; rw [h.uncut, h.uncut]
  · show (cfg.win w).cut _ (outs t (block (V c) t) w) = _
    rw [h.ins t _ w hw]
    exact (cfg.win w).cut_fill _ _ _

/-- The body obligation, from what the body does to any family of blocks. -/
theorem obligation {defs₀ : Defs nD τ sig Val Λ₀} {𝒱₀ : Variants} {ι : Ix} (h : Keeps cfg outs)
    (hrun : ∀ (t : Fin cfg.N) (X : Blocks Val cfg), (staged c t X : sProp 𝕄)
      ⊢ wp frame (wpE defs₀ 𝒱₀ c none) Set.univ (defs₀ .tc cfg.body (cfg.bodyArgs t (cfg.slots t))) fun _ => staged c t (outs t X)) :
    BodyObligation (dat (Ix := Ix) (Name := Name) (U := U) (Lvl := Lvl) V outs c) defs₀ 𝒱₀ ι Set.univ := by
  intro t
  dsimp only
  have hpost (X : Blocks Val cfg) (hX : ∀ w : Fin cfg.W, (cfg.win w).isOut = false → X w = block (V c) t w) :
      (staged c t (outs t X) : sProp 𝕄) ⊢ bigSep Finset.univ fun w : Fin cfg.W => (match cfg.idle w (cfg.grid.coords t) with
        | true =>
          match (cfg.win w).flush t with
          | false => iprop(∃ d, owns (c : Thread nD τ) ((cfg.win w).stage (cfg.slots t w)) fullShare ((dat (Ix := Ix) (Name := Name) (U := U) (Lvl := Lvl) V outs c).before w t d))
          | true => owns (c : Thread nD τ) ((cfg.win w).stage (cfg.slots t w)) fullShare ((dat (Ix := Ix) (Name := Name) (U := U) (Lvl := Lvl) V outs c).after w t)
        | false => owns (c : Thread nD τ) ((cfg.win w).stage (cfg.slots t w)) fullShare ((dat (Ix := Ix) (Name := Name) (U := U) (Lvl := Lvl) V outs c).after w t)) := by
    unfold staged
    refine bigSep_mono fun w _ => ?_
    rw [h.live w]
    dsimp only
    have e : outs t X w = (dat (Ix := Ix) (Name := Name) (U := U) (Lvl := Lvl) V outs c).after w t := by
      show _ = outs t (block (V c) t) w
      cases hw : (cfg.win w).isOut
      · rw [h.ins t _ w hw, h.ins t _ w hw, hX w hw]
      · exact h.dep t _ _ hX w hw
    rw [e]
    exact BI.Entails.refl _
  have hpre : (bigSep Finset.univ fun w : Fin cfg.W => iprop(∃ d, owns (c : Thread nD τ) ((cfg.win w).stage (cfg.slots t w)) fullShare
        ((dat (Ix := Ix) (Name := Name) (U := U) (Lvl := Lvl) V outs c).before w t d)))
      ⊢ (iprop(∃ X : Blocks Val cfg, ⌜∀ w : Fin cfg.W, (cfg.win w).isOut = false → X w = block (V c) t w⌝ ∗ staged c t X) : sProp 𝕄) := by
    refine (bigSep_exists_pi Finset.univ fun (w : Fin cfg.W) d => owns (c : Thread nD τ) ((cfg.win w).stage (cfg.slots t w)) fullShare
        ((dat (Ix := Ix) (Name := Name) (U := U) (Lvl := Lvl) V outs c).before w t d)).trans ?_
    iintro ⟨%d, H⟩
    iexists fun w => (dat (Ix := Ix) (Name := Name) (U := U) (Lvl := Lvl) V outs c).before w t (d w)
    isplitr
    · ipureintro; exact fun w hw => before_in h w hw t _
    unfold staged
    iexact H
  iintro ⟨HΦ, HO, Hw⟩
  ihave H := hpre $$ Hw
  icases H with ⟨%X, %hX, H⟩
  ihave Hwp := (hrun t X) $$ H
  iapply (wp_wand frame (wpE defs₀ 𝒱₀ (c : Thread nD τ) none)) $$ Hwp
  iintro %u H
  isplitl [HΦ]
  · unfold dat; iexact HΦ
  isplitl [HO]
  · iexact HO
  ihave H := (hpost X hX) $$ H
  iexact H

/-- An output written back once, whole, holds what the body left. -/
theorem result (w : Fin cfg.W) (t₀ : Fin cfg.N) (hw : (cfg.win w).WholeAt t₀) (harr : (cfg.win w).arr.IsWhole)
    (G : Buf Val ((cfg.win w).arr.view.loc (c : Thread nD τ)))
    (hG : ∀ j : (cfg.win w).shape.Idx, _root_.cast (congrArg Val (cfg.win w).arr.view.elt_eq.symm)
      (outs t₀ (block (V c) t₀) w fun a => ⟨j a, hw.lt_size j a⟩) = G ((cfg.win w).arr.view.emb j)) :
    (dat (Ix := Ix) (Name := Name) (U := U) (Lvl := Lvl) V outs c).arrAt w cfg.N = G :=
  Dat.arrAt_eq_of_after_last _ w t₀ hw G hG harr

/-- An output whose blocks tile the array holds, entry by entry, what the body left. -/
theorem result_tiled (w : Fin cfg.W) (hcov : (cfg.win w).Covers) (harr : (cfg.win w).arr.IsWhole) (hk : (cfg.win w).kind = .blocked)
    (G : Buf Val ((cfg.win w).arr.view.loc (c : Thread nD τ)))
    (hG : ∀ (t : Fin cfg.N) (j : (cfg.win w).block.Idx) (i : (cfg.win w).shape.Idx), (∀ a, (i a).val = (cfg.win w).index t a * (cfg.win w).size a + (j a).val) →
      _root_.cast (congrArg Val (cfg.win w).arr.view.elt_eq.symm) (outs t (block (V c) t) w j) = G ((cfg.win w).arr.view.emb i)) :
    (dat (Ix := Ix) (Name := Name) (U := U) (Lvl := Lvl) V outs c).arrAt w cfg.N = G :=
  Dat.arrAt_eq_of_covers _ w G hcov (fun t _ y => hG t _ (((cfg.win w).rect t).emb y) fun a => Window.rect_emb_val _ _ _ a hk) harr

/-! ### The region's record -/

section Record

variable {P : Type} [Fintype P] (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants) (L : GSem nD τ sig → Finset Ix) (lv : GSem nD τ sig → Ix → Lvl)
  (p : P)

/-- What a core keeps beside its buffers: its debts, which are none. -/
abbrev debtless (c : Dev nD) : sProp 𝕄 := iprop(∃ W, owes (c : Thread nD τ) (0 : CellTallies nD τ sig Ix) W)

/-- The region, all the buffers `S` held at `W c` when it is entered. -/
def seg (S : Finset (DevRef τ sig)) (kit : PLaunchFacts (nD := nD) (τ := τ) pcs p) (hK : (pcs p).pre.K = 0)
    (hbody : ∀ c, BodyObligation (pdats p c) defs₀ 𝒱₀ ι Set.univ)
    (outs : Fin (pin pcs a p).N → Blocks Val (pin pcs a p) → Blocks Val (pin pcs a p)) (W : Dev nD → Valuation τ sig Val)
    (hd : ∀ c, pdats p c = dat (fun c w => W c (Proc.devRef .tc (arrRef (pin pcs a p).spec w))) outs c)
    (b : Lvl) (hι : ∀ (c : Dev nD) (w : Fin (pin pcs a p).W) (s : Fin ((pin pcs a p).win w).nbuf), ι ∈ L ((c : Thread nD τ), .dma (((pin pcs a p).win w).sem s)))
    (hb : ∀ g i, lv g i ≤ b) :
    RegionSeg pcs a pdats ι defs₀ 𝒱₀ L lv p :=
  RegionSeg.ofHeldIn pcs a pdats ι defs₀ 𝒱₀ L lv p (fun _ => 0) S (fun _ => iprop(emp)) (fun _ => iprop(emp)) kit hK (fun c => (hbody c).loose) (fun c t => by rw [hd c]; rfl) (fun c => by rw [hd c]; rfl)
    (fun c w => by rw [hd c]; unfold Dat.share dat; split <;> rfl)
    (fun c => by
      rw [hd c]; unfold dat
      iintro ⟨H, -⟩
      iexact H)
    (fun c => by
      rw [hd c]; unfold dat
      iintro H
      isplitl [H]; · iexact H
      iempintro)
    (fun _ => b) ⟨hι, fun c w s => hb _ _, fun c g i h => absurd h (Nat.lt_irrefl 0)⟩ (fun _ => iprop(emp)) W (fun c w => by rw [hd c]; rfl)

variable {pcs a pdats ι defs₀ 𝒱₀ L lv p}

theorem seg_pre {S : Finset (DevRef τ sig)} (hS : arrRefs (pcs p).spec ⊆ S) {kit hK hbody outs W hd b hι hb} (c : Dev nD) :
    iprop(StableHlo.held (c : Thread nD τ) S (W c) ∗ debtless c)
      ⊢ (seg pcs a pdats ι defs₀ 𝒱₀ L lv p S kit hK hbody outs W hd b hι hb).pre c := by
  refine BI.Entails.trans ?_ (RegionSeg.ofHeldIn_pre hS c)
  refine (?_ : _ ⊢ (_ : sProp 𝕄))
  iintro ⟨H, HO⟩
  isplitl [H]; · iexact H
  isplitl [HO]; · iexact HO
  isplitl <;> iempintro

theorem seg_post {S : Finset (DevRef τ sig)} (hS : arrRefs (pcs p).spec ⊆ S) {kit hK hbody outs W hd b hι hb} (c : Dev nD) :
    (seg pcs a pdats ι defs₀ 𝒱₀ L lv p S kit hK hbody outs W hd b hι hb).post c
      ⊢ iprop(StableHlo.held (c : Thread nD τ) S (afterRegion (pdats p c) (W c)) ∗ debtless c) := by
  refine (RegionSeg.ofHeldIn_post hS c).trans ?_
  iintro ⟨H, HO, -, -⟩
  isplitl [H]; · iexact H
  iexact HO

end Record

end Cert.Windowed
-- ==== Proof.GradRegions.lean ====
/-
The six calls after the exchange: of each array of weights, the sum of its gradient over the eight slots and the AdamW step.

A call's body reads, at each grid point, a block of the weights (window 0), of the two moments (1, 2) and of the eight slots (3), and overwrites the blocks of the
gradient (4), the change (5) and the two new moments (6, 7). `stepped…` says what it leaves of what the blocks held, and `…_run` runs it.
-/
module

public import proofs.«01_k».proof.Proof.Windowed
public import proofs.«01_k».proof.Proof.Gen.KernelIdeal.Points
public import proofs.«01_k».proof.Proof.Gen.KernelIdeal.Skeleton

@[expose] public section

noncomputable section

namespace Cert.Grads

open Cert.KernelIdeal Cert.KernelIdeal.Gen Cert.Windowed
open Idealize.ShloMosaic
open Idealize.SL
open Idealize.SL.BI (sProp bigSep bigSepL)
open scoped Idealize.SL.BI
open Idealize.SL.BI.BIBase Idealize.SL.BI.Laws Idealize.SL.Sem Idealize.SL.ProofMode
open Idealize.SL.RA
open TcCoe

set_option Elab.async false

variable {F : FTy → Type} [FloatOps F]
variable {Ix : Type} [DecidableEq Ix] {U : Type} [URA U] {Lvl : Type} [Preorder Lvl]

local notation "𝕄" => MT nD τ sig Ix (Elt F) ℕ U Lvl

/-! ### w_in -/

/-- The sum of the eight slots. -/
def slots1 (X : S8x256x1024.Idx → Elt F .bf16) : FVec F S256x1024 .f32 :=
  k1_pay4
    (View.ld X (Rect.unit (s := S8x256x1024) ![0, 0, 0] S1x256x1024.size inb_S8x256x1024_S1x256x1024_0_0_0))
    (View.ld X (Rect.unit (s := S8x256x1024) ![1, 0, 0] S1x256x1024.size inb_S8x256x1024_S1x256x1024_1_0_0))
    (View.ld X (Rect.unit (s := S8x256x1024) ![2, 0, 0] S1x256x1024.size inb_S8x256x1024_S1x256x1024_2_0_0))
    (View.ld X (Rect.unit (s := S8x256x1024) ![3, 0, 0] S1x256x1024.size inb_S8x256x1024_S1x256x1024_3_0_0))
    (View.ld X (Rect.unit (s := S8x256x1024) ![4, 0, 0] S1x256x1024.size inb_S8x256x1024_S1x256x1024_4_0_0))
    (View.ld X (Rect.unit (s := S8x256x1024) ![5, 0, 0] S1x256x1024.size inb_S8x256x1024_S1x256x1024_5_0_0))
    (View.ld X (Rect.unit (s := S8x256x1024) ![6, 0, 0] S1x256x1024.size inb_S8x256x1024_S1x256x1024_6_0_0))
    (View.ld X (Rect.unit (s := S8x256x1024) ![7, 0, 0] S1x256x1024.size inb_S8x256x1024_S1x256x1024_7_0_0))

def stepped1 (t : Fin cfg1.N) (X : Blocks (Elt F) cfg1) : Blocks (Elt F) cfg1 :=
  Function.update (Function.update (Function.update (Function.update X 4 (slots1 (X 3))) 5 (k1_pay3 (slots1 (X 3)) (k1_pay5 (X 1)) (X 2) (X 0))) 6 (k1_pay1 (slots1 (X 3)) (k1_pay5 (X 1)))) 7 (k1_pay2 (slots1 (X 3)) (X 2))

theorem w_in_run (𝒱 : Variants) (c : Dev nD) (bd : Option 𝒱.V) (t : Fin cfg1.N) (X : Blocks (Elt F) cfg1) :
    (staged c t X : sProp 𝕄) ⊢ wp frame (wpE defs₀ 𝒱 c bd) Set.univ (bodyAt1 t) fun _ => staged c t (stepped1 t X) := by
  unfold bodyAt1
  simp only [cc1_adamw_w_in_eq_skeleton]
  unfold cc1_adamw_w_in_skel
  simp only [k1_part1_eq_skeleton]
  unfold k1_part1_skel
  simp only [Prog.lift, Prog.bind_op, Prog.bind_ret, Prog.pure_eq_ret]
  iterate 8 refine Windowed.load (Lvl := Lvl) (3 : Fin cfg1.W) ?_
  refine Windowed.load_whole (Lvl := Lvl) (1 : Fin cfg1.W) (by decide) ?_
  refine Windowed.load_whole (Lvl := Lvl) (2 : Fin cfg1.W) (by decide) ?_
  refine Windowed.load_whole (Lvl := Lvl) (4 : Fin cfg1.W) (by decide) ?_
  refine Windowed.store_whole (Lvl := Lvl) (4 : Fin cfg1.W) (by decide) ?_
  refine Windowed.load_whole (Lvl := Lvl) (0 : Fin cfg1.W) (by decide) ?_
  refine Windowed.load_whole (Lvl := Lvl) (5 : Fin cfg1.W) (by decide) ?_
  refine Windowed.store_whole (Lvl := Lvl) (5 : Fin cfg1.W) (by decide) ?_
  refine Windowed.load_whole (Lvl := Lvl) (6 : Fin cfg1.W) (by decide) ?_
  refine Windowed.store_whole (Lvl := Lvl) (6 : Fin cfg1.W) (by decide) ?_
  refine Windowed.load_whole (Lvl := Lvl) (7 : Fin cfg1.W) (by decide) ?_
  refine Windowed.store_whole (Lvl := Lvl) (7 : Fin cfg1.W) (by decide) ?_
  exact Windowed.done (Lvl := Lvl) (BI.Entails.refl _)

theorem w_in_keeps : Keeps cfg1 (stepped1 (F := F)) where
  uncut w i a := by fin_cases w <;> rfl
  live w i := by fin_cases w <;> rfl
  ins t X w hw := by
    fin_cases w
    all_goals first | exact absurd hw (by decide) | rfl
  dep t X Y h w hw := by
    fin_cases w
    all_goals first
      | exact absurd hw (by decide)
      | (simp only [stepped1]; rw [h 0 rfl, h 1 rfl, h 2 rfl, h 3 rfl]; rfl)

/-! ### glu_w -/

/-- The sum of the eight slots. -/
def slots2 (X : S8x64x512.Idx → Elt F .bf16) : FVec F S64x512 .f32 :=
  k2_pay4
    (View.ld X (Rect.unit (s := S8x64x512) ![0, 0, 0] S1x64x512.size inb_S8x64x512_S1x64x512_0_0_0))
    (View.ld X (Rect.unit (s := S8x64x512) ![1, 0, 0] S1x64x512.size inb_S8x64x512_S1x64x512_1_0_0))
    (View.ld X (Rect.unit (s := S8x64x512) ![2, 0, 0] S1x64x512.size inb_S8x64x512_S1x64x512_2_0_0))
    (View.ld X (Rect.unit (s := S8x64x512) ![3, 0, 0] S1x64x512.size inb_S8x64x512_S1x64x512_3_0_0))
    (View.ld X (Rect.unit (s := S8x64x512) ![4, 0, 0] S1x64x512.size inb_S8x64x512_S1x64x512_4_0_0))
    (View.ld X (Rect.unit (s := S8x64x512) ![5, 0, 0] S1x64x512.size inb_S8x64x512_S1x64x512_5_0_0))
    (View.ld X (Rect.unit (s := S8x64x512) ![6, 0, 0] S1x64x512.size inb_S8x64x512_S1x64x512_6_0_0))
    (View.ld X (Rect.unit (s := S8x64x512) ![7, 0, 0] S1x64x512.size inb_S8x64x512_S1x64x512_7_0_0))

def stepped2 (t : Fin cfg2.N) (X : Blocks (Elt F) cfg2) : Blocks (Elt F) cfg2 :=
  Function.update (Function.update (Function.update (Function.update X 4 (slots2 (X 3))) 5 (k2_pay3 (slots2 (X 3)) (k2_pay5 (X 1)) (X 2) (X 0))) 6 (k2_pay1 (slots2 (X 3)) (k2_pay5 (X 1)))) 7 (k2_pay2 (slots2 (X 3)) (X 2))

theorem glu_w_run (𝒱 : Variants) (c : Dev nD) (bd : Option 𝒱.V) (t : Fin cfg2.N) (X : Blocks (Elt F) cfg2) :
    (staged c t X : sProp 𝕄) ⊢ wp frame (wpE defs₀ 𝒱 c bd) Set.univ (bodyAt2 t) fun _ => staged c t (stepped2 t X) := by
  unfold bodyAt2
  simp only [cc2_adamw_glu_w_eq_skeleton]
  unfold cc2_adamw_glu_w_skel
  simp only [k2_part1_eq_skeleton]
  unfold k2_part1_skel
  simp only [Prog.lift, Prog.bind_op, Prog.bind_ret, Prog.pure_eq_ret]
  iterate 8 refine Windowed.load (Lvl := Lvl) (3 : Fin cfg2.W) ?_
  refine Windowed.load_whole (Lvl := Lvl) (1 : Fin cfg2.W) (by decide) ?_
  refine Windowed.load_whole (Lvl := Lvl) (2 : Fin cfg2.W) (by decide) ?_
  refine Windowed.load_whole (Lvl := Lvl) (4 : Fin cfg2.W) (by decide) ?_
  refine Windowed.store_whole (Lvl := Lvl) (4 : Fin cfg2.W) (by decide) ?_
  refine Windowed.load_whole (Lvl := Lvl) (0 : Fin cfg2.W) (by decide) ?_
  refine Windowed.load_whole (Lvl := Lvl) (5 : Fin cfg2.W) (by decide) ?_
  refine Windowed.store_whole (Lvl := Lvl) (5 : Fin cfg2.W) (by decide) ?_
  refine Windowed.load_whole (Lvl := Lvl) (6 : Fin cfg2.W) (by decide) ?_
  refine Windowed.store_whole (Lvl := Lvl) (6 : Fin cfg2.W) (by decide) ?_
  refine Windowed.load_whole (Lvl := Lvl) (7 : Fin cfg2.W) (by decide) ?_
  refine Windowed.store_whole (Lvl := Lvl) (7 : Fin cfg2.W) (by decide) ?_
  exact Windowed.done (Lvl := Lvl) (BI.Entails.refl _)

theorem glu_w_keeps : Keeps cfg2 (stepped2 (F := F)) where
  uncut w i a := by fin_cases w <;> rfl
  live w i := by fin_cases w <;> rfl
  ins t X w hw := by
    fin_cases w
    all_goals first | exact absurd hw (by decide) | rfl
  dep t X Y h w hw := by
    fin_cases w
    all_goals first
      | exact absurd hw (by decide)
      | (simp only [stepped2]; rw [h 0 rfl, h 1 rfl, h 2 rfl, h 3 rfl]; rfl)

/-! ### w_out -/

/-- The sum of the eight slots. -/
def slots3 (X : S8x128x1024.Idx → Elt F .bf16) : FVec F S128x1024 .f32 :=
  k3_pay4
    (View.ld X (Rect.unit (s := S8x128x1024) ![0, 0, 0] S1x128x1024.size inb_S8x128x1024_S1x128x1024_0_0_0))
    (View.ld X (Rect.unit (s := S8x128x1024) ![1, 0, 0] S1x128x1024.size inb_S8x128x1024_S1x128x1024_1_0_0))
    (View.ld X (Rect.unit (s := S8x128x1024) ![2, 0, 0] S1x128x1024.size inb_S8x128x1024_S1x128x1024_2_0_0))
    (View.ld X (Rect.unit (s := S8x128x1024) ![3, 0, 0] S1x128x1024.size inb_S8x128x1024_S1x128x1024_3_0_0))
    (View.ld X (Rect.unit (s := S8x128x1024) ![4, 0, 0] S1x128x1024.size inb_S8x128x1024_S1x128x1024_4_0_0))
    (View.ld X (Rect.unit (s := S8x128x1024) ![5, 0, 0] S1x128x1024.size inb_S8x128x1024_S1x128x1024_5_0_0))
    (View.ld X (Rect.unit (s := S8x128x1024) ![6, 0, 0] S1x128x1024.size inb_S8x128x1024_S1x128x1024_6_0_0))
    (View.ld X (Rect.unit (s := S8x128x1024) ![7, 0, 0] S1x128x1024.size inb_S8x128x1024_S1x128x1024_7_0_0))

def stepped3 (t : Fin cfg3.N) (X : Blocks (Elt F) cfg3) : Blocks (Elt F) cfg3 :=
  Function.update (Function.update (Function.update (Function.update X 4 (slots3 (X 3))) 5 (k3_pay3 (slots3 (X 3)) (k3_pay5 (X 1)) (X 2) (X 0))) 6 (k3_pay1 (slots3 (X 3)) (k3_pay5 (X 1)))) 7 (k3_pay2 (slots3 (X 3)) (X 2))

theorem w_out_run (𝒱 : Variants) (c : Dev nD) (bd : Option 𝒱.V) (t : Fin cfg3.N) (X : Blocks (Elt F) cfg3) :
    (staged c t X : sProp 𝕄) ⊢ wp frame (wpE defs₀ 𝒱 c bd) Set.univ (bodyAt3 t) fun _ => staged c t (stepped3 t X) := by
  unfold bodyAt3
  simp only [cc3_adamw_w_out_eq_skeleton]
  unfold cc3_adamw_w_out_skel
  simp only [k3_part1_eq_skeleton]
  unfold k3_part1_skel
  simp only [Prog.lift, Prog.bind_op, Prog.bind_ret, Prog.pure_eq_ret]
  iterate 8 refine Windowed.load (Lvl := Lvl) (3 : Fin cfg3.W) ?_
  refine Windowed.load_whole (Lvl := Lvl) (1 : Fin cfg3.W) (by decide) ?_
  refine Windowed.load_whole (Lvl := Lvl) (2 : Fin cfg3.W) (by decide) ?_
  refine Windowed.load_whole (Lvl := Lvl) (4 : Fin cfg3.W) (by decide) ?_
  refine Windowed.store_whole (Lvl := Lvl) (4 : Fin cfg3.W) (by decide) ?_
  refine Windowed.load_whole (Lvl := Lvl) (0 : Fin cfg3.W) (by decide) ?_
  refine Windowed.load_whole (Lvl := Lvl) (5 : Fin cfg3.W) (by decide) ?_
  refine Windowed.store_whole (Lvl := Lvl) (5 : Fin cfg3.W) (by decide) ?_
  refine Windowed.load_whole (Lvl := Lvl) (6 : Fin cfg3.W) (by decide) ?_
  refine Windowed.store_whole (Lvl := Lvl) (6 : Fin cfg3.W) (by decide) ?_
  refine Windowed.load_whole (Lvl := Lvl) (7 : Fin cfg3.W) (by decide) ?_
  refine Windowed.store_whole (Lvl := Lvl) (7 : Fin cfg3.W) (by decide) ?_
  exact Windowed.done (Lvl := Lvl) (BI.Entails.refl _)

theorem w_out_keeps : Keeps cfg3 (stepped3 (F := F)) where
  uncut w i a := by fin_cases w <;> rfl
  live w i := by fin_cases w <;> rfl
  ins t X w hw := by
    fin_cases w
    all_goals first | exact absurd hw (by decide) | rfl
  dep t X Y h w hw := by
    fin_cases w
    all_goals first
      | exact absurd hw (by decide)
      | (simp only [stepped3]; rw [h 0 rfl, h 1 rfl, h 2 rfl, h 3 rfl]; rfl)

/-! ### w_mlp_up -/

/-- The sum of the eight slots. -/
def slots4 (X : S8x128x1024.Idx → Elt F .bf16) : FVec F S128x1024 .f32 :=
  k4_pay4
    (View.ld X (Rect.unit (s := S8x128x1024) ![0, 0, 0] S1x128x1024.size inb_S8x128x1024_S1x128x1024_0_0_0))
    (View.ld X (Rect.unit (s := S8x128x1024) ![1, 0, 0] S1x128x1024.size inb_S8x128x1024_S1x128x1024_1_0_0))
    (View.ld X (Rect.unit (s := S8x128x1024) ![2, 0, 0] S1x128x1024.size inb_S8x128x1024_S1x128x1024_2_0_0))
    (View.ld X (Rect.unit (s := S8x128x1024) ![3, 0, 0] S1x128x1024.size inb_S8x128x1024_S1x128x1024_3_0_0))
    (View.ld X (Rect.unit (s := S8x128x1024) ![4, 0, 0] S1x128x1024.size inb_S8x128x1024_S1x128x1024_4_0_0))
    (View.ld X (Rect.unit (s := S8x128x1024) ![5, 0, 0] S1x128x1024.size inb_S8x128x1024_S1x128x1024_5_0_0))
    (View.ld X (Rect.unit (s := S8x128x1024) ![6, 0, 0] S1x128x1024.size inb_S8x128x1024_S1x128x1024_6_0_0))
    (View.ld X (Rect.unit (s := S8x128x1024) ![7, 0, 0] S1x128x1024.size inb_S8x128x1024_S1x128x1024_7_0_0))

def stepped4 (t : Fin cfg4.N) (X : Blocks (Elt F) cfg4) : Blocks (Elt F) cfg4 :=
  Function.update (Function.update (Function.update (Function.update X 4 (slots4 (X 3))) 5 (k4_pay3 (slots4 (X 3)) (k4_pay5 (X 1)) (X 2) (X 0))) 6 (k4_pay1 (slots4 (X 3)) (k4_pay5 (X 1)))) 7 (k4_pay2 (slots4 (X 3)) (X 2))

theorem w_mlp_up_run (𝒱 : Variants) (c : Dev nD) (bd : Option 𝒱.V) (t : Fin cfg4.N) (X : Blocks (Elt F) cfg4) :
    (staged c t X : sProp 𝕄) ⊢ wp frame (wpE defs₀ 𝒱 c bd) Set.univ (bodyAt4 t) fun _ => staged c t (stepped4 t X) := by
  unfold bodyAt4
  simp only [cc4_adamw_w_mlp_up_eq_skeleton]
  unfold cc4_adamw_w_mlp_up_skel
  simp only [k4_part1_eq_skeleton]
  unfold k4_part1_skel
  simp only [Prog.lift, Prog.bind_op, Prog.bind_ret, Prog.pure_eq_ret]
  iterate 8 refine Windowed.load (Lvl := Lvl) (3 : Fin cfg4.W) ?_
  refine Windowed.load_whole (Lvl := Lvl) (1 : Fin cfg4.W) (by decide) ?_
  refine Windowed.load_whole (Lvl := Lvl) (2 : Fin cfg4.W) (by decide) ?_
  refine Windowed.load_whole (Lvl := Lvl) (4 : Fin cfg4.W) (by decide) ?_
  refine Windowed.store_whole (Lvl := Lvl) (4 : Fin cfg4.W) (by decide) ?_
  refine Windowed.load_whole (Lvl := Lvl) (0 : Fin cfg4.W) (by decide) ?_
  refine Windowed.load_whole (Lvl := Lvl) (5 : Fin cfg4.W) (by decide) ?_
  refine Windowed.store_whole (Lvl := Lvl) (5 : Fin cfg4.W) (by decide) ?_
  refine Windowed.load_whole (Lvl := Lvl) (6 : Fin cfg4.W) (by decide) ?_
  refine Windowed.store_whole (Lvl := Lvl) (6 : Fin cfg4.W) (by decide) ?_
  refine Windowed.load_whole (Lvl := Lvl) (7 : Fin cfg4.W) (by decide) ?_
  refine Windowed.store_whole (Lvl := Lvl) (7 : Fin cfg4.W) (by decide) ?_
  exact Windowed.done (Lvl := Lvl) (BI.Entails.refl _)

theorem w_mlp_up_keeps : Keeps cfg4 (stepped4 (F := F)) where
  uncut w i a := by fin_cases w <;> rfl
  live w i := by fin_cases w <;> rfl
  ins t X w hw := by
    fin_cases w
    all_goals first | exact absurd hw (by decide) | rfl
  dep t X Y h w hw := by
    fin_cases w
    all_goals first
      | exact absurd hw (by decide)
      | (simp only [stepped4]; rw [h 0 rfl, h 1 rfl, h 2 rfl, h 3 rfl]; rfl)

/-! ### w_mlp_down -/

/-- The sum of the eight slots. -/
def slots5 (X : S8x128x1024.Idx → Elt F .bf16) : FVec F S128x1024 .f32 :=
  k5_pay4
    (View.ld X (Rect.unit (s := S8x128x1024) ![0, 0, 0] S1x128x1024.size inb_S8x128x1024_S1x128x1024_0_0_0))
    (View.ld X (Rect.unit (s := S8x128x1024) ![1, 0, 0] S1x128x1024.size inb_S8x128x1024_S1x128x1024_1_0_0))
    (View.ld X (Rect.unit (s := S8x128x1024) ![2, 0, 0] S1x128x1024.size inb_S8x128x1024_S1x128x1024_2_0_0))
    (View.ld X (Rect.unit (s := S8x128x1024) ![3, 0, 0] S1x128x1024.size inb_S8x128x1024_S1x128x1024_3_0_0))
    (View.ld X (Rect.unit (s := S8x128x1024) ![4, 0, 0] S1x128x1024.size inb_S8x128x1024_S1x128x1024_4_0_0))
    (View.ld X (Rect.unit (s := S8x128x1024) ![5, 0, 0] S1x128x1024.size inb_S8x128x1024_S1x128x1024_5_0_0))
    (View.ld X (Rect.unit (s := S8x128x1024) ![6, 0, 0] S1x128x1024.size inb_S8x128x1024_S1x128x1024_6_0_0))
    (View.ld X (Rect.unit (s := S8x128x1024) ![7, 0, 0] S1x128x1024.size inb_S8x128x1024_S1x128x1024_7_0_0))

def stepped5 (t : Fin cfg5.N) (X : Blocks (Elt F) cfg5) : Blocks (Elt F) cfg5 :=
  Function.update (Function.update (Function.update (Function.update X 4 (slots5 (X 3))) 5 (k5_pay3 (slots5 (X 3)) (k5_pay5 (X 1)) (X 2) (X 0))) 6 (k5_pay1 (slots5 (X 3)) (k5_pay5 (X 1)))) 7 (k5_pay2 (slots5 (X 3)) (X 2))

theorem w_mlp_down_run (𝒱 : Variants) (c : Dev nD) (bd : Option 𝒱.V) (t : Fin cfg5.N) (X : Blocks (Elt F) cfg5) :
    (staged c t X : sProp 𝕄) ⊢ wp frame (wpE defs₀ 𝒱 c bd) Set.univ (bodyAt5 t) fun _ => staged c t (stepped5 t X) := by
  unfold bodyAt5
  simp only [cc5_adamw_w_mlp_down_eq_skeleton]
  unfold cc5_adamw_w_mlp_down_skel
  simp only [k5_part1_eq_skeleton]
  unfold k5_part1_skel
  simp only [Prog.lift, Prog.bind_op, Prog.bind_ret, Prog.pure_eq_ret]
  iterate 8 refine Windowed.load (Lvl := Lvl) (3 : Fin cfg5.W) ?_
  refine Windowed.load_whole (Lvl := Lvl) (1 : Fin cfg5.W) (by decide) ?_
  refine Windowed.load_whole (Lvl := Lvl) (2 : Fin cfg5.W) (by decide) ?_
  refine Windowed.load_whole (Lvl := Lvl) (4 : Fin cfg5.W) (by decide) ?_
  refine Windowed.store_whole (Lvl := Lvl) (4 : Fin cfg5.W) (by decide) ?_
  refine Windowed.load_whole (Lvl := Lvl) (0 : Fin cfg5.W) (by decide) ?_
  refine Windowed.load_whole (Lvl := Lvl) (5 : Fin cfg5.W) (by decide) ?_
  refine Windowed.store_whole (Lvl := Lvl) (5 : Fin cfg5.W) (by decide) ?_
  refine Windowed.load_whole (Lvl := Lvl) (6 : Fin cfg5.W) (by decide) ?_
  refine Windowed.store_whole (Lvl := Lvl) (6 : Fin cfg5.W) (by decide) ?_
  refine Windowed.load_whole (Lvl := Lvl) (7 : Fin cfg5.W) (by decide) ?_
  refine Windowed.store_whole (Lvl := Lvl) (7 : Fin cfg5.W) (by decide) ?_
  exact Windowed.done (Lvl := Lvl) (BI.Entails.refl _)

theorem w_mlp_down_keeps : Keeps cfg5 (stepped5 (F := F)) where
  uncut w i a := by fin_cases w <;> rfl
  live w i := by fin_cases w <;> rfl
  ins t X w hw := by
    fin_cases w
    all_goals first | exact absurd hw (by decide) | rfl
  dep t X Y h w hw := by
    fin_cases w
    all_goals first
      | exact absurd hw (by decide)
      | (simp only [stepped5]; rw [h 0 rfl, h 1 rfl, h 2 rfl, h 3 rfl]; rfl)

/-! ### small -/

/-- The sum of the eight slots. -/
def slots6 (X : S8x1128x128.Idx → Elt F .f32) : FVec F S1128x128 .f32 :=
  k6_pay3
    (View.ld X (Rect.unit (s := S8x1128x128) ![0, 0, 0] S1x1128x128.size inb_S8x1128x128_S1x1128x128_0_0_0))
    (View.ld X (Rect.unit (s := S8x1128x128) ![1, 0, 0] S1x1128x128.size inb_S8x1128x128_S1x1128x128_1_0_0))
    (View.ld X (Rect.unit (s := S8x1128x128) ![2, 0, 0] S1x1128x128.size inb_S8x1128x128_S1x1128x128_2_0_0))
    (View.ld X (Rect.unit (s := S8x1128x128) ![3, 0, 0] S1x1128x128.size inb_S8x1128x128_S1x1128x128_3_0_0))
    (View.ld X (Rect.unit (s := S8x1128x128) ![4, 0, 0] S1x1128x128.size inb_S8x1128x128_S1x1128x128_4_0_0))
    (View.ld X (Rect.unit (s := S8x1128x128) ![5, 0, 0] S1x1128x128.size inb_S8x1128x128_S1x1128x128_5_0_0))
    (View.ld X (Rect.unit (s := S8x1128x128) ![6, 0, 0] S1x1128x128.size inb_S8x1128x128_S1x1128x128_6_0_0))
    (View.ld X (Rect.unit (s := S8x1128x128) ![7, 0, 0] S1x1128x128.size inb_S8x1128x128_S1x1128x128_7_0_0))

/-- … and the first moment. -/
def moment6 (X : S8x1128x128.Idx → Elt F .f32) (m : FVec F S1128x128 .f32) : FVec F S1128x128 .f32 :=
  k6_pay4
    (View.ld X (Rect.unit (s := S8x1128x128) ![0, 0, 0] S1x1128x128.size inb_S8x1128x128_S1x1128x128_0_0_0))
    (View.ld X (Rect.unit (s := S8x1128x128) ![1, 0, 0] S1x1128x128.size inb_S8x1128x128_S1x1128x128_1_0_0))
    (View.ld X (Rect.unit (s := S8x1128x128) ![2, 0, 0] S1x1128x128.size inb_S8x1128x128_S1x1128x128_2_0_0))
    (View.ld X (Rect.unit (s := S8x1128x128) ![3, 0, 0] S1x1128x128.size inb_S8x1128x128_S1x1128x128_3_0_0))
    (View.ld X (Rect.unit (s := S8x1128x128) ![4, 0, 0] S1x1128x128.size inb_S8x1128x128_S1x1128x128_4_0_0))
    (View.ld X (Rect.unit (s := S8x1128x128) ![5, 0, 0] S1x1128x128.size inb_S8x1128x128_S1x1128x128_5_0_0))
    (View.ld X (Rect.unit (s := S8x1128x128) ![6, 0, 0] S1x1128x128.size inb_S8x1128x128_S1x1128x128_6_0_0))
    (View.ld X (Rect.unit (s := S8x1128x128) ![7, 0, 0] S1x1128x128.size inb_S8x1128x128_S1x1128x128_7_0_0)) m

def stepped6 (t : Fin cfg6.N) (X : Blocks (Elt F) cfg6) : Blocks (Elt F) cfg6 :=
  Function.update (Function.update (Function.update (Function.update X 4 (slots6 (X 3))) 5 (k6_pay2 (slots6 (X 3)) (moment6 (X 3) (X 1)) (X 2) (X 0))) 6 (moment6 (X 3) (X 1))) 7 (k6_pay1 (slots6 (X 3)) (X 2))

theorem small_run (𝒱 : Variants) (c : Dev nD) (bd : Option 𝒱.V) (t : Fin cfg6.N) (X : Blocks (Elt F) cfg6) :
    (staged c t X : sProp 𝕄) ⊢ wp frame (wpE defs₀ 𝒱 c bd) Set.univ (bodyAt6 t) fun _ => staged c t (stepped6 t X) := by
  unfold bodyAt6
  simp only [cc6_adamw_small_eq_skeleton]
  unfold cc6_adamw_small_skel
  simp only [k6_part1_eq_skeleton]
  unfold k6_part1_skel
  simp only [Prog.lift, Prog.bind_op, Prog.bind_ret, Prog.pure_eq_ret]
  iterate 8 refine Windowed.load (Lvl := Lvl) (3 : Fin cfg6.W) ?_
  refine Windowed.load_whole (Lvl := Lvl) (1 : Fin cfg6.W) (by decide) ?_
  refine Windowed.load_whole (Lvl := Lvl) (2 : Fin cfg6.W) (by decide) ?_
  refine Windowed.load_whole (Lvl := Lvl) (4 : Fin cfg6.W) (by decide) ?_
  refine Windowed.store_whole (Lvl := Lvl) (4 : Fin cfg6.W) (by decide) ?_
  refine Windowed.load_whole (Lvl := Lvl) (0 : Fin cfg6.W) (by decide) ?_
  refine Windowed.load_whole (Lvl := Lvl) (5 : Fin cfg6.W) (by decide) ?_
  refine Windowed.store_whole (Lvl := Lvl) (5 : Fin cfg6.W) (by decide) ?_
  refine Windowed.load_whole (Lvl := Lvl) (6 : Fin cfg6.W) (by decide) ?_
  refine Windowed.store_whole (Lvl := Lvl) (6 : Fin cfg6.W) (by decide) ?_
  refine Windowed.load_whole (Lvl := Lvl) (7 : Fin cfg6.W) (by decide) ?_
  refine Windowed.store_whole (Lvl := Lvl) (7 : Fin cfg6.W) (by decide) ?_
  exact Windowed.done (Lvl := Lvl) (BI.Entails.refl _)

theorem small_keeps : Keeps cfg6 (stepped6 (F := F)) where
  uncut w i a := by fin_cases w <;> rfl
  live w i := by fin_cases w <;> rfl
  ins t X w hw := by
    fin_cases w
    all_goals first | exact absurd hw (by decide) | rfl
  dep t X Y h w hw := by
    fin_cases w
    all_goals first
      | exact absurd hw (by decide)
      | (simp only [stepped6]; rw [h 0 rfl, h 1 rfl, h 2 rfl, h 3 rfl]; rfl)

end Cert.Grads
-- ==== Proof.GradRun.lean ====
/-
The program on eight devices: the exchange of the gradients, and for each weight the sum over the eight slots with its optimiser step.

The contents of a device's buffers are followed from region to region (`at1` … `at11`): after the exchange, after each host stretch, after each windowed region.
`run_main` runs the whole program, over any float values, and reads every buffer at the end.
-/
module

public import proofs.«01_k».proof.Proof.TalkProgram
public import proofs.«01_k».proof.Proof.GradBody
public import proofs.«01_k».proof.Proof.GradRegions
public import proofs.«01_k».proof.Proof.Gen.KernelIdeal.Regions

@[expose] public section

noncomputable section

namespace Cert.Grads

open Cert.KernelIdeal Cert.KernelIdeal.Gen Cert.Talk
open Idealize.ShloMosaic
open Idealize.SL
open Idealize.SL.BI (sProp bigSep bigSepL)
open scoped Idealize.SL.BI
open Idealize.SL.BI.BIBase Idealize.SL.BI.Laws Idealize.SL.Sem Idealize.SL.ProofMode
open Idealize.SL.RA
open TcCoe
open Idealize.ShloMosaic.Rounds
open Idealize.ShloMosaic.Pipeline

set_option Elab.async false

variable {F : FTy → Type} [FloatOps F]
variable (m : (ℓ : Loc nD τ sig) → Buf (Elt F) ℓ)

abbrev UU : Type := Two τ sig

local notation "𝕄" => MT 8 τ sig Unit (Elt F) ℕ UU ℕ

/-- A device's buffers at the launch. -/
def at0 (c : Dev nD) : Valuation τ sig (Elt F) := fun b => m (c, b)
/-- What the exchange leaves in its destinations. -/
def got0 (c : Dev nD) : Buf (Elt F) ((c : Thread nD τ).loc main_v1_0) := (wIn (U := UU) m).G c
def got1 (c : Dev nD) : Buf (Elt F) ((c : Thread nD τ).loc main_v1_1) := (glu (U := UU) m).G c
def got2 (c : Dev nD) : Buf (Elt F) ((c : Thread nD τ).loc main_v1_2) := (wOut (U := UU) m).G c
def got3 (c : Dev nD) : Buf (Elt F) ((c : Thread nD τ).loc main_v1_3) := (up (U := UU) m).G c
def got4 (c : Dev nD) : Buf (Elt F) ((c : Thread nD τ).loc main_v1_4) := (down (U := UU) m).G c
def got5 (c : Dev nD) : Buf (Elt F) ((c : Thread nD τ).loc main_v1_5) := (small (U := UU) m).G c
/-- A device's buffers after the exchange. -/
def at1 (c : Dev nD) : Valuation τ sig (Elt F) :=
  Function.update (Function.update (Function.update (Function.update (Function.update (Function.update (at0 m c) (Proc.devRef .tc main_v1_0) (got0 m c)) (Proc.devRef .tc main_v1_1) (got1 m c)) (Proc.devRef .tc main_v1_2) (got2 m c)) (Proc.devRef .tc main_v1_3) (got3 m c)) (Proc.devRef .tc main_v1_4) (got4 m c)) (Proc.devRef .tc main_v1_5) (got5 m c)
theorem at1_0 (c : Dev nD) : at1 m c (Proc.devRef .tc main_v1_0) = got0 m c :=
  (Function.update_of_ne (by decide) _ _).trans ((Function.update_of_ne (by decide) _ _).trans ((Function.update_of_ne (by decide) _ _).trans ((Function.update_of_ne (by decide) _ _).trans ((Function.update_of_ne (by decide) _ _).trans (Function.update_self ..)))))
theorem at1_1 (c : Dev nD) : at1 m c (Proc.devRef .tc main_v1_1) = got1 m c :=
  (Function.update_of_ne (by decide) _ _).trans ((Function.update_of_ne (by decide) _ _).trans ((Function.update_of_ne (by decide) _ _).trans ((Function.update_of_ne (by decide) _ _).trans (Function.update_self ..))))
theorem at1_2 (c : Dev nD) : at1 m c (Proc.devRef .tc main_v1_2) = got2 m c :=
  (Function.update_of_ne (by decide) _ _).trans ((Function.update_of_ne (by decide) _ _).trans ((Function.update_of_ne (by decide) _ _).trans (Function.update_self ..)))
theorem at1_3 (c : Dev nD) : at1 m c (Proc.devRef .tc main_v1_3) = got3 m c :=
  (Function.update_of_ne (by decide) _ _).trans ((Function.update_of_ne (by decide) _ _).trans (Function.update_self ..))
theorem at1_4 (c : Dev nD) : at1 m c (Proc.devRef .tc main_v1_4) = got4 m c :=
  (Function.update_of_ne (by decide) _ _).trans (Function.update_self ..)
theorem at1_5 (c : Dev nD) : at1 m c (Proc.devRef .tc main_v1_5) = got5 m c :=
  Function.update_self ..
theorem at1_other (c : Dev nD) (b : DevRef τ sig) (h0 : b ≠ Proc.devRef .tc main_v1_0) (h1 : b ≠ Proc.devRef .tc main_v1_1) (h2 : b ≠ Proc.devRef .tc main_v1_2) (h3 : b ≠ Proc.devRef .tc main_v1_3) (h4 : b ≠ Proc.devRef .tc main_v1_4) (h5 : b ≠ Proc.devRef .tc main_v1_5) : at1 m c b = at0 m c b :=
  (Function.update_of_ne h5 _ _).trans ((Function.update_of_ne h4 _ _).trans ((Function.update_of_ne h3 _ _).trans ((Function.update_of_ne h2 _ _).trans ((Function.update_of_ne h1 _ _).trans (Function.update_of_ne h0 _ _)))))

/-- The buffers after each further stretch: the host's transposes, and the regions' results. -/
def at2 (c : Dev nD) : Valuation τ sig (Elt F) := StableHlo.after hostOps1 (at1 m c)
def dat1 (c : Dev nD) : Dat τ (Elt F) Unit ℕ UU ℕ cfg1 c :=
  Windowed.dat (fun c w => at2 m c (Proc.devRef .tc (arrRef spec1 w))) stepped1 c
def at3 (c : Dev nD) : Valuation τ sig (Elt F) := afterRegion (dat1 m c) (at2 m c)
def at4 (c : Dev nD) : Valuation τ sig (Elt F) := StableHlo.after hostOps2 (at3 m c)
def dat2 (c : Dev nD) : Dat τ (Elt F) Unit ℕ UU ℕ cfg2 c :=
  Windowed.dat (fun c w => at4 m c (Proc.devRef .tc (arrRef spec2 w))) stepped2 c
def at5 (c : Dev nD) : Valuation τ sig (Elt F) := afterRegion (dat2 m c) (at4 m c)
def dat3 (c : Dev nD) : Dat τ (Elt F) Unit ℕ UU ℕ cfg3 c :=
  Windowed.dat (fun c w => at5 m c (Proc.devRef .tc (arrRef spec3 w))) stepped3 c
def at6 (c : Dev nD) : Valuation τ sig (Elt F) := afterRegion (dat3 m c) (at5 m c)
def at7 (c : Dev nD) : Valuation τ sig (Elt F) := StableHlo.after hostOps4 (at6 m c)
def dat4 (c : Dev nD) : Dat τ (Elt F) Unit ℕ UU ℕ cfg4 c :=
  Windowed.dat (fun c w => at7 m c (Proc.devRef .tc (arrRef spec4 w))) stepped4 c
def at8 (c : Dev nD) : Valuation τ sig (Elt F) := afterRegion (dat4 m c) (at7 m c)
def at9 (c : Dev nD) : Valuation τ sig (Elt F) := StableHlo.after hostOps5 (at8 m c)
def dat5 (c : Dev nD) : Dat τ (Elt F) Unit ℕ UU ℕ cfg5 c :=
  Windowed.dat (fun c w => at9 m c (Proc.devRef .tc (arrRef spec5 w))) stepped5 c
def at10 (c : Dev nD) : Valuation τ sig (Elt F) := afterRegion (dat5 m c) (at9 m c)
def dat6 (c : Dev nD) : Dat τ (Elt F) Unit ℕ UU ℕ cfg6 c :=
  Windowed.dat (fun c w => at10 m c (Proc.devRef .tc (arrRef spec6 w))) stepped6 c
def at11 (c : Dev nD) : Valuation τ sig (Elt F) := afterRegion (dat6 m c) (at10 m c)

theorem noWindows : IsEmpty (Fin cfg0.W) := inferInstanceAs (IsEmpty (Fin 0))

/-- Every region's data. -/
def pdats : (p : Fin 7) → (c : Dev nD) → Dat τ (Elt F) Unit ℕ UU ℕ (Pipeline.pin (pcfgs (F := F)) adm p) c
  | 0, c => talkDat (arrays m) osem osem_inj EX moves cfg0 noWindows c
  | 1, c => dat1 m c
  | 2, c => dat2 m c
  | 3, c => dat3 m c
  | 4, c => dat4 m c
  | 5, c => dat5 m c
  | 6, c => dat6 m c

/-- The exchange's semaphores are the region's own. -/
theorem ownSems : OwnSemFacts (pcfgs (F := F) 0).spec osem where
  isScoped i := by revert i; decide +kernel
  inj := osem_inj
  disj _ w := noWindows.elim w

/-- The exchange's arrays. -/
def refs : Fin 6 ⊕ Fin 6 → DevRef τ sig
  | .inl 0 => Proc.devRef .tc main_arg0
  | .inl 1 => Proc.devRef .tc main_arg1
  | .inl 2 => Proc.devRef .tc main_arg2
  | .inl 3 => Proc.devRef .tc main_arg3
  | .inl 4 => Proc.devRef .tc main_arg4
  | .inl 5 => Proc.devRef .tc main_arg5
  | .inr 0 => Proc.devRef .tc main_v1_0
  | .inr 1 => Proc.devRef .tc main_v1_1
  | .inr 2 => Proc.devRef .tc main_v1_2
  | .inr 3 => Proc.devRef .tc main_v1_3
  | .inr 4 => Proc.devRef .tc main_v1_4
  | .inr 5 => Proc.devRef .tc main_v1_5
theorem refs_inj : Function.Injective refs := by decide
theorem refs_held : mine refs ⊆ ucRefs τ sig := by decide

abbrev lv := (talk (U := UU) m).lv

/-- The exchange's region. -/
def region0 : First (pcfgs (F := F)) adm (Dat.toRs (pdats m)) () defs₀ Variants.none Exchange.L (lv m) 0 :=
  first (arrays m) osem osem_inj EX moves pcfgs adm (Dat.toRs (pdats m)) defs₀ Variants.none 0 launch0.toP rfl noWindows N_0 (fun _ => rfl) ownSems
    (fun c t W => by
      have hb := body (U := UU) m EX Variants.none c none t W
      unfold credits settledAll
      iintro H
      ihave Hw := hb $$ H
      iapply (wp_wand frame (wpE (defs₀ (F := F)) Variants.none (c : Thread nD τ) none)) $$ Hw
      iintro %u ⟨Hp, Hs, HO⟩
      isplitr [HO]
      · isplitl [Hp] <;> iassumption
      iexact HO)
    (fun c => StableHlo.held (c : Thread nD τ) (ucRefs τ sig \ mine refs) (at0 m c))

theorem lv_le (g : GSem nD τ sig) (i : Unit) : lv m g i ≤ 1 := by unfold lv Exchange.lv; split <;> omega
theorem mem_L (c : Dev nD) (sm : SemLoc sig) : () ∈ Exchange.L ((c : Thread nD τ), sm) := by unfold Exchange.L; rw [if_pos rfl]; exact Finset.mem_singleton_self _

theorem obligation1 (c : Dev nD) : BodyObligation (dat1 m c) (defs₀ (F := F)) Variants.none () Set.univ := by
  refine Windowed.obligation w_in_keeps fun t X => ?_
  rw [show defs₀ (F := F) .tc cfg1.body (cfg1.bodyArgs t (cfg1.slots t)) = bodyAt1 t from by unfold defs₀; rw [Defs.onTc_tc]]
  exact w_in_run Variants.none c none t X
theorem obligation2 (c : Dev nD) : BodyObligation (dat2 m c) (defs₀ (F := F)) Variants.none () Set.univ := by
  refine Windowed.obligation glu_w_keeps fun t X => ?_
  rw [show defs₀ (F := F) .tc cfg2.body (cfg2.bodyArgs t (cfg2.slots t)) = bodyAt2 t from by unfold defs₀; rw [Defs.onTc_tc]]
  exact glu_w_run Variants.none c none t X
theorem obligation3 (c : Dev nD) : BodyObligation (dat3 m c) (defs₀ (F := F)) Variants.none () Set.univ := by
  refine Windowed.obligation w_out_keeps fun t X => ?_
  rw [show defs₀ (F := F) .tc cfg3.body (cfg3.bodyArgs t (cfg3.slots t)) = bodyAt3 t from by unfold defs₀; rw [Defs.onTc_tc]]
  exact w_out_run Variants.none c none t X
theorem obligation4 (c : Dev nD) : BodyObligation (dat4 m c) (defs₀ (F := F)) Variants.none () Set.univ := by
  refine Windowed.obligation w_mlp_up_keeps fun t X => ?_
  rw [show defs₀ (F := F) .tc cfg4.body (cfg4.bodyArgs t (cfg4.slots t)) = bodyAt4 t from by unfold defs₀; rw [Defs.onTc_tc]]
  exact w_mlp_up_run Variants.none c none t X
theorem obligation5 (c : Dev nD) : BodyObligation (dat5 m c) (defs₀ (F := F)) Variants.none () Set.univ := by
  refine Windowed.obligation w_mlp_down_keeps fun t X => ?_
  rw [show defs₀ (F := F) .tc cfg5.body (cfg5.bodyArgs t (cfg5.slots t)) = bodyAt5 t from by unfold defs₀; rw [Defs.onTc_tc]]
  exact w_mlp_down_run Variants.none c none t X
theorem obligation6 (c : Dev nD) : BodyObligation (dat6 m c) (defs₀ (F := F)) Variants.none () Set.univ := by
  refine Windowed.obligation small_keeps fun t X => ?_
  rw [show defs₀ (F := F) .tc cfg6.body (cfg6.bodyArgs t (cfg6.slots t)) = bodyAt6 t from by unfold defs₀; rw [Defs.onTc_tc]]
  exact small_run Variants.none c none t X

/-- The six windowed regions. -/
def region1 : RegionSeg (pcfgs (F := F)) adm (pdats m) () defs₀ Variants.none Exchange.L (lv m) 1 :=
  Windowed.seg pcfgs adm (pdats m) () defs₀ Variants.none Exchange.L (lv m) 1 (ucRefs τ sig) launch1.toP rfl
    (obligation1 m) stepped1 (at2 m) (fun _ => rfl) 1
    (fun c w s => mem_L c _) (lv_le m)
def region2 : RegionSeg (pcfgs (F := F)) adm (pdats m) () defs₀ Variants.none Exchange.L (lv m) 2 :=
  Windowed.seg pcfgs adm (pdats m) () defs₀ Variants.none Exchange.L (lv m) 2 (ucRefs τ sig) launch2.toP rfl
    (obligation2 m) stepped2 (at4 m) (fun _ => rfl) 1
    (fun c w s => mem_L c _) (lv_le m)
def region3 : RegionSeg (pcfgs (F := F)) adm (pdats m) () defs₀ Variants.none Exchange.L (lv m) 3 :=
  Windowed.seg pcfgs adm (pdats m) () defs₀ Variants.none Exchange.L (lv m) 3 (ucRefs τ sig) launch3.toP rfl
    (obligation3 m) stepped3 (at5 m) (fun _ => rfl) 1
    (fun c w s => mem_L c _) (lv_le m)
def region4 : RegionSeg (pcfgs (F := F)) adm (pdats m) () defs₀ Variants.none Exchange.L (lv m) 4 :=
  Windowed.seg pcfgs adm (pdats m) () defs₀ Variants.none Exchange.L (lv m) 4 (ucRefs τ sig) launch4.toP rfl
    (obligation4 m) stepped4 (at7 m) (fun _ => rfl) 1
    (fun c w s => mem_L c _) (lv_le m)
def region5 : RegionSeg (pcfgs (F := F)) adm (pdats m) () defs₀ Variants.none Exchange.L (lv m) 5 :=
  Windowed.seg pcfgs adm (pdats m) () defs₀ Variants.none Exchange.L (lv m) 5 (ucRefs τ sig) launch5.toP rfl
    (obligation5 m) stepped5 (at9 m) (fun _ => rfl) 1
    (fun c w s => mem_L c _) (lv_le m)
def region6 : RegionSeg (pcfgs (F := F)) adm (pdats m) () defs₀ Variants.none Exchange.L (lv m) 6 :=
  Windowed.seg pcfgs adm (pdats m) () defs₀ Variants.none Exchange.L (lv m) 6 (ucRefs τ sig) launch6.toP rfl
    (obligation6 m) stepped6 (at10 m) (fun _ => rfl) 1
    (fun c w s => mem_L c _) (lv_le m)

/-- The four host stretches. -/
def host1 : HostSeg (Ix := Unit) (Name := ℕ) (U := UU) (Lvl := ℕ) (pcfgs (F := F)) defs₀ Variants.none Exchange.L (lv m) :=
  HostSeg.ofOps _ _ _ _ _ (ucRefs τ sig) hostOps1 (fun op h => sub_ucRefs op ((List.forall_iff_forall_mem.mp hostOps1_sub) op h))
    (fun op h => (List.forall_iff_forall_mem.mp hostOps1_fresh) op h) (at1 m) Windowed.debtless
def host2 : HostSeg (Ix := Unit) (Name := ℕ) (U := UU) (Lvl := ℕ) (pcfgs (F := F)) defs₀ Variants.none Exchange.L (lv m) :=
  HostSeg.ofOps _ _ _ _ _ (ucRefs τ sig) hostOps2 (fun op h => sub_ucRefs op ((List.forall_iff_forall_mem.mp hostOps2_sub) op h))
    (fun op h => (List.forall_iff_forall_mem.mp hostOps2_fresh) op h) (at3 m) Windowed.debtless
def host4 : HostSeg (Ix := Unit) (Name := ℕ) (U := UU) (Lvl := ℕ) (pcfgs (F := F)) defs₀ Variants.none Exchange.L (lv m) :=
  HostSeg.ofOps _ _ _ _ _ (ucRefs τ sig) hostOps4 (fun op h => sub_ucRefs op ((List.forall_iff_forall_mem.mp hostOps4_sub) op h))
    (fun op h => (List.forall_iff_forall_mem.mp hostOps4_fresh) op h) (at6 m) Windowed.debtless
def host5 : HostSeg (Ix := Unit) (Name := ℕ) (U := UU) (Lvl := ℕ) (pcfgs (F := F)) defs₀ Variants.none Exchange.L (lv m) :=
  HostSeg.ofOps _ _ _ _ _ (ucRefs τ sig) hostOps5 (fun op h => sub_ucRefs op ((List.forall_iff_forall_mem.mp hostOps5_sub) op h))
    (fun op h => (List.forall_iff_forall_mem.mp hostOps5_fresh) op h) (at8 m) Windowed.debtless

/-- What follows the exchange. -/
abbrev rest : List (Pipeline.Seg (pcfgs (F := F)) adm (pdats m) () defs₀ Variants.none Exchange.L (lv m)) :=
  [.host (host1 m), .region (region1 m), .host (host2 m), .region (region2 m), .region (region3 m), .host (host4 m), .region (region4 m), .host (host5 m), .region (region5 m), .region (region6 m)]

theorem main_eq (c : Dev nD) : main (F := F) c = .op (.customCall (entry 0) ()) fun _ => Seg.run (rest m) := by
  rewrite [main_chain c, Seg.run_eq_chain, show (rest m).map Seg.prog = [
    StableHlo.seq hostOps1,
    Prog.lift (.customCall (Pipeline.entry 1) ()),
    StableHlo.seq hostOps2,
    Prog.lift (.customCall (Pipeline.entry 2) ()),
    Prog.lift (.customCall (Pipeline.entry 3) ()),
    StableHlo.seq hostOps4,
    Prog.lift (.customCall (Pipeline.entry 4) ()),
    StableHlo.seq hostOps5,
    Prog.lift (.customCall (Pipeline.entry 5) ()),
    Prog.lift (.customCall (Pipeline.entry 6) ())] from rfl]
  rewrite [chain_cons]
  exact rfl

theorem region0_post (c : Dev nD) :
    (region0 m).post c ⊢ iprop(StableHlo.held (c : Thread nD τ) (ucRefs τ sig) (at1 m c) ∗ Windowed.debtless c) := by
  have h := held_close (T := arrays (U := UU) m) refs (ucRefs τ sig) refs_inj refs_held c (at0 m c) (at1 m c)
    (fun w => by fin_cases w <;> exact BI.Entails.refl _)
    (fun w => by
      fin_cases w
      · exact Entails.of_eq (congrArg (fun v => (((c, Proc.devRef .tc main_v1_0) : Loc nD τ sig) ↦{fullShare} v : sProp 𝕄)) (at1_0 m c).symm)
      · exact Entails.of_eq (congrArg (fun v => (((c, Proc.devRef .tc main_v1_1) : Loc nD τ sig) ↦{fullShare} v : sProp 𝕄)) (at1_1 m c).symm)
      · exact Entails.of_eq (congrArg (fun v => (((c, Proc.devRef .tc main_v1_2) : Loc nD τ sig) ↦{fullShare} v : sProp 𝕄)) (at1_2 m c).symm)
      · exact Entails.of_eq (congrArg (fun v => (((c, Proc.devRef .tc main_v1_3) : Loc nD τ sig) ↦{fullShare} v : sProp 𝕄)) (at1_3 m c).symm)
      · exact Entails.of_eq (congrArg (fun v => (((c, Proc.devRef .tc main_v1_4) : Loc nD τ sig) ↦{fullShare} v : sProp 𝕄)) (at1_4 m c).symm)
      · exact Entails.of_eq (congrArg (fun v => (((c, Proc.devRef .tc main_v1_5) : Loc nD τ sig) ↦{fullShare} v : sProp 𝕄)) (at1_5 m c).symm))
    (fun b hb => by
      have hb' := (Finset.mem_sdiff.mp hb).2
      exact (at1_other m c b (fun e => hb' (by rw [e]; decide)) (fun e => hb' (by rw [e]; decide)) (fun e => hb' (by rw [e]; decide)) (fun e => hb' (by rw [e]; decide)) (fun e => hb' (by rw [e]; decide)) (fun e => hb' (by rw [e]; decide))).symm)
  refine BI.Entails.trans (Q := iprop((bigSep Finset.univ fun w => iprop((arrays (U := UU) m w).source c ∗ (arrays (U := UU) m w).target c ((arrays (U := UU) m w).G c)))
    ∗ StableHlo.held (c : Thread nD τ) (ucRefs τ sig \ mine refs) (at0 m c) ∗ Windowed.debtless c)) (BI.Entails.refl _) ?_
  refine (?_ : _ ⊢ (_ : sProp 𝕄))
  iintro ⟨Ha, Hk, HO⟩
  isplitl [Ha Hk]
  · iapply h
    isplitl [Ha] <;> iassumption
  iexact HO

theorem region1_pre (c : Dev nD) : iprop(StableHlo.held (c : Thread nD τ) (ucRefs τ sig) (at2 m c) ∗ Windowed.debtless c) ⊢ (region1 m).pre c :=
  Windowed.seg_pre (arrRefs_sub_ucRefs _ winFacts1.arr_unscoped) c
theorem region1_post (c : Dev nD) : (region1 m).post c ⊢ iprop(StableHlo.held (c : Thread nD τ) (ucRefs τ sig) (at3 m c) ∗ Windowed.debtless c) :=
  Windowed.seg_post (arrRefs_sub_ucRefs _ winFacts1.arr_unscoped) c
theorem region2_pre (c : Dev nD) : iprop(StableHlo.held (c : Thread nD τ) (ucRefs τ sig) (at4 m c) ∗ Windowed.debtless c) ⊢ (region2 m).pre c :=
  Windowed.seg_pre (arrRefs_sub_ucRefs _ winFacts2.arr_unscoped) c
theorem region2_post (c : Dev nD) : (region2 m).post c ⊢ iprop(StableHlo.held (c : Thread nD τ) (ucRefs τ sig) (at5 m c) ∗ Windowed.debtless c) :=
  Windowed.seg_post (arrRefs_sub_ucRefs _ winFacts2.arr_unscoped) c
theorem region3_pre (c : Dev nD) : iprop(StableHlo.held (c : Thread nD τ) (ucRefs τ sig) (at5 m c) ∗ Windowed.debtless c) ⊢ (region3 m).pre c :=
  Windowed.seg_pre (arrRefs_sub_ucRefs _ winFacts3.arr_unscoped) c
theorem region3_post (c : Dev nD) : (region3 m).post c ⊢ iprop(StableHlo.held (c : Thread nD τ) (ucRefs τ sig) (at6 m c) ∗ Windowed.debtless c) :=
  Windowed.seg_post (arrRefs_sub_ucRefs _ winFacts3.arr_unscoped) c
theorem region4_pre (c : Dev nD) : iprop(StableHlo.held (c : Thread nD τ) (ucRefs τ sig) (at7 m c) ∗ Windowed.debtless c) ⊢ (region4 m).pre c :=
  Windowed.seg_pre (arrRefs_sub_ucRefs _ winFacts4.arr_unscoped) c
theorem region4_post (c : Dev nD) : (region4 m).post c ⊢ iprop(StableHlo.held (c : Thread nD τ) (ucRefs τ sig) (at8 m c) ∗ Windowed.debtless c) :=
  Windowed.seg_post (arrRefs_sub_ucRefs _ winFacts4.arr_unscoped) c
theorem region5_pre (c : Dev nD) : iprop(StableHlo.held (c : Thread nD τ) (ucRefs τ sig) (at9 m c) ∗ Windowed.debtless c) ⊢ (region5 m).pre c :=
  Windowed.seg_pre (arrRefs_sub_ucRefs _ winFacts5.arr_unscoped) c
theorem region5_post (c : Dev nD) : (region5 m).post c ⊢ iprop(StableHlo.held (c : Thread nD τ) (ucRefs τ sig) (at10 m c) ∗ Windowed.debtless c) :=
  Windowed.seg_post (arrRefs_sub_ucRefs _ winFacts5.arr_unscoped) c
theorem region6_pre (c : Dev nD) : iprop(StableHlo.held (c : Thread nD τ) (ucRefs τ sig) (at10 m c) ∗ Windowed.debtless c) ⊢ (region6 m).pre c :=
  Windowed.seg_pre (arrRefs_sub_ucRefs _ winFacts6.arr_unscoped) c
theorem region6_post (c : Dev nD) : (region6 m).post c ⊢ iprop(StableHlo.held (c : Thread nD τ) (ucRefs τ sig) (at11 m c) ∗ Windowed.debtless c) :=
  Windowed.seg_post (arrRefs_sub_ucRefs _ winFacts6.arr_unscoped) c

theorem chained (c : Dev nD) : Seg.ChainsAt c (region0 m).post (rest m)
    fun c => iprop(StableHlo.held (c : Thread nD τ) (ucRefs τ sig) (at11 m c) ∗ ∃ W, owes (c : Thread nD τ) (0 : CellTallies nD τ sig Unit) W) :=
  show _ ∧ _ ∧ _ ∧ _ ∧ _ ∧ _ ∧ _ ∧ _ ∧ _ ∧ _ ∧ _ from
  ⟨region0_post m c, region1_pre m c, region1_post m c, region2_pre m c, (region2_post m c).trans (region3_pre m c), region3_post m c, region4_pre m c, region4_post m c, region5_pre m c, (region5_post m c).trans (region6_pre m c), region6_post m c⟩

/-- The whole program: every buffer of every device ends at `at11`, every semaphore at zero. -/
theorem run_main (g : Dev nD → PrngReg) :
    θ_run (Cert.KernelIdeal.defs (F := F)) (onTc (τ := τ) main) ⟨m, fun _ => 0, g⟩
      fun r => (∀ c : Dev nD, ∀ b ∈ ucRefs τ sig, r.2.mem (c, b) = at11 m c b) ∧ r.2.sem = fun _ => 0 := by
  refine θ_run_exchange (pcfgs (F := F)) adm (Dat.toRs (pdats m)) cellOf_inj defs₀ Variants.none (arrays m) osem osem_inj moves moves_nodup (fun j => List.mem_toFinset.mp (moves_all ▸ Finset.mem_univ _)) m g main
    (region0 m) (fun _ => (rest m).map (Seg.toR pcfgs adm (pdats m) () defs₀ Variants.none Exchange.L (lv m)))
    (fun c => by rw [Seg.run_toR]; exact main_eq m c)
    (fun c => by rw [Seg.pipes_toR]; simp only [rest, Seg.pipes_host, Seg.pipes_region, Seg.pipes_nil]; decide)
    (fun c => by rw [Seg.pipes_toR]; simp only [rest, Seg.pipes_host, Seg.pipes_region, Seg.pipes_nil]; decide)
    refs refs_inj refs_held
    (fun c w => by fin_cases w <;> exact BI.Entails.refl _)
    (fun c w => by fin_cases w <;> exact BI.BIClass.exists_intro _)
    (fun c => BI.Entails.refl _)
    (fun c => BI.Entails.refl _)
    (ucRefs τ sig) (at11 m)
    (fun c => Seg.ChainsAt.toR _ _ _ _ _ _ _ _ (chained m c))
    (fun s h hz => ⟨h, funext fun g => hz g (.inr (regions_no_unscoped g.2))⟩)

end Cert.Grads
-- ==== Proof.GradKept.lean ====
/-
The buffers the program leaves as they were, its arguments among them.
-/
module

public import proofs.«01_k».proof.Proof.GradRun

@[expose] public section

noncomputable section

open Idealize.ShloMosaic Idealize.ShloMosaic.Pipeline Idealize.ShloMosaic.TcCoe Idealize.SL.Sem Idealize.SL
open Cert.KernelIdeal Cert.KernelIdeal.Gen

namespace Cert.Grads

variable {F : FTy → Type} [FloatOps F] [∀ e, Nonempty (Elt F e)]
variable {m : (ℓ : Loc nD τ sig) → Buf (Elt F) ℓ} (c : Dev nD)

/-! ### What each stretch leaves as it was -/

theorem at2_kept (r : Ref sig .tc) (h : r ∉ hostOps1_W) : at2 m c (Proc.devRef .tc r) = at1 m c (Proc.devRef .tc r) :=
  StableHlo.after_of_writes_sub hostOps1 _ hostOps1_writes h
theorem at3_kept (r : Ref sig .tc) (h : ∀ w, arrRef cfg1.spec w = r → (cfg1.win w).isOut = false) : at3 m c (Proc.devRef .tc r) = at2 m c (Proc.devRef .tc r) :=
  afterRegion_keeps (dat1 m c) (at2 m c) winFacts1.arr_inj (fun _ => rfl) r h
theorem at4_kept (r : Ref sig .tc) (h : r ∉ hostOps2_W) : at4 m c (Proc.devRef .tc r) = at3 m c (Proc.devRef .tc r) :=
  StableHlo.after_of_writes_sub hostOps2 _ hostOps2_writes h
theorem at5_kept (r : Ref sig .tc) (h : ∀ w, arrRef cfg2.spec w = r → (cfg2.win w).isOut = false) : at5 m c (Proc.devRef .tc r) = at4 m c (Proc.devRef .tc r) :=
  afterRegion_keeps (dat2 m c) (at4 m c) winFacts2.arr_inj (fun _ => rfl) r h
theorem at6_kept (r : Ref sig .tc) (h : ∀ w, arrRef cfg3.spec w = r → (cfg3.win w).isOut = false) : at6 m c (Proc.devRef .tc r) = at5 m c (Proc.devRef .tc r) :=
  afterRegion_keeps (dat3 m c) (at5 m c) winFacts3.arr_inj (fun _ => rfl) r h
theorem at7_kept (r : Ref sig .tc) (h : r ∉ hostOps4_W) : at7 m c (Proc.devRef .tc r) = at6 m c (Proc.devRef .tc r) :=
  StableHlo.after_of_writes_sub hostOps4 _ hostOps4_writes h
theorem at8_kept (r : Ref sig .tc) (h : ∀ w, arrRef cfg4.spec w = r → (cfg4.win w).isOut = false) : at8 m c (Proc.devRef .tc r) = at7 m c (Proc.devRef .tc r) :=
  afterRegion_keeps (dat4 m c) (at7 m c) winFacts4.arr_inj (fun _ => rfl) r h
theorem at9_kept (r : Ref sig .tc) (h : r ∉ hostOps5_W) : at9 m c (Proc.devRef .tc r) = at8 m c (Proc.devRef .tc r) :=
  StableHlo.after_of_writes_sub hostOps5 _ hostOps5_writes h
theorem at10_kept (r : Ref sig .tc) (h : ∀ w, arrRef cfg5.spec w = r → (cfg5.win w).isOut = false) : at10 m c (Proc.devRef .tc r) = at9 m c (Proc.devRef .tc r) :=
  afterRegion_keeps (dat5 m c) (at9 m c) winFacts5.arr_inj (fun _ => rfl) r h
theorem at11_kept (r : Ref sig .tc) (h : ∀ w, arrRef cfg6.spec w = r → (cfg6.win w).isOut = false) : at11 m c (Proc.devRef .tc r) = at10 m c (Proc.devRef .tc r) :=
  afterRegion_keeps (dat6 m c) (at10 m c) winFacts6.arr_inj (fun _ => rfl) r h

/-- A buffer none of them writes. -/
abbrev Untouched (r : Ref sig .tc) : Prop :=
  (r ∉ [main_v1_0, main_v1_1, main_v1_2, main_v1_3, main_v1_4, main_v1_5]) ∧ (r ∉ hostOps1_W) ∧ (∀ w, arrRef cfg1.spec w = r → (cfg1.win w).isOut = false) ∧ (r ∉ hostOps2_W) ∧ (∀ w, arrRef cfg2.spec w = r → (cfg2.win w).isOut = false) ∧ (∀ w, arrRef cfg3.spec w = r → (cfg3.win w).isOut = false) ∧ (r ∉ hostOps4_W) ∧ (∀ w, arrRef cfg4.spec w = r → (cfg4.win w).isOut = false) ∧ (r ∉ hostOps5_W) ∧ (∀ w, arrRef cfg5.spec w = r → (cfg5.win w).isOut = false) ∧ (∀ w, arrRef cfg6.spec w = r → (cfg6.win w).isOut = false)

/-- It ends as it was. -/
theorem at11_arg (r : Ref sig .tc) (h : Untouched r) : at11 m c (Proc.devRef .tc r) = m (c, Proc.devRef .tc r) := by
  obtain ⟨h1, h2, h3, h4, h5, h6, h7, h8, h9, h10, h11⟩ := h
  simp only [List.mem_cons, not_or] at h1
  obtain ⟨g0, g1, g2, g3, g4, g5, _⟩ := h1
  exact (at11_kept c r h11).trans ((at10_kept c r h10).trans ((at9_kept c r h9).trans ((at8_kept c r h8).trans ((at7_kept c r h7).trans ((at6_kept c r h6).trans ((at5_kept c r h5).trans ((at4_kept c r h4).trans ((at3_kept c r h3).trans ((at2_kept c r h2).trans (at1_other m c _ (StableHlo.devRef_ne_of_ne g0) (StableHlo.devRef_ne_of_ne g1) (StableHlo.devRef_ne_of_ne g2) (StableHlo.devRef_ne_of_ne g3) (StableHlo.devRef_ne_of_ne g4) (StableHlo.devRef_ne_of_ne g5)))))))))))

/-- The arguments are as they were. -/
theorem args_kept :
    at11 m c (Proc.devRef .tc main_arg0) = m (c, Proc.devRef .tc main_arg0)
      ∧ at11 m c (Proc.devRef .tc main_arg1) = m (c, Proc.devRef .tc main_arg1)
      ∧ at11 m c (Proc.devRef .tc main_arg2) = m (c, Proc.devRef .tc main_arg2)
      ∧ at11 m c (Proc.devRef .tc main_arg3) = m (c, Proc.devRef .tc main_arg3)
      ∧ at11 m c (Proc.devRef .tc main_arg4) = m (c, Proc.devRef .tc main_arg4)
      ∧ at11 m c (Proc.devRef .tc main_arg5) = m (c, Proc.devRef .tc main_arg5)
      ∧ at11 m c (Proc.devRef .tc main_arg6) = m (c, Proc.devRef .tc main_arg6)
      ∧ at11 m c (Proc.devRef .tc main_arg7) = m (c, Proc.devRef .tc main_arg7)
      ∧ at11 m c (Proc.devRef .tc main_arg8) = m (c, Proc.devRef .tc main_arg8)
      ∧ at11 m c (Proc.devRef .tc main_arg9) = m (c, Proc.devRef .tc main_arg9)
      ∧ at11 m c (Proc.devRef .tc main_arg10) = m (c, Proc.devRef .tc main_arg10)
      ∧ at11 m c (Proc.devRef .tc main_arg11) = m (c, Proc.devRef .tc main_arg11)
      ∧ at11 m c (Proc.devRef .tc main_arg12) = m (c, Proc.devRef .tc main_arg12)
      ∧ at11 m c (Proc.devRef .tc main_arg13) = m (c, Proc.devRef .tc main_arg13)
      ∧ at11 m c (Proc.devRef .tc main_arg14) = m (c, Proc.devRef .tc main_arg14)
      ∧ at11 m c (Proc.devRef .tc main_arg15) = m (c, Proc.devRef .tc main_arg15)
      ∧ at11 m c (Proc.devRef .tc main_arg16) = m (c, Proc.devRef .tc main_arg16)
      ∧ at11 m c (Proc.devRef .tc main_arg17) = m (c, Proc.devRef .tc main_arg17)
      ∧ at11 m c (Proc.devRef .tc main_arg18) = m (c, Proc.devRef .tc main_arg18)
      ∧ at11 m c (Proc.devRef .tc main_arg19) = m (c, Proc.devRef .tc main_arg19)
      ∧ at11 m c (Proc.devRef .tc main_arg20) = m (c, Proc.devRef .tc main_arg20)
      ∧ at11 m c (Proc.devRef .tc main_arg21) = m (c, Proc.devRef .tc main_arg21)
      ∧ at11 m c (Proc.devRef .tc main_arg22) = m (c, Proc.devRef .tc main_arg22)
      ∧ at11 m c (Proc.devRef .tc main_arg23) = m (c, Proc.devRef .tc main_arg23) :=
  ⟨at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel), at11_arg c _ (by decide +kernel)⟩

/-- A buffer of the chip that outlives the regions. -/
theorem mem_uc (r : Ref sig .tc) (h : r.isScoped = false) : (Proc.devRef .tc r : DevRef τ sig) ∈ ucRefs τ sig :=
  Finset.mem_filter.mpr ⟨StableHlo.devRef_mem_tcRefs r, by simpa using h⟩

/-- The program at device `c`: a buffer that outlives the regions ends at its last contents. -/
theorem ends {r' : (ℓ : Loc nD τ sig) → Buf (Elt F) ℓ} (h : ∀ c : Dev nD, ∀ b ∈ ucRefs τ sig, r' (c, b) = at11 m c b) (r : Ref sig .tc) (hr : r.isScoped = false)
    {x : Buf (Elt F) ((c, Proc.devRef .tc r) : Loc nD τ sig)} (hx : at11 m c (Proc.devRef .tc r) = x) : r' ((c : Thread nD τ).loc r) = x :=
  (h c _ (mem_uc r hr)).trans hx

/-- So are the arguments where the program ends. -/
theorem args_end {r' : (ℓ : Loc nD τ sig) → Buf (Elt F) ℓ} (h : ∀ c : Dev nD, ∀ b ∈ ucRefs τ sig, r' (c, b) = at11 m c b) :
    r' ((c.tc : Thread nD τ).loc main_arg0) = m ((c.tc : Thread nD τ).loc main_arg0)
      ∧ r' ((c.tc : Thread nD τ).loc main_arg1) = m ((c.tc : Thread nD τ).loc main_arg1)
      ∧ r' ((c.tc : Thread nD τ).loc main_arg2) = m ((c.tc : Thread nD τ).loc main_arg2)
      ∧ r' ((c.tc : Thread nD τ).loc main_arg3) = m ((c.tc : Thread nD τ).loc main_arg3)
      ∧ r' ((c.tc : Thread nD τ).loc main_arg4) = m ((c.tc : Thread nD τ).loc main_arg4)
      ∧ r' ((c.tc : Thread nD τ).loc main_arg5) = m ((c.tc : Thread nD τ).loc main_arg5)
      ∧ r' ((c.tc : Thread nD τ).loc main_arg6) = m ((c.tc : Thread nD τ).loc main_arg6)
      ∧ r' ((c.tc : Thread nD τ).loc main_arg7) = m ((c.tc : Thread nD τ).loc main_arg7)
      ∧ r' ((c.tc : Thread nD τ).loc main_arg8) = m ((c.tc : Thread nD τ).loc main_arg8)
      ∧ r' ((c.tc : Thread nD τ).loc main_arg9) = m ((c.tc : Thread nD τ).loc main_arg9)
      ∧ r' ((c.tc : Thread nD τ).loc main_arg10) = m ((c.tc : Thread nD τ).loc main_arg10)
      ∧ r' ((c.tc : Thread nD τ).loc main_arg11) = m ((c.tc : Thread nD τ).loc main_arg11)
      ∧ r' ((c.tc : Thread nD τ).loc main_arg12) = m ((c.tc : Thread nD τ).loc main_arg12)
      ∧ r' ((c.tc : Thread nD τ).loc main_arg13) = m ((c.tc : Thread nD τ).loc main_arg13)
      ∧ r' ((c.tc : Thread nD τ).loc main_arg14) = m ((c.tc : Thread nD τ).loc main_arg14)
      ∧ r' ((c.tc : Thread nD τ).loc main_arg15) = m ((c.tc : Thread nD τ).loc main_arg15)
      ∧ r' ((c.tc : Thread nD τ).loc main_arg16) = m ((c.tc : Thread nD τ).loc main_arg16)
      ∧ r' ((c.tc : Thread nD τ).loc main_arg17) = m ((c.tc : Thread nD τ).loc main_arg17)
      ∧ r' ((c.tc : Thread nD τ).loc main_arg18) = m ((c.tc : Thread nD τ).loc main_arg18)
      ∧ r' ((c.tc : Thread nD τ).loc main_arg19) = m ((c.tc : Thread nD τ).loc main_arg19)
      ∧ r' ((c.tc : Thread nD τ).loc main_arg20) = m ((c.tc : Thread nD τ).loc main_arg20)
      ∧ r' ((c.tc : Thread nD τ).loc main_arg21) = m ((c.tc : Thread nD τ).loc main_arg21)
      ∧ r' ((c.tc : Thread nD τ).loc main_arg22) = m ((c.tc : Thread nD τ).loc main_arg22)
      ∧ r' ((c.tc : Thread nD τ).loc main_arg23) = m ((c.tc : Thread nD τ).loc main_arg23) :=
  ⟨ends c h main_arg0 rfl (args_kept c).1,
    ends c h main_arg1 rfl (args_kept c).2.1,
    ends c h main_arg2 rfl (args_kept c).2.2.1,
    ends c h main_arg3 rfl (args_kept c).2.2.2.1,
    ends c h main_arg4 rfl (args_kept c).2.2.2.2.1,
    ends c h main_arg5 rfl (args_kept c).2.2.2.2.2.1,
    ends c h main_arg6 rfl (args_kept c).2.2.2.2.2.2.1,
    ends c h main_arg7 rfl (args_kept c).2.2.2.2.2.2.2.1,
    ends c h main_arg8 rfl (args_kept c).2.2.2.2.2.2.2.2.1,
    ends c h main_arg9 rfl (args_kept c).2.2.2.2.2.2.2.2.2.1,
    ends c h main_arg10 rfl (args_kept c).2.2.2.2.2.2.2.2.2.2.1,
    ends c h main_arg11 rfl (args_kept c).2.2.2.2.2.2.2.2.2.2.2.1,
    ends c h main_arg12 rfl (args_kept c).2.2.2.2.2.2.2.2.2.2.2.2.1,
    ends c h main_arg13 rfl (args_kept c).2.2.2.2.2.2.2.2.2.2.2.2.2.1,
    ends c h main_arg14 rfl (args_kept c).2.2.2.2.2.2.2.2.2.2.2.2.2.2.1,
    ends c h main_arg15 rfl (args_kept c).2.2.2.2.2.2.2.2.2.2.2.2.2.2.2.1,
    ends c h main_arg16 rfl (args_kept c).2.2.2.2.2.2.2.2.2.2.2.2.2.2.2.2.1,
    ends c h main_arg17 rfl (args_kept c).2.2.2.2.2.2.2.2.2.2.2.2.2.2.2.2.2.1,
    ends c h main_arg18 rfl (args_kept c).2.2.2.2.2.2.2.2.2.2.2.2.2.2.2.2.2.2.1,
    ends c h main_arg19 rfl (args_kept c).2.2.2.2.2.2.2.2.2.2.2.2.2.2.2.2.2.2.2.1,
    ends c h main_arg20 rfl (args_kept c).2.2.2.2.2.2.2.2.2.2.2.2.2.2.2.2.2.2.2.2.1,
    ends c h main_arg21 rfl (args_kept c).2.2.2.2.2.2.2.2.2.2.2.2.2.2.2.2.2.2.2.2.2.1,
    ends c h main_arg22 rfl (args_kept c).2.2.2.2.2.2.2.2.2.2.2.2.2.2.2.2.2.2.2.2.2.2.1,
    ends c h main_arg23 rfl (args_kept c).2.2.2.2.2.2.2.2.2.2.2.2.2.2.2.2.2.2.2.2.2.2.2⟩

/-- The frame, over any float values: the program ends, its arguments as they were and every semaphore counter zero. -/
theorem frame_any (g : Dev nD → PrngReg) : θ_run (defs (F := F)) (onTc main) ⟨m, fun _ => 0, g⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) ∧ r.2.sem = fun _ => 0 :=
  (θ_run defs _ _).mono (fun _ h => ⟨fun c => args_end c h.1, h.2⟩) (run_main m g)

end Cert.Grads
-- ==== Proof.AdamW.lean ====
/-
The AdamW step of one weight, as values over the reals: the new first moment, the new second moment and the change of the weight, each of the weight, the
two moments and the gradient. The kernel's step and the plain one print the same operations in the same order, so both are these terms: a host constant
spread over an array is the kernel's splat, and host division and root are the kernel's over the reals.
-/
module

public import Idealize.ShloMosaic.Lib.KernelVsHost
public import Idealize.ShloMosaic.Lib.IdealHost

@[expose] public section

noncomputable section

namespace Cert.AdamW

open Idealize.ShloMosaic

variable {s : Shape}

/-- The constant of the word `b`, over the shape `s`. -/
abbrev lit (s : Shape) (b : BitVec 32) : FVec Ideal s .f32 := broadcast s (Scalar.ofBits .f32 b)

/-- β₁ m + (1 − β₁) g. -/
def first (m g : FVec Ideal s .f32) : FVec Ideal s .f32 := addf (mulf (lit s 0x3F666666#32) m) (mulf (lit s 0x3DCCCCCD#32) g)

/-- β₂ v + (1 − β₂) g². -/
def second (v g : FVec Ideal s .f32) : FVec Ideal s .f32 := addf (mulf (lit s 0x3F7FBE77#32) v) (mulf (lit s 0x3A83126F#32) (mulf g g))

/-- −η (m̂ / (√v̂ + ε) + λ w). -/
def change (w m v g : FVec Ideal s .f32) : FVec Ideal s .f32 :=
  mulf (lit s 0xBA83126F#32) (addf (divf (divf (first m g) (lit s 0x3F26BD02#32)) (addf (sqrt (divf (second v g) (lit s 0x3C231ACC#32))) (lit s 0x322BCC77#32)))
    (mulf (lit s 0x3C23D70A#32) w))

/-! ### At an element -/

abbrev dot : (⟨0, ![]⟩ : Shape).Idx := fun a => a.elim0
abbrev pt (x : Ideal .f32) : FVec Ideal ⟨0, ![]⟩ .f32 := fun _ => x

theorem first_at (m g : FVec Ideal s .f32) (j : s.Idx) : first m g j = first (pt (m j)) (pt (g j)) dot := rfl
theorem second_at (v g : FVec Ideal s .f32) (j : s.Idx) : second v g j = second (pt (v j)) (pt (g j)) dot := rfl
theorem change_at (w m v g : FVec Ideal s .f32) (j : s.Idx) : change w m v g j = change (pt (w j)) (pt (m j)) (pt (v j)) (pt (g j)) dot := rfl

variable {s' : Shape} {j : s.Idx} {i : s'.Idx}

/-- The step at one element is the step at another whose weight, moments and gradient are the same. -/
theorem first_eq {m g : FVec Ideal s .f32} {m' g' : FVec Ideal s' .f32} (hm : m j = m' i) (hg : g j = g' i) : first m g j = first m' g' i := by
  rw [first_at m g, first_at m' g', hm, hg]
theorem second_eq {v g : FVec Ideal s .f32} {v' g' : FVec Ideal s' .f32} (hv : v j = v' i) (hg : g j = g' i) : second v g j = second v' g' i := by
  rw [second_at v g, second_at v' g', hv, hg]
theorem change_eq {w m v g : FVec Ideal s .f32} {w' m' v' g' : FVec Ideal s' .f32} (hw : w j = w' i) (hm : m j = m' i) (hv : v j = v' i) (hg : g j = g' i) :
    change w m v g j = change w' m' v' g' i := by
  rw [change_at w m v g, change_at w' m' v' g', hw, hm, hv, hg]

/-! ### The plain spelling -/

variable {t : Shape} (d : Fin t.rank → Fin s.rank) (h : t.BroadcastsInDim s d)

/-- The plain spelling of the three. -/
theorem first_host (m g : FVec Ideal s .f32) :
    addf (mulf (broadcastInDim s d h (constant t .f32 0x3F666666#32)) m) (mulf (broadcastInDim s d h (constant t .f32 0x3DCCCCCD#32)) g) = first m g := rfl

theorem second_host (v g : FVec Ideal s .f32) :
    addf (mulf (broadcastInDim s d h (constant t .f32 0x3F7FBE77#32)) v) (mulf (broadcastInDim s d h (constant t .f32 0x3A83126F#32)) (mulf g g)) = second v g := rfl

theorem change_host (w m v g : FVec Ideal s .f32) :
    mulf (broadcastInDim s d h (constant t .f32 0xBA83126F#32))
      (addf (Host.divf (Host.divf (addf (mulf (broadcastInDim s d h (constant t .f32 0x3F666666#32)) m) (mulf (broadcastInDim s d h (constant t .f32 0x3DCCCCCD#32)) g))
            (broadcastInDim s d h (constant t .f32 0x3F26BD02#32)))
          (addf (Host.sqrt (Host.divf (addf (mulf (broadcastInDim s d h (constant t .f32 0x3F7FBE77#32)) v) (mulf (broadcastInDim s d h (constant t .f32 0x3A83126F#32)) (mulf g g)))
            (broadcastInDim s d h (constant t .f32 0x3C231ACC#32)))) (broadcastInDim s d h (constant t .f32 0x322BCC77#32))))
        (mulf (broadcastInDim s d h (constant t .f32 0x3C23D70A#32)) w)) = change w m v g := rfl

end Cert.AdamW
-- ==== Proof.SlotSum.lean ====
/-
What eight slots add up to: a slot of an array of eight, loaded as a matrix, at an index; the sum of the eight, left to right, as a sum over the devices;
and the host's sum over the first of three axes.
-/
module

public import Idealize.ShloMosaic.Lib.Pipeline.ValueKit
public import Idealize.ShloMosaic.Lib.Pointwise.Reduce
public import Idealize.ShloMosaic.Lib.ValueLayout
public import Idealize.ShloMosaic.Lib.IdealHost

@[expose] public section

noncomputable section

namespace Cert.SlotSum

open Idealize.ShloMosaic hiding ix1 ix2 ix3 ix4 eq_ix1 eq_ix2 eq_ix3
open Idealize.ShloMosaic.Pipeline Idealize.ShloMosaic.ValueIdx

variable {A B : ℕ} {Val : EltTy → Type} {e : EltTy}

/-- Slot `p` of an array of eight, loaded and read as a matrix. -/
theorem slot_at (X : (⟨3, ![8, A, B]⟩ : Shape).Idx → Val e) (p : Fin 8) (inb) (hc : (⟨3, ![1, A, B]⟩ : Shape).ShapeCasts ⟨2, ![A, B]⟩) (i : (⟨2, ![A, B]⟩ : Shape).Idx) :
    shapeCast ⟨2, ![A, B]⟩ (View.ld X (Rect.unit (s := ⟨3, ![8, A, B]⟩) ![p.val, 0, 0] ![1, A, B] inb)) hc i = X (ix3 p (i 0) (i 1)) := by
  refine Eq.trans (?_ : _ = X ((Rect.unit (s := ⟨3, ![8, A, B]⟩) ![p.val, 0, 0] ![1, A, B] inb).emb (ix3 (⟨0, Nat.one_pos⟩ : Fin 1) (i 0) (i 1)))) ?_
  · have hx : Shape.reshapeEquiv hc i = ix3 (⟨0, Nat.one_pos⟩ : Fin 1) (i 0) (i 1) := by
      conv_lhs => rw [eq_ix2 i]
      exact reshapeEquiv_ix2_1ab hc (i 0) (i 1)
    exact congrArg (View.ld X (Rect.unit (s := ⟨3, ![8, A, B]⟩) ![p.val, 0, 0] ![1, A, B] inb)) hx
  · refine congrArg X ?_
    funext a
    refine Fin.ext ?_
    match a with
    | 0 => show p.val + 1 * 0 = p.val; omega
    | 1 => show 0 + 1 * (i 0).val = (i 0).val; omega
    | 2 => show 0 + 1 * (i 1).val = (i 1).val; omega

variable {n₀ n₁ n₂ : ℕ}

/-- The plain sum over the first of three axes, from zero. -/
theorem host_sum (x : FVec Ideal ⟨3, ![n₀, n₁, n₂]⟩ .f32) (h) (h0) (j : (⟨2, ![n₁, n₂]⟩ : Shape).Idx) :
    Host.reduceAdd (t := ⟨2, ![n₁, n₂]⟩) (axes := [0]) x (constant ⟨0, ![]⟩ .f32 0x00000000#32) h h0 j = ∑ s : Fin n₀, x (ix3 s (j 0) (j 1)) := by
  refine (Ideal.hostReduceAdd_r3_a0 h x _ j).trans ?_
  show Ideal.ofBits .f32 0x00000000#32 + _ = _
  rw [Ideal.ofBits_zero_f32, zero_add]
  rfl

/-! ### Small arrays out of a packed one -/

section Unpack

variable {α : Type} {R o rows n : ℕ}

/-- The rows from `o` on, laid out in a line, at an index. -/
theorem line_at (X : (⟨2, ![R, 128]⟩ : Shape).Idx → α) (hs : Shape.Slices ⟨2, ![R, 128]⟩ ![o, 0] ⟨2, ![rows, 128]⟩)
    (hc : (⟨2, ![rows, 128]⟩ : Shape).ShapeCasts ⟨1, ![n]⟩) (i : Fin n) (hi : i.val / 128 < rows) (hR : o + i.val / 128 < R) :
    shapeCast ⟨1, ![n]⟩ (extractStridedSlice ⟨2, ![rows, 128]⟩ ![o, 0] X hs) hc (ix1 i)
      = X (ix2 (⟨o + i.val / 128, hR⟩ : Fin R) (⟨i.val % 128, Nat.mod_lt _ (by omega)⟩ : Fin 128)) := by
  refine (shapeCast_apply _ hc (ix1 i) (ix2 (⟨i.val / 128, hi⟩ : Fin rows) (⟨i.val % 128, Nat.mod_lt _ (by omega)⟩ : Fin 128)) ?_).trans ?_
  · rw [Shape.rowMajor_val_two, Shape.rowMajor_val_one]
    show i.val / 128 * 128 + i.val % 128 = i.val
    omega
  · refine extractStridedSlice_apply _ X hs _ _ fun a => ?_
    match a with
    | 0 => rfl
    | 1 => exact (Nat.zero_add _).symm

/-- … a part of the line from its start, as a row. -/
theorem row_at (y : (⟨1, ![n]⟩ : Shape).Idx → α) {k : ℕ} (hs : Shape.Slices ⟨1, ![n]⟩ ![0] ⟨1, ![k]⟩) (hc : (⟨1, ![k]⟩ : Shape).ShapeCasts ⟨2, ![1, k]⟩)
    (a : Fin 1) (i : Fin k) (hi : i.val < n) :
    shapeCast ⟨2, ![1, k]⟩ (extractStridedSlice ⟨1, ![k]⟩ ![0] y hs) hc (ix2 a i) = y (ix1 ⟨i.val, hi⟩) := by
  refine (shapeCast_apply _ hc _ (ix1 i) ?_).trans ?_
  · rw [Shape.rowMajor_val_two, Shape.rowMajor_val_one]
    show i.val = a.val * k + i.val
    obtain rfl : a = 0 := Subsingleton.elim _ _
    simp
  · refine extractStridedSlice_apply _ y hs _ _ fun a => ?_
    match a with
    | 0 => exact (Nat.zero_add _).symm

/-- … the whole line as a row. -/
theorem whole_row_at (y : (⟨1, ![n]⟩ : Shape).Idx → α) (hc : (⟨1, ![n]⟩ : Shape).ShapeCasts ⟨2, ![1, n]⟩) (a : Fin 1) (i : Fin n) :
    shapeCast ⟨2, ![1, n]⟩ y hc (ix2 a i) = y (ix1 i) := by
  refine shapeCast_apply _ hc _ (ix1 i) ?_
  rw [Shape.rowMajor_val_two, Shape.rowMajor_val_one]
  show i.val = a.val * n + i.val
  obtain rfl : a = 0 := Subsingleton.elim _ _
  simp

/-- Rows of 128 regrouped in three axes, at an index. -/
theorem regroup_at (X : (⟨2, ![R, 128]⟩ : Shape).Idx → α) {p q k : ℕ} (hc : (⟨2, ![R, 128]⟩ : Shape).ShapeCasts ⟨3, ![p, q, k]⟩) (a : Fin p) (b : Fin q) (i : Fin k)
    (r : Fin R) (l : Fin 128) (h : r.val * 128 + l.val = (a.val * q + b.val) * k + i.val) :
    shapeCast ⟨3, ![p, q, k]⟩ X hc (ix3 a b i) = X (ix2 r l) := by
  refine shapeCast_apply _ hc _ _ ?_
  rw [Shape.rowMajor_val_two, Shape.rowMajor_val_three]
  exact h

end Unpack

end Cert.SlotSum
-- ==== Proof.GradSteps.lean ====
/-
What the six optimiser steps leave over the reals: the gradient is the sum of the eight slots, and the change of the weight and its two moments are the plain step's
of that sum, entry by entry. The step of a large weight takes its rows a block at a time; the blocks tile the arrays.
-/
module

public import proofs.«01_k».proof.Proof.GradRun
public import proofs.«01_k».proof.Proof.AdamW
public import proofs.«01_k».proof.Proof.SlotSum

@[expose] public section

noncomputable section

open Idealize.ShloMosaic hiding ix1 ix2 ix3 ix4 eq_ix1 eq_ix2 eq_ix3
open Idealize.ShloMosaic.Pipeline Idealize.ShloMosaic.TcCoe Idealize.SL.Sem Idealize.SL Idealize.ShloMosaic.ValueIdx
open Cert.KernelIdeal Cert.KernelIdeal.Gen

namespace Cert.Grads

variable {m : (ℓ : Loc nD τ sig) → Buf (Elt Ideal) ℓ} (c : Dev nD)

/-- The sum over the eight slots. -/
def total {A B : ℕ} (X : (⟨3, ![8, A, B]⟩ : Shape).Idx → EReal) : (⟨2, ![A, B]⟩ : Shape).Idx → EReal := fun i => ∑ s : Fin 8, X (ix3 s (i 0) (i 1))

/-- An entry of a slot stands in a window's block where the entry of the result does, when the window's blocks go down the rows with the result's. -/
theorem slot_coords {A B R C : ℕ} {n : Fin 3 → ℕ} {n' : Fin 2 → ℕ} (h0 : n 0 = 0) (h1 : n 1 = n' 0) (h2 : n 2 = n' 1) (s : Fin 8)
    (j : (⟨2, ![A, B]⟩ : Shape).Idx) (i : (⟨2, ![R, C]⟩ : Shape).Idx) (h : ∀ a, (i a).val = n' a * (![A, B] : Fin 2 → ℕ) a + (j a).val) (a : Fin 3) :
    ((ix3 s (i 0) (i 1) : (⟨3, ![8, R, C]⟩ : Shape).Idx) a).val = n a * (![8, A, B] : Fin 3 → ℕ) a + ((ix3 s (j 0) (j 1) : (⟨3, ![8, A, B]⟩ : Shape).Idx) a).val := by
  match a with
  | 0 => show s.val = n 0 * 8 + s.val; rw [h0]; omega
  | 1 => show (i 0).val = n 1 * A + (j 0).val; rw [h1]; exact h 0
  | 2 => show (i 1).val = n 2 * B + (j 1).val; rw [h2]; exact h 1

/-! ### w_in -/

theorem slots1_at (X : S8x256x1024.Idx → Elt Ideal .bf16) (i : S256x1024.Idx) : slots1 (F := Ideal) X i = total (A := 256) (B := 1024) X i := by
  unfold total
  rw [Fin.sum_univ_eight]
  have h := fun p inb => SlotSum.slot_at (A := 256) (B := 1024) (Val := Elt Ideal) (e := .bf16) X p inb shapeCasts_S1x256x1024_S256x1024 i
  exact congrArg₂ (· + ·) (congrArg₂ (· + ·) (congrArg₂ (· + ·) (congrArg₂ (· + ·) (congrArg₂ (· + ·) (congrArg₂ (· + ·) (congrArg₂ (· + ·)
    (h 0 _) (h 1 _)) (h 2 _)) (h 3 _)) (h 4 _)) (h 5 _)) (h 6 _)) (h 7 _)

/-- The step's arrays: weight, moments, gradient slots. -/
abbrev before1 (m : (ℓ : Loc nD τ sig) → Buf (Elt Ideal) ℓ) (c : Dev nD) (w : Fin cfg1.W) : Buf (Elt Ideal) ((cfg1.win w).arr.view.loc (c : Thread nD τ)) :=
  at2 m c (Proc.devRef .tc (arrRef spec1 w))
theorem first1 (g m : FVec Ideal S256x1024 .f32) : k1_pay1 g (k1_pay5 m) = AdamW.first m g := by
  unfold k1_pay1 k1_pay5
  simp only [shapeCast_self]
  rfl
theorem second1 (g v : FVec Ideal S256x1024 .f32) : k1_pay2 g v = AdamW.second v g := by
  unfold k1_pay2
  simp only [shapeCast_self]
  rfl
theorem change1 (g m v w : FVec Ideal S256x1024 .f32) : k1_pay3 g (k1_pay5 m) v w = AdamW.change w m v g := by
  unfold k1_pay3
  rw [first1, second1, shapeCast_self]
  rfl

theorem uncut1 (t : Fin cfg1.N) (w : Fin cfg1.W) (a) : (cfg1.win w).xsize (cfg1.grid.coords t) a = (cfg1.win w).size a := by
  revert a t w; decide +kernel
theorem slot_index1 : ∀ t : Fin cfg1.N, (cfg1.win 3).index t 0 = 0 ∧ (cfg1.win 3).index t 1 = (cfg1.win 4).index t 0 ∧ (cfg1.win 3).index t 2 = (cfg1.win 4).index t 1 := by decide +kernel
theorem index1 : ∀ t : Fin cfg1.N, ((cfg1.win 0).index t = (cfg1.win 4).index t ∧ (cfg1.win 1).index t = (cfg1.win 4).index t ∧ (cfg1.win 2).index t = (cfg1.win 4).index t)
    ∧ (cfg1.win 5).index t = (cfg1.win 4).index t ∧ (cfg1.win 6).index t = (cfg1.win 4).index t ∧ (cfg1.win 7).index t = (cfg1.win 4).index t := by decide +kernel

/-- The blocks read at a point, at an entry of the result's block there. -/
theorem reads1 (t : Fin cfg1.N) (j : S256x1024.Idx) (i : S256x1024.Idx) (h : ∀ a, (i a).val = (cfg1.win 4).index t a * S256x1024.size a + (j a).val) :
    (Windowed.block (before1 m c) t 0 : S256x1024.Idx → Elt Ideal .f32) j = (before1 m c 0 : S256x1024.Idx → Elt Ideal .f32) i
      ∧ (Windowed.block (before1 m c) t 1 : S256x1024.Idx → Elt Ideal .f32) j = (before1 m c 1 : S256x1024.Idx → Elt Ideal .f32) i
      ∧ (Windowed.block (before1 m c) t 2 : S256x1024.Idx → Elt Ideal .f32) j = (before1 m c 2 : S256x1024.Idx → Elt Ideal .f32) i
      ∧ slots1 (F := Ideal) (Windowed.block (before1 m c) t 3) j = total (A := 256) (B := 1024) (before1 m c 3) i := by
  obtain ⟨⟨i0, i1, i2⟩, -⟩ := index1 t
  obtain ⟨s0, s1, s2⟩ := slot_index1 t
  refine ⟨Windowed.block_at _ t 0 (uncut1 t 0) rfl j i fun a => (h a).trans (by rw [i0]), Windowed.block_at _ t 1 (uncut1 t 1) rfl j i fun a => (h a).trans (by rw [i1]),
    Windowed.block_at _ t 2 (uncut1 t 2) rfl j i fun a => (h a).trans (by rw [i2]), (slots1_at _ j).trans (Finset.sum_congr rfl fun s _ => ?_)⟩
  exact Windowed.block_at _ t 3 (uncut1 t 3) rfl (ix3 s (j 0) (j 1) : S8x256x1024.Idx) (ix3 s (i 0) (i 1) : S8x256x1024.Idx) (slot_coords (A := 256) (B := 1024) (R := 256) (C := 1024) s0 s1 s2 s j i h)

/-- The gradient, the change and the moments after the step. -/
theorem step1_grad : at3 m c (Proc.devRef .tc main_v5_0) = total (A := 256) (B := 1024) (before1 m c 3) := by
  refine (afterRegion_arr (dat1 m c) (at2 m c) winFacts1.arr_inj 4).trans ?_
  refine Windowed.result_tiled 4 (by decide +kernel) (Memref.isWhole_whole _) rfl _ fun t j i h => ?_
  exact (reads1 c t j i h).2.2.2
theorem step1_change : at3 m c (Proc.devRef .tc main_v5_1)
    = AdamW.change (s := S256x1024) (before1 m c 0) (before1 m c 1) (before1 m c 2) (total (A := 256) (B := 1024) (before1 m c 3)) := by
  refine (afterRegion_arr (dat1 m c) (at2 m c) winFacts1.arr_inj 5).trans ?_
  refine Windowed.result_tiled 5 (by decide +kernel) (Memref.isWhole_whole _) rfl _ fun t j i h => ?_
  obtain ⟨r0, r1, r2, r3⟩ := reads1 c t j i fun a => (h a).trans (by rw [(index1 t).2.1])
  exact (congrFun (change1 _ _ _ _) j).trans (AdamW.change_eq (s := S256x1024) (s' := S256x1024) r0 r1 r2 r3)
theorem step1_first : at3 m c (Proc.devRef .tc main_v5_2) = AdamW.first (s := S256x1024) (before1 m c 1) (total (A := 256) (B := 1024) (before1 m c 3)) := by
  refine (afterRegion_arr (dat1 m c) (at2 m c) winFacts1.arr_inj 6).trans ?_
  refine Windowed.result_tiled 6 (by decide +kernel) (Memref.isWhole_whole _) rfl _ fun t j i h => ?_
  obtain ⟨r0, r1, r2, r3⟩ := reads1 c t j i fun a => (h a).trans (by rw [(index1 t).2.2.1])
  exact (congrFun (first1 _ _) j).trans (AdamW.first_eq (s := S256x1024) (s' := S256x1024) r1 r3)
theorem step1_second : at3 m c (Proc.devRef .tc main_v5_3) = AdamW.second (s := S256x1024) (before1 m c 2) (total (A := 256) (B := 1024) (before1 m c 3)) := by
  refine (afterRegion_arr (dat1 m c) (at2 m c) winFacts1.arr_inj 7).trans ?_
  refine Windowed.result_tiled 7 (by decide +kernel) (Memref.isWhole_whole _) rfl _ fun t j i h => ?_
  obtain ⟨r0, r1, r2, r3⟩ := reads1 c t j i fun a => (h a).trans (by rw [(index1 t).2.2.2])
  exact (congrFun (second1 _ _) j).trans (AdamW.second_eq (s := S256x1024) (s' := S256x1024) r2 r3)

/-! ### glu_w -/

theorem slots2_at (X : S8x64x512.Idx → Elt Ideal .bf16) (i : S64x512.Idx) : slots2 (F := Ideal) X i = total (A := 64) (B := 512) X i := by
  unfold total
  rw [Fin.sum_univ_eight]
  have h := fun p inb => SlotSum.slot_at (A := 64) (B := 512) (Val := Elt Ideal) (e := .bf16) X p inb shapeCasts_S1x64x512_S64x512 i
  exact congrArg₂ (· + ·) (congrArg₂ (· + ·) (congrArg₂ (· + ·) (congrArg₂ (· + ·) (congrArg₂ (· + ·) (congrArg₂ (· + ·) (congrArg₂ (· + ·)
    (h 0 _) (h 1 _)) (h 2 _)) (h 3 _)) (h 4 _)) (h 5 _)) (h 6 _)) (h 7 _)

/-- The step's arrays: weight, moments, gradient slots. -/
abbrev before2 (m : (ℓ : Loc nD τ sig) → Buf (Elt Ideal) ℓ) (c : Dev nD) (w : Fin cfg2.W) : Buf (Elt Ideal) ((cfg2.win w).arr.view.loc (c : Thread nD τ)) :=
  at4 m c (Proc.devRef .tc (arrRef spec2 w))
theorem first2 (g m : FVec Ideal S64x512 .f32) : k2_pay1 g (k2_pay5 m) = AdamW.first m g := by
  unfold k2_pay1 k2_pay5
  simp only [shapeCast_self]
  rfl
theorem second2 (g v : FVec Ideal S64x512 .f32) : k2_pay2 g v = AdamW.second v g := by
  unfold k2_pay2
  simp only [shapeCast_self]
  rfl
theorem change2 (g m v w : FVec Ideal S64x512 .f32) : k2_pay3 g (k2_pay5 m) v w = AdamW.change w m v g := by
  unfold k2_pay3
  rw [first2, second2, shapeCast_self]
  rfl

theorem uncut2 (t : Fin cfg2.N) (w : Fin cfg2.W) (a) : (cfg2.win w).xsize (cfg2.grid.coords t) a = (cfg2.win w).size a := by
  revert a t w; decide +kernel
theorem slot_index2 : ∀ t : Fin cfg2.N, (cfg2.win 3).index t 0 = 0 ∧ (cfg2.win 3).index t 1 = (cfg2.win 4).index t 0 ∧ (cfg2.win 3).index t 2 = (cfg2.win 4).index t 1 := by decide +kernel
theorem index2 : ∀ t : Fin cfg2.N, ((cfg2.win 0).index t = (cfg2.win 4).index t ∧ (cfg2.win 1).index t = (cfg2.win 4).index t ∧ (cfg2.win 2).index t = (cfg2.win 4).index t)
    ∧ (cfg2.win 5).index t = (cfg2.win 4).index t ∧ (cfg2.win 6).index t = (cfg2.win 4).index t ∧ (cfg2.win 7).index t = (cfg2.win 4).index t := by decide +kernel

/-- The blocks read at a point, at an entry of the result's block there. -/
theorem reads2 (t : Fin cfg2.N) (j : S64x512.Idx) (i : S64x512.Idx) (h : ∀ a, (i a).val = (cfg2.win 4).index t a * S64x512.size a + (j a).val) :
    (Windowed.block (before2 m c) t 0 : S64x512.Idx → Elt Ideal .f32) j = (before2 m c 0 : S64x512.Idx → Elt Ideal .f32) i
      ∧ (Windowed.block (before2 m c) t 1 : S64x512.Idx → Elt Ideal .f32) j = (before2 m c 1 : S64x512.Idx → Elt Ideal .f32) i
      ∧ (Windowed.block (before2 m c) t 2 : S64x512.Idx → Elt Ideal .f32) j = (before2 m c 2 : S64x512.Idx → Elt Ideal .f32) i
      ∧ slots2 (F := Ideal) (Windowed.block (before2 m c) t 3) j = total (A := 64) (B := 512) (before2 m c 3) i := by
  obtain ⟨⟨i0, i1, i2⟩, -⟩ := index2 t
  obtain ⟨s0, s1, s2⟩ := slot_index2 t
  refine ⟨Windowed.block_at _ t 0 (uncut2 t 0) rfl j i fun a => (h a).trans (by rw [i0]), Windowed.block_at _ t 1 (uncut2 t 1) rfl j i fun a => (h a).trans (by rw [i1]),
    Windowed.block_at _ t 2 (uncut2 t 2) rfl j i fun a => (h a).trans (by rw [i2]), (slots2_at _ j).trans (Finset.sum_congr rfl fun s _ => ?_)⟩
  exact Windowed.block_at _ t 3 (uncut2 t 3) rfl (ix3 s (j 0) (j 1) : S8x64x512.Idx) (ix3 s (i 0) (i 1) : S8x64x512.Idx) (slot_coords (A := 64) (B := 512) (R := 64) (C := 512) s0 s1 s2 s j i h)

/-- The gradient, the change and the moments after the step. -/
theorem step2_grad : at5 m c (Proc.devRef .tc main_v10_0) = total (A := 64) (B := 512) (before2 m c 3) := by
  refine (afterRegion_arr (dat2 m c) (at4 m c) winFacts2.arr_inj 4).trans ?_
  refine Windowed.result_tiled 4 (by decide +kernel) (Memref.isWhole_whole _) rfl _ fun t j i h => ?_
  exact (reads2 c t j i h).2.2.2
theorem step2_change : at5 m c (Proc.devRef .tc main_v10_1)
    = AdamW.change (s := S64x512) (before2 m c 0) (before2 m c 1) (before2 m c 2) (total (A := 64) (B := 512) (before2 m c 3)) := by
  refine (afterRegion_arr (dat2 m c) (at4 m c) winFacts2.arr_inj 5).trans ?_
  refine Windowed.result_tiled 5 (by decide +kernel) (Memref.isWhole_whole _) rfl _ fun t j i h => ?_
  obtain ⟨r0, r1, r2, r3⟩ := reads2 c t j i fun a => (h a).trans (by rw [(index2 t).2.1])
  exact (congrFun (change2 _ _ _ _) j).trans (AdamW.change_eq (s := S64x512) (s' := S64x512) r0 r1 r2 r3)
theorem step2_first : at5 m c (Proc.devRef .tc main_v10_2) = AdamW.first (s := S64x512) (before2 m c 1) (total (A := 64) (B := 512) (before2 m c 3)) := by
  refine (afterRegion_arr (dat2 m c) (at4 m c) winFacts2.arr_inj 6).trans ?_
  refine Windowed.result_tiled 6 (by decide +kernel) (Memref.isWhole_whole _) rfl _ fun t j i h => ?_
  obtain ⟨r0, r1, r2, r3⟩ := reads2 c t j i fun a => (h a).trans (by rw [(index2 t).2.2.1])
  exact (congrFun (first2 _ _) j).trans (AdamW.first_eq (s := S64x512) (s' := S64x512) r1 r3)
theorem step2_second : at5 m c (Proc.devRef .tc main_v10_3) = AdamW.second (s := S64x512) (before2 m c 2) (total (A := 64) (B := 512) (before2 m c 3)) := by
  refine (afterRegion_arr (dat2 m c) (at4 m c) winFacts2.arr_inj 7).trans ?_
  refine Windowed.result_tiled 7 (by decide +kernel) (Memref.isWhole_whole _) rfl _ fun t j i h => ?_
  obtain ⟨r0, r1, r2, r3⟩ := reads2 c t j i fun a => (h a).trans (by rw [(index2 t).2.2.2])
  exact (congrFun (second2 _ _) j).trans (AdamW.second_eq (s := S64x512) (s' := S64x512) r2 r3)

/-! ### w_out -/

theorem slots3_at (X : S8x128x1024.Idx → Elt Ideal .bf16) (i : S128x1024.Idx) : slots3 (F := Ideal) X i = total (A := 128) (B := 1024) X i := by
  unfold total
  rw [Fin.sum_univ_eight]
  have h := fun p inb => SlotSum.slot_at (A := 128) (B := 1024) (Val := Elt Ideal) (e := .bf16) X p inb shapeCasts_S1x128x1024_S128x1024 i
  exact congrArg₂ (· + ·) (congrArg₂ (· + ·) (congrArg₂ (· + ·) (congrArg₂ (· + ·) (congrArg₂ (· + ·) (congrArg₂ (· + ·) (congrArg₂ (· + ·)
    (h 0 _) (h 1 _)) (h 2 _)) (h 3 _)) (h 4 _)) (h 5 _)) (h 6 _)) (h 7 _)

/-- The step's arrays: weight, moments, gradient slots. -/
abbrev before3 (m : (ℓ : Loc nD τ sig) → Buf (Elt Ideal) ℓ) (c : Dev nD) (w : Fin cfg3.W) : Buf (Elt Ideal) ((cfg3.win w).arr.view.loc (c : Thread nD τ)) :=
  at5 m c (Proc.devRef .tc (arrRef spec3 w))
theorem first3 (g m : FVec Ideal S128x1024 .f32) : k3_pay1 g (k3_pay5 m) = AdamW.first m g := by
  unfold k3_pay1 k3_pay5
  simp only [shapeCast_self]
  rfl
theorem second3 (g v : FVec Ideal S128x1024 .f32) : k3_pay2 g v = AdamW.second v g := by
  unfold k3_pay2
  simp only [shapeCast_self]
  rfl
theorem change3 (g m v w : FVec Ideal S128x1024 .f32) : k3_pay3 g (k3_pay5 m) v w = AdamW.change w m v g := by
  unfold k3_pay3
  rw [first3, second3, shapeCast_self]
  rfl

theorem uncut3 (t : Fin cfg3.N) (w : Fin cfg3.W) (a) : (cfg3.win w).xsize (cfg3.grid.coords t) a = (cfg3.win w).size a := by
  revert a t w; decide +kernel
theorem slot_index3 : ∀ t : Fin cfg3.N, (cfg3.win 3).index t 0 = 0 ∧ (cfg3.win 3).index t 1 = (cfg3.win 4).index t 0 ∧ (cfg3.win 3).index t 2 = (cfg3.win 4).index t 1 := by decide +kernel
theorem index3 : ∀ t : Fin cfg3.N, ((cfg3.win 0).index t = (cfg3.win 4).index t ∧ (cfg3.win 1).index t = (cfg3.win 4).index t ∧ (cfg3.win 2).index t = (cfg3.win 4).index t)
    ∧ (cfg3.win 5).index t = (cfg3.win 4).index t ∧ (cfg3.win 6).index t = (cfg3.win 4).index t ∧ (cfg3.win 7).index t = (cfg3.win 4).index t := by decide +kernel

/-- The blocks read at a point, at an entry of the result's block there. -/
theorem reads3 (t : Fin cfg3.N) (j : S128x1024.Idx) (i : S128x1024.Idx) (h : ∀ a, (i a).val = (cfg3.win 4).index t a * S128x1024.size a + (j a).val) :
    (Windowed.block (before3 m c) t 0 : S128x1024.Idx → Elt Ideal .f32) j = (before3 m c 0 : S128x1024.Idx → Elt Ideal .f32) i
      ∧ (Windowed.block (before3 m c) t 1 : S128x1024.Idx → Elt Ideal .f32) j = (before3 m c 1 : S128x1024.Idx → Elt Ideal .f32) i
      ∧ (Windowed.block (before3 m c) t 2 : S128x1024.Idx → Elt Ideal .f32) j = (before3 m c 2 : S128x1024.Idx → Elt Ideal .f32) i
      ∧ slots3 (F := Ideal) (Windowed.block (before3 m c) t 3) j = total (A := 128) (B := 1024) (before3 m c 3) i := by
  obtain ⟨⟨i0, i1, i2⟩, -⟩ := index3 t
  obtain ⟨s0, s1, s2⟩ := slot_index3 t
  refine ⟨Windowed.block_at _ t 0 (uncut3 t 0) rfl j i fun a => (h a).trans (by rw [i0]), Windowed.block_at _ t 1 (uncut3 t 1) rfl j i fun a => (h a).trans (by rw [i1]),
    Windowed.block_at _ t 2 (uncut3 t 2) rfl j i fun a => (h a).trans (by rw [i2]), (slots3_at _ j).trans (Finset.sum_congr rfl fun s _ => ?_)⟩
  exact Windowed.block_at _ t 3 (uncut3 t 3) rfl (ix3 s (j 0) (j 1) : S8x128x1024.Idx) (ix3 s (i 0) (i 1) : S8x128x1024.Idx) (slot_coords (A := 128) (B := 1024) (R := 128) (C := 1024) s0 s1 s2 s j i h)

/-- The gradient, the change and the moments after the step. -/
theorem step3_grad : at6 m c (Proc.devRef .tc main_v11_0) = total (A := 128) (B := 1024) (before3 m c 3) := by
  refine (afterRegion_arr (dat3 m c) (at5 m c) winFacts3.arr_inj 4).trans ?_
  refine Windowed.result_tiled 4 (by decide +kernel) (Memref.isWhole_whole _) rfl _ fun t j i h => ?_
  exact (reads3 c t j i h).2.2.2
theorem step3_change : at6 m c (Proc.devRef .tc main_v11_1)
    = AdamW.change (s := S128x1024) (before3 m c 0) (before3 m c 1) (before3 m c 2) (total (A := 128) (B := 1024) (before3 m c 3)) := by
  refine (afterRegion_arr (dat3 m c) (at5 m c) winFacts3.arr_inj 5).trans ?_
  refine Windowed.result_tiled 5 (by decide +kernel) (Memref.isWhole_whole _) rfl _ fun t j i h => ?_
  obtain ⟨r0, r1, r2, r3⟩ := reads3 c t j i fun a => (h a).trans (by rw [(index3 t).2.1])
  exact (congrFun (change3 _ _ _ _) j).trans (AdamW.change_eq (s := S128x1024) (s' := S128x1024) r0 r1 r2 r3)
theorem step3_first : at6 m c (Proc.devRef .tc main_v11_2) = AdamW.first (s := S128x1024) (before3 m c 1) (total (A := 128) (B := 1024) (before3 m c 3)) := by
  refine (afterRegion_arr (dat3 m c) (at5 m c) winFacts3.arr_inj 6).trans ?_
  refine Windowed.result_tiled 6 (by decide +kernel) (Memref.isWhole_whole _) rfl _ fun t j i h => ?_
  obtain ⟨r0, r1, r2, r3⟩ := reads3 c t j i fun a => (h a).trans (by rw [(index3 t).2.2.1])
  exact (congrFun (first3 _ _) j).trans (AdamW.first_eq (s := S128x1024) (s' := S128x1024) r1 r3)
theorem step3_second : at6 m c (Proc.devRef .tc main_v11_3) = AdamW.second (s := S128x1024) (before3 m c 2) (total (A := 128) (B := 1024) (before3 m c 3)) := by
  refine (afterRegion_arr (dat3 m c) (at5 m c) winFacts3.arr_inj 7).trans ?_
  refine Windowed.result_tiled 7 (by decide +kernel) (Memref.isWhole_whole _) rfl _ fun t j i h => ?_
  obtain ⟨r0, r1, r2, r3⟩ := reads3 c t j i fun a => (h a).trans (by rw [(index3 t).2.2.2])
  exact (congrFun (second3 _ _) j).trans (AdamW.second_eq (s := S128x1024) (s' := S128x1024) r2 r3)

/-! ### w_mlp_up -/

theorem slots4_at (X : S8x128x1024.Idx → Elt Ideal .bf16) (i : S128x1024.Idx) : slots4 (F := Ideal) X i = total (A := 128) (B := 1024) X i := by
  unfold total
  rw [Fin.sum_univ_eight]
  have h := fun p inb => SlotSum.slot_at (A := 128) (B := 1024) (Val := Elt Ideal) (e := .bf16) X p inb shapeCasts_S1x128x1024_S128x1024 i
  exact congrArg₂ (· + ·) (congrArg₂ (· + ·) (congrArg₂ (· + ·) (congrArg₂ (· + ·) (congrArg₂ (· + ·) (congrArg₂ (· + ·) (congrArg₂ (· + ·)
    (h 0 _) (h 1 _)) (h 2 _)) (h 3 _)) (h 4 _)) (h 5 _)) (h 6 _)) (h 7 _)

/-- The step's arrays: weight, moments, gradient slots. -/
abbrev before4 (m : (ℓ : Loc nD τ sig) → Buf (Elt Ideal) ℓ) (c : Dev nD) (w : Fin cfg4.W) : Buf (Elt Ideal) ((cfg4.win w).arr.view.loc (c : Thread nD τ)) :=
  at7 m c (Proc.devRef .tc (arrRef spec4 w))
theorem first4 (g m : FVec Ideal S128x1024 .f32) : k4_pay1 g (k4_pay5 m) = AdamW.first m g := by
  unfold k4_pay1 k4_pay5
  simp only [shapeCast_self]
  rfl
theorem second4 (g v : FVec Ideal S128x1024 .f32) : k4_pay2 g v = AdamW.second v g := by
  unfold k4_pay2
  simp only [shapeCast_self]
  rfl
theorem change4 (g m v w : FVec Ideal S128x1024 .f32) : k4_pay3 g (k4_pay5 m) v w = AdamW.change w m v g := by
  unfold k4_pay3
  rw [first4, second4, shapeCast_self]
  rfl

theorem uncut4 (t : Fin cfg4.N) (w : Fin cfg4.W) (a) : (cfg4.win w).xsize (cfg4.grid.coords t) a = (cfg4.win w).size a := by
  revert a t w; decide +kernel
theorem slot_index4 : ∀ t : Fin cfg4.N, (cfg4.win 3).index t 0 = 0 ∧ (cfg4.win 3).index t 1 = (cfg4.win 4).index t 0 ∧ (cfg4.win 3).index t 2 = (cfg4.win 4).index t 1 := by decide +kernel
theorem index4 : ∀ t : Fin cfg4.N, ((cfg4.win 0).index t = (cfg4.win 4).index t ∧ (cfg4.win 1).index t = (cfg4.win 4).index t ∧ (cfg4.win 2).index t = (cfg4.win 4).index t)
    ∧ (cfg4.win 5).index t = (cfg4.win 4).index t ∧ (cfg4.win 6).index t = (cfg4.win 4).index t ∧ (cfg4.win 7).index t = (cfg4.win 4).index t := by decide +kernel

/-- The blocks read at a point, at an entry of the result's block there. -/
theorem reads4 (t : Fin cfg4.N) (j : S128x1024.Idx) (i : S512x1024.Idx) (h : ∀ a, (i a).val = (cfg4.win 4).index t a * S128x1024.size a + (j a).val) :
    (Windowed.block (before4 m c) t 0 : S128x1024.Idx → Elt Ideal .f32) j = (before4 m c 0 : S512x1024.Idx → Elt Ideal .f32) i
      ∧ (Windowed.block (before4 m c) t 1 : S128x1024.Idx → Elt Ideal .f32) j = (before4 m c 1 : S512x1024.Idx → Elt Ideal .f32) i
      ∧ (Windowed.block (before4 m c) t 2 : S128x1024.Idx → Elt Ideal .f32) j = (before4 m c 2 : S512x1024.Idx → Elt Ideal .f32) i
      ∧ slots4 (F := Ideal) (Windowed.block (before4 m c) t 3) j = total (A := 512) (B := 1024) (before4 m c 3) i := by
  obtain ⟨⟨i0, i1, i2⟩, -⟩ := index4 t
  obtain ⟨s0, s1, s2⟩ := slot_index4 t
  refine ⟨Windowed.block_at _ t 0 (uncut4 t 0) rfl j i fun a => (h a).trans (by rw [i0]), Windowed.block_at _ t 1 (uncut4 t 1) rfl j i fun a => (h a).trans (by rw [i1]),
    Windowed.block_at _ t 2 (uncut4 t 2) rfl j i fun a => (h a).trans (by rw [i2]), (slots4_at _ j).trans (Finset.sum_congr rfl fun s _ => ?_)⟩
  exact Windowed.block_at _ t 3 (uncut4 t 3) rfl (ix3 s (j 0) (j 1) : S8x128x1024.Idx) (ix3 s (i 0) (i 1) : S8x512x1024.Idx) (slot_coords (A := 128) (B := 1024) (R := 512) (C := 1024) s0 s1 s2 s j i h)

/-- The gradient, the change and the moments after the step. -/
theorem step4_grad : at8 m c (Proc.devRef .tc main_v15_0) = total (A := 512) (B := 1024) (before4 m c 3) := by
  refine (afterRegion_arr (dat4 m c) (at7 m c) winFacts4.arr_inj 4).trans ?_
  refine Windowed.result_tiled 4 (by decide +kernel) (Memref.isWhole_whole _) rfl _ fun t j i h => ?_
  exact (reads4 c t j i h).2.2.2
theorem step4_change : at8 m c (Proc.devRef .tc main_v15_1)
    = AdamW.change (s := S512x1024) (before4 m c 0) (before4 m c 1) (before4 m c 2) (total (A := 512) (B := 1024) (before4 m c 3)) := by
  refine (afterRegion_arr (dat4 m c) (at7 m c) winFacts4.arr_inj 5).trans ?_
  refine Windowed.result_tiled 5 (by decide +kernel) (Memref.isWhole_whole _) rfl _ fun t j i h => ?_
  obtain ⟨r0, r1, r2, r3⟩ := reads4 c t j i fun a => (h a).trans (by rw [(index4 t).2.1])
  exact (congrFun (change4 _ _ _ _) j).trans (AdamW.change_eq (s := S128x1024) (s' := S512x1024) r0 r1 r2 r3)
theorem step4_first : at8 m c (Proc.devRef .tc main_v15_2) = AdamW.first (s := S512x1024) (before4 m c 1) (total (A := 512) (B := 1024) (before4 m c 3)) := by
  refine (afterRegion_arr (dat4 m c) (at7 m c) winFacts4.arr_inj 6).trans ?_
  refine Windowed.result_tiled 6 (by decide +kernel) (Memref.isWhole_whole _) rfl _ fun t j i h => ?_
  obtain ⟨r0, r1, r2, r3⟩ := reads4 c t j i fun a => (h a).trans (by rw [(index4 t).2.2.1])
  exact (congrFun (first4 _ _) j).trans (AdamW.first_eq (s := S128x1024) (s' := S512x1024) r1 r3)
theorem step4_second : at8 m c (Proc.devRef .tc main_v15_3) = AdamW.second (s := S512x1024) (before4 m c 2) (total (A := 512) (B := 1024) (before4 m c 3)) := by
  refine (afterRegion_arr (dat4 m c) (at7 m c) winFacts4.arr_inj 7).trans ?_
  refine Windowed.result_tiled 7 (by decide +kernel) (Memref.isWhole_whole _) rfl _ fun t j i h => ?_
  obtain ⟨r0, r1, r2, r3⟩ := reads4 c t j i fun a => (h a).trans (by rw [(index4 t).2.2.2])
  exact (congrFun (second4 _ _) j).trans (AdamW.second_eq (s := S128x1024) (s' := S512x1024) r2 r3)

/-! ### w_mlp_down -/

theorem slots5_at (X : S8x128x1024.Idx → Elt Ideal .bf16) (i : S128x1024.Idx) : slots5 (F := Ideal) X i = total (A := 128) (B := 1024) X i := by
  unfold total
  rw [Fin.sum_univ_eight]
  have h := fun p inb => SlotSum.slot_at (A := 128) (B := 1024) (Val := Elt Ideal) (e := .bf16) X p inb shapeCasts_S1x128x1024_S128x1024 i
  exact congrArg₂ (· + ·) (congrArg₂ (· + ·) (congrArg₂ (· + ·) (congrArg₂ (· + ·) (congrArg₂ (· + ·) (congrArg₂ (· + ·) (congrArg₂ (· + ·)
    (h 0 _) (h 1 _)) (h 2 _)) (h 3 _)) (h 4 _)) (h 5 _)) (h 6 _)) (h 7 _)

/-- The step's arrays: weight, moments, gradient slots. -/
abbrev before5 (m : (ℓ : Loc nD τ sig) → Buf (Elt Ideal) ℓ) (c : Dev nD) (w : Fin cfg5.W) : Buf (Elt Ideal) ((cfg5.win w).arr.view.loc (c : Thread nD τ)) :=
  at9 m c (Proc.devRef .tc (arrRef spec5 w))
theorem first5 (g m : FVec Ideal S128x1024 .f32) : k5_pay1 g (k5_pay5 m) = AdamW.first m g := by
  unfold k5_pay1 k5_pay5
  simp only [shapeCast_self]
  rfl
theorem second5 (g v : FVec Ideal S128x1024 .f32) : k5_pay2 g v = AdamW.second v g := by
  unfold k5_pay2
  simp only [shapeCast_self]
  rfl
theorem change5 (g m v w : FVec Ideal S128x1024 .f32) : k5_pay3 g (k5_pay5 m) v w = AdamW.change w m v g := by
  unfold k5_pay3
  rw [first5, second5, shapeCast_self]
  rfl

theorem uncut5 (t : Fin cfg5.N) (w : Fin cfg5.W) (a) : (cfg5.win w).xsize (cfg5.grid.coords t) a = (cfg5.win w).size a := by
  revert a t w; decide +kernel
theorem slot_index5 : ∀ t : Fin cfg5.N, (cfg5.win 3).index t 0 = 0 ∧ (cfg5.win 3).index t 1 = (cfg5.win 4).index t 0 ∧ (cfg5.win 3).index t 2 = (cfg5.win 4).index t 1 := by decide +kernel
theorem index5 : ∀ t : Fin cfg5.N, ((cfg5.win 0).index t = (cfg5.win 4).index t ∧ (cfg5.win 1).index t = (cfg5.win 4).index t ∧ (cfg5.win 2).index t = (cfg5.win 4).index t)
    ∧ (cfg5.win 5).index t = (cfg5.win 4).index t ∧ (cfg5.win 6).index t = (cfg5.win 4).index t ∧ (cfg5.win 7).index t = (cfg5.win 4).index t := by decide +kernel

/-- The blocks read at a point, at an entry of the result's block there. -/
theorem reads5 (t : Fin cfg5.N) (j : S128x1024.Idx) (i : S512x1024.Idx) (h : ∀ a, (i a).val = (cfg5.win 4).index t a * S128x1024.size a + (j a).val) :
    (Windowed.block (before5 m c) t 0 : S128x1024.Idx → Elt Ideal .f32) j = (before5 m c 0 : S512x1024.Idx → Elt Ideal .f32) i
      ∧ (Windowed.block (before5 m c) t 1 : S128x1024.Idx → Elt Ideal .f32) j = (before5 m c 1 : S512x1024.Idx → Elt Ideal .f32) i
      ∧ (Windowed.block (before5 m c) t 2 : S128x1024.Idx → Elt Ideal .f32) j = (before5 m c 2 : S512x1024.Idx → Elt Ideal .f32) i
      ∧ slots5 (F := Ideal) (Windowed.block (before5 m c) t 3) j = total (A := 512) (B := 1024) (before5 m c 3) i := by
  obtain ⟨⟨i0, i1, i2⟩, -⟩ := index5 t
  obtain ⟨s0, s1, s2⟩ := slot_index5 t
  refine ⟨Windowed.block_at _ t 0 (uncut5 t 0) rfl j i fun a => (h a).trans (by rw [i0]), Windowed.block_at _ t 1 (uncut5 t 1) rfl j i fun a => (h a).trans (by rw [i1]),
    Windowed.block_at _ t 2 (uncut5 t 2) rfl j i fun a => (h a).trans (by rw [i2]), (slots5_at _ j).trans (Finset.sum_congr rfl fun s _ => ?_)⟩
  exact Windowed.block_at _ t 3 (uncut5 t 3) rfl (ix3 s (j 0) (j 1) : S8x128x1024.Idx) (ix3 s (i 0) (i 1) : S8x512x1024.Idx) (slot_coords (A := 128) (B := 1024) (R := 512) (C := 1024) s0 s1 s2 s j i h)

/-- The gradient, the change and the moments after the step. -/
theorem step5_grad : at10 m c (Proc.devRef .tc main_v20_0) = total (A := 512) (B := 1024) (before5 m c 3) := by
  refine (afterRegion_arr (dat5 m c) (at9 m c) winFacts5.arr_inj 4).trans ?_
  refine Windowed.result_tiled 4 (by decide +kernel) (Memref.isWhole_whole _) rfl _ fun t j i h => ?_
  exact (reads5 c t j i h).2.2.2
theorem step5_change : at10 m c (Proc.devRef .tc main_v20_1)
    = AdamW.change (s := S512x1024) (before5 m c 0) (before5 m c 1) (before5 m c 2) (total (A := 512) (B := 1024) (before5 m c 3)) := by
  refine (afterRegion_arr (dat5 m c) (at9 m c) winFacts5.arr_inj 5).trans ?_
  refine Windowed.result_tiled 5 (by decide +kernel) (Memref.isWhole_whole _) rfl _ fun t j i h => ?_
  obtain ⟨r0, r1, r2, r3⟩ := reads5 c t j i fun a => (h a).trans (by rw [(index5 t).2.1])
  exact (congrFun (change5 _ _ _ _) j).trans (AdamW.change_eq (s := S128x1024) (s' := S512x1024) r0 r1 r2 r3)
theorem step5_first : at10 m c (Proc.devRef .tc main_v20_2) = AdamW.first (s := S512x1024) (before5 m c 1) (total (A := 512) (B := 1024) (before5 m c 3)) := by
  refine (afterRegion_arr (dat5 m c) (at9 m c) winFacts5.arr_inj 6).trans ?_
  refine Windowed.result_tiled 6 (by decide +kernel) (Memref.isWhole_whole _) rfl _ fun t j i h => ?_
  obtain ⟨r0, r1, r2, r3⟩ := reads5 c t j i fun a => (h a).trans (by rw [(index5 t).2.2.1])
  exact (congrFun (first5 _ _) j).trans (AdamW.first_eq (s := S128x1024) (s' := S512x1024) r1 r3)
theorem step5_second : at10 m c (Proc.devRef .tc main_v20_3) = AdamW.second (s := S512x1024) (before5 m c 2) (total (A := 512) (B := 1024) (before5 m c 3)) := by
  refine (afterRegion_arr (dat5 m c) (at9 m c) winFacts5.arr_inj 7).trans ?_
  refine Windowed.result_tiled 7 (by decide +kernel) (Memref.isWhole_whole _) rfl _ fun t j i h => ?_
  obtain ⟨r0, r1, r2, r3⟩ := reads5 c t j i fun a => (h a).trans (by rw [(index5 t).2.2.2])
  exact (congrFun (second5 _ _) j).trans (AdamW.second_eq (s := S128x1024) (s' := S512x1024) r2 r3)

/-! ### small -/

theorem slots6_at (X : S8x1128x128.Idx → Elt Ideal .f32) (i : S1128x128.Idx) : slots6 (F := Ideal) X i = total (A := 1128) (B := 128) X i := by
  unfold total
  rw [Fin.sum_univ_eight]
  have h := fun p inb => SlotSum.slot_at (A := 1128) (B := 128) (Val := Elt Ideal) (e := .f32) X p inb shapeCasts_S1x1128x128_S1128x128 i
  exact congrArg₂ (· + ·) (congrArg₂ (· + ·) (congrArg₂ (· + ·) (congrArg₂ (· + ·) (congrArg₂ (· + ·) (congrArg₂ (· + ·) (congrArg₂ (· + ·)
    (h 0 _) (h 1 _)) (h 2 _)) (h 3 _)) (h 4 _)) (h 5 _)) (h 6 _)) (h 7 _)

/-- The step's arrays: weight, moments, gradient slots. -/
abbrev before6 (m : (ℓ : Loc nD τ sig) → Buf (Elt Ideal) ℓ) (c : Dev nD) (w : Fin cfg6.W) : Buf (Elt Ideal) ((cfg6.win w).arr.view.loc (c : Thread nD τ)) :=
  at10 m c (Proc.devRef .tc (arrRef spec6 w))
theorem first6 (X : S8x1128x128.Idx → Elt Ideal .f32) (m : FVec Ideal S1128x128 .f32) : moment6 X m = AdamW.first m (slots6 X) := by
  unfold moment6 k6_pay4
  simp only [shapeCast_self]
  rfl
theorem second6 (g v : FVec Ideal S1128x128 .f32) : k6_pay1 g v = AdamW.second v g := by
  unfold k6_pay1
  simp only [shapeCast_self]
  rfl
theorem change6 (X : S8x1128x128.Idx → Elt Ideal .f32) (m v w : FVec Ideal S1128x128 .f32) : k6_pay2 (slots6 X) (moment6 X m) v w = AdamW.change w m v (slots6 X) := by
  unfold k6_pay2
  rw [first6, second6, shapeCast_self]
  rfl

theorem uncut6 (t : Fin cfg6.N) (w : Fin cfg6.W) (a) : (cfg6.win w).xsize (cfg6.grid.coords t) a = (cfg6.win w).size a := by
  revert a t w; decide +kernel
theorem slot_index6 : ∀ t : Fin cfg6.N, (cfg6.win 3).index t 0 = 0 ∧ (cfg6.win 3).index t 1 = (cfg6.win 4).index t 0 ∧ (cfg6.win 3).index t 2 = (cfg6.win 4).index t 1 := by decide +kernel
theorem index6 : ∀ t : Fin cfg6.N, ((cfg6.win 0).index t = (cfg6.win 4).index t ∧ (cfg6.win 1).index t = (cfg6.win 4).index t ∧ (cfg6.win 2).index t = (cfg6.win 4).index t)
    ∧ (cfg6.win 5).index t = (cfg6.win 4).index t ∧ (cfg6.win 6).index t = (cfg6.win 4).index t ∧ (cfg6.win 7).index t = (cfg6.win 4).index t := by decide +kernel

/-- The blocks read at a point, at an entry of the result's block there. -/
theorem reads6 (t : Fin cfg6.N) (j : S1128x128.Idx) (i : S1128x128.Idx) (h : ∀ a, (i a).val = (cfg6.win 4).index t a * S1128x128.size a + (j a).val) :
    (Windowed.block (before6 m c) t 0 : S1128x128.Idx → Elt Ideal .f32) j = (before6 m c 0 : S1128x128.Idx → Elt Ideal .f32) i
      ∧ (Windowed.block (before6 m c) t 1 : S1128x128.Idx → Elt Ideal .f32) j = (before6 m c 1 : S1128x128.Idx → Elt Ideal .f32) i
      ∧ (Windowed.block (before6 m c) t 2 : S1128x128.Idx → Elt Ideal .f32) j = (before6 m c 2 : S1128x128.Idx → Elt Ideal .f32) i
      ∧ slots6 (F := Ideal) (Windowed.block (before6 m c) t 3) j = total (A := 1128) (B := 128) (before6 m c 3) i := by
  obtain ⟨⟨i0, i1, i2⟩, -⟩ := index6 t
  obtain ⟨s0, s1, s2⟩ := slot_index6 t
  refine ⟨Windowed.block_at _ t 0 (uncut6 t 0) rfl j i fun a => (h a).trans (by rw [i0]), Windowed.block_at _ t 1 (uncut6 t 1) rfl j i fun a => (h a).trans (by rw [i1]),
    Windowed.block_at _ t 2 (uncut6 t 2) rfl j i fun a => (h a).trans (by rw [i2]), (slots6_at _ j).trans (Finset.sum_congr rfl fun s _ => ?_)⟩
  exact Windowed.block_at _ t 3 (uncut6 t 3) rfl (ix3 s (j 0) (j 1) : S8x1128x128.Idx) (ix3 s (i 0) (i 1) : S8x1128x128.Idx) (slot_coords (A := 1128) (B := 128) (R := 1128) (C := 128) s0 s1 s2 s j i h)

/-- The gradient, the change and the moments after the step. -/
theorem step6_grad : at11 m c (Proc.devRef .tc main_v21_0) = total (A := 1128) (B := 128) (before6 m c 3) := by
  refine (afterRegion_arr (dat6 m c) (at10 m c) winFacts6.arr_inj 4).trans ?_
  refine Windowed.result_tiled 4 (by decide +kernel) (Memref.isWhole_whole _) rfl _ fun t j i h => ?_
  exact (reads6 c t j i h).2.2.2
theorem step6_change : at11 m c (Proc.devRef .tc main_v21_1)
    = AdamW.change (s := S1128x128) (before6 m c 0) (before6 m c 1) (before6 m c 2) (total (A := 1128) (B := 128) (before6 m c 3)) := by
  refine (afterRegion_arr (dat6 m c) (at10 m c) winFacts6.arr_inj 5).trans ?_
  refine Windowed.result_tiled 5 (by decide +kernel) (Memref.isWhole_whole _) rfl _ fun t j i h => ?_
  obtain ⟨r0, r1, r2, r3⟩ := reads6 c t j i fun a => (h a).trans (by rw [(index6 t).2.1])
  exact (congrFun (change6 _ _ _ _) j).trans (AdamW.change_eq (s := S1128x128) (s' := S1128x128) r0 r1 r2 r3)
theorem step6_first : at11 m c (Proc.devRef .tc main_v21_2) = AdamW.first (s := S1128x128) (before6 m c 1) (total (A := 1128) (B := 128) (before6 m c 3)) := by
  refine (afterRegion_arr (dat6 m c) (at10 m c) winFacts6.arr_inj 6).trans ?_
  refine Windowed.result_tiled 6 (by decide +kernel) (Memref.isWhole_whole _) rfl _ fun t j i h => ?_
  obtain ⟨r0, r1, r2, r3⟩ := reads6 c t j i fun a => (h a).trans (by rw [(index6 t).2.2.1])
  exact (congrFun (first6 _ _) j).trans (AdamW.first_eq (s := S1128x128) (s' := S1128x128) r1 r3)
theorem step6_second : at11 m c (Proc.devRef .tc main_v21_3) = AdamW.second (s := S1128x128) (before6 m c 2) (total (A := 1128) (B := 128) (before6 m c 3)) := by
  refine (afterRegion_arr (dat6 m c) (at10 m c) winFacts6.arr_inj 7).trans ?_
  refine Windowed.result_tiled 7 (by decide +kernel) (Memref.isWhole_whole _) rfl _ fun t j i h => ?_
  obtain ⟨r0, r1, r2, r3⟩ := reads6 c t j i fun a => (h a).trans (by rw [(index6 t).2.2.2])
  exact (congrFun (second6 _ _) j).trans (AdamW.second_eq (s := S1128x128) (s' := S1128x128) r2 r3)

end Cert.Grads
-- ==== Proof.GradValue.lean ====
/-
The program's last contents over the reals, weight by weight: the gradient is the sum of the eight arrived slots, and the change and the moments are the plain
step's of the arguments and that sum. The two weights cut along their columns are taken turned, and turned back.
-/
module

public import proofs.«01_k».proof.Proof.GradSteps
public import proofs.«01_k».proof.Proof.GradKept

@[expose] public section

noncomputable section

open Idealize.ShloMosaic hiding ix1 ix2 ix3 ix4 eq_ix1 eq_ix2 eq_ix3
open Idealize.ShloMosaic.Pipeline Idealize.ShloMosaic.TcCoe Idealize.SL.Sem Idealize.SL Idealize.ShloMosaic.ValueIdx
open Cert.KernelIdeal Cert.KernelIdeal.Gen

namespace Cert.Grads

variable {m : (ℓ : Loc nD τ sig) → Buf (Elt Ideal) ℓ} (c : Dev nD)

/-! ### The step, of equal arrays -/

section Congr

variable {s : Shape} {w w' mu mu' v v' g g' : FVec Ideal s .f32}

theorem change_congr (hw : w = w') (hm : mu = mu') (hv : v = v') (hg : g = g') : AdamW.change w mu v g = AdamW.change w' mu' v' g' := by
  rw [hw, hm, hv, hg]
theorem first_congr (hm : mu = mu') (hg : g = g') : AdamW.first mu g = AdamW.first mu' g' := by rw [hm, hg]
theorem second_congr (hv : v = v') (hg : g = g') : AdamW.second v g = AdamW.second v' g' := by rw [hv, hg]

end Congr

/-! ### A matrix turned -/

section Turn

variable {A B : ℕ} {α : Type}

/-- Rows for columns. -/
abbrev turn (h : (⟨2, ![A, B]⟩ : Shape).Transposes [1, 0] ⟨2, ![B, A]⟩) (x : (⟨2, ![A, B]⟩ : Shape).Idx → α) : (⟨2, ![B, A]⟩ : Shape).Idx → α :=
  transpose ⟨2, ![B, A]⟩ [1, 0] x h

theorem turn_at (h : (⟨2, ![A, B]⟩ : Shape).Transposes [1, 0] ⟨2, ![B, A]⟩) (x : (⟨2, ![A, B]⟩ : Shape).Idx → α) (a : Fin A) (b : Fin B) : turn h x (ix2 b a) = x (ix2 a b) := by
  refine transpose_apply _ x h _ _ fun d => ?_
  match d with
  | 0 => rfl
  | 1 => rfl

theorem turn_turn (h : (⟨2, ![A, B]⟩ : Shape).Transposes [1, 0] ⟨2, ![B, A]⟩) (h' : (⟨2, ![B, A]⟩ : Shape).Transposes [1, 0] ⟨2, ![A, B]⟩)
    (x : (⟨2, ![A, B]⟩ : Shape).Idx → α) : turn h' (turn h x) = x := by
  funext i
  obtain ⟨a, b, rfl⟩ : ∃ (a : Fin A) (b : Fin B), i = ix2 a b := ⟨i 0, i 1, eq_ix2 i⟩
  rw [turn_at, turn_at]

variable (h : (⟨2, ![A, B]⟩ : Shape).Transposes [1, 0] ⟨2, ![B, A]⟩) (w mu v g : FVec Ideal ⟨2, ![A, B]⟩ .f32)

theorem turn_change : turn h (AdamW.change w mu v g) = AdamW.change (s := ⟨2, ![B, A]⟩) (turn h w) (turn h mu) (turn h v) (turn h g) := rfl
theorem turn_first : turn h (AdamW.first mu g) = AdamW.first (s := ⟨2, ![B, A]⟩) (turn h mu) (turn h g) := rfl
theorem turn_second : turn h (AdamW.second v g) = AdamW.second (s := ⟨2, ![B, A]⟩) (turn h v) (turn h g) := rfl

end Turn

/-! ### What is carried from stretch to stretch -/

theorem carry1_2 (r : Ref sig .tc) (h : r ∉ hostOps1_W) : at2 m c (Proc.devRef .tc r) = at1 m c (Proc.devRef .tc r) := at2_kept c r h
theorem carry1_4 (r : Ref sig .tc) (h : (r ∉ hostOps1_W) ∧ (∀ w, arrRef cfg1.spec w = r → (cfg1.win w).isOut = false) ∧ (r ∉ hostOps2_W)) :
    at4 m c (Proc.devRef .tc r) = at1 m c (Proc.devRef .tc r) := by
  obtain ⟨h2, h3, h4⟩ := h
  exact (at4_kept c r h4).trans ((at3_kept c r h3).trans (at2_kept c r h2))
theorem carry1_5 (r : Ref sig .tc) (h : (r ∉ hostOps1_W) ∧ (∀ w, arrRef cfg1.spec w = r → (cfg1.win w).isOut = false) ∧ (r ∉ hostOps2_W) ∧ (∀ w, arrRef cfg2.spec w = r → (cfg2.win w).isOut = false)) :
    at5 m c (Proc.devRef .tc r) = at1 m c (Proc.devRef .tc r) := by
  obtain ⟨h2, h3, h4, h5⟩ := h
  exact (at5_kept c r h5).trans ((at4_kept c r h4).trans ((at3_kept c r h3).trans (at2_kept c r h2)))
theorem carry1_6 (r : Ref sig .tc) (h : (r ∉ hostOps1_W) ∧ (∀ w, arrRef cfg1.spec w = r → (cfg1.win w).isOut = false) ∧ (r ∉ hostOps2_W) ∧ (∀ w, arrRef cfg2.spec w = r → (cfg2.win w).isOut = false) ∧ (∀ w, arrRef cfg3.spec w = r → (cfg3.win w).isOut = false)) :
    at6 m c (Proc.devRef .tc r) = at1 m c (Proc.devRef .tc r) := by
  obtain ⟨h2, h3, h4, h5, h6⟩ := h
  exact (at6_kept c r h6).trans ((at5_kept c r h5).trans ((at4_kept c r h4).trans ((at3_kept c r h3).trans (at2_kept c r h2))))
theorem carry1_7 (r : Ref sig .tc) (h : (r ∉ hostOps1_W) ∧ (∀ w, arrRef cfg1.spec w = r → (cfg1.win w).isOut = false) ∧ (r ∉ hostOps2_W) ∧ (∀ w, arrRef cfg2.spec w = r → (cfg2.win w).isOut = false) ∧ (∀ w, arrRef cfg3.spec w = r → (cfg3.win w).isOut = false) ∧ (r ∉ hostOps4_W)) :
    at7 m c (Proc.devRef .tc r) = at1 m c (Proc.devRef .tc r) := by
  obtain ⟨h2, h3, h4, h5, h6, h7⟩ := h
  exact (at7_kept c r h7).trans ((at6_kept c r h6).trans ((at5_kept c r h5).trans ((at4_kept c r h4).trans ((at3_kept c r h3).trans (at2_kept c r h2)))))
theorem carry1_9 (r : Ref sig .tc) (h : (r ∉ hostOps1_W) ∧ (∀ w, arrRef cfg1.spec w = r → (cfg1.win w).isOut = false) ∧ (r ∉ hostOps2_W) ∧ (∀ w, arrRef cfg2.spec w = r → (cfg2.win w).isOut = false) ∧ (∀ w, arrRef cfg3.spec w = r → (cfg3.win w).isOut = false) ∧ (r ∉ hostOps4_W) ∧ (∀ w, arrRef cfg4.spec w = r → (cfg4.win w).isOut = false) ∧ (r ∉ hostOps5_W)) :
    at9 m c (Proc.devRef .tc r) = at1 m c (Proc.devRef .tc r) := by
  obtain ⟨h2, h3, h4, h5, h6, h7, h8, h9⟩ := h
  exact (at9_kept c r h9).trans ((at8_kept c r h8).trans ((at7_kept c r h7).trans ((at6_kept c r h6).trans ((at5_kept c r h5).trans ((at4_kept c r h4).trans ((at3_kept c r h3).trans (at2_kept c r h2)))))))
theorem carry1_10 (r : Ref sig .tc) (h : (r ∉ hostOps1_W) ∧ (∀ w, arrRef cfg1.spec w = r → (cfg1.win w).isOut = false) ∧ (r ∉ hostOps2_W) ∧ (∀ w, arrRef cfg2.spec w = r → (cfg2.win w).isOut = false) ∧ (∀ w, arrRef cfg3.spec w = r → (cfg3.win w).isOut = false) ∧ (r ∉ hostOps4_W) ∧ (∀ w, arrRef cfg4.spec w = r → (cfg4.win w).isOut = false) ∧ (r ∉ hostOps5_W) ∧ (∀ w, arrRef cfg5.spec w = r → (cfg5.win w).isOut = false)) :
    at10 m c (Proc.devRef .tc r) = at1 m c (Proc.devRef .tc r) := by
  obtain ⟨h2, h3, h4, h5, h6, h7, h8, h9, h10⟩ := h
  exact (at10_kept c r h10).trans ((at9_kept c r h9).trans ((at8_kept c r h8).trans ((at7_kept c r h7).trans ((at6_kept c r h6).trans ((at5_kept c r h5).trans ((at4_kept c r h4).trans ((at3_kept c r h3).trans (at2_kept c r h2))))))))
theorem carry4_11 (r : Ref sig .tc) (h : (∀ w, arrRef cfg2.spec w = r → (cfg2.win w).isOut = false) ∧ (∀ w, arrRef cfg3.spec w = r → (cfg3.win w).isOut = false) ∧ (r ∉ hostOps4_W) ∧ (∀ w, arrRef cfg4.spec w = r → (cfg4.win w).isOut = false) ∧ (r ∉ hostOps5_W) ∧ (∀ w, arrRef cfg5.spec w = r → (cfg5.win w).isOut = false) ∧ (∀ w, arrRef cfg6.spec w = r → (cfg6.win w).isOut = false)) :
    at11 m c (Proc.devRef .tc r) = at4 m c (Proc.devRef .tc r) := by
  obtain ⟨h5, h6, h7, h8, h9, h10, h11⟩ := h
  exact (at11_kept c r h11).trans ((at10_kept c r h10).trans ((at9_kept c r h9).trans ((at8_kept c r h8).trans ((at7_kept c r h7).trans ((at6_kept c r h6).trans (at5_kept c r h5))))))
theorem carry5_11 (r : Ref sig .tc) (h : (∀ w, arrRef cfg3.spec w = r → (cfg3.win w).isOut = false) ∧ (r ∉ hostOps4_W) ∧ (∀ w, arrRef cfg4.spec w = r → (cfg4.win w).isOut = false) ∧ (r ∉ hostOps5_W) ∧ (∀ w, arrRef cfg5.spec w = r → (cfg5.win w).isOut = false) ∧ (∀ w, arrRef cfg6.spec w = r → (cfg6.win w).isOut = false)) :
    at11 m c (Proc.devRef .tc r) = at5 m c (Proc.devRef .tc r) := by
  obtain ⟨h6, h7, h8, h9, h10, h11⟩ := h
  exact (at11_kept c r h11).trans ((at10_kept c r h10).trans ((at9_kept c r h9).trans ((at8_kept c r h8).trans ((at7_kept c r h7).trans (at6_kept c r h6)))))
theorem carry6_11 (r : Ref sig .tc) (h : (r ∉ hostOps4_W) ∧ (∀ w, arrRef cfg4.spec w = r → (cfg4.win w).isOut = false) ∧ (r ∉ hostOps5_W) ∧ (∀ w, arrRef cfg5.spec w = r → (cfg5.win w).isOut = false) ∧ (∀ w, arrRef cfg6.spec w = r → (cfg6.win w).isOut = false)) :
    at11 m c (Proc.devRef .tc r) = at6 m c (Proc.devRef .tc r) := by
  obtain ⟨h7, h8, h9, h10, h11⟩ := h
  exact (at11_kept c r h11).trans ((at10_kept c r h10).trans ((at9_kept c r h9).trans ((at8_kept c r h8).trans (at7_kept c r h7))))
theorem carry9_11 (r : Ref sig .tc) (h : (∀ w, arrRef cfg5.spec w = r → (cfg5.win w).isOut = false) ∧ (∀ w, arrRef cfg6.spec w = r → (cfg6.win w).isOut = false)) :
    at11 m c (Proc.devRef .tc r) = at9 m c (Proc.devRef .tc r) := by
  obtain ⟨h10, h11⟩ := h
  exact (at11_kept c r h11).trans (at10_kept c r h10)
theorem carry10_11 (r : Ref sig .tc) (h : ∀ w, arrRef cfg6.spec w = r → (cfg6.win w).isOut = false) : at11 m c (Proc.devRef .tc r) = at10 m c (Proc.devRef .tc r) := at11_kept c r h

/-- An argument, after the exchange. -/
theorem at1_arg (r : Ref sig .tc) (h : r ∉ [main_v1_0, main_v1_1, main_v1_2, main_v1_3, main_v1_4, main_v1_5]) : at1 m c (Proc.devRef .tc r) = m (c, Proc.devRef .tc r) := by
  simp only [List.mem_cons, not_or] at h
  obtain ⟨g0, g1, g2, g3, g4, g5, _⟩ := h
  have n : ∀ {a b : Ref sig .tc}, a ≠ b → (Proc.devRef .tc a : DevRef τ sig) ≠ Proc.devRef .tc b := fun hab e => hab (Proc.devRef_injective _ e)
  exact at1_other m c _ (n g0) (n g1) (n g2) (n g3) (n g4) (n g5)

/-! ### w_in -/

theorem arrived1 : before1 m c 3 = got0 m c :=
  (carry1_2 c main_v1_0 (by decide +kernel)).trans (at1_0 m c)
theorem input1_0 : before1 m c 0 = turn transposes_S1024x256_S256x1024_1_0 (m (c, Proc.devRef .tc main_arg6)) := by
  show at2 m c (Proc.devRef .tc main_v2) = _
  unfold at2
  after_results
  exact congrArg (turn transposes_S1024x256_S256x1024_1_0) ((at1_arg c main_arg6 (by decide +kernel)))
theorem input1_1 : before1 m c 1 = turn transposes_S1024x256_S256x1024_1_0 (m (c, Proc.devRef .tc main_arg12)) := by
  show at2 m c (Proc.devRef .tc main_v3) = _
  unfold at2
  after_results
  exact congrArg (turn transposes_S1024x256_S256x1024_1_0) ((at1_arg c main_arg12 (by decide +kernel)))
theorem input1_2 : before1 m c 2 = turn transposes_S1024x256_S256x1024_1_0 (m (c, Proc.devRef .tc main_arg18)) := by
  show at2 m c (Proc.devRef .tc main_v4) = _
  unfold at2
  after_results
  exact congrArg (turn transposes_S1024x256_S256x1024_1_0) ((at1_arg c main_arg18 (by decide +kernel)))
theorem back1_0 : at4 m c (Proc.devRef .tc main_v6) = turn transposes_S256x1024_S1024x256_1_0 (at3 m c (Proc.devRef .tc main_v5_0)) := by
  unfold at4
  after_results
theorem back1_1 : at4 m c (Proc.devRef .tc main_v7) = turn transposes_S256x1024_S1024x256_1_0 (at3 m c (Proc.devRef .tc main_v5_1)) := by
  unfold at4
  after_results
theorem back1_2 : at4 m c (Proc.devRef .tc main_v8) = turn transposes_S256x1024_S1024x256_1_0 (at3 m c (Proc.devRef .tc main_v5_2)) := by
  unfold at4
  after_results
theorem back1_3 : at4 m c (Proc.devRef .tc main_v9) = turn transposes_S256x1024_S1024x256_1_0 (at3 m c (Proc.devRef .tc main_v5_3)) := by
  unfold at4
  after_results
theorem w_in_grad : at11 m c (Proc.devRef .tc main_v6) = (turn transposes_S256x1024_S1024x256_1_0 (total (A := 256) (B := 1024) (got0 m c))) :=
  (carry4_11 c main_v6 (by decide +kernel)).trans ((back1_0 c).trans (congrArg (turn transposes_S256x1024_S1024x256_1_0) ((step1_grad c).trans (congrArg (total (A := 256) (B := 1024)) (arrived1 c)))))
theorem w_in_change : at11 m c (Proc.devRef .tc main_v7) = AdamW.change (s := S1024x256) (m (c, Proc.devRef .tc main_arg6)) (m (c, Proc.devRef .tc main_arg12)) (m (c, Proc.devRef .tc main_arg18)) (turn transposes_S256x1024_S1024x256_1_0 (total (A := 256) (B := 1024) (got0 m c))) :=
  (carry4_11 c main_v7 (by decide +kernel)).trans ((back1_1 c).trans ((congrArg (turn transposes_S256x1024_S1024x256_1_0) (step1_change c)).trans ((turn_change transposes_S256x1024_S1024x256_1_0 _ _ _ _).trans
    (change_congr (s := S1024x256) ((congrArg (turn transposes_S256x1024_S1024x256_1_0) (input1_0 c)).trans (turn_turn transposes_S1024x256_S256x1024_1_0 transposes_S256x1024_S1024x256_1_0 _)) ((congrArg (turn transposes_S256x1024_S1024x256_1_0) (input1_1 c)).trans (turn_turn transposes_S1024x256_S256x1024_1_0 transposes_S256x1024_S1024x256_1_0 _)) ((congrArg (turn transposes_S256x1024_S1024x256_1_0) (input1_2 c)).trans (turn_turn transposes_S1024x256_S256x1024_1_0 transposes_S256x1024_S1024x256_1_0 _)) (congrArg (turn transposes_S256x1024_S1024x256_1_0) (congrArg (total (A := 256) (B := 1024)) (arrived1 c)))))))
theorem w_in_first : at11 m c (Proc.devRef .tc main_v8) = AdamW.first (s := S1024x256) (m (c, Proc.devRef .tc main_arg12)) (turn transposes_S256x1024_S1024x256_1_0 (total (A := 256) (B := 1024) (got0 m c))) :=
  (carry4_11 c main_v8 (by decide +kernel)).trans ((back1_2 c).trans ((congrArg (turn transposes_S256x1024_S1024x256_1_0) (step1_first c)).trans ((turn_first transposes_S256x1024_S1024x256_1_0 _ _).trans (first_congr (s := S1024x256) ((congrArg (turn transposes_S256x1024_S1024x256_1_0) (input1_1 c)).trans (turn_turn transposes_S1024x256_S256x1024_1_0 transposes_S256x1024_S1024x256_1_0 _)) (congrArg (turn transposes_S256x1024_S1024x256_1_0) (congrArg (total (A := 256) (B := 1024)) (arrived1 c)))))))
theorem w_in_second : at11 m c (Proc.devRef .tc main_v9) = AdamW.second (s := S1024x256) (m (c, Proc.devRef .tc main_arg18)) (turn transposes_S256x1024_S1024x256_1_0 (total (A := 256) (B := 1024) (got0 m c))) :=
  (carry4_11 c main_v9 (by decide +kernel)).trans ((back1_3 c).trans ((congrArg (turn transposes_S256x1024_S1024x256_1_0) (step1_second c)).trans ((turn_second transposes_S256x1024_S1024x256_1_0 _ _).trans (second_congr (s := S1024x256) ((congrArg (turn transposes_S256x1024_S1024x256_1_0) (input1_2 c)).trans (turn_turn transposes_S1024x256_S256x1024_1_0 transposes_S256x1024_S1024x256_1_0 _)) (congrArg (turn transposes_S256x1024_S1024x256_1_0) (congrArg (total (A := 256) (B := 1024)) (arrived1 c)))))))

/-! ### glu_w -/

theorem arrived2 : before2 m c 3 = got1 m c :=
  (carry1_4 c main_v1_1 (by decide +kernel)).trans (at1_1 m c)
theorem input2_0 : before2 m c 0 = m (c, Proc.devRef .tc main_arg7) :=
  (carry1_4 c main_arg7 (by decide +kernel)).trans (at1_arg c main_arg7 (by decide +kernel))
theorem input2_1 : before2 m c 1 = m (c, Proc.devRef .tc main_arg13) :=
  (carry1_4 c main_arg13 (by decide +kernel)).trans (at1_arg c main_arg13 (by decide +kernel))
theorem input2_2 : before2 m c 2 = m (c, Proc.devRef .tc main_arg19) :=
  (carry1_4 c main_arg19 (by decide +kernel)).trans (at1_arg c main_arg19 (by decide +kernel))
theorem glu_w_grad : at11 m c (Proc.devRef .tc main_v10_0) = (total (A := 64) (B := 512) (got1 m c)) :=
  (carry5_11 c main_v10_0 (by decide +kernel)).trans ((step2_grad c).trans (congrArg (total (A := 64) (B := 512)) (arrived2 c)))
theorem glu_w_change : at11 m c (Proc.devRef .tc main_v10_1) = AdamW.change (s := S64x512) (m (c, Proc.devRef .tc main_arg7)) (m (c, Proc.devRef .tc main_arg13)) (m (c, Proc.devRef .tc main_arg19)) (total (A := 64) (B := 512) (got1 m c)) :=
  (carry5_11 c main_v10_1 (by decide +kernel)).trans ((step2_change c).trans (change_congr (s := S64x512) (input2_0 c) (input2_1 c) (input2_2 c) (congrArg (total (A := 64) (B := 512)) (arrived2 c))))
theorem glu_w_first : at11 m c (Proc.devRef .tc main_v10_2) = AdamW.first (s := S64x512) (m (c, Proc.devRef .tc main_arg13)) (total (A := 64) (B := 512) (got1 m c)) :=
  (carry5_11 c main_v10_2 (by decide +kernel)).trans ((step2_first c).trans (first_congr (s := S64x512) (input2_1 c) (congrArg (total (A := 64) (B := 512)) (arrived2 c))))
theorem glu_w_second : at11 m c (Proc.devRef .tc main_v10_3) = AdamW.second (s := S64x512) (m (c, Proc.devRef .tc main_arg19)) (total (A := 64) (B := 512) (got1 m c)) :=
  (carry5_11 c main_v10_3 (by decide +kernel)).trans ((step2_second c).trans (second_congr (s := S64x512) (input2_2 c) (congrArg (total (A := 64) (B := 512)) (arrived2 c))))

/-! ### w_out -/

theorem arrived3 : before3 m c 3 = got2 m c :=
  (carry1_5 c main_v1_2 (by decide +kernel)).trans (at1_2 m c)
theorem input3_0 : before3 m c 0 = m (c, Proc.devRef .tc main_arg8) :=
  (carry1_5 c main_arg8 (by decide +kernel)).trans (at1_arg c main_arg8 (by decide +kernel))
theorem input3_1 : before3 m c 1 = m (c, Proc.devRef .tc main_arg14) :=
  (carry1_5 c main_arg14 (by decide +kernel)).trans (at1_arg c main_arg14 (by decide +kernel))
theorem input3_2 : before3 m c 2 = m (c, Proc.devRef .tc main_arg20) :=
  (carry1_5 c main_arg20 (by decide +kernel)).trans (at1_arg c main_arg20 (by decide +kernel))
theorem w_out_grad : at11 m c (Proc.devRef .tc main_v11_0) = (total (A := 128) (B := 1024) (got2 m c)) :=
  (carry6_11 c main_v11_0 (by decide +kernel)).trans ((step3_grad c).trans (congrArg (total (A := 128) (B := 1024)) (arrived3 c)))
theorem w_out_change : at11 m c (Proc.devRef .tc main_v11_1) = AdamW.change (s := S128x1024) (m (c, Proc.devRef .tc main_arg8)) (m (c, Proc.devRef .tc main_arg14)) (m (c, Proc.devRef .tc main_arg20)) (total (A := 128) (B := 1024) (got2 m c)) :=
  (carry6_11 c main_v11_1 (by decide +kernel)).trans ((step3_change c).trans (change_congr (s := S128x1024) (input3_0 c) (input3_1 c) (input3_2 c) (congrArg (total (A := 128) (B := 1024)) (arrived3 c))))
theorem w_out_first : at11 m c (Proc.devRef .tc main_v11_2) = AdamW.first (s := S128x1024) (m (c, Proc.devRef .tc main_arg14)) (total (A := 128) (B := 1024) (got2 m c)) :=
  (carry6_11 c main_v11_2 (by decide +kernel)).trans ((step3_first c).trans (first_congr (s := S128x1024) (input3_1 c) (congrArg (total (A := 128) (B := 1024)) (arrived3 c))))
theorem w_out_second : at11 m c (Proc.devRef .tc main_v11_3) = AdamW.second (s := S128x1024) (m (c, Proc.devRef .tc main_arg20)) (total (A := 128) (B := 1024) (got2 m c)) :=
  (carry6_11 c main_v11_3 (by decide +kernel)).trans ((step3_second c).trans (second_congr (s := S128x1024) (input3_2 c) (congrArg (total (A := 128) (B := 1024)) (arrived3 c))))

/-! ### w_mlp_up -/

theorem arrived4 : before4 m c 3 = got3 m c :=
  (carry1_7 c main_v1_3 (by decide +kernel)).trans (at1_3 m c)
theorem input4_0 : before4 m c 0 = turn transposes_S1024x512_S512x1024_1_0 (m (c, Proc.devRef .tc main_arg9)) := by
  show at7 m c (Proc.devRef .tc main_v12) = _
  unfold at7
  after_results
  exact congrArg (turn transposes_S1024x512_S512x1024_1_0) ((carry1_6 c main_arg9 (by decide +kernel)).trans (at1_arg c main_arg9 (by decide +kernel)))
theorem input4_1 : before4 m c 1 = turn transposes_S1024x512_S512x1024_1_0 (m (c, Proc.devRef .tc main_arg15)) := by
  show at7 m c (Proc.devRef .tc main_v13) = _
  unfold at7
  after_results
  exact congrArg (turn transposes_S1024x512_S512x1024_1_0) ((carry1_6 c main_arg15 (by decide +kernel)).trans (at1_arg c main_arg15 (by decide +kernel)))
theorem input4_2 : before4 m c 2 = turn transposes_S1024x512_S512x1024_1_0 (m (c, Proc.devRef .tc main_arg21)) := by
  show at7 m c (Proc.devRef .tc main_v14) = _
  unfold at7
  after_results
  exact congrArg (turn transposes_S1024x512_S512x1024_1_0) ((carry1_6 c main_arg21 (by decide +kernel)).trans (at1_arg c main_arg21 (by decide +kernel)))
theorem back4_0 : at9 m c (Proc.devRef .tc main_v16) = turn transposes_S512x1024_S1024x512_1_0 (at8 m c (Proc.devRef .tc main_v15_0)) := by
  unfold at9
  after_results
theorem back4_1 : at9 m c (Proc.devRef .tc main_v17) = turn transposes_S512x1024_S1024x512_1_0 (at8 m c (Proc.devRef .tc main_v15_1)) := by
  unfold at9
  after_results
theorem back4_2 : at9 m c (Proc.devRef .tc main_v18) = turn transposes_S512x1024_S1024x512_1_0 (at8 m c (Proc.devRef .tc main_v15_2)) := by
  unfold at9
  after_results
theorem back4_3 : at9 m c (Proc.devRef .tc main_v19) = turn transposes_S512x1024_S1024x512_1_0 (at8 m c (Proc.devRef .tc main_v15_3)) := by
  unfold at9
  after_results
theorem w_mlp_up_grad : at11 m c (Proc.devRef .tc main_v16) = (turn transposes_S512x1024_S1024x512_1_0 (total (A := 512) (B := 1024) (got3 m c))) :=
  (carry9_11 c main_v16 (by decide +kernel)).trans ((back4_0 c).trans (congrArg (turn transposes_S512x1024_S1024x512_1_0) ((step4_grad c).trans (congrArg (total (A := 512) (B := 1024)) (arrived4 c)))))
theorem w_mlp_up_change : at11 m c (Proc.devRef .tc main_v17) = AdamW.change (s := S1024x512) (m (c, Proc.devRef .tc main_arg9)) (m (c, Proc.devRef .tc main_arg15)) (m (c, Proc.devRef .tc main_arg21)) (turn transposes_S512x1024_S1024x512_1_0 (total (A := 512) (B := 1024) (got3 m c))) :=
  (carry9_11 c main_v17 (by decide +kernel)).trans ((back4_1 c).trans ((congrArg (turn transposes_S512x1024_S1024x512_1_0) (step4_change c)).trans ((turn_change transposes_S512x1024_S1024x512_1_0 _ _ _ _).trans
    (change_congr (s := S1024x512) ((congrArg (turn transposes_S512x1024_S1024x512_1_0) (input4_0 c)).trans (turn_turn transposes_S1024x512_S512x1024_1_0 transposes_S512x1024_S1024x512_1_0 _)) ((congrArg (turn transposes_S512x1024_S1024x512_1_0) (input4_1 c)).trans (turn_turn transposes_S1024x512_S512x1024_1_0 transposes_S512x1024_S1024x512_1_0 _)) ((congrArg (turn transposes_S512x1024_S1024x512_1_0) (input4_2 c)).trans (turn_turn transposes_S1024x512_S512x1024_1_0 transposes_S512x1024_S1024x512_1_0 _)) (congrArg (turn transposes_S512x1024_S1024x512_1_0) (congrArg (total (A := 512) (B := 1024)) (arrived4 c)))))))
theorem w_mlp_up_first : at11 m c (Proc.devRef .tc main_v18) = AdamW.first (s := S1024x512) (m (c, Proc.devRef .tc main_arg15)) (turn transposes_S512x1024_S1024x512_1_0 (total (A := 512) (B := 1024) (got3 m c))) :=
  (carry9_11 c main_v18 (by decide +kernel)).trans ((back4_2 c).trans ((congrArg (turn transposes_S512x1024_S1024x512_1_0) (step4_first c)).trans ((turn_first transposes_S512x1024_S1024x512_1_0 _ _).trans (first_congr (s := S1024x512) ((congrArg (turn transposes_S512x1024_S1024x512_1_0) (input4_1 c)).trans (turn_turn transposes_S1024x512_S512x1024_1_0 transposes_S512x1024_S1024x512_1_0 _)) (congrArg (turn transposes_S512x1024_S1024x512_1_0) (congrArg (total (A := 512) (B := 1024)) (arrived4 c)))))))
theorem w_mlp_up_second : at11 m c (Proc.devRef .tc main_v19) = AdamW.second (s := S1024x512) (m (c, Proc.devRef .tc main_arg21)) (turn transposes_S512x1024_S1024x512_1_0 (total (A := 512) (B := 1024) (got3 m c))) :=
  (carry9_11 c main_v19 (by decide +kernel)).trans ((back4_3 c).trans ((congrArg (turn transposes_S512x1024_S1024x512_1_0) (step4_second c)).trans ((turn_second transposes_S512x1024_S1024x512_1_0 _ _).trans (second_congr (s := S1024x512) ((congrArg (turn transposes_S512x1024_S1024x512_1_0) (input4_2 c)).trans (turn_turn transposes_S1024x512_S512x1024_1_0 transposes_S512x1024_S1024x512_1_0 _)) (congrArg (turn transposes_S512x1024_S1024x512_1_0) (congrArg (total (A := 512) (B := 1024)) (arrived4 c)))))))

/-! ### w_mlp_down -/

theorem arrived5 : before5 m c 3 = got4 m c :=
  (carry1_9 c main_v1_4 (by decide +kernel)).trans (at1_4 m c)
theorem input5_0 : before5 m c 0 = m (c, Proc.devRef .tc main_arg10) :=
  (carry1_9 c main_arg10 (by decide +kernel)).trans (at1_arg c main_arg10 (by decide +kernel))
theorem input5_1 : before5 m c 1 = m (c, Proc.devRef .tc main_arg16) :=
  (carry1_9 c main_arg16 (by decide +kernel)).trans (at1_arg c main_arg16 (by decide +kernel))
theorem input5_2 : before5 m c 2 = m (c, Proc.devRef .tc main_arg22) :=
  (carry1_9 c main_arg22 (by decide +kernel)).trans (at1_arg c main_arg22 (by decide +kernel))
theorem w_mlp_down_grad : at11 m c (Proc.devRef .tc main_v20_0) = (total (A := 512) (B := 1024) (got4 m c)) :=
  (carry10_11 c main_v20_0 (by decide +kernel)).trans ((step5_grad c).trans (congrArg (total (A := 512) (B := 1024)) (arrived5 c)))
theorem w_mlp_down_change : at11 m c (Proc.devRef .tc main_v20_1) = AdamW.change (s := S512x1024) (m (c, Proc.devRef .tc main_arg10)) (m (c, Proc.devRef .tc main_arg16)) (m (c, Proc.devRef .tc main_arg22)) (total (A := 512) (B := 1024) (got4 m c)) :=
  (carry10_11 c main_v20_1 (by decide +kernel)).trans ((step5_change c).trans (change_congr (s := S512x1024) (input5_0 c) (input5_1 c) (input5_2 c) (congrArg (total (A := 512) (B := 1024)) (arrived5 c))))
theorem w_mlp_down_first : at11 m c (Proc.devRef .tc main_v20_2) = AdamW.first (s := S512x1024) (m (c, Proc.devRef .tc main_arg16)) (total (A := 512) (B := 1024) (got4 m c)) :=
  (carry10_11 c main_v20_2 (by decide +kernel)).trans ((step5_first c).trans (first_congr (s := S512x1024) (input5_1 c) (congrArg (total (A := 512) (B := 1024)) (arrived5 c))))
theorem w_mlp_down_second : at11 m c (Proc.devRef .tc main_v20_3) = AdamW.second (s := S512x1024) (m (c, Proc.devRef .tc main_arg22)) (total (A := 512) (B := 1024) (got4 m c)) :=
  (carry10_11 c main_v20_3 (by decide +kernel)).trans ((step5_second c).trans (second_congr (s := S512x1024) (input5_2 c) (congrArg (total (A := 512) (B := 1024)) (arrived5 c))))

/-! ### small -/

theorem arrived6 : before6 m c 3 = got5 m c :=
  (carry1_10 c main_v1_5 (by decide +kernel)).trans (at1_5 m c)
theorem input6_0 : before6 m c 0 = m (c, Proc.devRef .tc main_arg11) :=
  (carry1_10 c main_arg11 (by decide +kernel)).trans (at1_arg c main_arg11 (by decide +kernel))
theorem input6_1 : before6 m c 1 = m (c, Proc.devRef .tc main_arg17) :=
  (carry1_10 c main_arg17 (by decide +kernel)).trans (at1_arg c main_arg17 (by decide +kernel))
theorem input6_2 : before6 m c 2 = m (c, Proc.devRef .tc main_arg23) :=
  (carry1_10 c main_arg23 (by decide +kernel)).trans (at1_arg c main_arg23 (by decide +kernel))
theorem small_grad : at11 m c (Proc.devRef .tc main_v21_0) = (total (A := 1128) (B := 128) (got5 m c)) :=
  (rfl).trans ((step6_grad c).trans (congrArg (total (A := 1128) (B := 128)) (arrived6 c)))
theorem small_change : at11 m c (Proc.devRef .tc main_v21_1) = AdamW.change (s := S1128x128) (m (c, Proc.devRef .tc main_arg11)) (m (c, Proc.devRef .tc main_arg17)) (m (c, Proc.devRef .tc main_arg23)) (total (A := 1128) (B := 128) (got5 m c)) :=
  (rfl).trans ((step6_change c).trans (change_congr (s := S1128x128) (input6_0 c) (input6_1 c) (input6_2 c) (congrArg (total (A := 1128) (B := 128)) (arrived6 c))))
theorem small_first : at11 m c (Proc.devRef .tc main_v21_2) = AdamW.first (s := S1128x128) (m (c, Proc.devRef .tc main_arg17)) (total (A := 1128) (B := 128) (got5 m c)) :=
  (rfl).trans ((step6_first c).trans (first_congr (s := S1128x128) (input6_1 c) (congrArg (total (A := 1128) (B := 128)) (arrived6 c))))
theorem small_second : at11 m c (Proc.devRef .tc main_v21_3) = AdamW.second (s := S1128x128) (m (c, Proc.devRef .tc main_arg23)) (total (A := 1128) (B := 128) (got5 m c)) :=
  (rfl).trans ((step6_second c).trans (second_congr (s := S1128x128) (input6_2 c) (congrArg (total (A := 1128) (B := 128)) (arrived6 c))))

end Cert.Grads
-- ==== Proof.GradPlain.lean ====
/-
The sums over the slots are blocks of the plain sums: device `c`'s slot from device `s` holds the rows of `s`'s gradient that `c` keeps, and the devices' gradients
are the blocks of the stacked array.
-/
module

public import proofs.«01_k».proof.Proof.GradValue
public import Idealize.ShloMosaic.Lib.Layout

@[expose] public section

noncomputable section

open Idealize.ShloMosaic hiding ix1 ix2 ix3 ix4 eq_ix1 eq_ix2 eq_ix3
open Idealize.ShloMosaic.Pipeline Idealize.ShloMosaic.TcCoe Idealize.SL.Sem Idealize.SL Idealize.ShloMosaic.ValueIdx
open Cert.KernelIdeal Cert.KernelIdeal.Gen

namespace Cert.Grads

variable {m : (ℓ : Loc nD τ sig) → Buf (Elt Ideal) ℓ} (c : Dev nD)

section Blocks

variable {A B R N : ℕ} {α : Type}

/-- A block of rows, at an entry. -/
theorem block_rows (W : (⟨2, ![N, B]⟩ : Shape).Idx → α) (h : Layout.Tiles ⟨2, ![R, B]⟩ ⟨2, ![N, B]⟩ 0 8) (s : Fin 8) (r : Fin R) (l : Fin B)
    (hN : s.val * R + r.val < N) : Layout.block ⟨2, ![R, B]⟩ ⟨2, ![N, B]⟩ 0 8 s W h (ix2 r l) = W (ix2 (⟨s.val * R + r.val, hN⟩ : Fin N) l) := by
  rw [Layout.block_apply]
  refine congrArg W (funext fun a => Fin.ext ?_)
  rw [Layout.Tiles.idx_val]
  match a with
  | 0 => rfl
  | 1 => rfl

/-- A block of columns, at an entry. -/
theorem block_cols (W : (⟨2, ![B, N]⟩ : Shape).Idx → α) (h : Layout.Tiles ⟨2, ![B, R]⟩ ⟨2, ![B, N]⟩ 1 8) (s : Fin 8) (r : Fin R) (l : Fin B)
    (hN : s.val * R + r.val < N) : Layout.block ⟨2, ![B, R]⟩ ⟨2, ![B, N]⟩ 1 8 s W h (ix2 l r) = W (ix2 l (⟨s.val * R + r.val, hN⟩ : Fin N)) := by
  rw [Layout.block_apply]
  refine congrArg W (funext fun a => Fin.ext ?_)
  rw [Layout.Tiles.idx_val]
  match a with
  | 0 => rfl
  | 1 => rfl

/-- The stacked array read in eight layers. -/
theorem layer_at (W : (⟨2, ![N, B]⟩ : Shape).Idx → α) (hc : (⟨2, ![N, B]⟩ : Shape).ShapeCasts ⟨3, ![8, R, B]⟩) (s : Fin 8) (r : Fin R) (l : Fin B)
    (hN : s.val * R + r.val < N) : shapeCast ⟨3, ![8, R, B]⟩ W hc (ix3 s r l) = W (ix2 (⟨s.val * R + r.val, hN⟩ : Fin N) l) := by
  refine shapeCast_apply _ hc _ _ ?_
  rw [Shape.rowMajor_val_two, Shape.rowMajor_val_three]
  rfl

/-- The plain sum of the devices' gradients: over the leading axis of the stacked array read in eight layers. -/
abbrev plainSum (W : (⟨2, ![N, B]⟩ : Shape).Idx → EReal) (hc : (⟨2, ![N, B]⟩ : Shape).ShapeCasts ⟨3, ![8, R, B]⟩)
    (hr : (⟨3, ![8, R, B]⟩ : Shape).ReducesTo [0] ⟨2, ![R, B]⟩) (h0 : 0 < (⟨0, ![]⟩ : Shape).numel) : FVec Ideal ⟨2, ![R, B]⟩ .f32 :=
  Host.reduceAdd (F := Ideal) (φ := .f32) (axes := [0]) (t := ⟨2, ![R, B]⟩) (shapeCast ⟨3, ![8, R, B]⟩ W hc) (constant ⟨0, ![]⟩ .f32 0x00000000#32) hr h0

variable (W : (⟨2, ![N, B]⟩ : Shape).Idx → EReal) (hc : (⟨2, ![N, B]⟩ : Shape).ShapeCasts ⟨3, ![8, R, B]⟩) (hr) (h0)
  {g : Fin 8 → (⟨2, ![R, B]⟩ : Shape).Idx → EReal} {hN : Layout.Tiles ⟨2, ![R, B]⟩ ⟨2, ![N, B]⟩ 0 8} (hg : ∀ s, g s = Layout.block ⟨2, ![R, B]⟩ ⟨2, ![N, B]⟩ 0 8 s W hN)

include hg

/-- The sum at an entry. -/
theorem plainSum_at (r : Fin R) (l : Fin B) : plainSum W hc hr h0 (ix2 r l) = ∑ s : Fin 8, g s (ix2 r l) := by
  refine (SlotSum.host_sum _ hr h0 (ix2 r l)).trans (Finset.sum_congr rfl fun s _ => ?_)
  have hlt : s.val * R + r.val < N := by
    have e : N = 8 * R := hN.size 0
    have := Nat.mul_le_mul_right R (show s.val + 1 ≤ 8 by omega)
    rw [Nat.add_mul] at this
    omega
  rw [hg s, block_rows W hN s r l hlt]
  exact layer_at W hc s r l hlt

variable {X : (⟨3, ![8, A, B]⟩ : Shape).Idx → EReal}

/-- Slots of rows: their sum is the block of the plain sum's rows. -/
theorem total_block (hX : ∀ (s : Fin 8) (i : Fin A) (j : Fin B) (r : Fin R), r.val = c.val * A + i.val → X (ix3 s i j) = g s (ix2 r j))
    (hA : Layout.Tiles ⟨2, ![A, B]⟩ ⟨2, ![R, B]⟩ 0 8) : total X = Layout.block ⟨2, ![A, B]⟩ ⟨2, ![R, B]⟩ 0 8 c (plainSum W hc hr h0) hA := by
  funext i
  obtain ⟨a, b, rfl⟩ : ∃ (a : Fin A) (b : Fin B), i = ix2 a b := ⟨i 0, i 1, eq_ix2 i⟩
  have hlt : c.val * A + a.val < R := by
    have e : R = 8 * A := hA.size 0
    have h8 : c.val < 8 := c.isLt
    have := Nat.mul_le_mul_right A (show c.val + 1 ≤ 8 by omega)
    rw [Nat.add_mul] at this
    omega
  refine Eq.trans ?_ (block_rows _ hA c a b hlt).symm
  rw [plainSum_at W hc hr h0 hg]
  exact Finset.sum_congr rfl fun s _ => hX s a b _ rfl

/-- … turned: the block of the turned sum's columns. -/
theorem turned_block (hX : ∀ (s : Fin 8) (i : Fin A) (j : Fin B) (r : Fin R), r.val = c.val * A + i.val → X (ix3 s i j) = g s (ix2 r j))
    (hA : Layout.Tiles ⟨2, ![A, B]⟩ ⟨2, ![R, B]⟩ 0 8) (hT : Layout.Tiles ⟨2, ![B, A]⟩ ⟨2, ![B, R]⟩ 1 8) (ha) (hb) :
    turn ha (total X) = Layout.block ⟨2, ![B, A]⟩ ⟨2, ![B, R]⟩ 1 8 c (turn hb (plainSum W hc hr h0)) hT := by
  rw [total_block c W hc hr h0 hg hX hA]
  funext i
  obtain ⟨b, a, rfl⟩ : ∃ (b : Fin B) (a : Fin A), i = ix2 b a := ⟨i 0, i 1, eq_ix2 i⟩
  have hlt : c.val * A + a.val < R := by
    have e : R = 8 * A := hA.size 0
    have h8 : c.val < 8 := c.isLt
    have := Nat.mul_le_mul_right A (show c.val + 1 ≤ 8 by omega)
    rw [Nat.add_mul] at this
    omega
  rw [turn_at]
  refine (block_rows _ hA c a b hlt).trans (Eq.trans ?_ (block_cols _ hT c a b hlt).symm)
  exact (turn_at hb _ _ _).symm

/-- Slots of whole gradients: the plain sum. -/
theorem total_whole {Y : (⟨3, ![8, R, B]⟩ : Shape).Idx → EReal} (hX : ∀ (s : Fin 8) (i : Fin R) (j : Fin B), Y (ix3 s i j) = g s (ix2 i j)) :
    total Y = plainSum W hc hr h0 := by
  funext i
  obtain ⟨a, b, rfl⟩ : ∃ (a : Fin R) (b : Fin B), i = ix2 a b := ⟨i 0, i 1, eq_ix2 i⟩
  rw [plainSum_at W hc hr h0 hg]
  exact Finset.sum_congr rfl fun s _ => hX s a b

end Blocks

/-! ### The plain step, block by block -/

section Step

variable {s T t : Shape} {a : ℕ} (ht : Layout.Tiles s T a 8) {W M V G : FVec Ideal T .f32} {w mu v g : FVec Ideal s .f32} (d : Fin t.rank → Fin T.rank) (h : t.BroadcastsInDim T d)

theorem change_block (hw : w = Layout.block s T a 8 c W ht) (hm : mu = Layout.block s T a 8 c M ht) (hv : v = Layout.block s T a 8 c V ht)
    (hg : g = Layout.block s T a 8 c G ht) : AdamW.change w mu v g = Layout.block s T a 8 c
    (mulf (broadcastInDim T d h (constant t .f32 0xBA83126F#32))
      (addf (Host.divf (Host.divf (addf (mulf (broadcastInDim T d h (constant t .f32 0x3F666666#32)) M) (mulf (broadcastInDim T d h (constant t .f32 0x3DCCCCCD#32)) G))
            (broadcastInDim T d h (constant t .f32 0x3F26BD02#32)))
          (addf (Host.sqrt (Host.divf (addf (mulf (broadcastInDim T d h (constant t .f32 0x3F7FBE77#32)) V) (mulf (broadcastInDim T d h (constant t .f32 0x3A83126F#32)) (mulf G G)))
            (broadcastInDim T d h (constant t .f32 0x3C231ACC#32)))) (broadcastInDim T d h (constant t .f32 0x322BCC77#32))))
        (mulf (broadcastInDim T d h (constant t .f32 0x3C23D70A#32)) W))) ht := by
  rw [hw, hm, hv, hg, AdamW.change_host d h]
  rfl

theorem first_block (hm : mu = Layout.block s T a 8 c M ht) (hg : g = Layout.block s T a 8 c G ht) : AdamW.first mu g = Layout.block s T a 8 c
    (addf (mulf (broadcastInDim T d h (constant t .f32 0x3F666666#32)) M) (mulf (broadcastInDim T d h (constant t .f32 0x3DCCCCCD#32)) G)) ht := by
  rw [hm, hg, AdamW.first_host d h]
  rfl

theorem second_block (hv : v = Layout.block s T a 8 c V ht) (hg : g = Layout.block s T a 8 c G ht) : AdamW.second v g = Layout.block s T a 8 c
    (addf (mulf (broadcastInDim T d h (constant t .f32 0x3F7FBE77#32)) V) (mulf (broadcastInDim T d h (constant t .f32 0x3A83126F#32)) (mulf G G))) ht := by
  rw [hv, hg, AdamW.second_host d h]
  rfl

end Step

/-! ### What arrived -/

theorem row_eq {A B R : ℕ} (hR : R = 8 * A) (i : Fin A) (j : Fin B) (r : Fin R) (hr : r.val = c.val * A + i.val) : Talk.inBlock hR c (ix2 i j) = ix2 r j := by
  unfold Talk.inBlock
  exact congrArg (ix2 · j) (Fin.ext hr.symm)
theorem w_in_arrived (s : Fin 8) (i : Fin 256) (j : Fin 1024) (r : Fin 2048) (hr : r.val = c.val * 256 + i.val) :
    (got0 m c : S8x256x1024.Idx → EReal) (ix3 s i j) = (m (((s : Dev nD) : Thread nD τ).loc main_arg0) : S2048x1024.Idx → EReal) (ix2 r j) := by
  have h : (Memref.whole main_v1_0).view.read (Elt Ideal) (got0 m c) = _ := (wIn (U := UU) m).hdst.read_unread _
  refine (congrFun h (ix3 s i j)).trans (congrArg (m (((s : Dev nD) : Thread nD τ).loc main_arg0) : S2048x1024.Idx → EReal) (?_ : Talk.inBlock (A := 256) (R := 2048) rfl c (ix2 i j) = ix2 r j))
  exact row_eq c rfl i j r hr
theorem glu_w_arrived (s : Fin 8) (i : Fin 64) (j : Fin 512) (r : Fin 512) (hr : r.val = c.val * 64 + i.val) :
    (got1 m c : S8x64x512.Idx → EReal) (ix3 s i j) = (m (((s : Dev nD) : Thread nD τ).loc main_arg1) : S512x512.Idx → EReal) (ix2 r j) := by
  have h : (Memref.whole main_v1_1).view.read (Elt Ideal) (got1 m c) = _ := (glu (U := UU) m).hdst.read_unread _
  refine (congrFun h (ix3 s i j)).trans (congrArg (m (((s : Dev nD) : Thread nD τ).loc main_arg1) : S512x512.Idx → EReal) (?_ : Talk.inBlock (A := 64) (R := 512) rfl c (ix2 i j) = ix2 r j))
  exact row_eq c rfl i j r hr
theorem w_out_arrived (s : Fin 8) (i : Fin 128) (j : Fin 1024) (r : Fin 1024) (hr : r.val = c.val * 128 + i.val) :
    (got2 m c : S8x128x1024.Idx → EReal) (ix3 s i j) = (m (((s : Dev nD) : Thread nD τ).loc main_arg2) : S1024x1024.Idx → EReal) (ix2 r j) := by
  have h : (Memref.whole main_v1_2).view.read (Elt Ideal) (got2 m c) = _ := (wOut (U := UU) m).hdst.read_unread _
  refine (congrFun h (ix3 s i j)).trans (congrArg (m (((s : Dev nD) : Thread nD τ).loc main_arg2) : S1024x1024.Idx → EReal) (?_ : Talk.inBlock (A := 128) (R := 1024) rfl c (ix2 i j) = ix2 r j))
  exact row_eq c rfl i j r hr
theorem w_mlp_up_arrived (s : Fin 8) (i : Fin 512) (j : Fin 1024) (r : Fin 4096) (hr : r.val = c.val * 512 + i.val) :
    (got3 m c : S8x512x1024.Idx → EReal) (ix3 s i j) = (m (((s : Dev nD) : Thread nD τ).loc main_arg3) : S4096x1024.Idx → EReal) (ix2 r j) := by
  have h : (Memref.whole main_v1_3).view.read (Elt Ideal) (got3 m c) = _ := (up (U := UU) m).hdst.read_unread _
  refine (congrFun h (ix3 s i j)).trans (congrArg (m (((s : Dev nD) : Thread nD τ).loc main_arg3) : S4096x1024.Idx → EReal) (?_ : Talk.inBlock (A := 512) (R := 4096) rfl c (ix2 i j) = ix2 r j))
  exact row_eq c rfl i j r hr
theorem w_mlp_down_arrived (s : Fin 8) (i : Fin 512) (j : Fin 1024) (r : Fin 4096) (hr : r.val = c.val * 512 + i.val) :
    (got4 m c : S8x512x1024.Idx → EReal) (ix3 s i j) = (m (((s : Dev nD) : Thread nD τ).loc main_arg4) : S4096x1024.Idx → EReal) (ix2 r j) := by
  have h : (Memref.whole main_v1_4).view.read (Elt Ideal) (got4 m c) = _ := (down (U := UU) m).hdst.read_unread _
  refine (congrFun h (ix3 s i j)).trans (congrArg (m (((s : Dev nD) : Thread nD τ).loc main_arg4) : S4096x1024.Idx → EReal) (?_ : Talk.inBlock (A := 512) (R := 4096) rfl c (ix2 i j) = ix2 r j))
  exact row_eq c rfl i j r hr
theorem small_arrived (s : Fin 8) (i : Fin 1128) (j : Fin 128) :
    (got5 m c : S8x1128x128.Idx → EReal) (ix3 s i j) = (m (((s : Dev nD) : Thread nD τ).loc main_arg5) : S1128x128.Idx → EReal) (ix2 i j) := by
  have h : (Memref.whole main_v1_5).view.read (Elt Ideal) (got5 m c) = _ := (small (U := UU) m).hdst.read_unread _
  exact (congrFun h (ix3 s i j)).trans rfl

/-! ### Weight by weight -/

theorem w_in_plain (W : (⟨2, ![16384, 1024]⟩ : Shape).Idx → EReal) (hN : Layout.Tiles ⟨2, ![2048, 1024]⟩ ⟨2, ![16384, 1024]⟩ 0 8)
    (h : ∀ s : Dev nD, m ((s : Thread nD τ).loc main_arg0) = Layout.block ⟨2, ![2048, 1024]⟩ ⟨2, ![16384, 1024]⟩ 0 8 s W hN) (hc) (hr) (h0) (hT : Layout.Tiles ⟨2, ![1024, 256]⟩ ⟨2, ![1024, 2048]⟩ 1 8) (hb) :
    turn transposes_S256x1024_S1024x256_1_0 (total (A := 256) (B := 1024) (got0 m c)) = Layout.block ⟨2, ![1024, 256]⟩ ⟨2, ![1024, 2048]⟩ 1 8 c (turn hb (plainSum (R := 2048) W hc hr h0)) hT :=
  turned_block c W hc hr h0 h (w_in_arrived c) (by decide) hT _ hb
theorem glu_w_plain (W : (⟨2, ![4096, 512]⟩ : Shape).Idx → EReal) (hN : Layout.Tiles ⟨2, ![512, 512]⟩ ⟨2, ![4096, 512]⟩ 0 8)
    (h : ∀ s : Dev nD, m ((s : Thread nD τ).loc main_arg1) = Layout.block ⟨2, ![512, 512]⟩ ⟨2, ![4096, 512]⟩ 0 8 s W hN) (hc) (hr) (h0) (hA : Layout.Tiles ⟨2, ![64, 512]⟩ ⟨2, ![512, 512]⟩ 0 8) :
    total (A := 64) (B := 512) (got1 m c) = Layout.block ⟨2, ![64, 512]⟩ ⟨2, ![512, 512]⟩ 0 8 c (plainSum (R := 512) W hc hr h0) hA :=
  total_block c W hc hr h0 h (glu_w_arrived c) hA
theorem w_out_plain (W : (⟨2, ![8192, 1024]⟩ : Shape).Idx → EReal) (hN : Layout.Tiles ⟨2, ![1024, 1024]⟩ ⟨2, ![8192, 1024]⟩ 0 8)
    (h : ∀ s : Dev nD, m ((s : Thread nD τ).loc main_arg2) = Layout.block ⟨2, ![1024, 1024]⟩ ⟨2, ![8192, 1024]⟩ 0 8 s W hN) (hc) (hr) (h0) (hA : Layout.Tiles ⟨2, ![128, 1024]⟩ ⟨2, ![1024, 1024]⟩ 0 8) :
    total (A := 128) (B := 1024) (got2 m c) = Layout.block ⟨2, ![128, 1024]⟩ ⟨2, ![1024, 1024]⟩ 0 8 c (plainSum (R := 1024) W hc hr h0) hA :=
  total_block c W hc hr h0 h (w_out_arrived c) hA
theorem w_mlp_up_plain (W : (⟨2, ![32768, 1024]⟩ : Shape).Idx → EReal) (hN : Layout.Tiles ⟨2, ![4096, 1024]⟩ ⟨2, ![32768, 1024]⟩ 0 8)
    (h : ∀ s : Dev nD, m ((s : Thread nD τ).loc main_arg3) = Layout.block ⟨2, ![4096, 1024]⟩ ⟨2, ![32768, 1024]⟩ 0 8 s W hN) (hc) (hr) (h0) (hT : Layout.Tiles ⟨2, ![1024, 512]⟩ ⟨2, ![1024, 4096]⟩ 1 8) (hb) :
    turn transposes_S512x1024_S1024x512_1_0 (total (A := 512) (B := 1024) (got3 m c)) = Layout.block ⟨2, ![1024, 512]⟩ ⟨2, ![1024, 4096]⟩ 1 8 c (turn hb (plainSum (R := 4096) W hc hr h0)) hT :=
  turned_block c W hc hr h0 h (w_mlp_up_arrived c) (by decide) hT _ hb
theorem w_mlp_down_plain (W : (⟨2, ![32768, 1024]⟩ : Shape).Idx → EReal) (hN : Layout.Tiles ⟨2, ![4096, 1024]⟩ ⟨2, ![32768, 1024]⟩ 0 8)
    (h : ∀ s : Dev nD, m ((s : Thread nD τ).loc main_arg4) = Layout.block ⟨2, ![4096, 1024]⟩ ⟨2, ![32768, 1024]⟩ 0 8 s W hN) (hc) (hr) (h0) (hA : Layout.Tiles ⟨2, ![512, 1024]⟩ ⟨2, ![4096, 1024]⟩ 0 8) :
    total (A := 512) (B := 1024) (got4 m c) = Layout.block ⟨2, ![512, 1024]⟩ ⟨2, ![4096, 1024]⟩ 0 8 c (plainSum (R := 4096) W hc hr h0) hA :=
  total_block c W hc hr h0 h (w_mlp_down_arrived c) hA
theorem small_plain (W : (⟨2, ![9024, 128]⟩ : Shape).Idx → EReal) (hN : Layout.Tiles ⟨2, ![1128, 128]⟩ ⟨2, ![9024, 128]⟩ 0 8)
    (h : ∀ s : Dev nD, m ((s : Thread nD τ).loc main_arg5) = Layout.block ⟨2, ![1128, 128]⟩ ⟨2, ![9024, 128]⟩ 0 8 s W hN) (hc) (hr) (h0) :
    total (A := 1128) (B := 128) (got5 m c) = plainSum (R := 1128) W hc hr h0 :=
  total_whole W hc hr h0 h (small_arrived c)

end Cert.Grads
-- ==== Proof.NormGradRow.lean ====
/-
One element of the gradient by the layer's input, a block's and the plain one.
-/
module

public import proofs.«01_k».proof.Proof.Gen.InputGradientIdeal.Skeleton
public import proofs.«01_k».proof.Proof.Gen.PlainInputGradientIdeal.Read
public import Idealize.ShloMosaic.Lib.Pointwise

@[expose] public section

noncomputable section

namespace Cert.NormGrad

open Idealize.ShloMosaic InputGradientIdeal.Gen

variable {A0 : FVec Ideal ⟨2, ![16384, 2048]⟩ .bf16} {A1 : FVec Ideal ⟨2, ![2048, 1024]⟩ .bf16} {A2 A4 : FVec Ideal ⟨2, ![16384, 1024]⟩ .f32}
  {A3 : FVec Ideal ⟨2, ![1, 1024]⟩ .f32} {v0 : FVec Ideal ⟨2, ![512, 2048]⟩ .bf16} {v3 v4 : FVec Ideal ⟨2, ![512, 1024]⟩ .f32} {i : Fin 512} {R : Fin 16384}

/-- A row of the layer's gradient times the normed input. -/
theorem rows (h0 : ∀ k, v0 (ix2 i k) = A0 (ix2 R k)) (h3 : ∀ k, v3 (ix2 i k) = A2 (ix2 R k)) (j : Fin 1024) :
    k0_pay5 (F := Ideal) v0 A1 v3 (ix2 i j) = PlainInputGradientIdeal.Read.val_main_v30 (F := Ideal) A0 A1 A2 (ix2 R j) := by
  pointwise [k0_pay5, k0_pay3, k0_pay4, PlainInputGradientIdeal.Read.val_main_v0, PlainInputGradientIdeal.Read.val_main_v1, PlainInputGradientIdeal.Read.val_main_v2, PlainInputGradientIdeal.Read.val_main_v3, PlainInputGradientIdeal.Read.val_main_cst, PlainInputGradientIdeal.Read.val_main_v4, PlainInputGradientIdeal.Read.val_main_v5, PlainInputGradientIdeal.Read.val_main_cst_0, PlainInputGradientIdeal.Read.val_main_v6, PlainInputGradientIdeal.Read.val_main_v7, PlainInputGradientIdeal.Read.val_main_cst_1, PlainInputGradientIdeal.Read.val_main_v8, PlainInputGradientIdeal.Read.val_main_v9, PlainInputGradientIdeal.Read.val_main_v10, PlainInputGradientIdeal.Read.val_main_v11, PlainInputGradientIdeal.Read.val_main_v12, PlainInputGradientIdeal.Read.val_main_v13, PlainInputGradientIdeal.Read.val_main_v14, PlainInputGradientIdeal.Read.val_main_v15, PlainInputGradientIdeal.Read.val_main_v16, PlainInputGradientIdeal.Read.val_main_v17, PlainInputGradientIdeal.Read.val_main_v18, PlainInputGradientIdeal.Read.val_main_v19, PlainInputGradientIdeal.Read.val_main_cst_2, PlainInputGradientIdeal.Read.val_main_v20, PlainInputGradientIdeal.Read.val_main_v21, PlainInputGradientIdeal.Read.val_main_cst_3, PlainInputGradientIdeal.Read.val_main_v22, PlainInputGradientIdeal.Read.val_main_v23, PlainInputGradientIdeal.Read.val_main_v24, PlainInputGradientIdeal.Read.val_main_v25, PlainInputGradientIdeal.Read.val_main_v26, PlainInputGradientIdeal.Read.val_main_v27, PlainInputGradientIdeal.Read.val_main_v28, PlainInputGradientIdeal.Read.val_main_v29, PlainInputGradientIdeal.Read.val_main_v30, PlainInputGradientIdeal.Read.val_main_cst_4, PlainInputGradientIdeal.Read.val_main_v31, PlainInputGradientIdeal.Read.val_main_v32]
  simp only [h0, h3]

/-- A row of the gradient by the layer's input. -/
theorem grads (h0 : ∀ k, v0 (ix2 i k) = A0 (ix2 R k)) (h3 : ∀ k, v3 (ix2 i k) = A2 (ix2 R k)) (h4 : ∀ k, v4 (ix2 i k) = A4 (ix2 R k)) (j : Fin 1024) :
    k0_pay6 (F := Ideal) v0 A1 v3 A3 v4 (ix2 i j) = PlainInputGradientIdeal.Read.val_main_v27 (F := Ideal) A0 A1 A2 A3 A4 (ix2 R j) := by
  pointwise [k0_pay6, k0_pay3, k0_pay4, PlainInputGradientIdeal.Read.val_main_v0, PlainInputGradientIdeal.Read.val_main_v1, PlainInputGradientIdeal.Read.val_main_v2, PlainInputGradientIdeal.Read.val_main_v3, PlainInputGradientIdeal.Read.val_main_cst, PlainInputGradientIdeal.Read.val_main_v4, PlainInputGradientIdeal.Read.val_main_v5, PlainInputGradientIdeal.Read.val_main_cst_0, PlainInputGradientIdeal.Read.val_main_v6, PlainInputGradientIdeal.Read.val_main_v7, PlainInputGradientIdeal.Read.val_main_cst_1, PlainInputGradientIdeal.Read.val_main_v8, PlainInputGradientIdeal.Read.val_main_v9, PlainInputGradientIdeal.Read.val_main_v10, PlainInputGradientIdeal.Read.val_main_v11, PlainInputGradientIdeal.Read.val_main_v12, PlainInputGradientIdeal.Read.val_main_v13, PlainInputGradientIdeal.Read.val_main_v14, PlainInputGradientIdeal.Read.val_main_v15, PlainInputGradientIdeal.Read.val_main_v16, PlainInputGradientIdeal.Read.val_main_v17, PlainInputGradientIdeal.Read.val_main_v18, PlainInputGradientIdeal.Read.val_main_v19, PlainInputGradientIdeal.Read.val_main_cst_2, PlainInputGradientIdeal.Read.val_main_v20, PlainInputGradientIdeal.Read.val_main_v21, PlainInputGradientIdeal.Read.val_main_cst_3, PlainInputGradientIdeal.Read.val_main_v22, PlainInputGradientIdeal.Read.val_main_v23, PlainInputGradientIdeal.Read.val_main_v24, PlainInputGradientIdeal.Read.val_main_v25, PlainInputGradientIdeal.Read.val_main_v26, PlainInputGradientIdeal.Read.val_main_v27, PlainInputGradientIdeal.Read.val_main_v28, PlainInputGradientIdeal.Read.val_main_v29, PlainInputGradientIdeal.Read.val_main_v30, PlainInputGradientIdeal.Read.val_main_cst_4, PlainInputGradientIdeal.Read.val_main_v31, PlainInputGradientIdeal.Read.val_main_v32]
  simp only [h0, h3, h4]

/-- A block's rows added into the sum so far. -/
theorem step (v : FVec Ideal ⟨2, ![512, 1024]⟩ .f32) (acc : FVec Ideal ⟨2, ![1, 1024]⟩ .f32) (z : Fin 1) (j : Fin 1024) :
    k0_pay2 (F := Ideal) v acc (ix2 z j) = acc (ix2 z j) + ∑ k : Fin 512, v (ix2 k j) := by
  pointwise [k0_pay2]

/-- The sum starts from zero. -/
theorem start (z : Fin 1) (j : Fin 1024) : k0_pay1 (F := Ideal) (ix2 z j) = 0 := by
  pointwise [k0_pay1]

/-- The plain sum over all rows. -/
theorem plain_sum (z : Fin 1) (j : Fin 1024) : PlainInputGradientIdeal.Read.val_main_v32 (F := Ideal) A0 A1 A2 (ix2 z j)
    = ∑ k : Fin 16384, PlainInputGradientIdeal.Read.val_main_v30 (F := Ideal) A0 A1 A2 (ix2 k j) := by
  pointwise [PlainInputGradientIdeal.Read.val_main_v32, PlainInputGradientIdeal.Read.val_main_v31, PlainInputGradientIdeal.Read.val_main_cst_4]

end Cert.NormGrad

end
-- ==== Proof.NormGrad.lean ====
/-
The gradient by the layer's input, on one device: the blocks that the grid's points write are the plain gradient's rows,
and the sum that the points add up block by block is the plain sum over all rows.
-/
module

public import proofs.«01_k».proof.Defs
public import proofs.«01_k».proof.Proof.NormGradRow
public import proofs.«01_k».proof.Proof.Gen.InputGradient
public import proofs.«01_k».proof.Proof.Gen.InputGradient.Frame
public import proofs.«01_k».proof.Proof.Gen.PlainInputGradientIdeal
public import proofs.«01_k».proof.Proof.Gen.PlainInputGradientIdeal.Run
public import proofs.«01_k».proof.Proof.Gen.InputGradientIdeal
public import proofs.«01_k».proof.Proof.Gen.InputGradientIdeal.Frame
public import proofs.«01_k».proof.Proof.Gen.InputGradientIdeal.Value
public import Idealize.ShloMosaic.Lib.Pipeline.ValueKit

@[expose] public section

set_option maxRecDepth 16384

noncomputable section

namespace Cert.NormGrad

open Idealize.ShloMosaic InputGradientIdeal InputGradientIdeal.Gen

variable (m : (ℓ : Loc nD τ sig) → Buf (Elt Ideal) ℓ) (c : Dev nD)

/-- The gradient by the input projection's result. -/
abbrev dproj := m ((c.tc : Thread nD τ).loc main_arg0)
/-- The input projection's weight, turned over. -/
abbrev wT := m ((c.tc : Thread nD τ).loc main_arg1)
/-- The layer's input. -/
abbrev xIn := m ((c.tc : Thread nD τ).loc main_arg2)
/-- The first norm's scale. -/
abbrev g1 := m ((c.tc : Thread nD τ).loc main_arg3)
/-- The gradient that passes the layer by. -/
abbrev dx2 := m ((c.tc : Thread nD τ).loc main_arg4)

/-- Which block each window reads or writes at a point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] := by decide +kernel

/-- A row of the layer's gradient's block is a row of the array. -/
theorem blk0 (t : Fin cfg0.N) (i : Fin 512) (R : Fin 16384) (h : R.val = t.val * 512 + i.val) (k : Fin 2048) :
    iblk m c 0 t (ix2 i k) = dproj m c (ix2 R k) := by
  blk_ext [iblk, V, idx t]

/-- The weight's block is the whole array at every point. -/
theorem blk1 (t : Fin cfg0.N) : iblk m c 1 t = wT m c := by
  funext y
  blk_ext [iblk, V, idx t]

/-- A row of the input's block is a row of the array. -/
theorem blk2 (t : Fin cfg0.N) (i : Fin 512) (R : Fin 16384) (h : R.val = t.val * 512 + i.val) (k : Fin 1024) :
    iblk m c 2 t (ix2 i k) = xIn m c (ix2 R k) := by
  blk_ext [iblk, V, idx t]

/-- The scale's block is the whole array at every point. -/
theorem blk3 (t : Fin cfg0.N) : iblk m c 3 t = g1 m c := by
  funext y
  blk_ext [iblk, V, idx t]

/-- A row of the passed-through gradient's block is a row of the array. -/
theorem blk4 (t : Fin cfg0.N) (i : Fin 512) (R : Fin 16384) (h : R.val = t.val * 512 + i.val) (k : Fin 1024) :
    iblk m c 4 t (ix2 i k) = dx2 m c (ix2 R k) := by
  blk_ext [iblk, V, idx t]

/-- A point's block of the gradient is the plain gradient's rows. -/
theorem block5 (t : Fin cfg0.N) (i : Fin 512) (R : Fin 16384) (h : R.val = t.val * 512 + i.val) (j : Fin 1024) :
    k0_pay6 (F := Ideal) (iblk m c 0 t) (iblk m c 1 t) (iblk m c 2 t) (iblk m c 3 t) (iblk m c 4 t) (ix2 i j)
      = PlainInputGradientIdeal.Read.val_main_v27 (F := Ideal) (dproj m c) (wT m c) (xIn m c) (g1 m c) (dx2 m c) (ix2 R j) := by
  rw [blk1, blk3]
  exact grads (blk0 m c t i R h) (blk2 m c t i R h) (blk4 m c t i R h) j

/-- A point's block of the summands is the plain sum's rows. -/
theorem block6 (t : Fin cfg0.N) (i : Fin 512) (R : Fin 16384) (h : R.val = t.val * 512 + i.val) (j : Fin 1024) :
    k0_pay5 (F := Ideal) (iblk m c 0 t) (iblk m c 1 t) (iblk m c 2 t) (ix2 i j)
      = PlainInputGradientIdeal.Read.val_main_v30 (F := Ideal) (dproj m c) (wT m c) (xIn m c) (ix2 R j) := by
  rw [blk1]
  exact rows (blk0 m c t i R h) (blk2 m c t i R h) j

/-- The gradient's array after the run is the plain gradient. -/
theorem result5 : (dats m 0 c).arrAt 5 cfg0.N = PlainInputGradientIdeal.Read.val_main_v27 (F := Ideal) (dproj m c) (wT m c) (xIn m c) (g1 m c) (dx2 m c) := by
  refine (dats m 0 c).arrAt_eq_of_covers 5 _ (by decide +kernel) fun t hf y => ?_
  have hb : (y 0).val < 512 := (y 0).isLt
  have ht : t.val < 32 := t.isLt
  have e : (((cfg0.win 5).blk t).view.emb y) = ix2 (⟨t.val * 512 + (y 0).val, by omega⟩ : Fin 16384) (y 1 : Fin 1024) := by
    blk_ext [idx t]
  have ey : y = ix2 (y 0 : Fin 512) (y 1 : Fin 1024) := by blk_ext
  have key := block5 m c t (y 0 : Fin 512) ⟨t.val * 512 + (y 0).val, by omega⟩ rfl (y 1 : Fin 1024)
  rw [e]
  blk_simp
  rw [after0_5]
  by_cases h : t.val % 32 = 0
  · rw [outsAt0_A m c t h]
    frame_out
    exact (congrArg _ ey).trans key
  · rw [outsAt0_B m c t h]
    frame_out
    exact (congrArg _ ey).trans key

/-- The running sum after the last point. -/
theorem summed (z : Fin 1) (j : Fin 1024) (t : Fin cfg0.N) (ht : t.val + 1 = cfg0.N) : (outsAt0 m c t.val t.isLt).2 (ix2 z j)
    = 0 + ∑ p : Fin cfg0.N, ∑ k : Fin 512, k0_pay5 (F := Ideal) (iblk m c 0 p) (iblk m c 1 p) (iblk m c 2 p) (ix2 k j) := by
  refine Pipeline.eq_sum_fin_of_reset_step_apply_last (fun n h (x : Fin 1 × Fin 1024) => (outsAt0 m c n h).2 (ix2 x.1 x.2)) 32 (fun _ => (0 : EReal))
    (fun p x => ∑ k : Fin 512, k0_pay5 (F := Ideal) (iblk m c 0 p) (iblk m c 1 p) (iblk m c 2 p) (ix2 k x.2)) ?_ ?_ (by decide) t ht (z, j)
  · intro t h x
    show (outsAt0 m c t.val t.isLt).2 (ix2 x.1 x.2) = _
    rw [outsAt0_A m c t h]
    frame_out
    exact (step _ _ _ _).trans (congrArg (· + _) (start _ _))
  · intro t h x
    show (outsAt0 m c t.val t.isLt).2 (ix2 x.1 x.2) = _
    rw [outsAt0_B m c t h]
    frame_out
    exact step _ _ _ _

/-- The blocks' sums together are the sum over all rows. -/
theorem total (z : Fin 1) (j : Fin 1024) : (outsAt0 m c 31 (by decide)).2 (ix2 z j)
    = PlainInputGradientIdeal.Read.val_main_v32 (F := Ideal) (dproj m c) (wT m c) (xIn m c) (ix2 z j) := by
  refine (summed m c z j ⟨31, by decide⟩ rfl).trans ?_
  rw [plain_sum, zero_add]
  refine (Fin.sum_points_lanes_congr (A := 1) (L := 16384) 32 (g := fun _ l => PlainInputGradientIdeal.Read.val_main_v30 (F := Ideal) (dproj m c) (wT m c) (xIn m c) (ix2 l j))
    (fun t k ha hl => ?_) rfl rfl).trans ?_
  · have ht : t.val < 32 := t.isLt
    refine block6 m c t k _ ?_ j
    show t.val % 32 * 512 + k.val = t.val * 512 + k.val
    rw [Nat.mod_eq_of_lt ht]
  · exact Fin.sum_univ_one _

/-- The sum's array after the run is the plain sum. -/
theorem result6 : (dats m 0 c).arrAt 6 cfg0.N = PlainInputGradientIdeal.Read.val_main_v32 (F := Ideal) (dproj m c) (wT m c) (xIn m c) := by
  refine (dats m 0 c).arrAt_eq_of_after_last 6 (⟨31, by decide⟩ : Fin cfg0.N) (by decide +kernel) _ fun j => ?_
  refine (congrFun (after0_6 m c (⟨31, by decide⟩ : Fin cfg0.N)) _).trans ?_
  have e : ((cfg0.win 6).arr.view.emb j) = ix2 (j 0 : Fin 1) (j 1 : Fin 1024) := by blk_ext
  rw [e]
  refine (congrArg _ ?_).trans (total m c (j 0 : Fin 1) (j 1 : Fin 1024))
  funext a
  fin_cases a <;> rfl

/-- The printed program runs and leaves its arguments and semaphores as they were. -/
theorem frame_bits : Cert.quiescent_InputGradient := fun m ρ _ => Cert.InputGradient.Gen.frame m ρ

/-- So does the idealized one. -/
theorem frame_ideal : Cert.quiescent_InputGradientIdeal := fun m ρ _ => Cert.InputGradientIdeal.Gen.frame m ρ

/-- So does the plain one, which has no semaphores. -/
theorem frame_plain : Cert.quiescent_PlainInputGradientIdeal := fun m ρ _ =>
  (θ_run Cert.PlainInputGradientIdeal.defs _ _).mono (fun r h => ⟨fun c => (h c).2.2, sem_eq_zero_of_no_sems (by decide) r.2⟩)
    (Cert.PlainInputGradientIdeal.Value.run m ρ)

/-- Both of the kernel's results are the plain ones. -/
theorem value : Cert.algebraic_InputGradientIdeal_PlainInputGradientIdeal := by
  intro m g m' g' _ ag
  refine ⟨_, _, ?_, (θ_run Cert.PlainInputGradientIdeal.defs _ _).mono (fun r h c => h c) (Cert.PlainInputGradientIdeal.Value.run m' g')⟩
  refine (θ_run Cert.InputGradientIdeal.defs _ _).mono (fun r h c => ?_) (Cert.InputGradientIdeal.Value.run_blocks m g)
  refine ⟨(h c).1.trans ((result5 m c).trans ?_), (h c).2.1.trans ((result6 m c).trans ?_), (h c).2.2⟩
  · rw [(ag c).1, (ag c).2.1, (ag c).2.2.1, (ag c).2.2.2.1, (ag c).2.2.2.2]
    exact (Cert.PlainInputGradientIdeal.Read.val_main_v27_eq ..).symm
  · rw [(ag c).1, (ag c).2.1, (ag c).2.2.1]
    exact (Cert.PlainInputGradientIdeal.Read.val_main_v32_eq ..).symm

end Cert.NormGrad

end
-- ==== Proof.LossRegion.lean ====
/-
The call that takes a device's share of the loss: the layer's last product, the error against the target, and the sum of the squared errors.

At each of its 32 points the body reads a block of rows of the hidden layer (window 0), the weights (1), a block of the residual stream (2) and of the target (3),
and overwrites the blocks of the error's two copies (4, 5); the sum of the squares (6) is reset at the first point and added to at every point. `left` says what a
point leaves, `total` what the sum holds before a point, and `obligation` is the body's obligation.
-/
module

public import proofs.«01_k».proof.Proof.Windowed
public import proofs.«01_k».proof.Proof.Gen.LossIdeal.Launch
public import proofs.«01_k».proof.Proof.Gen.LossIdeal.Points
public import proofs.«01_k».proof.Proof.Gen.LossIdeal.Skeleton
public import Idealize.ShloMosaic.Lib.WordCmp

@[expose] public section

noncomputable section

namespace Cert.LossSum

open Cert.LossIdeal Cert.LossIdeal.Gen Cert.Windowed
open Idealize.ShloMosaic
open Idealize.SL
open Idealize.SL.BI (sProp bigSep bigSepL bigSep_mono bigSep_exists_pi)
open scoped Idealize.SL.BI
open Idealize.SL.BI.BIBase Idealize.SL.BI.Laws Idealize.SL.Sem Idealize.SL.ProofMode
open Idealize.SL.RA
open Idealize.ShloMosaic.Pipeline
open TcCoe

set_option Elab.async false

variable {F : FTy → Type} [FloatOps F]
variable {Ix : Type} [DecidableEq Ix] {U : Type} [URA U] {Lvl : Type} [Preorder Lvl]

local notation "𝕄" => MT nD τ sig Ix (Elt F) ℕ U Lvl

/-- The body's test for the first point. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 := by decide +kernel

/-- What a point leaves of what the blocks held. -/
def left (t : Fin cfg0.N) (X : Blocks (Elt F) cfg0) : Blocks (Elt F) cfg0 :=
  Function.update (Function.update (Function.update X 4 (k0_pay2 (X 2) (X 0) (X 1) (X 3))) 5 (k0_pay3 (X 2) (X 0) (X 1) (X 3)))
    6 (k0_pay5 (X 2) (X 0) (X 1) (X 3) (if t.val = 0 then k0_pay4 else X 6))

theorem body_run (𝒱 : Variants) (c : Dev nD) (bd : Option 𝒱.V) (t : Fin cfg0.N) (X : Blocks (Elt F) cfg0) :
    (staged c t X : sProp 𝕄) ⊢ wp frame (wpE defs₀ 𝒱 c bd) Set.univ (bodyAt0 t) fun _ => staged c t (left t X) := by
  unfold bodyAt0
  simp only [cc0_mlp_down_loss_eq_skeleton]
  unfold cc0_mlp_down_loss_skel
  by_cases h : t.val = 0
  · simp only [dif_pos ((isFirst_iff t).mpr h)]
    simp only [Prog.lift, Prog.bind_op, Prog.bind_ret, Prog.pure_eq_ret]
    refine Windowed.load_whole (Lvl := Lvl) (2 : Fin cfg0.W) (by decide) ?_
    refine Windowed.load_whole (Lvl := Lvl) (0 : Fin cfg0.W) (by decide) ?_
    refine Windowed.load_whole (Lvl := Lvl) (1 : Fin cfg0.W) (by decide) ?_
    refine Windowed.load_whole (Lvl := Lvl) (3 : Fin cfg0.W) (by decide) ?_
    refine Windowed.load_whole (Lvl := Lvl) (4 : Fin cfg0.W) (by decide) ?_
    refine Windowed.store_whole (Lvl := Lvl) (4 : Fin cfg0.W) (by decide) ?_
    refine Windowed.load_whole (Lvl := Lvl) (5 : Fin cfg0.W) (by decide) ?_
    refine Windowed.store_whole (Lvl := Lvl) (5 : Fin cfg0.W) (by decide) ?_
    refine Windowed.load_whole (Lvl := Lvl) (6 : Fin cfg0.W) (by decide) ?_
    refine Windowed.store_whole (Lvl := Lvl) (6 : Fin cfg0.W) (by decide) ?_
    refine Windowed.load_whole (Lvl := Lvl) (6 : Fin cfg0.W) (by decide) ?_
    refine Windowed.load_whole (Lvl := Lvl) (6 : Fin cfg0.W) (by decide) ?_
    refine Windowed.store_whole (Lvl := Lvl) (6 : Fin cfg0.W) (by decide) ?_
    refine Windowed.done (Lvl := Lvl) ?_
    rw [Function.update_idem]
    unfold left
    rw [if_pos h]
    exact BI.Entails.refl _
  · simp only [dif_neg (fun e => h ((isFirst_iff t).mp e))]
    simp only [Prog.lift, Prog.bind_op, Prog.bind_ret, Prog.pure_eq_ret]
    refine Windowed.load_whole (Lvl := Lvl) (2 : Fin cfg0.W) (by decide) ?_
    refine Windowed.load_whole (Lvl := Lvl) (0 : Fin cfg0.W) (by decide) ?_
    refine Windowed.load_whole (Lvl := Lvl) (1 : Fin cfg0.W) (by decide) ?_
    refine Windowed.load_whole (Lvl := Lvl) (3 : Fin cfg0.W) (by decide) ?_
    refine Windowed.load_whole (Lvl := Lvl) (4 : Fin cfg0.W) (by decide) ?_
    refine Windowed.store_whole (Lvl := Lvl) (4 : Fin cfg0.W) (by decide) ?_
    refine Windowed.load_whole (Lvl := Lvl) (5 : Fin cfg0.W) (by decide) ?_
    refine Windowed.store_whole (Lvl := Lvl) (5 : Fin cfg0.W) (by decide) ?_
    refine Windowed.load_whole (Lvl := Lvl) (6 : Fin cfg0.W) (by decide) ?_
    refine Windowed.load_whole (Lvl := Lvl) (6 : Fin cfg0.W) (by decide) ?_
    refine Windowed.store_whole (Lvl := Lvl) (6 : Fin cfg0.W) (by decide) ?_
    refine Windowed.done (Lvl := Lvl) ?_
    unfold left
    rw [if_neg h]
    exact BI.Entails.refl _

/-- The point numbered `n`. -/
def point (n : ℕ) : Fin cfg0.N := ⟨n % 32, lt_of_lt_of_eq (Nat.mod_lt n (by decide)) N_0.symm⟩
theorem point_val (t : Fin cfg0.N) : point t.val = t :=
  Fin.ext (Nat.mod_eq_of_lt (lt_of_lt_of_eq t.isLt N_0))

variable (V : (c : Dev nD) → (w : Fin cfg0.W) → Buf (Elt F) ((cfg0.win w).arr.view.loc (c : Thread nD τ)))

/-- The sum of the squares before point `n`, the arrays at `V`. -/
def total (c : Dev nD) : ℕ → S1x1.Idx → Elt F .f32
  | 0 => k0_pay4
  | n + 1 => k0_pay5 (block (V c) (point n) 2) (block (V c) (point n) 0) (block (V c) (point n) 1) (block (V c) (point n) 3) (total c n)

/-- What the staging buffers hold after point `t`. -/
def afterPoint (c : Dev nD) (t : Fin cfg0.N) : Blocks (Elt F) cfg0 :=
  Function.update (left t (block (V c) t)) 6 (total V c (t.val + 1))

/-- The proof data, a core owing `O` throughout. -/
def lossDat (O : Dev nD → CellTallies nD τ sig Ix) (c : Dev nD) : Dat τ (Elt F) Ix ℕ U Lvl cfg0 c where
  A := V c
  after w t := afterPoint V c t w
  Φ _ := scopedRest cfg0.spec c
  q _ := fullShare
  owed _ := O c

variable {V} {O : Dev nD → CellTallies nD τ sig Ix} {c : Dev nD}

theorem uncut (w : Fin cfg0.W) (i a) : (cfg0.win w).clip i a = none := by fin_cases w <;> rfl
theorem live (w : Fin cfg0.W) (i) : cfg0.idle w i = false := by fin_cases w <;> rfl

theorem after_in (w : Fin cfg0.W) (hw : (cfg0.win w).isOut = false) (t : Fin cfg0.N) : afterPoint V c t w = block (V c) t w := by
  fin_cases w
  all_goals first | exact absurd hw (by decide) | rfl

theorem fill_any (w : Fin cfg0.W) (i : cfg0.grid.Coords) (d d' : (cfg0.win w).block.Idx → Elt F (cfg0.win w).elt)
    (g : ((cfg0.win w).xblock i).Idx → Elt F (cfg0.win w).elt) : (cfg0.win w).fill i d g = (cfg0.win w).fill i d' g := by
  funext j
  have hj : (cfg0.win w).moved i j = true := ((cfg0.win w).moved_iff i j).mpr fun a => by
    show (j a).val < ((cfg0.win w).clip i a).extent ((cfg0.win w).size a)
    rw [uncut w i a]; exact (j a).isLt
  unfold Window.fill
  rw [dif_pos hj, dif_pos hj]

/-- An input's staging buffer holds its block at every point. -/
theorem before_in (w : Fin cfg0.W) (hw : (cfg0.win w).isOut = false) (t : Fin cfg0.N) (d) :
    (lossDat (U := U) (Lvl := Lvl) V O c).before w t d = block (V c) t w := by
  refine (Dat.before_in_eq_fetched _ w hw (live w) (fun t t' _ => ?_) (fun t => ?_) t d).trans (fill_any w _ _ _ _)
  · funext a; rw [uncut, uncut]
  · show (cfg0.win w).cut _ (afterPoint V c t w) = _
    rw [after_in w hw t]
    exact (cfg0.win w).cut_fill _ _ _

/-- The sum's staging buffer holds, after the first point, what the point before left. -/
theorem before_sum (t : Fin cfg0.N) (h : t.val ≠ 0) (d) :
    (lossDat (U := U) (Lvl := Lvl) V O c).before 6 t d = total V c t.val := by
  have hN : t.val < 32 := lt_of_lt_of_eq t.isLt (show cfg0.N = 32 from N_0)
  rw [Dat.before_out_kept _ 6 rfl t h (Bool.eq_false_iff.mpr fun e => by have := (flush0_6 _).mp e; dsimp only at this; omega)
    (fun _ => rfl) (fun _ _ => rfl)]
  show total V c (t.val - 1 + 1) = _
  rw [Nat.sub_add_cancel (Nat.pos_of_ne_zero h)]

/-- What a point leaves, at its blocks and the sum so far. -/
theorem left_eq (t : Fin cfg0.N) (X : Blocks (Elt F) cfg0) (hX : ∀ w : Fin cfg0.W, (cfg0.win w).isOut = false → X w = block (V c) t w)
    (h6 : t.val ≠ 0 → X 6 = total V c t.val) (w : Fin cfg0.W) : left t X w = afterPoint V c t w := by
  have e0 := hX 0 rfl
  have e1 := hX 1 rfl
  have e2 := hX 2 rfl
  have e3 := hX 3 rfl
  fin_cases w
  · exact e0
  · exact e1
  · exact e2
  · exact e3
  · show k0_pay2 (X 2) (X 0) (X 1) (X 3) = k0_pay2 (block (V c) t 2) (block (V c) t 0) (block (V c) t 1) (block (V c) t 3)
    rw [e0, e1, e2, e3]
  · show k0_pay3 (X 2) (X 0) (X 1) (X 3) = k0_pay3 (block (V c) t 2) (block (V c) t 0) (block (V c) t 1) (block (V c) t 3)
    rw [e0, e1, e2, e3]
  · show k0_pay5 (X 2) (X 0) (X 1) (X 3) (if t.val = 0 then k0_pay4 else X 6)
      = k0_pay5 (block (V c) (point t.val) 2) (block (V c) (point t.val) 0) (block (V c) (point t.val) 1) (block (V c) (point t.val) 3) (total V c t.val)
    rw [e0, e1, e2, e3, point_val]
    congr 1
    split
    · next h => rw [h]; rfl
    · next h => exact h6 h

/-- The body's obligation. -/
theorem obligation {𝒱₀ : Variants} {ι : Ix} : BodyObligation (lossDat (U := U) (Lvl := Lvl) V O c) (defs₀ (F := F)) 𝒱₀ ι Set.univ := by
  intro t
  dsimp only
  have hpost (X : Blocks (Elt F) cfg0) (hX : ∀ w : Fin cfg0.W, (cfg0.win w).isOut = false → X w = block (V c) t w)
      (h6 : t.val ≠ 0 → X 6 = total V c t.val) :
      (staged c t (left t X) : sProp 𝕄) ⊢ bigSep Finset.univ fun w : Fin cfg0.W => (match cfg0.idle w (cfg0.grid.coords t) with
        | true =>
          match (cfg0.win w).flush t with
          | false => iprop(∃ d, owns (c : Thread nD τ) ((cfg0.win w).stage (cfg0.slots t w)) fullShare ((lossDat (U := U) (Lvl := Lvl) V O c).before w t d))
          | true => owns (c : Thread nD τ) ((cfg0.win w).stage (cfg0.slots t w)) fullShare ((lossDat (U := U) (Lvl := Lvl) V O c).after w t)
        | false => owns (c : Thread nD τ) ((cfg0.win w).stage (cfg0.slots t w)) fullShare ((lossDat (U := U) (Lvl := Lvl) V O c).after w t)) := by
    unfold staged
    refine bigSep_mono fun w _ => ?_
    rw [live w]
    dsimp only
    rw [show left t X w = (lossDat (U := U) (Lvl := Lvl) V O c).after w t from left_eq t X hX h6 w]
    exact BI.Entails.refl _
  have hpre : (bigSep Finset.univ fun w : Fin cfg0.W => iprop(∃ d, owns (c : Thread nD τ) ((cfg0.win w).stage (cfg0.slots t w)) fullShare
        ((lossDat (U := U) (Lvl := Lvl) V O c).before w t d)))
      ⊢ (iprop(∃ X : Blocks (Elt F) cfg0, ⌜(∀ w : Fin cfg0.W, (cfg0.win w).isOut = false → X w = block (V c) t w) ∧ (t.val ≠ 0 → X 6 = total V c t.val)⌝ ∗ staged c t X) : sProp 𝕄) := by
    refine (bigSep_exists_pi Finset.univ fun (w : Fin cfg0.W) d => owns (c : Thread nD τ) ((cfg0.win w).stage (cfg0.slots t w)) fullShare
        ((lossDat (U := U) (Lvl := Lvl) V O c).before w t d)).trans ?_
    iintro ⟨%d, H⟩
    iexists fun w => (lossDat (U := U) (Lvl := Lvl) V O c).before w t (d w)
    isplitr
    · ipureintro; exact ⟨fun w hw => before_in w hw t _, fun h => before_sum t h _⟩
    unfold staged
    iexact H
  iintro ⟨HΦ, HO, Hw⟩
  ihave H := hpre $$ Hw
  icases H with ⟨%X, %hX, H⟩
  have hrun : (staged c t X : sProp 𝕄)
      ⊢ wp frame (wpE (defs₀ (F := F)) 𝒱₀ c none) Set.univ (defs₀ .tc cfg0.body (cfg0.bodyArgs t (cfg0.slots t))) fun _ => staged c t (left t X) := by
    rw [show defs₀ (F := F) .tc cfg0.body (cfg0.bodyArgs t (cfg0.slots t)) = bodyAt0 t from by unfold defs₀; rw [Defs.onTc_tc]]
    exact body_run 𝒱₀ c none t X
  ihave Hwp := hrun $$ H
  iapply (wp_wand frame (wpE (defs₀ (F := F)) 𝒱₀ (c : Thread nD τ) none)) $$ Hwp
  iintro %u H
  isplitl [HΦ]
  · unfold lossDat; iexact HΦ
  isplitl [HO]
  · iexact HO
  ihave H := (hpost X hX.1 hX.2) $$ H
  iexact H

end Cert.LossSum
-- ==== Proof.LossRun.lean ====
/-
The loss on eight devices: a device's share of it, and the sum over the devices.

A device's buffers are followed from step to step: `at0` at the launch, `at1` after the call, `at2` after the host's scaling, `at3` after the sum over the devices.
`run_main` runs the whole program, over any float values, and reads every buffer at the end.
-/
module

public import proofs.«01_k».proof.Proof.LossRegion
public import proofs.«01_k».proof.Proof.Gen.LossIdeal.Regions
public import Idealize.ShloMosaic.Lib.StableHlo.CollectiveRules
public import Idealize.ShloMosaic.Lib.Pipeline.Regions
public import Idealize.ShloMosaic.Lib.Pipeline.CollectiveSegs
public import Idealize.ShloMosaic.Lib.Pipeline.Kit
public import Idealize.ShloMosaic.Lib.Tactic

@[expose] public section

noncomputable section

namespace Cert.LossSum

open Cert.LossIdeal Cert.LossIdeal.Gen
open Cert.LossIdeal.Gen.Sites (L lv)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {F : FTy → Type} [FloatOps F]

/-- The staging's component of the algebra beside the sum's. -/
abbrev UL : Type := UR sig nD τ × Sites.UC

local notation "𝕄" => MT nD τ sig ℕ (Elt F) ℕ UL ℕ

abbrev EP : Emb (UR sig nD τ) (MT nD τ sig ℕ (Elt F) ℕ UL ℕ) := embL
abbrev EC : Emb Sites.UC (MT nD τ sig ℕ (Elt F) ℕ UL ℕ) := embR

variable (m : (ℓ : Loc nD τ sig) → Buf (Elt F) ℓ) (ρ : Dev nD → PrngReg)

/-- A device's buffers at the launch. -/
def at0 (c : Dev nD) : Valuation τ sig (Elt F) := fun b => m (c, b)
/-- The call's arrays at its entry. -/
def arr0 (c : Dev nD) (w : Fin cfg0.W) : Buf (Elt F) ((cfg0.win w).arr.view.loc (c : Thread nD τ)) := at0 m c (Proc.devRef .tc (arrRef spec0 w))
/-- What a device owes until the sum over the devices. -/
abbrev O₀ (c : Dev nD) : CellTallies nD τ sig ℕ := Sites.O0 (F := F) c
/-- The call's data. -/
def dat0 (c : Dev nD) : Dat τ (Elt F) ℕ ℕ UL ℕ cfg0 c := lossDat (arr0 m) (O₀ (F := F)) c
def at1 (c : Dev nD) : Valuation τ sig (Elt F) := afterRegion (dat0 m c) (at0 m c)
def at2 (c : Dev nD) : Valuation τ sig (Elt F) := StableHlo.after hostOps1 (at1 m c)
def at3 (c : Dev nD) : Valuation τ sig (Elt F) := (ar0 (F := F)).after₀ (at2 m) c

abbrev adm : (p : Fin 1) → (pcfgs (F := F) p).Adm := fun p => (cfgs p).toPCfg_adm
abbrev 𝒱₀ : Variants := Variants.none

def pdats : (p : Fin 1) → (c : Dev nD) → Dat τ (Elt F) ℕ ℕ UL ℕ (Pipeline.pin (pcfgs (F := F)) adm p) c
  | 0, c => dat0 m c

/-- What rides to the sum over the devices. -/
abbrev ride (c : Dev nD) : sProp 𝕄 := Sites.rides0 EC (at2 m) c
/-- The records that the sum's cells are under their invariants. -/
abbrev invs : sProp 𝕄 := iprop(∃ κ, (AllReduce.Dat.once (ar0 (F := F)) (at2 m)).cellInvs (Sites.E0 EC) κ)

local notation "ℍ" => Pipeline.HostSeg (Name := ℕ) (U := UL) (pcfgs (F := F)) defs₀ 𝒱₀ L lv
local notation "ℝ𝕊" => Pipeline.RegionSeg (pcfgs (F := F)) adm (pdats m) 0 defs₀ 𝒱₀ L lv

theorem cut0 : LevelCut (pcfgs (F := F)) adm 0 L lv 0 (fun c => O₀ (F := F) c) (fun _ => 0) :=
  ⟨fun _ _ _ => Sites.mem_L _ _ (by decide), fun _ _ _ => le_refl _, fun _ _ _ hg => ⟨(Sites.O0_pos hg).1, (Sites.O0_pos hg).2⟩⟩

/-- The call, the generator register and what rides to the sum passing by. -/
def region0 : ℝ𝕊 0 :=
  RegionSeg.ofHeldIn (pcfgs (F := F)) adm (pdats m) 0 defs₀ 𝒱₀ L lv 0 (fun c => O₀ (F := F) c) (ucRefs τ sig) (fun _ => iprop(emp)) (fun _ => iprop(emp)) launch0.toP rfl
    (fun c => (obligation (V := arr0 m) (O := O₀ (F := F)) (c := c) (𝒱₀ := 𝒱₀) (ι := 0)).loose) (fun c t => rfl) (fun c => rfl)
    (fun c w => by show (dat0 m c).share w = _; unfold Dat.share dat0 lossDat; split <;> rfl)
    (fun c => by
      show _ ⊢ scopedRest cfg0.spec c
      iintro ⟨H, -⟩
      iexact H)
    (fun c => by
      show scopedRest cfg0.spec c ⊢ _
      iintro H
      isplitl [H]; · iexact H
      iempintro)
    (fun _ => 0) (cut0) (fun c => iprop((∃ r, prngReg c r) ∗ ride m c)) (at0 m) (fun c w => rfl)

/-- The host's scaling. -/
def host1 : ℍ :=
  HostSeg.ofOps _ _ _ _ _ (ucRefs τ sig) hostOps1 (fun op h => sub_ucRefs op ((List.forall_iff_forall_mem.mp hostOps1_sub) op h))
    (fun op h => (List.forall_iff_forall_mem.mp hostOps1_fresh) op h) (at1 m) (fun c => Sites.Es EC (at2 m) 0 c)
/-- The sum over the devices. -/
def sum2 : ℍ := Sites.seg0 EC 𝒱₀ (at2 m) (Sites.Rest0 (at2 m) fun _ => invs m)

def segs : List (Pipeline.Seg (pcfgs (F := F)) adm (pdats m) 0 defs₀ 𝒱₀ L lv) := [.region (region0 m), .host (host1 m), .host (sum2 m)]

theorem main_eq (c : Dev nD) : main (F := F) c = Pipeline.Seg.run (segs m) := main_segs adm (pdats m) 0 𝒱₀ L lv (host1 m) (sum2 m) (region0 m) rfl rfl c

theorem region0_host1 (c : Dev nD) : (region0 m).post c ⊢ (host1 (F := F) m).pre c := by
  refine (RegionSeg.ofHeldIn_post (arrRefs_sub_ucRefs _ winFacts0.arr_unscoped) c).trans ?_
  refine BI.Entails.trans ?_ (BI.Entails.refl iprop(StableHlo.held (c : Thread nD τ) (ucRefs τ sig) (at1 m c) ∗ Sites.Es EC (at2 m) 0 c))
  rw [Sites.Es_0]
  refine (?_ : _ ⊢ (_ : sProp 𝕄))
  iintro ⟨H, HO, -, Hp, Hr⟩
  isplitl [H]; · iexact H
  isplitl [HO]; · iexact HO
  isplitl [Hp] <;> iassumption

theorem host1_sum2 (c : Dev nD) : (host1 m).post c ⊢ (sum2 (F := F) m).pre c := by
  refine BI.Entails.trans ?_ (Sites.pre0 EC 𝒱₀ (at2 m) (fun _ => invs m) c)
  refine BI.Entails.trans (BI.Entails.refl iprop(StableHlo.held (c : Thread nD τ) (ucRefs τ sig) (at2 m c) ∗ Sites.Es EC (at2 m) 0 c)) ?_
  rw [Sites.Es_0]
  refine (?_ : _ ⊢ (_ : sProp 𝕄))
  iintro ⟨H, HO, Hp, Hr⟩
  ihave #Hi := (show (AllReduce.Dat.once (ar0 (F := F)) (at2 m)).rides (Sites.E0 EC) c 1 2 ⊢ invs m from by unfold AllReduce.Dat.rides; iintro ⟨Hi, -⟩; iexact Hi) $$ Hr
  isplitl [H]; · iexact H
  isplitl [HO Hp Hr]
  · isplitl [HO]; · iexact HO
    isplitl [Hp] <;> iassumption
  iexact Hi

/-- What a device ends with. -/
abbrev Tₙ (c : Dev nD) : sProp 𝕄 :=
  iprop(StableHlo.held (c : Thread nD τ) (ucRefs τ sig) (at3 m c) ∗ (invs m ∗ (ar0 (F := F)).ghostAfter (Sites.E0 EC) c 0))

theorem sum2_Tₙ (c : Dev nD) : (sum2 (F := F) m).post c ⊢ iprop(Tₙ m c ∗ ∃ W, owes (c : Thread nD τ) (0 : CellTallies nD τ sig ℕ) W) := by
  refine (Sites.post0 EC 𝒱₀ (at2 m) (fun _ => invs m) c).trans ?_
  refine (?_ : _ ⊢ (_ : sProp 𝕄))
  iintro ⟨H, HE, Hg, Hi⟩
  ihave HO := (Sites.hE_last EC (at2 m) c) $$ HE
  isplitr [HO]
  · isplitl [H]; · iexact H
    isplitl [Hi] <;> iassumption
  iexact HO

/-- The launch element. -/
def u₀ : UL :=
  (initOf (Pipeline.cells (Pipeline.pin (pcfgs (F := F)) adm) cellOf_inj) (Pipeline.launchToks (Pipeline.pin (pcfgs (F := F)) adm) cellOf_inj),
    Sites.uC (U := UL) (at2 m))

/-- What a device starts with. -/
abbrev T₀ (c : Dev nD) : sProp 𝕄 :=
  iprop(StableHlo.held (c : Thread nD τ) (ucRefs τ sig) (at0 m c) ∗ Sites.Es EC (at2 m) 0 c)

theorem T₀_region0 (c : Dev nD) : T₀ m c ⊢ (region0 (F := F) m).pre c := by
  refine BI.Entails.trans ?_ (RegionSeg.ofHeldIn_pre (arrRefs_sub_ucRefs _ winFacts0.arr_unscoped) c)
  unfold T₀
  rw [Sites.Es_0]
  refine (?_ : _ ⊢ (_ : sProp 𝕄))
  iintro ⟨H, HO, Hp, Hr⟩
  isplitl [H]; · iexact H
  isplitl [HO]; · iexact HO
  isplitr; · iempintro
  isplitl [Hp] <;> iassumption

theorem init :
    iprop((bigSep Finset.univ fun c : Dev nD => iprop(unscopedBufs c (fun b => m ((c : Thread nD τ).loc b)) ∗ unscopedSems0 c
          ∗ owes (c : Thread nD τ) (O₀ (F := F) c) ∅ ∗ Pipeline.launchCred (O₀ (F := F)) c ∗ prngReg c (ρ c) ∗ Sites.G EC (at2 m) c)) ∗ levAts L lv)
      ⊢ (|={Set.univ}=> bigSep Finset.univ (T₀ m) : sProp 𝕄) := by
  iintro ⟨H, Hl⟩
  ihave H' := (show _ ⊢ iprop((bigSep Finset.univ fun c : Dev nD => StableHlo.held (c : Thread nD τ) (ucRefs τ sig) (at0 m c))
        ∗ bigSep Finset.univ fun c : Dev nD => iprop(unscopedSems0 c ∗ owes (c : Thread nD τ) (O₀ (F := F) c) ∅ ∗ Pipeline.launchCred (O₀ (F := F)) c ∗ prngReg c (ρ c) ∗ Sites.G EC (at2 m) c))
      from by
        rw [← bigSep_sep']
        refine bigSep_mono fun c _ => ?_
        rw [← unscopedBufs_held c (at0 m c)]
        exact BI.Entails.refl _) $$ H
  icases H' with ⟨Hh, Hk⟩
  imod (Sites.hE0 EC (at2 m) ρ) $$ [Hk Hl] with HE
  · isplitl [Hk] <;> iassumption
  imodintro
  iapply (show iprop((bigSep Finset.univ fun c : Dev nD => StableHlo.held (c : Thread nD τ) (ucRefs τ sig) (at0 m c))
        ∗ bigSep Finset.univ (Sites.Es EC (at2 m) 0))
      ⊢ bigSep Finset.univ (T₀ m) from by rw [← bigSep_sep'])
  isplitl [Hh] <;> iassumption

set_option backward.isDefEq.respectTransparency.types false in
/-- The whole program: every buffer of every device ends at `at3`, every semaphore at zero. -/
theorem run_main : θ_run (defs (F := F)) (onTc (τ := τ) (main (F := F))) ⟨m, fun _ => 0, ρ⟩
    (fun r => (∀ c : Dev nD, ∀ b ∈ ucRefs τ sig, r.2.mem (c, b) = at3 m c b) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀ (F := F)) (hL := Sites.hL) (G := Sites.G EC (at2 m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨T₀_region0 m, region0_host1 m, host1_sum2 m, sum2_Tₙ m⟩)
    (hinit := init m ρ)
    (QY := fun c s => (∀ b ∈ ucRefs τ sig, s.mem (c, b) = at3 m c b)
      ∧ (s.sem ((ar0 (F := F)).barrierCell c) = 0 ∧ s.sem ((ar0 (F := F)).recvCell c) = 0 ∧ s.sem ((ar0 (F := F)).sendCell c) = 0))
    (hfin := fun c s' => by
      unfold Tₙ StableHlo.held
      iintro ⟨⟨Hx, Hea⟩, HSI⟩
      ihave Hh := (pointsTo_read_all (ucRefs τ sig) (fun b => ((c.tc : Thread nD τ).1, b)) (at3 m c) s') $$ [Hx HSI]
      · isplitl [Hx] <;> iassumption
      icases Hh with ⟨%hx, HSI⟩
      imod ((AllReduce.Dat.once (ar0 (F := F)) (at2 m)).ghostAfter_read (Sites.E0 EC) c (k := 0) le_rfl s') $$ [Hea HSI] with ⟨%ha, HSI⟩
      · isplitl [Hea] <;> iassumption
      imodintro
      isplitr; · ipureintro; exact ⟨hx, ha⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.LossSum
-- ==== Proof.LossFrame.lean ====
/-
The loss's program leaves its arguments as they were: the call writes its own results only, the host's lines theirs, and the sum over the devices its result and
its staging. The printed program and the idealized one are one text, so one run gives both frames.
-/
module

public import proofs.«01_k».proof.Defs
public import proofs.«01_k».proof.Proof.LossRun
public import proofs.«01_k».proof.Proof.Gen.Loss
public import proofs.«01_k».proof.Proof.Gen.LossIdeal
public import proofs.«01_k».proof.Proof.Gen.PlainLossIdeal
public import proofs.«01_k».proof.Proof.Gen.PlainLossIdeal.Run
public import Idealize.ShloMosaic.Lib.Pipeline.RegionArraysS

@[expose] public section

noncomputable section

namespace Cert.LossSum

open Cert.LossIdeal Cert.LossIdeal.Gen
open Idealize.ShloMosaic Idealize.SL.Sem
open Idealize.ShloMosaic.Pipeline
open TcCoe

variable {F : FTy → Type} [FloatOps F] (m : (ℓ : Loc nD τ sig) → Buf (Elt F) ℓ) (c : Dev nD)

/-- The buffers that the sum over the devices writes. -/
abbrev sumWrites : List (Ref sig .tc) := [main_v5, main_v5_s0, main_v5_s1, main_v5_s2, main_v5_s3, main_v5_s4, main_v5_s5, main_v5_s6, main_v5_s7]

/-- The sum leaves every other buffer. -/
theorem at3_keeps (r : Ref sig .tc) (h : r ∉ sumWrites) : at3 m c (Proc.devRef .tc r) = at2 m c (Proc.devRef .tc r) :=
  (ar0 (F := F)).after₀_of_notMem (at2 m) c (b := Proc.devRef .tc r) fun hb => by
    rcases Finset.mem_insert.mp hb with hb | hb
    · exact h (Proc.devRef_injective _ hb ▸ (by decide : main_v5 ∈ sumWrites))
    · obtain ⟨j, hj⟩ := (ar0 (F := F)).mem_stageRefs.mp hb
      exact h (Proc.devRef_injective _ hj ▸ (by decide : ∀ j : Fin 8, ar0_stage j ∈ sumWrites) j)

/-- The host's lines leave what they do not write. -/
theorem at2_keeps (r : Ref sig .tc) (h : r ∉ hostOps1_W) : at2 m c (Proc.devRef .tc r) = at1 m c (Proc.devRef .tc r) :=
  StableHlo.after_of_writes_sub hostOps1 _ hostOps1_writes h

/-- The call leaves what is none of its results. -/
theorem at1_keeps (r : Ref sig .tc) (h : ∀ w, arrRef spec0 w = r → (cfg0.win w).isOut = false) : at1 m c (Proc.devRef .tc r) = m (c, Proc.devRef .tc r) :=
  afterRegion_keeps (dat0 m c) (at0 m c) launch0.win.arr_inj (fun _ => rfl) r h

/-- An argument at the end. -/
theorem arg_kept (r : Ref sig .tc) (h : r ∉ sumWrites) (h' : r ∉ hostOps1_W) (h'' : ∀ w, arrRef spec0 w = r → (cfg0.win w).isOut = false) :
    at3 m c (Proc.devRef .tc r) = m (c, Proc.devRef .tc r) :=
  (at3_keeps m c r h).trans ((at2_keeps m c r h').trans (at1_keeps m c r h''))

/-- A buffer of the chip that outlives the call. -/
theorem mem_uc (r : Ref sig .tc) (h : r.isScoped = false) : (Proc.devRef .tc r : DevRef τ sig) ∈ ucRefs τ sig :=
  Finset.mem_filter.mpr ⟨StableHlo.devRef_mem_tcRefs r, by simpa using h⟩

variable {m} in
/-- The arguments where the program ends. -/
theorem args_end {r' : (ℓ : Loc nD τ sig) → Buf (Elt F) ℓ} (h : ∀ c : Dev nD, ∀ b ∈ ucRefs τ sig, r' (c, b) = at3 m c b) :
    r' ((c.tc : Thread nD τ).loc main_arg0) = m ((c.tc : Thread nD τ).loc main_arg0)
      ∧ r' ((c.tc : Thread nD τ).loc main_arg1) = m ((c.tc : Thread nD τ).loc main_arg1)
      ∧ r' ((c.tc : Thread nD τ).loc main_arg2) = m ((c.tc : Thread nD τ).loc main_arg2)
      ∧ r' ((c.tc : Thread nD τ).loc main_arg3) = m ((c.tc : Thread nD τ).loc main_arg3) :=
  ⟨(h c _ (mem_uc main_arg0 rfl)).trans (arg_kept m c main_arg0 (by decide) (by decide) (by decide +kernel)),
    (h c _ (mem_uc main_arg1 rfl)).trans (arg_kept m c main_arg1 (by decide) (by decide) (by decide +kernel)),
    (h c _ (mem_uc main_arg2 rfl)).trans (arg_kept m c main_arg2 (by decide) (by decide) (by decide +kernel)),
    (h c _ (mem_uc main_arg3 rfl)).trans (arg_kept m c main_arg3 (by decide) (by decide) (by decide +kernel))⟩

/-- The frame, over any float values. -/
theorem frame_any (g : Dev nD → PrngReg) : θ_run (defs (F := F)) (onTc main) ⟨m, fun _ => 0, g⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run (defs (F := F)) _ _).mono (fun r h => ⟨fun c => args_end c h.1, h.2⟩) (run_main m g)

set_option maxHeartbeats 4000000 in
/-- The kernel of the printed program is the same text. -/
theorem kernels_same : Cert.Loss.defs₀ (F := F) = Cert.LossIdeal.defs₀ (F := F) := by
  unfold Cert.Loss.defs₀ Cert.LossIdeal.defs₀
  refine congrArg Defs.onTc (funext fun l => funext fun a => ?_)
  match l, a with
  | 0, (t, s) => rfl

set_option maxHeartbeats 4000000 in
theorem table_same : Cert.Loss.defs (F := F) = Cert.LossIdeal.defs (F := F) := by
  unfold Cert.Loss.defs Cert.LossIdeal.defs
  rw [kernels_same]; rfl

set_option maxHeartbeats 4000000 in
theorem main_same (F : FTy → Type) [FloatOps F] : Cert.Loss.main (F := F) = Cert.LossIdeal.main := rfl

set_option maxHeartbeats 4000000 in
/-- The printed program runs and leaves its arguments and semaphores as they were. -/
theorem frame_bits : Cert.quiescent_Loss := by
  intro m ρ _
  rw [table_same (F := Bits), main_same]
  exact frame_any (F := Bits) m ρ

/-- So does the idealized one. -/
theorem frame_ideal : Cert.quiescent_LossIdeal := fun m ρ _ => frame_any (F := Ideal) m ρ

/-- So does the plain one, which has no semaphores. -/
theorem frame_plain : Cert.quiescent_PlainLossIdeal := fun m ρ _ =>
  (θ_run Cert.PlainLossIdeal.defs _ _).mono (fun r h => ⟨fun c => (h c).2, sem_eq_zero_of_no_sems (by decide) r.2⟩)
    (Cert.PlainLossIdeal.Value.run m ρ)

end Cert.LossSum

end
-- ==== Proof.LossRow.lean ====
/-
One point's share of the loss: the squares of its 512 rows of differences, added over rows and columns, and what the host does with a sum of squares.
-/
module

public import proofs.«01_k».proof.Proof.Gen.LossIdeal.Skeleton
public import proofs.«01_k».proof.Proof.Gen.PlainLossIdeal.Read
public import Idealize.ShloMosaic.Lib.Pointwise
public import Idealize.ShloMosaic.Lib.Pipeline.ValueKit

@[expose] public section

set_option maxRecDepth 16384

noncomputable section

namespace Cert.LossSum

open Idealize.ShloMosaic LossIdeal.Gen

variable {A0 : FVec Ideal ⟨2, ![131072, 4096]⟩ .bf16} {A1 : FVec Ideal ⟨2, ![4096, 1024]⟩ .bf16} {A2 A3 : FVec Ideal ⟨2, ![131072, 1024]⟩ .f32}
  {v2 : FVec Ideal ⟨2, ![512, 4096]⟩ .bf16} {v0 v8 : FVec Ideal ⟨2, ![512, 1024]⟩ .f32} {i : Fin 512} {R : Fin 131072}

/-- A row of a block's differences is the plain one. -/
theorem diff (h2 : ∀ k, v2 (ix2 i k) = A0 (ix2 R k)) (h0 : ∀ k, v0 (ix2 i k) = A2 (ix2 R k)) (h8 : ∀ k, v8 (ix2 i k) = A3 (ix2 R k)) (j : Fin 1024) :
    k0_pay1 (F := Ideal) v0 v2 A1 v8 (ix2 i j) = PlainLossIdeal.Read.val_main_v4 (F := Ideal) A0 A1 A2 A3 (ix2 R j) := by
  pointwise [k0_pay1, PlainLossIdeal.Read.val_main_v0, PlainLossIdeal.Read.val_main_v1, PlainLossIdeal.Read.val_main_v2, PlainLossIdeal.Read.val_main_v3, PlainLossIdeal.Read.val_main_v4]
  simp only [h2, h0, h8]

/-- A block's squares added into the sum so far. -/
theorem add_block (v0 : FVec Ideal ⟨2, ![512, 1024]⟩ .f32) (v2 : FVec Ideal ⟨2, ![512, 4096]⟩ .bf16) (v4 : FVec Ideal ⟨2, ![4096, 1024]⟩ .bf16)
    (v8 : FVec Ideal ⟨2, ![512, 1024]⟩ .f32) (acc : FVec Ideal ⟨2, ![1, 1]⟩ .f32) :
    k0_pay5 (F := Ideal) v0 v2 v4 v8 acc (ix2 0 0)
      = acc (ix2 0 0) + ∑ j : Fin 1024, ∑ i : Fin 512, k0_pay1 (F := Ideal) v0 v2 v4 v8 (ix2 i j) * k0_pay1 (F := Ideal) v0 v2 v4 v8 (ix2 i j) := by
  generalize hy : k0_pay1 (F := Ideal) v0 v2 v4 v8 = y
  unfold k0_pay5
  rw [hy]
  pointwise

/-- The sum starts from zero. -/
theorem from_zero : k0_pay4 (F := Ideal) (ix2 0 0) = 0 := by
  pointwise [k0_pay4]

/-- A square is not negative, infinities included. -/
theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- The plain squares of one row, added up. -/
def rowSquares (A0 : FVec Ideal ⟨2, ![131072, 4096]⟩ .bf16) (A1 : FVec Ideal ⟨2, ![4096, 1024]⟩ .bf16) (A2 A3 : FVec Ideal ⟨2, ![131072, 1024]⟩ .f32) (R : Fin 131072) : EReal :=
  ∑ j : Fin 1024, PlainLossIdeal.Read.val_main_v4 (F := Ideal) A0 A1 A2 A3 (ix2 R j) * PlainLossIdeal.Read.val_main_v4 (F := Ideal) A0 A1 A2 A3 (ix2 R j)

theorem rowSquares_nonneg (R : Fin 131072) : 0 ≤ rowSquares A0 A1 A2 A3 R := Finset.sum_nonneg fun _ _ => square_nonneg _

/-- Half of a sum of squares, by the number of columns. -/
def scaled (x : EReal) : EReal := Ideal.div (Ideal.ofBits .f32 0x3F000000#32 * x) (Ideal.ofBits .f32 0x44800000#32)

/-- The number of columns is not zero. -/
theorem columns_ne : Ideal.ofBits .f32 0x44800000#32 ≠ 0 := by
  simp [Ideal.ofBits, Ideal.ieee]

/-- It is one factor times the sum. -/
theorem scaled_eq (x : EReal) : scaled x = (Ideal.ofBits .f32 0x3F000000#32 * (Ideal.ofBits .f32 0x44800000#32)⁻¹) * x := by
  unfold scaled Ideal.div
  rw [if_neg columns_ne, mul_assoc, mul_assoc, mul_comm x]

/-- The scaled sums of nonnegative terms add up to the scaled sum. -/
theorem scaled_sum (f : Fin 8 → EReal) (h : ∀ c, 0 ≤ f c) :
    scaled (f 0) + scaled (f 1) + scaled (f 2) + scaled (f 3) + scaled (f 4) + scaled (f 5) + scaled (f 6) + scaled (f 7) = scaled (∑ c, f c) := by
  simp only [scaled_eq, Fin.sum_univ_eight]
  have d := fun (a : EReal) (c : Fin 8) (ha : 0 ≤ a) =>
    (EReal.left_distrib_of_nonneg (c := Ideal.ofBits .f32 0x3F000000#32 * (Ideal.ofBits .f32 0x44800000#32)⁻¹) ha (h c)).symm
  have n1 := add_nonneg (h 0) (h 1)
  have n2 := add_nonneg n1 (h 2)
  have n3 := add_nonneg n2 (h 3)
  have n4 := add_nonneg n3 (h 4)
  have n5 := add_nonneg n4 (h 5)
  have n6 := add_nonneg n5 (h 6)
  rw [d _ 1 (h 0), d _ 2 n1, d _ 3 n2, d _ 4 n3, d _ 5 n4, d _ 6 n5, d _ 7 n6]

/-- A factor goes into a sum of nonnegative terms. -/
theorem mul_sum_nonneg {ι : Type} (k : EReal) (f : ι → EReal) (h : ∀ i, 0 ≤ f i) (s : Finset ι) : ∑ i ∈ s, k * f i = k * ∑ i ∈ s, f i := by
  classical
  induction s using Finset.induction_on with
  | empty => simp
  | insert a s ha ih =>
    rw [Finset.sum_insert ha, Finset.sum_insert ha, ih, EReal.left_distrib_of_nonneg (h a) (Finset.sum_nonneg fun i _ => h i)]

/-- A row's mean of the plain squares. -/
theorem plain_mean (R : Fin 131072) : PlainLossIdeal.Read.val_main_v8 (F := Ideal) A0 A1 A2 A3 (ix1 R)
    = (Ideal.ofBits .f32 0x44800000#32)⁻¹ * rowSquares A0 A1 A2 A3 R := by
  have e : PlainLossIdeal.Read.val_main_v6 (F := Ideal) A0 A1 A2 A3 (ix1 R) = rowSquares A0 A1 A2 A3 R := by
    refine (PlainLossIdeal.Read.val_main_v6_apply _ _ _ _ _).trans ?_
    rw [PlainLossIdeal.Read.val_main_cst_apply]
    show Ideal.ofBits .f32 0 + _ = _
    rw [show Ideal.ofBits .f32 0 = 0 from Ideal.ofBits_zero .f32, zero_add]
    refine Finset.sum_congr rfl fun j _ => ?_
    have ej : PlainLossIdeal.Read.idx_main_v6 (ix1 R) j = ix2 R j := by
      funext a
      fin_cases a <;> rfl
    rw [ej]
    rfl
  show Ideal.div (PlainLossIdeal.Read.val_main_v6 (F := Ideal) A0 A1 A2 A3 (ix1 R)) (Ideal.ofBits .f32 0x44800000#32) = _
  rw [e]
  unfold Ideal.div
  rw [if_neg columns_ne, mul_comm]

/-- The plain loss: half the sum of the rows' means is the scaled sum of all squares. -/
theorem plain_scaled (i : (⟨0, ![]⟩ : Shape).Idx) :
    PlainLossIdeal.Read.val_main_v10 (F := Ideal) A0 A1 A2 A3 i = scaled (∑ R : Fin 131072, rowSquares A0 A1 A2 A3 R) := by
  have e : PlainLossIdeal.Read.val_main_v9 (F := Ideal) A0 A1 A2 A3 i = (Ideal.ofBits .f32 0x44800000#32)⁻¹ * ∑ R : Fin 131072, rowSquares A0 A1 A2 A3 R := by
    refine (PlainLossIdeal.Read.val_main_v9_apply _ _ _ _ _).trans ?_
    rw [PlainLossIdeal.Read.val_main_cst_1_apply]
    show Ideal.ofBits .f32 0 + _ = _
    rw [show Ideal.ofBits .f32 0 = 0 from Ideal.ofBits_zero .f32, zero_add, sum_idx1]
    refine Eq.trans (Finset.sum_congr rfl fun R _ => plain_mean R) ?_
    exact mul_sum_nonneg _ _ rowSquares_nonneg _
  show Ideal.ofBits .f32 0x3F000000#32 * PlainLossIdeal.Read.val_main_v9 (F := Ideal) A0 A1 A2 A3 i = _
  rw [e, scaled_eq, mul_assoc]

end Cert.LossSum

end
-- ==== Proof.LossValue.lean ====
/-
The loss: each device's points add up the squares of its own rows, the host scales that sum, and the sum over the devices is the scaled sum over all rows.
-/
module

public import proofs.«01_k».proof.Proof.LossFrame
public import proofs.«01_k».proof.Proof.LossRow
public import Idealize.ShloMosaic.Lib.Layout

@[expose] public section

set_option maxRecDepth 16384

noncomputable section

namespace Cert.LossSum

open Cert.LossIdeal Cert.LossIdeal.Gen Cert.Windowed
open Idealize.ShloMosaic Idealize.SL.Sem
open Idealize.ShloMosaic.Pipeline
open TcCoe

variable (m : (ℓ : Loc nD τ sig) → Buf (Elt Ideal) ℓ) (c : Dev nD)

/-- Which block each input's window reads at a point, none of them cut. -/
theorem index_in : ∀ t : Fin cfg0.N, win0_0.index t = ![t.val, 0] ∧ win0_1.index t = ![0, 0] ∧ win0_2.index t = ![t.val, 0] ∧ win0_3.index t = ![t.val, 0] := by
  decide +kernel
theorem size_in : ∀ (t : Fin cfg0.N) (w : Fin cfg0.W) a, (cfg0.win w).xsize (cfg0.grid.coords t) a = (cfg0.win w).size a := by decide +kernel

/-- A row of the hidden activations' block. -/
theorem block_hdn (t : Fin cfg0.N) (i : Fin 512) (R : Fin 16384) (h : R.val = t.val * 512 + i.val) (k : Fin 4096) :
    (block (arr0 m c) t 0 : S512x4096.Idx → Elt Ideal .bf16) (ix2 i k) = m ((c.tc : Thread nD τ).loc main_arg0) (ix2 R k) :=
  block_at _ t 0 (size_in t 0) rfl (ix2 i k : S512x4096.Idx) (ix2 R k : S16384x4096.Idx) fun a => by
    show _ = win0_0.index t a * _ + _
    rw [(index_in t).1]
    fin_cases a
    · exact h
    · exact (Nat.zero_add _).symm.trans (congrArg (· + _) (Nat.zero_mul _).symm)

/-- The weight's block is the whole array. -/
theorem block_w (t : Fin cfg0.N) : (block (arr0 m c) t 1 : S4096x1024.Idx → Elt Ideal .bf16) = m ((c.tc : Thread nD τ).loc main_arg1) := by
  funext y
  refine block_at _ t 1 (size_in t 1) rfl y y fun a => ?_
  show _ = win0_1.index t a * _ + _
  rw [(index_in t).2.1]
  fin_cases a <;> exact (Nat.zero_add _).symm.trans (congrArg (· + _) (Nat.zero_mul _).symm)

/-- A row of the residual's block. -/
theorem block_x2 (t : Fin cfg0.N) (i : Fin 512) (R : Fin 16384) (h : R.val = t.val * 512 + i.val) (k : Fin 1024) :
    (block (arr0 m c) t 2 : S512x1024.Idx → Elt Ideal .f32) (ix2 i k) = m ((c.tc : Thread nD τ).loc main_arg2) (ix2 R k) :=
  block_at _ t 2 (size_in t 2) rfl (ix2 i k : S512x1024.Idx) (ix2 R k : S16384x1024.Idx) fun a => by
    show _ = win0_2.index t a * _ + _
    rw [(index_in t).2.2.1]
    fin_cases a
    · exact h
    · exact (Nat.zero_add _).symm.trans (congrArg (· + _) (Nat.zero_mul _).symm)

/-- A row of the target's block. -/
theorem block_tgt (t : Fin cfg0.N) (i : Fin 512) (R : Fin 16384) (h : R.val = t.val * 512 + i.val) (k : Fin 1024) :
    (block (arr0 m c) t 3 : S512x1024.Idx → Elt Ideal .f32) (ix2 i k) = m ((c.tc : Thread nD τ).loc main_arg3) (ix2 R k) :=
  block_at _ t 3 (size_in t 3) rfl (ix2 i k : S512x1024.Idx) (ix2 R k : S16384x1024.Idx) fun a => by
    show _ = win0_3.index t a * _ + _
    rw [(index_in t).2.2.2]
    fin_cases a
    · exact h
    · exact (Nat.zero_add _).symm.trans (congrArg (· + _) (Nat.zero_mul _).symm)

/-- Point `t`'s share of a device's sum. -/
def share (t : Fin cfg0.N) : EReal := ∑ j : Fin 1024, ∑ i : Fin 512,
  k0_pay1 (F := Ideal) (block (arr0 m c) t 2) (block (arr0 m c) t 0) (block (arr0 m c) t 1) (block (arr0 m c) t 3) (ix2 i j)
    * k0_pay1 (F := Ideal) (block (arr0 m c) t 2) (block (arr0 m c) t 0) (block (arr0 m c) t 1) (block (arr0 m c) t 3) (ix2 i j)

/-- The sum before point `n` is the shares of the points before it. -/
theorem total_shares (n : ℕ) : total (arr0 m) c n (ix2 0 0) = ∑ t ∈ Finset.range n, share m c (point t) := by
  induction n with
  | zero => exact from_zero
  | succ n ih =>
    rw [Finset.sum_range_succ, ← ih]
    exact add_block _ _ _ _ _

/-- The sum's array after the call. -/
theorem sum_after (j : S1x1.Idx) : at1 m c (Proc.devRef .tc main_v1_2) j = ∑ t : Fin 32, share m c (point t.val) := by
  have e : at1 m c (Proc.devRef .tc main_v1_2) = total (arr0 m) c 32 := by
    refine (afterRegion_arr (dat0 m c) (at0 m c) launch0.win.arr_inj 6).trans ?_
    refine (dat0 m c).arrAt_eq_of_after_last 6 (⟨31, by decide⟩ : Fin cfg0.N) (by decide +kernel) _ fun j => ?_
    show total (arr0 m) c 32 _ = total (arr0 m) c 32 _
    congr 1
  rw [e, show j = ix2 0 0 from funext fun a => by fin_cases a <;> exact Subsingleton.elim (α := Fin 1) _ _, total_shares,
    Fin.sum_univ_eq_sum_range (fun t => share m c (point t)) 32]

/-- What a device puts into the sum over the devices. -/
theorem operand_at2 (i : S_.Idx) : at2 m c (Proc.devRef .tc main_v4) i = scaled (∑ t : Fin 32, share m c (point t.val)) := by
  have e : at2 m c (Proc.devRef .tc main_v4) = Host.divf (F := Ideal) (mulf (constant S_ .f32 0x3F000000#32)
      (shapeCast S_ (at1 m c (Proc.devRef .tc main_v1_2)) shapeCasts_S1x1_S_)) (constant S_ .f32 0x44800000#32) := by
    unfold at2 hostOps1
    rfl
  rw [e]
  show scaled (at1 m c (Proc.devRef .tc main_v1_2) _) = _
  rw [sum_after]

/-- What a device with buffers `X` puts into the sum. -/
def put (X : Valuation τ sig (Elt Ideal)) (i : S_.Idx) : EReal := X (Proc.devRef .tc main_v4) i

/-- The sum over the devices, from any buffers. -/
theorem sum_devices (X : Dev nD → Valuation τ sig (Elt Ideal)) (c : Dev nD) (i : S_.Idx) : (ar0 (F := Ideal)).after₀ X c (Proc.devRef .tc main_v5) i
    = put (X 0) i + put (X 1) i + put (X 2) i + put (X 3) i + put (X 4) i + put (X 5) i + put (X 6) i + put (X 7) i := by
  refine (congrFun ((ar0 (F := Ideal)).after₀_result X c) i).trans ?_
  have hc : ∀ d : Dev nD, (ar0 (F := Ideal)).peer c d = d := by
    intro d
    have h : (ar0 (F := Ideal)).grp c = 0 := Subsingleton.elim (α := Fin 1) _ _
    unfold AllReduce.Cfg.peer
    rw [h]
    revert d
    decide
  simp only [hc]
  rfl

/-- The loss that a device ends with. -/
theorem result_at3 (i : S_.Idx) : at3 m c (Proc.devRef .tc main_v5) i
    = put (at2 m 0) i + put (at2 m 1) i + put (at2 m 2) i + put (at2 m 3) i + put (at2 m 4) i + put (at2 m 5) i + put (at2 m 6) i + put (at2 m 7) i :=
  sum_devices (at2 m) c i

/-- A device's sum of squares is not negative. -/
theorem share_nonneg (t : Fin cfg0.N) : 0 ≤ share m c t :=
  Finset.sum_nonneg fun _ _ => Finset.sum_nonneg fun _ _ => square_nonneg _

/-- The sum over the devices is the scaled sum of all their squares. -/
theorem result_scaled (i : S_.Idx) : at3 m c (Proc.devRef .tc main_v5) i = scaled (∑ d : Dev nD, ∑ t : Fin 32, share m d (point t.val)) := by
  have e : ∀ d : Dev nD, put (at2 m d) i = scaled (∑ t : Fin 32, share m d (point t.val)) := fun d => operand_at2 m d i
  rw [result_at3, e 0, e 1, e 2, e 3, e 4, e 5, e 6, e 7]
  exact scaled_sum (fun d => ∑ t : Fin 32, share m d (point t.val)) fun d => Finset.sum_nonneg fun _ _ => share_nonneg m d _

variable {m}
variable {A0 : FVec Ideal ⟨2, ![131072, 4096]⟩ .bf16} {A1 : FVec Ideal ⟨2, ![4096, 1024]⟩ .bf16} {A2 A3 : FVec Ideal ⟨2, ![131072, 1024]⟩ .f32}

/-- A row of the whole array, as the row of a device's block. -/
theorem whole_row {e : EltTy} {C : ℕ} (A : (⟨2, ![131072, C]⟩ : Shape).Idx → Elt Ideal e) (h : Layout.Tiles ⟨2, ![16384, C]⟩ ⟨2, ![131072, C]⟩ 0 8) (d : Fin 8) (r : Fin 16384) (R : Fin 131072)
    (hR : R.val = d.val * 16384 + r.val) (k : Fin C) : Layout.block ⟨2, ![16384, C]⟩ ⟨2, ![131072, C]⟩ 0 8 d A h (ix2 r k) = A (ix2 R k) := by
  show A _ = A _
  congr 1
  funext a
  apply Fin.ext
  rw [Layout.Tiles.idx_val]
  fin_cases a
  · exact hR.symm
  · rfl

theorem row_lt (d : Dev nD) (t : Fin 32) (i : Fin 512) : d.val * 16384 + (t.val * 512 + i.val) < 131072 := by
  have hd : d.val < 8 := d.isLt
  omega

/-- A point's share, in the plain differences of its rows. -/
theorem share_plain (d : Dev nD) (t : Fin 32)
    (h0 : m ((d.tc : Thread nD τ).loc main_arg0) = Layout.block ⟨2, ![16384, 4096]⟩ ⟨2, ![131072, 4096]⟩ 0 8 d A0)
    (h1 : m ((d.tc : Thread nD τ).loc main_arg1) = A1)
    (h2 : m ((d.tc : Thread nD τ).loc main_arg2) = Layout.block ⟨2, ![16384, 1024]⟩ ⟨2, ![131072, 1024]⟩ 0 8 d A2)
    (h3 : m ((d.tc : Thread nD τ).loc main_arg3) = Layout.block ⟨2, ![16384, 1024]⟩ ⟨2, ![131072, 1024]⟩ 0 8 d A3) :
    share m d (point t.val) = ∑ i : Fin 512, ∑ j : Fin 1024,
      PlainLossIdeal.Read.val_main_v4 (F := Ideal) A0 A1 A2 A3 (ix2 (⟨d.val * 16384 + (t.val * 512 + i.val), row_lt d t i⟩ : Fin 131072) j)
        * PlainLossIdeal.Read.val_main_v4 (F := Ideal) A0 A1 A2 A3 (ix2 (⟨d.val * 16384 + (t.val * 512 + i.val), row_lt d t i⟩ : Fin 131072) j) := by
  unfold share
  rw [Finset.sum_comm]
  have ht : (point t.val).val = t.val := Nat.mod_eq_of_lt t.isLt
  refine Finset.sum_congr rfl fun i _ => Finset.sum_congr rfl fun j _ => ?_
  have r : (⟨t.val * 512 + i.val, by omega⟩ : Fin 16384).val = (point t.val).val * 512 + i.val := by rw [ht]
  have e := diff (A0 := A0) (A1 := A1) (A2 := A2) (A3 := A3) (i := i) (R := ⟨d.val * 16384 + (t.val * 512 + i.val), row_lt d t i⟩)
    (fun k => (block_hdn m d (point t.val) i _ r k).trans ((congrFun h0 _).trans (whole_row (e := .bf16) A0 (by decide) d _ _ rfl k)))
    (fun k => (block_x2 m d (point t.val) i _ r k).trans ((congrFun h2 _).trans (whole_row (e := .f32) A2 (by decide) d _ _ rfl k)))
    (fun k => (block_tgt m d (point t.val) i _ r k).trans ((congrFun h3 _).trans (whole_row (e := .f32) A3 (by decide) d _ _ rfl k))) j
  rw [block_w m d, h1]
  exact congrArg₂ (fun a b : EReal => a * b) e e

/-- All the devices' shares are the plain sum of squares. -/
theorem shares_plain
    (h : ∀ d : Dev nD, m ((d.tc : Thread nD τ).loc main_arg0) = Layout.block ⟨2, ![16384, 4096]⟩ ⟨2, ![131072, 4096]⟩ 0 8 d A0
      ∧ m ((d.tc : Thread nD τ).loc main_arg1) = A1
      ∧ m ((d.tc : Thread nD τ).loc main_arg2) = Layout.block ⟨2, ![16384, 1024]⟩ ⟨2, ![131072, 1024]⟩ 0 8 d A2
      ∧ m ((d.tc : Thread nD τ).loc main_arg3) = Layout.block ⟨2, ![16384, 1024]⟩ ⟨2, ![131072, 1024]⟩ 0 8 d A3) :
    ∑ d : Dev nD, ∑ t : Fin 32, share m d (point t.val) = ∑ R : Fin 131072, rowSquares A0 A1 A2 A3 R := by
  let G : Fin 131072 → EReal := rowSquares A0 A1 A2 A3
  refine Eq.trans (Finset.sum_congr rfl fun d _ => ?_) (Fin.sum_mul_add_fin 8 16384 G)
  refine Eq.trans (Finset.sum_congr rfl fun t _ => share_plain d t (h d).1 (h d).2.1 (h d).2.2.1 (h d).2.2.2) ?_
  exact Fin.sum_mul_add_fin 32 512 fun r : Fin 16384 => G ⟨d.val * 16384 + r.val, by have hd : d.val < 8 := d.isLt; omega⟩

/-- Every device ends with the plain loss. -/
theorem value : Cert.algebraic_LossIdeal_PlainLossIdeal := by
  intro m g m' g' _ ag
  refine ⟨_, ?_, (θ_run Cert.PlainLossIdeal.defs _ _).mono (fun r h => h 0) (Cert.PlainLossIdeal.Value.run m' g')⟩
  refine (θ_run Cert.LossIdeal.defs _ _).mono (fun r h c => ⟨?_, args_end c h.1⟩) (run_main (F := Ideal) m g)
  refine (h.1 c _ (mem_uc main_v5 rfl)).trans ?_
  refine Eq.trans ?_ (Cert.PlainLossIdeal.Read.val_main_v10_eq ..).symm
  funext i
  refine (result_scaled m c i).trans ?_
  rw [shares_plain ag]
  exact (plain_scaled i).symm

end Cert.LossSum

end
-- ==== Proof.MlpRelu.lean ====
/-
The MLP's first product on one device: each block that a grid point writes, of the rectified product and of its square,
is a block of the plain array.
-/
module

public import proofs.«01_k».proof.Defs
public import proofs.«01_k».proof.Proof.Gen.MlpUp
public import proofs.«01_k».proof.Proof.Gen.MlpUp.Frame
public import proofs.«01_k».proof.Proof.Gen.PlainMlpUpIdeal
public import proofs.«01_k».proof.Proof.Gen.PlainMlpUpIdeal.Run
public import proofs.«01_k».proof.Proof.Gen.PlainMlpUpIdeal.Read
public import proofs.«01_k».proof.Proof.Gen.MlpUpIdeal
public import proofs.«01_k».proof.Proof.Gen.MlpUpIdeal.Frame
public import proofs.«01_k».proof.Proof.Gen.MlpUpIdeal.Skeleton
public import proofs.«01_k».proof.Proof.Gen.MlpUpIdeal.Value
public import Idealize.ShloMosaic.Lib.Pipeline.ValueKit
public import Idealize.ShloMosaic.Lib.Pointwise

@[expose] public section

set_option maxRecDepth 16384

noncomputable section

namespace Cert.MlpRelu

open Idealize.ShloMosaic MlpUpIdeal MlpUpIdeal.Gen

variable (m : (ℓ : Loc nD τ sig) → Buf (Elt Ideal) ℓ) (c : Dev nD)

/-- The normed residual. -/
abbrev hIn := m ((c.tc : Thread nD τ).loc main_arg0)
/-- The MLP's first weight. -/
abbrev wUp := m ((c.tc : Thread nD τ).loc main_arg1)

/-- Which block each window reads or writes at a point. -/
theorem idx : ∀ t : Fin cfg0.N, win0_0.index t = ![t.val / 4, 0] ∧ win0_1.index t = ![0, t.val % 4] ∧ win0_2.index t = ![t.val / 4, t.val % 4] ∧ win0_3.index t = ![t.val / 4, t.val % 4] := by decide +kernel

/-- A row of the normed residual's block is a row of the array. -/
theorem blk0 (t : Fin cfg0.N) (i : Fin 512) (R : Fin 16384) (h : R.val = t.val / 4 * 512 + i.val) (k : Fin 1024) :
    iblk m c 0 t (ix2 i k) = hIn m c (ix2 R k) := by
  blk_ext [iblk, V, idx t]

/-- A column of the weight's block is a column of the array. -/
theorem blk1 (t : Fin cfg0.N) (j : Fin 1024) (C : Fin 4096) (h : C.val = t.val % 4 * 1024 + j.val) (k : Fin 1024) :
    iblk m c 1 t (ix2 k j) = wUp m c (ix2 k C) := by
  blk_ext [iblk, V, idx t]

/-- A point's block of the rectified product is the plain one's. -/
theorem block2 (t : Fin cfg0.N) (i : Fin 512) (R : Fin 16384) (h : R.val = t.val / 4 * 512 + i.val) (j : Fin 1024) (C : Fin 4096) (h' : C.val = t.val % 4 * 1024 + j.val) :
    k0_pay2 (F := Ideal) (iblk m c 0 t) (iblk m c 1 t) (ix2 i j) = PlainMlpUpIdeal.Read.val_main_v4 (F := Ideal) (hIn m c) (wUp m c) (ix2 R C) := by
  have h0 := blk0 m c t i R h
  have h1 := blk1 m c t j C h'
  generalize iblk m c 0 t = v0 at h0 ⊢
  generalize iblk m c 1 t = v1 at h1 ⊢
  pointwise [k0_pay2, k0_pay1, PlainMlpUpIdeal.Read.val_main_v0, PlainMlpUpIdeal.Read.val_main_v1, PlainMlpUpIdeal.Read.val_main_v2, PlainMlpUpIdeal.Read.val_main_call0_cst, PlainMlpUpIdeal.Read.val_main_call0_v0, PlainMlpUpIdeal.Read.val_main_v3, PlainMlpUpIdeal.Read.val_main_v4, PlainMlpUpIdeal.Read.val_main_v5, PlainMlpUpIdeal.Read.val_main_v6]
  simp only [h0, h1]

/-- And of its square. -/
theorem block3 (t : Fin cfg0.N) (i : Fin 512) (R : Fin 16384) (h : R.val = t.val / 4 * 512 + i.val) (j : Fin 1024) (C : Fin 4096) (h' : C.val = t.val % 4 * 1024 + j.val) :
    k0_pay3 (F := Ideal) (iblk m c 0 t) (iblk m c 1 t) (ix2 i j) = PlainMlpUpIdeal.Read.val_main_v6 (F := Ideal) (hIn m c) (wUp m c) (ix2 R C) := by
  have h0 := blk0 m c t i R h
  have h1 := blk1 m c t j C h'
  generalize iblk m c 0 t = v0 at h0 ⊢
  generalize iblk m c 1 t = v1 at h1 ⊢
  pointwise [k0_pay3, k0_pay1, PlainMlpUpIdeal.Read.val_main_v0, PlainMlpUpIdeal.Read.val_main_v1, PlainMlpUpIdeal.Read.val_main_v2, PlainMlpUpIdeal.Read.val_main_call0_cst, PlainMlpUpIdeal.Read.val_main_call0_v0, PlainMlpUpIdeal.Read.val_main_v3, PlainMlpUpIdeal.Read.val_main_v4, PlainMlpUpIdeal.Read.val_main_v5, PlainMlpUpIdeal.Read.val_main_v6]
  simp only [h0, h1]

/-- The rectified product's array after the run is the plain one. -/
theorem result2 : (dats m 0 c).arrAt 2 cfg0.N = PlainMlpUpIdeal.Read.val_main_v4 (F := Ideal) (hIn m c) (wUp m c) := by
  refine (dats m 0 c).arrAt_eq_of_covers 2 _ (by decide +kernel) fun t hf y => ?_
  have hb : (y 0).val < 512 := (y 0).isLt
  have hb' : (y 1).val < 1024 := (y 1).isLt
  have ht : t.val < 128 := t.isLt
  have e : (((cfg0.win 2).blk t).view.emb y) = ix2 (⟨t.val / 4 * 512 + (y 0).val, by omega⟩ : Fin 16384) (⟨t.val % 4 * 1024 + (y 1).val, by omega⟩ : Fin 4096) := by
    blk_ext [idx t]
  have ey : y = ix2 (y 0 : Fin 512) (y 1 : Fin 1024) := by blk_ext
  have key := block2 m c t (y 0 : Fin 512) ⟨t.val / 4 * 512 + (y 0).val, by omega⟩ rfl (y 1 : Fin 1024) ⟨t.val % 4 * 1024 + (y 1).val, by omega⟩ rfl
  rw [e]
  blk_simp
  rw [after0_2]
  frame_out
  exact (congrArg _ ey).trans key

/-- The square's array after the run is the plain one. -/
theorem result3 : (dats m 0 c).arrAt 3 cfg0.N = PlainMlpUpIdeal.Read.val_main_v6 (F := Ideal) (hIn m c) (wUp m c) := by
  refine (dats m 0 c).arrAt_eq_of_covers 3 _ (by decide +kernel) fun t hf y => ?_
  have hb : (y 0).val < 512 := (y 0).isLt
  have hb' : (y 1).val < 1024 := (y 1).isLt
  have ht : t.val < 128 := t.isLt
  have e : (((cfg0.win 3).blk t).view.emb y) = ix2 (⟨t.val / 4 * 512 + (y 0).val, by omega⟩ : Fin 16384) (⟨t.val % 4 * 1024 + (y 1).val, by omega⟩ : Fin 4096) := by
    blk_ext [idx t]
  have ey : y = ix2 (y 0 : Fin 512) (y 1 : Fin 1024) := by blk_ext
  have key := block3 m c t (y 0 : Fin 512) ⟨t.val / 4 * 512 + (y 0).val, by omega⟩ rfl (y 1 : Fin 1024) ⟨t.val % 4 * 1024 + (y 1).val, by omega⟩ rfl
  rw [e]
  blk_simp
  rw [after0_3]
  frame_out
  exact (congrArg _ ey).trans key

/-- The printed program runs and leaves its arguments and semaphores as they were. -/
theorem frame_bits : Cert.quiescent_MlpUp := fun m ρ _ => Cert.MlpUp.Gen.frame m ρ

/-- So does the idealized one. -/
theorem frame_ideal : Cert.quiescent_MlpUpIdeal := fun m ρ _ => Cert.MlpUpIdeal.Gen.frame m ρ

/-- So does the plain one, which has no semaphores. -/
theorem frame_plain : Cert.quiescent_PlainMlpUpIdeal := fun m ρ _ =>
  (θ_run Cert.PlainMlpUpIdeal.defs _ _).mono (fun r h => ⟨fun c => (h c).2.2, sem_eq_zero_of_no_sems (by decide) r.2⟩)
    (Cert.PlainMlpUpIdeal.Value.run m ρ)

/-- Both of the kernel's results are the plain ones. -/
theorem value : Cert.algebraic_MlpUpIdeal_PlainMlpUpIdeal := by
  intro m g m' g' _ ag
  refine ⟨_, _, ?_, (θ_run Cert.PlainMlpUpIdeal.defs _ _).mono (fun r h c => h c) (Cert.PlainMlpUpIdeal.Value.run m' g')⟩
  refine (θ_run Cert.MlpUpIdeal.defs _ _).mono (fun r h c => ?_) (Cert.MlpUpIdeal.Value.run_blocks m g)
  refine ⟨(h c).1.trans ((result2 m c).trans ?_), (h c).2.1.trans ((result3 m c).trans ?_), (h c).2.2⟩
  · rw [(ag c).1, (ag c).2]
    exact (Cert.PlainMlpUpIdeal.Read.val_main_v4_eq ..).symm
  · rw [(ag c).1, (ag c).2]
    exact (Cert.PlainMlpUpIdeal.Read.val_main_v6_eq ..).symm

end Cert.MlpRelu

end
-- ==== Proof.MlpHidden.lean ====
/-
The gradient by the MLP's first product on one device: each block that a grid point writes is a block of the plain array.
-/
module

public import proofs.«01_k».proof.Defs
public import proofs.«01_k».proof.Proof.Gen.HiddenGradient
public import proofs.«01_k».proof.Proof.Gen.HiddenGradient.Frame
public import proofs.«01_k».proof.Proof.Gen.PlainHiddenGradientIdeal
public import proofs.«01_k».proof.Proof.Gen.PlainHiddenGradientIdeal.Run
public import proofs.«01_k».proof.Proof.Gen.PlainHiddenGradientIdeal.Read
public import proofs.«01_k».proof.Proof.Gen.HiddenGradientIdeal
public import proofs.«01_k».proof.Proof.Gen.HiddenGradientIdeal.Frame
public import proofs.«01_k».proof.Proof.Gen.HiddenGradientIdeal.Skeleton
public import proofs.«01_k».proof.Proof.Gen.HiddenGradientIdeal.Value
public import Idealize.ShloMosaic.Lib.Pipeline.ValueKit
public import Idealize.ShloMosaic.Lib.Pointwise

@[expose] public section

set_option maxRecDepth 16384

noncomputable section

namespace Cert.MlpHidden

open Idealize.ShloMosaic HiddenGradientIdeal HiddenGradientIdeal.Gen

variable (m : (ℓ : Loc nD τ sig) → Buf (Elt Ideal) ℓ) (c : Dev nD)

/-- The gradient by the layer's output. -/
abbrev dyb := m ((c.tc : Thread nD τ).loc main_arg0)
/-- The MLP's second weight, turned over. -/
abbrev wDownT := m ((c.tc : Thread nD τ).loc main_arg1)
/-- The rectified product. -/
abbrev rAct := m ((c.tc : Thread nD τ).loc main_arg2)

/-- Which block each window reads or writes at a point. -/
theorem idx : ∀ t : Fin cfg0.N, win0_0.index t = ![t.val / 4, 0] ∧ win0_1.index t = ![0, t.val % 4] ∧ win0_2.index t = ![t.val / 4, t.val % 4] ∧ win0_3.index t = ![t.val / 4, t.val % 4] := by decide +kernel

/-- A row of the incoming gradient's block is a row of the array. -/
theorem blk0 (t : Fin cfg0.N) (i : Fin 512) (R : Fin 16384) (h : R.val = t.val / 4 * 512 + i.val) (k : Fin 1024) :
    iblk m c 0 t (ix2 i k) = dyb m c (ix2 R k) := by
  blk_ext [iblk, V, idx t]

/-- A column of the weight's block is a column of the array. -/
theorem blk1 (t : Fin cfg0.N) (j : Fin 1024) (C : Fin 4096) (h : C.val = t.val % 4 * 1024 + j.val) (k : Fin 1024) :
    iblk m c 1 t (ix2 k j) = wDownT m c (ix2 k C) := by
  blk_ext [iblk, V, idx t]

/-- An element of the rectified product's block is an element of the array. -/
theorem blk2 (t : Fin cfg0.N) (i : Fin 512) (R : Fin 16384) (h : R.val = t.val / 4 * 512 + i.val) (j : Fin 1024) (C : Fin 4096) (h' : C.val = t.val % 4 * 1024 + j.val) :
    iblk m c 2 t (ix2 i j) = rAct m c (ix2 R C) := by
  blk_ext [iblk, V, idx t]

/-- A point's block is the plain gradient's, the two factors the other way round. -/
theorem block3 (t : Fin cfg0.N) (i : Fin 512) (R : Fin 16384) (h : R.val = t.val / 4 * 512 + i.val) (j : Fin 1024) (C : Fin 4096) (h' : C.val = t.val % 4 * 1024 + j.val) :
    k0_pay1 (F := Ideal) (iblk m c 0 t) (iblk m c 1 t) (iblk m c 2 t) (ix2 i j) = PlainHiddenGradientIdeal.Read.val_main_v7 (F := Ideal) (dyb m c) (wDownT m c) (rAct m c) (ix2 R C) := by
  have h0 := blk0 m c t i R h
  have h1 := blk1 m c t j C h'
  have h2 := blk2 m c t i R h j C h'
  generalize iblk m c 0 t = v0 at h0 ⊢
  generalize iblk m c 1 t = v1 at h1 ⊢
  generalize iblk m c 2 t = v2 at h2 ⊢
  pointwise [k0_pay1, PlainHiddenGradientIdeal.Read.val_main_v0, PlainHiddenGradientIdeal.Read.val_main_v1, PlainHiddenGradientIdeal.Read.val_main_v2, PlainHiddenGradientIdeal.Read.val_main_v3, PlainHiddenGradientIdeal.Read.val_main_cst, PlainHiddenGradientIdeal.Read.val_main_v4, PlainHiddenGradientIdeal.Read.val_main_v5, PlainHiddenGradientIdeal.Read.val_main_v6, PlainHiddenGradientIdeal.Read.val_main_v7]
  simp only [h0, h1, h2]
  exact mul_comm _ _

/-- The gradient's array after the run is the plain one. -/
theorem result3 : (dats m 0 c).arrAt 3 cfg0.N = PlainHiddenGradientIdeal.Read.val_main_v7 (F := Ideal) (dyb m c) (wDownT m c) (rAct m c) := by
  refine (dats m 0 c).arrAt_eq_of_covers 3 _ (by decide +kernel) fun t hf y => ?_
  have hb : (y 0).val < 512 := (y 0).isLt
  have hb' : (y 1).val < 1024 := (y 1).isLt
  have ht : t.val < 128 := t.isLt
  have e : (((cfg0.win 3).blk t).view.emb y) = ix2 (⟨t.val / 4 * 512 + (y 0).val, by omega⟩ : Fin 16384) (⟨t.val % 4 * 1024 + (y 1).val, by omega⟩ : Fin 4096) := by
    blk_ext [idx t]
  have ey : y = ix2 (y 0 : Fin 512) (y 1 : Fin 1024) := by blk_ext
  have key := block3 m c t (y 0 : Fin 512) ⟨t.val / 4 * 512 + (y 0).val, by omega⟩ rfl (y 1 : Fin 1024) ⟨t.val % 4 * 1024 + (y 1).val, by omega⟩ rfl
  rw [e]
  blk_simp
  rw [after0_3]
  frame_out
  exact (congrArg _ ey).trans key

/-- The printed program runs and leaves its arguments and semaphores as they were. -/
theorem frame_bits : Cert.quiescent_HiddenGradient := fun m ρ _ => Cert.HiddenGradient.Gen.frame m ρ

/-- So does the idealized one. -/
theorem frame_ideal : Cert.quiescent_HiddenGradientIdeal := fun m ρ _ => Cert.HiddenGradientIdeal.Gen.frame m ρ

/-- So does the plain one, which has no semaphores. -/
theorem frame_plain : Cert.quiescent_PlainHiddenGradientIdeal := fun m ρ _ =>
  (θ_run Cert.PlainHiddenGradientIdeal.defs _ _).mono (fun r h => ⟨fun c => (h c).2, sem_eq_zero_of_no_sems (by decide) r.2⟩)
    (Cert.PlainHiddenGradientIdeal.Value.run m ρ)

/-- The kernel's result is the plain one. -/
theorem value : Cert.algebraic_HiddenGradientIdeal_PlainHiddenGradientIdeal := by
  intro m g m' g' _ ag
  refine ⟨_, ?_, (θ_run Cert.PlainHiddenGradientIdeal.defs _ _).mono (fun r h c => h c) (Cert.PlainHiddenGradientIdeal.Value.run m' g')⟩
  refine (θ_run Cert.HiddenGradientIdeal.defs _ _).mono (fun r h c => ?_) (Cert.HiddenGradientIdeal.Value.run_blocks m g)
  refine ⟨(h c).1.trans ((result3 m c).trans ?_), (h c).2⟩
  rw [(ag c).1, (ag c).2.1, (ag c).2.2]
  exact (Cert.PlainHiddenGradientIdeal.Read.val_main_v7_eq ..).symm

end Cert.MlpHidden

end
-- ==== Proof.MlpNormRow.lean ====
/-
One element of the gradient by the residual before the MLP, a block's and the plain one.
-/
module

public import proofs.«01_k».proof.Proof.Gen.MlpInputGradientIdeal.Skeleton
public import proofs.«01_k».proof.Proof.Gen.PlainMlpInputGradientIdeal.Read
public import Idealize.ShloMosaic.Lib.Pointwise

@[expose] public section

noncomputable section

namespace Cert.MlpNorm

open Idealize.ShloMosaic MlpInputGradientIdeal.Gen

variable {A0 : FVec Ideal ⟨2, ![16384, 4096]⟩ .bf16} {A1 : FVec Ideal ⟨2, ![4096, 1024]⟩ .bf16} {A2 A4 : FVec Ideal ⟨2, ![16384, 1024]⟩ .f32}
  {A3 : FVec Ideal ⟨2, ![1, 1024]⟩ .f32} {v0 : FVec Ideal ⟨2, ![512, 4096]⟩ .bf16} {v3 v4 : FVec Ideal ⟨2, ![512, 1024]⟩ .f32} {i : Fin 512} {R : Fin 16384}

/-- A row of the product's gradient times the normed input. -/
theorem rows (h0 : ∀ k, v0 (ix2 i k) = A0 (ix2 R k)) (h3 : ∀ k, v3 (ix2 i k) = A2 (ix2 R k)) (j : Fin 1024) :
    k0_pay5 (F := Ideal) v0 A1 v3 (ix2 i j) = PlainMlpInputGradientIdeal.Read.val_main_v31 (F := Ideal) A0 A1 A2 (ix2 R j) := by
  pointwise [k0_pay5, k0_pay3, k0_pay4, PlainMlpInputGradientIdeal.Read.val_main_v0, PlainMlpInputGradientIdeal.Read.val_main_v1, PlainMlpInputGradientIdeal.Read.val_main_v2, PlainMlpInputGradientIdeal.Read.val_main_v3, PlainMlpInputGradientIdeal.Read.val_main_cst, PlainMlpInputGradientIdeal.Read.val_main_v4, PlainMlpInputGradientIdeal.Read.val_main_v5, PlainMlpInputGradientIdeal.Read.val_main_cst_0, PlainMlpInputGradientIdeal.Read.val_main_v6, PlainMlpInputGradientIdeal.Read.val_main_v7, PlainMlpInputGradientIdeal.Read.val_main_cst_1, PlainMlpInputGradientIdeal.Read.val_main_v8, PlainMlpInputGradientIdeal.Read.val_main_v9, PlainMlpInputGradientIdeal.Read.val_main_v10, PlainMlpInputGradientIdeal.Read.val_main_v11, PlainMlpInputGradientIdeal.Read.val_main_v12, PlainMlpInputGradientIdeal.Read.val_main_v13, PlainMlpInputGradientIdeal.Read.val_main_v14, PlainMlpInputGradientIdeal.Read.val_main_v15, PlainMlpInputGradientIdeal.Read.val_main_v16, PlainMlpInputGradientIdeal.Read.val_main_v17, PlainMlpInputGradientIdeal.Read.val_main_v18, PlainMlpInputGradientIdeal.Read.val_main_v19, PlainMlpInputGradientIdeal.Read.val_main_cst_2, PlainMlpInputGradientIdeal.Read.val_main_v20, PlainMlpInputGradientIdeal.Read.val_main_v21, PlainMlpInputGradientIdeal.Read.val_main_cst_3, PlainMlpInputGradientIdeal.Read.val_main_v22, PlainMlpInputGradientIdeal.Read.val_main_v23, PlainMlpInputGradientIdeal.Read.val_main_v24, PlainMlpInputGradientIdeal.Read.val_main_v25, PlainMlpInputGradientIdeal.Read.val_main_v26, PlainMlpInputGradientIdeal.Read.val_main_v27, PlainMlpInputGradientIdeal.Read.val_main_v28, PlainMlpInputGradientIdeal.Read.val_main_v29, PlainMlpInputGradientIdeal.Read.val_main_v30, PlainMlpInputGradientIdeal.Read.val_main_v31, PlainMlpInputGradientIdeal.Read.val_main_cst_4, PlainMlpInputGradientIdeal.Read.val_main_v32, PlainMlpInputGradientIdeal.Read.val_main_v33]
  simp only [h0, h3]

/-- A row of the gradient by the residual. -/
theorem grads (h0 : ∀ k, v0 (ix2 i k) = A0 (ix2 R k)) (h3 : ∀ k, v3 (ix2 i k) = A2 (ix2 R k)) (h4 : ∀ k, v4 (ix2 i k) = A4 (ix2 R k)) (j : Fin 1024) :
    k0_pay6 (F := Ideal) v0 A1 v3 A3 v4 (ix2 i j) = PlainMlpInputGradientIdeal.Read.val_main_v27 (F := Ideal) A0 A1 A2 A3 A4 (ix2 R j) := by
  pointwise [k0_pay6, k0_pay3, k0_pay4, PlainMlpInputGradientIdeal.Read.val_main_v0, PlainMlpInputGradientIdeal.Read.val_main_v1, PlainMlpInputGradientIdeal.Read.val_main_v2, PlainMlpInputGradientIdeal.Read.val_main_v3, PlainMlpInputGradientIdeal.Read.val_main_cst, PlainMlpInputGradientIdeal.Read.val_main_v4, PlainMlpInputGradientIdeal.Read.val_main_v5, PlainMlpInputGradientIdeal.Read.val_main_cst_0, PlainMlpInputGradientIdeal.Read.val_main_v6, PlainMlpInputGradientIdeal.Read.val_main_v7, PlainMlpInputGradientIdeal.Read.val_main_cst_1, PlainMlpInputGradientIdeal.Read.val_main_v8, PlainMlpInputGradientIdeal.Read.val_main_v9, PlainMlpInputGradientIdeal.Read.val_main_v10, PlainMlpInputGradientIdeal.Read.val_main_v11, PlainMlpInputGradientIdeal.Read.val_main_v12, PlainMlpInputGradientIdeal.Read.val_main_v13, PlainMlpInputGradientIdeal.Read.val_main_v14, PlainMlpInputGradientIdeal.Read.val_main_v15, PlainMlpInputGradientIdeal.Read.val_main_v16, PlainMlpInputGradientIdeal.Read.val_main_v17, PlainMlpInputGradientIdeal.Read.val_main_v18, PlainMlpInputGradientIdeal.Read.val_main_v19, PlainMlpInputGradientIdeal.Read.val_main_cst_2, PlainMlpInputGradientIdeal.Read.val_main_v20, PlainMlpInputGradientIdeal.Read.val_main_v21, PlainMlpInputGradientIdeal.Read.val_main_cst_3, PlainMlpInputGradientIdeal.Read.val_main_v22, PlainMlpInputGradientIdeal.Read.val_main_v23, PlainMlpInputGradientIdeal.Read.val_main_v24, PlainMlpInputGradientIdeal.Read.val_main_v25, PlainMlpInputGradientIdeal.Read.val_main_v26, PlainMlpInputGradientIdeal.Read.val_main_v27, PlainMlpInputGradientIdeal.Read.val_main_v28, PlainMlpInputGradientIdeal.Read.val_main_v29, PlainMlpInputGradientIdeal.Read.val_main_v30, PlainMlpInputGradientIdeal.Read.val_main_v31, PlainMlpInputGradientIdeal.Read.val_main_cst_4, PlainMlpInputGradientIdeal.Read.val_main_v32, PlainMlpInputGradientIdeal.Read.val_main_v33]
  simp only [h0, h3, h4]

/-- A block's rows added into the sum so far. -/
theorem step (v : FVec Ideal ⟨2, ![512, 1024]⟩ .f32) (acc : FVec Ideal ⟨2, ![1, 1024]⟩ .f32) (z : Fin 1) (j : Fin 1024) :
    k0_pay2 (F := Ideal) v acc (ix2 z j) = acc (ix2 z j) + ∑ k : Fin 512, v (ix2 k j) := by
  pointwise [k0_pay2]

/-- The sum starts from zero. -/
theorem start (z : Fin 1) (j : Fin 1024) : k0_pay1 (F := Ideal) (ix2 z j) = 0 := by
  pointwise [k0_pay1]

/-- The plain sum over all rows. -/
theorem plain_sum (z : Fin 1) (j : Fin 1024) : PlainMlpInputGradientIdeal.Read.val_main_v33 (F := Ideal) A0 A1 A2 (ix2 z j)
    = ∑ k : Fin 16384, PlainMlpInputGradientIdeal.Read.val_main_v31 (F := Ideal) A0 A1 A2 (ix2 k j) := by
  pointwise [PlainMlpInputGradientIdeal.Read.val_main_v33, PlainMlpInputGradientIdeal.Read.val_main_v32, PlainMlpInputGradientIdeal.Read.val_main_cst_4]

end Cert.MlpNorm

end
-- ==== Proof.MlpNorm.lean ====
/-
The gradient by the residual before the MLP, on one device: the blocks that the grid's points write are the plain gradient's rows, at both widths,
and the sum that the points add up block by block is the plain sum over all rows.
-/
module

public import proofs.«01_k».proof.Defs
public import proofs.«01_k».proof.Proof.MlpNormRow
public import proofs.«01_k».proof.Proof.Gen.MlpInputGradient
public import proofs.«01_k».proof.Proof.Gen.MlpInputGradient.Frame
public import proofs.«01_k».proof.Proof.Gen.PlainMlpInputGradientIdeal
public import proofs.«01_k».proof.Proof.Gen.PlainMlpInputGradientIdeal.Run
public import proofs.«01_k».proof.Proof.Gen.MlpInputGradientIdeal
public import proofs.«01_k».proof.Proof.Gen.MlpInputGradientIdeal.Frame
public import proofs.«01_k».proof.Proof.Gen.MlpInputGradientIdeal.Value
public import Idealize.ShloMosaic.Lib.Pipeline.ValueKit

@[expose] public section

set_option maxRecDepth 16384

noncomputable section

namespace Cert.MlpNorm

open Idealize.ShloMosaic MlpInputGradientIdeal MlpInputGradientIdeal.Gen

variable (m : (ℓ : Loc nD τ sig) → Buf (Elt Ideal) ℓ) (c : Dev nD)

/-- The gradient by the first product of the MLP. -/
abbrev dup := m ((c.tc : Thread nD τ).loc main_arg0)
/-- The MLP's first weight, turned over. -/
abbrev wT := m ((c.tc : Thread nD τ).loc main_arg1)
/-- The residual before the MLP. -/
abbrev resid := m ((c.tc : Thread nD τ).loc main_arg2)
/-- The second norm's scale. -/
abbrev g2 := m ((c.tc : Thread nD τ).loc main_arg3)
/-- The gradient that passes the MLP by. -/
abbrev dy := m ((c.tc : Thread nD τ).loc main_arg4)

/-- Which block each window reads or writes at a point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] := by decide +kernel

/-- A row of the product's gradient's block is a row of the array. -/
theorem blk0 (t : Fin cfg0.N) (i : Fin 512) (R : Fin 16384) (h : R.val = t.val * 512 + i.val) (k : Fin 4096) :
    iblk m c 0 t (ix2 i k) = dup m c (ix2 R k) := by
  blk_ext [iblk, V, idx t]

/-- The weight's block is the whole array at every point. -/
theorem blk1 (t : Fin cfg0.N) : iblk m c 1 t = wT m c := by
  funext y
  blk_ext [iblk, V, idx t]

/-- A row of the residual's block is a row of the array. -/
theorem blk2 (t : Fin cfg0.N) (i : Fin 512) (R : Fin 16384) (h : R.val = t.val * 512 + i.val) (k : Fin 1024) :
    iblk m c 2 t (ix2 i k) = resid m c (ix2 R k) := by
  blk_ext [iblk, V, idx t]

/-- The scale's block is the whole array at every point. -/
theorem blk3 (t : Fin cfg0.N) : iblk m c 3 t = g2 m c := by
  funext y
  blk_ext [iblk, V, idx t]

/-- A row of the passed-through gradient's block is a row of the array. -/
theorem blk4 (t : Fin cfg0.N) (i : Fin 512) (R : Fin 16384) (h : R.val = t.val * 512 + i.val) (k : Fin 1024) :
    iblk m c 4 t (ix2 i k) = dy m c (ix2 R k) := by
  blk_ext [iblk, V, idx t]

/-- A point's block of the gradient is the plain gradient's rows. -/
theorem block5 (t : Fin cfg0.N) (i : Fin 512) (R : Fin 16384) (h : R.val = t.val * 512 + i.val) (j : Fin 1024) :
    k0_pay6 (F := Ideal) (iblk m c 0 t) (iblk m c 1 t) (iblk m c 2 t) (iblk m c 3 t) (iblk m c 4 t) (ix2 i j)
      = PlainMlpInputGradientIdeal.Read.val_main_v27 (F := Ideal) (dup m c) (wT m c) (resid m c) (g2 m c) (dy m c) (ix2 R j) := by
  rw [blk1, blk3]
  exact grads (blk0 m c t i R h) (blk2 m c t i R h) (blk4 m c t i R h) j

/-- And of its shortened copy. -/
theorem block6 (t : Fin cfg0.N) (i : Fin 512) (R : Fin 16384) (h : R.val = t.val * 512 + i.val) (j : Fin 1024) :
    k0_pay7 (F := Ideal) (iblk m c 0 t) (iblk m c 1 t) (iblk m c 2 t) (iblk m c 3 t) (iblk m c 4 t) (ix2 i j)
      = PlainMlpInputGradientIdeal.Read.val_main_v28 (F := Ideal) (dup m c) (wT m c) (resid m c) (g2 m c) (dy m c) (ix2 R j) := block5 m c t i R h j

/-- A point's block of the summands is the plain sum's rows. -/
theorem block7 (t : Fin cfg0.N) (i : Fin 512) (R : Fin 16384) (h : R.val = t.val * 512 + i.val) (j : Fin 1024) :
    k0_pay5 (F := Ideal) (iblk m c 0 t) (iblk m c 1 t) (iblk m c 2 t) (ix2 i j)
      = PlainMlpInputGradientIdeal.Read.val_main_v31 (F := Ideal) (dup m c) (wT m c) (resid m c) (ix2 R j) := by
  rw [blk1]
  exact rows (blk0 m c t i R h) (blk2 m c t i R h) j

/-- The gradient's array after the run is the plain gradient. -/
theorem result5 : (dats m 0 c).arrAt 5 cfg0.N = PlainMlpInputGradientIdeal.Read.val_main_v27 (F := Ideal) (dup m c) (wT m c) (resid m c) (g2 m c) (dy m c) := by
  refine (dats m 0 c).arrAt_eq_of_covers 5 _ (by decide +kernel) fun t hf y => ?_
  have hb : (y 0).val < 512 := (y 0).isLt
  have ht : t.val < 32 := t.isLt
  have e : (((cfg0.win 5).blk t).view.emb y) = ix2 (⟨t.val * 512 + (y 0).val, by omega⟩ : Fin 16384) (y 1 : Fin 1024) := by
    blk_ext [idx t]
  have ey : y = ix2 (y 0 : Fin 512) (y 1 : Fin 1024) := by blk_ext
  have key := block5 m c t (y 0 : Fin 512) ⟨t.val * 512 + (y 0).val, by omega⟩ rfl (y 1 : Fin 1024)
  rw [e]
  blk_simp
  rw [after0_5]
  by_cases h : t.val % 32 = 0
  · rw [outsAt0_A m c t h]
    frame_out
    exact (congrArg _ ey).trans key
  · rw [outsAt0_B m c t h]
    frame_out
    exact (congrArg _ ey).trans key

/-- So is its shortened copy's: at the ideal values a shortening changes nothing. -/
theorem result6 : (dats m 0 c).arrAt 6 cfg0.N = PlainMlpInputGradientIdeal.Read.val_main_v28 (F := Ideal) (dup m c) (wT m c) (resid m c) (g2 m c) (dy m c) := by
  refine (dats m 0 c).arrAt_eq_of_covers 6 _ (by decide +kernel) fun t hf y => ?_
  have hb : (y 0).val < 512 := (y 0).isLt
  have ht : t.val < 32 := t.isLt
  have e : (((cfg0.win 6).blk t).view.emb y) = ix2 (⟨t.val * 512 + (y 0).val, by omega⟩ : Fin 16384) (y 1 : Fin 1024) := by
    blk_ext [idx t]
  have ey : y = ix2 (y 0 : Fin 512) (y 1 : Fin 1024) := by blk_ext
  have key := block6 m c t (y 0 : Fin 512) ⟨t.val * 512 + (y 0).val, by omega⟩ rfl (y 1 : Fin 1024)
  rw [e]
  blk_simp
  rw [after0_6]
  by_cases h : t.val % 32 = 0
  · rw [outsAt0_A m c t h]
    frame_out
    exact (congrArg _ ey).trans key
  · rw [outsAt0_B m c t h]
    frame_out
    exact (congrArg _ ey).trans key

/-- The running sum after the last point. -/
theorem summed (z : Fin 1) (j : Fin 1024) (t : Fin cfg0.N) (ht : t.val + 1 = cfg0.N) : (outsAt0 m c t.val t.isLt).2.2 (ix2 z j)
    = 0 + ∑ p : Fin cfg0.N, ∑ k : Fin 512, k0_pay5 (F := Ideal) (iblk m c 0 p) (iblk m c 1 p) (iblk m c 2 p) (ix2 k j) := by
  refine Pipeline.eq_sum_fin_of_reset_step_apply_last (fun n h (x : Fin 1 × Fin 1024) => (outsAt0 m c n h).2.2 (ix2 x.1 x.2)) 32 (fun _ => (0 : EReal))
    (fun p x => ∑ k : Fin 512, k0_pay5 (F := Ideal) (iblk m c 0 p) (iblk m c 1 p) (iblk m c 2 p) (ix2 k x.2)) ?_ ?_ (by decide) t ht (z, j)
  · intro t h x
    show (outsAt0 m c t.val t.isLt).2.2 (ix2 x.1 x.2) = _
    rw [outsAt0_A m c t h]
    frame_out
    exact (step _ _ _ _).trans (congrArg (· + _) (start _ _))
  · intro t h x
    show (outsAt0 m c t.val t.isLt).2.2 (ix2 x.1 x.2) = _
    rw [outsAt0_B m c t h]
    frame_out
    exact step _ _ _ _

/-- The blocks' sums together are the sum over all rows. -/
theorem total (z : Fin 1) (j : Fin 1024) : (outsAt0 m c 31 (by decide)).2.2 (ix2 z j)
    = PlainMlpInputGradientIdeal.Read.val_main_v33 (F := Ideal) (dup m c) (wT m c) (resid m c) (ix2 z j) := by
  refine (summed m c z j ⟨31, by decide⟩ rfl).trans ?_
  rw [plain_sum, zero_add]
  refine (Fin.sum_points_lanes_congr (A := 1) (L := 16384) 32 (g := fun _ l => PlainMlpInputGradientIdeal.Read.val_main_v31 (F := Ideal) (dup m c) (wT m c) (resid m c) (ix2 l j))
    (fun t k ha hl => ?_) rfl rfl).trans ?_
  · have ht : t.val < 32 := t.isLt
    refine block7 m c t k _ ?_ j
    show t.val % 32 * 512 + k.val = t.val * 512 + k.val
    rw [Nat.mod_eq_of_lt ht]
  · exact Fin.sum_univ_one _

/-- The sum's array after the run is the plain sum. -/
theorem result7 : (dats m 0 c).arrAt 7 cfg0.N = PlainMlpInputGradientIdeal.Read.val_main_v33 (F := Ideal) (dup m c) (wT m c) (resid m c) := by
  refine (dats m 0 c).arrAt_eq_of_after_last 7 (⟨31, by decide⟩ : Fin cfg0.N) (by decide +kernel) _ fun j => ?_
  refine (congrFun (after0_7 m c (⟨31, by decide⟩ : Fin cfg0.N)) _).trans ?_
  have e : ((cfg0.win 7).arr.view.emb j) = ix2 (j 0 : Fin 1) (j 1 : Fin 1024) := by blk_ext
  rw [e]
  refine (congrArg _ ?_).trans (total m c (j 0 : Fin 1) (j 1 : Fin 1024))
  funext a
  fin_cases a <;> rfl

/-- The printed program runs and leaves its arguments and semaphores as they were. -/
theorem frame_bits : Cert.quiescent_MlpInputGradient := fun m ρ _ => Cert.MlpInputGradient.Gen.frame m ρ

/-- So does the idealized one. -/
theorem frame_ideal : Cert.quiescent_MlpInputGradientIdeal := fun m ρ _ => Cert.MlpInputGradientIdeal.Gen.frame m ρ

/-- So does the plain one, which has no semaphores. -/
theorem frame_plain : Cert.quiescent_PlainMlpInputGradientIdeal := fun m ρ _ =>
  (θ_run Cert.PlainMlpInputGradientIdeal.defs _ _).mono (fun r h => ⟨fun c => (h c).2.2.2, sem_eq_zero_of_no_sems (by decide) r.2⟩)
    (Cert.PlainMlpInputGradientIdeal.Value.run m ρ)

/-- All three results of the kernel are the plain ones. -/
theorem value : Cert.algebraic_MlpInputGradientIdeal_PlainMlpInputGradientIdeal := by
  intro m g m' g' _ ag
  refine ⟨_, _, _, ?_, (θ_run Cert.PlainMlpInputGradientIdeal.defs _ _).mono (fun r h c => h c) (Cert.PlainMlpInputGradientIdeal.Value.run m' g')⟩
  refine (θ_run Cert.MlpInputGradientIdeal.defs _ _).mono (fun r h c => ?_) (Cert.MlpInputGradientIdeal.Value.run_blocks m g)
  refine ⟨(h c).1.trans ((result5 m c).trans ?_), (h c).2.1.trans ((result6 m c).trans ?_), (h c).2.2.1.trans ((result7 m c).trans ?_), (h c).2.2.2⟩
  · rw [(ag c).1, (ag c).2.1, (ag c).2.2.1, (ag c).2.2.2.1, (ag c).2.2.2.2]
    exact (Cert.PlainMlpInputGradientIdeal.Read.val_main_v27_eq ..).symm
  · rw [(ag c).1, (ag c).2.1, (ag c).2.2.1, (ag c).2.2.2.1, (ag c).2.2.2.2]
    exact (Cert.PlainMlpInputGradientIdeal.Read.val_main_v28_eq ..).symm
  · rw [(ag c).1, (ag c).2.1, (ag c).2.2.1]
    exact (Cert.PlainMlpInputGradientIdeal.Read.val_main_v33_eq ..).symm

end Cert.MlpNorm

end
-- ==== Proof.MlpDownGrad.lean ====
/-
The gradient by the MLP's second weight on one device: sixteen grid points in a row add the products of their row blocks
into one block of the result, and together that is the plain product over all rows.
-/
module

public import proofs.«01_k».proof.Defs
public import proofs.«01_k».proof.Proof.Gen.DownGradient
public import proofs.«01_k».proof.Proof.Gen.DownGradient.Frame
public import proofs.«01_k».proof.Proof.Gen.PlainDownGradientIdeal
public import proofs.«01_k».proof.Proof.Gen.PlainDownGradientIdeal.Run
public import proofs.«01_k».proof.Proof.Gen.PlainDownGradientIdeal.Read
public import proofs.«01_k».proof.Proof.Gen.DownGradientIdeal
public import proofs.«01_k».proof.Proof.Gen.DownGradientIdeal.Frame
public import proofs.«01_k».proof.Proof.Gen.DownGradientIdeal.Skeleton
public import proofs.«01_k».proof.Proof.Gen.DownGradientIdeal.Value
public import Idealize.ShloMosaic.Lib.Pipeline.ValueKit
public import Idealize.ShloMosaic.Lib.Pointwise

@[expose] public section

set_option maxRecDepth 16384

noncomputable section

namespace Cert.MlpDownGrad

open Idealize.ShloMosaic DownGradientIdeal DownGradientIdeal.Gen

variable (m : (ℓ : Loc nD τ sig) → Buf (Elt Ideal) ℓ) (c : Dev nD)

/-- The MLP's hidden activations. -/
abbrev hdn : FVec Ideal ⟨2, ![16384, 4096]⟩ .bf16 := m ((c.tc : Thread nD τ).loc main_arg0)
/-- The gradient by the layer's output. -/
abbrev dyb : FVec Ideal ⟨2, ![16384, 1024]⟩ .bf16 := m ((c.tc : Thread nD τ).loc main_arg1)

/-- Which block each window reads or writes at a point. -/
theorem idx : ∀ t : Fin cfg0.N, win0_0.index t = ![t.val % 16, t.val / 16] ∧ win0_1.index t = ![t.val % 16, 0] ∧ win0_2.index t = ![t.val / 16, 0] := by decide +kernel

/-- A point's block of the activations. -/
abbrev hBlk (t : Fin cfg0.N) : FVec Ideal ⟨2, ![1024, 1024]⟩ .bf16 := iblk m c 0 t
/-- A point's block of the gradient. -/
abbrev dBlk (t : Fin cfg0.N) : FVec Ideal ⟨2, ![1024, 1024]⟩ .bf16 := iblk m c 1 t

/-- An element of the activations' block is an element of the array. -/
theorem blk0 (t : Fin cfg0.N) (k : Fin 1024) (L : Fin 16384) (h : L.val = t.val % 16 * 1024 + k.val) (a : Fin 1024) (A : Fin 4096) (h' : A.val = t.val / 16 * 1024 + a.val) :
    hBlk m c t (ix2 k a) = hdn m c (ix2 L A) := by
  blk_ext [hBlk, dBlk, iblk, V, idx t]

/-- A row of the gradient's block is a row of the array. -/
theorem blk1 (t : Fin cfg0.N) (k : Fin 1024) (L : Fin 16384) (h : L.val = t.val % 16 * 1024 + k.val) (b : Fin 1024) :
    dBlk m c t (ix2 k b) = dyb m c (ix2 L b) := by
  blk_ext [hBlk, dBlk, iblk, V, idx t]

/-- A block's products added into the sum so far. -/
theorem step (acc : FVec Ideal ⟨2, ![1024, 1024]⟩ .f32) (v w : FVec Ideal ⟨2, ![1024, 1024]⟩ .bf16) (a b : Fin 1024) :
    k0_pay2 (F := Ideal) acc v w (ix2 a b) = acc (ix2 a b) + ∑ k : Fin 1024, v (ix2 k a) * w (ix2 k b) := by
  pointwise [k0_pay2]

/-- The sum starts from zero. -/
theorem start (a b : Fin 1024) : k0_pay1 (F := Ideal) (ix2 a b) = 0 := by
  pointwise [k0_pay1]

/-- The plain product, as one sum over all rows. -/
theorem plain_sum (x0 : FVec Ideal ⟨2, ![16384, 4096]⟩ .bf16) (x1 : FVec Ideal ⟨2, ![16384, 1024]⟩ .bf16) (A : Fin 4096) (b : Fin 1024) :
    PlainDownGradientIdeal.Read.val_main_v3 (F := Ideal) x0 x1 (ix2 A b) = ∑ l : Fin 16384, x0 (ix2 l A) * x1 (ix2 l b) := by
  pointwise [PlainDownGradientIdeal.Read.val_main_v0, PlainDownGradientIdeal.Read.val_main_v1, PlainDownGradientIdeal.Read.val_main_v2, PlainDownGradientIdeal.Read.val_main_v3]

/-- The running sum at a point that writes its block back. -/
theorem summed (t : Fin cfg0.N) (ht : t.val % 16 = 16 - 1) (a b : Fin 1024) : outsAt0 m c t.val t.isLt (ix2 a b)
    = 0 + ∑ s : Fin 16, ∑ k : Fin 1024, hBlk m c (⟨16 * (t.val / 16) + s.val, Pipeline.run_point_lt_of_flush t ht s⟩ : Fin cfg0.N) (ix2 k a)
        * dBlk m c (⟨16 * (t.val / 16) + s.val, Pipeline.run_point_lt_of_flush t ht s⟩ : Fin cfg0.N) (ix2 k b) := by
  refine Pipeline.eq_sum_fin_of_reset_step_apply_of_flush (fun n h (x : Fin 1024 × Fin 1024) => outsAt0 m c n h (ix2 x.1 x.2)) 16 (fun _ => (0 : EReal))
    (fun p x => ∑ k : Fin 1024, hBlk m c p (ix2 k x.1) * dBlk m c p (ix2 k x.2)) ?_ ?_ t ht (a, b)
  · intro t h x
    show outsAt0 m c t.val t.isLt (ix2 x.1 x.2) = _
    rw [outsAt0_A m c t h]
    frame_out
    exact (step _ _ _ _ _).trans (congrArg (· + _) (start _ _))
  · intro t h x
    show outsAt0 m c t.val t.isLt (ix2 x.1 x.2) = _
    rw [outsAt0_B m c t h]
    frame_out
    exact step _ _ _ _ _

/-- The products of the sixteen row blocks together are the product over all rows. -/
theorem total (t : Fin cfg0.N) (ht : t.val % 16 = 16 - 1) (a b : Fin 1024) (A : Fin 4096) (h : A.val = t.val / 16 * 1024 + a.val) :
    outsAt0 m c t.val t.isLt (ix2 a b) = PlainDownGradientIdeal.Read.val_main_v3 (F := Ideal) (hdn m c) (dyb m c) (ix2 A b) := by
  rw [summed m c t ht a b, plain_sum, zero_add]
  refine Fin.sum_mul_add_congr (f := fun l : Fin 16384 => hdn m c (ix2 l A) * dyb m c (ix2 l b)) (fun s k hl => ?_) rfl
  have hs := s.isLt
  have e : (16 * (t.val / 16) + s.val) % 16 = s.val := by omega
  have d : (16 * (t.val / 16) + s.val) / 16 = t.val / 16 := by omega
  rw [blk0 m c _ k ⟨s.val * 1024 + k.val, hl⟩ (by show s.val * 1024 + k.val = (16 * (t.val / 16) + s.val) % 16 * 1024 + k.val; rw [e]) a A
      (by show A.val = (16 * (t.val / 16) + s.val) / 16 * 1024 + a.val; rw [d, h]),
    blk1 m c _ k ⟨s.val * 1024 + k.val, hl⟩ (by show s.val * 1024 + k.val = (16 * (t.val / 16) + s.val) % 16 * 1024 + k.val; rw [e])]

/-- The product's array after the run is the plain one. -/
theorem result2 : (dats m 0 c).arrAt 2 cfg0.N = PlainDownGradientIdeal.Read.val_main_v3 (F := Ideal) (hdn m c) (dyb m c) := by
  refine (dats m 0 c).arrAt_eq_of_covers 2 _ (by decide +kernel) fun t hf y => ?_
  have hb : (y 0).val < 1024 := (y 0).isLt
  have ht : t.val < 64 := t.isLt
  have e : (((cfg0.win 2).blk t).view.emb y) = ix2 (⟨t.val / 16 * 1024 + (y 0).val, by omega⟩ : Fin 4096) (y 1 : Fin 1024) := by
    blk_ext [idx t]
  have ey : y = ix2 (y 0 : Fin 1024) (y 1 : Fin 1024) := by blk_ext
  have key := total m c t ((flush0_2 t).mp hf) (y 0 : Fin 1024) (y 1 : Fin 1024) ⟨t.val / 16 * 1024 + (y 0).val, by omega⟩ rfl
  rw [e]
  blk_simp
  rw [after0_2]
  exact (congrArg _ ey).trans key

/-- The printed program runs and leaves its arguments and semaphores as they were. -/
theorem frame_bits : Cert.quiescent_DownGradient := fun m ρ _ => Cert.DownGradient.Gen.frame m ρ

/-- So does the idealized one. -/
theorem frame_ideal : Cert.quiescent_DownGradientIdeal := fun m ρ _ => Cert.DownGradientIdeal.Gen.frame m ρ

/-- So does the plain one, which has no semaphores. -/
theorem frame_plain : Cert.quiescent_PlainDownGradientIdeal := fun m ρ _ =>
  (θ_run Cert.PlainDownGradientIdeal.defs _ _).mono (fun r h => ⟨fun c => (h c).2, sem_eq_zero_of_no_sems (by decide) r.2⟩)
    (Cert.PlainDownGradientIdeal.Value.run m ρ)

/-- The kernel's result is the plain one. -/
theorem value : Cert.algebraic_DownGradientIdeal_PlainDownGradientIdeal := by
  intro m g m' g' _ ag
  refine ⟨_, ?_, (θ_run Cert.PlainDownGradientIdeal.defs _ _).mono (fun r h c => h c) (Cert.PlainDownGradientIdeal.Value.run m' g')⟩
  refine (θ_run Cert.DownGradientIdeal.defs _ _).mono (fun r h c => ?_) (Cert.DownGradientIdeal.Value.run_blocks m g)
  refine ⟨(h c).1.trans ((result2 m c).trans ?_), (h c).2⟩
  rw [(ag c).1, (ag c).2]
  exact (Cert.PlainDownGradientIdeal.Read.val_main_v3_eq ..).symm

end Cert.MlpDownGrad

end
-- ==== Proof.InGrad.lean ====
/-
The gradient by the input projection's weight, turned over, on one device: sixteen grid points in a row add the products of their row blocks
into one block of the result, and together that is the plain product over all rows.
-/
module

public import proofs.«01_k».proof.Defs
public import proofs.«01_k».proof.Proof.Gen.InGradient
public import proofs.«01_k».proof.Proof.Gen.InGradient.Frame
public import proofs.«01_k».proof.Proof.Gen.PlainInGradientIdeal
public import proofs.«01_k».proof.Proof.Gen.PlainInGradientIdeal.Run
public import proofs.«01_k».proof.Proof.Gen.PlainInGradientIdeal.Read
public import proofs.«01_k».proof.Proof.Gen.InGradientIdeal
public import proofs.«01_k».proof.Proof.Gen.InGradientIdeal.Frame
public import proofs.«01_k».proof.Proof.Gen.InGradientIdeal.Skeleton
public import proofs.«01_k».proof.Proof.Gen.InGradientIdeal.Value
public import Idealize.ShloMosaic.Lib.Pipeline.ValueKit
public import Idealize.ShloMosaic.Lib.Pointwise

@[expose] public section

set_option maxRecDepth 16384

noncomputable section

namespace Cert.InGrad

open Idealize.ShloMosaic InGradientIdeal InGradientIdeal.Gen

variable (m : (ℓ : Loc nD τ sig) → Buf (Elt Ideal) ℓ) (c : Dev nD)

/-- The gradient by the input projection's result. -/
abbrev hdn : FVec Ideal ⟨2, ![16384, 2048]⟩ .bf16 := m ((c.tc : Thread nD τ).loc main_arg0)
/-- The normed input. -/
abbrev dyb : FVec Ideal ⟨2, ![16384, 1024]⟩ .bf16 := m ((c.tc : Thread nD τ).loc main_arg1)

/-- Which block each window reads or writes at a point. -/
theorem idx : ∀ t : Fin cfg0.N, win0_0.index t = ![t.val % 16, t.val / 16] ∧ win0_1.index t = ![t.val % 16, 0] ∧ win0_2.index t = ![t.val / 16, 0] := by decide +kernel

/-- A point's block of the first factor. -/
abbrev hBlk (t : Fin cfg0.N) : FVec Ideal ⟨2, ![1024, 1024]⟩ .bf16 := iblk m c 0 t
/-- A point's block of the second factor. -/
abbrev dBlk (t : Fin cfg0.N) : FVec Ideal ⟨2, ![1024, 1024]⟩ .bf16 := iblk m c 1 t

/-- An element of the first factor's block is an element of the array. -/
theorem blk0 (t : Fin cfg0.N) (k : Fin 1024) (L : Fin 16384) (h : L.val = t.val % 16 * 1024 + k.val) (a : Fin 1024) (A : Fin 2048) (h' : A.val = t.val / 16 * 1024 + a.val) :
    hBlk m c t (ix2 k a) = hdn m c (ix2 L A) := by
  blk_ext [hBlk, dBlk, iblk, V, idx t]

/-- A row of the second factor's block is a row of the array. -/
theorem blk1 (t : Fin cfg0.N) (k : Fin 1024) (L : Fin 16384) (h : L.val = t.val % 16 * 1024 + k.val) (b : Fin 1024) :
    dBlk m c t (ix2 k b) = dyb m c (ix2 L b) := by
  blk_ext [hBlk, dBlk, iblk, V, idx t]

/-- A block's products added into the sum so far. -/
theorem step (acc : FVec Ideal ⟨2, ![1024, 1024]⟩ .f32) (v : FVec Ideal ⟨2, ![1024, 1024]⟩ .bf16) (w : FVec Ideal ⟨2, ![1024, 1024]⟩ .bf16) (a : Fin 1024) (b : Fin 1024) :
    k0_pay2 (F := Ideal) acc v w (ix2 a b) = acc (ix2 a b) + ∑ k : Fin 1024, v (ix2 k a) * w (ix2 k b) := by
  pointwise [k0_pay2]

/-- The sum starts from zero. -/
theorem start (a : Fin 1024) (b : Fin 1024) : k0_pay1 (F := Ideal) (ix2 a b) = 0 := by
  pointwise [k0_pay1]

/-- The plain product, as one sum over all rows. -/
theorem plain_sum (x0 : FVec Ideal ⟨2, ![16384, 2048]⟩ .bf16) (x1 : FVec Ideal ⟨2, ![16384, 1024]⟩ .bf16) (A : Fin 2048) (b : Fin 1024) :
    PlainInGradientIdeal.Read.val_main_v3 (F := Ideal) x0 x1 (ix2 A b) = ∑ l : Fin 16384, x0 (ix2 l A) * x1 (ix2 l b) := by
  pointwise [PlainInGradientIdeal.Read.val_main_v0, PlainInGradientIdeal.Read.val_main_v1, PlainInGradientIdeal.Read.val_main_v2, PlainInGradientIdeal.Read.val_main_v3]

/-- The running sum at a point that writes its block back. -/
theorem summed (t : Fin cfg0.N) (ht : t.val % 16 = 16 - 1) (a : Fin 1024) (b : Fin 1024) : outsAt0 m c t.val t.isLt (ix2 a b)
    = 0 + ∑ s : Fin 16, ∑ k : Fin 1024, hBlk m c (⟨16 * (t.val / 16) + s.val, Pipeline.run_point_lt_of_flush t ht s⟩ : Fin cfg0.N) (ix2 k a)
        * dBlk m c (⟨16 * (t.val / 16) + s.val, Pipeline.run_point_lt_of_flush t ht s⟩ : Fin cfg0.N) (ix2 k b) := by
  refine Pipeline.eq_sum_fin_of_reset_step_apply_of_flush (fun n h (x : Fin 1024 × Fin 1024) => outsAt0 m c n h (ix2 x.1 x.2)) 16 (fun _ => (0 : EReal))
    (fun p x => ∑ k : Fin 1024, hBlk m c p (ix2 k x.1) * dBlk m c p (ix2 k x.2)) ?_ ?_ t ht (a, b)
  · intro t h x
    show outsAt0 m c t.val t.isLt (ix2 x.1 x.2) = _
    rw [outsAt0_A m c t h]
    frame_out
    exact (step _ _ _ _ _).trans (congrArg (· + _) (start _ _))
  · intro t h x
    show outsAt0 m c t.val t.isLt (ix2 x.1 x.2) = _
    rw [outsAt0_B m c t h]
    frame_out
    exact step _ _ _ _ _

/-- The products of the sixteen row blocks together are the product over all rows. -/
theorem total (t : Fin cfg0.N) (ht : t.val % 16 = 16 - 1) (a : Fin 1024) (b : Fin 1024) (A : Fin 2048) (h : A.val = t.val / 16 * 1024 + a.val) :
    outsAt0 m c t.val t.isLt (ix2 a b) = PlainInGradientIdeal.Read.val_main_v3 (F := Ideal) (hdn m c) (dyb m c) (ix2 A b) := by
  rw [summed m c t ht a b, plain_sum, zero_add]
  refine Fin.sum_mul_add_congr (f := fun l : Fin 16384 => hdn m c (ix2 l A) * dyb m c (ix2 l b)) (fun s k hl => ?_) rfl
  have hs := s.isLt
  have e : (16 * (t.val / 16) + s.val) % 16 = s.val := by omega
  have d : (16 * (t.val / 16) + s.val) / 16 = t.val / 16 := by omega
  rw [blk0 m c _ k ⟨s.val * 1024 + k.val, hl⟩ (by show s.val * 1024 + k.val = (16 * (t.val / 16) + s.val) % 16 * 1024 + k.val; rw [e]) a A
      (by show A.val = (16 * (t.val / 16) + s.val) / 16 * 1024 + a.val; rw [d, h]),
    blk1 m c _ k ⟨s.val * 1024 + k.val, hl⟩ (by show s.val * 1024 + k.val = (16 * (t.val / 16) + s.val) % 16 * 1024 + k.val; rw [e])]

/-- The product's array after the run is the plain one. -/
theorem result2 : (dats m 0 c).arrAt 2 cfg0.N = PlainInGradientIdeal.Read.val_main_v3 (F := Ideal) (hdn m c) (dyb m c) := by
  refine (dats m 0 c).arrAt_eq_of_covers 2 _ (by decide +kernel) fun t hf y => ?_
  have hb : (y 0).val < 1024 := (y 0).isLt
  have ht : t.val < 32 := t.isLt
  have e : (((cfg0.win 2).blk t).view.emb y) = ix2 (⟨t.val / 16 * 1024 + (y 0).val, by omega⟩ : Fin 2048) (y 1 : Fin 1024) := by
    blk_ext [idx t]
  have ey : y = ix2 (y 0 : Fin 1024) (y 1 : Fin 1024) := by blk_ext
  have key := total m c t ((flush0_2 t).mp hf) (y 0 : Fin 1024) (y 1 : Fin 1024) ⟨t.val / 16 * 1024 + (y 0).val, by omega⟩ rfl
  rw [e]
  blk_simp
  rw [after0_2]
  exact (congrArg _ ey).trans key

/-- The printed program runs and leaves its arguments and semaphores as they were. -/
theorem frame_bits : Cert.quiescent_InGradient := fun m ρ _ => Cert.InGradient.Gen.frame m ρ

/-- So does the idealized one. -/
theorem frame_ideal : Cert.quiescent_InGradientIdeal := fun m ρ _ => Cert.InGradientIdeal.Gen.frame m ρ

/-- So does the plain one, which has no semaphores. -/
theorem frame_plain : Cert.quiescent_PlainInGradientIdeal := fun m ρ _ =>
  (θ_run Cert.PlainInGradientIdeal.defs _ _).mono (fun r h => ⟨fun c => (h c).2, sem_eq_zero_of_no_sems (by decide) r.2⟩)
    (Cert.PlainInGradientIdeal.Value.run m ρ)

/-- The kernel's result is the plain one. -/
theorem value : Cert.algebraic_InGradientIdeal_PlainInGradientIdeal := by
  intro m g m' g' _ ag
  refine ⟨_, ?_, (θ_run Cert.PlainInGradientIdeal.defs _ _).mono (fun r h c => h c) (Cert.PlainInGradientIdeal.Value.run m' g')⟩
  refine (θ_run Cert.InGradientIdeal.defs _ _).mono (fun r h c => ?_) (Cert.InGradientIdeal.Value.run_blocks m g)
  refine ⟨(h c).1.trans ((result2 m c).trans ?_), (h c).2⟩
  rw [(ag c).1, (ag c).2]
  exact (Cert.PlainInGradientIdeal.Read.val_main_v3_eq ..).symm

end Cert.InGrad

end
-- ==== Proof.OutGrad.lean ====
/-
The gradient by the output projection's weight on one device: sixteen grid points in a row add the products of their row blocks
into one block of the result, and together that is the plain product over all rows.
-/
module

public import proofs.«01_k».proof.Defs
public import proofs.«01_k».proof.Proof.Gen.OutGradient
public import proofs.«01_k».proof.Proof.Gen.OutGradient.Frame
public import proofs.«01_k».proof.Proof.Gen.PlainOutGradientIdeal
public import proofs.«01_k».proof.Proof.Gen.PlainOutGradientIdeal.Run
public import proofs.«01_k».proof.Proof.Gen.PlainOutGradientIdeal.Read
public import proofs.«01_k».proof.Proof.Gen.OutGradientIdeal
public import proofs.«01_k».proof.Proof.Gen.OutGradientIdeal.Frame
public import proofs.«01_k».proof.Proof.Gen.OutGradientIdeal.Skeleton
public import proofs.«01_k».proof.Proof.Gen.OutGradientIdeal.Value
public import Idealize.ShloMosaic.Lib.Pipeline.ValueKit
public import Idealize.ShloMosaic.Lib.Pointwise

@[expose] public section

set_option maxRecDepth 16384

noncomputable section

namespace Cert.OutGrad

open Idealize.ShloMosaic OutGradientIdeal OutGradientIdeal.Gen

variable (m : (ℓ : Loc nD τ sig) → Buf (Elt Ideal) ℓ) (c : Dev nD)

/-- The two branches' normed results. -/
abbrev hdn : FVec Ideal ⟨2, ![16384, 1024]⟩ .bf16 := m ((c.tc : Thread nD τ).loc main_arg0)
/-- The gradient by the residual before the MLP. -/
abbrev dyb : FVec Ideal ⟨2, ![16384, 1024]⟩ .bf16 := m ((c.tc : Thread nD τ).loc main_arg1)

/-- Which block each window reads or writes at a point. -/
theorem idx : ∀ t : Fin cfg0.N, win0_0.index t = ![t.val % 16, t.val / 16] ∧ win0_1.index t = ![t.val % 16, 0] ∧ win0_2.index t = ![t.val / 16, 0] := by decide +kernel

/-- A point's block of the first factor. -/
abbrev hBlk (t : Fin cfg0.N) : FVec Ideal ⟨2, ![1024, 1024]⟩ .bf16 := iblk m c 0 t
/-- A point's block of the second factor. -/
abbrev dBlk (t : Fin cfg0.N) : FVec Ideal ⟨2, ![1024, 1024]⟩ .bf16 := iblk m c 1 t

/-- An element of the first factor's block is an element of the array. -/
theorem blk0 (t : Fin cfg0.N) (k : Fin 1024) (L : Fin 16384) (h : L.val = t.val % 16 * 1024 + k.val) (a : Fin 1024) (A : Fin 1024) (h' : A.val = t.val / 16 * 1024 + a.val) :
    hBlk m c t (ix2 k a) = hdn m c (ix2 L A) := by
  blk_ext [hBlk, dBlk, iblk, V, idx t]

/-- A row of the second factor's block is a row of the array. -/
theorem blk1 (t : Fin cfg0.N) (k : Fin 1024) (L : Fin 16384) (h : L.val = t.val % 16 * 1024 + k.val) (b : Fin 1024) :
    dBlk m c t (ix2 k b) = dyb m c (ix2 L b) := by
  blk_ext [hBlk, dBlk, iblk, V, idx t]

/-- A block's products added into the sum so far. -/
theorem step (acc : FVec Ideal ⟨2, ![1024, 1024]⟩ .f32) (v : FVec Ideal ⟨2, ![1024, 1024]⟩ .bf16) (w : FVec Ideal ⟨2, ![1024, 1024]⟩ .bf16) (a : Fin 1024) (b : Fin 1024) :
    k0_pay2 (F := Ideal) acc v w (ix2 a b) = acc (ix2 a b) + ∑ k : Fin 1024, v (ix2 k a) * w (ix2 k b) := by
  pointwise [k0_pay2]

/-- The sum starts from zero. -/
theorem start (a : Fin 1024) (b : Fin 1024) : k0_pay1 (F := Ideal) (ix2 a b) = 0 := by
  pointwise [k0_pay1]

/-- The plain product, as one sum over all rows. -/
theorem plain_sum (x0 : FVec Ideal ⟨2, ![16384, 1024]⟩ .bf16) (x1 : FVec Ideal ⟨2, ![16384, 1024]⟩ .bf16) (A : Fin 1024) (b : Fin 1024) :
    PlainOutGradientIdeal.Read.val_main_v3 (F := Ideal) x0 x1 (ix2 A b) = ∑ l : Fin 16384, x0 (ix2 l A) * x1 (ix2 l b) := by
  pointwise [PlainOutGradientIdeal.Read.val_main_v0, PlainOutGradientIdeal.Read.val_main_v1, PlainOutGradientIdeal.Read.val_main_v2, PlainOutGradientIdeal.Read.val_main_v3]

/-- The running sum at a point that writes its block back. -/
theorem summed (t : Fin cfg0.N) (ht : t.val % 16 = 16 - 1) (a : Fin 1024) (b : Fin 1024) : outsAt0 m c t.val t.isLt (ix2 a b)
    = 0 + ∑ s : Fin 16, ∑ k : Fin 1024, hBlk m c (⟨16 * (t.val / 16) + s.val, Pipeline.run_point_lt_of_flush t ht s⟩ : Fin cfg0.N) (ix2 k a)
        * dBlk m c (⟨16 * (t.val / 16) + s.val, Pipeline.run_point_lt_of_flush t ht s⟩ : Fin cfg0.N) (ix2 k b) := by
  refine Pipeline.eq_sum_fin_of_reset_step_apply_of_flush (fun n h (x : Fin 1024 × Fin 1024) => outsAt0 m c n h (ix2 x.1 x.2)) 16 (fun _ => (0 : EReal))
    (fun p x => ∑ k : Fin 1024, hBlk m c p (ix2 k x.1) * dBlk m c p (ix2 k x.2)) ?_ ?_ t ht (a, b)
  · intro t h x
    show outsAt0 m c t.val t.isLt (ix2 x.1 x.2) = _
    rw [outsAt0_A m c t h]
    frame_out
    exact (step _ _ _ _ _).trans (congrArg (· + _) (start _ _))
  · intro t h x
    show outsAt0 m c t.val t.isLt (ix2 x.1 x.2) = _
    rw [outsAt0_B m c t h]
    frame_out
    exact step _ _ _ _ _

/-- The products of the sixteen row blocks together are the product over all rows. -/
theorem total (t : Fin cfg0.N) (ht : t.val % 16 = 16 - 1) (a : Fin 1024) (b : Fin 1024) (A : Fin 1024) (h : A.val = t.val / 16 * 1024 + a.val) :
    outsAt0 m c t.val t.isLt (ix2 a b) = PlainOutGradientIdeal.Read.val_main_v3 (F := Ideal) (hdn m c) (dyb m c) (ix2 A b) := by
  rw [summed m c t ht a b, plain_sum, zero_add]
  refine Fin.sum_mul_add_congr (f := fun l : Fin 16384 => hdn m c (ix2 l A) * dyb m c (ix2 l b)) (fun s k hl => ?_) rfl
  have hs := s.isLt
  have e : (16 * (t.val / 16) + s.val) % 16 = s.val := by omega
  have d : (16 * (t.val / 16) + s.val) / 16 = t.val / 16 := by omega
  rw [blk0 m c _ k ⟨s.val * 1024 + k.val, hl⟩ (by show s.val * 1024 + k.val = (16 * (t.val / 16) + s.val) % 16 * 1024 + k.val; rw [e]) a A
      (by show A.val = (16 * (t.val / 16) + s.val) / 16 * 1024 + a.val; rw [d, h]),
    blk1 m c _ k ⟨s.val * 1024 + k.val, hl⟩ (by show s.val * 1024 + k.val = (16 * (t.val / 16) + s.val) % 16 * 1024 + k.val; rw [e])]

/-- The product's array after the run is the plain one. -/
theorem result2 : (dats m 0 c).arrAt 2 cfg0.N = PlainOutGradientIdeal.Read.val_main_v3 (F := Ideal) (hdn m c) (dyb m c) := by
  refine (dats m 0 c).arrAt_eq_of_covers 2 _ (by decide +kernel) fun t hf y => ?_
  have hb : (y 0).val < 1024 := (y 0).isLt
  have ht : t.val < 16 := t.isLt
  have e : (((cfg0.win 2).blk t).view.emb y) = ix2 (⟨t.val / 16 * 1024 + (y 0).val, by omega⟩ : Fin 1024) (y 1 : Fin 1024) := by
    blk_ext [idx t]
  have ey : y = ix2 (y 0 : Fin 1024) (y 1 : Fin 1024) := by blk_ext
  have key := total m c t ((flush0_2 t).mp hf) (y 0 : Fin 1024) (y 1 : Fin 1024) ⟨t.val / 16 * 1024 + (y 0).val, by omega⟩ rfl
  rw [e]
  blk_simp
  rw [after0_2]
  exact (congrArg _ ey).trans key

/-- The printed program runs and leaves its arguments and semaphores as they were. -/
theorem frame_bits : Cert.quiescent_OutGradient := fun m ρ _ => Cert.OutGradient.Gen.frame m ρ

/-- So does the idealized one. -/
theorem frame_ideal : Cert.quiescent_OutGradientIdeal := fun m ρ _ => Cert.OutGradientIdeal.Gen.frame m ρ

/-- So does the plain one, which has no semaphores. -/
theorem frame_plain : Cert.quiescent_PlainOutGradientIdeal := fun m ρ _ =>
  (θ_run Cert.PlainOutGradientIdeal.defs _ _).mono (fun r h => ⟨fun c => (h c).2, sem_eq_zero_of_no_sems (by decide) r.2⟩)
    (Cert.PlainOutGradientIdeal.Value.run m ρ)

/-- The kernel's result is the plain one. -/
theorem value : Cert.algebraic_OutGradientIdeal_PlainOutGradientIdeal := by
  intro m g m' g' _ ag
  refine ⟨_, ?_, (θ_run Cert.PlainOutGradientIdeal.defs _ _).mono (fun r h c => h c) (Cert.PlainOutGradientIdeal.Value.run m' g')⟩
  refine (θ_run Cert.OutGradientIdeal.defs _ _).mono (fun r h c => ?_) (Cert.OutGradientIdeal.Value.run_blocks m g)
  refine ⟨(h c).1.trans ((result2 m c).trans ?_), (h c).2⟩
  rw [(ag c).1, (ag c).2]
  exact (Cert.PlainOutGradientIdeal.Read.val_main_v3_eq ..).symm

end Cert.OutGrad

end
-- ==== Proof.GluGrad.lean ====
/-
The gradient by the gate's weight on one device: sixteen grid points in a row add the products of their row blocks
into one block of the result, and together that is the plain product over all rows.
-/
module

public import proofs.«01_k».proof.Defs
public import proofs.«01_k».proof.Proof.Gen.GluGradient
public import proofs.«01_k».proof.Proof.Gen.GluGradient.Frame
public import proofs.«01_k».proof.Proof.Gen.PlainGluGradientIdeal
public import proofs.«01_k».proof.Proof.Gen.PlainGluGradientIdeal.Run
public import proofs.«01_k».proof.Proof.Gen.PlainGluGradientIdeal.Read
public import proofs.«01_k».proof.Proof.Gen.GluGradientIdeal
public import proofs.«01_k».proof.Proof.Gen.GluGradientIdeal.Frame
public import proofs.«01_k».proof.Proof.Gen.GluGradientIdeal.Skeleton
public import proofs.«01_k».proof.Proof.Gen.GluGradientIdeal.Value
public import Idealize.ShloMosaic.Lib.Pipeline.ValueKit
public import Idealize.ShloMosaic.Lib.Pointwise

@[expose] public section

set_option maxRecDepth 16384

noncomputable section

namespace Cert.GluGrad

open Idealize.ShloMosaic GluGradientIdeal GluGradientIdeal.Gen

variable (m : (ℓ : Loc nD τ sig) → Buf (Elt Ideal) ℓ) (c : Dev nD)

/-- The branch before its gate. -/
abbrev hdn : FVec Ideal ⟨2, ![16384, 512]⟩ .bf16 := m ((c.tc : Thread nD τ).loc main_arg0)
/-- The gradient by the gate's argument. -/
abbrev dyb : FVec Ideal ⟨2, ![16384, 512]⟩ .bf16 := m ((c.tc : Thread nD τ).loc main_arg1)

/-- Which block each window reads or writes at a point. -/
theorem idx : ∀ t : Fin cfg0.N, win0_0.index t = ![t.val % 16, t.val / 16] ∧ win0_1.index t = ![t.val % 16, 0] ∧ win0_2.index t = ![t.val / 16, 0] := by decide +kernel

/-- A point's block of the first factor. -/
abbrev hBlk (t : Fin cfg0.N) : FVec Ideal ⟨2, ![1024, 512]⟩ .bf16 := iblk m c 0 t
/-- A point's block of the second factor. -/
abbrev dBlk (t : Fin cfg0.N) : FVec Ideal ⟨2, ![1024, 512]⟩ .bf16 := iblk m c 1 t

/-- An element of the first factor's block is an element of the array. -/
theorem blk0 (t : Fin cfg0.N) (k : Fin 1024) (L : Fin 16384) (h : L.val = t.val % 16 * 1024 + k.val) (a : Fin 512) (A : Fin 512) (h' : A.val = t.val / 16 * 512 + a.val) :
    hBlk m c t (ix2 k a) = hdn m c (ix2 L A) := by
  blk_ext [hBlk, dBlk, iblk, V, idx t]

/-- A row of the second factor's block is a row of the array. -/
theorem blk1 (t : Fin cfg0.N) (k : Fin 1024) (L : Fin 16384) (h : L.val = t.val % 16 * 1024 + k.val) (b : Fin 512) :
    dBlk m c t (ix2 k b) = dyb m c (ix2 L b) := by
  blk_ext [hBlk, dBlk, iblk, V, idx t]

/-- A block's products added into the sum so far. -/
theorem step (acc : FVec Ideal ⟨2, ![512, 512]⟩ .f32) (v : FVec Ideal ⟨2, ![1024, 512]⟩ .bf16) (w : FVec Ideal ⟨2, ![1024, 512]⟩ .bf16) (a : Fin 512) (b : Fin 512) :
    k0_pay2 (F := Ideal) acc v w (ix2 a b) = acc (ix2 a b) + ∑ k : Fin 1024, v (ix2 k a) * w (ix2 k b) := by
  pointwise [k0_pay2]

/-- The sum starts from zero. -/
theorem start (a : Fin 512) (b : Fin 512) : k0_pay1 (F := Ideal) (ix2 a b) = 0 := by
  pointwise [k0_pay1]

/-- The plain product, as one sum over all rows. -/
theorem plain_sum (x0 : FVec Ideal ⟨2, ![16384, 512]⟩ .bf16) (x1 : FVec Ideal ⟨2, ![16384, 512]⟩ .bf16) (A : Fin 512) (b : Fin 512) :
    PlainGluGradientIdeal.Read.val_main_v3 (F := Ideal) x0 x1 (ix2 A b) = ∑ l : Fin 16384, x0 (ix2 l A) * x1 (ix2 l b) := by
  pointwise [PlainGluGradientIdeal.Read.val_main_v0, PlainGluGradientIdeal.Read.val_main_v1, PlainGluGradientIdeal.Read.val_main_v2, PlainGluGradientIdeal.Read.val_main_v3]

/-- The running sum at a point that writes its block back. -/
theorem summed (t : Fin cfg0.N) (ht : t.val % 16 = 16 - 1) (a : Fin 512) (b : Fin 512) : outsAt0 m c t.val t.isLt (ix2 a b)
    = 0 + ∑ s : Fin 16, ∑ k : Fin 1024, hBlk m c (⟨16 * (t.val / 16) + s.val, Pipeline.run_point_lt_of_flush t ht s⟩ : Fin cfg0.N) (ix2 k a)
        * dBlk m c (⟨16 * (t.val / 16) + s.val, Pipeline.run_point_lt_of_flush t ht s⟩ : Fin cfg0.N) (ix2 k b) := by
  refine Pipeline.eq_sum_fin_of_reset_step_apply_of_flush (fun n h (x : Fin 512 × Fin 512) => outsAt0 m c n h (ix2 x.1 x.2)) 16 (fun _ => (0 : EReal))
    (fun p x => ∑ k : Fin 1024, hBlk m c p (ix2 k x.1) * dBlk m c p (ix2 k x.2)) ?_ ?_ t ht (a, b)
  · intro t h x
    show outsAt0 m c t.val t.isLt (ix2 x.1 x.2) = _
    rw [outsAt0_A m c t h]
    frame_out
    exact (step _ _ _ _ _).trans (congrArg (· + _) (start _ _))
  · intro t h x
    show outsAt0 m c t.val t.isLt (ix2 x.1 x.2) = _
    rw [outsAt0_B m c t h]
    frame_out
    exact step _ _ _ _ _

/-- The products of the sixteen row blocks together are the product over all rows. -/
theorem total (t : Fin cfg0.N) (ht : t.val % 16 = 16 - 1) (a : Fin 512) (b : Fin 512) (A : Fin 512) (h : A.val = t.val / 16 * 512 + a.val) :
    outsAt0 m c t.val t.isLt (ix2 a b) = PlainGluGradientIdeal.Read.val_main_v3 (F := Ideal) (hdn m c) (dyb m c) (ix2 A b) := by
  rw [summed m c t ht a b, plain_sum, zero_add]
  refine Fin.sum_mul_add_congr (f := fun l : Fin 16384 => hdn m c (ix2 l A) * dyb m c (ix2 l b)) (fun s k hl => ?_) rfl
  have hs := s.isLt
  have e : (16 * (t.val / 16) + s.val) % 16 = s.val := by omega
  have d : (16 * (t.val / 16) + s.val) / 16 = t.val / 16 := by omega
  rw [blk0 m c _ k ⟨s.val * 1024 + k.val, hl⟩ (by show s.val * 1024 + k.val = (16 * (t.val / 16) + s.val) % 16 * 1024 + k.val; rw [e]) a A
      (by show A.val = (16 * (t.val / 16) + s.val) / 16 * 512 + a.val; rw [d, h]),
    blk1 m c _ k ⟨s.val * 1024 + k.val, hl⟩ (by show s.val * 1024 + k.val = (16 * (t.val / 16) + s.val) % 16 * 1024 + k.val; rw [e])]

/-- The product's array after the run is the plain one. -/
theorem result2 : (dats m 0 c).arrAt 2 cfg0.N = PlainGluGradientIdeal.Read.val_main_v3 (F := Ideal) (hdn m c) (dyb m c) := by
  refine (dats m 0 c).arrAt_eq_of_covers 2 _ (by decide +kernel) fun t hf y => ?_
  have hb : (y 0).val < 512 := (y 0).isLt
  have ht : t.val < 16 := t.isLt
  have e : (((cfg0.win 2).blk t).view.emb y) = ix2 (⟨t.val / 16 * 512 + (y 0).val, by omega⟩ : Fin 512) (y 1 : Fin 512) := by
    blk_ext [idx t]
  have ey : y = ix2 (y 0 : Fin 512) (y 1 : Fin 512) := by blk_ext
  have key := total m c t ((flush0_2 t).mp hf) (y 0 : Fin 512) (y 1 : Fin 512) ⟨t.val / 16 * 512 + (y 0).val, by omega⟩ rfl
  rw [e]
  blk_simp
  rw [after0_2]
  exact (congrArg _ ey).trans key

/-- The printed program runs and leaves its arguments and semaphores as they were. -/
theorem frame_bits : Cert.quiescent_GluGradient := fun m ρ _ => Cert.GluGradient.Gen.frame m ρ

/-- So does the idealized one. -/
theorem frame_ideal : Cert.quiescent_GluGradientIdeal := fun m ρ _ => Cert.GluGradientIdeal.Gen.frame m ρ

/-- So does the plain one, which has no semaphores. -/
theorem frame_plain : Cert.quiescent_PlainGluGradientIdeal := fun m ρ _ =>
  (θ_run Cert.PlainGluGradientIdeal.defs _ _).mono (fun r h => ⟨fun c => (h c).2, sem_eq_zero_of_no_sems (by decide) r.2⟩)
    (Cert.PlainGluGradientIdeal.Value.run m ρ)

/-- The kernel's result is the plain one. -/
theorem value : Cert.algebraic_GluGradientIdeal_PlainGluGradientIdeal := by
  intro m g m' g' _ ag
  refine ⟨_, ?_, (θ_run Cert.PlainGluGradientIdeal.defs _ _).mono (fun r h c => h c) (Cert.PlainGluGradientIdeal.Value.run m' g')⟩
  refine (θ_run Cert.GluGradientIdeal.defs _ _).mono (fun r h c => ?_) (Cert.GluGradientIdeal.Value.run_blocks m g)
  refine ⟨(h c).1.trans ((result2 m c).trans ?_), (h c).2⟩
  rw [(ag c).1, (ag c).2]
  exact (Cert.PlainGluGradientIdeal.Read.val_main_v3_eq ..).symm

end Cert.GluGrad

end
-- ==== Proof.MlpUpGrad.lean ====
/-
The gradient by the MLP's first weight, turned over, on one device: sixteen grid points in a row add the products of their row blocks
into one block of the result, and together that is the plain product over all rows.
-/
module

public import proofs.«01_k».proof.Defs
public import proofs.«01_k».proof.Proof.Gen.UpGradient
public import proofs.«01_k».proof.Proof.Gen.UpGradient.Frame
public import proofs.«01_k».proof.Proof.Gen.PlainUpGradientIdeal
public import proofs.«01_k».proof.Proof.Gen.PlainUpGradientIdeal.Run
public import proofs.«01_k».proof.Proof.Gen.PlainUpGradientIdeal.Read
public import proofs.«01_k».proof.Proof.Gen.UpGradientIdeal
public import proofs.«01_k».proof.Proof.Gen.UpGradientIdeal.Frame
public import proofs.«01_k».proof.Proof.Gen.UpGradientIdeal.Skeleton
public import proofs.«01_k».proof.Proof.Gen.UpGradientIdeal.Value
public import Idealize.ShloMosaic.Lib.Pipeline.ValueKit
public import Idealize.ShloMosaic.Lib.Pointwise

@[expose] public section

set_option maxRecDepth 16384

noncomputable section

namespace Cert.MlpUpGrad

open Idealize.ShloMosaic UpGradientIdeal UpGradientIdeal.Gen

variable (m : (ℓ : Loc nD τ sig) → Buf (Elt Ideal) ℓ) (c : Dev nD)

/-- The gradient by the MLP's first product. -/
abbrev hdn : FVec Ideal ⟨2, ![16384, 4096]⟩ .bf16 := m ((c.tc : Thread nD τ).loc main_arg0)
/-- The normed residual. -/
abbrev dyb : FVec Ideal ⟨2, ![16384, 1024]⟩ .bf16 := m ((c.tc : Thread nD τ).loc main_arg1)

/-- Which block each window reads or writes at a point. -/
theorem idx : ∀ t : Fin cfg0.N, win0_0.index t = ![t.val % 16, t.val / 16] ∧ win0_1.index t = ![t.val % 16, 0] ∧ win0_2.index t = ![t.val / 16, 0] := by decide +kernel

/-- A point's block of the first factor. -/
abbrev hBlk (t : Fin cfg0.N) : FVec Ideal ⟨2, ![1024, 1024]⟩ .bf16 := iblk m c 0 t
/-- A point's block of the second factor. -/
abbrev dBlk (t : Fin cfg0.N) : FVec Ideal ⟨2, ![1024, 1024]⟩ .bf16 := iblk m c 1 t

/-- An element of the first factor's block is an element of the array. -/
theorem blk0 (t : Fin cfg0.N) (k : Fin 1024) (L : Fin 16384) (h : L.val = t.val % 16 * 1024 + k.val) (a : Fin 1024) (A : Fin 4096) (h' : A.val = t.val / 16 * 1024 + a.val) :
    hBlk m c t (ix2 k a) = hdn m c (ix2 L A) := by
  blk_ext [hBlk, dBlk, iblk, V, idx t]

/-- A row of the second factor's block is a row of the array. -/
theorem blk1 (t : Fin cfg0.N) (k : Fin 1024) (L : Fin 16384) (h : L.val = t.val % 16 * 1024 + k.val) (b : Fin 1024) :
    dBlk m c t (ix2 k b) = dyb m c (ix2 L b) := by
  blk_ext [hBlk, dBlk, iblk, V, idx t]

/-- A block's products added into the sum so far. -/
theorem step (acc : FVec Ideal ⟨2, ![1024, 1024]⟩ .f32) (v : FVec Ideal ⟨2, ![1024, 1024]⟩ .bf16) (w : FVec Ideal ⟨2, ![1024, 1024]⟩ .bf16) (a : Fin 1024) (b : Fin 1024) :
    k0_pay2 (F := Ideal) acc v w (ix2 a b) = acc (ix2 a b) + ∑ k : Fin 1024, v (ix2 k a) * w (ix2 k b) := by
  pointwise [k0_pay2]

/-- The sum starts from zero. -/
theorem start (a : Fin 1024) (b : Fin 1024) : k0_pay1 (F := Ideal) (ix2 a b) = 0 := by
  pointwise [k0_pay1]

/-- The plain product, as one sum over all rows. -/
theorem plain_sum (x0 : FVec Ideal ⟨2, ![16384, 4096]⟩ .bf16) (x1 : FVec Ideal ⟨2, ![16384, 1024]⟩ .bf16) (A : Fin 4096) (b : Fin 1024) :
    PlainUpGradientIdeal.Read.val_main_v3 (F := Ideal) x0 x1 (ix2 A b) = ∑ l : Fin 16384, x0 (ix2 l A) * x1 (ix2 l b) := by
  pointwise [PlainUpGradientIdeal.Read.val_main_v0, PlainUpGradientIdeal.Read.val_main_v1, PlainUpGradientIdeal.Read.val_main_v2, PlainUpGradientIdeal.Read.val_main_v3]

/-- The running sum at a point that writes its block back. -/
theorem summed (t : Fin cfg0.N) (ht : t.val % 16 = 16 - 1) (a : Fin 1024) (b : Fin 1024) : outsAt0 m c t.val t.isLt (ix2 a b)
    = 0 + ∑ s : Fin 16, ∑ k : Fin 1024, hBlk m c (⟨16 * (t.val / 16) + s.val, Pipeline.run_point_lt_of_flush t ht s⟩ : Fin cfg0.N) (ix2 k a)
        * dBlk m c (⟨16 * (t.val / 16) + s.val, Pipeline.run_point_lt_of_flush t ht s⟩ : Fin cfg0.N) (ix2 k b) := by
  refine Pipeline.eq_sum_fin_of_reset_step_apply_of_flush (fun n h (x : Fin 1024 × Fin 1024) => outsAt0 m c n h (ix2 x.1 x.2)) 16 (fun _ => (0 : EReal))
    (fun p x => ∑ k : Fin 1024, hBlk m c p (ix2 k x.1) * dBlk m c p (ix2 k x.2)) ?_ ?_ t ht (a, b)
  · intro t h x
    show outsAt0 m c t.val t.isLt (ix2 x.1 x.2) = _
    rw [outsAt0_A m c t h]
    frame_out
    exact (step _ _ _ _ _).trans (congrArg (· + _) (start _ _))
  · intro t h x
    show outsAt0 m c t.val t.isLt (ix2 x.1 x.2) = _
    rw [outsAt0_B m c t h]
    frame_out
    exact step _ _ _ _ _

/-- The products of the sixteen row blocks together are the product over all rows. -/
theorem total (t : Fin cfg0.N) (ht : t.val % 16 = 16 - 1) (a : Fin 1024) (b : Fin 1024) (A : Fin 4096) (h : A.val = t.val / 16 * 1024 + a.val) :
    outsAt0 m c t.val t.isLt (ix2 a b) = PlainUpGradientIdeal.Read.val_main_v3 (F := Ideal) (hdn m c) (dyb m c) (ix2 A b) := by
  rw [summed m c t ht a b, plain_sum, zero_add]
  refine Fin.sum_mul_add_congr (f := fun l : Fin 16384 => hdn m c (ix2 l A) * dyb m c (ix2 l b)) (fun s k hl => ?_) rfl
  have hs := s.isLt
  have e : (16 * (t.val / 16) + s.val) % 16 = s.val := by omega
  have d : (16 * (t.val / 16) + s.val) / 16 = t.val / 16 := by omega
  rw [blk0 m c _ k ⟨s.val * 1024 + k.val, hl⟩ (by show s.val * 1024 + k.val = (16 * (t.val / 16) + s.val) % 16 * 1024 + k.val; rw [e]) a A
      (by show A.val = (16 * (t.val / 16) + s.val) / 16 * 1024 + a.val; rw [d, h]),
    blk1 m c _ k ⟨s.val * 1024 + k.val, hl⟩ (by show s.val * 1024 + k.val = (16 * (t.val / 16) + s.val) % 16 * 1024 + k.val; rw [e])]

/-- The product's array after the run is the plain one. -/
theorem result2 : (dats m 0 c).arrAt 2 cfg0.N = PlainUpGradientIdeal.Read.val_main_v3 (F := Ideal) (hdn m c) (dyb m c) := by
  refine (dats m 0 c).arrAt_eq_of_covers 2 _ (by decide +kernel) fun t hf y => ?_
  have hb : (y 0).val < 1024 := (y 0).isLt
  have ht : t.val < 64 := t.isLt
  have e : (((cfg0.win 2).blk t).view.emb y) = ix2 (⟨t.val / 16 * 1024 + (y 0).val, by omega⟩ : Fin 4096) (y 1 : Fin 1024) := by
    blk_ext [idx t]
  have ey : y = ix2 (y 0 : Fin 1024) (y 1 : Fin 1024) := by blk_ext
  have key := total m c t ((flush0_2 t).mp hf) (y 0 : Fin 1024) (y 1 : Fin 1024) ⟨t.val / 16 * 1024 + (y 0).val, by omega⟩ rfl
  rw [e]
  blk_simp
  rw [after0_2]
  exact (congrArg _ ey).trans key

/-- The printed program runs and leaves its arguments and semaphores as they were. -/
theorem frame_bits : Cert.quiescent_UpGradient := fun m ρ _ => Cert.UpGradient.Gen.frame m ρ

/-- So does the idealized one. -/
theorem frame_ideal : Cert.quiescent_UpGradientIdeal := fun m ρ _ => Cert.UpGradientIdeal.Gen.frame m ρ

/-- So does the plain one, which has no semaphores. -/
theorem frame_plain : Cert.quiescent_PlainUpGradientIdeal := fun m ρ _ =>
  (θ_run Cert.PlainUpGradientIdeal.defs _ _).mono (fun r h => ⟨fun c => (h c).2, sem_eq_zero_of_no_sems (by decide) r.2⟩)
    (Cert.PlainUpGradientIdeal.Value.run m ρ)

/-- The kernel's result is the plain one. -/
theorem value : Cert.algebraic_UpGradientIdeal_PlainUpGradientIdeal := by
  intro m g m' g' _ ag
  refine ⟨_, ?_, (θ_run Cert.PlainUpGradientIdeal.defs _ _).mono (fun r h c => h c) (Cert.PlainUpGradientIdeal.Value.run m' g')⟩
  refine (θ_run Cert.UpGradientIdeal.defs _ _).mono (fun r h c => ?_) (Cert.UpGradientIdeal.Value.run_blocks m g)
  refine ⟨(h c).1.trans ((result2 m c).trans ?_), (h c).2⟩
  rw [(ag c).1, (ag c).2]
  exact (Cert.PlainUpGradientIdeal.Read.val_main_v3_eq ..).symm

end Cert.MlpUpGrad

end
-- ==== Proof.OutputRow.lean ====
/-
One point of the loss's call on one device: 512 rows of differences, the gradient that starts at them, and their squares added into the sum.
-/
module

public import proofs.«01_k».proof.Proof.Gen.OutputGradientIdeal.Skeleton
public import proofs.«01_k».proof.Proof.Gen.PlainOutputGradientIdeal.Read
public import Idealize.ShloMosaic.Lib.Pointwise
public import Idealize.ShloMosaic.Lib.Pipeline.ValueKit

@[expose] public section

set_option maxRecDepth 16384

noncomputable section

namespace Cert.OutputGrad

open Idealize.ShloMosaic OutputGradientIdeal.Gen

variable {A0 : FVec Ideal ⟨2, ![16384, 4096]⟩ .bf16} {A1 : FVec Ideal ⟨2, ![4096, 1024]⟩ .bf16} {A2 A3 : FVec Ideal ⟨2, ![16384, 1024]⟩ .f32}
  {v1 : FVec Ideal ⟨2, ![512, 4096]⟩ .bf16} {v0 v5 : FVec Ideal ⟨2, ![512, 1024]⟩ .f32} {i : Fin 512} {R : Fin 16384}

/-- A row of a block's differences is the plain one. -/
theorem diff (h1 : ∀ k, v1 (ix2 i k) = A0 (ix2 R k)) (h0 : ∀ k, v0 (ix2 i k) = A2 (ix2 R k)) (h5 : ∀ k, v5 (ix2 i k) = A3 (ix2 R k)) (j : Fin 1024) :
    k0_pay1 (F := Ideal) v0 v1 A1 v5 (ix2 i j) = PlainOutputGradientIdeal.Read.val_main_v4 (F := Ideal) A0 A1 A2 A3 (ix2 R j) := by
  pointwise [k0_pay1, PlainOutputGradientIdeal.Read.val_main_v0, PlainOutputGradientIdeal.Read.val_main_v1, PlainOutputGradientIdeal.Read.val_main_v2, PlainOutputGradientIdeal.Read.val_main_v3, PlainOutputGradientIdeal.Read.val_main_v4]
  simp only [h1, h0, h5]

/-- The number of columns is not zero. -/
theorem columns_ne : Ideal.ofBits .f32 0x44800000#32 ≠ 0 := by
  simp [Ideal.ofBits, Ideal.ieee]

/-- The kernel's factor is one over the number of columns. -/
theorem factor : Ideal.ofBits .f32 0x3A800000#32 = (Ideal.ofBits .f32 0x44800000#32)⁻¹ := by
  simp [Ideal.ofBits, Ideal.ieee]
  rw [← EReal.coe_mul, ← EReal.coe_mul, ← EReal.coe_inv, EReal.coe_eq_coe_iff]
  norm_num

/-- The factor divides. -/
theorem mul_factor (x : EReal) : x * Ideal.ofBits .f32 0x3A800000#32 = Ideal.div x (Ideal.ofBits .f32 0x44800000#32) := by
  unfold Ideal.div
  rw [if_neg columns_ne, factor]

/-- A row of a block's gradient is the plain one. -/
theorem grad (h1 : ∀ k, v1 (ix2 i k) = A0 (ix2 R k)) (h0 : ∀ k, v0 (ix2 i k) = A2 (ix2 R k)) (h5 : ∀ k, v5 (ix2 i k) = A3 (ix2 R k)) (j : Fin 1024) :
    k0_pay2 (F := Ideal) v0 v1 A1 v5 (ix2 i j) = PlainOutputGradientIdeal.Read.val_main_v6 (F := Ideal) A0 A1 A2 A3 (ix2 R j) := by
  show k0_pay1 (F := Ideal) v0 v1 A1 v5 (ix2 i j) * Ideal.ofBits .f32 0x3A800000#32
    = Ideal.div (PlainOutputGradientIdeal.Read.val_main_v4 (F := Ideal) A0 A1 A2 A3 (ix2 R j)) (Ideal.ofBits .f32 0x44800000#32)
  rw [diff h1 h0 h5, mul_factor]

/-- A block's squares added into the sum so far. -/
theorem add_block (v0 : FVec Ideal ⟨2, ![512, 1024]⟩ .f32) (v1 : FVec Ideal ⟨2, ![512, 4096]⟩ .bf16) (v2 : FVec Ideal ⟨2, ![4096, 1024]⟩ .bf16)
    (v5 : FVec Ideal ⟨2, ![512, 1024]⟩ .f32) (acc : FVec Ideal ⟨2, ![1, 1]⟩ .f32) :
    k0_pay5 (F := Ideal) v0 v1 v2 v5 acc (ix2 0 0)
      = acc (ix2 0 0) + ∑ j : Fin 1024, ∑ i : Fin 512, k0_pay1 (F := Ideal) v0 v1 v2 v5 (ix2 i j) * k0_pay1 (F := Ideal) v0 v1 v2 v5 (ix2 i j) := by
  generalize hy : k0_pay1 (F := Ideal) v0 v1 v2 v5 = y
  unfold k0_pay5
  rw [hy]
  pointwise

/-- The sum starts from zero. -/
theorem from_zero : k0_pay4 (F := Ideal) (ix2 0 0) = 0 := by
  pointwise [k0_pay4]

/-- The plain squares of one row, added up. -/
def rowSquares (A0 : FVec Ideal ⟨2, ![16384, 4096]⟩ .bf16) (A1 : FVec Ideal ⟨2, ![4096, 1024]⟩ .bf16) (A2 A3 : FVec Ideal ⟨2, ![16384, 1024]⟩ .f32) (R : Fin 16384) : EReal :=
  ∑ j : Fin 1024, PlainOutputGradientIdeal.Read.val_main_v4 (F := Ideal) A0 A1 A2 A3 (ix2 R j) * PlainOutputGradientIdeal.Read.val_main_v4 (F := Ideal) A0 A1 A2 A3 (ix2 R j)

/-- The plain sum is the rows' squares added up. -/
theorem plain_sum (i : (⟨2, ![1, 1]⟩ : Shape).Idx) :
    PlainOutputGradientIdeal.Read.val_main_v10 (F := Ideal) A0 A1 A2 A3 i = ∑ R : Fin 16384, rowSquares A0 A1 A2 A3 R := by
  unfold PlainOutputGradientIdeal.Read.val_main_v10
  refine (PlainOutputGradientIdeal.Read.val_main_v9_apply _ _ _ _ _).trans ?_
  rw [PlainOutputGradientIdeal.Read.val_main_cst_0_apply]
  show Ideal.ofBits .f32 0 + _ = _
  rw [show Ideal.ofBits .f32 0 = 0 from Ideal.ofBits_zero .f32, zero_add, sum_idx2]
  rfl

end Cert.OutputGrad

end
-- ==== Proof.OutputGrad.lean ====
/-
The loss's call on one device: the blocks that the grid's points write are the plain gradient's rows, at both widths, and the sum of squares that
the points add up block by block is the plain sum over all rows and columns.
-/
module

public import proofs.«01_k».proof.Defs
public import proofs.«01_k».proof.Proof.OutputRow
public import proofs.«01_k».proof.Proof.Gen.OutputGradient
public import proofs.«01_k».proof.Proof.Gen.OutputGradient.Frame
public import proofs.«01_k».proof.Proof.Gen.PlainOutputGradientIdeal
public import proofs.«01_k».proof.Proof.Gen.PlainOutputGradientIdeal.Run
public import proofs.«01_k».proof.Proof.Gen.OutputGradientIdeal
public import proofs.«01_k».proof.Proof.Gen.OutputGradientIdeal.Frame
public import proofs.«01_k».proof.Proof.Gen.OutputGradientIdeal.Value
public import Idealize.ShloMosaic.Lib.Pipeline.ValueKit

@[expose] public section

set_option maxRecDepth 16384

noncomputable section

namespace Cert.OutputGrad

open Idealize.ShloMosaic OutputGradientIdeal OutputGradientIdeal.Gen

variable (m : (ℓ : Loc nD τ sig) → Buf (Elt Ideal) ℓ) (c : Dev nD)

/-- The hidden activations. -/
abbrev hdn := m ((c.tc : Thread nD τ).loc main_arg0)
/-- The MLP's second weight. -/
abbrev w := m ((c.tc : Thread nD τ).loc main_arg1)
/-- The residual before the MLP. -/
abbrev x2 := m ((c.tc : Thread nD τ).loc main_arg2)
/-- The target. -/
abbrev tgt := m ((c.tc : Thread nD τ).loc main_arg3)

/-- Which block each window reads or writes at a point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] := by decide +kernel

/-- A row of the hidden activations' block is a row of the array. -/
theorem blk0 (t : Fin cfg0.N) (i : Fin 512) (R : Fin 16384) (h : R.val = t.val * 512 + i.val) (k : Fin 4096) :
    iblk m c 0 t (ix2 i k) = hdn m c (ix2 R k) := by
  blk_ext [iblk, V, idx t]

/-- The weight's block is the whole array at every point. -/
theorem blk1 (t : Fin cfg0.N) : iblk m c 1 t = w m c := by
  funext y
  blk_ext [iblk, V, idx t]

/-- A row of the residual's block is a row of the array. -/
theorem blk2 (t : Fin cfg0.N) (i : Fin 512) (R : Fin 16384) (h : R.val = t.val * 512 + i.val) (k : Fin 1024) :
    iblk m c 2 t (ix2 i k) = x2 m c (ix2 R k) := by
  blk_ext [iblk, V, idx t]

/-- A row of the target's block is a row of the array. -/
theorem blk3 (t : Fin cfg0.N) (i : Fin 512) (R : Fin 16384) (h : R.val = t.val * 512 + i.val) (k : Fin 1024) :
    iblk m c 3 t (ix2 i k) = tgt m c (ix2 R k) := by
  blk_ext [iblk, V, idx t]

/-- A point's block of the differences is the plain one's rows. -/
theorem block0 (t : Fin cfg0.N) (i : Fin 512) (R : Fin 16384) (h : R.val = t.val * 512 + i.val) (j : Fin 1024) :
    k0_pay1 (F := Ideal) (iblk m c 2 t) (iblk m c 0 t) (iblk m c 1 t) (iblk m c 3 t) (ix2 i j) = PlainOutputGradientIdeal.Read.val_main_v4 (F := Ideal) (hdn m c) (w m c) (x2 m c) (tgt m c) (ix2 R j) := by
  rw [blk1]
  exact diff (blk0 m c t i R h) (blk2 m c t i R h) (blk3 m c t i R h) j

/-- A point's block of the gradient is the plain gradient's rows. -/
theorem block4 (t : Fin cfg0.N) (i : Fin 512) (R : Fin 16384) (h : R.val = t.val * 512 + i.val) (j : Fin 1024) :
    k0_pay2 (F := Ideal) (iblk m c 2 t) (iblk m c 0 t) (iblk m c 1 t) (iblk m c 3 t) (ix2 i j) = PlainOutputGradientIdeal.Read.val_main_v6 (F := Ideal) (hdn m c) (w m c) (x2 m c) (tgt m c) (ix2 R j) := by
  rw [blk1]
  exact grad (blk0 m c t i R h) (blk2 m c t i R h) (blk3 m c t i R h) j

/-- And of its shortened copy. -/
theorem block5 (t : Fin cfg0.N) (i : Fin 512) (R : Fin 16384) (h : R.val = t.val * 512 + i.val) (j : Fin 1024) :
    k0_pay3 (F := Ideal) (iblk m c 2 t) (iblk m c 0 t) (iblk m c 1 t) (iblk m c 3 t) (ix2 i j) = PlainOutputGradientIdeal.Read.val_main_v7 (F := Ideal) (hdn m c) (w m c) (x2 m c) (tgt m c) (ix2 R j) := block4 m c t i R h j

/-- The gradient's array after the run is the plain gradient. -/
theorem result4 : (dats m 0 c).arrAt 4 cfg0.N = PlainOutputGradientIdeal.Read.val_main_v6 (F := Ideal) (hdn m c) (w m c) (x2 m c) (tgt m c) := by
  refine (dats m 0 c).arrAt_eq_of_covers 4 _ (by decide +kernel) fun t hf y => ?_
  have hb : (y 0).val < 512 := (y 0).isLt
  have ht : t.val < 32 := t.isLt
  have e : (((cfg0.win 4).blk t).view.emb y) = ix2 (⟨t.val * 512 + (y 0).val, by omega⟩ : Fin 16384) (y 1 : Fin 1024) := by
    blk_ext [idx t]
  have ey : y = ix2 (y 0 : Fin 512) (y 1 : Fin 1024) := by blk_ext
  have key := block4 m c t (y 0 : Fin 512) ⟨t.val * 512 + (y 0).val, by omega⟩ rfl (y 1 : Fin 1024)
  rw [e]
  blk_simp
  rw [after0_4]
  by_cases h : t.val % 32 = 0
  · rw [outsAt0_A m c t h]
    frame_out
    exact (congrArg _ ey).trans key
  · rw [outsAt0_B m c t h]
    frame_out
    exact (congrArg _ ey).trans key

/-- So is its shortened copy's: at the ideal values a shortening changes nothing. -/
theorem result5 : (dats m 0 c).arrAt 5 cfg0.N = PlainOutputGradientIdeal.Read.val_main_v7 (F := Ideal) (hdn m c) (w m c) (x2 m c) (tgt m c) := by
  refine (dats m 0 c).arrAt_eq_of_covers 5 _ (by decide +kernel) fun t hf y => ?_
  have hb : (y 0).val < 512 := (y 0).isLt
  have ht : t.val < 32 := t.isLt
  have e : (((cfg0.win 5).blk t).view.emb y) = ix2 (⟨t.val * 512 + (y 0).val, by omega⟩ : Fin 16384) (y 1 : Fin 1024) := by
    blk_ext [idx t]
  have ey : y = ix2 (y 0 : Fin 512) (y 1 : Fin 1024) := by blk_ext
  have key := block5 m c t (y 0 : Fin 512) ⟨t.val * 512 + (y 0).val, by omega⟩ rfl (y 1 : Fin 1024)
  rw [e]
  blk_simp
  rw [after0_5]
  by_cases h : t.val % 32 = 0
  · rw [outsAt0_A m c t h]
    frame_out
    exact (congrArg _ ey).trans key
  · rw [outsAt0_B m c t h]
    frame_out
    exact (congrArg _ ey).trans key

/-- A point's share of the sum. -/
def share (t : Fin cfg0.N) : EReal := ∑ j : Fin 1024, ∑ i : Fin 512, k0_pay1 (F := Ideal) (iblk m c 2 t) (iblk m c 0 t) (iblk m c 1 t) (iblk m c 3 t) (ix2 i j) * k0_pay1 (F := Ideal) (iblk m c 2 t) (iblk m c 0 t) (iblk m c 1 t) (iblk m c 3 t) (ix2 i j)

/-- A point's share is the plain squares of its rows. -/
theorem share_rows (t : Fin cfg0.N) : share m c t = ∑ i : Fin 512, rowSquares (hdn m c) (w m c) (x2 m c) (tgt m c) ⟨t.val * 512 + i.val, by have := t.isLt; have : cfg0.N = 32 := rfl; omega⟩ := by
  unfold share rowSquares
  rw [Finset.sum_comm]
  refine Finset.sum_congr rfl fun i _ => Finset.sum_congr rfl fun j _ => ?_
  rw [block0 m c t i ⟨t.val * 512 + i.val, by have := t.isLt; have : cfg0.N = 32 := rfl; omega⟩ rfl j]

/-- The running sum after the last point. -/
theorem summed (t : Fin cfg0.N) (ht : t.val + 1 = cfg0.N) : (outsAt0 m c t.val t.isLt).2.2 (ix2 0 0) = 0 + ∑ p : Fin cfg0.N, share m c p := by
  refine Pipeline.eq_sum_fin_of_reset_step_apply_last (fun n h (_ : Unit) => (outsAt0 m c n h).2.2 (ix2 0 0)) 32 (fun _ => (0 : EReal))
    (fun p _ => share m c p) ?_ ?_ (by decide) t ht ()
  · intro t h x
    show (outsAt0 m c t.val t.isLt).2.2 (ix2 0 0) = _
    rw [outsAt0_A m c t h]
    frame_out
    exact (add_block _ _ _ _ _).trans (congrArg (· + _) from_zero)
  · intro t h x
    show (outsAt0 m c t.val t.isLt).2.2 (ix2 0 0) = _
    rw [outsAt0_B m c t h]
    frame_out
    exact add_block _ _ _ _ _

/-- The points' shares together are the sum over all rows. -/
theorem total : (outsAt0 m c 31 (by decide)).2.2 (ix2 0 0) = ∑ R : Fin 16384, rowSquares (hdn m c) (w m c) (x2 m c) (tgt m c) R := by
  refine (summed m c ⟨31, by decide⟩ rfl).trans ?_
  rw [zero_add]
  simp only [share_rows]
  refine (Fin.sum_points_lanes_congr (A := 1) (L := 16384) 32 (g := fun _ l => rowSquares (hdn m c) (w m c) (x2 m c) (tgt m c) l) (fun t k ha hl => ?_) rfl rfl).trans ?_
  · have ht : t.val < 32 := t.isLt
    refine congrArg _ (Fin.ext ?_)
    show t.val * 512 + k.val = t.val % 32 * 512 + k.val
    rw [Nat.mod_eq_of_lt ht]
  · exact Fin.sum_univ_one _

/-- The sum's array after the run is the plain sum. -/
theorem result6 : (dats m 0 c).arrAt 6 cfg0.N = PlainOutputGradientIdeal.Read.val_main_v10 (F := Ideal) (hdn m c) (w m c) (x2 m c) (tgt m c) := by
  refine (dats m 0 c).arrAt_eq_of_after_last 6 (⟨31, by decide⟩ : Fin cfg0.N) (by decide +kernel) _ fun j => ?_
  refine (congrFun (after0_6 m c (⟨31, by decide⟩ : Fin cfg0.N)) _).trans ?_
  rw [plain_sum]
  refine (congrArg _ ?_).trans (total m c)
  funext a
  fin_cases a <;> exact Subsingleton.elim (α := Fin 1) _ _

/-- The printed program runs and leaves its arguments and semaphores as they were. -/
theorem frame_bits : Cert.quiescent_OutputGradient := fun m ρ _ => Cert.OutputGradient.Gen.frame m ρ

/-- So does the idealized one. -/
theorem frame_ideal : Cert.quiescent_OutputGradientIdeal := fun m ρ _ => Cert.OutputGradientIdeal.Gen.frame m ρ

/-- So does the plain one, which has no semaphores. -/
theorem frame_plain : Cert.quiescent_PlainOutputGradientIdeal := fun m ρ _ =>
  (θ_run Cert.PlainOutputGradientIdeal.defs _ _).mono (fun r h => ⟨fun c => (h c).2.2.2, sem_eq_zero_of_no_sems (by decide) r.2⟩)
    (Cert.PlainOutputGradientIdeal.Value.run m ρ)

/-- All three results of the kernel are the plain ones. -/
theorem value : Cert.algebraic_OutputGradientIdeal_PlainOutputGradientIdeal := by
  intro m g m' g' _ ag
  refine ⟨_, _, _, ?_, (θ_run Cert.PlainOutputGradientIdeal.defs _ _).mono (fun r h c => h c) (Cert.PlainOutputGradientIdeal.Value.run m' g')⟩
  refine (θ_run Cert.OutputGradientIdeal.defs _ _).mono (fun r h c => ?_) (Cert.OutputGradientIdeal.Value.run_blocks m g)
  refine ⟨(h c).1.trans ((result4 m c).trans ?_), (h c).2.1.trans ((result5 m c).trans ?_), (h c).2.2.1.trans ((result6 m c).trans ?_), (h c).2.2.2⟩
  · rw [(ag c).1, (ag c).2.1, (ag c).2.2.1, (ag c).2.2.2]
    exact (Cert.PlainOutputGradientIdeal.Read.val_main_v6_eq ..).symm
  · rw [(ag c).1, (ag c).2.1, (ag c).2.2.1, (ag c).2.2.2]
    exact (Cert.PlainOutputGradientIdeal.Read.val_main_v7_eq ..).symm
  · rw [(ag c).1, (ag c).2.1, (ag c).2.2.1, (ag c).2.2.2]
    exact (Cert.PlainOutputGradientIdeal.Read.val_main_v10_eq ..).symm

end Cert.OutputGrad

end
-- ==== Proof.MixRow.lean ====
/-
A row of the mixing call: the attention's output normed, the scan's output through its gate and normed, the two times the output weight into the
residual, and the residual normed.
-/
module

public import proofs.«01_k».proof.Proof.Gen.MixIdeal.Skeleton
public import proofs.«01_k».proof.Proof.Gen.PlainMixIdeal.Read
public import Idealize.ShloMosaic.Lib.Pointwise
public import Idealize.ShloMosaic.Lib.IdealHost
public import Idealize.ShloMosaic.Lib.Pipeline.ValueKit

@[expose] public section

set_option maxRecDepth 16384

noncomputable section

namespace Cert.MixRows

open Idealize.ShloMosaic MixIdeal.Gen

variable {A0 A1 : FVec Ideal ⟨2, ![16384, 512]⟩ .f32} {A2 : FVec Ideal ⟨2, ![16384, 1024]⟩ .f32} {A3 : FVec Ideal ⟨2, ![512, 512]⟩ .bf16}
  {A4 A5 A6 : FVec Ideal ⟨2, ![1, 512]⟩ .f32} {A7 : FVec Ideal ⟨2, ![1024, 1024]⟩ .bf16} {A8 : FVec Ideal ⟨2, ![1, 1024]⟩ .f32}
  {v0 v15 : FVec Ideal ⟨2, ![512, 512]⟩ .f32} {v53 : FVec Ideal ⟨2, ![512, 1024]⟩ .f32} {v54 v56 : FVec Ideal ⟨2, ![512, 1024]⟩ .bf16}
  {i : Fin 512} {R : Fin 16384}

/-- A row of the normed attention output. -/
theorem attn_row (h : ∀ k, v0 (ix2 i k) = A0 (ix2 R k)) (k : Fin 512) :
    k0_pay2 (F := Ideal) v0 A5 (ix2 i k) = PlainMixIdeal.Read.val_main_v37 (F := Ideal) A0 A5 (ix2 R k) := by
  pointwise [k0_pay2, PlainMixIdeal.Read.val_main_v26, PlainMixIdeal.Read.val_main_v27, PlainMixIdeal.Read.val_main_v28, PlainMixIdeal.Read.val_main_v29, PlainMixIdeal.Read.val_main_v30, PlainMixIdeal.Read.val_main_v31, PlainMixIdeal.Read.val_main_v32, PlainMixIdeal.Read.val_main_v33, PlainMixIdeal.Read.val_main_v34, PlainMixIdeal.Read.val_main_v35, PlainMixIdeal.Read.val_main_v36, PlainMixIdeal.Read.val_main_v37, PlainMixIdeal.Read.val_main_cst_5, PlainMixIdeal.Read.val_main_cst_6, PlainMixIdeal.Read.val_main_cst_7]
  simp only [h]

/-- A row of the gated scan output. -/
theorem gate_row (h : ∀ k, v15 (ix2 i k) = A1 (ix2 R k)) (k : Fin 512) :
    k0_pay3 (F := Ideal) v15 A3 A4 (ix2 i k) = PlainMixIdeal.Read.val_main_v25 (F := Ideal) A1 A3 A4 (ix2 R k) := by
  pointwise [k0_pay3, PlainMixIdeal.Read.val_main_v0, PlainMixIdeal.Read.val_main_v1, PlainMixIdeal.Read.val_main_v2, PlainMixIdeal.Read.val_main_v3, PlainMixIdeal.Read.val_main_v4, PlainMixIdeal.Read.val_main_v5, PlainMixIdeal.Read.val_main_v6, PlainMixIdeal.Read.val_main_v7, PlainMixIdeal.Read.val_main_v8, PlainMixIdeal.Read.val_main_v9, PlainMixIdeal.Read.val_main_v10, PlainMixIdeal.Read.val_main_v11, PlainMixIdeal.Read.val_main_v12, PlainMixIdeal.Read.val_main_v13, PlainMixIdeal.Read.val_main_v14, PlainMixIdeal.Read.val_main_v15, PlainMixIdeal.Read.val_main_v16, PlainMixIdeal.Read.val_main_v17, PlainMixIdeal.Read.val_main_v18, PlainMixIdeal.Read.val_main_v19, PlainMixIdeal.Read.val_main_v20, PlainMixIdeal.Read.val_main_v21, PlainMixIdeal.Read.val_main_v22, PlainMixIdeal.Read.val_main_v23, PlainMixIdeal.Read.val_main_v24, PlainMixIdeal.Read.val_main_v25, PlainMixIdeal.Read.val_main_cst, PlainMixIdeal.Read.val_main_cst_0, PlainMixIdeal.Read.val_main_cst_1, PlainMixIdeal.Read.val_main_cst_2, PlainMixIdeal.Read.val_main_cst_3, PlainMixIdeal.Read.val_main_cst_4]
  have e : ∀ a b c : EReal, a * b * c = b * (a * c) := fun a b c => by rw [mul_comm a b, mul_assoc]
  simp only [h, Ideal.logistic, Ideal.ofBits_one_f32, e]

/-- A row of the gated scan output, normed. -/
theorem scan_row (h : ∀ k, v15 (ix2 i k) = A1 (ix2 R k)) (k : Fin 512) :
    k0_pay5 (F := Ideal) (k0_pay3 (F := Ideal) v15 A3 A4) (k0_pay4 (F := Ideal) v15 A3 A4) A6 (ix2 i k) = PlainMixIdeal.Read.val_main_v49 (F := Ideal) A1 A3 A4 A6 (ix2 R k) := by
  have hg := gate_row (A3 := A3) (A4 := A4) h
  unfold k0_pay4
  generalize k0_pay3 (F := Ideal) v15 A3 A4 = g at hg ⊢
  pointwise [k0_pay5, PlainMixIdeal.Read.val_main_v38, PlainMixIdeal.Read.val_main_v39, PlainMixIdeal.Read.val_main_v40, PlainMixIdeal.Read.val_main_v41, PlainMixIdeal.Read.val_main_v42, PlainMixIdeal.Read.val_main_v43, PlainMixIdeal.Read.val_main_v44, PlainMixIdeal.Read.val_main_v45, PlainMixIdeal.Read.val_main_v46, PlainMixIdeal.Read.val_main_v47, PlainMixIdeal.Read.val_main_v48, PlainMixIdeal.Read.val_main_v49, PlainMixIdeal.Read.val_main_cst_8, PlainMixIdeal.Read.val_main_cst_9, PlainMixIdeal.Read.val_main_cst_10]
  simp only [hg]

/-- The two normed outputs side by side, in the left columns. -/
theorem mix_left (k : Fin 512) : PlainMixIdeal.Read.val_main_v51 (F := Ideal) A0 A1 A3 A4 A5 A6 (ix2 R (Fin.castAdd 512 k : Fin (512 + 512)))
    = PlainMixIdeal.Read.val_main_v37 (F := Ideal) A0 A5 (ix2 R k) := by
  show PlainMixIdeal.Read.val_main_v50 (F := Ideal) A0 A1 A3 A4 A5 A6 _ = _
  unfold PlainMixIdeal.Read.val_main_v50
  exact concatenate_pair_apply_left (t := PlainMixIdeal.S16384x1024) (s₁ := PlainMixIdeal.S16384x512) (s₂ := PlainMixIdeal.S16384x512) 1 (PlainMixIdeal.Read.val_main_v37 (F := Ideal) A0 A5) (PlainMixIdeal.Read.val_main_v49 (F := Ideal) A1 A3 A4 A6) PlainMixIdeal.Gen.concatenates_S16384x512_S16384x512_S16384x1024_d1 (ix2 R (Fin.castAdd 512 k : Fin (512 + 512))) rfl (ix2 R k) fun b => by
    match b with
    | ⟨0, _⟩ => rfl
    | ⟨1, _⟩ => rfl

/-- And in the right ones. -/
theorem mix_right (k : Fin 512) : PlainMixIdeal.Read.val_main_v51 (F := Ideal) A0 A1 A3 A4 A5 A6 (ix2 R (Fin.natAdd 512 k : Fin (512 + 512)))
    = PlainMixIdeal.Read.val_main_v49 (F := Ideal) A1 A3 A4 A6 (ix2 R k) := by
  show PlainMixIdeal.Read.val_main_v50 (F := Ideal) A0 A1 A3 A4 A5 A6 _ = _
  unfold PlainMixIdeal.Read.val_main_v50
  refine concatenate_pair_apply_right (t := PlainMixIdeal.S16384x1024) (s₁ := PlainMixIdeal.S16384x512) (s₂ := PlainMixIdeal.S16384x512) 1 (PlainMixIdeal.Read.val_main_v37 (F := Ideal) A0 A5) (PlainMixIdeal.Read.val_main_v49 (F := Ideal) A1 A3 A4 A6) PlainMixIdeal.Gen.concatenates_S16384x512_S16384x512_S16384x1024_d1 (ix2 R (Fin.natAdd 512 k : Fin (512 + 512))) rfl rfl (ix2 R k) (fun b hb => ?_) ?_
  · match b with
    | ⟨0, _⟩ => rfl
    | ⟨1, _⟩ => exact absurd rfl hb
  · exact Nat.add_comm k.val 512

/-- A row of the plain product: the left columns' sum and the right ones'. -/
theorem plain_product (j : Fin 1024) : PlainMixIdeal.Read.val_main_v54 (F := Ideal) A0 A1 A3 A4 A5 A6 A7 (ix2 R j)
    = (∑ k : Fin 512, PlainMixIdeal.Read.val_main_v37 (F := Ideal) A0 A5 (ix2 R k) * A7 (ix2 (Fin.castAdd 512 k : Fin (512 + 512)) j))
      + ∑ k : Fin 512, PlainMixIdeal.Read.val_main_v49 (F := Ideal) A1 A3 A4 A6 (ix2 R k) * A7 (ix2 (Fin.natAdd 512 k : Fin (512 + 512)) j) := by
  refine (PlainMixIdeal.Read.val_main_v54_apply _ _ _ _ _ _ _ _).trans ?_
  have e : ∀ k : Fin 1024, (PlainMixIdeal.Read.val_main_v52 (F := Ideal) A0 A1 A3 A4 A5 A6) (PlainMixIdeal.Read.lidx_main_v54 (ix2 R j) k) * (PlainMixIdeal.Read.val_main_v53 (F := Ideal) A7) (PlainMixIdeal.Read.ridx_main_v54 (ix2 R j) k)
      = PlainMixIdeal.Read.val_main_v51 (F := Ideal) A0 A1 A3 A4 A5 A6 (ix2 R k) * A7 (ix2 k j) := by
    intro k
    have el : PlainMixIdeal.Read.lidx_main_v54 (ix2 R j) k = ix2 R k := by
      funext a
      fin_cases a <;> rfl
    have er : PlainMixIdeal.Read.ridx_main_v54 (ix2 R j) k = ix2 k j := by
      funext a
      fin_cases a <;> rfl
    rw [el, er]
    rfl
  rw [Finset.sum_congr rfl fun k _ => e k]
  refine (Fin.sum_univ_add (a := 512) (b := 512) fun k => PlainMixIdeal.Read.val_main_v51 (F := Ideal) A0 A1 A3 A4 A5 A6 (ix2 R k) * A7 (ix2 k j)).trans ?_
  exact congrArg₂ (· + ·) (Finset.sum_congr rfl fun k _ => congrArg (· * _) (mix_left k)) (Finset.sum_congr rfl fun k _ => congrArg (· * _) (mix_right k))

/-- A row of the residual after the mixing. -/
theorem resid_row {v14 : FVec Ideal ⟨2, ![512, 512]⟩ .bf16} {v36 : FVec Ideal ⟨2, ![512, 512]⟩ .f32} {v39 : FVec Ideal ⟨2, ![512, 1]⟩ .f32}
    (ha : ∀ k, v14 (ix2 i k) = PlainMixIdeal.Read.val_main_v37 (F := Ideal) A0 A5 (ix2 R k)) (hs : ∀ k, k0_pay5 (F := Ideal) v36 v39 A6 (ix2 i k) = PlainMixIdeal.Read.val_main_v49 (F := Ideal) A1 A3 A4 A6 (ix2 R k))
    (hx : ∀ k, v53 (ix2 i k) = A2 (ix2 R k))
    (hl : ∀ (k : Fin 512) j, v54 (ix2 k j) = A7 (ix2 (Fin.castAdd 512 k : Fin (512 + 512)) j)) (hr : ∀ (k : Fin 512) j, v56 (ix2 k j) = A7 (ix2 (Fin.natAdd 512 k : Fin (512 + 512)) j))
    (j : Fin 1024) :
    k0_pay6 (F := Ideal) v14 v36 v39 A6 v53 v54 v56 (ix2 i j) = PlainMixIdeal.Read.val_main_v55 (F := Ideal) A0 A1 A2 A3 A4 A5 A6 A7 (ix2 R j) := by
  unfold k0_pay6
  generalize k0_pay5 (F := Ideal) v36 v39 A6 = s at hs ⊢
  refine Eq.trans ?_ ((congrArg (A2 (ix2 R j) + ·) (plain_product (A0 := A0) (A1 := A1) (A3 := A3) (A4 := A4) (A5 := A5) (A6 := A6) (A7 := A7) (R := R) j)).symm)
  pointwise
  simp only [ha, hs, hx, hl, hr]

/-- A row of the residual, normed. -/
theorem norm_row {v14 : FVec Ideal ⟨2, ![512, 512]⟩ .bf16} {v36 : FVec Ideal ⟨2, ![512, 512]⟩ .f32} {v39 : FVec Ideal ⟨2, ![512, 1]⟩ .f32}
    (h : ∀ j, k0_pay6 (F := Ideal) v14 v36 v39 A6 v53 v54 v56 (ix2 i j) = PlainMixIdeal.Read.val_main_v55 (F := Ideal) A0 A1 A2 A3 A4 A5 A6 A7 (ix2 R j)) (j : Fin 1024) :
    k0_pay1 (F := Ideal) (k0_pay7 (F := Ideal) v14 v36 v39 A6 v53 v54 v56 A8) (ix2 i j) = PlainMixIdeal.Read.val_main_v68 (F := Ideal) A0 A1 A2 A3 A4 A5 A6 A7 A8 (ix2 R j) := by
  unfold k0_pay7
  generalize k0_pay6 (F := Ideal) v14 v36 v39 A6 v53 v54 v56 = x at h ⊢
  pointwise [k0_pay1, PlainMixIdeal.Read.val_main_v56, PlainMixIdeal.Read.val_main_v57, PlainMixIdeal.Read.val_main_v58, PlainMixIdeal.Read.val_main_v59, PlainMixIdeal.Read.val_main_v60, PlainMixIdeal.Read.val_main_v61, PlainMixIdeal.Read.val_main_v62, PlainMixIdeal.Read.val_main_v63, PlainMixIdeal.Read.val_main_v64, PlainMixIdeal.Read.val_main_v65, PlainMixIdeal.Read.val_main_v66, PlainMixIdeal.Read.val_main_v67, PlainMixIdeal.Read.val_main_v68, PlainMixIdeal.Read.val_main_cst_11, PlainMixIdeal.Read.val_main_cst_12, PlainMixIdeal.Read.val_main_cst_13]
  simp only [h]

end Cert.MixRows

end
-- ==== Proof.MixRows.lean ====
/-
The mixing call on one device: the blocks that the grid's points write are the plain rows of the two normed outputs side by side, of the residual
after them, and of that residual normed.
-/
module

public import proofs.«01_k».proof.Defs
public import proofs.«01_k».proof.Proof.MixRow
public import proofs.«01_k».proof.Proof.Gen.Mix
public import proofs.«01_k».proof.Proof.Gen.Mix.Frame
public import proofs.«01_k».proof.Proof.Gen.PlainMixIdeal
public import proofs.«01_k».proof.Proof.Gen.PlainMixIdeal.Run
public import proofs.«01_k».proof.Proof.Gen.MixIdeal
public import proofs.«01_k».proof.Proof.Gen.MixIdeal.Frame
public import proofs.«01_k».proof.Proof.Gen.MixIdeal.Value
public import Idealize.ShloMosaic.Lib.Pipeline.ValueKit

@[expose] public section

set_option maxRecDepth 16384

noncomputable section

namespace Cert.MixRows

open Idealize.ShloMosaic MixIdeal MixIdeal.Gen

variable (m : (ℓ : Loc nD τ sig) → Buf (Elt Ideal) ℓ) (c : Dev nD)

/-- The attention's output. -/
abbrev attnA := m ((c.tc : Thread nD τ).loc main_arg0)
/-- The scan's output. -/
abbrev yA := m ((c.tc : Thread nD τ).loc main_arg1)
/-- The residual before. -/
abbrev xA := m ((c.tc : Thread nD τ).loc main_arg2)
/-- The gate's weight. -/
abbrev gluWA := m ((c.tc : Thread nD τ).loc main_arg3)
/-- The gate's bias. -/
abbrev gluBA := m ((c.tc : Thread nD τ).loc main_arg4)
/-- The scale of the attention's norm. -/
abbrev gaA := m ((c.tc : Thread nD τ).loc main_arg5)
/-- The scale of the scan's norm. -/
abbrev gsA := m ((c.tc : Thread nD τ).loc main_arg6)
/-- The output weight. -/
abbrev wOutA := m ((c.tc : Thread nD τ).loc main_arg7)
/-- The second norm's scale. -/
abbrev g2A := m ((c.tc : Thread nD τ).loc main_arg8)

/-- Which block each window reads or writes at a point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] := by decide +kernel

/-- A row of the block is a row of the array. -/
theorem blk0 (t : Fin cfg0.N) (i : Fin 512) (R : Fin 16384) (h : R.val = t.val * 512 + i.val) (k : Fin 512) :
    iblk m c 0 t (ix2 i k) = attnA m c (ix2 R k) := by
  blk_ext [iblk, V, idx t]

/-- A row of the block is a row of the array. -/
theorem blk1 (t : Fin cfg0.N) (i : Fin 512) (R : Fin 16384) (h : R.val = t.val * 512 + i.val) (k : Fin 512) :
    iblk m c 1 t (ix2 i k) = yA m c (ix2 R k) := by
  blk_ext [iblk, V, idx t]

/-- A row of the block is a row of the array. -/
theorem blk2 (t : Fin cfg0.N) (i : Fin 512) (R : Fin 16384) (h : R.val = t.val * 512 + i.val) (k : Fin 1024) :
    iblk m c 2 t (ix2 i k) = xA m c (ix2 R k) := by
  blk_ext [iblk, V, idx t]

/-- The block is the whole array at every point. -/
theorem blk3 (t : Fin cfg0.N) : iblk m c 3 t = gluWA m c := by
  funext y
  blk_ext [iblk, V, idx t]

/-- The block is the whole array at every point. -/
theorem blk4 (t : Fin cfg0.N) : iblk m c 4 t = gluBA m c := by
  funext y
  blk_ext [iblk, V, idx t]

/-- The block is the whole array at every point. -/
theorem blk5 (t : Fin cfg0.N) : iblk m c 5 t = gaA m c := by
  funext y
  blk_ext [iblk, V, idx t]

/-- The block is the whole array at every point. -/
theorem blk6 (t : Fin cfg0.N) : iblk m c 6 t = gsA m c := by
  funext y
  blk_ext [iblk, V, idx t]

/-- The block is the whole array at every point. -/
theorem blk7 (t : Fin cfg0.N) : iblk m c 7 t = wOutA m c := by
  funext y
  blk_ext [iblk, V, idx t]

/-- The block is the whole array at every point. -/
theorem blk8 (t : Fin cfg0.N) : iblk m c 8 t = g2A m c := by
  funext y
  blk_ext [iblk, V, idx t]

/-- Both offsets are zero. -/
theorem zeros : (![0, 0] : Fin 2 → Nat) = fun _ => 0 := by
  funext a
  fin_cases a <;> rfl

/-- A load of the whole block reads the block. -/
theorem ld0 {e : EltTy} (X : S512x512.Idx → Elt Ideal e) : View.ld X r0_0 = X := View.ld_unit_zero (S := S512x512) zeros _ X

/-- A load of the whole block reads the block. -/
theorem ld1 {e : EltTy} (X : S1x512.Idx → Elt Ideal e) : View.ld X r0_1 = X := View.ld_unit_zero (S := S1x512) zeros _ X

/-- A load of the whole block reads the block. -/
theorem ld4 {e : EltTy} (X : S512x1024.Idx → Elt Ideal e) : View.ld X r0_4 = X := View.ld_unit_zero (S := S512x1024) zeros _ X

/-- A load of the whole block reads the block. -/
theorem ld7 {e : EltTy} (X : S1x1024.Idx → Elt Ideal e) : View.ld X r0_7 = X := View.ld_unit_zero (S := S1x1024) zeros _ X

/-- A store of the whole block leaves the payload. -/
theorem canon4 {e : EltTy} [∀ e, Nonempty (Elt Ideal e)] (X : S512x1024.Idx → Elt Ideal e) : View.canon [(⟨r0_4, X⟩ : View.Piece (Elt Ideal) S512x1024 e)] = X :=
  View.canon_unit_zero (S := S512x1024) zeros _ X

/-- What a point leaves in output block 9. -/
theorem open9 {x0 x1 : Vec Ideal S512x512 .f32} {x2 : Vec Ideal S512x1024 .f32} {x3 : Vec Ideal S512x512 .bf16} {x4 x5 x6 : Vec Ideal S1x512 .f32} {x7 : Vec Ideal S1024x1024 .bf16} {x8 : Vec Ideal S1x1024 .f32} :
    out0_9 (F := Ideal) x0 x1 x2 x3 x4 x5 x6 x7 x8 = View.canon [⟨r0_3, k0_pay5 (k0_pay3 x1 x3 x4) (k0_pay4 x1 x3 x4) x6⟩, ⟨r0_2, k0_pay2 x0 x5⟩] := by
  unfold_out out0_9
  simp only [canon4, ld0, ld1, ld4, ld7]

/-- What a point leaves in output block 10. -/
theorem open10 {x0 x1 : Vec Ideal S512x512 .f32} {x2 : Vec Ideal S512x1024 .f32} {x3 : Vec Ideal S512x512 .bf16} {x4 x5 x6 : Vec Ideal S1x512 .f32} {x7 : Vec Ideal S1024x1024 .bf16} {x8 : Vec Ideal S1x1024 .f32} :
    out0_10 (F := Ideal) x0 x1 x2 x3 x4 x5 x6 x7 x8 = k0_pay6 (k0_pay2 x0 x5) (k0_pay3 x1 x3 x4) (k0_pay4 x1 x3 x4) x6 x2 (View.ld x7 r0_5) (View.ld x7 r0_6) := by
  unfold_out out0_10
  simp only [canon4, ld0, ld1, ld4, ld7]

/-- What a point leaves in output block 11. -/
theorem open11 {x0 x1 : Vec Ideal S512x512 .f32} {x2 : Vec Ideal S512x1024 .f32} {x3 : Vec Ideal S512x512 .bf16} {x4 x5 x6 : Vec Ideal S1x512 .f32} {x7 : Vec Ideal S1024x1024 .bf16} {x8 : Vec Ideal S1x1024 .f32} :
    out0_11 (F := Ideal) x0 x1 x2 x3 x4 x5 x6 x7 x8 = k0_pay1 (k0_pay7 (k0_pay2 x0 x5) (k0_pay3 x1 x3 x4) (k0_pay4 x1 x3 x4) x6 x2 (View.ld x7 r0_5) (View.ld x7 r0_6) x8) := by
  unfold_out out0_11
  simp only [canon4, ld0, ld1, ld4, ld7]

/-- The upper half of the output weight. -/
theorem upper (w : FVec Ideal ⟨2, ![1024, 1024]⟩ .bf16) (k : Fin 512) (j : Fin 1024) :
    (View.ld (Val := Elt Ideal) (e' := .bf16) w r0_5 : FVec Ideal ⟨2, ![512, 1024]⟩ .bf16) (ix2 k j) = w (ix2 (Fin.castAdd 512 k : Fin (512 + 512)) j) := by
  refine View.ld_unit_apply_of (Val := Elt Ideal) (e := .bf16) (S := S1024x1024) w ![0, 0] S512x1024.size _ (ix2 k j : S512x1024.Idx) _ fun a => ?_
  fin_cases a
  · exact (Nat.zero_add _).symm
  · exact (Nat.zero_add _).symm

/-- The lower half. -/
theorem lower (w : FVec Ideal ⟨2, ![1024, 1024]⟩ .bf16) (k : Fin 512) (j : Fin 1024) :
    (View.ld (Val := Elt Ideal) (e' := .bf16) w r0_6 : FVec Ideal ⟨2, ![512, 1024]⟩ .bf16) (ix2 k j) = w (ix2 (Fin.natAdd 512 k : Fin (512 + 512)) j) := by
  refine View.ld_unit_apply_of (Val := Elt Ideal) (e := .bf16) (S := S1024x1024) w ![512, 0] S512x1024.size _ (ix2 k j : S512x1024.Idx) _ fun a => ?_
  fin_cases a
  · exact rfl
  · exact (Nat.zero_add _).symm

/-- A point's block of the attention's normed output. -/
theorem rowA (t : Fin cfg0.N) (i : Fin 512) (R : Fin 16384) (h : R.val = t.val * 512 + i.val) (k : Fin 512) :
    k0_pay2 (F := Ideal) (iblk m c 0 t) (gaA m c) (ix2 i k) = PlainMixIdeal.Read.val_main_v37 (F := Ideal) (attnA m c) (gaA m c) (ix2 R k) := attn_row (blk0 m c t i R h) k

/-- A point's block of the scan's gated and normed output. -/
theorem rowS (t : Fin cfg0.N) (i : Fin 512) (R : Fin 16384) (h : R.val = t.val * 512 + i.val) (k : Fin 512) :
    k0_pay5 (F := Ideal) (k0_pay3 (F := Ideal) (iblk m c 1 t) (gluWA m c) (gluBA m c)) (k0_pay4 (F := Ideal) (iblk m c 1 t) (gluWA m c) (gluBA m c)) (gsA m c) (ix2 i k)
      = PlainMixIdeal.Read.val_main_v49 (F := Ideal) (yA m c) (gluWA m c) (gluBA m c) (gsA m c) (ix2 R k) := scan_row (blk1 m c t i R h) k

/-- A point's block of the residual. -/
theorem row10 (t : Fin cfg0.N) (i : Fin 512) (R : Fin 16384) (h : R.val = t.val * 512 + i.val) (j : Fin 1024) :
    k0_pay6 (F := Ideal) (k0_pay2 (F := Ideal) (iblk m c 0 t) (gaA m c)) (k0_pay3 (F := Ideal) (iblk m c 1 t) (gluWA m c) (gluBA m c)) (k0_pay4 (F := Ideal) (iblk m c 1 t) (gluWA m c) (gluBA m c))
      (gsA m c) (iblk m c 2 t) (View.ld (wOutA m c) r0_5) (View.ld (wOutA m c) r0_6) (ix2 i j)
      = PlainMixIdeal.Read.val_main_v55 (F := Ideal) (attnA m c) (yA m c) (xA m c) (gluWA m c) (gluBA m c) (gaA m c) (gsA m c) (wOutA m c) (ix2 R j) :=
  resid_row (rowA m c t i R h) (rowS m c t i R h) (blk2 m c t i R h) (upper _) (lower _) j

/-- A point's block of the residual, normed. -/
theorem row11 (t : Fin cfg0.N) (i : Fin 512) (R : Fin 16384) (h : R.val = t.val * 512 + i.val) (j : Fin 1024) :
    k0_pay1 (F := Ideal) (k0_pay7 (F := Ideal) (k0_pay2 (F := Ideal) (iblk m c 0 t) (gaA m c)) (k0_pay3 (F := Ideal) (iblk m c 1 t) (gluWA m c) (gluBA m c)) (k0_pay4 (F := Ideal) (iblk m c 1 t) (gluWA m c) (gluBA m c))
      (gsA m c) (iblk m c 2 t) (View.ld (wOutA m c) r0_5) (View.ld (wOutA m c) r0_6) (g2A m c)) (ix2 i j)
      = PlainMixIdeal.Read.val_main_v68 (F := Ideal) (attnA m c) (yA m c) (xA m c) (gluWA m c) (gluBA m c) (gaA m c) (gsA m c) (wOutA m c) (g2A m c) (ix2 R j) :=
  norm_row (row10 m c t i R h) j

/-- The residual's array after the run is the plain one. -/
theorem result10 : (dats m 0 c).arrAt 10 cfg0.N = PlainMixIdeal.Read.val_main_v55 (F := Ideal) (attnA m c) (yA m c) (xA m c) (gluWA m c) (gluBA m c) (gaA m c) (gsA m c) (wOutA m c) := by
  refine (dats m 0 c).arrAt_eq_of_covers 10 _ (by decide +kernel) fun t hf y => ?_
  have hb : (y 0).val < 512 := (y 0).isLt
  have ht : t.val < 32 := t.isLt
  have e : (((cfg0.win 10).blk t).view.emb y) = ix2 (⟨t.val * 512 + (y 0).val, by omega⟩ : Fin 16384) (y 1 : Fin 1024) := by
    blk_ext [idx t]
  have ey : y = ix2 (y 0 : Fin 512) (y 1 : Fin 1024) := by blk_ext
  have key := row10 m c t (y 0 : Fin 512) ⟨t.val * 512 + (y 0).val, by omega⟩ rfl (y 1 : Fin 1024)
  rw [e]
  blk_simp
  rw [after0_10, open10, blk3, blk4, blk5, blk6, blk7]
  exact (congrArg _ ey).trans key

/-- So is the normed residual's. -/
theorem result11 : (dats m 0 c).arrAt 11 cfg0.N = PlainMixIdeal.Read.val_main_v68 (F := Ideal) (attnA m c) (yA m c) (xA m c) (gluWA m c) (gluBA m c) (gaA m c) (gsA m c) (wOutA m c) (g2A m c) := by
  refine (dats m 0 c).arrAt_eq_of_covers 11 _ (by decide +kernel) fun t hf y => ?_
  have hb : (y 0).val < 512 := (y 0).isLt
  have ht : t.val < 32 := t.isLt
  have e : (((cfg0.win 11).blk t).view.emb y) = ix2 (⟨t.val * 512 + (y 0).val, by omega⟩ : Fin 16384) (y 1 : Fin 1024) := by
    blk_ext [idx t]
  have ey : y = ix2 (y 0 : Fin 512) (y 1 : Fin 1024) := by blk_ext
  have key := row11 m c t (y 0 : Fin 512) ⟨t.val * 512 + (y 0).val, by omega⟩ rfl (y 1 : Fin 1024)
  rw [e]
  blk_simp
  rw [after0_11, open11, blk3, blk4, blk5, blk6, blk7, blk8]
  exact (congrArg _ ey).trans key

/-- A point's block of the two normed outputs side by side: what the two stores leave. -/
theorem block9 (t : Fin cfg0.N) (y : S512x1024.Idx) (h : t.val * 512 + (y 0).val < 16384) :
    out0_9 (F := Ideal) (iblk m c 0 t) (iblk m c 1 t) (iblk m c 2 t) (iblk m c 3 t) (iblk m c 4 t) (iblk m c 5 t) (iblk m c 6 t) (iblk m c 7 t) (iblk m c 8 t) y
      = PlainMixIdeal.Read.val_main_v51 (F := Ideal) (attnA m c) (yA m c) (gluWA m c) (gluBA m c) (gaA m c) (gsA m c) (ix2 (⟨t.val * 512 + (y 0).val, h⟩ : Fin 16384) (y 1 : Fin 1024)) := by
  have ht : t.val < 32 := t.isLt
  have hr : ∀ i : Fin 512, t.val * 512 + i.val < 16384 := fun i => by omega
  rw [open9, blk3, blk4, blk5, blk6]
  refine View.canon_apply_of_pieces (fun y : S512x1024.Idx => PlainMixIdeal.Read.val_main_v51 (F := Ideal) (attnA m c) (yA m c) (gluWA m c) (gluBA m c) (gaA m c) (gsA m c) (ix2 (⟨t.val * 512 + (y 0).val, hr (y 0)⟩ : Fin 16384) (y 1 : Fin 1024))) _ ?_ y (cover0_9 _ _ y)
  intro p hp x
  rcases List.mem_cons.mp hp with rfl | hp
  · have ex : x = ix2 (x 0 : Fin 512) (x 1 : Fin 512) := by blk_ext
    have ee : (ix2 (⟨t.val * 512 + ((r0_3.emb x) 0).val, hr ((r0_3.emb x) 0)⟩ : Fin 16384) ((r0_3.emb x) 1 : Fin 1024) : (⟨2, ![16384, 1024]⟩ : Shape).Idx)
        = ix2 (⟨t.val * 512 + (x 0).val, hr (x 0)⟩ : Fin 16384) (Fin.natAdd 512 (x 1 : Fin 512) : Fin (512 + 512)) := by
      blk_ext
      rfl
    refine ((congrArg _ ex).trans (rowS m c t (x 0 : Fin 512) ⟨t.val * 512 + (x 0).val, hr (x 0)⟩ rfl (x 1 : Fin 512))).trans ?_
    exact ((congrArg _ ee).trans (mix_right _)).symm
  · obtain rfl := List.mem_singleton.mp hp
    have ex : x = ix2 (x 0 : Fin 512) (x 1 : Fin 512) := by blk_ext
    have ee : (ix2 (⟨t.val * 512 + ((r0_2.emb x) 0).val, hr ((r0_2.emb x) 0)⟩ : Fin 16384) ((r0_2.emb x) 1 : Fin 1024) : (⟨2, ![16384, 1024]⟩ : Shape).Idx)
        = ix2 (⟨t.val * 512 + (x 0).val, hr (x 0)⟩ : Fin 16384) (Fin.castAdd 512 (x 1 : Fin 512) : Fin (512 + 512)) := by
      blk_ext
      rfl
    refine ((congrArg _ ex).trans (rowA m c t (x 0 : Fin 512) ⟨t.val * 512 + (x 0).val, hr (x 0)⟩ rfl (x 1 : Fin 512))).trans ?_
    exact ((congrArg _ ee).trans (mix_left _)).symm

/-- And the two normed outputs'. -/
theorem result9 : (dats m 0 c).arrAt 9 cfg0.N = PlainMixIdeal.Read.val_main_v51 (F := Ideal) (attnA m c) (yA m c) (gluWA m c) (gluBA m c) (gaA m c) (gsA m c) := by
  refine (dats m 0 c).arrAt_eq_of_covers 9 _ (by decide +kernel) fun t hf y => ?_
  have hb : (y 0).val < 512 := (y 0).isLt
  have ht : t.val < 32 := t.isLt
  have e : (((cfg0.win 9).blk t).view.emb y) = ix2 (⟨t.val * 512 + (y 0).val, by omega⟩ : Fin 16384) (y 1 : Fin 1024) := by
    blk_ext [idx t]
  have ey : y = ix2 (y 0 : Fin 512) (y 1 : Fin 1024) := by blk_ext
  rw [e]
  blk_simp
  rw [after0_9]
  exact block9 m c t y _

/-- The printed program runs and leaves its arguments and semaphores as they were. -/
theorem frame_bits : Cert.quiescent_Mix := fun m ρ _ => Cert.Mix.Gen.frame m ρ

/-- So does the idealized one. -/
theorem frame_ideal : Cert.quiescent_MixIdeal := fun m ρ _ => Cert.MixIdeal.Gen.frame m ρ

/-- So does the plain one, which has no semaphores. -/
theorem frame_plain : Cert.quiescent_PlainMixIdeal := fun m ρ _ =>
  (θ_run Cert.PlainMixIdeal.defs _ _).mono (fun r h => ⟨fun c => (h c).2.2.2, sem_eq_zero_of_no_sems (by decide) r.2⟩)
    (Cert.PlainMixIdeal.Value.run m ρ)

/-- All three results of the kernel are the plain ones. -/
theorem value : Cert.algebraic_MixIdeal_PlainMixIdeal := by
  intro m g m' g' _ ag
  refine ⟨_, _, _, ?_, (θ_run Cert.PlainMixIdeal.defs _ _).mono (fun r h c => h c) (Cert.PlainMixIdeal.Value.run m' g')⟩
  refine (θ_run Cert.MixIdeal.defs _ _).mono (fun r h c => ?_) (Cert.MixIdeal.Value.run_blocks m g)
  refine ⟨(h c).1.trans ((result9 m c).trans ?_), (h c).2.1.trans ((result10 m c).trans ?_), (h c).2.2.1.trans ((result11 m c).trans ?_), (h c).2.2.2⟩
  · rw [Cert.PlainMixIdeal.Read.val_main_v51_eq, (ag c).1, (ag c).2.1, (ag c).2.2.2.1, (ag c).2.2.2.2.1, (ag c).2.2.2.2.2.1, (ag c).2.2.2.2.2.2.1]
  · rw [Cert.PlainMixIdeal.Read.val_main_v55_eq, (ag c).1, (ag c).2.1, (ag c).2.2.1, (ag c).2.2.2.1, (ag c).2.2.2.2.1, (ag c).2.2.2.2.2.1, (ag c).2.2.2.2.2.2.1, (ag c).2.2.2.2.2.2.2.1]
  · rw [Cert.PlainMixIdeal.Read.val_main_v68_eq, (ag c).1, (ag c).2.1, (ag c).2.2.1, (ag c).2.2.2.1, (ag c).2.2.2.2.1, (ag c).2.2.2.2.2.1, (ag c).2.2.2.2.2.2.1, (ag c).2.2.2.2.2.2.2.1, (ag c).2.2.2.2.2.2.2.2]

end Cert.MixRows

end
-- ==== Proof.MixGradRow.lean ====
/-
A row of the mixing's gradients: the two norms' gradients, the gate's, and the gelu's, and the summands of the small weights' gradients.
-/
module

public import proofs.«01_k».proof.Proof.Gen.MixGradientIdeal.Skeleton
public import proofs.«01_k».proof.Proof.Gen.PlainMixGradientIdeal.Read
public import Idealize.ShloMosaic.Lib.Pointwise
public import Idealize.ShloMosaic.Lib.IdealHost
public import Idealize.ShloMosaic.Lib.Pipeline.ValueKit

@[expose] public section

set_option maxRecDepth 16384

noncomputable section

namespace Cert.MixGrad

open Idealize.ShloMosaic MixGradientIdeal.Gen

variable {A0 : FVec Ideal ⟨2, ![16384, 1024]⟩ .bf16} {A1 : FVec Ideal ⟨2, ![1024, 1024]⟩ .bf16} {A2 A3 : FVec Ideal ⟨2, ![16384, 512]⟩ .f32}
  {A4 A6 : FVec Ideal ⟨2, ![512, 512]⟩ .bf16} {A5 A7 A8 : FVec Ideal ⟨2, ![1, 512]⟩ .f32}
  {v1 : FVec Ideal ⟨2, ![512, 1024]⟩ .bf16} {v5 v35 : FVec Ideal ⟨2, ![512, 512]⟩ .f32}
  {i : Fin 512} {R : Fin 16384}

/-- The gelu's cubic constant. -/
abbrev cub : Ideal .f32 := Scalar.ofBits (F := Ideal) .f32 0x3D372713#32

/-- A row of the product with the output weight. -/
theorem prod_row (h : ∀ k, v1 (ix2 i k) = A0 (ix2 R k)) (j : Fin 1024) :
    k0_pay7 (F := Ideal) v1 A1 (ix2 i j) = PlainMixGradientIdeal.Read.val_main_v2 (F := Ideal) A0 A1 (ix2 R j) := by
  pointwise [k0_pay7, PlainMixGradientIdeal.Read.val_main_v0, PlainMixGradientIdeal.Read.val_main_v1, PlainMixGradientIdeal.Read.val_main_v2]
  simp only [h]

/-- Its left columns. -/
theorem left_row (h : ∀ k, v1 (ix2 i k) = A0 (ix2 R k)) (k : Fin 512) :
    k0_pay8 (F := Ideal) v1 A1 (ix2 i k) = PlainMixGradientIdeal.Read.val_main_v3 (F := Ideal) A0 A1 (ix2 R k) := by
  pointwise [k0_pay8, k0_pay7, PlainMixGradientIdeal.Read.val_main_v0, PlainMixGradientIdeal.Read.val_main_v1, PlainMixGradientIdeal.Read.val_main_v2, PlainMixGradientIdeal.Read.val_main_v3]
  simp only [h]

/-- Its right columns. -/
theorem right_row (h : ∀ k, v1 (ix2 i k) = A0 (ix2 R k)) (k : Fin 512) :
    k0_pay16 (F := Ideal) (k0_pay7 (F := Ideal) v1 A1) (ix2 i k) = PlainMixGradientIdeal.Read.val_main_v58 (F := Ideal) A0 A1 (ix2 R k) := by
  pointwise [k0_pay16, k0_pay7, PlainMixGradientIdeal.Read.val_main_v0, PlainMixGradientIdeal.Read.val_main_v1, PlainMixGradientIdeal.Read.val_main_v2, PlainMixGradientIdeal.Read.val_main_v58]
  simp only [h]

/-- A row of the gradient by the attention's output. -/
theorem attn_row (h0 : ∀ k, v1 (ix2 i k) = A0 (ix2 R k)) (h2 : ∀ k, v5 (ix2 i k) = A2 (ix2 R k)) (k : Fin 512) :
    k0_pay10 (F := Ideal) v1 A1 v5 A7 (ix2 i k) = PlainMixGradientIdeal.Read.val_main_v27 (F := Ideal) A0 A1 A2 A7 (ix2 R k) := by
  have hp := left_row (A1 := A1) h0
  unfold k0_pay10
  generalize k0_pay8 (F := Ideal) v1 A1 = p at hp ⊢
  pointwise [k0_pay9, PlainMixGradientIdeal.Read.val_main_v4, PlainMixGradientIdeal.Read.val_main_v5, PlainMixGradientIdeal.Read.val_main_v6, PlainMixGradientIdeal.Read.val_main_v7, PlainMixGradientIdeal.Read.val_main_v8, PlainMixGradientIdeal.Read.val_main_v9, PlainMixGradientIdeal.Read.val_main_v10, PlainMixGradientIdeal.Read.val_main_v11, PlainMixGradientIdeal.Read.val_main_v12, PlainMixGradientIdeal.Read.val_main_v13, PlainMixGradientIdeal.Read.val_main_v14, PlainMixGradientIdeal.Read.val_main_v15, PlainMixGradientIdeal.Read.val_main_v16, PlainMixGradientIdeal.Read.val_main_v17, PlainMixGradientIdeal.Read.val_main_v18, PlainMixGradientIdeal.Read.val_main_v19, PlainMixGradientIdeal.Read.val_main_v20, PlainMixGradientIdeal.Read.val_main_v21, PlainMixGradientIdeal.Read.val_main_v22, PlainMixGradientIdeal.Read.val_main_v23, PlainMixGradientIdeal.Read.val_main_v24, PlainMixGradientIdeal.Read.val_main_v25, PlainMixGradientIdeal.Read.val_main_v26, PlainMixGradientIdeal.Read.val_main_v27, PlainMixGradientIdeal.Read.val_main_cst, PlainMixGradientIdeal.Read.val_main_cst_0, PlainMixGradientIdeal.Read.val_main_cst_1, PlainMixGradientIdeal.Read.val_main_cst_2, PlainMixGradientIdeal.Read.val_main_cst_3]
  simp only [h2, hp]

/-- A row of the summands of the gradient by the attention norm's scale. -/
theorem ga_row (h0 : ∀ k, v1 (ix2 i k) = A0 (ix2 R k)) (h2 : ∀ k, v5 (ix2 i k) = A2 (ix2 R k)) (k : Fin 512) :
    k0_pay11 (F := Ideal) v1 A1 v5 (ix2 i k) = PlainMixGradientIdeal.Read.val_main_v30 (F := Ideal) A0 A1 A2 (ix2 R k) := by
  have hp := left_row (A1 := A1) h0
  unfold k0_pay11
  generalize k0_pay8 (F := Ideal) v1 A1 = p at hp ⊢
  pointwise [k0_pay9, PlainMixGradientIdeal.Read.val_main_v4, PlainMixGradientIdeal.Read.val_main_v5, PlainMixGradientIdeal.Read.val_main_v6, PlainMixGradientIdeal.Read.val_main_v7, PlainMixGradientIdeal.Read.val_main_v8, PlainMixGradientIdeal.Read.val_main_v9, PlainMixGradientIdeal.Read.val_main_v10, PlainMixGradientIdeal.Read.val_main_v11, PlainMixGradientIdeal.Read.val_main_v28, PlainMixGradientIdeal.Read.val_main_v29, PlainMixGradientIdeal.Read.val_main_v30, PlainMixGradientIdeal.Read.val_main_cst, PlainMixGradientIdeal.Read.val_main_cst_0, PlainMixGradientIdeal.Read.val_main_cst_1]
  simp only [h2, hp]

/-- A row of the gelu's tanh. -/
theorem tanh_row (h : ∀ k, v35 (ix2 i k) = A3 (ix2 R k)) (k : Fin 512) :
    k0_pay13 (F := Ideal) v35 (k0_pay12 (F := Ideal) v35) cub (ix2 i k) = PlainMixGradientIdeal.Read.val_main_v40 (F := Ideal) A3 (ix2 R k) := by
  pointwise [k0_pay13, k0_pay12, PlainMixGradientIdeal.Read.val_main_v33, PlainMixGradientIdeal.Read.val_main_v34, PlainMixGradientIdeal.Read.val_main_v35, PlainMixGradientIdeal.Read.val_main_v36, PlainMixGradientIdeal.Read.val_main_v37, PlainMixGradientIdeal.Read.val_main_v38, PlainMixGradientIdeal.Read.val_main_v39, PlainMixGradientIdeal.Read.val_main_v40, PlainMixGradientIdeal.Read.val_main_cst_5, PlainMixGradientIdeal.Read.val_main_cst_6]
  simp only [h]

/-- A row of the gelu. -/
theorem gelu_row (h : ∀ k, v35 (ix2 i k) = A3 (ix2 R k)) (k : Fin 512) :
    k0_pay14 (F := Ideal) v35 (k0_pay12 (F := Ideal) v35) cub (ix2 i k) = PlainMixGradientIdeal.Read.val_main_v45 (F := Ideal) A3 (ix2 R k) := by
  have ht := tanh_row h
  unfold k0_pay14
  generalize k0_pay13 (F := Ideal) v35 (k0_pay12 (F := Ideal) v35) cub = p at ht ⊢
  pointwise [PlainMixGradientIdeal.Read.val_main_v41, PlainMixGradientIdeal.Read.val_main_v42, PlainMixGradientIdeal.Read.val_main_v43, PlainMixGradientIdeal.Read.val_main_v44, PlainMixGradientIdeal.Read.val_main_v45, PlainMixGradientIdeal.Read.val_main_cst_7, PlainMixGradientIdeal.Read.val_main_cst_8]
  simp only [h, ht]
  rw [mul_comm (Ideal.ofBits .f32 0x3F000000#32), mul_assoc]

/-- A row of the gate. -/
theorem gate_row (h : ∀ k, v35 (ix2 i k) = A3 (ix2 R k)) (k : Fin 512) :
    k0_pay15 (F := Ideal) v35 (k0_pay12 (F := Ideal) v35) cub A4 A5 (ix2 i k) = PlainMixGradientIdeal.Read.val_main_v57 (F := Ideal) A3 A4 A5 (ix2 R k) := by
  have hg := gelu_row h
  unfold k0_pay15
  generalize k0_pay14 (F := Ideal) v35 (k0_pay12 (F := Ideal) v35) cub = p at hg ⊢
  pointwise [PlainMixGradientIdeal.Read.val_main_v46, PlainMixGradientIdeal.Read.val_main_v47, PlainMixGradientIdeal.Read.val_main_v48, PlainMixGradientIdeal.Read.val_main_v49, PlainMixGradientIdeal.Read.val_main_v50, PlainMixGradientIdeal.Read.val_main_v51, PlainMixGradientIdeal.Read.val_main_v52, PlainMixGradientIdeal.Read.val_main_v53, PlainMixGradientIdeal.Read.val_main_v54, PlainMixGradientIdeal.Read.val_main_v55, PlainMixGradientIdeal.Read.val_main_v56, PlainMixGradientIdeal.Read.val_main_v57, PlainMixGradientIdeal.Read.val_main_cst_9, PlainMixGradientIdeal.Read.val_main_cst_10]
  simp only [hg, Ideal.logistic, Ideal.ofBits_one_f32]

/-- A row of the gated gelu. -/
theorem gated_row (h : ∀ k, v35 (ix2 i k) = A3 (ix2 R k)) (k : Fin 512) :
    k0_pay17 (F := Ideal) v35 (k0_pay12 (F := Ideal) v35) cub A4 A5 (ix2 i k) = PlainMixGradientIdeal.Read.val_main_v59 (F := Ideal) A3 A4 A5 (ix2 R k) :=
  congrArg₂ (fun a b : EReal => a * b) (gelu_row h k) (gate_row h k)

/-- A row of the gradient by the gated gelu. -/
theorem gated_grad_row (h0 : ∀ k, v1 (ix2 i k) = A0 (ix2 R k)) (h : ∀ k, v35 (ix2 i k) = A3 (ix2 R k)) (k : Fin 512) :
    k0_pay19 (F := Ideal) (k0_pay7 (F := Ideal) v1 A1) v35 (k0_pay12 (F := Ideal) v35) cub A4 A5 A8 (ix2 i k)
      = PlainMixGradientIdeal.Read.val_main_v83 (F := Ideal) A0 A1 A3 A4 A5 A8 (ix2 R k) := by
  have hp := right_row (A1 := A1) h0
  have hg := gated_row (A4 := A4) (A5 := A5) h
  unfold k0_pay19 k0_pay18
  generalize k0_pay16 (F := Ideal) (k0_pay7 (F := Ideal) v1 A1) = p at hp ⊢
  generalize k0_pay17 (F := Ideal) v35 (k0_pay12 (F := Ideal) v35) cub A4 A5 = q at hg ⊢
  pointwise [PlainMixGradientIdeal.Read.val_main_v60, PlainMixGradientIdeal.Read.val_main_v61, PlainMixGradientIdeal.Read.val_main_v62, PlainMixGradientIdeal.Read.val_main_v63, PlainMixGradientIdeal.Read.val_main_v64, PlainMixGradientIdeal.Read.val_main_v65, PlainMixGradientIdeal.Read.val_main_v66, PlainMixGradientIdeal.Read.val_main_v67, PlainMixGradientIdeal.Read.val_main_v68, PlainMixGradientIdeal.Read.val_main_v69, PlainMixGradientIdeal.Read.val_main_v70, PlainMixGradientIdeal.Read.val_main_v71, PlainMixGradientIdeal.Read.val_main_v72, PlainMixGradientIdeal.Read.val_main_v73, PlainMixGradientIdeal.Read.val_main_v74, PlainMixGradientIdeal.Read.val_main_v75, PlainMixGradientIdeal.Read.val_main_v76, PlainMixGradientIdeal.Read.val_main_v77, PlainMixGradientIdeal.Read.val_main_v78, PlainMixGradientIdeal.Read.val_main_v79, PlainMixGradientIdeal.Read.val_main_v80, PlainMixGradientIdeal.Read.val_main_v81, PlainMixGradientIdeal.Read.val_main_v82, PlainMixGradientIdeal.Read.val_main_v83, PlainMixGradientIdeal.Read.val_main_cst_11, PlainMixGradientIdeal.Read.val_main_cst_12, PlainMixGradientIdeal.Read.val_main_cst_13, PlainMixGradientIdeal.Read.val_main_cst_14, PlainMixGradientIdeal.Read.val_main_cst_15]
  simp only [hp, hg]

/-- A row of the summands of the gradient by the scan norm's scale. -/
theorem gs_row (h0 : ∀ k, v1 (ix2 i k) = A0 (ix2 R k)) (h : ∀ k, v35 (ix2 i k) = A3 (ix2 R k)) (k : Fin 512) :
    k0_pay20 (F := Ideal) (k0_pay16 (F := Ideal) (k0_pay7 (F := Ideal) v1 A1)) (k0_pay17 (F := Ideal) v35 (k0_pay12 (F := Ideal) v35) cub A4 A5) (k0_pay18 (F := Ideal) v35 (k0_pay12 (F := Ideal) v35) cub A4 A5) (ix2 i k)
      = PlainMixGradientIdeal.Read.val_main_v86 (F := Ideal) A0 A1 A3 A4 A5 (ix2 R k) := by
  have hp := right_row (A1 := A1) h0
  have hg := gated_row (A4 := A4) (A5 := A5) h
  unfold k0_pay18
  generalize k0_pay16 (F := Ideal) (k0_pay7 (F := Ideal) v1 A1) = p at hp ⊢
  generalize k0_pay17 (F := Ideal) v35 (k0_pay12 (F := Ideal) v35) cub A4 A5 = q at hg ⊢
  pointwise [k0_pay20, PlainMixGradientIdeal.Read.val_main_v60, PlainMixGradientIdeal.Read.val_main_v61, PlainMixGradientIdeal.Read.val_main_v62, PlainMixGradientIdeal.Read.val_main_v63, PlainMixGradientIdeal.Read.val_main_v64, PlainMixGradientIdeal.Read.val_main_v65, PlainMixGradientIdeal.Read.val_main_v66, PlainMixGradientIdeal.Read.val_main_v67, PlainMixGradientIdeal.Read.val_main_v84, PlainMixGradientIdeal.Read.val_main_v85, PlainMixGradientIdeal.Read.val_main_v86, PlainMixGradientIdeal.Read.val_main_cst_11, PlainMixGradientIdeal.Read.val_main_cst_12, PlainMixGradientIdeal.Read.val_main_cst_13]
  simp only [hp, hg]

variable {v43 v48 v55 v82 : FVec Ideal ⟨2, ![512, 512]⟩ .f32}

/-- A row of the gradient by the gate's product. -/
theorem pre_row (hz : ∀ k, v48 (ix2 i k) = PlainMixGradientIdeal.Read.val_main_v45 (F := Ideal) A3 (ix2 R k)) (hg : ∀ k, v55 (ix2 i k) = PlainMixGradientIdeal.Read.val_main_v57 (F := Ideal) A3 A4 A5 (ix2 R k))
    (hd : ∀ k, v82 (ix2 i k) = PlainMixGradientIdeal.Read.val_main_v83 (F := Ideal) A0 A1 A3 A4 A5 A8 (ix2 R k)) (k : Fin 512) :
    k0_pay21 (F := Ideal) v48 v55 v82 (ix2 i k) = PlainMixGradientIdeal.Read.val_main_v93 (F := Ideal) A0 A1 A3 A4 A5 A8 (ix2 R k) := by
  pointwise [k0_pay21, PlainMixGradientIdeal.Read.val_main_v89, PlainMixGradientIdeal.Read.val_main_v90, PlainMixGradientIdeal.Read.val_main_v91, PlainMixGradientIdeal.Read.val_main_v92, PlainMixGradientIdeal.Read.val_main_v93, PlainMixGradientIdeal.Read.val_main_cst_17]
  simp only [hz, hg, hd]

/-- A row of the gradient by the scan's output. -/
theorem scan_row (h : ∀ k, v35 (ix2 i k) = A3 (ix2 R k)) (ht : ∀ k, v43 (ix2 i k) = PlainMixGradientIdeal.Read.val_main_v40 (F := Ideal) A3 (ix2 R k))
    (hz : ∀ k, v48 (ix2 i k) = PlainMixGradientIdeal.Read.val_main_v45 (F := Ideal) A3 (ix2 R k)) (hg : ∀ k, v55 (ix2 i k) = PlainMixGradientIdeal.Read.val_main_v57 (F := Ideal) A3 A4 A5 (ix2 R k))
    (hd : ∀ k, v82 (ix2 i k) = PlainMixGradientIdeal.Read.val_main_v83 (F := Ideal) A0 A1 A3 A4 A5 A8 (ix2 R k)) (k : Fin 512) :
    k0_pay23 (F := Ideal) v35 v43 v48 v55 v82 A6 (ix2 i k) = PlainMixGradientIdeal.Read.val_main_v127 (F := Ideal) A0 A1 A3 A4 A5 A6 A8 (ix2 R k) := by
  have hp := pre_row hz hg hd
  have e : PlainMixGradientIdeal.Read.val_main_v107 (F := Ideal) A3 = PlainMixGradientIdeal.Read.val_main_v40 (F := Ideal) A3 := rfl
  unfold k0_pay23 k0_pay22
  generalize k0_pay21 (F := Ideal) v48 v55 v82 = q at hp ⊢
  pointwise [PlainMixGradientIdeal.Read.val_main_v94, PlainMixGradientIdeal.Read.val_main_v95, PlainMixGradientIdeal.Read.val_main_v96, PlainMixGradientIdeal.Read.val_main_v97, PlainMixGradientIdeal.Read.val_main_v98, PlainMixGradientIdeal.Read.val_main_v99, PlainMixGradientIdeal.Read.val_main_v108, PlainMixGradientIdeal.Read.val_main_v109, PlainMixGradientIdeal.Read.val_main_v110, PlainMixGradientIdeal.Read.val_main_v111, PlainMixGradientIdeal.Read.val_main_v112, PlainMixGradientIdeal.Read.val_main_v113, PlainMixGradientIdeal.Read.val_main_v114, PlainMixGradientIdeal.Read.val_main_v115, PlainMixGradientIdeal.Read.val_main_v116, PlainMixGradientIdeal.Read.val_main_v117, PlainMixGradientIdeal.Read.val_main_v118, PlainMixGradientIdeal.Read.val_main_v119, PlainMixGradientIdeal.Read.val_main_v120, PlainMixGradientIdeal.Read.val_main_v121, PlainMixGradientIdeal.Read.val_main_v122, PlainMixGradientIdeal.Read.val_main_v123, PlainMixGradientIdeal.Read.val_main_v124, PlainMixGradientIdeal.Read.val_main_v125, PlainMixGradientIdeal.Read.val_main_v126, PlainMixGradientIdeal.Read.val_main_v127, PlainMixGradientIdeal.Read.val_main_cst_20, PlainMixGradientIdeal.Read.val_main_cst_21, PlainMixGradientIdeal.Read.val_main_cst_22, PlainMixGradientIdeal.Read.val_main_cst_23, PlainMixGradientIdeal.Read.val_main_cst_24, PlainMixGradientIdeal.Read.val_main_cst_25, PlainMixGradientIdeal.Read.val_main_cst_26]
  simp only [h, ht, hg, hd, hp, e]

/-- A sum starts from zero. -/
theorem start1 (z : Fin 1) (j : Fin 512) : k0_pay1 (F := Ideal) (ix2 z j) = (0 : EReal) := by
  pointwise [k0_pay1]

/-- So does the second. -/
theorem start3 (z : Fin 1) (j : Fin 512) : k0_pay3 (F := Ideal) (ix2 z j) = (0 : EReal) := by
  pointwise [k0_pay3]

/-- And the third. -/
theorem start5 (z : Fin 1) (j : Fin 512) : k0_pay5 (F := Ideal) (ix2 z j) = (0 : EReal) := by
  pointwise [k0_pay5]

/-- A point adds its block's rows. -/
theorem step2 (x : FVec Ideal ⟨2, ![512, 512]⟩ .f32) (a : FVec Ideal ⟨2, ![1, 512]⟩ .f32) (z : Fin 1) (j : Fin 512) :
    k0_pay2 (F := Ideal) x a (ix2 z j) = a (ix2 z j) + ∑ k : Fin 512, x (ix2 k j) := by
  pointwise [k0_pay2]

/-- Also in the second sum. -/
theorem step4 (x : FVec Ideal ⟨2, ![512, 512]⟩ .f32) (a : FVec Ideal ⟨2, ![1, 512]⟩ .f32) (z : Fin 1) (j : Fin 512) :
    k0_pay4 (F := Ideal) x a (ix2 z j) = a (ix2 z j) + ∑ k : Fin 512, x (ix2 k j) := by
  pointwise [k0_pay4]

/-- And in the third. -/
theorem step6 (x : FVec Ideal ⟨2, ![512, 512]⟩ .f32) (a : FVec Ideal ⟨2, ![1, 512]⟩ .f32) (z : Fin 1) (j : Fin 512) :
    k0_pay6 (F := Ideal) x a (ix2 z j) = a (ix2 z j) + ∑ k : Fin 512, x (ix2 k j) := by
  pointwise [k0_pay6]

/-- The plain sum over all rows, for the attention norm's scale. -/
theorem plain32 (z : Fin 1) (j : Fin 512) : PlainMixGradientIdeal.Read.val_main_v32 (F := Ideal) A0 A1 A2 (ix2 z j)
    = ∑ k : Fin 16384, PlainMixGradientIdeal.Read.val_main_v30 (F := Ideal) A0 A1 A2 (ix2 k j) := by
  pointwise [PlainMixGradientIdeal.Read.val_main_v31, PlainMixGradientIdeal.Read.val_main_v32, PlainMixGradientIdeal.Read.val_main_cst_4]

/-- For the scan norm's scale. -/
theorem plain88 (z : Fin 1) (j : Fin 512) : PlainMixGradientIdeal.Read.val_main_v88 (F := Ideal) A0 A1 A3 A4 A5 (ix2 z j)
    = ∑ k : Fin 16384, PlainMixGradientIdeal.Read.val_main_v86 (F := Ideal) A0 A1 A3 A4 A5 (ix2 k j) := by
  pointwise [PlainMixGradientIdeal.Read.val_main_v87, PlainMixGradientIdeal.Read.val_main_v88, PlainMixGradientIdeal.Read.val_main_cst_16]

/-- For the gate's bias. -/
theorem plain131 (z : Fin 1) (j : Fin 512) : PlainMixGradientIdeal.Read.val_main_v131 (F := Ideal) A0 A1 A3 A4 A5 A8 (ix2 z j)
    = ∑ k : Fin 16384, PlainMixGradientIdeal.Read.val_main_v93 (F := Ideal) A0 A1 A3 A4 A5 A8 (ix2 k j) := by
  pointwise [PlainMixGradientIdeal.Read.val_main_v130, PlainMixGradientIdeal.Read.val_main_v131, PlainMixGradientIdeal.Read.val_main_cst_27]

end Cert.MixGrad

end
-- ==== Proof.MixGrad.lean ====
/-
The mixing's gradients on one device: the blocks that the grid's points write are the plain gradients' rows, and the three sums that the points add
up block by block are the plain sums over all rows.
-/
module

public import proofs.«01_k».proof.Defs
public import proofs.«01_k».proof.Proof.MixGradRow
public import proofs.«01_k».proof.Proof.Gen.MixGradient
public import proofs.«01_k».proof.Proof.Gen.MixGradient.Frame
public import proofs.«01_k».proof.Proof.Gen.PlainMixGradientIdeal
public import proofs.«01_k».proof.Proof.Gen.PlainMixGradientIdeal.Run
public import proofs.«01_k».proof.Proof.Gen.MixGradientIdeal
public import proofs.«01_k».proof.Proof.Gen.MixGradientIdeal.Frame
public import proofs.«01_k».proof.Proof.Gen.MixGradientIdeal.Value
public import Idealize.ShloMosaic.Lib.Pipeline.ValueKit

@[expose] public section

set_option maxRecDepth 16384

noncomputable section

namespace Cert.MixGrad

open Idealize.ShloMosaic MixGradientIdeal MixGradientIdeal.Gen

variable (m : (ℓ : Loc nD τ sig) → Buf (Elt Ideal) ℓ) (c : Dev nD)

/-- The gradient by the residual after the mixing. -/
abbrev dx := m ((c.tc : Thread nD τ).loc main_arg0)
/-- The output weight, turned over. -/
abbrev wT := m ((c.tc : Thread nD τ).loc main_arg1)
/-- The attention's output. -/
abbrev attnA := m ((c.tc : Thread nD τ).loc main_arg2)
/-- The scan's output. -/
abbrev yA := m ((c.tc : Thread nD τ).loc main_arg3)
/-- The gate's weight. -/
abbrev gluW := m ((c.tc : Thread nD τ).loc main_arg4)
/-- The gate's bias. -/
abbrev gluB := m ((c.tc : Thread nD τ).loc main_arg5)
/-- The gate's weight, turned over. -/
abbrev gluWT := m ((c.tc : Thread nD τ).loc main_arg6)
/-- The scale of the attention's norm. -/
abbrev ga := m ((c.tc : Thread nD τ).loc main_arg7)
/-- The scale of the scan's norm. -/
abbrev gs := m ((c.tc : Thread nD τ).loc main_arg8)

/-- Which block each window reads or writes at a point. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![0, 0] ∧ win0_14.index t = ![0, 0] ∧ win0_15.index t = ![0, 0] := by decide +kernel

/-- A row of the block is a row of the array. -/
theorem blk0 (t : Fin cfg0.N) (i : Fin 512) (R : Fin 16384) (h : R.val = t.val * 512 + i.val) (k : Fin 1024) :
    iblk m c 0 t (ix2 i k) = dx m c (ix2 R k) := by
  blk_ext [iblk, V, idx t]

/-- The block is the whole array at every point. -/
theorem blk1 (t : Fin cfg0.N) : iblk m c 1 t = wT m c := by
  funext y
  blk_ext [iblk, V, idx t]

/-- A row of the block is a row of the array. -/
theorem blk2 (t : Fin cfg0.N) (i : Fin 512) (R : Fin 16384) (h : R.val = t.val * 512 + i.val) (k : Fin 512) :
    iblk m c 2 t (ix2 i k) = attnA m c (ix2 R k) := by
  blk_ext [iblk, V, idx t]

/-- A row of the block is a row of the array. -/
theorem blk3 (t : Fin cfg0.N) (i : Fin 512) (R : Fin 16384) (h : R.val = t.val * 512 + i.val) (k : Fin 512) :
    iblk m c 3 t (ix2 i k) = yA m c (ix2 R k) := by
  blk_ext [iblk, V, idx t]

/-- The block is the whole array at every point. -/
theorem blk4 (t : Fin cfg0.N) : iblk m c 4 t = gluW m c := by
  funext y
  blk_ext [iblk, V, idx t]

/-- The block is the whole array at every point. -/
theorem blk5 (t : Fin cfg0.N) : iblk m c 5 t = gluB m c := by
  funext y
  blk_ext [iblk, V, idx t]

/-- The block is the whole array at every point. -/
theorem blk6 (t : Fin cfg0.N) : iblk m c 6 t = gluWT m c := by
  funext y
  blk_ext [iblk, V, idx t]

/-- The block is the whole array at every point. -/
theorem blk7 (t : Fin cfg0.N) : iblk m c 7 t = ga m c := by
  funext y
  blk_ext [iblk, V, idx t]

/-- The block is the whole array at every point. -/
theorem blk8 (t : Fin cfg0.N) : iblk m c 8 t = gs m c := by
  funext y
  blk_ext [iblk, V, idx t]

/-- A point's block of the gradient by the attention's output. -/
theorem block9 (t : Fin cfg0.N) (i : Fin 512) (R : Fin 16384) (h : R.val = t.val * 512 + i.val) (j : Fin 512) :
    k0_pay10 (F := Ideal) (iblk m c 0 t) (iblk m c 1 t) (iblk m c 2 t) (iblk m c 7 t) (ix2 i j)
      = PlainMixGradientIdeal.Read.val_main_v27 (F := Ideal) (dx m c) (wT m c) (attnA m c) (ga m c) (ix2 R j) := by
  rw [blk1, blk7]
  exact attn_row (blk0 m c t i R h) (blk2 m c t i R h) j

/-- A point's block of the gradient by the scan's output. -/
theorem block10 (t : Fin cfg0.N) (i : Fin 512) (R : Fin 16384) (h : R.val = t.val * 512 + i.val) (j : Fin 512) :
    k0_pay23 (F := Ideal) (iblk m c 3 t) (k0_pay13 (F := Ideal) (iblk m c 3 t) (k0_pay12 (F := Ideal) (iblk m c 3 t)) cub) (k0_pay14 (F := Ideal) (iblk m c 3 t) (k0_pay12 (F := Ideal) (iblk m c 3 t)) cub) (k0_pay15 (F := Ideal) (iblk m c 3 t) (k0_pay12 (F := Ideal) (iblk m c 3 t)) cub (iblk m c 4 t) (iblk m c 5 t)) (k0_pay19 (F := Ideal) (k0_pay7 (F := Ideal) (iblk m c 0 t) (iblk m c 1 t)) (iblk m c 3 t) (k0_pay12 (F := Ideal) (iblk m c 3 t)) cub (iblk m c 4 t) (iblk m c 5 t) (iblk m c 8 t)) (iblk m c 6 t) (ix2 i j)
      = PlainMixGradientIdeal.Read.val_main_v127 (F := Ideal) (dx m c) (wT m c) (yA m c) (gluW m c) (gluB m c) (gluWT m c) (gs m c) (ix2 R j) := by
  rw [blk1, blk4, blk5, blk6, blk8]
  exact scan_row (blk3 m c t i R h) (tanh_row (blk3 m c t i R h)) (gelu_row (blk3 m c t i R h)) (gate_row (blk3 m c t i R h)) (gated_grad_row (blk0 m c t i R h) (blk3 m c t i R h)) j

/-- A point's block of the gelu. -/
theorem block11 (t : Fin cfg0.N) (i : Fin 512) (R : Fin 16384) (h : R.val = t.val * 512 + i.val) (j : Fin 512) :
    k0_pay24 (F := Ideal) (k0_pay14 (F := Ideal) (iblk m c 3 t) (k0_pay12 (F := Ideal) (iblk m c 3 t)) cub) (ix2 i j)
      = PlainMixGradientIdeal.Read.val_main_v128 (F := Ideal) (yA m c) (ix2 R j) := by
  exact gelu_row (blk3 m c t i R h) j

/-- A point's block of the gradient by the gate's product. -/
theorem block12 (t : Fin cfg0.N) (i : Fin 512) (R : Fin 16384) (h : R.val = t.val * 512 + i.val) (j : Fin 512) :
    k0_pay22 (F := Ideal) (k0_pay14 (F := Ideal) (iblk m c 3 t) (k0_pay12 (F := Ideal) (iblk m c 3 t)) cub) (k0_pay15 (F := Ideal) (iblk m c 3 t) (k0_pay12 (F := Ideal) (iblk m c 3 t)) cub (iblk m c 4 t) (iblk m c 5 t)) (k0_pay19 (F := Ideal) (k0_pay7 (F := Ideal) (iblk m c 0 t) (iblk m c 1 t)) (iblk m c 3 t) (k0_pay12 (F := Ideal) (iblk m c 3 t)) cub (iblk m c 4 t) (iblk m c 5 t) (iblk m c 8 t)) (ix2 i j)
      = PlainMixGradientIdeal.Read.val_main_v129 (F := Ideal) (dx m c) (wT m c) (yA m c) (gluW m c) (gluB m c) (gs m c) (ix2 R j) := by
  rw [blk1, blk4, blk5, blk8]
  exact pre_row (gelu_row (blk3 m c t i R h)) (gate_row (blk3 m c t i R h)) (gated_grad_row (blk0 m c t i R h) (blk3 m c t i R h)) j

/-- A point's block of the summands for the attention norm's scale. -/
theorem block13 (t : Fin cfg0.N) (i : Fin 512) (R : Fin 16384) (h : R.val = t.val * 512 + i.val) (j : Fin 512) :
    k0_pay11 (F := Ideal) (iblk m c 0 t) (iblk m c 1 t) (iblk m c 2 t) (ix2 i j)
      = PlainMixGradientIdeal.Read.val_main_v30 (F := Ideal) (dx m c) (wT m c) (attnA m c) (ix2 R j) := by
  rw [blk1]
  exact ga_row (blk0 m c t i R h) (blk2 m c t i R h) j

/-- A point's block of the summands for the scan norm's scale. -/
theorem block14 (t : Fin cfg0.N) (i : Fin 512) (R : Fin 16384) (h : R.val = t.val * 512 + i.val) (j : Fin 512) :
    k0_pay20 (F := Ideal) (k0_pay16 (F := Ideal) (k0_pay7 (F := Ideal) (iblk m c 0 t) (iblk m c 1 t))) (k0_pay17 (F := Ideal) (iblk m c 3 t) (k0_pay12 (F := Ideal) (iblk m c 3 t)) cub (iblk m c 4 t) (iblk m c 5 t)) (k0_pay18 (F := Ideal) (iblk m c 3 t) (k0_pay12 (F := Ideal) (iblk m c 3 t)) cub (iblk m c 4 t) (iblk m c 5 t)) (ix2 i j)
      = PlainMixGradientIdeal.Read.val_main_v86 (F := Ideal) (dx m c) (wT m c) (yA m c) (gluW m c) (gluB m c) (ix2 R j) := by
  rw [blk1, blk4, blk5]
  exact gs_row (blk0 m c t i R h) (blk3 m c t i R h) j

/-- A point's block of the summands for the gate's bias. -/
theorem block15 (t : Fin cfg0.N) (i : Fin 512) (R : Fin 16384) (h : R.val = t.val * 512 + i.val) (j : Fin 512) :
    k0_pay21 (F := Ideal) (k0_pay14 (F := Ideal) (iblk m c 3 t) (k0_pay12 (F := Ideal) (iblk m c 3 t)) cub) (k0_pay15 (F := Ideal) (iblk m c 3 t) (k0_pay12 (F := Ideal) (iblk m c 3 t)) cub (iblk m c 4 t) (iblk m c 5 t)) (k0_pay19 (F := Ideal) (k0_pay7 (F := Ideal) (iblk m c 0 t) (iblk m c 1 t)) (iblk m c 3 t) (k0_pay12 (F := Ideal) (iblk m c 3 t)) cub (iblk m c 4 t) (iblk m c 5 t) (iblk m c 8 t)) (ix2 i j)
      = PlainMixGradientIdeal.Read.val_main_v93 (F := Ideal) (dx m c) (wT m c) (yA m c) (gluW m c) (gluB m c) (gs m c) (ix2 R j) := by
  rw [blk1, blk4, blk5, blk8]
  exact pre_row (gelu_row (blk3 m c t i R h)) (gate_row (blk3 m c t i R h)) (gated_grad_row (blk0 m c t i R h) (blk3 m c t i R h)) j

/-- The array of the gradient by the attention's output after the run is the plain one. -/
theorem result9 : (dats m 0 c).arrAt 9 cfg0.N = PlainMixGradientIdeal.Read.val_main_v27 (F := Ideal) (dx m c) (wT m c) (attnA m c) (ga m c) := by
  refine (dats m 0 c).arrAt_eq_of_covers 9 _ (by decide +kernel) fun t hf y => ?_
  have hb : (y 0).val < 512 := (y 0).isLt
  have ht : t.val < 32 := t.isLt
  have e : (((cfg0.win 9).blk t).view.emb y) = ix2 (⟨t.val * 512 + (y 0).val, by omega⟩ : Fin 16384) (y 1 : Fin 512) := by
    blk_ext [idx t]
  have ey : y = ix2 (y 0 : Fin 512) (y 1 : Fin 512) := by blk_ext
  have key := block9 m c t (y 0 : Fin 512) ⟨t.val * 512 + (y 0).val, by omega⟩ rfl (y 1 : Fin 512)
  rw [e]
  blk_simp
  rw [after0_9]
  by_cases h : t.val % 32 = 0
  · rw [outsAt0_A m c t h h h]
    frame_out
    exact (congrArg _ ey).trans key
  · rw [outsAt0_B m c t h h h]
    frame_out
    exact (congrArg _ ey).trans key

/-- The array of the gradient by the scan's output after the run is the plain one. -/
theorem result10 : (dats m 0 c).arrAt 10 cfg0.N = PlainMixGradientIdeal.Read.val_main_v127 (F := Ideal) (dx m c) (wT m c) (yA m c) (gluW m c) (gluB m c) (gluWT m c) (gs m c) := by
  refine (dats m 0 c).arrAt_eq_of_covers 10 _ (by decide +kernel) fun t hf y => ?_
  have hb : (y 0).val < 512 := (y 0).isLt
  have ht : t.val < 32 := t.isLt
  have e : (((cfg0.win 10).blk t).view.emb y) = ix2 (⟨t.val * 512 + (y 0).val, by omega⟩ : Fin 16384) (y 1 : Fin 512) := by
    blk_ext [idx t]
  have ey : y = ix2 (y 0 : Fin 512) (y 1 : Fin 512) := by blk_ext
  have key := block10 m c t (y 0 : Fin 512) ⟨t.val * 512 + (y 0).val, by omega⟩ rfl (y 1 : Fin 512)
  rw [e]
  blk_simp
  rw [after0_10]
  by_cases h : t.val % 32 = 0
  · rw [outsAt0_A m c t h h h]
    frame_out
    exact (congrArg _ ey).trans key
  · rw [outsAt0_B m c t h h h]
    frame_out
    exact (congrArg _ ey).trans key

/-- The array of the gelu after the run is the plain one. -/
theorem result11 : (dats m 0 c).arrAt 11 cfg0.N = PlainMixGradientIdeal.Read.val_main_v128 (F := Ideal) (yA m c) := by
  refine (dats m 0 c).arrAt_eq_of_covers 11 _ (by decide +kernel) fun t hf y => ?_
  have hb : (y 0).val < 512 := (y 0).isLt
  have ht : t.val < 32 := t.isLt
  have e : (((cfg0.win 11).blk t).view.emb y) = ix2 (⟨t.val * 512 + (y 0).val, by omega⟩ : Fin 16384) (y 1 : Fin 512) := by
    blk_ext [idx t]
  have ey : y = ix2 (y 0 : Fin 512) (y 1 : Fin 512) := by blk_ext
  have key := block11 m c t (y 0 : Fin 512) ⟨t.val * 512 + (y 0).val, by omega⟩ rfl (y 1 : Fin 512)
  rw [e]
  blk_simp
  rw [after0_11]
  by_cases h : t.val % 32 = 0
  · rw [outsAt0_A m c t h h h]
    frame_out
    exact (congrArg _ ey).trans key
  · rw [outsAt0_B m c t h h h]
    frame_out
    exact (congrArg _ ey).trans key

/-- The array of the gradient by the gate's product after the run is the plain one. -/
theorem result12 : (dats m 0 c).arrAt 12 cfg0.N = PlainMixGradientIdeal.Read.val_main_v129 (F := Ideal) (dx m c) (wT m c) (yA m c) (gluW m c) (gluB m c) (gs m c) := by
  refine (dats m 0 c).arrAt_eq_of_covers 12 _ (by decide +kernel) fun t hf y => ?_
  have hb : (y 0).val < 512 := (y 0).isLt
  have ht : t.val < 32 := t.isLt
  have e : (((cfg0.win 12).blk t).view.emb y) = ix2 (⟨t.val * 512 + (y 0).val, by omega⟩ : Fin 16384) (y 1 : Fin 512) := by
    blk_ext [idx t]
  have ey : y = ix2 (y 0 : Fin 512) (y 1 : Fin 512) := by blk_ext
  have key := block12 m c t (y 0 : Fin 512) ⟨t.val * 512 + (y 0).val, by omega⟩ rfl (y 1 : Fin 512)
  rw [e]
  blk_simp
  rw [after0_12]
  by_cases h : t.val % 32 = 0
  · rw [outsAt0_A m c t h h h]
    frame_out
    exact (congrArg _ ey).trans key
  · rw [outsAt0_B m c t h h h]
    frame_out
    exact (congrArg _ ey).trans key

/-- Sums over the points' blocks, each of 512 rows, are a sum over all the rows. -/
theorem gather (f : Fin cfg0.N → Fin 512 → EReal) (g : Fin 16384 → EReal)
    (h : ∀ (p : Fin cfg0.N) (k : Fin 512) (R : Fin 16384), R.val = p.val * 512 + k.val → f p k = g R) : ∑ p : Fin cfg0.N, ∑ k : Fin 512, f p k = ∑ l : Fin 16384, g l := by
  refine (Fin.sum_points_lanes_congr (A := 1) (L := 16384) 32 (g := fun _ l => g l) (fun t k ha hl => ?_) rfl rfl).trans ?_
  · have ht : t.val < 32 := t.isLt
    refine h t k _ ?_
    show t.val % 32 * 512 + k.val = t.val * 512 + k.val
    rw [Nat.mod_eq_of_lt ht]
  · exact Fin.sum_univ_one _

/-- The running sum of the summands for the attention norm's scale after the last point. -/
theorem summed13 (z : Fin 1) (j : Fin 512) (t : Fin cfg0.N) (ht : t.val + 1 = cfg0.N) : (outsAt0 m c t.val t.isLt).2.2.2.2.1 (ix2 z j)
    = 0 + ∑ p : Fin cfg0.N, ∑ k : Fin 512, k0_pay11 (F := Ideal) (iblk m c 0 p) (iblk m c 1 p) (iblk m c 2 p) (ix2 k j) := by
  refine Pipeline.eq_sum_fin_of_reset_step_apply_last (fun n h (x : Fin 1 × Fin 512) => (outsAt0 m c n h).2.2.2.2.1 (ix2 x.1 x.2)) 32 (fun _ => (0 : EReal))
    (fun p x => ∑ k : Fin 512, k0_pay11 (F := Ideal) (iblk m c 0 p) (iblk m c 1 p) (iblk m c 2 p) (ix2 k x.2)) ?_ ?_ (by decide) t ht (z, j)
  · intro t h x
    show (outsAt0 m c t.val t.isLt).2.2.2.2.1 (ix2 x.1 x.2) = _
    rw [outsAt0_A m c t h h h]
    frame_out
    exact (step2 _ _ _ _).trans (congrArg (· + _) (start1 _ _))
  · intro t h x
    show (outsAt0 m c t.val t.isLt).2.2.2.2.1 (ix2 x.1 x.2) = _
    rw [outsAt0_B m c t h h h]
    frame_out
    exact step2 _ _ _ _

/-- The blocks' sums together are the sum over all rows. -/
theorem total13 (z : Fin 1) (j : Fin 512) (t : Fin cfg0.N) (ht : t.val + 1 = cfg0.N) : (outsAt0 m c t.val t.isLt).2.2.2.2.1 (ix2 z j)
    = PlainMixGradientIdeal.Read.val_main_v32 (F := Ideal) (dx m c) (wT m c) (attnA m c) (ix2 z j) := by
  rw [summed13 m c z j t ht, plain32, zero_add]
  exact gather _ _ fun p k R h => block13 m c p k R h j

/-- The sum's array after the run is the plain sum. -/
theorem result13 : (dats m 0 c).arrAt 13 cfg0.N = PlainMixGradientIdeal.Read.val_main_v32 (F := Ideal) (dx m c) (wT m c) (attnA m c) := by
  obtain ⟨t, ht, e31⟩ : ∃ t : Fin cfg0.N, t.val + 1 = cfg0.N ∧ t = ⟨31, by decide⟩ := ⟨⟨31, by decide⟩, rfl, rfl⟩
  refine (dats m 0 c).arrAt_eq_of_after_last 13 t (by rw [e31]; decide +kernel) _ fun j => ?_
  refine (congrFun (after0_13 m c t) _).trans ?_
  have e : ((cfg0.win 13).arr.view.emb j) = ix2 (j 0 : Fin 1) (j 1 : Fin 512) := by blk_ext
  rw [e]
  refine (congrArg _ ?_).trans (total13 m c (j 0 : Fin 1) (j 1 : Fin 512) t ht)
  funext a
  fin_cases a <;> rfl

/-- The running sum of the summands for the scan norm's scale after the last point. -/
theorem summed14 (z : Fin 1) (j : Fin 512) (t : Fin cfg0.N) (ht : t.val + 1 = cfg0.N) : (outsAt0 m c t.val t.isLt).2.2.2.2.2.1 (ix2 z j)
    = 0 + ∑ p : Fin cfg0.N, ∑ k : Fin 512, k0_pay20 (F := Ideal) (k0_pay16 (F := Ideal) (k0_pay7 (F := Ideal) (iblk m c 0 p) (iblk m c 1 p))) (k0_pay17 (F := Ideal) (iblk m c 3 p) (k0_pay12 (F := Ideal) (iblk m c 3 p)) cub (iblk m c 4 p) (iblk m c 5 p)) (k0_pay18 (F := Ideal) (iblk m c 3 p) (k0_pay12 (F := Ideal) (iblk m c 3 p)) cub (iblk m c 4 p) (iblk m c 5 p)) (ix2 k j) := by
  refine Pipeline.eq_sum_fin_of_reset_step_apply_last (fun n h (x : Fin 1 × Fin 512) => (outsAt0 m c n h).2.2.2.2.2.1 (ix2 x.1 x.2)) 32 (fun _ => (0 : EReal))
    (fun p x => ∑ k : Fin 512, k0_pay20 (F := Ideal) (k0_pay16 (F := Ideal) (k0_pay7 (F := Ideal) (iblk m c 0 p) (iblk m c 1 p))) (k0_pay17 (F := Ideal) (iblk m c 3 p) (k0_pay12 (F := Ideal) (iblk m c 3 p)) cub (iblk m c 4 p) (iblk m c 5 p)) (k0_pay18 (F := Ideal) (iblk m c 3 p) (k0_pay12 (F := Ideal) (iblk m c 3 p)) cub (iblk m c 4 p) (iblk m c 5 p)) (ix2 k x.2)) ?_ ?_ (by decide) t ht (z, j)
  · intro t h x
    show (outsAt0 m c t.val t.isLt).2.2.2.2.2.1 (ix2 x.1 x.2) = _
    rw [outsAt0_A m c t h h h]
    frame_out
    exact (step4 _ _ _ _).trans (congrArg (· + _) (start3 _ _))
  · intro t h x
    show (outsAt0 m c t.val t.isLt).2.2.2.2.2.1 (ix2 x.1 x.2) = _
    rw [outsAt0_B m c t h h h]
    frame_out
    exact step4 _ _ _ _

/-- The blocks' sums together are the sum over all rows. -/
theorem total14 (z : Fin 1) (j : Fin 512) (t : Fin cfg0.N) (ht : t.val + 1 = cfg0.N) : (outsAt0 m c t.val t.isLt).2.2.2.2.2.1 (ix2 z j)
    = PlainMixGradientIdeal.Read.val_main_v88 (F := Ideal) (dx m c) (wT m c) (yA m c) (gluW m c) (gluB m c) (ix2 z j) := by
  rw [summed14 m c z j t ht, plain88, zero_add]
  exact gather _ _ fun p k R h => block14 m c p k R h j

/-- The sum's array after the run is the plain sum. -/
theorem result14 : (dats m 0 c).arrAt 14 cfg0.N = PlainMixGradientIdeal.Read.val_main_v88 (F := Ideal) (dx m c) (wT m c) (yA m c) (gluW m c) (gluB m c) := by
  obtain ⟨t, ht, e31⟩ : ∃ t : Fin cfg0.N, t.val + 1 = cfg0.N ∧ t = ⟨31, by decide⟩ := ⟨⟨31, by decide⟩, rfl, rfl⟩
  refine (dats m 0 c).arrAt_eq_of_after_last 14 t (by rw [e31]; decide +kernel) _ fun j => ?_
  refine (congrFun (after0_14 m c t) _).trans ?_
  have e : ((cfg0.win 14).arr.view.emb j) = ix2 (j 0 : Fin 1) (j 1 : Fin 512) := by blk_ext
  rw [e]
  refine (congrArg _ ?_).trans (total14 m c (j 0 : Fin 1) (j 1 : Fin 512) t ht)
  funext a
  fin_cases a <;> rfl

/-- The running sum of the summands for the gate's bias after the last point. -/
theorem summed15 (z : Fin 1) (j : Fin 512) (t : Fin cfg0.N) (ht : t.val + 1 = cfg0.N) : (outsAt0 m c t.val t.isLt).2.2.2.2.2.2 (ix2 z j)
    = 0 + ∑ p : Fin cfg0.N, ∑ k : Fin 512, k0_pay21 (F := Ideal) (k0_pay14 (F := Ideal) (iblk m c 3 p) (k0_pay12 (F := Ideal) (iblk m c 3 p)) cub) (k0_pay15 (F := Ideal) (iblk m c 3 p) (k0_pay12 (F := Ideal) (iblk m c 3 p)) cub (iblk m c 4 p) (iblk m c 5 p)) (k0_pay19 (F := Ideal) (k0_pay7 (F := Ideal) (iblk m c 0 p) (iblk m c 1 p)) (iblk m c 3 p) (k0_pay12 (F := Ideal) (iblk m c 3 p)) cub (iblk m c 4 p) (iblk m c 5 p) (iblk m c 8 p)) (ix2 k j) := by
  refine Pipeline.eq_sum_fin_of_reset_step_apply_last (fun n h (x : Fin 1 × Fin 512) => (outsAt0 m c n h).2.2.2.2.2.2 (ix2 x.1 x.2)) 32 (fun _ => (0 : EReal))
    (fun p x => ∑ k : Fin 512, k0_pay21 (F := Ideal) (k0_pay14 (F := Ideal) (iblk m c 3 p) (k0_pay12 (F := Ideal) (iblk m c 3 p)) cub) (k0_pay15 (F := Ideal) (iblk m c 3 p) (k0_pay12 (F := Ideal) (iblk m c 3 p)) cub (iblk m c 4 p) (iblk m c 5 p)) (k0_pay19 (F := Ideal) (k0_pay7 (F := Ideal) (iblk m c 0 p) (iblk m c 1 p)) (iblk m c 3 p) (k0_pay12 (F := Ideal) (iblk m c 3 p)) cub (iblk m c 4 p) (iblk m c 5 p) (iblk m c 8 p)) (ix2 k x.2)) ?_ ?_ (by decide) t ht (z, j)
  · intro t h x
    show (outsAt0 m c t.val t.isLt).2.2.2.2.2.2 (ix2 x.1 x.2) = _
    rw [outsAt0_A m c t h h h]
    frame_out
    exact (step6 _ _ _ _).trans (congrArg (· + _) (start5 _ _))
  · intro t h x
    show (outsAt0 m c t.val t.isLt).2.2.2.2.2.2 (ix2 x.1 x.2) = _
    rw [outsAt0_B m c t h h h]
    frame_out
    exact step6 _ _ _ _

/-- The blocks' sums together are the sum over all rows. -/
theorem total15 (z : Fin 1) (j : Fin 512) (t : Fin cfg0.N) (ht : t.val + 1 = cfg0.N) : (outsAt0 m c t.val t.isLt).2.2.2.2.2.2 (ix2 z j)
    = PlainMixGradientIdeal.Read.val_main_v131 (F := Ideal) (dx m c) (wT m c) (yA m c) (gluW m c) (gluB m c) (gs m c) (ix2 z j) := by
  rw [summed15 m c z j t ht, plain131, zero_add]
  exact gather _ _ fun p k R h => block15 m c p k R h j

/-- The sum's array after the run is the plain sum. -/
theorem result15 : (dats m 0 c).arrAt 15 cfg0.N = PlainMixGradientIdeal.Read.val_main_v131 (F := Ideal) (dx m c) (wT m c) (yA m c) (gluW m c) (gluB m c) (gs m c) := by
  obtain ⟨t, ht, e31⟩ : ∃ t : Fin cfg0.N, t.val + 1 = cfg0.N ∧ t = ⟨31, by decide⟩ := ⟨⟨31, by decide⟩, rfl, rfl⟩
  refine (dats m 0 c).arrAt_eq_of_after_last 15 t (by rw [e31]; decide +kernel) _ fun j => ?_
  refine (congrFun (after0_15 m c t) _).trans ?_
  have e : ((cfg0.win 15).arr.view.emb j) = ix2 (j 0 : Fin 1) (j 1 : Fin 512) := by blk_ext
  rw [e]
  refine (congrArg _ ?_).trans (total15 m c (j 0 : Fin 1) (j 1 : Fin 512) t ht)
  funext a
  fin_cases a <;> rfl

/-- The printed program runs and leaves its arguments and semaphores as they were. -/
theorem frame_bits : Cert.quiescent_MixGradient := fun m ρ _ => Cert.MixGradient.Gen.frame m ρ

/-- So does the idealized one. -/
theorem frame_ideal : Cert.quiescent_MixGradientIdeal := fun m ρ _ => Cert.MixGradientIdeal.Gen.frame m ρ

/-- So does the plain one, which has no semaphores. -/
theorem frame_plain : Cert.quiescent_PlainMixGradientIdeal := fun m ρ _ =>
  (θ_run Cert.PlainMixGradientIdeal.defs _ _).mono (fun r h => ⟨fun c => (h c).2.2.2.2.2.2.2, sem_eq_zero_of_no_sems (by decide) r.2⟩)
    (Cert.PlainMixGradientIdeal.Value.run m ρ)

/-- All seven results of the kernel are the plain ones. -/
theorem value : Cert.algebraic_MixGradientIdeal_PlainMixGradientIdeal := by
  intro m g m' g' _ ag
  refine ⟨_, _, _, _, _, _, _, ?_, (θ_run Cert.PlainMixGradientIdeal.defs _ _).mono (fun r h c => h c) (Cert.PlainMixGradientIdeal.Value.run m' g')⟩
  refine (θ_run Cert.MixGradientIdeal.defs _ _).mono (fun r h c => ?_) (Cert.MixGradientIdeal.Value.run_blocks m g)
  refine ⟨(h c).1.trans ((result9 m c).trans ?_), (h c).2.1.trans ((result10 m c).trans ?_), (h c).2.2.1.trans ((result11 m c).trans ?_), (h c).2.2.2.1.trans ((result12 m c).trans ?_), (h c).2.2.2.2.1.trans ((result13 m c).trans ?_), (h c).2.2.2.2.2.1.trans ((result14 m c).trans ?_), (h c).2.2.2.2.2.2.1.trans ((result15 m c).trans ?_), (h c).2.2.2.2.2.2.2⟩
  · rw [(ag c).1, (ag c).2.1, (ag c).2.2.1, (ag c).2.2.2.2.2.2.2.1]
    exact (Cert.PlainMixGradientIdeal.Read.val_main_v27_eq ..).symm
  · rw [Cert.PlainMixGradientIdeal.Read.val_main_v127_eq, (ag c).1, (ag c).2.1, (ag c).2.2.2.1, (ag c).2.2.2.2.1, (ag c).2.2.2.2.2.1, (ag c).2.2.2.2.2.2.1, (ag c).2.2.2.2.2.2.2.2]
  · rw [(ag c).2.2.2.1]
    exact (Cert.PlainMixGradientIdeal.Read.val_main_v128_eq ..).symm
  · rw [Cert.PlainMixGradientIdeal.Read.val_main_v129_eq, (ag c).1, (ag c).2.1, (ag c).2.2.2.1, (ag c).2.2.2.2.1, (ag c).2.2.2.2.2.1, (ag c).2.2.2.2.2.2.2.2]
  · rw [(ag c).1, (ag c).2.1, (ag c).2.2.1]
    exact (Cert.PlainMixGradientIdeal.Read.val_main_v32_eq ..).symm
  · rw [Cert.PlainMixGradientIdeal.Read.val_main_v88_eq, (ag c).1, (ag c).2.1, (ag c).2.2.2.1, (ag c).2.2.2.2.1, (ag c).2.2.2.2.2.1]
  · rw [Cert.PlainMixGradientIdeal.Read.val_main_v131_eq, (ag c).1, (ag c).2.1, (ag c).2.2.2.1, (ag c).2.2.2.2.1, (ag c).2.2.2.2.2.1, (ag c).2.2.2.2.2.2.2.2]

end Cert.MixGrad

end
-- ==== Proof.SameText.lean ====
/-
The kernel and the idealized kernel are printed from one text: over any float values their body tables are equal, so a run of one is a run of the other.
-/
module

public import proofs.«01_k».proof.Proof.Gen.Kernel
public import proofs.«01_k».proof.Proof.Gen.KernelIdeal

@[expose] public section

noncomputable section

open Idealize.ShloMosaic Idealize.SL.Sem

namespace Cert.SameText

variable {F : FTy → Type} [FloatOps F]

set_option maxHeartbeats 8000000 in
/-- The exchange and the six optimiser steps, the same text twice. -/
theorem c0 : @Cert.Kernel.cc0_grad_exchange F _ = @Cert.KernelIdeal.cc0_grad_exchange F _ := rfl
set_option maxHeartbeats 8000000 in
theorem c1 : @Cert.Kernel.cc1_adamw_w_in F _ _ = @Cert.KernelIdeal.cc1_adamw_w_in F _ _ := rfl
set_option maxHeartbeats 8000000 in
theorem c2 : @Cert.Kernel.cc2_adamw_glu_w F _ _ = @Cert.KernelIdeal.cc2_adamw_glu_w F _ _ := rfl
set_option maxHeartbeats 8000000 in
theorem c3 : @Cert.Kernel.cc3_adamw_w_out F _ _ = @Cert.KernelIdeal.cc3_adamw_w_out F _ _ := rfl
set_option maxHeartbeats 8000000 in
theorem c4 : @Cert.Kernel.cc4_adamw_w_mlp_up F _ _ = @Cert.KernelIdeal.cc4_adamw_w_mlp_up F _ _ := rfl
set_option maxHeartbeats 8000000 in
theorem c5 : @Cert.Kernel.cc5_adamw_w_mlp_down F _ _ = @Cert.KernelIdeal.cc5_adamw_w_mlp_down F _ _ := rfl
set_option maxHeartbeats 8000000 in
theorem c6 : @Cert.Kernel.cc6_adamw_small F _ _ = @Cert.KernelIdeal.cc6_adamw_small F _ _ := rfl
set_option maxHeartbeats 8000000 in
/-- The kernels' body table. -/
theorem kernels : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact c0 |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _)
  | 1, (t, s) => exact c1 |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _)
  | 2, (t, s) => exact c2 |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _)
  | 3, (t, s) => exact c3 |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _)
  | 4, (t, s) => exact c4 |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _)
  | 5, (t, s) => exact c5 |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _)
  | 6, (t, s) => exact c6 |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _) |> (congrFun · _)
set_option maxHeartbeats 8000000 in
/-- The whole body table. -/
theorem table : Cert.Kernel.defs (F := F) = Cert.KernelIdeal.defs (F := F) := by
  unfold Cert.Kernel.defs Cert.KernelIdeal.defs
  rw [kernels]; rfl
end Cert.SameText
-- ==== Proof.lean ====
/-
The certificate. The kernel's run is written once over any float values (`Proof/GradRun`): its frame is the run at float words, the idealized kernel's the run
over the reals, and the value claim is the latter's buffers read as the plain sums and steps.
-/
module

public import proofs.«01_k».proof.Defs
public import proofs.«01_k».proof.Proof.GradRun
public import proofs.«01_k».proof.Proof.GradKept
public import proofs.«01_k».proof.Proof.GradPlain
public import proofs.«01_k».proof.Proof.NormGrad
public import proofs.«01_k».proof.Proof.LossValue
public import proofs.«01_k».proof.Proof.MlpRelu
public import proofs.«01_k».proof.Proof.MlpHidden
public import proofs.«01_k».proof.Proof.MlpNorm
public import proofs.«01_k».proof.Proof.MlpDownGrad
public import proofs.«01_k».proof.Proof.InGrad
public import proofs.«01_k».proof.Proof.OutGrad
public import proofs.«01_k».proof.Proof.GluGrad
public import proofs.«01_k».proof.Proof.MlpUpGrad
public import proofs.«01_k».proof.Proof.OutputGrad
public import proofs.«01_k».proof.Proof.MixRows
public import proofs.«01_k».proof.Proof.MixGrad
public import proofs.«01_k».proof.Proof.SameText
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem Cert.Grads

set_option maxHeartbeats 4000000 in
/-- The two host programs are one text too. -/
theorem main_same (F : FTy → Type) [FloatOps F] : Cert.Kernel.main (F := F) = Cert.KernelIdeal.main := rfl

set_option maxHeartbeats 8000000 in
theorem frame_kernel : Cert.quiescent_Kernel := by
  intro m ρ _
  rw [SameText.table (F := Bits), main_same]
  exact frame_any (F := Bits) (m := m) ρ

theorem frame_ideal : Cert.quiescent_KernelIdeal := fun m ρ _ => frame_any (F := Ideal) (m := m) ρ

theorem frame_reference : Cert.quiescent_ReferenceIdeal := fun m ρ _ =>
  (θ_run Cert.ReferenceIdeal.defs _ _).mono (fun r h => ⟨fun c => (h c).2.2.2.2.2.2.2.2.2.2.2.2.2.2.2.2.2.2.2.2.2.2.2.2, sem_eq_zero_of_no_sems (by decide) r.2⟩)
    (Cert.ReferenceIdeal.Value.run m ρ)

/-- Device by device the kernel's results are the blocks of the plain sums over the devices, and of the plain AdamW steps along them. -/
theorem value : Cert.algebraic_KernelIdeal_ReferenceIdeal := by
  intro m g m' g' _ ag
  have g0 := fun c => w_in_plain (m := m) c _ _ (fun s => (ag s).1) Cert.ReferenceIdeal.Facts₀.shapeCasts_S16384x1024_S8x2048x1024 Cert.ReferenceIdeal.Facts₀.reducesTo_S8x2048x1024_S2048x1024_d0 Cert.ReferenceIdeal.Facts₀.h_S_ (by decide) Cert.ReferenceIdeal.Facts₀.transposes_S2048x1024_S1024x2048_1_0
  have g1 := fun c => glu_w_plain (m := m) c _ _ (fun s => (ag s).2.1) Cert.ReferenceIdeal.Facts₀.shapeCasts_S4096x512_S8x512x512 Cert.ReferenceIdeal.Facts₀.reducesTo_S8x512x512_S512x512_d0 Cert.ReferenceIdeal.Facts₀.h_S_ (by decide)
  have g2 := fun c => w_out_plain (m := m) c _ _ (fun s => (ag s).2.2.1) Cert.ReferenceIdeal.Facts₀.shapeCasts_S8192x1024_S8x1024x1024 Cert.ReferenceIdeal.Facts₀.reducesTo_S8x1024x1024_S1024x1024_d0 Cert.ReferenceIdeal.Facts₀.h_S_ (by decide)
  have g3 := fun c => w_mlp_up_plain (m := m) c _ _ (fun s => (ag s).2.2.2.1) Cert.ReferenceIdeal.Facts₀.shapeCasts_S32768x1024_S8x4096x1024 Cert.ReferenceIdeal.Facts₀.reducesTo_S8x4096x1024_S4096x1024_d0 Cert.ReferenceIdeal.Facts₀.h_S_ (by decide) Cert.ReferenceIdeal.Facts₀.transposes_S4096x1024_S1024x4096_1_0
  have g4 := fun c => w_mlp_down_plain (m := m) c _ _ (fun s => (ag s).2.2.2.2.1) Cert.ReferenceIdeal.Facts₀.shapeCasts_S32768x1024_S8x4096x1024 Cert.ReferenceIdeal.Facts₀.reducesTo_S8x4096x1024_S4096x1024_d0 Cert.ReferenceIdeal.Facts₀.h_S_ (by decide)
  have g5 := fun c => small_plain (m := m) c _ _ (fun s => (ag s).2.2.2.2.2.1) Cert.ReferenceIdeal.Facts₀.shapeCasts_S9024x128_S8x1128x128 Cert.ReferenceIdeal.Facts₀.reducesTo_S8x1128x128_S1128x128_d0 Cert.ReferenceIdeal.Facts₀.h_S_
  refine ⟨_, _, _, _, _, _, _, _, _, _, _, _, _, _, _, _, _, _, _, _, _, _, _, _, ?_, (θ_run Cert.ReferenceIdeal.defs _ _).mono (fun r h => h 0) (Cert.ReferenceIdeal.Value.run m' g')⟩
  refine (θ_run Cert.KernelIdeal.defs _ _).mono (fun r h c => ?_) (run_main (F := Ideal) m g)
  exact ⟨ends c h.1 Cert.KernelIdeal.main_v6 rfl ((w_in_grad c).trans (g0 c)),
    ends c h.1 Cert.KernelIdeal.main_v10_0 rfl ((glu_w_grad c).trans (g1 c)),
    ends c h.1 Cert.KernelIdeal.main_v11_0 rfl ((w_out_grad c).trans (g2 c)),
    ends c h.1 Cert.KernelIdeal.main_v16 rfl ((w_mlp_up_grad c).trans (g3 c)),
    ends c h.1 Cert.KernelIdeal.main_v20_0 rfl ((w_mlp_down_grad c).trans (g4 c)),
    ends c h.1 Cert.KernelIdeal.main_v21_0 rfl ((small_grad c).trans (g5 c)),
    ends c h.1 Cert.KernelIdeal.main_v7 rfl ((w_in_change c).trans (change_block c _ _ _ ((ag c).2.2.2.2.2.2.1) ((ag c).2.2.2.2.2.2.2.2.2.2.2.2.1) ((ag c).2.2.2.2.2.2.2.2.2.2.2.2.2.2.2.2.2.2.1) (g0 c))),
    ends c h.1 Cert.KernelIdeal.main_v10_1 rfl ((glu_w_change c).trans (change_block c _ _ _ ((ag c).2.2.2.2.2.2.2.1) ((ag c).2.2.2.2.2.2.2.2.2.2.2.2.2.1) ((ag c).2.2.2.2.2.2.2.2.2.2.2.2.2.2.2.2.2.2.2.1) (g1 c))),
    ends c h.1 Cert.KernelIdeal.main_v11_1 rfl ((w_out_change c).trans (change_block c _ _ _ ((ag c).2.2.2.2.2.2.2.2.1) ((ag c).2.2.2.2.2.2.2.2.2.2.2.2.2.2.1) ((ag c).2.2.2.2.2.2.2.2.2.2.2.2.2.2.2.2.2.2.2.2.1) (g2 c))),
    ends c h.1 Cert.KernelIdeal.main_v17 rfl ((w_mlp_up_change c).trans (change_block c _ _ _ ((ag c).2.2.2.2.2.2.2.2.2.1) ((ag c).2.2.2.2.2.2.2.2.2.2.2.2.2.2.2.1) ((ag c).2.2.2.2.2.2.2.2.2.2.2.2.2.2.2.2.2.2.2.2.2.1) (g3 c))),
    ends c h.1 Cert.KernelIdeal.main_v20_1 rfl ((w_mlp_down_change c).trans (change_block c _ _ _ ((ag c).2.2.2.2.2.2.2.2.2.2.1) ((ag c).2.2.2.2.2.2.2.2.2.2.2.2.2.2.2.2.1) ((ag c).2.2.2.2.2.2.2.2.2.2.2.2.2.2.2.2.2.2.2.2.2.2.1) (g4 c))),
    ends c h.1 Cert.KernelIdeal.main_v21_1 rfl ((small_change c).trans ((change_congr ((ag c).2.2.2.2.2.2.2.2.2.2.2.1) ((ag c).2.2.2.2.2.2.2.2.2.2.2.2.2.2.2.2.2.1) ((ag c).2.2.2.2.2.2.2.2.2.2.2.2.2.2.2.2.2.2.2.2.2.2.2) (g5 c)).trans (AdamW.change_host _ _ _ _ _ _).symm)),
    ends c h.1 Cert.KernelIdeal.main_v8 rfl ((w_in_first c).trans (first_block c _ _ _ ((ag c).2.2.2.2.2.2.2.2.2.2.2.2.1) (g0 c))),
    ends c h.1 Cert.KernelIdeal.main_v10_2 rfl ((glu_w_first c).trans (first_block c _ _ _ ((ag c).2.2.2.2.2.2.2.2.2.2.2.2.2.1) (g1 c))),
    ends c h.1 Cert.KernelIdeal.main_v11_2 rfl ((w_out_first c).trans (first_block c _ _ _ ((ag c).2.2.2.2.2.2.2.2.2.2.2.2.2.2.1) (g2 c))),
    ends c h.1 Cert.KernelIdeal.main_v18 rfl ((w_mlp_up_first c).trans (first_block c _ _ _ ((ag c).2.2.2.2.2.2.2.2.2.2.2.2.2.2.2.1) (g3 c))),
    ends c h.1 Cert.KernelIdeal.main_v20_2 rfl ((w_mlp_down_first c).trans (first_block c _ _ _ ((ag c).2.2.2.2.2.2.2.2.2.2.2.2.2.2.2.2.1) (g4 c))),
    ends c h.1 Cert.KernelIdeal.main_v21_2 rfl ((small_first c).trans ((first_congr ((ag c).2.2.2.2.2.2.2.2.2.2.2.2.2.2.2.2.2.1) (g5 c)).trans (AdamW.first_host _ _ _ _).symm)),
    ends c h.1 Cert.KernelIdeal.main_v9 rfl ((w_in_second c).trans (second_block c _ _ _ ((ag c).2.2.2.2.2.2.2.2.2.2.2.2.2.2.2.2.2.2.1) (g0 c))),
    ends c h.1 Cert.KernelIdeal.main_v10_3 rfl ((glu_w_second c).trans (second_block c _ _ _ ((ag c).2.2.2.2.2.2.2.2.2.2.2.2.2.2.2.2.2.2.2.1) (g1 c))),
    ends c h.1 Cert.KernelIdeal.main_v11_3 rfl ((w_out_second c).trans (second_block c _ _ _ ((ag c).2.2.2.2.2.2.2.2.2.2.2.2.2.2.2.2.2.2.2.2.1) (g2 c))),
    ends c h.1 Cert.KernelIdeal.main_v19 rfl ((w_mlp_up_second c).trans (second_block c _ _ _ ((ag c).2.2.2.2.2.2.2.2.2.2.2.2.2.2.2.2.2.2.2.2.2.1) (g3 c))),
    ends c h.1 Cert.KernelIdeal.main_v20_3 rfl ((w_mlp_down_second c).trans (second_block c _ _ _ ((ag c).2.2.2.2.2.2.2.2.2.2.2.2.2.2.2.2.2.2.2.2.2.2.1) (g4 c))),
    ends c h.1 Cert.KernelIdeal.main_v21_3 rfl ((small_second c).trans ((second_congr ((ag c).2.2.2.2.2.2.2.2.2.2.2.2.2.2.2.2.2.2.2.2.2.2.2) (g5 c)).trans (AdamW.second_host _ _ _ _).symm)),
    args_end c h.1⟩

theorem claim : Cert.Claim :=
  ⟨Cert.Kernel.Gen.facts, Cert.KernelIdeal.Gen.facts, Cert.ReferenceIdeal.Gen.facts, Cert.InputGradient.Gen.facts, Cert.InputGradientIdeal.Gen.facts, Cert.PlainInputGradientIdeal.Gen.facts, Cert.Loss.Gen.facts, Cert.LossIdeal.Gen.facts, Cert.PlainLossIdeal.Gen.facts, Cert.MlpUp.Gen.facts, Cert.MlpUpIdeal.Gen.facts, Cert.PlainMlpUpIdeal.Gen.facts, Cert.HiddenGradient.Gen.facts, Cert.HiddenGradientIdeal.Gen.facts, Cert.PlainHiddenGradientIdeal.Gen.facts, Cert.MlpInputGradient.Gen.facts, Cert.MlpInputGradientIdeal.Gen.facts, Cert.PlainMlpInputGradientIdeal.Gen.facts, Cert.DownGradient.Gen.facts, Cert.DownGradientIdeal.Gen.facts, Cert.PlainDownGradientIdeal.Gen.facts, Cert.InGradient.Gen.facts, Cert.InGradientIdeal.Gen.facts, Cert.PlainInGradientIdeal.Gen.facts, Cert.OutGradient.Gen.facts, Cert.OutGradientIdeal.Gen.facts, Cert.PlainOutGradientIdeal.Gen.facts, Cert.GluGradient.Gen.facts, Cert.GluGradientIdeal.Gen.facts, Cert.PlainGluGradientIdeal.Gen.facts, Cert.UpGradient.Gen.facts, Cert.UpGradientIdeal.Gen.facts, Cert.PlainUpGradientIdeal.Gen.facts, Cert.OutputGradient.Gen.facts, Cert.OutputGradientIdeal.Gen.facts, Cert.PlainOutputGradientIdeal.Gen.facts, Cert.Mix.Gen.facts, Cert.MixIdeal.Gen.facts, Cert.PlainMixIdeal.Gen.facts, Cert.MixGradient.Gen.facts, Cert.MixGradientIdeal.Gen.facts, Cert.PlainMixGradientIdeal.Gen.facts, frame_kernel, frame_ideal, frame_reference, NormGrad.frame_bits, NormGrad.frame_ideal, NormGrad.frame_plain, LossSum.frame_bits, LossSum.frame_ideal, LossSum.frame_plain, MlpRelu.frame_bits, MlpRelu.frame_ideal, MlpRelu.frame_plain, MlpHidden.frame_bits, MlpHidden.frame_ideal, MlpHidden.frame_plain, MlpNorm.frame_bits, MlpNorm.frame_ideal, MlpNorm.frame_plain, MlpDownGrad.frame_bits, MlpDownGrad.frame_ideal, MlpDownGrad.frame_plain, InGrad.frame_bits, InGrad.frame_ideal, InGrad.frame_plain, OutGrad.frame_bits, OutGrad.frame_ideal, OutGrad.frame_plain, GluGrad.frame_bits, GluGrad.frame_ideal, GluGrad.frame_plain, MlpUpGrad.frame_bits, MlpUpGrad.frame_ideal, MlpUpGrad.frame_plain, OutputGrad.frame_bits, OutputGrad.frame_ideal, OutputGrad.frame_plain, MixRows.frame_bits, MixRows.frame_ideal, MixRows.frame_plain, MixGrad.frame_bits, MixGrad.frame_ideal, MixGrad.frame_plain, trivial, value, trivial, NormGrad.value, trivial, LossSum.value, trivial, MlpRelu.value, trivial, MlpHidden.value, trivial, MlpNorm.value, trivial, MlpDownGrad.value, trivial, InGrad.value, trivial, OutGrad.value, trivial, GluGrad.value, trivial, MlpUpGrad.value, trivial, OutputGrad.value, trivial, MixRows.value, trivial, MixGrad.value⟩

end Cert.Proof

end
